-- ==== Defs.lean ====
def Pre_Kernel [hPre_categories_in_range : Cert.Pre_categories_in_range.Facts] (m : (ℓ : Loc Cert.Kernel.nD Cert.Kernel.τ Cert.Kernel.sig) → Buf (Elt Bits) ℓ) : Prop :=
  ∀ c : Dev Cert.Kernel.nD,
    (Cert.Pre_categories_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_categories_in_range : Cert.Pre_categories_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_categories_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_categories_in_range [hPre_categories_in_range : Cert.Pre_categories_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_categories_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_categories_in_range : Cert.Pre_categories_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_categories_in_range : Cert.Pre_categories_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_categories_in_range [hReferenceIdeal : Cert.ReferenceIdeal.Facts] [hPre_categories_in_range : Cert.Pre_categories_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_categories_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_categories_in_range : Cert.Pre_categories_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_categories_in_range : Cert.Pre_categories_in_range.Facts),
    quiescent_Kernel (hKernel := hKernel) (hPre_categories_in_range := hPre_categories_in_range)
    ∧ quiescent_KernelIdeal (hKernelIdeal := hKernelIdeal) (hPre_categories_in_range := hPre_categories_in_range)
    ∧ quiescent_ReferenceIdeal (hReferenceIdeal := hReferenceIdeal)
    ∧ quiescent_ReferenceIdeal_pre_categories_in_range (hReferenceIdeal := hReferenceIdeal) (hPre_categories_in_range := hPre_categories_in_range)
    ∧ preserves_Kernel_KernelIdeal
    ∧ algebraic_KernelIdeal_ReferenceIdeal (hKernelIdeal := hKernelIdeal) (hReferenceIdeal := hReferenceIdeal) (hPre_categories_in_range := hPre_categories_in_range)
-- ==== Pre_categories_in_range.lean ====
abbrev S4096x39 : Shape := ⟨2, ![4096, 39]⟩
abbrev S26x100000x32 : Shape := ⟨3, ![26, 100000, 32]⟩
abbrev S845x512 : Shape := ⟨2, ![845, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S4096x26 : Shape := ⟨2, ![4096, 26]⟩
abbrev S_ : Shape := ⟨0, ![]⟩

class Facts : Prop where
  slices_S4096x39_S4096x26_0_0 : S4096x39.Slices ![0, 0] S4096x26
  bcast_S_S4096x26 : S_.BroadcastsInDim S4096x26 (![] : Fin 0 → Fin S4096x26.rank)
  reducesTo_S4096x26_S_d0_1 : S4096x26.ReducesTo [0, 1] S_
  h_S_ : 0 < S_.numel

variable [Facts]

def fn {F : FTy → Type} [FloatOps F] (main_arg0 : FVec F S4096x39 .f32) (main_arg1 : FVec F S26x100000x32 .f32) (main_arg2 : FVec F S845x512 .f32) (main_arg3 : FVec F S512 .f32) (main_arg4 : FVec F S512x256 .f32) (main_arg5 : FVec F S256 .f32) (main_arg6 : FVec F S256x128 .f32) (main_arg7 : FVec F S128 .f32) : IVec S_ 1 :=
  let main_v0 : FVec F S4096x26 .f32 := (extractStridedSlice S4096x26 ![0, 0] · slices_S4096x39_S4096x26_0_0) main_arg0
  let main_v1 : IVec S4096x26 32 := fptosi 32 main_v0
  let main_c : IVec S_ 32 := constantI S_ 32 0#32
  let main_v2 : IVec S4096x26 32 := broadcastInDim S4096x26 ![] bcast_S_S4096x26 main_c
  let main_v3 : IVec S4096x26 1 := cmpi .sge main_v1 main_v2
  let main_c_0 : IVec S_ 32 := constantI S_ 32 100000#32
  let main_v4 : IVec S4096x26 32 := broadcastInDim S4096x26 ![] bcast_S_S4096x26 main_c_0
  let main_v5 : IVec S4096x26 1 := cmpi .slt main_v1 main_v4
  let main_v6 : IVec S4096x26 1 := andi main_v3 main_v5
  let main_c_1 : IVec S_ 1 := constantI S_ 1 1#1
  let main_v7 : IVec S_ 1 := (fun x v => Host.reduce IntOp.andi x v reducesTo_S4096x26_S_d0_1 h_S_) main_v6 main_c_1
  main_v7
-- ==== Kernel.lean ====
abbrev S4096x39 : Shape := ⟨2, ![4096, 39]⟩
abbrev S26x100000x32 : Shape := ⟨3, ![26, 100000, 32]⟩
abbrev S845x512 : Shape := ⟨2, ![845, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S4096x26 : Shape := ⟨2, ![4096, 26]⟩
abbrev S26 : Shape := ⟨1, ![26]⟩
abbrev S_ : Shape := ⟨0, ![]⟩
abbrev S1x26 : Shape := ⟨2, ![1, 26]⟩
abbrev S106496 : Shape := ⟨1, ![106496]⟩
abbrev S4096x13 : Shape := ⟨2, ![4096, 13]⟩
abbrev S26x32x100000 : Shape := ⟨3, ![26, 32, 100000]⟩
abbrev S26x25000x128 : Shape := ⟨3, ![26, 25000, 128]⟩
abbrev S2x32x129 : Shape := ⟨3, ![2, 32, 129]⟩
abbrev S2x32x128 : Shape := ⟨3, ![2, 32, 128]⟩
abbrev S32x33 : Shape := ⟨2, ![32, 33]⟩
abbrev S16 : Shape := ⟨1, ![16]⟩
abbrev S1x1x128 : Shape := ⟨3, ![1, 1, 128]⟩
abbrev S1x32x128 : Shape := ⟨3, ![1, 32, 128]⟩
abbrev S32x128 : Shape := ⟨2, ![32, 128]⟩
abbrev S1x32x129 : Shape := ⟨3, ![1, 32, 129]⟩
abbrev S32x129 : Shape := ⟨2, ![32, 129]⟩
abbrev S1x16 : Shape := ⟨2, ![1, 16]⟩
abbrev S1x32 : Shape := ⟨2, ![1, 32]⟩
abbrev S32 : Shape := ⟨1, ![32]⟩
abbrev S1x1x32 : Shape := ⟨3, ![1, 1, 32]⟩
abbrev S1x8x128 : Shape := ⟨3, ![1, 8, 128]⟩
abbrev S8x128 : Shape := ⟨2, ![8, 128]⟩
abbrev S650000x128 : Shape := ⟨2, ![650000, 128]⟩
abbrev S26624x128 : Shape := ⟨2, ![26624, 128]⟩
abbrev S3328 : Shape := ⟨1, ![3328]⟩
abbrev S416x128 : Shape := ⟨2, ![416, 128]⟩
abbrev S104x128 : Shape := ⟨2, ![104, 128]⟩
abbrev S416 : Shape := ⟨1, ![416]⟩
abbrev S4096x832 : Shape := ⟨2, ![4096, 832]⟩
abbrev S832x512 : Shape := ⟨2, ![832, 512]⟩
abbrev S13x512 : Shape := ⟨2, ![13, 512]⟩
abbrev S1x512 : Shape := ⟨2, ![1, 512]⟩
abbrev S1x256 : Shape := ⟨2, ![1, 256]⟩
abbrev S1x128 : Shape := ⟨2, ![1, 128]⟩
abbrev S4096x128 : Shape := ⟨2, ![4096, 128]⟩
abbrev S512x832 : Shape := ⟨2, ![512, 832]⟩
abbrev S512x13 : Shape := ⟨2, ![512, 13]⟩
abbrev S512x128 : Shape := ⟨2, ![512, 128]⟩
abbrev S512x512 : Shape := ⟨2, ![512, 512]⟩

abbrev nBuf : Table → Nat
  | .hbm => 30
  | .local .tc .vmem => 13
  | .local .scVector .vmem => 8
  | _ => 0

abbrev bufTy : (tb : Table) → Fin (nBuf tb) → BufTy
  | .hbm, ⟨0, _⟩ => ⟨S4096x39, .f32⟩
  | .hbm, ⟨1, _⟩ => ⟨S26x100000x32, .f32⟩
  | .hbm, ⟨2, _⟩ => ⟨S845x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S4096x26, .f32⟩
  | .hbm, ⟨9, _⟩ => ⟨S4096x26, .i32⟩
  | .hbm, ⟨10, _⟩ => ⟨S26, .i32⟩
  | .hbm, ⟨11, _⟩ => ⟨S_, .i32⟩
  | .hbm, ⟨12, _⟩ => ⟨S26, .i32⟩
  | .hbm, ⟨13, _⟩ => ⟨S26, .i32⟩
  | .hbm, ⟨14, _⟩ => ⟨S1x26, .i32⟩
  | .hbm, ⟨15, _⟩ => ⟨S4096x26, .i32⟩
  | .hbm, ⟨16, _⟩ => ⟨S4096x26, .i32⟩
  | .hbm, ⟨17, _⟩ => ⟨S106496, .i32⟩
  | .hbm, ⟨18, _⟩ => ⟨S4096x13, .f32⟩
  | .hbm, ⟨19, _⟩ => ⟨S26x32x100000, .f32⟩
  | .hbm, ⟨20, _⟩ => ⟨S26x25000x128, .f32⟩
  | .hbm, ⟨21, _⟩ => ⟨S650000x128, .f32⟩
  | .hbm, ⟨22, _⟩ => ⟨S26624x128, .f32⟩
  | .hbm, ⟨23, _⟩ => ⟨S4096x832, .f32⟩
  | .hbm, ⟨24, _⟩ => ⟨S832x512, .f32⟩
  | .hbm, ⟨25, _⟩ => ⟨S13x512, .f32⟩
  | .hbm, ⟨26, _⟩ => ⟨S1x512, .f32⟩
  | .hbm, ⟨27, _⟩ => ⟨S1x256, .f32⟩
  | .hbm, ⟨28, _⟩ => ⟨S1x128, .f32⟩
  | .hbm, ⟨29, _⟩ => ⟨S4096x128, .f32⟩
  | .local .tc .vmem, ⟨0, _⟩ => ⟨S512x832, .f32⟩
  | .local .tc .vmem, ⟨1, _⟩ => ⟨S512x832, .f32⟩
  | .local .tc .vmem, ⟨2, _⟩ => ⟨S512x13, .f32⟩
  | .local .tc .vmem, ⟨3, _⟩ => ⟨S512x13, .f32⟩
  | .local .tc .vmem, ⟨4, _⟩ => ⟨S832x512, .f32⟩
  | .local .tc .vmem, ⟨5, _⟩ => ⟨S13x512, .f32⟩
  | .local .tc .vmem, ⟨6, _⟩ => ⟨S1x512, .f32⟩
  | .local .tc .vmem, ⟨7, _⟩ => ⟨S512x256, .f32⟩
  | .local .tc .vmem, ⟨8, _⟩ => ⟨S1x256, .f32⟩
  | .local .tc .vmem, ⟨9, _⟩ => ⟨S256x128, .f32⟩
  | .local .tc .vmem, ⟨10, _⟩ => ⟨S1x128, .f32⟩
  | .local .tc .vmem, ⟨11, _⟩ => ⟨S512x128, .f32⟩
  | .local .tc .vmem, ⟨12, _⟩ => ⟨S512x128, .f32⟩
  | .local .scVector .vmem, ⟨0, _⟩ => ⟨S2x32x129, .f32⟩
  | .local .scVector .vmem, ⟨1, _⟩ => ⟨S2x32x128, .f32⟩
  | .local .scVector .vmem, ⟨2, _⟩ => ⟨S32x33, .f32⟩
  | .local .scVector .vmem, ⟨3, _⟩ => ⟨S3328, .i32⟩
  | .local .scVector .vmem, ⟨4, _⟩ => ⟨S3328, .i32⟩
  | .local .scVector .vmem, ⟨5, _⟩ => ⟨S3328, .i32⟩
  | .local .scVector .vmem, ⟨6, _⟩ => ⟨S416x128, .f32⟩
  | .local .scVector .vmem, ⟨7, _⟩ => ⟨S104x128, .f32⟩
  | _, _ => ⟨S4096x39, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 60 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTables nBuf rfl bufTy 4 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v10_scv : Ref sig .scVector := ⟨.hbm, 19, rfl⟩
abbrev main_v11_scv : Ref sig .scVector := ⟨.hbm, 20, rfl⟩
abbrev main_v8_scv : Ref sig .scVector := ⟨.hbm, 17, rfl⟩
abbrev main_v12_scv : Ref sig .scVector := ⟨.hbm, 21, rfl⟩
abbrev main_v13_scv : Ref sig .scVector := ⟨.hbm, 22, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg3_0 : Ref sig .tc := ⟨.vmem, 5, rfl⟩
abbrev cc2_stg4_0 : Ref sig .tc := ⟨.vmem, 6, rfl⟩
abbrev cc2_stg5_0 : Ref sig .tc := ⟨.vmem, 7, rfl⟩
abbrev cc2_stg6_0 : Ref sig .tc := ⟨.vmem, 8, rfl⟩
abbrev cc2_stg7_0 : Ref sig .tc := ⟨.vmem, 9, rfl⟩
abbrev cc2_stg8_0 : Ref sig .tc := ⟨.vmem, 10, rfl⟩
abbrev cc2_stg9_0 : Ref sig .tc := ⟨.vmem, 11, rfl⟩
abbrev cc2_stg9_1 : Ref sig .tc := ⟨.vmem, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc1_scratch3 : Ref sig .scVector := ⟨.vmem, 6, rfl⟩
abbrev cc1_scratch4 : Ref sig .scVector := ⟨.vmem, 7, rfl⟩
abbrev cc2_sem0_0 : DmaSem sig := 47
abbrev cc2_sem0_1 : DmaSem sig := 48
abbrev cc2_sem1_0 : DmaSem sig := 49
abbrev cc2_sem1_1 : DmaSem sig := 50
abbrev cc2_sem2_0 : DmaSem sig := 51
abbrev cc2_sem3_0 : DmaSem sig := 52
abbrev cc2_sem4_0 : DmaSem sig := 53
abbrev cc2_sem5_0 : DmaSem sig := 54
abbrev cc2_sem6_0 : DmaSem sig := 55
abbrev cc2_sem7_0 : DmaSem sig := 56
abbrev cc2_sem8_0 : DmaSem sig := 57
abbrev cc2_sem9_0 : DmaSem sig := 58
abbrev cc2_sem9_1 : DmaSem sig := 59
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c0_i32_37 : BitVec 32 := 0#32
  let c781_i32_5 : BitVec 32 := 781#32
  let v25 : BitVec 32 := Scalar.muli v24 c781_i32_5
  let v26 : BitVec 32 := Scalar.subi v7 v25
  let c128_i32 : BitVec 32 := 128#32
  let v27 : BitVec 32 := Scalar.muli v26 c128_i32
  ![v24.toNat, 0, v27.toNat]
def k0_off2 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c1_i32_42 : BitVec 32 := 1#32
  let c781_i32_5 : BitVec 32 := 781#32
  let v25 : BitVec 32 := Scalar.muli v24 c781_i32_5
  let v26 : BitVec 32 := Scalar.subi v7 v25
  let c128_i32_6 : BitVec 32 := 128#32
  let v28 : BitVec 32 := Scalar.muli v26 c128_i32_6
  ![v24.toNat, 1, v28.toNat]
def k0_off3 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c2_i32_47 : BitVec 32 := 2#32
  let c781_i32_5 : BitVec 32 := 781#32
  let v25 : BitVec 32 := Scalar.muli v24 c781_i32_5
  let v26 : BitVec 32 := Scalar.subi v7 v25
  let c128_i32_7 : BitVec 32 := 128#32
  let v29 : BitVec 32 := Scalar.muli v26 c128_i32_7
  ![v24.toNat, 2, v29.toNat]
def k0_off4 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c3_i32 : BitVec 32 := 3#32
  let c781_i32_5 : BitVec 32 := 781#32
  let v25 : BitVec 32 := Scalar.muli v24 c781_i32_5
  let v26 : BitVec 32 := Scalar.subi v7 v25
  let c128_i32_8 : BitVec 32 := 128#32
  let v30 : BitVec 32 := Scalar.muli v26 c128_i32_8
  ![v24.toNat, 3, v30.toNat]
def k0_off5 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c4_i32 : BitVec 32 := 4#32
  let c781_i32_5 : BitVec 32 := 781#32
  let v25 : BitVec 32 := Scalar.muli v24 c781_i32_5
  let v26 : BitVec 32 := Scalar.subi v7 v25
  let c128_i32_9 : BitVec 32 := 128#32
  let v31 : BitVec 32 := Scalar.muli v26 c128_i32_9
  ![v24.toNat, 4, v31.toNat]
def k0_off6 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c5_i32 : BitVec 32 := 5#32
  let c781_i32_5 : BitVec 32 := 781#32
  let v25 : BitVec 32 := Scalar.muli v24 c781_i32_5
  let v26 : BitVec 32 := Scalar.subi v7 v25
  let c128_i32_10 : BitVec 32 := 128#32
  let v32 : BitVec 32 := Scalar.muli v26 c128_i32_10
  ![v24.toNat, 5, v32.toNat]
def k0_off7 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c6_i32 : BitVec 32 := 6#32
  let c781_i32_5 : BitVec 32 := 781#32
  let v25 : BitVec 32 := Scalar.muli v24 c781_i32_5
  let v26 : BitVec 32 := Scalar.subi v7 v25
  let c128_i32_11 : BitVec 32 := 128#32
  let v33 : BitVec 32 := Scalar.muli v26 c128_i32_11
  ![v24.toNat, 6, v33.toNat]
def k0_off8 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c7_i32 : BitVec 32 := 7#32
  let c781_i32_5 : BitVec 32 := 781#32
  let v25 : BitVec 32 := Scalar.muli v24 c781_i32_5
  let v26 : BitVec 32 := Scalar.subi v7 v25
  let c128_i32_12 : BitVec 32 := 128#32
  let v34 : BitVec 32 := Scalar.muli v26 c128_i32_12
  ![v24.toNat, 7, v34.toNat]
def k0_off9 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c8_i32 : BitVec 32 := 8#32
  let c781_i32_5 : BitVec 32 := 781#32
  let v25 : BitVec 32 := Scalar.muli v24 c781_i32_5
  let v26 : BitVec 32 := Scalar.subi v7 v25
  let c128_i32_13 : BitVec 32 := 128#32
  let v35 : BitVec 32 := Scalar.muli v26 c128_i32_13
  ![v24.toNat, 8, v35.toNat]
def k0_off10 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c9_i32 : BitVec 32 := 9#32
  let c781_i32_5 : BitVec 32 := 781#32
  let v25 : BitVec 32 := Scalar.muli v24 c781_i32_5
  let v26 : BitVec 32 := Scalar.subi v7 v25
  let c128_i32_14 : BitVec 32 := 128#32
  let v36 : BitVec 32 := Scalar.muli v26 c128_i32_14
  ![v24.toNat, 9, v36.toNat]
def k0_off11 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c10_i32 : BitVec 32 := 10#32
  let c781_i32_5 : BitVec 32 := 781#32
  let v25 : BitVec 32 := Scalar.muli v24 c781_i32_5
  let v26 : BitVec 32 := Scalar.subi v7 v25
  let c128_i32_15 : BitVec 32 := 128#32
  let v37 : BitVec 32 := Scalar.muli v26 c128_i32_15
  ![v24.toNat, 10, v37.toNat]
def k0_off12 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c11_i32 : BitVec 32 := 11#32
  let c781_i32_5 : BitVec 32 := 781#32
  let v25 : BitVec 32 := Scalar.muli v24 c781_i32_5
  let v26 : BitVec 32 := Scalar.subi v7 v25
  let c128_i32_16 : BitVec 32 := 128#32
  let v38 : BitVec 32 := Scalar.muli v26 c128_i32_16
  ![v24.toNat, 11, v38.toNat]
def k0_off13 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c12_i32 : BitVec 32 := 12#32
  let c781_i32_5 : BitVec 32 := 781#32
  let v25 : BitVec 32 := Scalar.muli v24 c781_i32_5
  let v26 : BitVec 32 := Scalar.subi v7 v25
  let c128_i32_17 : BitVec 32 := 128#32
  let v39 : BitVec 32 := Scalar.muli v26 c128_i32_17
  ![v24.toNat, 12, v39.toNat]
def k0_off14 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c13_i32 : BitVec 32 := 13#32
  let c781_i32_5 : BitVec 32 := 781#32
  let v25 : BitVec 32 := Scalar.muli v24 c781_i32_5
  let v26 : BitVec 32 := Scalar.subi v7 v25
  let c128_i32_18 : BitVec 32 := 128#32
  let v40 : BitVec 32 := Scalar.muli v26 c128_i32_18
  ![v24.toNat, 13, v40.toNat]
def k0_off15 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c14_i32 : BitVec 32 := 14#32
  let c781_i32_5 : BitVec 32 := 781#32
  let v25 : BitVec 32 := Scalar.muli v24 c781_i32_5
  let v26 : BitVec 32 := Scalar.subi v7 v25
  let c128_i32_19 : BitVec 32 := 128#32
  let v41 : BitVec 32 := Scalar.muli v26 c128_i32_19
  ![v24.toNat, 14, v41.toNat]
def k0_off16 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c15_i32 : BitVec 32 := 15#32
  let c781_i32_5 : BitVec 32 := 781#32
  let v25 : BitVec 32 := Scalar.muli v24 c781_i32_5
  let v26 : BitVec 32 := Scalar.subi v7 v25
  let c128_i32_20 : BitVec 32 := 128#32
  let v42 : BitVec 32 := Scalar.muli v26 c128_i32_20
  ![v24.toNat, 15, v42.toNat]
def k0_off17 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c16_i32_104 : BitVec 32 := 16#32
  let c781_i32_5 : BitVec 32 := 781#32
  let v25 : BitVec 32 := Scalar.muli v24 c781_i32_5
  let v26 : BitVec 32 := Scalar.subi v7 v25
  let c128_i32_21 : BitVec 32 := 128#32
  let v43 : BitVec 32 := Scalar.muli v26 c128_i32_21
  ![v24.toNat, 16, v43.toNat]
def k0_off18 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c17_i32 : BitVec 32 := 17#32
  let c781_i32_5 : BitVec 32 := 781#32
  let v25 : BitVec 32 := Scalar.muli v24 c781_i32_5
  let v26 : BitVec 32 := Scalar.subi v7 v25
  let c128_i32_22 : BitVec 32 := 128#32
  let v44 : BitVec 32 := Scalar.muli v26 c128_i32_22
  ![v24.toNat, 17, v44.toNat]
def k0_off19 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c18_i32 : BitVec 32 := 18#32
  let c781_i32_5 : BitVec 32 := 781#32
  let v25 : BitVec 32 := Scalar.muli v24 c781_i32_5
  let v26 : BitVec 32 := Scalar.subi v7 v25
  let c128_i32_23 : BitVec 32 := 128#32
  let v45 : BitVec 32 := Scalar.muli v26 c128_i32_23
  ![v24.toNat, 18, v45.toNat]
def k0_off20 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c19_i32 : BitVec 32 := 19#32
  let c781_i32_5 : BitVec 32 := 781#32
  let v25 : BitVec 32 := Scalar.muli v24 c781_i32_5
  let v26 : BitVec 32 := Scalar.subi v7 v25
  let c128_i32_24 : BitVec 32 := 128#32
  let v46 : BitVec 32 := Scalar.muli v26 c128_i32_24
  ![v24.toNat, 19, v46.toNat]
def k0_off21 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c20_i32 : BitVec 32 := 20#32
  let c781_i32_5 : BitVec 32 := 781#32
  let v25 : BitVec 32 := Scalar.muli v24 c781_i32_5
  let v26 : BitVec 32 := Scalar.subi v7 v25
  let c128_i32_25 : BitVec 32 := 128#32
  let v47 : BitVec 32 := Scalar.muli v26 c128_i32_25
  ![v24.toNat, 20, v47.toNat]
def k0_off22 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c21_i32 : BitVec 32 := 21#32
  let c781_i32_5 : BitVec 32 := 781#32
  let v25 : BitVec 32 := Scalar.muli v24 c781_i32_5
  let v26 : BitVec 32 := Scalar.subi v7 v25
  let c128_i32_26 : BitVec 32 := 128#32
  let v48 : BitVec 32 := Scalar.muli v26 c128_i32_26
  ![v24.toNat, 21, v48.toNat]
def k0_off23 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c22_i32 : BitVec 32 := 22#32
  let c781_i32_5 : BitVec 32 := 781#32
  let v25 : BitVec 32 := Scalar.muli v24 c781_i32_5
  let v26 : BitVec 32 := Scalar.subi v7 v25
  let c128_i32_27 : BitVec 32 := 128#32
  let v49 : BitVec 32 := Scalar.muli v26 c128_i32_27
  ![v24.toNat, 22, v49.toNat]
def k0_off24 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c23_i32 : BitVec 32 := 23#32
  let c781_i32_5 : BitVec 32 := 781#32
  let v25 : BitVec 32 := Scalar.muli v24 c781_i32_5
  let v26 : BitVec 32 := Scalar.subi v7 v25
  let c128_i32_28 : BitVec 32 := 128#32
  let v50 : BitVec 32 := Scalar.muli v26 c128_i32_28
  ![v24.toNat, 23, v50.toNat]
def k0_off25 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c24_i32 : BitVec 32 := 24#32
  let c781_i32_5 : BitVec 32 := 781#32
  let v25 : BitVec 32 := Scalar.muli v24 c781_i32_5
  let v26 : BitVec 32 := Scalar.subi v7 v25
  let c128_i32_29 : BitVec 32 := 128#32
  let v51 : BitVec 32 := Scalar.muli v26 c128_i32_29
  ![v24.toNat, 24, v51.toNat]
def k0_off26 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c25_i32 : BitVec 32 := 25#32
  let c781_i32_5 : BitVec 32 := 781#32
  let v25 : BitVec 32 := Scalar.muli v24 c781_i32_5
  let v26 : BitVec 32 := Scalar.subi v7 v25
  let c128_i32_30 : BitVec 32 := 128#32
  let v52 : BitVec 32 := Scalar.muli v26 c128_i32_30
  ![v24.toNat, 25, v52.toNat]
def k0_off27 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c26_i32 : BitVec 32 := 26#32
  let c781_i32_5 : BitVec 32 := 781#32
  let v25 : BitVec 32 := Scalar.muli v24 c781_i32_5
  let v26 : BitVec 32 := Scalar.subi v7 v25
  let c128_i32_31 : BitVec 32 := 128#32
  let v53 : BitVec 32 := Scalar.muli v26 c128_i32_31
  ![v24.toNat, 26, v53.toNat]
def k0_off28 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c27_i32 : BitVec 32 := 27#32
  let c781_i32_5 : BitVec 32 := 781#32
  let v25 : BitVec 32 := Scalar.muli v24 c781_i32_5
  let v26 : BitVec 32 := Scalar.subi v7 v25
  let c128_i32_32 : BitVec 32 := 128#32
  let v54 : BitVec 32 := Scalar.muli v26 c128_i32_32
  ![v24.toNat, 27, v54.toNat]
def k0_off29 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c28_i32 : BitVec 32 := 28#32
  let c781_i32_5 : BitVec 32 := 781#32
  let v25 : BitVec 32 := Scalar.muli v24 c781_i32_5
  let v26 : BitVec 32 := Scalar.subi v7 v25
  let c128_i32_33 : BitVec 32 := 128#32
  let v55 : BitVec 32 := Scalar.muli v26 c128_i32_33
  ![v24.toNat, 28, v55.toNat]
def k0_off30 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c29_i32 : BitVec 32 := 29#32
  let c781_i32_5 : BitVec 32 := 781#32
  let v25 : BitVec 32 := Scalar.muli v24 c781_i32_5
  let v26 : BitVec 32 := Scalar.subi v7 v25
  let c128_i32_34 : BitVec 32 := 128#32
  let v56 : BitVec 32 := Scalar.muli v26 c128_i32_34
  ![v24.toNat, 29, v56.toNat]
def k0_off31 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c30_i32 : BitVec 32 := 30#32
  let c781_i32_5 : BitVec 32 := 781#32
  let v25 : BitVec 32 := Scalar.muli v24 c781_i32_5
  let v26 : BitVec 32 := Scalar.subi v7 v25
  let c128_i32_35 : BitVec 32 := 128#32
  let v57 : BitVec 32 := Scalar.muli v26 c128_i32_35
  ![v24.toNat, 30, v57.toNat]
def k0_off32 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli c32_i32 c0_i32
  let v6 : BitVec 32 := Scalar.addi v1 v5
  let c20305_i32 : BitVec 32 := 20305#32
  let v7 : BitVec 32 := Scalar.minsi v6 c20305_i32
  let c0_i32_0 : BitVec 32 := 0#32
  let v9 : BitVec 1 := Scalar.cmpi .sgt v7 c0_i32_0
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c781_i32 : BitVec 32 := 781#32
  let c0_i32_2 : BitVec 32 := 0#32
  let v14 : BitVec 1 := Scalar.cmpi .sgt c781_i32 c0_i32_2
  let v15 : BitVec 32 := Scalar.extui v14
  let c0_i32_3 : BitVec 32 := 0#32
  let v16 : BitVec 1 := Scalar.cmpi .slt c781_i32 c0_i32_3
  let v17 : BitVec 32 := Scalar.extui v16
  let v18 : BitVec 32 := Scalar.subi v15 v17
  let v19 : BitVec 1 := Scalar.cmpi .ne v13 v18
  let v20 : BitVec 32 := Scalar.remsi v7 c781_i32
  let c0_i32_4 : BitVec 32 := 0#32
  let v21 : BitVec 1 := Scalar.cmpi .ne v20 c0_i32_4
  let v22 : BitVec 1 := Scalar.andi v19 v21
  let v8 : BitVec 32 := Scalar.divsi v7 c781_i32
  let c1_i32 : BitVec 32 := 1#32
  let v23 : BitVec 32 := Scalar.subi v8 c1_i32
  let v24 : BitVec 32 := Scalar.select v22 v23 v8
  let c31_i32 : BitVec 32 := 31#32
  let c781_i32_5 : BitVec 32 := 781#32
  let v25 : BitVec 32 := Scalar.muli v24 c781_i32_5
  let v26 : BitVec 32 := Scalar.subi v7 v25
  let c128_i32_36 : BitVec 32 := 128#32
  let v58 : BitVec 32 := Scalar.muli v26 c128_i32_36
  ![v24.toNat, 31, v58.toNat]
@[reducible] def k0_t1_loop : Scf.Loop 32 :=
  let c0_i32_373 : BitVec 32 := 0#32
  let c318_i32 : BitVec 32 := 318#32
  let v625 : BitVec 32 := Scalar.addi c0_i32_373 c318_i32
  let c1_i32_374 : BitVec 32 := 1#32
  ⟨c0_i32_373, v625, c1_i32_374⟩
def k0_off33 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c0_i32_872 : BitVec 32 := 0#32
  let c781_i32_839 : BitVec 32 := 781#32
  let v1355 : BitVec 32 := Scalar.muli v1354 c781_i32_839
  let v1356 : BitVec 32 := Scalar.subi v1337 v1355
  let c128_i32_840 : BitVec 32 := 128#32
  let v1357 : BitVec 32 := Scalar.muli v1356 c128_i32_840
  ![v1354.toNat, 0, v1357.toNat]
def k0_off34 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c1_i32_877 : BitVec 32 := 1#32
  let c781_i32_839 : BitVec 32 := 781#32
  let v1355 : BitVec 32 := Scalar.muli v1354 c781_i32_839
  let v1356 : BitVec 32 := Scalar.subi v1337 v1355
  let c128_i32_841 : BitVec 32 := 128#32
  let v1358 : BitVec 32 := Scalar.muli v1356 c128_i32_841
  ![v1354.toNat, 1, v1358.toNat]
def k0_off35 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c2_i32_882 : BitVec 32 := 2#32
  let c781_i32_839 : BitVec 32 := 781#32
  let v1355 : BitVec 32 := Scalar.muli v1354 c781_i32_839
  let v1356 : BitVec 32 := Scalar.subi v1337 v1355
  let c128_i32_842 : BitVec 32 := 128#32
  let v1359 : BitVec 32 := Scalar.muli v1356 c128_i32_842
  ![v1354.toNat, 2, v1359.toNat]
def k0_off36 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c3_i32_887 : BitVec 32 := 3#32
  let c781_i32_839 : BitVec 32 := 781#32
  let v1355 : BitVec 32 := Scalar.muli v1354 c781_i32_839
  let v1356 : BitVec 32 := Scalar.subi v1337 v1355
  let c128_i32_843 : BitVec 32 := 128#32
  let v1360 : BitVec 32 := Scalar.muli v1356 c128_i32_843
  ![v1354.toNat, 3, v1360.toNat]
def k0_off37 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c4_i32_892 : BitVec 32 := 4#32
  let c781_i32_839 : BitVec 32 := 781#32
  let v1355 : BitVec 32 := Scalar.muli v1354 c781_i32_839
  let v1356 : BitVec 32 := Scalar.subi v1337 v1355
  let c128_i32_844 : BitVec 32 := 128#32
  let v1361 : BitVec 32 := Scalar.muli v1356 c128_i32_844
  ![v1354.toNat, 4, v1361.toNat]
def k0_off38 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c5_i32_897 : BitVec 32 := 5#32
  let c781_i32_839 : BitVec 32 := 781#32
  let v1355 : BitVec 32 := Scalar.muli v1354 c781_i32_839
  let v1356 : BitVec 32 := Scalar.subi v1337 v1355
  let c128_i32_845 : BitVec 32 := 128#32
  let v1362 : BitVec 32 := Scalar.muli v1356 c128_i32_845
  ![v1354.toNat, 5, v1362.toNat]
def k0_off39 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c6_i32_902 : BitVec 32 := 6#32
  let c781_i32_839 : BitVec 32 := 781#32
  let v1355 : BitVec 32 := Scalar.muli v1354 c781_i32_839
  let v1356 : BitVec 32 := Scalar.subi v1337 v1355
  let c128_i32_846 : BitVec 32 := 128#32
  let v1363 : BitVec 32 := Scalar.muli v1356 c128_i32_846
  ![v1354.toNat, 6, v1363.toNat]
def k0_off40 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c7_i32_907 : BitVec 32 := 7#32
  let c781_i32_839 : BitVec 32 := 781#32
  let v1355 : BitVec 32 := Scalar.muli v1354 c781_i32_839
  let v1356 : BitVec 32 := Scalar.subi v1337 v1355
  let c128_i32_847 : BitVec 32 := 128#32
  let v1364 : BitVec 32 := Scalar.muli v1356 c128_i32_847
  ![v1354.toNat, 7, v1364.toNat]
def k0_off41 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c8_i32_912 : BitVec 32 := 8#32
  let c781_i32_839 : BitVec 32 := 781#32
  let v1355 : BitVec 32 := Scalar.muli v1354 c781_i32_839
  let v1356 : BitVec 32 := Scalar.subi v1337 v1355
  let c128_i32_848 : BitVec 32 := 128#32
  let v1365 : BitVec 32 := Scalar.muli v1356 c128_i32_848
  ![v1354.toNat, 8, v1365.toNat]
def k0_off42 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c9_i32_917 : BitVec 32 := 9#32
  let c781_i32_839 : BitVec 32 := 781#32
  let v1355 : BitVec 32 := Scalar.muli v1354 c781_i32_839
  let v1356 : BitVec 32 := Scalar.subi v1337 v1355
  let c128_i32_849 : BitVec 32 := 128#32
  let v1366 : BitVec 32 := Scalar.muli v1356 c128_i32_849
  ![v1354.toNat, 9, v1366.toNat]
def k0_off43 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c10_i32_922 : BitVec 32 := 10#32
  let c781_i32_839 : BitVec 32 := 781#32
  let v1355 : BitVec 32 := Scalar.muli v1354 c781_i32_839
  let v1356 : BitVec 32 := Scalar.subi v1337 v1355
  let c128_i32_850 : BitVec 32 := 128#32
  let v1367 : BitVec 32 := Scalar.muli v1356 c128_i32_850
  ![v1354.toNat, 10, v1367.toNat]
def k0_off44 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c11_i32_927 : BitVec 32 := 11#32
  let c781_i32_839 : BitVec 32 := 781#32
  let v1355 : BitVec 32 := Scalar.muli v1354 c781_i32_839
  let v1356 : BitVec 32 := Scalar.subi v1337 v1355
  let c128_i32_851 : BitVec 32 := 128#32
  let v1368 : BitVec 32 := Scalar.muli v1356 c128_i32_851
  ![v1354.toNat, 11, v1368.toNat]
def k0_off45 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c12_i32_932 : BitVec 32 := 12#32
  let c781_i32_839 : BitVec 32 := 781#32
  let v1355 : BitVec 32 := Scalar.muli v1354 c781_i32_839
  let v1356 : BitVec 32 := Scalar.subi v1337 v1355
  let c128_i32_852 : BitVec 32 := 128#32
  let v1369 : BitVec 32 := Scalar.muli v1356 c128_i32_852
  ![v1354.toNat, 12, v1369.toNat]
def k0_off46 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c13_i32_937 : BitVec 32 := 13#32
  let c781_i32_839 : BitVec 32 := 781#32
  let v1355 : BitVec 32 := Scalar.muli v1354 c781_i32_839
  let v1356 : BitVec 32 := Scalar.subi v1337 v1355
  let c128_i32_853 : BitVec 32 := 128#32
  let v1370 : BitVec 32 := Scalar.muli v1356 c128_i32_853
  ![v1354.toNat, 13, v1370.toNat]
def k0_off47 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c14_i32_942 : BitVec 32 := 14#32
  let c781_i32_839 : BitVec 32 := 781#32
  let v1355 : BitVec 32 := Scalar.muli v1354 c781_i32_839
  let v1356 : BitVec 32 := Scalar.subi v1337 v1355
  let c128_i32_854 : BitVec 32 := 128#32
  let v1371 : BitVec 32 := Scalar.muli v1356 c128_i32_854
  ![v1354.toNat, 14, v1371.toNat]
def k0_off48 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c15_i32_947 : BitVec 32 := 15#32
  let c781_i32_839 : BitVec 32 := 781#32
  let v1355 : BitVec 32 := Scalar.muli v1354 c781_i32_839
  let v1356 : BitVec 32 := Scalar.subi v1337 v1355
  let c128_i32_855 : BitVec 32 := 128#32
  let v1372 : BitVec 32 := Scalar.muli v1356 c128_i32_855
  ![v1354.toNat, 15, v1372.toNat]
def k0_off49 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c16_i32_952 : BitVec 32 := 16#32
  let c781_i32_839 : BitVec 32 := 781#32
  let v1355 : BitVec 32 := Scalar.muli v1354 c781_i32_839
  let v1356 : BitVec 32 := Scalar.subi v1337 v1355
  let c128_i32_856 : BitVec 32 := 128#32
  let v1373 : BitVec 32 := Scalar.muli v1356 c128_i32_856
  ![v1354.toNat, 16, v1373.toNat]
def k0_off50 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c17_i32_957 : BitVec 32 := 17#32
  let c781_i32_839 : BitVec 32 := 781#32
  let v1355 : BitVec 32 := Scalar.muli v1354 c781_i32_839
  let v1356 : BitVec 32 := Scalar.subi v1337 v1355
  let c128_i32_857 : BitVec 32 := 128#32
  let v1374 : BitVec 32 := Scalar.muli v1356 c128_i32_857
  ![v1354.toNat, 17, v1374.toNat]
def k0_off51 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c18_i32_962 : BitVec 32 := 18#32
  let c781_i32_839 : BitVec 32 := 781#32
  let v1355 : BitVec 32 := Scalar.muli v1354 c781_i32_839
  let v1356 : BitVec 32 := Scalar.subi v1337 v1355
  let c128_i32_858 : BitVec 32 := 128#32
  let v1375 : BitVec 32 := Scalar.muli v1356 c128_i32_858
  ![v1354.toNat, 18, v1375.toNat]
def k0_off52 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c19_i32_967 : BitVec 32 := 19#32
  let c781_i32_839 : BitVec 32 := 781#32
  let v1355 : BitVec 32 := Scalar.muli v1354 c781_i32_839
  let v1356 : BitVec 32 := Scalar.subi v1337 v1355
  let c128_i32_859 : BitVec 32 := 128#32
  let v1376 : BitVec 32 := Scalar.muli v1356 c128_i32_859
  ![v1354.toNat, 19, v1376.toNat]
def k0_off53 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c20_i32_972 : BitVec 32 := 20#32
  let c781_i32_839 : BitVec 32 := 781#32
  let v1355 : BitVec 32 := Scalar.muli v1354 c781_i32_839
  let v1356 : BitVec 32 := Scalar.subi v1337 v1355
  let c128_i32_860 : BitVec 32 := 128#32
  let v1377 : BitVec 32 := Scalar.muli v1356 c128_i32_860
  ![v1354.toNat, 20, v1377.toNat]
def k0_off54 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c21_i32_977 : BitVec 32 := 21#32
  let c781_i32_839 : BitVec 32 := 781#32
  let v1355 : BitVec 32 := Scalar.muli v1354 c781_i32_839
  let v1356 : BitVec 32 := Scalar.subi v1337 v1355
  let c128_i32_861 : BitVec 32 := 128#32
  let v1378 : BitVec 32 := Scalar.muli v1356 c128_i32_861
  ![v1354.toNat, 21, v1378.toNat]
def k0_off55 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c22_i32_982 : BitVec 32 := 22#32
  let c781_i32_839 : BitVec 32 := 781#32
  let v1355 : BitVec 32 := Scalar.muli v1354 c781_i32_839
  let v1356 : BitVec 32 := Scalar.subi v1337 v1355
  let c128_i32_862 : BitVec 32 := 128#32
  let v1379 : BitVec 32 := Scalar.muli v1356 c128_i32_862
  ![v1354.toNat, 22, v1379.toNat]
def k0_off56 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c23_i32_987 : BitVec 32 := 23#32
  let c781_i32_839 : BitVec 32 := 781#32
  let v1355 : BitVec 32 := Scalar.muli v1354 c781_i32_839
  let v1356 : BitVec 32 := Scalar.subi v1337 v1355
  let c128_i32_863 : BitVec 32 := 128#32
  let v1380 : BitVec 32 := Scalar.muli v1356 c128_i32_863
  ![v1354.toNat, 23, v1380.toNat]
def k0_off57 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c24_i32_992 : BitVec 32 := 24#32
  let c781_i32_839 : BitVec 32 := 781#32
  let v1355 : BitVec 32 := Scalar.muli v1354 c781_i32_839
  let v1356 : BitVec 32 := Scalar.subi v1337 v1355
  let c128_i32_864 : BitVec 32 := 128#32
  let v1381 : BitVec 32 := Scalar.muli v1356 c128_i32_864
  ![v1354.toNat, 24, v1381.toNat]
def k0_off58 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c25_i32_997 : BitVec 32 := 25#32
  let c781_i32_839 : BitVec 32 := 781#32
  let v1355 : BitVec 32 := Scalar.muli v1354 c781_i32_839
  let v1356 : BitVec 32 := Scalar.subi v1337 v1355
  let c128_i32_865 : BitVec 32 := 128#32
  let v1382 : BitVec 32 := Scalar.muli v1356 c128_i32_865
  ![v1354.toNat, 25, v1382.toNat]
def k0_off59 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c26_i32_1002 : BitVec 32 := 26#32
  let c781_i32_839 : BitVec 32 := 781#32
  let v1355 : BitVec 32 := Scalar.muli v1354 c781_i32_839
  let v1356 : BitVec 32 := Scalar.subi v1337 v1355
  let c128_i32_866 : BitVec 32 := 128#32
  let v1383 : BitVec 32 := Scalar.muli v1356 c128_i32_866
  ![v1354.toNat, 26, v1383.toNat]
def k0_off60 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c27_i32_1007 : BitVec 32 := 27#32
  let c781_i32_839 : BitVec 32 := 781#32
  let v1355 : BitVec 32 := Scalar.muli v1354 c781_i32_839
  let v1356 : BitVec 32 := Scalar.subi v1337 v1355
  let c128_i32_867 : BitVec 32 := 128#32
  let v1384 : BitVec 32 := Scalar.muli v1356 c128_i32_867
  ![v1354.toNat, 27, v1384.toNat]
def k0_off61 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c28_i32_1012 : BitVec 32 := 28#32
  let c781_i32_839 : BitVec 32 := 781#32
  let v1355 : BitVec 32 := Scalar.muli v1354 c781_i32_839
  let v1356 : BitVec 32 := Scalar.subi v1337 v1355
  let c128_i32_868 : BitVec 32 := 128#32
  let v1385 : BitVec 32 := Scalar.muli v1356 c128_i32_868
  ![v1354.toNat, 28, v1385.toNat]
def k0_off62 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c29_i32_1017 : BitVec 32 := 29#32
  let c781_i32_839 : BitVec 32 := 781#32
  let v1355 : BitVec 32 := Scalar.muli v1354 c781_i32_839
  let v1356 : BitVec 32 := Scalar.subi v1337 v1355
  let c128_i32_869 : BitVec 32 := 128#32
  let v1386 : BitVec 32 := Scalar.muli v1356 c128_i32_869
  ![v1354.toNat, 29, v1386.toNat]
def k0_off63 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c30_i32_1022 : BitVec 32 := 30#32
  let c781_i32_839 : BitVec 32 := 781#32
  let v1355 : BitVec 32 := Scalar.muli v1354 c781_i32_839
  let v1356 : BitVec 32 := Scalar.subi v1337 v1355
  let c128_i32_870 : BitVec 32 := 128#32
  let v1387 : BitVec 32 := Scalar.muli v1356 c128_i32_870
  ![v1354.toNat, 30, v1387.toNat]
def k0_off64 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_830 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1335 : BitVec 32 := Scalar.muli c32_i32_830 v1312
  let v1336 : BitVec 32 := Scalar.addi v1 v1335
  let c20305_i32_831 : BitVec 32 := 20305#32
  let v1337 : BitVec 32 := Scalar.minsi v1336 c20305_i32_831
  let c0_i32_833 : BitVec 32 := 0#32
  let v1339 : BitVec 1 := Scalar.cmpi .sgt v1337 c0_i32_833
  let v1340 : BitVec 32 := Scalar.extui v1339
  let c0_i32_834 : BitVec 32 := 0#32
  let v1341 : BitVec 1 := Scalar.cmpi .slt v1337 c0_i32_834
  let v1342 : BitVec 32 := Scalar.extui v1341
  let v1343 : BitVec 32 := Scalar.subi v1340 v1342
  let c781_i32_832 : BitVec 32 := 781#32
  let c0_i32_835 : BitVec 32 := 0#32
  let v1344 : BitVec 1 := Scalar.cmpi .sgt c781_i32_832 c0_i32_835
  let v1345 : BitVec 32 := Scalar.extui v1344
  let c0_i32_836 : BitVec 32 := 0#32
  let v1346 : BitVec 1 := Scalar.cmpi .slt c781_i32_832 c0_i32_836
  let v1347 : BitVec 32 := Scalar.extui v1346
  let v1348 : BitVec 32 := Scalar.subi v1345 v1347
  let v1349 : BitVec 1 := Scalar.cmpi .ne v1343 v1348
  let v1350 : BitVec 32 := Scalar.remsi v1337 c781_i32_832
  let c0_i32_837 : BitVec 32 := 0#32
  let v1351 : BitVec 1 := Scalar.cmpi .ne v1350 c0_i32_837
  let v1352 : BitVec 1 := Scalar.andi v1349 v1351
  let v1338 : BitVec 32 := Scalar.divsi v1337 c781_i32_832
  let c1_i32_838 : BitVec 32 := 1#32
  let v1353 : BitVec 32 := Scalar.subi v1338 c1_i32_838
  let v1354 : BitVec 32 := Scalar.select v1352 v1353 v1338
  let c31_i32_1027 : BitVec 32 := 31#32
  let c781_i32_839 : BitVec 32 := 781#32
  let v1355 : BitVec 32 := Scalar.muli v1354 c781_i32_839
  let v1356 : BitVec 32 := Scalar.subi v1337 v1355
  let c128_i32_871 : BitVec 32 := 128#32
  let v1388 : BitVec 32 := Scalar.muli v1356 c128_i32_871
  ![v1354.toNat, 31, v1388.toNat]
def k0_cond1 (k0_t1 : Fin k0_t1_loop.trips) : BitVec 1 :=
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c2_i32_1032 : BitVec 32 := 2#32
  let v1645 : BitVec 1 := Scalar.cmpi .sge v1311 c2_i32_1032
  let v1646 : BitVec 32 := Scalar.extui v1645
  let c0_i32_1033 : BitVec 32 := 0#32
  let v1647 : BitVec 1 := Scalar.cmpi .ne v1646 c0_i32_1033
  v1647

def k0_off65 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_820 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1313 : BitVec 32 := Scalar.muli c32_i32_820 v1312
  let v1314 : BitVec 32 := Scalar.addi v1 v1313
  let c20305_i32_821 : BitVec 32 := 20305#32
  let v1315 : BitVec 32 := Scalar.minsi v1314 c20305_i32_821
  let c0_i32_823 : BitVec 32 := 0#32
  let v1317 : BitVec 1 := Scalar.cmpi .sgt v1315 c0_i32_823
  let v1318 : BitVec 32 := Scalar.extui v1317
  let c0_i32_824 : BitVec 32 := 0#32
  let v1319 : BitVec 1 := Scalar.cmpi .slt v1315 c0_i32_824
  let v1320 : BitVec 32 := Scalar.extui v1319
  let v1321 : BitVec 32 := Scalar.subi v1318 v1320
  let c781_i32_822 : BitVec 32 := 781#32
  let c0_i32_825 : BitVec 32 := 0#32
  let v1322 : BitVec 1 := Scalar.cmpi .sgt c781_i32_822 c0_i32_825
  let v1323 : BitVec 32 := Scalar.extui v1322
  let c0_i32_826 : BitVec 32 := 0#32
  let v1324 : BitVec 1 := Scalar.cmpi .slt c781_i32_822 c0_i32_826
  let v1325 : BitVec 32 := Scalar.extui v1324
  let v1326 : BitVec 32 := Scalar.subi v1323 v1325
  let v1327 : BitVec 1 := Scalar.cmpi .ne v1321 v1326
  let v1328 : BitVec 32 := Scalar.remsi v1315 c781_i32_822
  let c0_i32_827 : BitVec 32 := 0#32
  let v1329 : BitVec 1 := Scalar.cmpi .ne v1328 c0_i32_827
  let v1330 : BitVec 1 := Scalar.andi v1327 v1329
  let v1316 : BitVec 32 := Scalar.divsi v1315 c781_i32_822
  let c1_i32_828 : BitVec 32 := 1#32
  let v1331 : BitVec 32 := Scalar.subi v1316 c1_i32_828
  let v1332 : BitVec 32 := Scalar.select v1330 v1331 v1316
  let c32_i32_6176 : BitVec 32 := 32#32
  let c781_i32_829 : BitVec 32 := 781#32
  let v1333 : BitVec 32 := Scalar.muli v1332 c781_i32_829
  let v1334 : BitVec 32 := Scalar.subi v1315 v1333
  let v6720 : BitVec 32 := Scalar.muli c32_i32_6176 v1334
  let c0_i32_6180 : BitVec 32 := 0#32
  ![v1332.toNat, v6720.toNat, 0]

def k0_chk1 (v2 : IVec S16 32) (v1648 : IVec S16 32) : Prop :=
  (∀ a x, ((![v2, v1648] : Fin 2 → IVec S16 32) a x).toNat < S32x129.size a)
theorem k0_idx1_inb : ∀ (v2 : IVec S16 32) (v1648 : IVec S16 32) (k0_hw1 : k0_chk1 v2 v1648), ∀ a x, ((![v2, v1648] : Fin 2 → IVec S16 32) a x).toNat < S32x129.size a := fun v2 v1648 k0_hw1 => k0_hw1

def k0_chk2 (v4 : IVec S16 32) (v1652 : IVec S16 32) : Prop :=
  (∀ a x, ((![v4, v1652] : Fin 2 → IVec S16 32) a x).toNat < S32x129.size a)
theorem k0_idx2_inb : ∀ (v4 : IVec S16 32) (v1652 : IVec S16 32) (k0_hw2 : k0_chk2 v4 v1652), ∀ a x, ((![v4, v1652] : Fin 2 → IVec S16 32) a x).toNat < S32x129.size a := fun v4 v1652 k0_hw2 => k0_hw2

def k0_chk3 (v2 : IVec S16 32) (v1656 : IVec S16 32) : Prop :=
  (∀ a x, ((![v2, v1656] : Fin 2 → IVec S16 32) a x).toNat < S32x129.size a)
theorem k0_idx3_inb : ∀ (v2 : IVec S16 32) (v1656 : IVec S16 32) (k0_hw3 : k0_chk3 v2 v1656), ∀ a x, ((![v2, v1656] : Fin 2 → IVec S16 32) a x).toNat < S32x129.size a := fun v2 v1656 k0_hw3 => k0_hw3

def k0_chk4 (v4 : IVec S16 32) (v1660 : IVec S16 32) : Prop :=
  (∀ a x, ((![v4, v1660] : Fin 2 → IVec S16 32) a x).toNat < S32x129.size a)
theorem k0_idx4_inb : ∀ (v4 : IVec S16 32) (v1660 : IVec S16 32) (k0_hw4 : k0_chk4 v4 v1660), ∀ a x, ((![v4, v1660] : Fin 2 → IVec S16 32) a x).toNat < S32x129.size a := fun v4 v1660 k0_hw4 => k0_hw4

def k0_chk5 (v2 : IVec S16 32) (v1664 : IVec S16 32) : Prop :=
  (∀ a x, ((![v2, v1664] : Fin 2 → IVec S16 32) a x).toNat < S32x129.size a)
theorem k0_idx5_inb : ∀ (v2 : IVec S16 32) (v1664 : IVec S16 32) (k0_hw5 : k0_chk5 v2 v1664), ∀ a x, ((![v2, v1664] : Fin 2 → IVec S16 32) a x).toNat < S32x129.size a := fun v2 v1664 k0_hw5 => k0_hw5

def k0_chk6 (v4 : IVec S16 32) (v1668 : IVec S16 32) : Prop :=
  (∀ a x, ((![v4, v1668] : Fin 2 → IVec S16 32) a x).toNat < S32x129.size a)
theorem k0_idx6_inb : ∀ (v4 : IVec S16 32) (v1668 : IVec S16 32) (k0_hw6 : k0_chk6 v4 v1668), ∀ a x, ((![v4, v1668] : Fin 2 → IVec S16 32) a x).toNat < S32x129.size a := fun v4 v1668 k0_hw6 => k0_hw6

def k0_chk7 (v2 : IVec S16 32) (v1672 : IVec S16 32) : Prop :=
  (∀ a x, ((![v2, v1672] : Fin 2 → IVec S16 32) a x).toNat < S32x129.size a)
theorem k0_idx7_inb : ∀ (v2 : IVec S16 32) (v1672 : IVec S16 32) (k0_hw7 : k0_chk7 v2 v1672), ∀ a x, ((![v2, v1672] : Fin 2 → IVec S16 32) a x).toNat < S32x129.size a := fun v2 v1672 k0_hw7 => k0_hw7

def k0_chk8 (v4 : IVec S16 32) (v1676 : IVec S16 32) : Prop :=
  (∀ a x, ((![v4, v1676] : Fin 2 → IVec S16 32) a x).toNat < S32x129.size a)
theorem k0_idx8_inb : ∀ (v4 : IVec S16 32) (v1676 : IVec S16 32) (k0_hw8 : k0_chk8 v4 v1676), ∀ a x, ((![v4, v1676] : Fin 2 → IVec S16 32) a x).toNat < S32x129.size a := fun v4 v1676 k0_hw8 => k0_hw8

def k0_chk9 (v2 : IVec S16 32) (v1680 : IVec S16 32) : Prop :=
  (∀ a x, ((![v2, v1680] : Fin 2 → IVec S16 32) a x).toNat < S32x129.size a)
theorem k0_idx9_inb : ∀ (v2 : IVec S16 32) (v1680 : IVec S16 32) (k0_hw9 : k0_chk9 v2 v1680), ∀ a x, ((![v2, v1680] : Fin 2 → IVec S16 32) a x).toNat < S32x129.size a := fun v2 v1680 k0_hw9 => k0_hw9

def k0_chk10 (v4 : IVec S16 32) (v1684 : IVec S16 32) : Prop :=
  (∀ a x, ((![v4, v1684] : Fin 2 → IVec S16 32) a x).toNat < S32x129.size a)
theorem k0_idx10_inb : ∀ (v4 : IVec S16 32) (v1684 : IVec S16 32) (k0_hw10 : k0_chk10 v4 v1684), ∀ a x, ((![v4, v1684] : Fin 2 → IVec S16 32) a x).toNat < S32x129.size a := fun v4 v1684 k0_hw10 => k0_hw10

def k0_chk11 (v2 : IVec S16 32) (v1688 : IVec S16 32) : Prop :=
  (∀ a x, ((![v2, v1688] : Fin 2 → IVec S16 32) a x).toNat < S32x129.size a)
theorem k0_idx11_inb : ∀ (v2 : IVec S16 32) (v1688 : IVec S16 32) (k0_hw11 : k0_chk11 v2 v1688), ∀ a x, ((![v2, v1688] : Fin 2 → IVec S16 32) a x).toNat < S32x129.size a := fun v2 v1688 k0_hw11 => k0_hw11

def k0_chk12 (v4 : IVec S16 32) (v1692 : IVec S16 32) : Prop :=
  (∀ a x, ((![v4, v1692] : Fin 2 → IVec S16 32) a x).toNat < S32x129.size a)
theorem k0_idx12_inb : ∀ (v4 : IVec S16 32) (v1692 : IVec S16 32) (k0_hw12 : k0_chk12 v4 v1692), ∀ a x, ((![v4, v1692] : Fin 2 → IVec S16 32) a x).toNat < S32x129.size a := fun v4 v1692 k0_hw12 => k0_hw12

def k0_chk13 (v2 : IVec S16 32) (v1696 : IVec S16 32) : Prop :=
  (∀ a x, ((![v2, v1696] : Fin 2 → IVec S16 32) a x).toNat < S32x129.size a)
theorem k0_idx13_inb : ∀ (v2 : IVec S16 32) (v1696 : IVec S16 32) (k0_hw13 : k0_chk13 v2 v1696), ∀ a x, ((![v2, v1696] : Fin 2 → IVec S16 32) a x).toNat < S32x129.size a := fun v2 v1696 k0_hw13 => k0_hw13

def k0_chk14 (v4 : IVec S16 32) (v1700 : IVec S16 32) : Prop :=
  (∀ a x, ((![v4, v1700] : Fin 2 → IVec S16 32) a x).toNat < S32x129.size a)
theorem k0_idx14_inb : ∀ (v4 : IVec S16 32) (v1700 : IVec S16 32) (k0_hw14 : k0_chk14 v4 v1700), ∀ a x, ((![v4, v1700] : Fin 2 → IVec S16 32) a x).toNat < S32x129.size a := fun v4 v1700 k0_hw14 => k0_hw14

def k0_chk15 (v2 : IVec S16 32) (v1704 : IVec S16 32) : Prop :=
  (∀ a x, ((![v2, v1704] : Fin 2 → IVec S16 32) a x).toNat < S32x129.size a)
theorem k0_idx15_inb : ∀ (v2 : IVec S16 32) (v1704 : IVec S16 32) (k0_hw15 : k0_chk15 v2 v1704), ∀ a x, ((![v2, v1704] : Fin 2 → IVec S16 32) a x).toNat < S32x129.size a := fun v2 v1704 k0_hw15 => k0_hw15

def k0_chk16 (v4 : IVec S16 32) (v1708 : IVec S16 32) : Prop :=
  (∀ a x, ((![v4, v1708] : Fin 2 → IVec S16 32) a x).toNat < S32x129.size a)
theorem k0_idx16_inb : ∀ (v4 : IVec S16 32) (v1708 : IVec S16 32) (k0_hw16 : k0_chk16 v4 v1708), ∀ a x, ((![v4, v1708] : Fin 2 → IVec S16 32) a x).toNat < S32x129.size a := fun v4 v1708 k0_hw16 => k0_hw16

def k0_chk17 (v2 : IVec S16 32) (v1712 : IVec S16 32) : Prop :=
  (∀ a x, ((![v2, v1712] : Fin 2 → IVec S16 32) a x).toNat < S32x129.size a)
theorem k0_idx17_inb : ∀ (v2 : IVec S16 32) (v1712 : IVec S16 32) (k0_hw17 : k0_chk17 v2 v1712), ∀ a x, ((![v2, v1712] : Fin 2 → IVec S16 32) a x).toNat < S32x129.size a := fun v2 v1712 k0_hw17 => k0_hw17

def k0_chk18 (v4 : IVec S16 32) (v1716 : IVec S16 32) : Prop :=
  (∀ a x, ((![v4, v1716] : Fin 2 → IVec S16 32) a x).toNat < S32x129.size a)
theorem k0_idx18_inb : ∀ (v4 : IVec S16 32) (v1716 : IVec S16 32) (k0_hw18 : k0_chk18 v4 v1716), ∀ a x, ((![v4, v1716] : Fin 2 → IVec S16 32) a x).toNat < S32x129.size a := fun v4 v1716 k0_hw18 => k0_hw18

def k0_chk19 (v2 : IVec S16 32) (v1720 : IVec S16 32) : Prop :=
  (∀ a x, ((![v2, v1720] : Fin 2 → IVec S16 32) a x).toNat < S32x129.size a)
theorem k0_idx19_inb : ∀ (v2 : IVec S16 32) (v1720 : IVec S16 32) (k0_hw19 : k0_chk19 v2 v1720), ∀ a x, ((![v2, v1720] : Fin 2 → IVec S16 32) a x).toNat < S32x129.size a := fun v2 v1720 k0_hw19 => k0_hw19

def k0_chk20 (v4 : IVec S16 32) (v1724 : IVec S16 32) : Prop :=
  (∀ a x, ((![v4, v1724] : Fin 2 → IVec S16 32) a x).toNat < S32x129.size a)
theorem k0_idx20_inb : ∀ (v4 : IVec S16 32) (v1724 : IVec S16 32) (k0_hw20 : k0_chk20 v4 v1724), ∀ a x, ((![v4, v1724] : Fin 2 → IVec S16 32) a x).toNat < S32x129.size a := fun v4 v1724 k0_hw20 => k0_hw20

def k0_chk21 (v2 : IVec S16 32) (v1728 : IVec S16 32) : Prop :=
  (∀ a x, ((![v2, v1728] : Fin 2 → IVec S16 32) a x).toNat < S32x129.size a)
theorem k0_idx21_inb : ∀ (v2 : IVec S16 32) (v1728 : IVec S16 32) (k0_hw21 : k0_chk21 v2 v1728), ∀ a x, ((![v2, v1728] : Fin 2 → IVec S16 32) a x).toNat < S32x129.size a := fun v2 v1728 k0_hw21 => k0_hw21

def k0_chk22 (v4 : IVec S16 32) (v1732 : IVec S16 32) : Prop :=
  (∀ a x, ((![v4, v1732] : Fin 2 → IVec S16 32) a x).toNat < S32x129.size a)
theorem k0_idx22_inb : ∀ (v4 : IVec S16 32) (v1732 : IVec S16 32) (k0_hw22 : k0_chk22 v4 v1732), ∀ a x, ((![v4, v1732] : Fin 2 → IVec S16 32) a x).toNat < S32x129.size a := fun v4 v1732 k0_hw22 => k0_hw22

def k0_chk23 (v2 : IVec S16 32) (v1736 : IVec S16 32) : Prop :=
  (∀ a x, ((![v2, v1736] : Fin 2 → IVec S16 32) a x).toNat < S32x129.size a)
theorem k0_idx23_inb : ∀ (v2 : IVec S16 32) (v1736 : IVec S16 32) (k0_hw23 : k0_chk23 v2 v1736), ∀ a x, ((![v2, v1736] : Fin 2 → IVec S16 32) a x).toNat < S32x129.size a := fun v2 v1736 k0_hw23 => k0_hw23

def k0_chk24 (v4 : IVec S16 32) (v1740 : IVec S16 32) : Prop :=
  (∀ a x, ((![v4, v1740] : Fin 2 → IVec S16 32) a x).toNat < S32x129.size a)
theorem k0_idx24_inb : ∀ (v4 : IVec S16 32) (v1740 : IVec S16 32) (k0_hw24 : k0_chk24 v4 v1740), ∀ a x, ((![v4, v1740] : Fin 2 → IVec S16 32) a x).toNat < S32x129.size a := fun v4 v1740 k0_hw24 => k0_hw24

def k0_chk25 (v2 : IVec S16 32) (v1748 : IVec S16 32) : Prop :=
  (∀ a x, ((![v2, v1748] : Fin 2 → IVec S16 32) a x).toNat < S32x129.size a)
theorem k0_idx25_inb : ∀ (v2 : IVec S16 32) (v1748 : IVec S16 32) (k0_hw25 : k0_chk25 v2 v1748), ∀ a x, ((![v2, v1748] : Fin 2 → IVec S16 32) a x).toNat < S32x129.size a := fun v2 v1748 k0_hw25 => k0_hw25

def k0_chk26 (v4 : IVec S16 32) (v1756 : IVec S16 32) : Prop :=
  (∀ a x, ((![v4, v1756] : Fin 2 → IVec S16 32) a x).toNat < S32x129.size a)
theorem k0_idx26_inb : ∀ (v4 : IVec S16 32) (v1756 : IVec S16 32) (k0_hw26 : k0_chk26 v4 v1756), ∀ a x, ((![v4, v1756] : Fin 2 → IVec S16 32) a x).toNat < S32x129.size a := fun v4 v1756 k0_hw26 => k0_hw26

def k0_chk27 (v2 : IVec S16 32) (v1764 : IVec S16 32) : Prop :=
  (∀ a x, ((![v2, v1764] : Fin 2 → IVec S16 32) a x).toNat < S32x129.size a)
theorem k0_idx27_inb : ∀ (v2 : IVec S16 32) (v1764 : IVec S16 32) (k0_hw27 : k0_chk27 v2 v1764), ∀ a x, ((![v2, v1764] : Fin 2 → IVec S16 32) a x).toNat < S32x129.size a := fun v2 v1764 k0_hw27 => k0_hw27

def k0_chk28 (v4 : IVec S16 32) (v1772 : IVec S16 32) : Prop :=
  (∀ a x, ((![v4, v1772] : Fin 2 → IVec S16 32) a x).toNat < S32x129.size a)
theorem k0_idx28_inb : ∀ (v4 : IVec S16 32) (v1772 : IVec S16 32) (k0_hw28 : k0_chk28 v4 v1772), ∀ a x, ((![v4, v1772] : Fin 2 → IVec S16 32) a x).toNat < S32x129.size a := fun v4 v1772 k0_hw28 => k0_hw28

def k0_chk29 (v2 : IVec S16 32) (v1780 : IVec S16 32) : Prop :=
  (∀ a x, ((![v2, v1780] : Fin 2 → IVec S16 32) a x).toNat < S32x129.size a)
theorem k0_idx29_inb : ∀ (v2 : IVec S16 32) (v1780 : IVec S16 32) (k0_hw29 : k0_chk29 v2 v1780), ∀ a x, ((![v2, v1780] : Fin 2 → IVec S16 32) a x).toNat < S32x129.size a := fun v2 v1780 k0_hw29 => k0_hw29

def k0_chk30 (v4 : IVec S16 32) (v1788 : IVec S16 32) : Prop :=
  (∀ a x, ((![v4, v1788] : Fin 2 → IVec S16 32) a x).toNat < S32x129.size a)
theorem k0_idx30_inb : ∀ (v4 : IVec S16 32) (v1788 : IVec S16 32) (k0_hw30 : k0_chk30 v4 v1788), ∀ a x, ((![v4, v1788] : Fin 2 → IVec S16 32) a x).toNat < S32x129.size a := fun v4 v1788 k0_hw30 => k0_hw30

def k0_chk31 (v2 : IVec S16 32) (v1796 : IVec S16 32) : Prop :=
  (∀ a x, ((![v2, v1796] : Fin 2 → IVec S16 32) a x).toNat < S32x129.size a)
theorem k0_idx31_inb : ∀ (v2 : IVec S16 32) (v1796 : IVec S16 32) (k0_hw31 : k0_chk31 v2 v1796), ∀ a x, ((![v2, v1796] : Fin 2 → IVec S16 32) a x).toNat < S32x129.size a := fun v2 v1796 k0_hw31 => k0_hw31

def k0_chk32 (v4 : IVec S16 32) (v1804 : IVec S16 32) : Prop :=
  (∀ a x, ((![v4, v1804] : Fin 2 → IVec S16 32) a x).toNat < S32x129.size a)
theorem k0_idx32_inb : ∀ (v4 : IVec S16 32) (v1804 : IVec S16 32) (k0_hw32 : k0_chk32 v4 v1804), ∀ a x, ((![v4, v1804] : Fin 2 → IVec S16 32) a x).toNat < S32x129.size a := fun v4 v1804 k0_hw32 => k0_hw32

def k0_chk33 (v2 : IVec S16 32) (v1812 : IVec S16 32) : Prop :=
  (∀ a x, ((![v2, v1812] : Fin 2 → IVec S16 32) a x).toNat < S32x129.size a)
theorem k0_idx33_inb : ∀ (v2 : IVec S16 32) (v1812 : IVec S16 32) (k0_hw33 : k0_chk33 v2 v1812), ∀ a x, ((![v2, v1812] : Fin 2 → IVec S16 32) a x).toNat < S32x129.size a := fun v2 v1812 k0_hw33 => k0_hw33

def k0_chk34 (v4 : IVec S16 32) (v1820 : IVec S16 32) : Prop :=
  (∀ a x, ((![v4, v1820] : Fin 2 → IVec S16 32) a x).toNat < S32x129.size a)
theorem k0_idx34_inb : ∀ (v4 : IVec S16 32) (v1820 : IVec S16 32) (k0_hw34 : k0_chk34 v4 v1820), ∀ a x, ((![v4, v1820] : Fin 2 → IVec S16 32) a x).toNat < S32x129.size a := fun v4 v1820 k0_hw34 => k0_hw34

def k0_chk35 (v2 : IVec S16 32) (v1828 : IVec S16 32) : Prop :=
  (∀ a x, ((![v2, v1828] : Fin 2 → IVec S16 32) a x).toNat < S32x129.size a)
theorem k0_idx35_inb : ∀ (v2 : IVec S16 32) (v1828 : IVec S16 32) (k0_hw35 : k0_chk35 v2 v1828), ∀ a x, ((![v2, v1828] : Fin 2 → IVec S16 32) a x).toNat < S32x129.size a := fun v2 v1828 k0_hw35 => k0_hw35

def k0_chk36 (v4 : IVec S16 32) (v1836 : IVec S16 32) : Prop :=
  (∀ a x, ((![v4, v1836] : Fin 2 → IVec S16 32) a x).toNat < S32x129.size a)
theorem k0_idx36_inb : ∀ (v4 : IVec S16 32) (v1836 : IVec S16 32) (k0_hw36 : k0_chk36 v4 v1836), ∀ a x, ((![v4, v1836] : Fin 2 → IVec S16 32) a x).toNat < S32x129.size a := fun v4 v1836 k0_hw36 => k0_hw36

def k0_chk37 (v2 : IVec S16 32) (v1844 : IVec S16 32) : Prop :=
  (∀ a x, ((![v2, v1844] : Fin 2 → IVec S16 32) a x).toNat < S32x129.size a)
theorem k0_idx37_inb : ∀ (v2 : IVec S16 32) (v1844 : IVec S16 32) (k0_hw37 : k0_chk37 v2 v1844), ∀ a x, ((![v2, v1844] : Fin 2 → IVec S16 32) a x).toNat < S32x129.size a := fun v2 v1844 k0_hw37 => k0_hw37

def k0_chk38 (v4 : IVec S16 32) (v1852 : IVec S16 32) : Prop :=
  (∀ a x, ((![v4, v1852] : Fin 2 → IVec S16 32) a x).toNat < S32x129.size a)
theorem k0_idx38_inb : ∀ (v4 : IVec S16 32) (v1852 : IVec S16 32) (k0_hw38 : k0_chk38 v4 v1852), ∀ a x, ((![v4, v1852] : Fin 2 → IVec S16 32) a x).toNat < S32x129.size a := fun v4 v1852 k0_hw38 => k0_hw38

def k0_chk39 (v2 : IVec S16 32) (v1860 : IVec S16 32) : Prop :=
  (∀ a x, ((![v2, v1860] : Fin 2 → IVec S16 32) a x).toNat < S32x129.size a)
theorem k0_idx39_inb : ∀ (v2 : IVec S16 32) (v1860 : IVec S16 32) (k0_hw39 : k0_chk39 v2 v1860), ∀ a x, ((![v2, v1860] : Fin 2 → IVec S16 32) a x).toNat < S32x129.size a := fun v2 v1860 k0_hw39 => k0_hw39

def k0_chk40 (v4 : IVec S16 32) (v1868 : IVec S16 32) : Prop :=
  (∀ a x, ((![v4, v1868] : Fin 2 → IVec S16 32) a x).toNat < S32x129.size a)
theorem k0_idx40_inb : ∀ (v4 : IVec S16 32) (v1868 : IVec S16 32) (k0_hw40 : k0_chk40 v4 v1868), ∀ a x, ((![v4, v1868] : Fin 2 → IVec S16 32) a x).toNat < S32x129.size a := fun v4 v1868 k0_hw40 => k0_hw40

def k0_chk41 (v2 : IVec S16 32) (v1876 : IVec S16 32) : Prop :=
  (∀ a x, ((![v2, v1876] : Fin 2 → IVec S16 32) a x).toNat < S32x129.size a)
theorem k0_idx41_inb : ∀ (v2 : IVec S16 32) (v1876 : IVec S16 32) (k0_hw41 : k0_chk41 v2 v1876), ∀ a x, ((![v2, v1876] : Fin 2 → IVec S16 32) a x).toNat < S32x129.size a := fun v2 v1876 k0_hw41 => k0_hw41

def k0_chk42 (v4 : IVec S16 32) (v1884 : IVec S16 32) : Prop :=
  (∀ a x, ((![v4, v1884] : Fin 2 → IVec S16 32) a x).toNat < S32x129.size a)
theorem k0_idx42_inb : ∀ (v4 : IVec S16 32) (v1884 : IVec S16 32) (k0_hw42 : k0_chk42 v4 v1884), ∀ a x, ((![v4, v1884] : Fin 2 → IVec S16 32) a x).toNat < S32x129.size a := fun v4 v1884 k0_hw42 => k0_hw42

def k0_chk43 (v2 : IVec S16 32) (v1892 : IVec S16 32) : Prop :=
  (∀ a x, ((![v2, v1892] : Fin 2 → IVec S16 32) a x).toNat < S32x129.size a)
theorem k0_idx43_inb : ∀ (v2 : IVec S16 32) (v1892 : IVec S16 32) (k0_hw43 : k0_chk43 v2 v1892), ∀ a x, ((![v2, v1892] : Fin 2 → IVec S16 32) a x).toNat < S32x129.size a := fun v2 v1892 k0_hw43 => k0_hw43

def k0_chk44 (v4 : IVec S16 32) (v1900 : IVec S16 32) : Prop :=
  (∀ a x, ((![v4, v1900] : Fin 2 → IVec S16 32) a x).toNat < S32x129.size a)
theorem k0_idx44_inb : ∀ (v4 : IVec S16 32) (v1900 : IVec S16 32) (k0_hw44 : k0_chk44 v4 v1900), ∀ a x, ((![v4, v1900] : Fin 2 → IVec S16 32) a x).toNat < S32x129.size a := fun v4 v1900 k0_hw44 => k0_hw44

def k0_chk45 (v2 : IVec S16 32) (v1908 : IVec S16 32) : Prop :=
  (∀ a x, ((![v2, v1908] : Fin 2 → IVec S16 32) a x).toNat < S32x129.size a)
theorem k0_idx45_inb : ∀ (v2 : IVec S16 32) (v1908 : IVec S16 32) (k0_hw45 : k0_chk45 v2 v1908), ∀ a x, ((![v2, v1908] : Fin 2 → IVec S16 32) a x).toNat < S32x129.size a := fun v2 v1908 k0_hw45 => k0_hw45

def k0_chk46 (v4 : IVec S16 32) (v1916 : IVec S16 32) : Prop :=
  (∀ a x, ((![v4, v1916] : Fin 2 → IVec S16 32) a x).toNat < S32x129.size a)
theorem k0_idx46_inb : ∀ (v4 : IVec S16 32) (v1916 : IVec S16 32) (k0_hw46 : k0_chk46 v4 v1916), ∀ a x, ((![v4, v1916] : Fin 2 → IVec S16 32) a x).toNat < S32x129.size a := fun v4 v1916 k0_hw46 => k0_hw46

def k0_chk47 (v2 : IVec S16 32) (v1924 : IVec S16 32) : Prop :=
  (∀ a x, ((![v2, v1924] : Fin 2 → IVec S16 32) a x).toNat < S32x129.size a)
theorem k0_idx47_inb : ∀ (v2 : IVec S16 32) (v1924 : IVec S16 32) (k0_hw47 : k0_chk47 v2 v1924), ∀ a x, ((![v2, v1924] : Fin 2 → IVec S16 32) a x).toNat < S32x129.size a := fun v2 v1924 k0_hw47 => k0_hw47

def k0_chk48 (v4 : IVec S16 32) (v1932 : IVec S16 32) : Prop :=
  (∀ a x, ((![v4, v1932] : Fin 2 → IVec S16 32) a x).toNat < S32x129.size a)
theorem k0_idx48_inb : ∀ (v4 : IVec S16 32) (v1932 : IVec S16 32) (k0_hw48 : k0_chk48 v4 v1932), ∀ a x, ((![v4, v1932] : Fin 2 → IVec S16 32) a x).toNat < S32x129.size a := fun v4 v1932 k0_hw48 => k0_hw48

def k0_chk49 (v2 : IVec S16 32) (v1940 : IVec S16 32) : Prop :=
  (∀ a x, ((![v2, v1940] : Fin 2 → IVec S16 32) a x).toNat < S32x129.size a)
theorem k0_idx49_inb : ∀ (v2 : IVec S16 32) (v1940 : IVec S16 32) (k0_hw49 : k0_chk49 v2 v1940), ∀ a x, ((![v2, v1940] : Fin 2 → IVec S16 32) a x).toNat < S32x129.size a := fun v2 v1940 k0_hw49 => k0_hw49

def k0_chk50 (v4 : IVec S16 32) (v1948 : IVec S16 32) : Prop :=
  (∀ a x, ((![v4, v1948] : Fin 2 → IVec S16 32) a x).toNat < S32x129.size a)
theorem k0_idx50_inb : ∀ (v4 : IVec S16 32) (v1948 : IVec S16 32) (k0_hw50 : k0_chk50 v4 v1948), ∀ a x, ((![v4, v1948] : Fin 2 → IVec S16 32) a x).toNat < S32x129.size a := fun v4 v1948 k0_hw50 => k0_hw50

def k0_chk51 (v2 : IVec S16 32) (v1956 : IVec S16 32) : Prop :=
  (∀ a x, ((![v2, v1956] : Fin 2 → IVec S16 32) a x).toNat < S32x129.size a)
theorem k0_idx51_inb : ∀ (v2 : IVec S16 32) (v1956 : IVec S16 32) (k0_hw51 : k0_chk51 v2 v1956), ∀ a x, ((![v2, v1956] : Fin 2 → IVec S16 32) a x).toNat < S32x129.size a := fun v2 v1956 k0_hw51 => k0_hw51

def k0_chk52 (v4 : IVec S16 32) (v1964 : IVec S16 32) : Prop :=
  (∀ a x, ((![v4, v1964] : Fin 2 → IVec S16 32) a x).toNat < S32x129.size a)
theorem k0_idx52_inb : ∀ (v4 : IVec S16 32) (v1964 : IVec S16 32) (k0_hw52 : k0_chk52 v4 v1964), ∀ a x, ((![v4, v1964] : Fin 2 → IVec S16 32) a x).toNat < S32x129.size a := fun v4 v1964 k0_hw52 => k0_hw52

def k0_chk53 (v2 : IVec S16 32) (v1972 : IVec S16 32) : Prop :=
  (∀ a x, ((![v2, v1972] : Fin 2 → IVec S16 32) a x).toNat < S32x129.size a)
theorem k0_idx53_inb : ∀ (v2 : IVec S16 32) (v1972 : IVec S16 32) (k0_hw53 : k0_chk53 v2 v1972), ∀ a x, ((![v2, v1972] : Fin 2 → IVec S16 32) a x).toNat < S32x129.size a := fun v2 v1972 k0_hw53 => k0_hw53

def k0_chk54 (v4 : IVec S16 32) (v1980 : IVec S16 32) : Prop :=
  (∀ a x, ((![v4, v1980] : Fin 2 → IVec S16 32) a x).toNat < S32x129.size a)
theorem k0_idx54_inb : ∀ (v4 : IVec S16 32) (v1980 : IVec S16 32) (k0_hw54 : k0_chk54 v4 v1980), ∀ a x, ((![v4, v1980] : Fin 2 → IVec S16 32) a x).toNat < S32x129.size a := fun v4 v1980 k0_hw54 => k0_hw54

def k0_chk55 (v2 : IVec S16 32) (v1988 : IVec S16 32) : Prop :=
  (∀ a x, ((![v2, v1988] : Fin 2 → IVec S16 32) a x).toNat < S32x129.size a)
theorem k0_idx55_inb : ∀ (v2 : IVec S16 32) (v1988 : IVec S16 32) (k0_hw55 : k0_chk55 v2 v1988), ∀ a x, ((![v2, v1988] : Fin 2 → IVec S16 32) a x).toNat < S32x129.size a := fun v2 v1988 k0_hw55 => k0_hw55

def k0_chk56 (v4 : IVec S16 32) (v1996 : IVec S16 32) : Prop :=
  (∀ a x, ((![v4, v1996] : Fin 2 → IVec S16 32) a x).toNat < S32x129.size a)
theorem k0_idx56_inb : ∀ (v4 : IVec S16 32) (v1996 : IVec S16 32) (k0_hw56 : k0_chk56 v4 v1996), ∀ a x, ((![v4, v1996] : Fin 2 → IVec S16 32) a x).toNat < S32x129.size a := fun v4 v1996 k0_hw56 => k0_hw56

def k0_chk57 (v2 : IVec S16 32) (v2004 : IVec S16 32) : Prop :=
  (∀ a x, ((![v2, v2004] : Fin 2 → IVec S16 32) a x).toNat < S32x129.size a)
theorem k0_idx57_inb : ∀ (v2 : IVec S16 32) (v2004 : IVec S16 32) (k0_hw57 : k0_chk57 v2 v2004), ∀ a x, ((![v2, v2004] : Fin 2 → IVec S16 32) a x).toNat < S32x129.size a := fun v2 v2004 k0_hw57 => k0_hw57

def k0_chk58 (v4 : IVec S16 32) (v2012 : IVec S16 32) : Prop :=
  (∀ a x, ((![v4, v2012] : Fin 2 → IVec S16 32) a x).toNat < S32x129.size a)
theorem k0_idx58_inb : ∀ (v4 : IVec S16 32) (v2012 : IVec S16 32) (k0_hw58 : k0_chk58 v4 v2012), ∀ a x, ((![v4, v2012] : Fin 2 → IVec S16 32) a x).toNat < S32x129.size a := fun v4 v2012 k0_hw58 => k0_hw58

def k0_chk59 (v2 : IVec S16 32) (v2020 : IVec S16 32) : Prop :=
  (∀ a x, ((![v2, v2020] : Fin 2 → IVec S16 32) a x).toNat < S32x129.size a)
theorem k0_idx59_inb : ∀ (v2 : IVec S16 32) (v2020 : IVec S16 32) (k0_hw59 : k0_chk59 v2 v2020), ∀ a x, ((![v2, v2020] : Fin 2 → IVec S16 32) a x).toNat < S32x129.size a := fun v2 v2020 k0_hw59 => k0_hw59

def k0_chk60 (v4 : IVec S16 32) (v2028 : IVec S16 32) : Prop :=
  (∀ a x, ((![v4, v2028] : Fin 2 → IVec S16 32) a x).toNat < S32x129.size a)
theorem k0_idx60_inb : ∀ (v4 : IVec S16 32) (v2028 : IVec S16 32) (k0_hw60 : k0_chk60 v4 v2028), ∀ a x, ((![v4, v2028] : Fin 2 → IVec S16 32) a x).toNat < S32x129.size a := fun v4 v2028 k0_hw60 => k0_hw60

def k0_chk61 (v2 : IVec S16 32) (v2036 : IVec S16 32) : Prop :=
  (∀ a x, ((![v2, v2036] : Fin 2 → IVec S16 32) a x).toNat < S32x129.size a)
theorem k0_idx61_inb : ∀ (v2 : IVec S16 32) (v2036 : IVec S16 32) (k0_hw61 : k0_chk61 v2 v2036), ∀ a x, ((![v2, v2036] : Fin 2 → IVec S16 32) a x).toNat < S32x129.size a := fun v2 v2036 k0_hw61 => k0_hw61

def k0_chk62 (v4 : IVec S16 32) (v2044 : IVec S16 32) : Prop :=
  (∀ a x, ((![v4, v2044] : Fin 2 → IVec S16 32) a x).toNat < S32x129.size a)
theorem k0_idx62_inb : ∀ (v4 : IVec S16 32) (v2044 : IVec S16 32) (k0_hw62 : k0_chk62 v4 v2044), ∀ a x, ((![v4, v2044] : Fin 2 → IVec S16 32) a x).toNat < S32x129.size a := fun v4 v2044 k0_hw62 => k0_hw62

def k0_chk63 (v2 : IVec S16 32) (v2052 : IVec S16 32) : Prop :=
  (∀ a x, ((![v2, v2052] : Fin 2 → IVec S16 32) a x).toNat < S32x129.size a)
theorem k0_idx63_inb : ∀ (v2 : IVec S16 32) (v2052 : IVec S16 32) (k0_hw63 : k0_chk63 v2 v2052), ∀ a x, ((![v2, v2052] : Fin 2 → IVec S16 32) a x).toNat < S32x129.size a := fun v2 v2052 k0_hw63 => k0_hw63

def k0_chk64 (v4 : IVec S16 32) (v2060 : IVec S16 32) : Prop :=
  (∀ a x, ((![v4, v2060] : Fin 2 → IVec S16 32) a x).toNat < S32x129.size a)
theorem k0_idx64_inb : ∀ (v4 : IVec S16 32) (v2060 : IVec S16 32) (k0_hw64 : k0_chk64 v4 v2060), ∀ a x, ((![v4, v2060] : Fin 2 → IVec S16 32) a x).toNat < S32x129.size a := fun v4 v2060 k0_hw64 => k0_hw64

def k0_chk65 (v2 : IVec S16 32) (v2068 : IVec S16 32) : Prop :=
  (∀ a x, ((![v2, v2068] : Fin 2 → IVec S16 32) a x).toNat < S32x129.size a)
theorem k0_idx65_inb : ∀ (v2 : IVec S16 32) (v2068 : IVec S16 32) (k0_hw65 : k0_chk65 v2 v2068), ∀ a x, ((![v2, v2068] : Fin 2 → IVec S16 32) a x).toNat < S32x129.size a := fun v2 v2068 k0_hw65 => k0_hw65

def k0_chk66 (v4 : IVec S16 32) (v2076 : IVec S16 32) : Prop :=
  (∀ a x, ((![v4, v2076] : Fin 2 → IVec S16 32) a x).toNat < S32x129.size a)
theorem k0_idx66_inb : ∀ (v4 : IVec S16 32) (v2076 : IVec S16 32) (k0_hw66 : k0_chk66 v4 v2076), ∀ a x, ((![v4, v2076] : Fin 2 → IVec S16 32) a x).toNat < S32x129.size a := fun v4 v2076 k0_hw66 => k0_hw66

def k0_chk67 (v2 : IVec S16 32) (v2084 : IVec S16 32) : Prop :=
  (∀ a x, ((![v2, v2084] : Fin 2 → IVec S16 32) a x).toNat < S32x129.size a)
theorem k0_idx67_inb : ∀ (v2 : IVec S16 32) (v2084 : IVec S16 32) (k0_hw67 : k0_chk67 v2 v2084), ∀ a x, ((![v2, v2084] : Fin 2 → IVec S16 32) a x).toNat < S32x129.size a := fun v2 v2084 k0_hw67 => k0_hw67

def k0_chk68 (v4 : IVec S16 32) (v2092 : IVec S16 32) : Prop :=
  (∀ a x, ((![v4, v2092] : Fin 2 → IVec S16 32) a x).toNat < S32x129.size a)
theorem k0_idx68_inb : ∀ (v4 : IVec S16 32) (v2092 : IVec S16 32) (k0_hw68 : k0_chk68 v4 v2092), ∀ a x, ((![v4, v2092] : Fin 2 → IVec S16 32) a x).toNat < S32x129.size a := fun v4 v2092 k0_hw68 => k0_hw68

def k0_chk69 (v2 : IVec S16 32) (v2100 : IVec S16 32) : Prop :=
  (∀ a x, ((![v2, v2100] : Fin 2 → IVec S16 32) a x).toNat < S32x129.size a)
theorem k0_idx69_inb : ∀ (v2 : IVec S16 32) (v2100 : IVec S16 32) (k0_hw69 : k0_chk69 v2 v2100), ∀ a x, ((![v2, v2100] : Fin 2 → IVec S16 32) a x).toNat < S32x129.size a := fun v2 v2100 k0_hw69 => k0_hw69

def k0_chk70 (v4 : IVec S16 32) (v2108 : IVec S16 32) : Prop :=
  (∀ a x, ((![v4, v2108] : Fin 2 → IVec S16 32) a x).toNat < S32x129.size a)
theorem k0_idx70_inb : ∀ (v4 : IVec S16 32) (v2108 : IVec S16 32) (k0_hw70 : k0_chk70 v4 v2108), ∀ a x, ((![v4, v2108] : Fin 2 → IVec S16 32) a x).toNat < S32x129.size a := fun v4 v2108 k0_hw70 => k0_hw70

def k0_chk71 (v2 : IVec S16 32) (v2116 : IVec S16 32) : Prop :=
  (∀ a x, ((![v2, v2116] : Fin 2 → IVec S16 32) a x).toNat < S32x129.size a)
theorem k0_idx71_inb : ∀ (v2 : IVec S16 32) (v2116 : IVec S16 32) (k0_hw71 : k0_chk71 v2 v2116), ∀ a x, ((![v2, v2116] : Fin 2 → IVec S16 32) a x).toNat < S32x129.size a := fun v2 v2116 k0_hw71 => k0_hw71

def k0_chk72 (v4 : IVec S16 32) (v2124 : IVec S16 32) : Prop :=
  (∀ a x, ((![v4, v2124] : Fin 2 → IVec S16 32) a x).toNat < S32x129.size a)
theorem k0_idx72_inb : ∀ (v4 : IVec S16 32) (v2124 : IVec S16 32) (k0_hw72 : k0_chk72 v4 v2124), ∀ a x, ((![v4, v2124] : Fin 2 → IVec S16 32) a x).toNat < S32x129.size a := fun v4 v2124 k0_hw72 => k0_hw72

def k0_chk73 (v2 : IVec S16 32) (v2132 : IVec S16 32) : Prop :=
  (∀ a x, ((![v2, v2132] : Fin 2 → IVec S16 32) a x).toNat < S32x129.size a)
theorem k0_idx73_inb : ∀ (v2 : IVec S16 32) (v2132 : IVec S16 32) (k0_hw73 : k0_chk73 v2 v2132), ∀ a x, ((![v2, v2132] : Fin 2 → IVec S16 32) a x).toNat < S32x129.size a := fun v2 v2132 k0_hw73 => k0_hw73

def k0_chk74 (v4 : IVec S16 32) (v2140 : IVec S16 32) : Prop :=
  (∀ a x, ((![v4, v2140] : Fin 2 → IVec S16 32) a x).toNat < S32x129.size a)
theorem k0_idx74_inb : ∀ (v4 : IVec S16 32) (v2140 : IVec S16 32) (k0_hw74 : k0_chk74 v4 v2140), ∀ a x, ((![v4, v2140] : Fin 2 → IVec S16 32) a x).toNat < S32x129.size a := fun v4 v2140 k0_hw74 => k0_hw74

def k0_chk75 (v2 : IVec S16 32) (v2148 : IVec S16 32) : Prop :=
  (∀ a x, ((![v2, v2148] : Fin 2 → IVec S16 32) a x).toNat < S32x129.size a)
theorem k0_idx75_inb : ∀ (v2 : IVec S16 32) (v2148 : IVec S16 32) (k0_hw75 : k0_chk75 v2 v2148), ∀ a x, ((![v2, v2148] : Fin 2 → IVec S16 32) a x).toNat < S32x129.size a := fun v2 v2148 k0_hw75 => k0_hw75

def k0_chk76 (v4 : IVec S16 32) (v2156 : IVec S16 32) : Prop :=
  (∀ a x, ((![v4, v2156] : Fin 2 → IVec S16 32) a x).toNat < S32x129.size a)
theorem k0_idx76_inb : ∀ (v4 : IVec S16 32) (v2156 : IVec S16 32) (k0_hw76 : k0_chk76 v4 v2156), ∀ a x, ((![v4, v2156] : Fin 2 → IVec S16 32) a x).toNat < S32x129.size a := fun v4 v2156 k0_hw76 => k0_hw76

def k0_chk77 (v2 : IVec S16 32) (v2164 : IVec S16 32) : Prop :=
  (∀ a x, ((![v2, v2164] : Fin 2 → IVec S16 32) a x).toNat < S32x129.size a)
theorem k0_idx77_inb : ∀ (v2 : IVec S16 32) (v2164 : IVec S16 32) (k0_hw77 : k0_chk77 v2 v2164), ∀ a x, ((![v2, v2164] : Fin 2 → IVec S16 32) a x).toNat < S32x129.size a := fun v2 v2164 k0_hw77 => k0_hw77

def k0_chk78 (v4 : IVec S16 32) (v2172 : IVec S16 32) : Prop :=
  (∀ a x, ((![v4, v2172] : Fin 2 → IVec S16 32) a x).toNat < S32x129.size a)
theorem k0_idx78_inb : ∀ (v4 : IVec S16 32) (v2172 : IVec S16 32) (k0_hw78 : k0_chk78 v4 v2172), ∀ a x, ((![v4, v2172] : Fin 2 → IVec S16 32) a x).toNat < S32x129.size a := fun v4 v2172 k0_hw78 => k0_hw78

def k0_chk79 (v2 : IVec S16 32) (v2180 : IVec S16 32) : Prop :=
  (∀ a x, ((![v2, v2180] : Fin 2 → IVec S16 32) a x).toNat < S32x129.size a)
theorem k0_idx79_inb : ∀ (v2 : IVec S16 32) (v2180 : IVec S16 32) (k0_hw79 : k0_chk79 v2 v2180), ∀ a x, ((![v2, v2180] : Fin 2 → IVec S16 32) a x).toNat < S32x129.size a := fun v2 v2180 k0_hw79 => k0_hw79

def k0_chk80 (v4 : IVec S16 32) (v2188 : IVec S16 32) : Prop :=
  (∀ a x, ((![v4, v2188] : Fin 2 → IVec S16 32) a x).toNat < S32x129.size a)
theorem k0_idx80_inb : ∀ (v4 : IVec S16 32) (v2188 : IVec S16 32) (k0_hw80 : k0_chk80 v4 v2188), ∀ a x, ((![v4, v2188] : Fin 2 → IVec S16 32) a x).toNat < S32x129.size a := fun v4 v2188 k0_hw80 => k0_hw80

def k0_chk81 (v2 : IVec S16 32) (v2196 : IVec S16 32) : Prop :=
  (∀ a x, ((![v2, v2196] : Fin 2 → IVec S16 32) a x).toNat < S32x129.size a)
theorem k0_idx81_inb : ∀ (v2 : IVec S16 32) (v2196 : IVec S16 32) (k0_hw81 : k0_chk81 v2 v2196), ∀ a x, ((![v2, v2196] : Fin 2 → IVec S16 32) a x).toNat < S32x129.size a := fun v2 v2196 k0_hw81 => k0_hw81

def k0_chk82 (v4 : IVec S16 32) (v2204 : IVec S16 32) : Prop :=
  (∀ a x, ((![v4, v2204] : Fin 2 → IVec S16 32) a x).toNat < S32x129.size a)
theorem k0_idx82_inb : ∀ (v4 : IVec S16 32) (v2204 : IVec S16 32) (k0_hw82 : k0_chk82 v4 v2204), ∀ a x, ((![v4, v2204] : Fin 2 → IVec S16 32) a x).toNat < S32x129.size a := fun v4 v2204 k0_hw82 => k0_hw82

def k0_chk83 (v2 : IVec S16 32) (v2212 : IVec S16 32) : Prop :=
  (∀ a x, ((![v2, v2212] : Fin 2 → IVec S16 32) a x).toNat < S32x129.size a)
theorem k0_idx83_inb : ∀ (v2 : IVec S16 32) (v2212 : IVec S16 32) (k0_hw83 : k0_chk83 v2 v2212), ∀ a x, ((![v2, v2212] : Fin 2 → IVec S16 32) a x).toNat < S32x129.size a := fun v2 v2212 k0_hw83 => k0_hw83

def k0_chk84 (v4 : IVec S16 32) (v2220 : IVec S16 32) : Prop :=
  (∀ a x, ((![v4, v2220] : Fin 2 → IVec S16 32) a x).toNat < S32x129.size a)
theorem k0_idx84_inb : ∀ (v4 : IVec S16 32) (v2220 : IVec S16 32) (k0_hw84 : k0_chk84 v4 v2220), ∀ a x, ((![v4, v2220] : Fin 2 → IVec S16 32) a x).toNat < S32x129.size a := fun v4 v2220 k0_hw84 => k0_hw84

def k0_chk85 (v2 : IVec S16 32) (v2228 : IVec S16 32) : Prop :=
  (∀ a x, ((![v2, v2228] : Fin 2 → IVec S16 32) a x).toNat < S32x129.size a)
theorem k0_idx85_inb : ∀ (v2 : IVec S16 32) (v2228 : IVec S16 32) (k0_hw85 : k0_chk85 v2 v2228), ∀ a x, ((![v2, v2228] : Fin 2 → IVec S16 32) a x).toNat < S32x129.size a := fun v2 v2228 k0_hw85 => k0_hw85

def k0_chk86 (v4 : IVec S16 32) (v2236 : IVec S16 32) : Prop :=
  (∀ a x, ((![v4, v2236] : Fin 2 → IVec S16 32) a x).toNat < S32x129.size a)
theorem k0_idx86_inb : ∀ (v4 : IVec S16 32) (v2236 : IVec S16 32) (k0_hw86 : k0_chk86 v4 v2236), ∀ a x, ((![v4, v2236] : Fin 2 → IVec S16 32) a x).toNat < S32x129.size a := fun v4 v2236 k0_hw86 => k0_hw86

def k0_chk87 (v2 : IVec S16 32) (v2244 : IVec S16 32) : Prop :=
  (∀ a x, ((![v2, v2244] : Fin 2 → IVec S16 32) a x).toNat < S32x129.size a)
theorem k0_idx87_inb : ∀ (v2 : IVec S16 32) (v2244 : IVec S16 32) (k0_hw87 : k0_chk87 v2 v2244), ∀ a x, ((![v2, v2244] : Fin 2 → IVec S16 32) a x).toNat < S32x129.size a := fun v2 v2244 k0_hw87 => k0_hw87

def k0_chk88 (v4 : IVec S16 32) (v2252 : IVec S16 32) : Prop :=
  (∀ a x, ((![v4, v2252] : Fin 2 → IVec S16 32) a x).toNat < S32x129.size a)
theorem k0_idx88_inb : ∀ (v4 : IVec S16 32) (v2252 : IVec S16 32) (k0_hw88 : k0_chk88 v4 v2252), ∀ a x, ((![v4, v2252] : Fin 2 → IVec S16 32) a x).toNat < S32x129.size a := fun v4 v2252 k0_hw88 => k0_hw88

def k0_chk89 (v2 : IVec S16 32) (v2260 : IVec S16 32) : Prop :=
  (∀ a x, ((![v2, v2260] : Fin 2 → IVec S16 32) a x).toNat < S32x129.size a)
theorem k0_idx89_inb : ∀ (v2 : IVec S16 32) (v2260 : IVec S16 32) (k0_hw89 : k0_chk89 v2 v2260), ∀ a x, ((![v2, v2260] : Fin 2 → IVec S16 32) a x).toNat < S32x129.size a := fun v2 v2260 k0_hw89 => k0_hw89

def k0_chk90 (v4 : IVec S16 32) (v2268 : IVec S16 32) : Prop :=
  (∀ a x, ((![v4, v2268] : Fin 2 → IVec S16 32) a x).toNat < S32x129.size a)
theorem k0_idx90_inb : ∀ (v4 : IVec S16 32) (v2268 : IVec S16 32) (k0_hw90 : k0_chk90 v4 v2268), ∀ a x, ((![v4, v2268] : Fin 2 → IVec S16 32) a x).toNat < S32x129.size a := fun v4 v2268 k0_hw90 => k0_hw90

def k0_chk91 (v2 : IVec S16 32) (v2276 : IVec S16 32) : Prop :=
  (∀ a x, ((![v2, v2276] : Fin 2 → IVec S16 32) a x).toNat < S32x129.size a)
theorem k0_idx91_inb : ∀ (v2 : IVec S16 32) (v2276 : IVec S16 32) (k0_hw91 : k0_chk91 v2 v2276), ∀ a x, ((![v2, v2276] : Fin 2 → IVec S16 32) a x).toNat < S32x129.size a := fun v2 v2276 k0_hw91 => k0_hw91

def k0_chk92 (v4 : IVec S16 32) (v2284 : IVec S16 32) : Prop :=
  (∀ a x, ((![v4, v2284] : Fin 2 → IVec S16 32) a x).toNat < S32x129.size a)
theorem k0_idx92_inb : ∀ (v4 : IVec S16 32) (v2284 : IVec S16 32) (k0_hw92 : k0_chk92 v4 v2284), ∀ a x, ((![v4, v2284] : Fin 2 → IVec S16 32) a x).toNat < S32x129.size a := fun v4 v2284 k0_hw92 => k0_hw92

def k0_chk93 (v2 : IVec S16 32) (v2292 : IVec S16 32) : Prop :=
  (∀ a x, ((![v2, v2292] : Fin 2 → IVec S16 32) a x).toNat < S32x129.size a)
theorem k0_idx93_inb : ∀ (v2 : IVec S16 32) (v2292 : IVec S16 32) (k0_hw93 : k0_chk93 v2 v2292), ∀ a x, ((![v2, v2292] : Fin 2 → IVec S16 32) a x).toNat < S32x129.size a := fun v2 v2292 k0_hw93 => k0_hw93

def k0_chk94 (v4 : IVec S16 32) (v2300 : IVec S16 32) : Prop :=
  (∀ a x, ((![v4, v2300] : Fin 2 → IVec S16 32) a x).toNat < S32x129.size a)
theorem k0_idx94_inb : ∀ (v4 : IVec S16 32) (v2300 : IVec S16 32) (k0_hw94 : k0_chk94 v4 v2300), ∀ a x, ((![v4, v2300] : Fin 2 → IVec S16 32) a x).toNat < S32x129.size a := fun v4 v2300 k0_hw94 => k0_hw94

def k0_chk95 (v2 : IVec S16 32) (v2308 : IVec S16 32) : Prop :=
  (∀ a x, ((![v2, v2308] : Fin 2 → IVec S16 32) a x).toNat < S32x129.size a)
theorem k0_idx95_inb : ∀ (v2 : IVec S16 32) (v2308 : IVec S16 32) (k0_hw95 : k0_chk95 v2 v2308), ∀ a x, ((![v2, v2308] : Fin 2 → IVec S16 32) a x).toNat < S32x129.size a := fun v2 v2308 k0_hw95 => k0_hw95

def k0_chk96 (v4 : IVec S16 32) (v2316 : IVec S16 32) : Prop :=
  (∀ a x, ((![v4, v2316] : Fin 2 → IVec S16 32) a x).toNat < S32x129.size a)
theorem k0_idx96_inb : ∀ (v4 : IVec S16 32) (v2316 : IVec S16 32) (k0_hw96 : k0_chk96 v4 v2316), ∀ a x, ((![v4, v2316] : Fin 2 → IVec S16 32) a x).toNat < S32x129.size a := fun v4 v2316 k0_hw96 => k0_hw96

def k0_chk97 (v2 : IVec S16 32) (v2324 : IVec S16 32) : Prop :=
  (∀ a x, ((![v2, v2324] : Fin 2 → IVec S16 32) a x).toNat < S32x129.size a)
theorem k0_idx97_inb : ∀ (v2 : IVec S16 32) (v2324 : IVec S16 32) (k0_hw97 : k0_chk97 v2 v2324), ∀ a x, ((![v2, v2324] : Fin 2 → IVec S16 32) a x).toNat < S32x129.size a := fun v2 v2324 k0_hw97 => k0_hw97

def k0_chk98 (v4 : IVec S16 32) (v2332 : IVec S16 32) : Prop :=
  (∀ a x, ((![v4, v2332] : Fin 2 → IVec S16 32) a x).toNat < S32x129.size a)
theorem k0_idx98_inb : ∀ (v4 : IVec S16 32) (v2332 : IVec S16 32) (k0_hw98 : k0_chk98 v4 v2332), ∀ a x, ((![v4, v2332] : Fin 2 → IVec S16 32) a x).toNat < S32x129.size a := fun v4 v2332 k0_hw98 => k0_hw98

def k0_chk99 (v2 : IVec S16 32) (v2340 : IVec S16 32) : Prop :=
  (∀ a x, ((![v2, v2340] : Fin 2 → IVec S16 32) a x).toNat < S32x129.size a)
theorem k0_idx99_inb : ∀ (v2 : IVec S16 32) (v2340 : IVec S16 32) (k0_hw99 : k0_chk99 v2 v2340), ∀ a x, ((![v2, v2340] : Fin 2 → IVec S16 32) a x).toNat < S32x129.size a := fun v2 v2340 k0_hw99 => k0_hw99

def k0_chk100 (v4 : IVec S16 32) (v2348 : IVec S16 32) : Prop :=
  (∀ a x, ((![v4, v2348] : Fin 2 → IVec S16 32) a x).toNat < S32x129.size a)
theorem k0_idx100_inb : ∀ (v4 : IVec S16 32) (v2348 : IVec S16 32) (k0_hw100 : k0_chk100 v4 v2348), ∀ a x, ((![v4, v2348] : Fin 2 → IVec S16 32) a x).toNat < S32x129.size a := fun v4 v2348 k0_hw100 => k0_hw100

def k0_chk101 (v2 : IVec S16 32) (v2356 : IVec S16 32) : Prop :=
  (∀ a x, ((![v2, v2356] : Fin 2 → IVec S16 32) a x).toNat < S32x129.size a)
theorem k0_idx101_inb : ∀ (v2 : IVec S16 32) (v2356 : IVec S16 32) (k0_hw101 : k0_chk101 v2 v2356), ∀ a x, ((![v2, v2356] : Fin 2 → IVec S16 32) a x).toNat < S32x129.size a := fun v2 v2356 k0_hw101 => k0_hw101

def k0_chk102 (v4 : IVec S16 32) (v2364 : IVec S16 32) : Prop :=
  (∀ a x, ((![v4, v2364] : Fin 2 → IVec S16 32) a x).toNat < S32x129.size a)
theorem k0_idx102_inb : ∀ (v4 : IVec S16 32) (v2364 : IVec S16 32) (k0_hw102 : k0_chk102 v4 v2364), ∀ a x, ((![v4, v2364] : Fin 2 → IVec S16 32) a x).toNat < S32x129.size a := fun v4 v2364 k0_hw102 => k0_hw102

def k0_chk103 (v2 : IVec S16 32) (v2372 : IVec S16 32) : Prop :=
  (∀ a x, ((![v2, v2372] : Fin 2 → IVec S16 32) a x).toNat < S32x129.size a)
theorem k0_idx103_inb : ∀ (v2 : IVec S16 32) (v2372 : IVec S16 32) (k0_hw103 : k0_chk103 v2 v2372), ∀ a x, ((![v2, v2372] : Fin 2 → IVec S16 32) a x).toNat < S32x129.size a := fun v2 v2372 k0_hw103 => k0_hw103

def k0_chk104 (v4 : IVec S16 32) (v2380 : IVec S16 32) : Prop :=
  (∀ a x, ((![v4, v2380] : Fin 2 → IVec S16 32) a x).toNat < S32x129.size a)
theorem k0_idx104_inb : ∀ (v4 : IVec S16 32) (v2380 : IVec S16 32) (k0_hw104 : k0_chk104 v4 v2380), ∀ a x, ((![v4, v2380] : Fin 2 → IVec S16 32) a x).toNat < S32x129.size a := fun v4 v2380 k0_hw104 => k0_hw104

def k0_chk105 (v2 : IVec S16 32) (v2388 : IVec S16 32) : Prop :=
  (∀ a x, ((![v2, v2388] : Fin 2 → IVec S16 32) a x).toNat < S32x129.size a)
theorem k0_idx105_inb : ∀ (v2 : IVec S16 32) (v2388 : IVec S16 32) (k0_hw105 : k0_chk105 v2 v2388), ∀ a x, ((![v2, v2388] : Fin 2 → IVec S16 32) a x).toNat < S32x129.size a := fun v2 v2388 k0_hw105 => k0_hw105

def k0_chk106 (v4 : IVec S16 32) (v2396 : IVec S16 32) : Prop :=
  (∀ a x, ((![v4, v2396] : Fin 2 → IVec S16 32) a x).toNat < S32x129.size a)
theorem k0_idx106_inb : ∀ (v4 : IVec S16 32) (v2396 : IVec S16 32) (k0_hw106 : k0_chk106 v4 v2396), ∀ a x, ((![v4, v2396] : Fin 2 → IVec S16 32) a x).toNat < S32x129.size a := fun v4 v2396 k0_hw106 => k0_hw106

def k0_chk107 (v2 : IVec S16 32) (v2404 : IVec S16 32) : Prop :=
  (∀ a x, ((![v2, v2404] : Fin 2 → IVec S16 32) a x).toNat < S32x129.size a)
theorem k0_idx107_inb : ∀ (v2 : IVec S16 32) (v2404 : IVec S16 32) (k0_hw107 : k0_chk107 v2 v2404), ∀ a x, ((![v2, v2404] : Fin 2 → IVec S16 32) a x).toNat < S32x129.size a := fun v2 v2404 k0_hw107 => k0_hw107

def k0_chk108 (v4 : IVec S16 32) (v2412 : IVec S16 32) : Prop :=
  (∀ a x, ((![v4, v2412] : Fin 2 → IVec S16 32) a x).toNat < S32x129.size a)
theorem k0_idx108_inb : ∀ (v4 : IVec S16 32) (v2412 : IVec S16 32) (k0_hw108 : k0_chk108 v4 v2412), ∀ a x, ((![v4, v2412] : Fin 2 → IVec S16 32) a x).toNat < S32x129.size a := fun v4 v2412 k0_hw108 => k0_hw108

def k0_chk109 (v2 : IVec S16 32) (v2420 : IVec S16 32) : Prop :=
  (∀ a x, ((![v2, v2420] : Fin 2 → IVec S16 32) a x).toNat < S32x129.size a)
theorem k0_idx109_inb : ∀ (v2 : IVec S16 32) (v2420 : IVec S16 32) (k0_hw109 : k0_chk109 v2 v2420), ∀ a x, ((![v2, v2420] : Fin 2 → IVec S16 32) a x).toNat < S32x129.size a := fun v2 v2420 k0_hw109 => k0_hw109

def k0_chk110 (v4 : IVec S16 32) (v2428 : IVec S16 32) : Prop :=
  (∀ a x, ((![v4, v2428] : Fin 2 → IVec S16 32) a x).toNat < S32x129.size a)
theorem k0_idx110_inb : ∀ (v4 : IVec S16 32) (v2428 : IVec S16 32) (k0_hw110 : k0_chk110 v4 v2428), ∀ a x, ((![v4, v2428] : Fin 2 → IVec S16 32) a x).toNat < S32x129.size a := fun v4 v2428 k0_hw110 => k0_hw110

def k0_chk111 (v2 : IVec S16 32) (v2436 : IVec S16 32) : Prop :=
  (∀ a x, ((![v2, v2436] : Fin 2 → IVec S16 32) a x).toNat < S32x129.size a)
theorem k0_idx111_inb : ∀ (v2 : IVec S16 32) (v2436 : IVec S16 32) (k0_hw111 : k0_chk111 v2 v2436), ∀ a x, ((![v2, v2436] : Fin 2 → IVec S16 32) a x).toNat < S32x129.size a := fun v2 v2436 k0_hw111 => k0_hw111

def k0_chk112 (v4 : IVec S16 32) (v2444 : IVec S16 32) : Prop :=
  (∀ a x, ((![v4, v2444] : Fin 2 → IVec S16 32) a x).toNat < S32x129.size a)
theorem k0_idx112_inb : ∀ (v4 : IVec S16 32) (v2444 : IVec S16 32) (k0_hw112 : k0_chk112 v4 v2444), ∀ a x, ((![v4, v2444] : Fin 2 → IVec S16 32) a x).toNat < S32x129.size a := fun v4 v2444 k0_hw112 => k0_hw112

def k0_chk113 (v2 : IVec S16 32) (v2452 : IVec S16 32) : Prop :=
  (∀ a x, ((![v2, v2452] : Fin 2 → IVec S16 32) a x).toNat < S32x129.size a)
theorem k0_idx113_inb : ∀ (v2 : IVec S16 32) (v2452 : IVec S16 32) (k0_hw113 : k0_chk113 v2 v2452), ∀ a x, ((![v2, v2452] : Fin 2 → IVec S16 32) a x).toNat < S32x129.size a := fun v2 v2452 k0_hw113 => k0_hw113

def k0_chk114 (v4 : IVec S16 32) (v2460 : IVec S16 32) : Prop :=
  (∀ a x, ((![v4, v2460] : Fin 2 → IVec S16 32) a x).toNat < S32x129.size a)
theorem k0_idx114_inb : ∀ (v4 : IVec S16 32) (v2460 : IVec S16 32) (k0_hw114 : k0_chk114 v4 v2460), ∀ a x, ((![v4, v2460] : Fin 2 → IVec S16 32) a x).toNat < S32x129.size a := fun v4 v2460 k0_hw114 => k0_hw114

def k0_chk115 (v2 : IVec S16 32) (v2468 : IVec S16 32) : Prop :=
  (∀ a x, ((![v2, v2468] : Fin 2 → IVec S16 32) a x).toNat < S32x129.size a)
theorem k0_idx115_inb : ∀ (v2 : IVec S16 32) (v2468 : IVec S16 32) (k0_hw115 : k0_chk115 v2 v2468), ∀ a x, ((![v2, v2468] : Fin 2 → IVec S16 32) a x).toNat < S32x129.size a := fun v2 v2468 k0_hw115 => k0_hw115

def k0_chk116 (v4 : IVec S16 32) (v2476 : IVec S16 32) : Prop :=
  (∀ a x, ((![v4, v2476] : Fin 2 → IVec S16 32) a x).toNat < S32x129.size a)
theorem k0_idx116_inb : ∀ (v4 : IVec S16 32) (v2476 : IVec S16 32) (k0_hw116 : k0_chk116 v4 v2476), ∀ a x, ((![v4, v2476] : Fin 2 → IVec S16 32) a x).toNat < S32x129.size a := fun v4 v2476 k0_hw116 => k0_hw116

def k0_chk117 (v2 : IVec S16 32) (v2484 : IVec S16 32) : Prop :=
  (∀ a x, ((![v2, v2484] : Fin 2 → IVec S16 32) a x).toNat < S32x129.size a)
theorem k0_idx117_inb : ∀ (v2 : IVec S16 32) (v2484 : IVec S16 32) (k0_hw117 : k0_chk117 v2 v2484), ∀ a x, ((![v2, v2484] : Fin 2 → IVec S16 32) a x).toNat < S32x129.size a := fun v2 v2484 k0_hw117 => k0_hw117

def k0_chk118 (v4 : IVec S16 32) (v2492 : IVec S16 32) : Prop :=
  (∀ a x, ((![v4, v2492] : Fin 2 → IVec S16 32) a x).toNat < S32x129.size a)
theorem k0_idx118_inb : ∀ (v4 : IVec S16 32) (v2492 : IVec S16 32) (k0_hw118 : k0_chk118 v4 v2492), ∀ a x, ((![v4, v2492] : Fin 2 → IVec S16 32) a x).toNat < S32x129.size a := fun v4 v2492 k0_hw118 => k0_hw118

def k0_chk119 (v2 : IVec S16 32) (v2500 : IVec S16 32) : Prop :=
  (∀ a x, ((![v2, v2500] : Fin 2 → IVec S16 32) a x).toNat < S32x129.size a)
theorem k0_idx119_inb : ∀ (v2 : IVec S16 32) (v2500 : IVec S16 32) (k0_hw119 : k0_chk119 v2 v2500), ∀ a x, ((![v2, v2500] : Fin 2 → IVec S16 32) a x).toNat < S32x129.size a := fun v2 v2500 k0_hw119 => k0_hw119

def k0_chk120 (v4 : IVec S16 32) (v2508 : IVec S16 32) : Prop :=
  (∀ a x, ((![v4, v2508] : Fin 2 → IVec S16 32) a x).toNat < S32x129.size a)
theorem k0_idx120_inb : ∀ (v4 : IVec S16 32) (v2508 : IVec S16 32) (k0_hw120 : k0_chk120 v4 v2508), ∀ a x, ((![v4, v2508] : Fin 2 → IVec S16 32) a x).toNat < S32x129.size a := fun v4 v2508 k0_hw120 => k0_hw120

def k0_chk121 (v2 : IVec S16 32) (v2516 : IVec S16 32) : Prop :=
  (∀ a x, ((![v2, v2516] : Fin 2 → IVec S16 32) a x).toNat < S32x129.size a)
theorem k0_idx121_inb : ∀ (v2 : IVec S16 32) (v2516 : IVec S16 32) (k0_hw121 : k0_chk121 v2 v2516), ∀ a x, ((![v2, v2516] : Fin 2 → IVec S16 32) a x).toNat < S32x129.size a := fun v2 v2516 k0_hw121 => k0_hw121

def k0_chk122 (v4 : IVec S16 32) (v2524 : IVec S16 32) : Prop :=
  (∀ a x, ((![v4, v2524] : Fin 2 → IVec S16 32) a x).toNat < S32x129.size a)
theorem k0_idx122_inb : ∀ (v4 : IVec S16 32) (v2524 : IVec S16 32) (k0_hw122 : k0_chk122 v4 v2524), ∀ a x, ((![v4, v2524] : Fin 2 → IVec S16 32) a x).toNat < S32x129.size a := fun v4 v2524 k0_hw122 => k0_hw122

def k0_chk123 (v2 : IVec S16 32) (v2532 : IVec S16 32) : Prop :=
  (∀ a x, ((![v2, v2532] : Fin 2 → IVec S16 32) a x).toNat < S32x129.size a)
theorem k0_idx123_inb : ∀ (v2 : IVec S16 32) (v2532 : IVec S16 32) (k0_hw123 : k0_chk123 v2 v2532), ∀ a x, ((![v2, v2532] : Fin 2 → IVec S16 32) a x).toNat < S32x129.size a := fun v2 v2532 k0_hw123 => k0_hw123

def k0_chk124 (v4 : IVec S16 32) (v2540 : IVec S16 32) : Prop :=
  (∀ a x, ((![v4, v2540] : Fin 2 → IVec S16 32) a x).toNat < S32x129.size a)
theorem k0_idx124_inb : ∀ (v4 : IVec S16 32) (v2540 : IVec S16 32) (k0_hw124 : k0_chk124 v4 v2540), ∀ a x, ((![v4, v2540] : Fin 2 → IVec S16 32) a x).toNat < S32x129.size a := fun v4 v2540 k0_hw124 => k0_hw124

def k0_chk125 (v2 : IVec S16 32) (v2548 : IVec S16 32) : Prop :=
  (∀ a x, ((![v2, v2548] : Fin 2 → IVec S16 32) a x).toNat < S32x129.size a)
theorem k0_idx125_inb : ∀ (v2 : IVec S16 32) (v2548 : IVec S16 32) (k0_hw125 : k0_chk125 v2 v2548), ∀ a x, ((![v2, v2548] : Fin 2 → IVec S16 32) a x).toNat < S32x129.size a := fun v2 v2548 k0_hw125 => k0_hw125

def k0_chk126 (v4 : IVec S16 32) (v2556 : IVec S16 32) : Prop :=
  (∀ a x, ((![v4, v2556] : Fin 2 → IVec S16 32) a x).toNat < S32x129.size a)
theorem k0_idx126_inb : ∀ (v4 : IVec S16 32) (v2556 : IVec S16 32) (k0_hw126 : k0_chk126 v4 v2556), ∀ a x, ((![v4, v2556] : Fin 2 → IVec S16 32) a x).toNat < S32x129.size a := fun v4 v2556 k0_hw126 => k0_hw126

def k0_chk127 (v2 : IVec S16 32) (v2564 : IVec S16 32) : Prop :=
  (∀ a x, ((![v2, v2564] : Fin 2 → IVec S16 32) a x).toNat < S32x129.size a)
theorem k0_idx127_inb : ∀ (v2 : IVec S16 32) (v2564 : IVec S16 32) (k0_hw127 : k0_chk127 v2 v2564), ∀ a x, ((![v2, v2564] : Fin 2 → IVec S16 32) a x).toNat < S32x129.size a := fun v2 v2564 k0_hw127 => k0_hw127

def k0_chk128 (v4 : IVec S16 32) (v2572 : IVec S16 32) : Prop :=
  (∀ a x, ((![v4, v2572] : Fin 2 → IVec S16 32) a x).toNat < S32x129.size a)
theorem k0_idx128_inb : ∀ (v4 : IVec S16 32) (v2572 : IVec S16 32) (k0_hw128 : k0_chk128 v4 v2572), ∀ a x, ((![v4, v2572] : Fin 2 → IVec S16 32) a x).toNat < S32x129.size a := fun v4 v2572 k0_hw128 => k0_hw128

def k0_chk129 (v2 : IVec S16 32) (v2580 : IVec S16 32) : Prop :=
  (∀ a x, ((![v2, v2580] : Fin 2 → IVec S16 32) a x).toNat < S32x129.size a)
theorem k0_idx129_inb : ∀ (v2 : IVec S16 32) (v2580 : IVec S16 32) (k0_hw129 : k0_chk129 v2 v2580), ∀ a x, ((![v2, v2580] : Fin 2 → IVec S16 32) a x).toNat < S32x129.size a := fun v2 v2580 k0_hw129 => k0_hw129

def k0_chk130 (v4 : IVec S16 32) (v2588 : IVec S16 32) : Prop :=
  (∀ a x, ((![v4, v2588] : Fin 2 → IVec S16 32) a x).toNat < S32x129.size a)
theorem k0_idx130_inb : ∀ (v4 : IVec S16 32) (v2588 : IVec S16 32) (k0_hw130 : k0_chk130 v4 v2588), ∀ a x, ((![v4, v2588] : Fin 2 → IVec S16 32) a x).toNat < S32x129.size a := fun v4 v2588 k0_hw130 => k0_hw130

def k0_chk131 (v2 : IVec S16 32) (v2596 : IVec S16 32) : Prop :=
  (∀ a x, ((![v2, v2596] : Fin 2 → IVec S16 32) a x).toNat < S32x129.size a)
theorem k0_idx131_inb : ∀ (v2 : IVec S16 32) (v2596 : IVec S16 32) (k0_hw131 : k0_chk131 v2 v2596), ∀ a x, ((![v2, v2596] : Fin 2 → IVec S16 32) a x).toNat < S32x129.size a := fun v2 v2596 k0_hw131 => k0_hw131

def k0_chk132 (v4 : IVec S16 32) (v2604 : IVec S16 32) : Prop :=
  (∀ a x, ((![v4, v2604] : Fin 2 → IVec S16 32) a x).toNat < S32x129.size a)
theorem k0_idx132_inb : ∀ (v4 : IVec S16 32) (v2604 : IVec S16 32) (k0_hw132 : k0_chk132 v4 v2604), ∀ a x, ((![v4, v2604] : Fin 2 → IVec S16 32) a x).toNat < S32x129.size a := fun v4 v2604 k0_hw132 => k0_hw132

def k0_chk133 (v2 : IVec S16 32) (v2612 : IVec S16 32) : Prop :=
  (∀ a x, ((![v2, v2612] : Fin 2 → IVec S16 32) a x).toNat < S32x129.size a)
theorem k0_idx133_inb : ∀ (v2 : IVec S16 32) (v2612 : IVec S16 32) (k0_hw133 : k0_chk133 v2 v2612), ∀ a x, ((![v2, v2612] : Fin 2 → IVec S16 32) a x).toNat < S32x129.size a := fun v2 v2612 k0_hw133 => k0_hw133

def k0_chk134 (v4 : IVec S16 32) (v2620 : IVec S16 32) : Prop :=
  (∀ a x, ((![v4, v2620] : Fin 2 → IVec S16 32) a x).toNat < S32x129.size a)
theorem k0_idx134_inb : ∀ (v4 : IVec S16 32) (v2620 : IVec S16 32) (k0_hw134 : k0_chk134 v4 v2620), ∀ a x, ((![v4, v2620] : Fin 2 → IVec S16 32) a x).toNat < S32x129.size a := fun v4 v2620 k0_hw134 => k0_hw134

def k0_chk135 (v2 : IVec S16 32) (v2628 : IVec S16 32) : Prop :=
  (∀ a x, ((![v2, v2628] : Fin 2 → IVec S16 32) a x).toNat < S32x129.size a)
theorem k0_idx135_inb : ∀ (v2 : IVec S16 32) (v2628 : IVec S16 32) (k0_hw135 : k0_chk135 v2 v2628), ∀ a x, ((![v2, v2628] : Fin 2 → IVec S16 32) a x).toNat < S32x129.size a := fun v2 v2628 k0_hw135 => k0_hw135

def k0_chk136 (v4 : IVec S16 32) (v2636 : IVec S16 32) : Prop :=
  (∀ a x, ((![v4, v2636] : Fin 2 → IVec S16 32) a x).toNat < S32x129.size a)
theorem k0_idx136_inb : ∀ (v4 : IVec S16 32) (v2636 : IVec S16 32) (k0_hw136 : k0_chk136 v4 v2636), ∀ a x, ((![v4, v2636] : Fin 2 → IVec S16 32) a x).toNat < S32x129.size a := fun v4 v2636 k0_hw136 => k0_hw136

def k0_chk137 (v2 : IVec S16 32) (v2644 : IVec S16 32) : Prop :=
  (∀ a x, ((![v2, v2644] : Fin 2 → IVec S16 32) a x).toNat < S32x129.size a)
theorem k0_idx137_inb : ∀ (v2 : IVec S16 32) (v2644 : IVec S16 32) (k0_hw137 : k0_chk137 v2 v2644), ∀ a x, ((![v2, v2644] : Fin 2 → IVec S16 32) a x).toNat < S32x129.size a := fun v2 v2644 k0_hw137 => k0_hw137

def k0_chk138 (v4 : IVec S16 32) (v2652 : IVec S16 32) : Prop :=
  (∀ a x, ((![v4, v2652] : Fin 2 → IVec S16 32) a x).toNat < S32x129.size a)
theorem k0_idx138_inb : ∀ (v4 : IVec S16 32) (v2652 : IVec S16 32) (k0_hw138 : k0_chk138 v4 v2652), ∀ a x, ((![v4, v2652] : Fin 2 → IVec S16 32) a x).toNat < S32x129.size a := fun v4 v2652 k0_hw138 => k0_hw138

def k0_chk139 (v2 : IVec S16 32) (v2660 : IVec S16 32) : Prop :=
  (∀ a x, ((![v2, v2660] : Fin 2 → IVec S16 32) a x).toNat < S32x129.size a)
theorem k0_idx139_inb : ∀ (v2 : IVec S16 32) (v2660 : IVec S16 32) (k0_hw139 : k0_chk139 v2 v2660), ∀ a x, ((![v2, v2660] : Fin 2 → IVec S16 32) a x).toNat < S32x129.size a := fun v2 v2660 k0_hw139 => k0_hw139

def k0_chk140 (v4 : IVec S16 32) (v2668 : IVec S16 32) : Prop :=
  (∀ a x, ((![v4, v2668] : Fin 2 → IVec S16 32) a x).toNat < S32x129.size a)
theorem k0_idx140_inb : ∀ (v4 : IVec S16 32) (v2668 : IVec S16 32) (k0_hw140 : k0_chk140 v4 v2668), ∀ a x, ((![v4, v2668] : Fin 2 → IVec S16 32) a x).toNat < S32x129.size a := fun v4 v2668 k0_hw140 => k0_hw140

def k0_chk141 (v2 : IVec S16 32) (v2676 : IVec S16 32) : Prop :=
  (∀ a x, ((![v2, v2676] : Fin 2 → IVec S16 32) a x).toNat < S32x129.size a)
theorem k0_idx141_inb : ∀ (v2 : IVec S16 32) (v2676 : IVec S16 32) (k0_hw141 : k0_chk141 v2 v2676), ∀ a x, ((![v2, v2676] : Fin 2 → IVec S16 32) a x).toNat < S32x129.size a := fun v2 v2676 k0_hw141 => k0_hw141

def k0_chk142 (v4 : IVec S16 32) (v2684 : IVec S16 32) : Prop :=
  (∀ a x, ((![v4, v2684] : Fin 2 → IVec S16 32) a x).toNat < S32x129.size a)
theorem k0_idx142_inb : ∀ (v4 : IVec S16 32) (v2684 : IVec S16 32) (k0_hw142 : k0_chk142 v4 v2684), ∀ a x, ((![v4, v2684] : Fin 2 → IVec S16 32) a x).toNat < S32x129.size a := fun v4 v2684 k0_hw142 => k0_hw142

def k0_chk143 (v2 : IVec S16 32) (v2692 : IVec S16 32) : Prop :=
  (∀ a x, ((![v2, v2692] : Fin 2 → IVec S16 32) a x).toNat < S32x129.size a)
theorem k0_idx143_inb : ∀ (v2 : IVec S16 32) (v2692 : IVec S16 32) (k0_hw143 : k0_chk143 v2 v2692), ∀ a x, ((![v2, v2692] : Fin 2 → IVec S16 32) a x).toNat < S32x129.size a := fun v2 v2692 k0_hw143 => k0_hw143

def k0_chk144 (v4 : IVec S16 32) (v2700 : IVec S16 32) : Prop :=
  (∀ a x, ((![v4, v2700] : Fin 2 → IVec S16 32) a x).toNat < S32x129.size a)
theorem k0_idx144_inb : ∀ (v4 : IVec S16 32) (v2700 : IVec S16 32) (k0_hw144 : k0_chk144 v4 v2700), ∀ a x, ((![v4, v2700] : Fin 2 → IVec S16 32) a x).toNat < S32x129.size a := fun v4 v2700 k0_hw144 => k0_hw144

def k0_chk145 (v2 : IVec S16 32) (v2708 : IVec S16 32) : Prop :=
  (∀ a x, ((![v2, v2708] : Fin 2 → IVec S16 32) a x).toNat < S32x129.size a)
theorem k0_idx145_inb : ∀ (v2 : IVec S16 32) (v2708 : IVec S16 32) (k0_hw145 : k0_chk145 v2 v2708), ∀ a x, ((![v2, v2708] : Fin 2 → IVec S16 32) a x).toNat < S32x129.size a := fun v2 v2708 k0_hw145 => k0_hw145

def k0_chk146 (v4 : IVec S16 32) (v2716 : IVec S16 32) : Prop :=
  (∀ a x, ((![v4, v2716] : Fin 2 → IVec S16 32) a x).toNat < S32x129.size a)
theorem k0_idx146_inb : ∀ (v4 : IVec S16 32) (v2716 : IVec S16 32) (k0_hw146 : k0_chk146 v4 v2716), ∀ a x, ((![v4, v2716] : Fin 2 → IVec S16 32) a x).toNat < S32x129.size a := fun v4 v2716 k0_hw146 => k0_hw146

def k0_chk147 (v2 : IVec S16 32) (v2724 : IVec S16 32) : Prop :=
  (∀ a x, ((![v2, v2724] : Fin 2 → IVec S16 32) a x).toNat < S32x129.size a)
theorem k0_idx147_inb : ∀ (v2 : IVec S16 32) (v2724 : IVec S16 32) (k0_hw147 : k0_chk147 v2 v2724), ∀ a x, ((![v2, v2724] : Fin 2 → IVec S16 32) a x).toNat < S32x129.size a := fun v2 v2724 k0_hw147 => k0_hw147

def k0_chk148 (v4 : IVec S16 32) (v2732 : IVec S16 32) : Prop :=
  (∀ a x, ((![v4, v2732] : Fin 2 → IVec S16 32) a x).toNat < S32x129.size a)
theorem k0_idx148_inb : ∀ (v4 : IVec S16 32) (v2732 : IVec S16 32) (k0_hw148 : k0_chk148 v4 v2732), ∀ a x, ((![v4, v2732] : Fin 2 → IVec S16 32) a x).toNat < S32x129.size a := fun v4 v2732 k0_hw148 => k0_hw148

def k0_chk149 (v2 : IVec S16 32) (v2740 : IVec S16 32) : Prop :=
  (∀ a x, ((![v2, v2740] : Fin 2 → IVec S16 32) a x).toNat < S32x129.size a)
theorem k0_idx149_inb : ∀ (v2 : IVec S16 32) (v2740 : IVec S16 32) (k0_hw149 : k0_chk149 v2 v2740), ∀ a x, ((![v2, v2740] : Fin 2 → IVec S16 32) a x).toNat < S32x129.size a := fun v2 v2740 k0_hw149 => k0_hw149

def k0_chk150 (v4 : IVec S16 32) (v2748 : IVec S16 32) : Prop :=
  (∀ a x, ((![v4, v2748] : Fin 2 → IVec S16 32) a x).toNat < S32x129.size a)
theorem k0_idx150_inb : ∀ (v4 : IVec S16 32) (v2748 : IVec S16 32) (k0_hw150 : k0_chk150 v4 v2748), ∀ a x, ((![v4, v2748] : Fin 2 → IVec S16 32) a x).toNat < S32x129.size a := fun v4 v2748 k0_hw150 => k0_hw150

def k0_chk151 (v2 : IVec S16 32) (v2756 : IVec S16 32) : Prop :=
  (∀ a x, ((![v2, v2756] : Fin 2 → IVec S16 32) a x).toNat < S32x129.size a)
theorem k0_idx151_inb : ∀ (v2 : IVec S16 32) (v2756 : IVec S16 32) (k0_hw151 : k0_chk151 v2 v2756), ∀ a x, ((![v2, v2756] : Fin 2 → IVec S16 32) a x).toNat < S32x129.size a := fun v2 v2756 k0_hw151 => k0_hw151

def k0_chk152 (v4 : IVec S16 32) (v2764 : IVec S16 32) : Prop :=
  (∀ a x, ((![v4, v2764] : Fin 2 → IVec S16 32) a x).toNat < S32x129.size a)
theorem k0_idx152_inb : ∀ (v4 : IVec S16 32) (v2764 : IVec S16 32) (k0_hw152 : k0_chk152 v4 v2764), ∀ a x, ((![v4, v2764] : Fin 2 → IVec S16 32) a x).toNat < S32x129.size a := fun v4 v2764 k0_hw152 => k0_hw152

def k0_chk153 (v2 : IVec S16 32) (v2772 : IVec S16 32) : Prop :=
  (∀ a x, ((![v2, v2772] : Fin 2 → IVec S16 32) a x).toNat < S32x129.size a)
theorem k0_idx153_inb : ∀ (v2 : IVec S16 32) (v2772 : IVec S16 32) (k0_hw153 : k0_chk153 v2 v2772), ∀ a x, ((![v2, v2772] : Fin 2 → IVec S16 32) a x).toNat < S32x129.size a := fun v2 v2772 k0_hw153 => k0_hw153

def k0_chk154 (v4 : IVec S16 32) (v2780 : IVec S16 32) : Prop :=
  (∀ a x, ((![v4, v2780] : Fin 2 → IVec S16 32) a x).toNat < S32x129.size a)
theorem k0_idx154_inb : ∀ (v4 : IVec S16 32) (v2780 : IVec S16 32) (k0_hw154 : k0_chk154 v4 v2780), ∀ a x, ((![v4, v2780] : Fin 2 → IVec S16 32) a x).toNat < S32x129.size a := fun v4 v2780 k0_hw154 => k0_hw154

def k0_chk155 (v2 : IVec S16 32) (v2788 : IVec S16 32) : Prop :=
  (∀ a x, ((![v2, v2788] : Fin 2 → IVec S16 32) a x).toNat < S32x129.size a)
theorem k0_idx155_inb : ∀ (v2 : IVec S16 32) (v2788 : IVec S16 32) (k0_hw155 : k0_chk155 v2 v2788), ∀ a x, ((![v2, v2788] : Fin 2 → IVec S16 32) a x).toNat < S32x129.size a := fun v2 v2788 k0_hw155 => k0_hw155

def k0_chk156 (v4 : IVec S16 32) (v2796 : IVec S16 32) : Prop :=
  (∀ a x, ((![v4, v2796] : Fin 2 → IVec S16 32) a x).toNat < S32x129.size a)
theorem k0_idx156_inb : ∀ (v4 : IVec S16 32) (v2796 : IVec S16 32) (k0_hw156 : k0_chk156 v4 v2796), ∀ a x, ((![v4, v2796] : Fin 2 → IVec S16 32) a x).toNat < S32x129.size a := fun v4 v2796 k0_hw156 => k0_hw156

def k0_chk157 (v2 : IVec S16 32) (v2804 : IVec S16 32) : Prop :=
  (∀ a x, ((![v2, v2804] : Fin 2 → IVec S16 32) a x).toNat < S32x129.size a)
theorem k0_idx157_inb : ∀ (v2 : IVec S16 32) (v2804 : IVec S16 32) (k0_hw157 : k0_chk157 v2 v2804), ∀ a x, ((![v2, v2804] : Fin 2 → IVec S16 32) a x).toNat < S32x129.size a := fun v2 v2804 k0_hw157 => k0_hw157

def k0_chk158 (v4 : IVec S16 32) (v2812 : IVec S16 32) : Prop :=
  (∀ a x, ((![v4, v2812] : Fin 2 → IVec S16 32) a x).toNat < S32x129.size a)
theorem k0_idx158_inb : ∀ (v4 : IVec S16 32) (v2812 : IVec S16 32) (k0_hw158 : k0_chk158 v4 v2812), ∀ a x, ((![v4, v2812] : Fin 2 → IVec S16 32) a x).toNat < S32x129.size a := fun v4 v2812 k0_hw158 => k0_hw158

def k0_chk159 (v2 : IVec S16 32) (v2820 : IVec S16 32) : Prop :=
  (∀ a x, ((![v2, v2820] : Fin 2 → IVec S16 32) a x).toNat < S32x129.size a)
theorem k0_idx159_inb : ∀ (v2 : IVec S16 32) (v2820 : IVec S16 32) (k0_hw159 : k0_chk159 v2 v2820), ∀ a x, ((![v2, v2820] : Fin 2 → IVec S16 32) a x).toNat < S32x129.size a := fun v2 v2820 k0_hw159 => k0_hw159

def k0_chk160 (v4 : IVec S16 32) (v2828 : IVec S16 32) : Prop :=
  (∀ a x, ((![v4, v2828] : Fin 2 → IVec S16 32) a x).toNat < S32x129.size a)
theorem k0_idx160_inb : ∀ (v4 : IVec S16 32) (v2828 : IVec S16 32) (k0_hw160 : k0_chk160 v4 v2828), ∀ a x, ((![v4, v2828] : Fin 2 → IVec S16 32) a x).toNat < S32x129.size a := fun v4 v2828 k0_hw160 => k0_hw160

def k0_chk161 (v2 : IVec S16 32) (v2836 : IVec S16 32) : Prop :=
  (∀ a x, ((![v2, v2836] : Fin 2 → IVec S16 32) a x).toNat < S32x129.size a)
theorem k0_idx161_inb : ∀ (v2 : IVec S16 32) (v2836 : IVec S16 32) (k0_hw161 : k0_chk161 v2 v2836), ∀ a x, ((![v2, v2836] : Fin 2 → IVec S16 32) a x).toNat < S32x129.size a := fun v2 v2836 k0_hw161 => k0_hw161

def k0_chk162 (v4 : IVec S16 32) (v2844 : IVec S16 32) : Prop :=
  (∀ a x, ((![v4, v2844] : Fin 2 → IVec S16 32) a x).toNat < S32x129.size a)
theorem k0_idx162_inb : ∀ (v4 : IVec S16 32) (v2844 : IVec S16 32) (k0_hw162 : k0_chk162 v4 v2844), ∀ a x, ((![v4, v2844] : Fin 2 → IVec S16 32) a x).toNat < S32x129.size a := fun v4 v2844 k0_hw162 => k0_hw162

def k0_chk163 (v2 : IVec S16 32) (v2852 : IVec S16 32) : Prop :=
  (∀ a x, ((![v2, v2852] : Fin 2 → IVec S16 32) a x).toNat < S32x129.size a)
theorem k0_idx163_inb : ∀ (v2 : IVec S16 32) (v2852 : IVec S16 32) (k0_hw163 : k0_chk163 v2 v2852), ∀ a x, ((![v2, v2852] : Fin 2 → IVec S16 32) a x).toNat < S32x129.size a := fun v2 v2852 k0_hw163 => k0_hw163

def k0_chk164 (v4 : IVec S16 32) (v2860 : IVec S16 32) : Prop :=
  (∀ a x, ((![v4, v2860] : Fin 2 → IVec S16 32) a x).toNat < S32x129.size a)
theorem k0_idx164_inb : ∀ (v4 : IVec S16 32) (v2860 : IVec S16 32) (k0_hw164 : k0_chk164 v4 v2860), ∀ a x, ((![v4, v2860] : Fin 2 → IVec S16 32) a x).toNat < S32x129.size a := fun v4 v2860 k0_hw164 => k0_hw164

def k0_chk165 (v2 : IVec S16 32) (v2868 : IVec S16 32) : Prop :=
  (∀ a x, ((![v2, v2868] : Fin 2 → IVec S16 32) a x).toNat < S32x129.size a)
theorem k0_idx165_inb : ∀ (v2 : IVec S16 32) (v2868 : IVec S16 32) (k0_hw165 : k0_chk165 v2 v2868), ∀ a x, ((![v2, v2868] : Fin 2 → IVec S16 32) a x).toNat < S32x129.size a := fun v2 v2868 k0_hw165 => k0_hw165

def k0_chk166 (v4 : IVec S16 32) (v2876 : IVec S16 32) : Prop :=
  (∀ a x, ((![v4, v2876] : Fin 2 → IVec S16 32) a x).toNat < S32x129.size a)
theorem k0_idx166_inb : ∀ (v4 : IVec S16 32) (v2876 : IVec S16 32) (k0_hw166 : k0_chk166 v4 v2876), ∀ a x, ((![v4, v2876] : Fin 2 → IVec S16 32) a x).toNat < S32x129.size a := fun v4 v2876 k0_hw166 => k0_hw166

def k0_chk167 (v2 : IVec S16 32) (v2884 : IVec S16 32) : Prop :=
  (∀ a x, ((![v2, v2884] : Fin 2 → IVec S16 32) a x).toNat < S32x129.size a)
theorem k0_idx167_inb : ∀ (v2 : IVec S16 32) (v2884 : IVec S16 32) (k0_hw167 : k0_chk167 v2 v2884), ∀ a x, ((![v2, v2884] : Fin 2 → IVec S16 32) a x).toNat < S32x129.size a := fun v2 v2884 k0_hw167 => k0_hw167

def k0_chk168 (v4 : IVec S16 32) (v2892 : IVec S16 32) : Prop :=
  (∀ a x, ((![v4, v2892] : Fin 2 → IVec S16 32) a x).toNat < S32x129.size a)
theorem k0_idx168_inb : ∀ (v4 : IVec S16 32) (v2892 : IVec S16 32) (k0_hw168 : k0_chk168 v4 v2892), ∀ a x, ((![v4, v2892] : Fin 2 → IVec S16 32) a x).toNat < S32x129.size a := fun v4 v2892 k0_hw168 => k0_hw168

def k0_chk169 (v2 : IVec S16 32) (v2900 : IVec S16 32) : Prop :=
  (∀ a x, ((![v2, v2900] : Fin 2 → IVec S16 32) a x).toNat < S32x129.size a)
theorem k0_idx169_inb : ∀ (v2 : IVec S16 32) (v2900 : IVec S16 32) (k0_hw169 : k0_chk169 v2 v2900), ∀ a x, ((![v2, v2900] : Fin 2 → IVec S16 32) a x).toNat < S32x129.size a := fun v2 v2900 k0_hw169 => k0_hw169

def k0_chk170 (v4 : IVec S16 32) (v2908 : IVec S16 32) : Prop :=
  (∀ a x, ((![v4, v2908] : Fin 2 → IVec S16 32) a x).toNat < S32x129.size a)
theorem k0_idx170_inb : ∀ (v4 : IVec S16 32) (v2908 : IVec S16 32) (k0_hw170 : k0_chk170 v4 v2908), ∀ a x, ((![v4, v2908] : Fin 2 → IVec S16 32) a x).toNat < S32x129.size a := fun v4 v2908 k0_hw170 => k0_hw170

def k0_chk171 (v2 : IVec S16 32) (v2916 : IVec S16 32) : Prop :=
  (∀ a x, ((![v2, v2916] : Fin 2 → IVec S16 32) a x).toNat < S32x129.size a)
theorem k0_idx171_inb : ∀ (v2 : IVec S16 32) (v2916 : IVec S16 32) (k0_hw171 : k0_chk171 v2 v2916), ∀ a x, ((![v2, v2916] : Fin 2 → IVec S16 32) a x).toNat < S32x129.size a := fun v2 v2916 k0_hw171 => k0_hw171

def k0_chk172 (v4 : IVec S16 32) (v2924 : IVec S16 32) : Prop :=
  (∀ a x, ((![v4, v2924] : Fin 2 → IVec S16 32) a x).toNat < S32x129.size a)
theorem k0_idx172_inb : ∀ (v4 : IVec S16 32) (v2924 : IVec S16 32) (k0_hw172 : k0_chk172 v4 v2924), ∀ a x, ((![v4, v2924] : Fin 2 → IVec S16 32) a x).toNat < S32x129.size a := fun v4 v2924 k0_hw172 => k0_hw172

def k0_chk173 (v2 : IVec S16 32) (v2932 : IVec S16 32) : Prop :=
  (∀ a x, ((![v2, v2932] : Fin 2 → IVec S16 32) a x).toNat < S32x129.size a)
theorem k0_idx173_inb : ∀ (v2 : IVec S16 32) (v2932 : IVec S16 32) (k0_hw173 : k0_chk173 v2 v2932), ∀ a x, ((![v2, v2932] : Fin 2 → IVec S16 32) a x).toNat < S32x129.size a := fun v2 v2932 k0_hw173 => k0_hw173

def k0_chk174 (v4 : IVec S16 32) (v2940 : IVec S16 32) : Prop :=
  (∀ a x, ((![v4, v2940] : Fin 2 → IVec S16 32) a x).toNat < S32x129.size a)
theorem k0_idx174_inb : ∀ (v4 : IVec S16 32) (v2940 : IVec S16 32) (k0_hw174 : k0_chk174 v4 v2940), ∀ a x, ((![v4, v2940] : Fin 2 → IVec S16 32) a x).toNat < S32x129.size a := fun v4 v2940 k0_hw174 => k0_hw174

def k0_chk175 (v2 : IVec S16 32) (v2948 : IVec S16 32) : Prop :=
  (∀ a x, ((![v2, v2948] : Fin 2 → IVec S16 32) a x).toNat < S32x129.size a)
theorem k0_idx175_inb : ∀ (v2 : IVec S16 32) (v2948 : IVec S16 32) (k0_hw175 : k0_chk175 v2 v2948), ∀ a x, ((![v2, v2948] : Fin 2 → IVec S16 32) a x).toNat < S32x129.size a := fun v2 v2948 k0_hw175 => k0_hw175

def k0_chk176 (v4 : IVec S16 32) (v2956 : IVec S16 32) : Prop :=
  (∀ a x, ((![v4, v2956] : Fin 2 → IVec S16 32) a x).toNat < S32x129.size a)
theorem k0_idx176_inb : ∀ (v4 : IVec S16 32) (v2956 : IVec S16 32) (k0_hw176 : k0_chk176 v4 v2956), ∀ a x, ((![v4, v2956] : Fin 2 → IVec S16 32) a x).toNat < S32x129.size a := fun v4 v2956 k0_hw176 => k0_hw176

def k0_chk177 (v2 : IVec S16 32) (v2964 : IVec S16 32) : Prop :=
  (∀ a x, ((![v2, v2964] : Fin 2 → IVec S16 32) a x).toNat < S32x129.size a)
theorem k0_idx177_inb : ∀ (v2 : IVec S16 32) (v2964 : IVec S16 32) (k0_hw177 : k0_chk177 v2 v2964), ∀ a x, ((![v2, v2964] : Fin 2 → IVec S16 32) a x).toNat < S32x129.size a := fun v2 v2964 k0_hw177 => k0_hw177

def k0_chk178 (v4 : IVec S16 32) (v2972 : IVec S16 32) : Prop :=
  (∀ a x, ((![v4, v2972] : Fin 2 → IVec S16 32) a x).toNat < S32x129.size a)
theorem k0_idx178_inb : ∀ (v4 : IVec S16 32) (v2972 : IVec S16 32) (k0_hw178 : k0_chk178 v4 v2972), ∀ a x, ((![v4, v2972] : Fin 2 → IVec S16 32) a x).toNat < S32x129.size a := fun v4 v2972 k0_hw178 => k0_hw178

def k0_chk179 (v2 : IVec S16 32) (v2980 : IVec S16 32) : Prop :=
  (∀ a x, ((![v2, v2980] : Fin 2 → IVec S16 32) a x).toNat < S32x129.size a)
theorem k0_idx179_inb : ∀ (v2 : IVec S16 32) (v2980 : IVec S16 32) (k0_hw179 : k0_chk179 v2 v2980), ∀ a x, ((![v2, v2980] : Fin 2 → IVec S16 32) a x).toNat < S32x129.size a := fun v2 v2980 k0_hw179 => k0_hw179

def k0_chk180 (v4 : IVec S16 32) (v2988 : IVec S16 32) : Prop :=
  (∀ a x, ((![v4, v2988] : Fin 2 → IVec S16 32) a x).toNat < S32x129.size a)
theorem k0_idx180_inb : ∀ (v4 : IVec S16 32) (v2988 : IVec S16 32) (k0_hw180 : k0_chk180 v4 v2988), ∀ a x, ((![v4, v2988] : Fin 2 → IVec S16 32) a x).toNat < S32x129.size a := fun v4 v2988 k0_hw180 => k0_hw180

def k0_chk181 (v2 : IVec S16 32) (v2996 : IVec S16 32) : Prop :=
  (∀ a x, ((![v2, v2996] : Fin 2 → IVec S16 32) a x).toNat < S32x129.size a)
theorem k0_idx181_inb : ∀ (v2 : IVec S16 32) (v2996 : IVec S16 32) (k0_hw181 : k0_chk181 v2 v2996), ∀ a x, ((![v2, v2996] : Fin 2 → IVec S16 32) a x).toNat < S32x129.size a := fun v2 v2996 k0_hw181 => k0_hw181

def k0_chk182 (v4 : IVec S16 32) (v3004 : IVec S16 32) : Prop :=
  (∀ a x, ((![v4, v3004] : Fin 2 → IVec S16 32) a x).toNat < S32x129.size a)
theorem k0_idx182_inb : ∀ (v4 : IVec S16 32) (v3004 : IVec S16 32) (k0_hw182 : k0_chk182 v4 v3004), ∀ a x, ((![v4, v3004] : Fin 2 → IVec S16 32) a x).toNat < S32x129.size a := fun v4 v3004 k0_hw182 => k0_hw182

def k0_chk183 (v2 : IVec S16 32) (v3012 : IVec S16 32) : Prop :=
  (∀ a x, ((![v2, v3012] : Fin 2 → IVec S16 32) a x).toNat < S32x129.size a)
theorem k0_idx183_inb : ∀ (v2 : IVec S16 32) (v3012 : IVec S16 32) (k0_hw183 : k0_chk183 v2 v3012), ∀ a x, ((![v2, v3012] : Fin 2 → IVec S16 32) a x).toNat < S32x129.size a := fun v2 v3012 k0_hw183 => k0_hw183

def k0_chk184 (v4 : IVec S16 32) (v3020 : IVec S16 32) : Prop :=
  (∀ a x, ((![v4, v3020] : Fin 2 → IVec S16 32) a x).toNat < S32x129.size a)
theorem k0_idx184_inb : ∀ (v4 : IVec S16 32) (v3020 : IVec S16 32) (k0_hw184 : k0_chk184 v4 v3020), ∀ a x, ((![v4, v3020] : Fin 2 → IVec S16 32) a x).toNat < S32x129.size a := fun v4 v3020 k0_hw184 => k0_hw184

def k0_chk185 (v2 : IVec S16 32) (v3028 : IVec S16 32) : Prop :=
  (∀ a x, ((![v2, v3028] : Fin 2 → IVec S16 32) a x).toNat < S32x129.size a)
theorem k0_idx185_inb : ∀ (v2 : IVec S16 32) (v3028 : IVec S16 32) (k0_hw185 : k0_chk185 v2 v3028), ∀ a x, ((![v2, v3028] : Fin 2 → IVec S16 32) a x).toNat < S32x129.size a := fun v2 v3028 k0_hw185 => k0_hw185

def k0_chk186 (v4 : IVec S16 32) (v3036 : IVec S16 32) : Prop :=
  (∀ a x, ((![v4, v3036] : Fin 2 → IVec S16 32) a x).toNat < S32x129.size a)
theorem k0_idx186_inb : ∀ (v4 : IVec S16 32) (v3036 : IVec S16 32) (k0_hw186 : k0_chk186 v4 v3036), ∀ a x, ((![v4, v3036] : Fin 2 → IVec S16 32) a x).toNat < S32x129.size a := fun v4 v3036 k0_hw186 => k0_hw186

def k0_chk187 (v2 : IVec S16 32) (v3044 : IVec S16 32) : Prop :=
  (∀ a x, ((![v2, v3044] : Fin 2 → IVec S16 32) a x).toNat < S32x129.size a)
theorem k0_idx187_inb : ∀ (v2 : IVec S16 32) (v3044 : IVec S16 32) (k0_hw187 : k0_chk187 v2 v3044), ∀ a x, ((![v2, v3044] : Fin 2 → IVec S16 32) a x).toNat < S32x129.size a := fun v2 v3044 k0_hw187 => k0_hw187

def k0_chk188 (v4 : IVec S16 32) (v3052 : IVec S16 32) : Prop :=
  (∀ a x, ((![v4, v3052] : Fin 2 → IVec S16 32) a x).toNat < S32x129.size a)
theorem k0_idx188_inb : ∀ (v4 : IVec S16 32) (v3052 : IVec S16 32) (k0_hw188 : k0_chk188 v4 v3052), ∀ a x, ((![v4, v3052] : Fin 2 → IVec S16 32) a x).toNat < S32x129.size a := fun v4 v3052 k0_hw188 => k0_hw188

def k0_chk189 (v2 : IVec S16 32) (v3060 : IVec S16 32) : Prop :=
  (∀ a x, ((![v2, v3060] : Fin 2 → IVec S16 32) a x).toNat < S32x129.size a)
theorem k0_idx189_inb : ∀ (v2 : IVec S16 32) (v3060 : IVec S16 32) (k0_hw189 : k0_chk189 v2 v3060), ∀ a x, ((![v2, v3060] : Fin 2 → IVec S16 32) a x).toNat < S32x129.size a := fun v2 v3060 k0_hw189 => k0_hw189

def k0_chk190 (v4 : IVec S16 32) (v3068 : IVec S16 32) : Prop :=
  (∀ a x, ((![v4, v3068] : Fin 2 → IVec S16 32) a x).toNat < S32x129.size a)
theorem k0_idx190_inb : ∀ (v4 : IVec S16 32) (v3068 : IVec S16 32) (k0_hw190 : k0_chk190 v4 v3068), ∀ a x, ((![v4, v3068] : Fin 2 → IVec S16 32) a x).toNat < S32x129.size a := fun v4 v3068 k0_hw190 => k0_hw190

def k0_chk191 (v2 : IVec S16 32) (v3076 : IVec S16 32) : Prop :=
  (∀ a x, ((![v2, v3076] : Fin 2 → IVec S16 32) a x).toNat < S32x129.size a)
theorem k0_idx191_inb : ∀ (v2 : IVec S16 32) (v3076 : IVec S16 32) (k0_hw191 : k0_chk191 v2 v3076), ∀ a x, ((![v2, v3076] : Fin 2 → IVec S16 32) a x).toNat < S32x129.size a := fun v2 v3076 k0_hw191 => k0_hw191

def k0_chk192 (v4 : IVec S16 32) (v3084 : IVec S16 32) : Prop :=
  (∀ a x, ((![v4, v3084] : Fin 2 → IVec S16 32) a x).toNat < S32x129.size a)
theorem k0_idx192_inb : ∀ (v4 : IVec S16 32) (v3084 : IVec S16 32) (k0_hw192 : k0_chk192 v4 v3084), ∀ a x, ((![v4, v3084] : Fin 2 → IVec S16 32) a x).toNat < S32x129.size a := fun v4 v3084 k0_hw192 => k0_hw192

def k0_chk193 (v2 : IVec S16 32) (v3092 : IVec S16 32) : Prop :=
  (∀ a x, ((![v2, v3092] : Fin 2 → IVec S16 32) a x).toNat < S32x129.size a)
theorem k0_idx193_inb : ∀ (v2 : IVec S16 32) (v3092 : IVec S16 32) (k0_hw193 : k0_chk193 v2 v3092), ∀ a x, ((![v2, v3092] : Fin 2 → IVec S16 32) a x).toNat < S32x129.size a := fun v2 v3092 k0_hw193 => k0_hw193

def k0_chk194 (v4 : IVec S16 32) (v3100 : IVec S16 32) : Prop :=
  (∀ a x, ((![v4, v3100] : Fin 2 → IVec S16 32) a x).toNat < S32x129.size a)
theorem k0_idx194_inb : ∀ (v4 : IVec S16 32) (v3100 : IVec S16 32) (k0_hw194 : k0_chk194 v4 v3100), ∀ a x, ((![v4, v3100] : Fin 2 → IVec S16 32) a x).toNat < S32x129.size a := fun v4 v3100 k0_hw194 => k0_hw194

def k0_chk195 (v2 : IVec S16 32) (v3108 : IVec S16 32) : Prop :=
  (∀ a x, ((![v2, v3108] : Fin 2 → IVec S16 32) a x).toNat < S32x129.size a)
theorem k0_idx195_inb : ∀ (v2 : IVec S16 32) (v3108 : IVec S16 32) (k0_hw195 : k0_chk195 v2 v3108), ∀ a x, ((![v2, v3108] : Fin 2 → IVec S16 32) a x).toNat < S32x129.size a := fun v2 v3108 k0_hw195 => k0_hw195

def k0_chk196 (v4 : IVec S16 32) (v3116 : IVec S16 32) : Prop :=
  (∀ a x, ((![v4, v3116] : Fin 2 → IVec S16 32) a x).toNat < S32x129.size a)
theorem k0_idx196_inb : ∀ (v4 : IVec S16 32) (v3116 : IVec S16 32) (k0_hw196 : k0_chk196 v4 v3116), ∀ a x, ((![v4, v3116] : Fin 2 → IVec S16 32) a x).toNat < S32x129.size a := fun v4 v3116 k0_hw196 => k0_hw196

def k0_chk197 (v2 : IVec S16 32) (v3124 : IVec S16 32) : Prop :=
  (∀ a x, ((![v2, v3124] : Fin 2 → IVec S16 32) a x).toNat < S32x129.size a)
theorem k0_idx197_inb : ∀ (v2 : IVec S16 32) (v3124 : IVec S16 32) (k0_hw197 : k0_chk197 v2 v3124), ∀ a x, ((![v2, v3124] : Fin 2 → IVec S16 32) a x).toNat < S32x129.size a := fun v2 v3124 k0_hw197 => k0_hw197

def k0_chk198 (v4 : IVec S16 32) (v3132 : IVec S16 32) : Prop :=
  (∀ a x, ((![v4, v3132] : Fin 2 → IVec S16 32) a x).toNat < S32x129.size a)
theorem k0_idx198_inb : ∀ (v4 : IVec S16 32) (v3132 : IVec S16 32) (k0_hw198 : k0_chk198 v4 v3132), ∀ a x, ((![v4, v3132] : Fin 2 → IVec S16 32) a x).toNat < S32x129.size a := fun v4 v3132 k0_hw198 => k0_hw198

def k0_chk199 (v2 : IVec S16 32) (v3140 : IVec S16 32) : Prop :=
  (∀ a x, ((![v2, v3140] : Fin 2 → IVec S16 32) a x).toNat < S32x129.size a)
theorem k0_idx199_inb : ∀ (v2 : IVec S16 32) (v3140 : IVec S16 32) (k0_hw199 : k0_chk199 v2 v3140), ∀ a x, ((![v2, v3140] : Fin 2 → IVec S16 32) a x).toNat < S32x129.size a := fun v2 v3140 k0_hw199 => k0_hw199

def k0_chk200 (v4 : IVec S16 32) (v3148 : IVec S16 32) : Prop :=
  (∀ a x, ((![v4, v3148] : Fin 2 → IVec S16 32) a x).toNat < S32x129.size a)
theorem k0_idx200_inb : ∀ (v4 : IVec S16 32) (v3148 : IVec S16 32) (k0_hw200 : k0_chk200 v4 v3148), ∀ a x, ((![v4, v3148] : Fin 2 → IVec S16 32) a x).toNat < S32x129.size a := fun v4 v3148 k0_hw200 => k0_hw200

def k0_chk201 (v2 : IVec S16 32) (v3156 : IVec S16 32) : Prop :=
  (∀ a x, ((![v2, v3156] : Fin 2 → IVec S16 32) a x).toNat < S32x129.size a)
theorem k0_idx201_inb : ∀ (v2 : IVec S16 32) (v3156 : IVec S16 32) (k0_hw201 : k0_chk201 v2 v3156), ∀ a x, ((![v2, v3156] : Fin 2 → IVec S16 32) a x).toNat < S32x129.size a := fun v2 v3156 k0_hw201 => k0_hw201

def k0_chk202 (v4 : IVec S16 32) (v3164 : IVec S16 32) : Prop :=
  (∀ a x, ((![v4, v3164] : Fin 2 → IVec S16 32) a x).toNat < S32x129.size a)
theorem k0_idx202_inb : ∀ (v4 : IVec S16 32) (v3164 : IVec S16 32) (k0_hw202 : k0_chk202 v4 v3164), ∀ a x, ((![v4, v3164] : Fin 2 → IVec S16 32) a x).toNat < S32x129.size a := fun v4 v3164 k0_hw202 => k0_hw202

def k0_chk203 (v2 : IVec S16 32) (v3172 : IVec S16 32) : Prop :=
  (∀ a x, ((![v2, v3172] : Fin 2 → IVec S16 32) a x).toNat < S32x129.size a)
theorem k0_idx203_inb : ∀ (v2 : IVec S16 32) (v3172 : IVec S16 32) (k0_hw203 : k0_chk203 v2 v3172), ∀ a x, ((![v2, v3172] : Fin 2 → IVec S16 32) a x).toNat < S32x129.size a := fun v2 v3172 k0_hw203 => k0_hw203

def k0_chk204 (v4 : IVec S16 32) (v3180 : IVec S16 32) : Prop :=
  (∀ a x, ((![v4, v3180] : Fin 2 → IVec S16 32) a x).toNat < S32x129.size a)
theorem k0_idx204_inb : ∀ (v4 : IVec S16 32) (v3180 : IVec S16 32) (k0_hw204 : k0_chk204 v4 v3180), ∀ a x, ((![v4, v3180] : Fin 2 → IVec S16 32) a x).toNat < S32x129.size a := fun v4 v3180 k0_hw204 => k0_hw204

def k0_chk205 (v2 : IVec S16 32) (v3188 : IVec S16 32) : Prop :=
  (∀ a x, ((![v2, v3188] : Fin 2 → IVec S16 32) a x).toNat < S32x129.size a)
theorem k0_idx205_inb : ∀ (v2 : IVec S16 32) (v3188 : IVec S16 32) (k0_hw205 : k0_chk205 v2 v3188), ∀ a x, ((![v2, v3188] : Fin 2 → IVec S16 32) a x).toNat < S32x129.size a := fun v2 v3188 k0_hw205 => k0_hw205

def k0_chk206 (v4 : IVec S16 32) (v3196 : IVec S16 32) : Prop :=
  (∀ a x, ((![v4, v3196] : Fin 2 → IVec S16 32) a x).toNat < S32x129.size a)
theorem k0_idx206_inb : ∀ (v4 : IVec S16 32) (v3196 : IVec S16 32) (k0_hw206 : k0_chk206 v4 v3196), ∀ a x, ((![v4, v3196] : Fin 2 → IVec S16 32) a x).toNat < S32x129.size a := fun v4 v3196 k0_hw206 => k0_hw206

def k0_chk207 (v2 : IVec S16 32) (v3204 : IVec S16 32) : Prop :=
  (∀ a x, ((![v2, v3204] : Fin 2 → IVec S16 32) a x).toNat < S32x129.size a)
theorem k0_idx207_inb : ∀ (v2 : IVec S16 32) (v3204 : IVec S16 32) (k0_hw207 : k0_chk207 v2 v3204), ∀ a x, ((![v2, v3204] : Fin 2 → IVec S16 32) a x).toNat < S32x129.size a := fun v2 v3204 k0_hw207 => k0_hw207

def k0_chk208 (v4 : IVec S16 32) (v3212 : IVec S16 32) : Prop :=
  (∀ a x, ((![v4, v3212] : Fin 2 → IVec S16 32) a x).toNat < S32x129.size a)
theorem k0_idx208_inb : ∀ (v4 : IVec S16 32) (v3212 : IVec S16 32) (k0_hw208 : k0_chk208 v4 v3212), ∀ a x, ((![v4, v3212] : Fin 2 → IVec S16 32) a x).toNat < S32x129.size a := fun v4 v3212 k0_hw208 => k0_hw208

def k0_chk209 (v2 : IVec S16 32) (v3220 : IVec S16 32) : Prop :=
  (∀ a x, ((![v2, v3220] : Fin 2 → IVec S16 32) a x).toNat < S32x129.size a)
theorem k0_idx209_inb : ∀ (v2 : IVec S16 32) (v3220 : IVec S16 32) (k0_hw209 : k0_chk209 v2 v3220), ∀ a x, ((![v2, v3220] : Fin 2 → IVec S16 32) a x).toNat < S32x129.size a := fun v2 v3220 k0_hw209 => k0_hw209

def k0_chk210 (v4 : IVec S16 32) (v3228 : IVec S16 32) : Prop :=
  (∀ a x, ((![v4, v3228] : Fin 2 → IVec S16 32) a x).toNat < S32x129.size a)
theorem k0_idx210_inb : ∀ (v4 : IVec S16 32) (v3228 : IVec S16 32) (k0_hw210 : k0_chk210 v4 v3228), ∀ a x, ((![v4, v3228] : Fin 2 → IVec S16 32) a x).toNat < S32x129.size a := fun v4 v3228 k0_hw210 => k0_hw210

def k0_chk211 (v2 : IVec S16 32) (v3236 : IVec S16 32) : Prop :=
  (∀ a x, ((![v2, v3236] : Fin 2 → IVec S16 32) a x).toNat < S32x129.size a)
theorem k0_idx211_inb : ∀ (v2 : IVec S16 32) (v3236 : IVec S16 32) (k0_hw211 : k0_chk211 v2 v3236), ∀ a x, ((![v2, v3236] : Fin 2 → IVec S16 32) a x).toNat < S32x129.size a := fun v2 v3236 k0_hw211 => k0_hw211

def k0_chk212 (v4 : IVec S16 32) (v3244 : IVec S16 32) : Prop :=
  (∀ a x, ((![v4, v3244] : Fin 2 → IVec S16 32) a x).toNat < S32x129.size a)
theorem k0_idx212_inb : ∀ (v4 : IVec S16 32) (v3244 : IVec S16 32) (k0_hw212 : k0_chk212 v4 v3244), ∀ a x, ((![v4, v3244] : Fin 2 → IVec S16 32) a x).toNat < S32x129.size a := fun v4 v3244 k0_hw212 => k0_hw212

def k0_chk213 (v2 : IVec S16 32) (v3252 : IVec S16 32) : Prop :=
  (∀ a x, ((![v2, v3252] : Fin 2 → IVec S16 32) a x).toNat < S32x129.size a)
theorem k0_idx213_inb : ∀ (v2 : IVec S16 32) (v3252 : IVec S16 32) (k0_hw213 : k0_chk213 v2 v3252), ∀ a x, ((![v2, v3252] : Fin 2 → IVec S16 32) a x).toNat < S32x129.size a := fun v2 v3252 k0_hw213 => k0_hw213

def k0_chk214 (v4 : IVec S16 32) (v3260 : IVec S16 32) : Prop :=
  (∀ a x, ((![v4, v3260] : Fin 2 → IVec S16 32) a x).toNat < S32x129.size a)
theorem k0_idx214_inb : ∀ (v4 : IVec S16 32) (v3260 : IVec S16 32) (k0_hw214 : k0_chk214 v4 v3260), ∀ a x, ((![v4, v3260] : Fin 2 → IVec S16 32) a x).toNat < S32x129.size a := fun v4 v3260 k0_hw214 => k0_hw214

def k0_chk215 (v2 : IVec S16 32) (v3268 : IVec S16 32) : Prop :=
  (∀ a x, ((![v2, v3268] : Fin 2 → IVec S16 32) a x).toNat < S32x129.size a)
theorem k0_idx215_inb : ∀ (v2 : IVec S16 32) (v3268 : IVec S16 32) (k0_hw215 : k0_chk215 v2 v3268), ∀ a x, ((![v2, v3268] : Fin 2 → IVec S16 32) a x).toNat < S32x129.size a := fun v2 v3268 k0_hw215 => k0_hw215

def k0_chk216 (v4 : IVec S16 32) (v3276 : IVec S16 32) : Prop :=
  (∀ a x, ((![v4, v3276] : Fin 2 → IVec S16 32) a x).toNat < S32x129.size a)
theorem k0_idx216_inb : ∀ (v4 : IVec S16 32) (v3276 : IVec S16 32) (k0_hw216 : k0_chk216 v4 v3276), ∀ a x, ((![v4, v3276] : Fin 2 → IVec S16 32) a x).toNat < S32x129.size a := fun v4 v3276 k0_hw216 => k0_hw216

def k0_chk217 (v2 : IVec S16 32) (v3284 : IVec S16 32) : Prop :=
  (∀ a x, ((![v2, v3284] : Fin 2 → IVec S16 32) a x).toNat < S32x129.size a)
theorem k0_idx217_inb : ∀ (v2 : IVec S16 32) (v3284 : IVec S16 32) (k0_hw217 : k0_chk217 v2 v3284), ∀ a x, ((![v2, v3284] : Fin 2 → IVec S16 32) a x).toNat < S32x129.size a := fun v2 v3284 k0_hw217 => k0_hw217

def k0_chk218 (v4 : IVec S16 32) (v3292 : IVec S16 32) : Prop :=
  (∀ a x, ((![v4, v3292] : Fin 2 → IVec S16 32) a x).toNat < S32x129.size a)
theorem k0_idx218_inb : ∀ (v4 : IVec S16 32) (v3292 : IVec S16 32) (k0_hw218 : k0_chk218 v4 v3292), ∀ a x, ((![v4, v3292] : Fin 2 → IVec S16 32) a x).toNat < S32x129.size a := fun v4 v3292 k0_hw218 => k0_hw218

def k0_chk219 (v2 : IVec S16 32) (v3300 : IVec S16 32) : Prop :=
  (∀ a x, ((![v2, v3300] : Fin 2 → IVec S16 32) a x).toNat < S32x129.size a)
theorem k0_idx219_inb : ∀ (v2 : IVec S16 32) (v3300 : IVec S16 32) (k0_hw219 : k0_chk219 v2 v3300), ∀ a x, ((![v2, v3300] : Fin 2 → IVec S16 32) a x).toNat < S32x129.size a := fun v2 v3300 k0_hw219 => k0_hw219

def k0_chk220 (v4 : IVec S16 32) (v3308 : IVec S16 32) : Prop :=
  (∀ a x, ((![v4, v3308] : Fin 2 → IVec S16 32) a x).toNat < S32x129.size a)
theorem k0_idx220_inb : ∀ (v4 : IVec S16 32) (v3308 : IVec S16 32) (k0_hw220 : k0_chk220 v4 v3308), ∀ a x, ((![v4, v3308] : Fin 2 → IVec S16 32) a x).toNat < S32x129.size a := fun v4 v3308 k0_hw220 => k0_hw220

def k0_chk221 (v2 : IVec S16 32) (v3316 : IVec S16 32) : Prop :=
  (∀ a x, ((![v2, v3316] : Fin 2 → IVec S16 32) a x).toNat < S32x129.size a)
theorem k0_idx221_inb : ∀ (v2 : IVec S16 32) (v3316 : IVec S16 32) (k0_hw221 : k0_chk221 v2 v3316), ∀ a x, ((![v2, v3316] : Fin 2 → IVec S16 32) a x).toNat < S32x129.size a := fun v2 v3316 k0_hw221 => k0_hw221

def k0_chk222 (v4 : IVec S16 32) (v3324 : IVec S16 32) : Prop :=
  (∀ a x, ((![v4, v3324] : Fin 2 → IVec S16 32) a x).toNat < S32x129.size a)
theorem k0_idx222_inb : ∀ (v4 : IVec S16 32) (v3324 : IVec S16 32) (k0_hw222 : k0_chk222 v4 v3324), ∀ a x, ((![v4, v3324] : Fin 2 → IVec S16 32) a x).toNat < S32x129.size a := fun v4 v3324 k0_hw222 => k0_hw222

def k0_chk223 (v2 : IVec S16 32) (v3332 : IVec S16 32) : Prop :=
  (∀ a x, ((![v2, v3332] : Fin 2 → IVec S16 32) a x).toNat < S32x129.size a)
theorem k0_idx223_inb : ∀ (v2 : IVec S16 32) (v3332 : IVec S16 32) (k0_hw223 : k0_chk223 v2 v3332), ∀ a x, ((![v2, v3332] : Fin 2 → IVec S16 32) a x).toNat < S32x129.size a := fun v2 v3332 k0_hw223 => k0_hw223

def k0_chk224 (v4 : IVec S16 32) (v3340 : IVec S16 32) : Prop :=
  (∀ a x, ((![v4, v3340] : Fin 2 → IVec S16 32) a x).toNat < S32x129.size a)
theorem k0_idx224_inb : ∀ (v4 : IVec S16 32) (v3340 : IVec S16 32) (k0_hw224 : k0_chk224 v4 v3340), ∀ a x, ((![v4, v3340] : Fin 2 → IVec S16 32) a x).toNat < S32x129.size a := fun v4 v3340 k0_hw224 => k0_hw224

def k0_chk225 (v2 : IVec S16 32) (v3348 : IVec S16 32) : Prop :=
  (∀ a x, ((![v2, v3348] : Fin 2 → IVec S16 32) a x).toNat < S32x129.size a)
theorem k0_idx225_inb : ∀ (v2 : IVec S16 32) (v3348 : IVec S16 32) (k0_hw225 : k0_chk225 v2 v3348), ∀ a x, ((![v2, v3348] : Fin 2 → IVec S16 32) a x).toNat < S32x129.size a := fun v2 v3348 k0_hw225 => k0_hw225

def k0_chk226 (v4 : IVec S16 32) (v3356 : IVec S16 32) : Prop :=
  (∀ a x, ((![v4, v3356] : Fin 2 → IVec S16 32) a x).toNat < S32x129.size a)
theorem k0_idx226_inb : ∀ (v4 : IVec S16 32) (v3356 : IVec S16 32) (k0_hw226 : k0_chk226 v4 v3356), ∀ a x, ((![v4, v3356] : Fin 2 → IVec S16 32) a x).toNat < S32x129.size a := fun v4 v3356 k0_hw226 => k0_hw226

def k0_chk227 (v2 : IVec S16 32) (v3364 : IVec S16 32) : Prop :=
  (∀ a x, ((![v2, v3364] : Fin 2 → IVec S16 32) a x).toNat < S32x129.size a)
theorem k0_idx227_inb : ∀ (v2 : IVec S16 32) (v3364 : IVec S16 32) (k0_hw227 : k0_chk227 v2 v3364), ∀ a x, ((![v2, v3364] : Fin 2 → IVec S16 32) a x).toNat < S32x129.size a := fun v2 v3364 k0_hw227 => k0_hw227

def k0_chk228 (v4 : IVec S16 32) (v3372 : IVec S16 32) : Prop :=
  (∀ a x, ((![v4, v3372] : Fin 2 → IVec S16 32) a x).toNat < S32x129.size a)
theorem k0_idx228_inb : ∀ (v4 : IVec S16 32) (v3372 : IVec S16 32) (k0_hw228 : k0_chk228 v4 v3372), ∀ a x, ((![v4, v3372] : Fin 2 → IVec S16 32) a x).toNat < S32x129.size a := fun v4 v3372 k0_hw228 => k0_hw228

def k0_chk229 (v2 : IVec S16 32) (v3380 : IVec S16 32) : Prop :=
  (∀ a x, ((![v2, v3380] : Fin 2 → IVec S16 32) a x).toNat < S32x129.size a)
theorem k0_idx229_inb : ∀ (v2 : IVec S16 32) (v3380 : IVec S16 32) (k0_hw229 : k0_chk229 v2 v3380), ∀ a x, ((![v2, v3380] : Fin 2 → IVec S16 32) a x).toNat < S32x129.size a := fun v2 v3380 k0_hw229 => k0_hw229

def k0_chk230 (v4 : IVec S16 32) (v3388 : IVec S16 32) : Prop :=
  (∀ a x, ((![v4, v3388] : Fin 2 → IVec S16 32) a x).toNat < S32x129.size a)
theorem k0_idx230_inb : ∀ (v4 : IVec S16 32) (v3388 : IVec S16 32) (k0_hw230 : k0_chk230 v4 v3388), ∀ a x, ((![v4, v3388] : Fin 2 → IVec S16 32) a x).toNat < S32x129.size a := fun v4 v3388 k0_hw230 => k0_hw230

def k0_chk231 (v2 : IVec S16 32) (v3396 : IVec S16 32) : Prop :=
  (∀ a x, ((![v2, v3396] : Fin 2 → IVec S16 32) a x).toNat < S32x129.size a)
theorem k0_idx231_inb : ∀ (v2 : IVec S16 32) (v3396 : IVec S16 32) (k0_hw231 : k0_chk231 v2 v3396), ∀ a x, ((![v2, v3396] : Fin 2 → IVec S16 32) a x).toNat < S32x129.size a := fun v2 v3396 k0_hw231 => k0_hw231

def k0_chk232 (v4 : IVec S16 32) (v3404 : IVec S16 32) : Prop :=
  (∀ a x, ((![v4, v3404] : Fin 2 → IVec S16 32) a x).toNat < S32x129.size a)
theorem k0_idx232_inb : ∀ (v4 : IVec S16 32) (v3404 : IVec S16 32) (k0_hw232 : k0_chk232 v4 v3404), ∀ a x, ((![v4, v3404] : Fin 2 → IVec S16 32) a x).toNat < S32x129.size a := fun v4 v3404 k0_hw232 => k0_hw232

def k0_chk233 (v2 : IVec S16 32) (v3412 : IVec S16 32) : Prop :=
  (∀ a x, ((![v2, v3412] : Fin 2 → IVec S16 32) a x).toNat < S32x129.size a)
theorem k0_idx233_inb : ∀ (v2 : IVec S16 32) (v3412 : IVec S16 32) (k0_hw233 : k0_chk233 v2 v3412), ∀ a x, ((![v2, v3412] : Fin 2 → IVec S16 32) a x).toNat < S32x129.size a := fun v2 v3412 k0_hw233 => k0_hw233

def k0_chk234 (v4 : IVec S16 32) (v3420 : IVec S16 32) : Prop :=
  (∀ a x, ((![v4, v3420] : Fin 2 → IVec S16 32) a x).toNat < S32x129.size a)
theorem k0_idx234_inb : ∀ (v4 : IVec S16 32) (v3420 : IVec S16 32) (k0_hw234 : k0_chk234 v4 v3420), ∀ a x, ((![v4, v3420] : Fin 2 → IVec S16 32) a x).toNat < S32x129.size a := fun v4 v3420 k0_hw234 => k0_hw234

def k0_chk235 (v2 : IVec S16 32) (v3428 : IVec S16 32) : Prop :=
  (∀ a x, ((![v2, v3428] : Fin 2 → IVec S16 32) a x).toNat < S32x129.size a)
theorem k0_idx235_inb : ∀ (v2 : IVec S16 32) (v3428 : IVec S16 32) (k0_hw235 : k0_chk235 v2 v3428), ∀ a x, ((![v2, v3428] : Fin 2 → IVec S16 32) a x).toNat < S32x129.size a := fun v2 v3428 k0_hw235 => k0_hw235

def k0_chk236 (v4 : IVec S16 32) (v3436 : IVec S16 32) : Prop :=
  (∀ a x, ((![v4, v3436] : Fin 2 → IVec S16 32) a x).toNat < S32x129.size a)
theorem k0_idx236_inb : ∀ (v4 : IVec S16 32) (v3436 : IVec S16 32) (k0_hw236 : k0_chk236 v4 v3436), ∀ a x, ((![v4, v3436] : Fin 2 → IVec S16 32) a x).toNat < S32x129.size a := fun v4 v3436 k0_hw236 => k0_hw236

def k0_chk237 (v2 : IVec S16 32) (v3444 : IVec S16 32) : Prop :=
  (∀ a x, ((![v2, v3444] : Fin 2 → IVec S16 32) a x).toNat < S32x129.size a)
theorem k0_idx237_inb : ∀ (v2 : IVec S16 32) (v3444 : IVec S16 32) (k0_hw237 : k0_chk237 v2 v3444), ∀ a x, ((![v2, v3444] : Fin 2 → IVec S16 32) a x).toNat < S32x129.size a := fun v2 v3444 k0_hw237 => k0_hw237

def k0_chk238 (v4 : IVec S16 32) (v3452 : IVec S16 32) : Prop :=
  (∀ a x, ((![v4, v3452] : Fin 2 → IVec S16 32) a x).toNat < S32x129.size a)
theorem k0_idx238_inb : ∀ (v4 : IVec S16 32) (v3452 : IVec S16 32) (k0_hw238 : k0_chk238 v4 v3452), ∀ a x, ((![v4, v3452] : Fin 2 → IVec S16 32) a x).toNat < S32x129.size a := fun v4 v3452 k0_hw238 => k0_hw238

def k0_chk239 (v2 : IVec S16 32) (v3460 : IVec S16 32) : Prop :=
  (∀ a x, ((![v2, v3460] : Fin 2 → IVec S16 32) a x).toNat < S32x129.size a)
theorem k0_idx239_inb : ∀ (v2 : IVec S16 32) (v3460 : IVec S16 32) (k0_hw239 : k0_chk239 v2 v3460), ∀ a x, ((![v2, v3460] : Fin 2 → IVec S16 32) a x).toNat < S32x129.size a := fun v2 v3460 k0_hw239 => k0_hw239

def k0_chk240 (v4 : IVec S16 32) (v3468 : IVec S16 32) : Prop :=
  (∀ a x, ((![v4, v3468] : Fin 2 → IVec S16 32) a x).toNat < S32x129.size a)
theorem k0_idx240_inb : ∀ (v4 : IVec S16 32) (v3468 : IVec S16 32) (k0_hw240 : k0_chk240 v4 v3468), ∀ a x, ((![v4, v3468] : Fin 2 → IVec S16 32) a x).toNat < S32x129.size a := fun v4 v3468 k0_hw240 => k0_hw240

def k0_chk241 (v2 : IVec S16 32) (v3476 : IVec S16 32) : Prop :=
  (∀ a x, ((![v2, v3476] : Fin 2 → IVec S16 32) a x).toNat < S32x129.size a)
theorem k0_idx241_inb : ∀ (v2 : IVec S16 32) (v3476 : IVec S16 32) (k0_hw241 : k0_chk241 v2 v3476), ∀ a x, ((![v2, v3476] : Fin 2 → IVec S16 32) a x).toNat < S32x129.size a := fun v2 v3476 k0_hw241 => k0_hw241

def k0_chk242 (v4 : IVec S16 32) (v3484 : IVec S16 32) : Prop :=
  (∀ a x, ((![v4, v3484] : Fin 2 → IVec S16 32) a x).toNat < S32x129.size a)
theorem k0_idx242_inb : ∀ (v4 : IVec S16 32) (v3484 : IVec S16 32) (k0_hw242 : k0_chk242 v4 v3484), ∀ a x, ((![v4, v3484] : Fin 2 → IVec S16 32) a x).toNat < S32x129.size a := fun v4 v3484 k0_hw242 => k0_hw242

def k0_chk243 (v2 : IVec S16 32) (v3492 : IVec S16 32) : Prop :=
  (∀ a x, ((![v2, v3492] : Fin 2 → IVec S16 32) a x).toNat < S32x129.size a)
theorem k0_idx243_inb : ∀ (v2 : IVec S16 32) (v3492 : IVec S16 32) (k0_hw243 : k0_chk243 v2 v3492), ∀ a x, ((![v2, v3492] : Fin 2 → IVec S16 32) a x).toNat < S32x129.size a := fun v2 v3492 k0_hw243 => k0_hw243

def k0_chk244 (v4 : IVec S16 32) (v3500 : IVec S16 32) : Prop :=
  (∀ a x, ((![v4, v3500] : Fin 2 → IVec S16 32) a x).toNat < S32x129.size a)
theorem k0_idx244_inb : ∀ (v4 : IVec S16 32) (v3500 : IVec S16 32) (k0_hw244 : k0_chk244 v4 v3500), ∀ a x, ((![v4, v3500] : Fin 2 → IVec S16 32) a x).toNat < S32x129.size a := fun v4 v3500 k0_hw244 => k0_hw244

def k0_chk245 (v2 : IVec S16 32) (v3508 : IVec S16 32) : Prop :=
  (∀ a x, ((![v2, v3508] : Fin 2 → IVec S16 32) a x).toNat < S32x129.size a)
theorem k0_idx245_inb : ∀ (v2 : IVec S16 32) (v3508 : IVec S16 32) (k0_hw245 : k0_chk245 v2 v3508), ∀ a x, ((![v2, v3508] : Fin 2 → IVec S16 32) a x).toNat < S32x129.size a := fun v2 v3508 k0_hw245 => k0_hw245

def k0_chk246 (v4 : IVec S16 32) (v3516 : IVec S16 32) : Prop :=
  (∀ a x, ((![v4, v3516] : Fin 2 → IVec S16 32) a x).toNat < S32x129.size a)
theorem k0_idx246_inb : ∀ (v4 : IVec S16 32) (v3516 : IVec S16 32) (k0_hw246 : k0_chk246 v4 v3516), ∀ a x, ((![v4, v3516] : Fin 2 → IVec S16 32) a x).toNat < S32x129.size a := fun v4 v3516 k0_hw246 => k0_hw246

def k0_chk247 (v2 : IVec S16 32) (v3524 : IVec S16 32) : Prop :=
  (∀ a x, ((![v2, v3524] : Fin 2 → IVec S16 32) a x).toNat < S32x129.size a)
theorem k0_idx247_inb : ∀ (v2 : IVec S16 32) (v3524 : IVec S16 32) (k0_hw247 : k0_chk247 v2 v3524), ∀ a x, ((![v2, v3524] : Fin 2 → IVec S16 32) a x).toNat < S32x129.size a := fun v2 v3524 k0_hw247 => k0_hw247

def k0_chk248 (v4 : IVec S16 32) (v3532 : IVec S16 32) : Prop :=
  (∀ a x, ((![v4, v3532] : Fin 2 → IVec S16 32) a x).toNat < S32x129.size a)
theorem k0_idx248_inb : ∀ (v4 : IVec S16 32) (v3532 : IVec S16 32) (k0_hw248 : k0_chk248 v4 v3532), ∀ a x, ((![v4, v3532] : Fin 2 → IVec S16 32) a x).toNat < S32x129.size a := fun v4 v3532 k0_hw248 => k0_hw248

def k0_chk249 (v2 : IVec S16 32) (v3540 : IVec S16 32) : Prop :=
  (∀ a x, ((![v2, v3540] : Fin 2 → IVec S16 32) a x).toNat < S32x129.size a)
theorem k0_idx249_inb : ∀ (v2 : IVec S16 32) (v3540 : IVec S16 32) (k0_hw249 : k0_chk249 v2 v3540), ∀ a x, ((![v2, v3540] : Fin 2 → IVec S16 32) a x).toNat < S32x129.size a := fun v2 v3540 k0_hw249 => k0_hw249

def k0_chk250 (v4 : IVec S16 32) (v3548 : IVec S16 32) : Prop :=
  (∀ a x, ((![v4, v3548] : Fin 2 → IVec S16 32) a x).toNat < S32x129.size a)
theorem k0_idx250_inb : ∀ (v4 : IVec S16 32) (v3548 : IVec S16 32) (k0_hw250 : k0_chk250 v4 v3548), ∀ a x, ((![v4, v3548] : Fin 2 → IVec S16 32) a x).toNat < S32x129.size a := fun v4 v3548 k0_hw250 => k0_hw250

def k0_chk251 (v2 : IVec S16 32) (v3556 : IVec S16 32) : Prop :=
  (∀ a x, ((![v2, v3556] : Fin 2 → IVec S16 32) a x).toNat < S32x129.size a)
theorem k0_idx251_inb : ∀ (v2 : IVec S16 32) (v3556 : IVec S16 32) (k0_hw251 : k0_chk251 v2 v3556), ∀ a x, ((![v2, v3556] : Fin 2 → IVec S16 32) a x).toNat < S32x129.size a := fun v2 v3556 k0_hw251 => k0_hw251

def k0_chk252 (v4 : IVec S16 32) (v3564 : IVec S16 32) : Prop :=
  (∀ a x, ((![v4, v3564] : Fin 2 → IVec S16 32) a x).toNat < S32x129.size a)
theorem k0_idx252_inb : ∀ (v4 : IVec S16 32) (v3564 : IVec S16 32) (k0_hw252 : k0_chk252 v4 v3564), ∀ a x, ((![v4, v3564] : Fin 2 → IVec S16 32) a x).toNat < S32x129.size a := fun v4 v3564 k0_hw252 => k0_hw252

def k0_chk253 (v2 : IVec S16 32) (v3572 : IVec S16 32) : Prop :=
  (∀ a x, ((![v2, v3572] : Fin 2 → IVec S16 32) a x).toNat < S32x129.size a)
theorem k0_idx253_inb : ∀ (v2 : IVec S16 32) (v3572 : IVec S16 32) (k0_hw253 : k0_chk253 v2 v3572), ∀ a x, ((![v2, v3572] : Fin 2 → IVec S16 32) a x).toNat < S32x129.size a := fun v2 v3572 k0_hw253 => k0_hw253

def k0_chk254 (v4 : IVec S16 32) (v3580 : IVec S16 32) : Prop :=
  (∀ a x, ((![v4, v3580] : Fin 2 → IVec S16 32) a x).toNat < S32x129.size a)
theorem k0_idx254_inb : ∀ (v4 : IVec S16 32) (v3580 : IVec S16 32) (k0_hw254 : k0_chk254 v4 v3580), ∀ a x, ((![v4, v3580] : Fin 2 → IVec S16 32) a x).toNat < S32x129.size a := fun v4 v3580 k0_hw254 => k0_hw254

def k0_chk255 (v2 : IVec S16 32) (v3588 : IVec S16 32) : Prop :=
  (∀ a x, ((![v2, v3588] : Fin 2 → IVec S16 32) a x).toNat < S32x129.size a)
theorem k0_idx255_inb : ∀ (v2 : IVec S16 32) (v3588 : IVec S16 32) (k0_hw255 : k0_chk255 v2 v3588), ∀ a x, ((![v2, v3588] : Fin 2 → IVec S16 32) a x).toNat < S32x129.size a := fun v2 v3588 k0_hw255 => k0_hw255

def k0_chk256 (v4 : IVec S16 32) (v3596 : IVec S16 32) : Prop :=
  (∀ a x, ((![v4, v3596] : Fin 2 → IVec S16 32) a x).toNat < S32x129.size a)
theorem k0_idx256_inb : ∀ (v4 : IVec S16 32) (v3596 : IVec S16 32) (k0_hw256 : k0_chk256 v4 v3596), ∀ a x, ((![v4, v3596] : Fin 2 → IVec S16 32) a x).toNat < S32x129.size a := fun v4 v3596 k0_hw256 => k0_hw256
def k0_off66 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_820 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let v1313 : BitVec 32 := Scalar.muli c32_i32_820 v1312
  let v1314 : BitVec 32 := Scalar.addi v1 v1313
  let c20305_i32_821 : BitVec 32 := 20305#32
  let v1315 : BitVec 32 := Scalar.minsi v1314 c20305_i32_821
  let c0_i32_823 : BitVec 32 := 0#32
  let v1317 : BitVec 1 := Scalar.cmpi .sgt v1315 c0_i32_823
  let v1318 : BitVec 32 := Scalar.extui v1317
  let c0_i32_824 : BitVec 32 := 0#32
  let v1319 : BitVec 1 := Scalar.cmpi .slt v1315 c0_i32_824
  let v1320 : BitVec 32 := Scalar.extui v1319
  let v1321 : BitVec 32 := Scalar.subi v1318 v1320
  let c781_i32_822 : BitVec 32 := 781#32
  let c0_i32_825 : BitVec 32 := 0#32
  let v1322 : BitVec 1 := Scalar.cmpi .sgt c781_i32_822 c0_i32_825
  let v1323 : BitVec 32 := Scalar.extui v1322
  let c0_i32_826 : BitVec 32 := 0#32
  let v1324 : BitVec 1 := Scalar.cmpi .slt c781_i32_822 c0_i32_826
  let v1325 : BitVec 32 := Scalar.extui v1324
  let v1326 : BitVec 32 := Scalar.subi v1323 v1325
  let v1327 : BitVec 1 := Scalar.cmpi .ne v1321 v1326
  let v1328 : BitVec 32 := Scalar.remsi v1315 c781_i32_822
  let c0_i32_827 : BitVec 32 := 0#32
  let v1329 : BitVec 1 := Scalar.cmpi .ne v1328 c0_i32_827
  let v1330 : BitVec 1 := Scalar.andi v1327 v1329
  let v1316 : BitVec 32 := Scalar.divsi v1315 c781_i32_822
  let c1_i32_828 : BitVec 32 := 1#32
  let v1331 : BitVec 32 := Scalar.subi v1316 c1_i32_828
  let v1332 : BitVec 32 := Scalar.select v1330 v1331 v1316
  let c32_i32_3235 : BitVec 32 := 32#32
  let c781_i32_829 : BitVec 32 := 781#32
  let v1333 : BitVec 32 := Scalar.muli v1332 c781_i32_829
  let v1334 : BitVec 32 := Scalar.subi v1315 v1333
  let v3696 : BitVec 32 := Scalar.muli c32_i32_3235 v1334
  let c0_i32_3239 : BitVec 32 := 0#32
  ![v1332.toNat, v3696.toNat, 0]
def k0_off67 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c0_i32_3286 : BitVec 32 := 0#32
  let c781_i32_3253 : BitVec 32 := 781#32
  let v3726 : BitVec 32 := Scalar.muli v3725 c781_i32_3253
  let v3727 : BitVec 32 := Scalar.subi v3708 v3726
  let c128_i32_3254 : BitVec 32 := 128#32
  let v3728 : BitVec 32 := Scalar.muli v3727 c128_i32_3254
  ![v3725.toNat, 0, v3728.toNat]
def k0_off68 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c1_i32_3291 : BitVec 32 := 1#32
  let c781_i32_3253 : BitVec 32 := 781#32
  let v3726 : BitVec 32 := Scalar.muli v3725 c781_i32_3253
  let v3727 : BitVec 32 := Scalar.subi v3708 v3726
  let c128_i32_3255 : BitVec 32 := 128#32
  let v3729 : BitVec 32 := Scalar.muli v3727 c128_i32_3255
  ![v3725.toNat, 1, v3729.toNat]
def k0_off69 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c2_i32_3296 : BitVec 32 := 2#32
  let c781_i32_3253 : BitVec 32 := 781#32
  let v3726 : BitVec 32 := Scalar.muli v3725 c781_i32_3253
  let v3727 : BitVec 32 := Scalar.subi v3708 v3726
  let c128_i32_3256 : BitVec 32 := 128#32
  let v3730 : BitVec 32 := Scalar.muli v3727 c128_i32_3256
  ![v3725.toNat, 2, v3730.toNat]
def k0_off70 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c3_i32_3301 : BitVec 32 := 3#32
  let c781_i32_3253 : BitVec 32 := 781#32
  let v3726 : BitVec 32 := Scalar.muli v3725 c781_i32_3253
  let v3727 : BitVec 32 := Scalar.subi v3708 v3726
  let c128_i32_3257 : BitVec 32 := 128#32
  let v3731 : BitVec 32 := Scalar.muli v3727 c128_i32_3257
  ![v3725.toNat, 3, v3731.toNat]
def k0_off71 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c4_i32_3306 : BitVec 32 := 4#32
  let c781_i32_3253 : BitVec 32 := 781#32
  let v3726 : BitVec 32 := Scalar.muli v3725 c781_i32_3253
  let v3727 : BitVec 32 := Scalar.subi v3708 v3726
  let c128_i32_3258 : BitVec 32 := 128#32
  let v3732 : BitVec 32 := Scalar.muli v3727 c128_i32_3258
  ![v3725.toNat, 4, v3732.toNat]
def k0_off72 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c5_i32_3311 : BitVec 32 := 5#32
  let c781_i32_3253 : BitVec 32 := 781#32
  let v3726 : BitVec 32 := Scalar.muli v3725 c781_i32_3253
  let v3727 : BitVec 32 := Scalar.subi v3708 v3726
  let c128_i32_3259 : BitVec 32 := 128#32
  let v3733 : BitVec 32 := Scalar.muli v3727 c128_i32_3259
  ![v3725.toNat, 5, v3733.toNat]
def k0_off73 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c6_i32_3316 : BitVec 32 := 6#32
  let c781_i32_3253 : BitVec 32 := 781#32
  let v3726 : BitVec 32 := Scalar.muli v3725 c781_i32_3253
  let v3727 : BitVec 32 := Scalar.subi v3708 v3726
  let c128_i32_3260 : BitVec 32 := 128#32
  let v3734 : BitVec 32 := Scalar.muli v3727 c128_i32_3260
  ![v3725.toNat, 6, v3734.toNat]
def k0_off74 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c7_i32_3321 : BitVec 32 := 7#32
  let c781_i32_3253 : BitVec 32 := 781#32
  let v3726 : BitVec 32 := Scalar.muli v3725 c781_i32_3253
  let v3727 : BitVec 32 := Scalar.subi v3708 v3726
  let c128_i32_3261 : BitVec 32 := 128#32
  let v3735 : BitVec 32 := Scalar.muli v3727 c128_i32_3261
  ![v3725.toNat, 7, v3735.toNat]
def k0_off75 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c8_i32_3326 : BitVec 32 := 8#32
  let c781_i32_3253 : BitVec 32 := 781#32
  let v3726 : BitVec 32 := Scalar.muli v3725 c781_i32_3253
  let v3727 : BitVec 32 := Scalar.subi v3708 v3726
  let c128_i32_3262 : BitVec 32 := 128#32
  let v3736 : BitVec 32 := Scalar.muli v3727 c128_i32_3262
  ![v3725.toNat, 8, v3736.toNat]
def k0_off76 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c9_i32_3331 : BitVec 32 := 9#32
  let c781_i32_3253 : BitVec 32 := 781#32
  let v3726 : BitVec 32 := Scalar.muli v3725 c781_i32_3253
  let v3727 : BitVec 32 := Scalar.subi v3708 v3726
  let c128_i32_3263 : BitVec 32 := 128#32
  let v3737 : BitVec 32 := Scalar.muli v3727 c128_i32_3263
  ![v3725.toNat, 9, v3737.toNat]
def k0_off77 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c10_i32_3336 : BitVec 32 := 10#32
  let c781_i32_3253 : BitVec 32 := 781#32
  let v3726 : BitVec 32 := Scalar.muli v3725 c781_i32_3253
  let v3727 : BitVec 32 := Scalar.subi v3708 v3726
  let c128_i32_3264 : BitVec 32 := 128#32
  let v3738 : BitVec 32 := Scalar.muli v3727 c128_i32_3264
  ![v3725.toNat, 10, v3738.toNat]
def k0_off78 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c11_i32_3341 : BitVec 32 := 11#32
  let c781_i32_3253 : BitVec 32 := 781#32
  let v3726 : BitVec 32 := Scalar.muli v3725 c781_i32_3253
  let v3727 : BitVec 32 := Scalar.subi v3708 v3726
  let c128_i32_3265 : BitVec 32 := 128#32
  let v3739 : BitVec 32 := Scalar.muli v3727 c128_i32_3265
  ![v3725.toNat, 11, v3739.toNat]
def k0_off79 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c12_i32_3346 : BitVec 32 := 12#32
  let c781_i32_3253 : BitVec 32 := 781#32
  let v3726 : BitVec 32 := Scalar.muli v3725 c781_i32_3253
  let v3727 : BitVec 32 := Scalar.subi v3708 v3726
  let c128_i32_3266 : BitVec 32 := 128#32
  let v3740 : BitVec 32 := Scalar.muli v3727 c128_i32_3266
  ![v3725.toNat, 12, v3740.toNat]
def k0_off80 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c13_i32_3351 : BitVec 32 := 13#32
  let c781_i32_3253 : BitVec 32 := 781#32
  let v3726 : BitVec 32 := Scalar.muli v3725 c781_i32_3253
  let v3727 : BitVec 32 := Scalar.subi v3708 v3726
  let c128_i32_3267 : BitVec 32 := 128#32
  let v3741 : BitVec 32 := Scalar.muli v3727 c128_i32_3267
  ![v3725.toNat, 13, v3741.toNat]
def k0_off81 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c14_i32_3356 : BitVec 32 := 14#32
  let c781_i32_3253 : BitVec 32 := 781#32
  let v3726 : BitVec 32 := Scalar.muli v3725 c781_i32_3253
  let v3727 : BitVec 32 := Scalar.subi v3708 v3726
  let c128_i32_3268 : BitVec 32 := 128#32
  let v3742 : BitVec 32 := Scalar.muli v3727 c128_i32_3268
  ![v3725.toNat, 14, v3742.toNat]
def k0_off82 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c15_i32_3361 : BitVec 32 := 15#32
  let c781_i32_3253 : BitVec 32 := 781#32
  let v3726 : BitVec 32 := Scalar.muli v3725 c781_i32_3253
  let v3727 : BitVec 32 := Scalar.subi v3708 v3726
  let c128_i32_3269 : BitVec 32 := 128#32
  let v3743 : BitVec 32 := Scalar.muli v3727 c128_i32_3269
  ![v3725.toNat, 15, v3743.toNat]
def k0_off83 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c16_i32_3366 : BitVec 32 := 16#32
  let c781_i32_3253 : BitVec 32 := 781#32
  let v3726 : BitVec 32 := Scalar.muli v3725 c781_i32_3253
  let v3727 : BitVec 32 := Scalar.subi v3708 v3726
  let c128_i32_3270 : BitVec 32 := 128#32
  let v3744 : BitVec 32 := Scalar.muli v3727 c128_i32_3270
  ![v3725.toNat, 16, v3744.toNat]
def k0_off84 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c17_i32_3371 : BitVec 32 := 17#32
  let c781_i32_3253 : BitVec 32 := 781#32
  let v3726 : BitVec 32 := Scalar.muli v3725 c781_i32_3253
  let v3727 : BitVec 32 := Scalar.subi v3708 v3726
  let c128_i32_3271 : BitVec 32 := 128#32
  let v3745 : BitVec 32 := Scalar.muli v3727 c128_i32_3271
  ![v3725.toNat, 17, v3745.toNat]
def k0_off85 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c18_i32_3376 : BitVec 32 := 18#32
  let c781_i32_3253 : BitVec 32 := 781#32
  let v3726 : BitVec 32 := Scalar.muli v3725 c781_i32_3253
  let v3727 : BitVec 32 := Scalar.subi v3708 v3726
  let c128_i32_3272 : BitVec 32 := 128#32
  let v3746 : BitVec 32 := Scalar.muli v3727 c128_i32_3272
  ![v3725.toNat, 18, v3746.toNat]
def k0_off86 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c19_i32_3381 : BitVec 32 := 19#32
  let c781_i32_3253 : BitVec 32 := 781#32
  let v3726 : BitVec 32 := Scalar.muli v3725 c781_i32_3253
  let v3727 : BitVec 32 := Scalar.subi v3708 v3726
  let c128_i32_3273 : BitVec 32 := 128#32
  let v3747 : BitVec 32 := Scalar.muli v3727 c128_i32_3273
  ![v3725.toNat, 19, v3747.toNat]
def k0_off87 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c20_i32_3386 : BitVec 32 := 20#32
  let c781_i32_3253 : BitVec 32 := 781#32
  let v3726 : BitVec 32 := Scalar.muli v3725 c781_i32_3253
  let v3727 : BitVec 32 := Scalar.subi v3708 v3726
  let c128_i32_3274 : BitVec 32 := 128#32
  let v3748 : BitVec 32 := Scalar.muli v3727 c128_i32_3274
  ![v3725.toNat, 20, v3748.toNat]
def k0_off88 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c21_i32_3391 : BitVec 32 := 21#32
  let c781_i32_3253 : BitVec 32 := 781#32
  let v3726 : BitVec 32 := Scalar.muli v3725 c781_i32_3253
  let v3727 : BitVec 32 := Scalar.subi v3708 v3726
  let c128_i32_3275 : BitVec 32 := 128#32
  let v3749 : BitVec 32 := Scalar.muli v3727 c128_i32_3275
  ![v3725.toNat, 21, v3749.toNat]
def k0_off89 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c22_i32_3396 : BitVec 32 := 22#32
  let c781_i32_3253 : BitVec 32 := 781#32
  let v3726 : BitVec 32 := Scalar.muli v3725 c781_i32_3253
  let v3727 : BitVec 32 := Scalar.subi v3708 v3726
  let c128_i32_3276 : BitVec 32 := 128#32
  let v3750 : BitVec 32 := Scalar.muli v3727 c128_i32_3276
  ![v3725.toNat, 22, v3750.toNat]
def k0_off90 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c23_i32_3401 : BitVec 32 := 23#32
  let c781_i32_3253 : BitVec 32 := 781#32
  let v3726 : BitVec 32 := Scalar.muli v3725 c781_i32_3253
  let v3727 : BitVec 32 := Scalar.subi v3708 v3726
  let c128_i32_3277 : BitVec 32 := 128#32
  let v3751 : BitVec 32 := Scalar.muli v3727 c128_i32_3277
  ![v3725.toNat, 23, v3751.toNat]
def k0_off91 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c24_i32_3406 : BitVec 32 := 24#32
  let c781_i32_3253 : BitVec 32 := 781#32
  let v3726 : BitVec 32 := Scalar.muli v3725 c781_i32_3253
  let v3727 : BitVec 32 := Scalar.subi v3708 v3726
  let c128_i32_3278 : BitVec 32 := 128#32
  let v3752 : BitVec 32 := Scalar.muli v3727 c128_i32_3278
  ![v3725.toNat, 24, v3752.toNat]
def k0_off92 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c25_i32_3411 : BitVec 32 := 25#32
  let c781_i32_3253 : BitVec 32 := 781#32
  let v3726 : BitVec 32 := Scalar.muli v3725 c781_i32_3253
  let v3727 : BitVec 32 := Scalar.subi v3708 v3726
  let c128_i32_3279 : BitVec 32 := 128#32
  let v3753 : BitVec 32 := Scalar.muli v3727 c128_i32_3279
  ![v3725.toNat, 25, v3753.toNat]
def k0_off93 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c26_i32_3416 : BitVec 32 := 26#32
  let c781_i32_3253 : BitVec 32 := 781#32
  let v3726 : BitVec 32 := Scalar.muli v3725 c781_i32_3253
  let v3727 : BitVec 32 := Scalar.subi v3708 v3726
  let c128_i32_3280 : BitVec 32 := 128#32
  let v3754 : BitVec 32 := Scalar.muli v3727 c128_i32_3280
  ![v3725.toNat, 26, v3754.toNat]
def k0_off94 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c27_i32_3421 : BitVec 32 := 27#32
  let c781_i32_3253 : BitVec 32 := 781#32
  let v3726 : BitVec 32 := Scalar.muli v3725 c781_i32_3253
  let v3727 : BitVec 32 := Scalar.subi v3708 v3726
  let c128_i32_3281 : BitVec 32 := 128#32
  let v3755 : BitVec 32 := Scalar.muli v3727 c128_i32_3281
  ![v3725.toNat, 27, v3755.toNat]
def k0_off95 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c28_i32_3426 : BitVec 32 := 28#32
  let c781_i32_3253 : BitVec 32 := 781#32
  let v3726 : BitVec 32 := Scalar.muli v3725 c781_i32_3253
  let v3727 : BitVec 32 := Scalar.subi v3708 v3726
  let c128_i32_3282 : BitVec 32 := 128#32
  let v3756 : BitVec 32 := Scalar.muli v3727 c128_i32_3282
  ![v3725.toNat, 28, v3756.toNat]
def k0_off96 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c29_i32_3431 : BitVec 32 := 29#32
  let c781_i32_3253 : BitVec 32 := 781#32
  let v3726 : BitVec 32 := Scalar.muli v3725 c781_i32_3253
  let v3727 : BitVec 32 := Scalar.subi v3708 v3726
  let c128_i32_3283 : BitVec 32 := 128#32
  let v3757 : BitVec 32 := Scalar.muli v3727 c128_i32_3283
  ![v3725.toNat, 29, v3757.toNat]
def k0_off97 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c30_i32_3436 : BitVec 32 := 30#32
  let c781_i32_3253 : BitVec 32 := 781#32
  let v3726 : BitVec 32 := Scalar.muli v3725 c781_i32_3253
  let v3727 : BitVec 32 := Scalar.subi v3708 v3726
  let c128_i32_3284 : BitVec 32 := 128#32
  let v3758 : BitVec 32 := Scalar.muli v3727 c128_i32_3284
  ![v3725.toNat, 30, v3758.toNat]
def k0_off98 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3244 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c0_i32_819 : BitVec 32 := 0#32
  let v1312 : BitVec 32 := Scalar.addi v1311 c0_i32_819
  let c2_i32_3243 : BitVec 32 := 2#32
  let v3705 : BitVec 32 := Scalar.addi v1312 c2_i32_3243
  let v3706 : BitVec 32 := Scalar.muli c32_i32_3244 v3705
  let v3707 : BitVec 32 := Scalar.addi v1 v3706
  let c20305_i32_3245 : BitVec 32 := 20305#32
  let v3708 : BitVec 32 := Scalar.minsi v3707 c20305_i32_3245
  let c0_i32_3247 : BitVec 32 := 0#32
  let v3710 : BitVec 1 := Scalar.cmpi .sgt v3708 c0_i32_3247
  let v3711 : BitVec 32 := Scalar.extui v3710
  let c0_i32_3248 : BitVec 32 := 0#32
  let v3712 : BitVec 1 := Scalar.cmpi .slt v3708 c0_i32_3248
  let v3713 : BitVec 32 := Scalar.extui v3712
  let v3714 : BitVec 32 := Scalar.subi v3711 v3713
  let c781_i32_3246 : BitVec 32 := 781#32
  let c0_i32_3249 : BitVec 32 := 0#32
  let v3715 : BitVec 1 := Scalar.cmpi .sgt c781_i32_3246 c0_i32_3249
  let v3716 : BitVec 32 := Scalar.extui v3715
  let c0_i32_3250 : BitVec 32 := 0#32
  let v3717 : BitVec 1 := Scalar.cmpi .slt c781_i32_3246 c0_i32_3250
  let v3718 : BitVec 32 := Scalar.extui v3717
  let v3719 : BitVec 32 := Scalar.subi v3716 v3718
  let v3720 : BitVec 1 := Scalar.cmpi .ne v3714 v3719
  let v3721 : BitVec 32 := Scalar.remsi v3708 c781_i32_3246
  let c0_i32_3251 : BitVec 32 := 0#32
  let v3722 : BitVec 1 := Scalar.cmpi .ne v3721 c0_i32_3251
  let v3723 : BitVec 1 := Scalar.andi v3720 v3722
  let v3709 : BitVec 32 := Scalar.divsi v3708 c781_i32_3246
  let c1_i32_3252 : BitVec 32 := 1#32
  let v3724 : BitVec 32 := Scalar.subi v3709 c1_i32_3252
  let v3725 : BitVec 32 := Scalar.select v3723 v3724 v3709
  let c31_i32_3441 : BitVec 32 := 31#32
  let c781_i32_3253 : BitVec 32 := 781#32
  let v3726 : BitVec 32 := Scalar.muli v3725 c781_i32_3253
  let v3727 : BitVec 32 := Scalar.subi v3708 v3726
  let c128_i32_3285 : BitVec 32 := 128#32
  let v3759 : BitVec 32 := Scalar.muli v3727 c128_i32_3285
  ![v3725.toNat, 31, v3759.toNat]
def k0_off99 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c0_i32_3499 : BitVec 32 := 0#32
  let c781_i32_3466 : BitVec 32 := 781#32
  let v4059 : BitVec 32 := Scalar.muli v4058 c781_i32_3466
  let v4060 : BitVec 32 := Scalar.subi v4041 v4059
  let c128_i32_3467 : BitVec 32 := 128#32
  let v4061 : BitVec 32 := Scalar.muli v4060 c128_i32_3467
  ![v4058.toNat, 0, v4061.toNat]
def k0_off100 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c1_i32_3504 : BitVec 32 := 1#32
  let c781_i32_3466 : BitVec 32 := 781#32
  let v4059 : BitVec 32 := Scalar.muli v4058 c781_i32_3466
  let v4060 : BitVec 32 := Scalar.subi v4041 v4059
  let c128_i32_3468 : BitVec 32 := 128#32
  let v4062 : BitVec 32 := Scalar.muli v4060 c128_i32_3468
  ![v4058.toNat, 1, v4062.toNat]
def k0_off101 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c2_i32_3509 : BitVec 32 := 2#32
  let c781_i32_3466 : BitVec 32 := 781#32
  let v4059 : BitVec 32 := Scalar.muli v4058 c781_i32_3466
  let v4060 : BitVec 32 := Scalar.subi v4041 v4059
  let c128_i32_3469 : BitVec 32 := 128#32
  let v4063 : BitVec 32 := Scalar.muli v4060 c128_i32_3469
  ![v4058.toNat, 2, v4063.toNat]
def k0_off102 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c3_i32_3514 : BitVec 32 := 3#32
  let c781_i32_3466 : BitVec 32 := 781#32
  let v4059 : BitVec 32 := Scalar.muli v4058 c781_i32_3466
  let v4060 : BitVec 32 := Scalar.subi v4041 v4059
  let c128_i32_3470 : BitVec 32 := 128#32
  let v4064 : BitVec 32 := Scalar.muli v4060 c128_i32_3470
  ![v4058.toNat, 3, v4064.toNat]
def k0_off103 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c4_i32_3519 : BitVec 32 := 4#32
  let c781_i32_3466 : BitVec 32 := 781#32
  let v4059 : BitVec 32 := Scalar.muli v4058 c781_i32_3466
  let v4060 : BitVec 32 := Scalar.subi v4041 v4059
  let c128_i32_3471 : BitVec 32 := 128#32
  let v4065 : BitVec 32 := Scalar.muli v4060 c128_i32_3471
  ![v4058.toNat, 4, v4065.toNat]
def k0_off104 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c5_i32_3524 : BitVec 32 := 5#32
  let c781_i32_3466 : BitVec 32 := 781#32
  let v4059 : BitVec 32 := Scalar.muli v4058 c781_i32_3466
  let v4060 : BitVec 32 := Scalar.subi v4041 v4059
  let c128_i32_3472 : BitVec 32 := 128#32
  let v4066 : BitVec 32 := Scalar.muli v4060 c128_i32_3472
  ![v4058.toNat, 5, v4066.toNat]
def k0_off105 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c6_i32_3529 : BitVec 32 := 6#32
  let c781_i32_3466 : BitVec 32 := 781#32
  let v4059 : BitVec 32 := Scalar.muli v4058 c781_i32_3466
  let v4060 : BitVec 32 := Scalar.subi v4041 v4059
  let c128_i32_3473 : BitVec 32 := 128#32
  let v4067 : BitVec 32 := Scalar.muli v4060 c128_i32_3473
  ![v4058.toNat, 6, v4067.toNat]
def k0_off106 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c7_i32_3534 : BitVec 32 := 7#32
  let c781_i32_3466 : BitVec 32 := 781#32
  let v4059 : BitVec 32 := Scalar.muli v4058 c781_i32_3466
  let v4060 : BitVec 32 := Scalar.subi v4041 v4059
  let c128_i32_3474 : BitVec 32 := 128#32
  let v4068 : BitVec 32 := Scalar.muli v4060 c128_i32_3474
  ![v4058.toNat, 7, v4068.toNat]
def k0_off107 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c8_i32_3539 : BitVec 32 := 8#32
  let c781_i32_3466 : BitVec 32 := 781#32
  let v4059 : BitVec 32 := Scalar.muli v4058 c781_i32_3466
  let v4060 : BitVec 32 := Scalar.subi v4041 v4059
  let c128_i32_3475 : BitVec 32 := 128#32
  let v4069 : BitVec 32 := Scalar.muli v4060 c128_i32_3475
  ![v4058.toNat, 8, v4069.toNat]
def k0_off108 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c9_i32_3544 : BitVec 32 := 9#32
  let c781_i32_3466 : BitVec 32 := 781#32
  let v4059 : BitVec 32 := Scalar.muli v4058 c781_i32_3466
  let v4060 : BitVec 32 := Scalar.subi v4041 v4059
  let c128_i32_3476 : BitVec 32 := 128#32
  let v4070 : BitVec 32 := Scalar.muli v4060 c128_i32_3476
  ![v4058.toNat, 9, v4070.toNat]
def k0_off109 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c10_i32_3549 : BitVec 32 := 10#32
  let c781_i32_3466 : BitVec 32 := 781#32
  let v4059 : BitVec 32 := Scalar.muli v4058 c781_i32_3466
  let v4060 : BitVec 32 := Scalar.subi v4041 v4059
  let c128_i32_3477 : BitVec 32 := 128#32
  let v4071 : BitVec 32 := Scalar.muli v4060 c128_i32_3477
  ![v4058.toNat, 10, v4071.toNat]
def k0_off110 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c11_i32_3554 : BitVec 32 := 11#32
  let c781_i32_3466 : BitVec 32 := 781#32
  let v4059 : BitVec 32 := Scalar.muli v4058 c781_i32_3466
  let v4060 : BitVec 32 := Scalar.subi v4041 v4059
  let c128_i32_3478 : BitVec 32 := 128#32
  let v4072 : BitVec 32 := Scalar.muli v4060 c128_i32_3478
  ![v4058.toNat, 11, v4072.toNat]
def k0_off111 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c12_i32_3559 : BitVec 32 := 12#32
  let c781_i32_3466 : BitVec 32 := 781#32
  let v4059 : BitVec 32 := Scalar.muli v4058 c781_i32_3466
  let v4060 : BitVec 32 := Scalar.subi v4041 v4059
  let c128_i32_3479 : BitVec 32 := 128#32
  let v4073 : BitVec 32 := Scalar.muli v4060 c128_i32_3479
  ![v4058.toNat, 12, v4073.toNat]
def k0_off112 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c13_i32_3564 : BitVec 32 := 13#32
  let c781_i32_3466 : BitVec 32 := 781#32
  let v4059 : BitVec 32 := Scalar.muli v4058 c781_i32_3466
  let v4060 : BitVec 32 := Scalar.subi v4041 v4059
  let c128_i32_3480 : BitVec 32 := 128#32
  let v4074 : BitVec 32 := Scalar.muli v4060 c128_i32_3480
  ![v4058.toNat, 13, v4074.toNat]
def k0_off113 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c14_i32_3569 : BitVec 32 := 14#32
  let c781_i32_3466 : BitVec 32 := 781#32
  let v4059 : BitVec 32 := Scalar.muli v4058 c781_i32_3466
  let v4060 : BitVec 32 := Scalar.subi v4041 v4059
  let c128_i32_3481 : BitVec 32 := 128#32
  let v4075 : BitVec 32 := Scalar.muli v4060 c128_i32_3481
  ![v4058.toNat, 14, v4075.toNat]
def k0_off114 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c15_i32_3574 : BitVec 32 := 15#32
  let c781_i32_3466 : BitVec 32 := 781#32
  let v4059 : BitVec 32 := Scalar.muli v4058 c781_i32_3466
  let v4060 : BitVec 32 := Scalar.subi v4041 v4059
  let c128_i32_3482 : BitVec 32 := 128#32
  let v4076 : BitVec 32 := Scalar.muli v4060 c128_i32_3482
  ![v4058.toNat, 15, v4076.toNat]
def k0_off115 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c16_i32_3579 : BitVec 32 := 16#32
  let c781_i32_3466 : BitVec 32 := 781#32
  let v4059 : BitVec 32 := Scalar.muli v4058 c781_i32_3466
  let v4060 : BitVec 32 := Scalar.subi v4041 v4059
  let c128_i32_3483 : BitVec 32 := 128#32
  let v4077 : BitVec 32 := Scalar.muli v4060 c128_i32_3483
  ![v4058.toNat, 16, v4077.toNat]
def k0_off116 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c17_i32_3584 : BitVec 32 := 17#32
  let c781_i32_3466 : BitVec 32 := 781#32
  let v4059 : BitVec 32 := Scalar.muli v4058 c781_i32_3466
  let v4060 : BitVec 32 := Scalar.subi v4041 v4059
  let c128_i32_3484 : BitVec 32 := 128#32
  let v4078 : BitVec 32 := Scalar.muli v4060 c128_i32_3484
  ![v4058.toNat, 17, v4078.toNat]
def k0_off117 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c18_i32_3589 : BitVec 32 := 18#32
  let c781_i32_3466 : BitVec 32 := 781#32
  let v4059 : BitVec 32 := Scalar.muli v4058 c781_i32_3466
  let v4060 : BitVec 32 := Scalar.subi v4041 v4059
  let c128_i32_3485 : BitVec 32 := 128#32
  let v4079 : BitVec 32 := Scalar.muli v4060 c128_i32_3485
  ![v4058.toNat, 18, v4079.toNat]
def k0_off118 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c19_i32_3594 : BitVec 32 := 19#32
  let c781_i32_3466 : BitVec 32 := 781#32
  let v4059 : BitVec 32 := Scalar.muli v4058 c781_i32_3466
  let v4060 : BitVec 32 := Scalar.subi v4041 v4059
  let c128_i32_3486 : BitVec 32 := 128#32
  let v4080 : BitVec 32 := Scalar.muli v4060 c128_i32_3486
  ![v4058.toNat, 19, v4080.toNat]
def k0_off119 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c20_i32_3599 : BitVec 32 := 20#32
  let c781_i32_3466 : BitVec 32 := 781#32
  let v4059 : BitVec 32 := Scalar.muli v4058 c781_i32_3466
  let v4060 : BitVec 32 := Scalar.subi v4041 v4059
  let c128_i32_3487 : BitVec 32 := 128#32
  let v4081 : BitVec 32 := Scalar.muli v4060 c128_i32_3487
  ![v4058.toNat, 20, v4081.toNat]
def k0_off120 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c21_i32_3604 : BitVec 32 := 21#32
  let c781_i32_3466 : BitVec 32 := 781#32
  let v4059 : BitVec 32 := Scalar.muli v4058 c781_i32_3466
  let v4060 : BitVec 32 := Scalar.subi v4041 v4059
  let c128_i32_3488 : BitVec 32 := 128#32
  let v4082 : BitVec 32 := Scalar.muli v4060 c128_i32_3488
  ![v4058.toNat, 21, v4082.toNat]
def k0_off121 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c22_i32_3609 : BitVec 32 := 22#32
  let c781_i32_3466 : BitVec 32 := 781#32
  let v4059 : BitVec 32 := Scalar.muli v4058 c781_i32_3466
  let v4060 : BitVec 32 := Scalar.subi v4041 v4059
  let c128_i32_3489 : BitVec 32 := 128#32
  let v4083 : BitVec 32 := Scalar.muli v4060 c128_i32_3489
  ![v4058.toNat, 22, v4083.toNat]
def k0_off122 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c23_i32_3614 : BitVec 32 := 23#32
  let c781_i32_3466 : BitVec 32 := 781#32
  let v4059 : BitVec 32 := Scalar.muli v4058 c781_i32_3466
  let v4060 : BitVec 32 := Scalar.subi v4041 v4059
  let c128_i32_3490 : BitVec 32 := 128#32
  let v4084 : BitVec 32 := Scalar.muli v4060 c128_i32_3490
  ![v4058.toNat, 23, v4084.toNat]
def k0_off123 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c24_i32_3619 : BitVec 32 := 24#32
  let c781_i32_3466 : BitVec 32 := 781#32
  let v4059 : BitVec 32 := Scalar.muli v4058 c781_i32_3466
  let v4060 : BitVec 32 := Scalar.subi v4041 v4059
  let c128_i32_3491 : BitVec 32 := 128#32
  let v4085 : BitVec 32 := Scalar.muli v4060 c128_i32_3491
  ![v4058.toNat, 24, v4085.toNat]
def k0_off124 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c25_i32_3624 : BitVec 32 := 25#32
  let c781_i32_3466 : BitVec 32 := 781#32
  let v4059 : BitVec 32 := Scalar.muli v4058 c781_i32_3466
  let v4060 : BitVec 32 := Scalar.subi v4041 v4059
  let c128_i32_3492 : BitVec 32 := 128#32
  let v4086 : BitVec 32 := Scalar.muli v4060 c128_i32_3492
  ![v4058.toNat, 25, v4086.toNat]
def k0_off125 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c26_i32_3629 : BitVec 32 := 26#32
  let c781_i32_3466 : BitVec 32 := 781#32
  let v4059 : BitVec 32 := Scalar.muli v4058 c781_i32_3466
  let v4060 : BitVec 32 := Scalar.subi v4041 v4059
  let c128_i32_3493 : BitVec 32 := 128#32
  let v4087 : BitVec 32 := Scalar.muli v4060 c128_i32_3493
  ![v4058.toNat, 26, v4087.toNat]
def k0_off126 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c27_i32_3634 : BitVec 32 := 27#32
  let c781_i32_3466 : BitVec 32 := 781#32
  let v4059 : BitVec 32 := Scalar.muli v4058 c781_i32_3466
  let v4060 : BitVec 32 := Scalar.subi v4041 v4059
  let c128_i32_3494 : BitVec 32 := 128#32
  let v4088 : BitVec 32 := Scalar.muli v4060 c128_i32_3494
  ![v4058.toNat, 27, v4088.toNat]
def k0_off127 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c28_i32_3639 : BitVec 32 := 28#32
  let c781_i32_3466 : BitVec 32 := 781#32
  let v4059 : BitVec 32 := Scalar.muli v4058 c781_i32_3466
  let v4060 : BitVec 32 := Scalar.subi v4041 v4059
  let c128_i32_3495 : BitVec 32 := 128#32
  let v4089 : BitVec 32 := Scalar.muli v4060 c128_i32_3495
  ![v4058.toNat, 28, v4089.toNat]
def k0_off128 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c29_i32_3644 : BitVec 32 := 29#32
  let c781_i32_3466 : BitVec 32 := 781#32
  let v4059 : BitVec 32 := Scalar.muli v4058 c781_i32_3466
  let v4060 : BitVec 32 := Scalar.subi v4041 v4059
  let c128_i32_3496 : BitVec 32 := 128#32
  let v4090 : BitVec 32 := Scalar.muli v4060 c128_i32_3496
  ![v4058.toNat, 29, v4090.toNat]
def k0_off129 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c30_i32_3649 : BitVec 32 := 30#32
  let c781_i32_3466 : BitVec 32 := 781#32
  let v4059 : BitVec 32 := Scalar.muli v4058 c781_i32_3466
  let v4060 : BitVec 32 := Scalar.subi v4041 v4059
  let c128_i32_3497 : BitVec 32 := 128#32
  let v4091 : BitVec 32 := Scalar.muli v4060 c128_i32_3497
  ![v4058.toNat, 30, v4091.toNat]
def k0_off130 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3457 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4039 : BitVec 32 := Scalar.muli c32_i32_3457 v4016
  let v4040 : BitVec 32 := Scalar.addi v1 v4039
  let c20305_i32_3458 : BitVec 32 := 20305#32
  let v4041 : BitVec 32 := Scalar.minsi v4040 c20305_i32_3458
  let c0_i32_3460 : BitVec 32 := 0#32
  let v4043 : BitVec 1 := Scalar.cmpi .sgt v4041 c0_i32_3460
  let v4044 : BitVec 32 := Scalar.extui v4043
  let c0_i32_3461 : BitVec 32 := 0#32
  let v4045 : BitVec 1 := Scalar.cmpi .slt v4041 c0_i32_3461
  let v4046 : BitVec 32 := Scalar.extui v4045
  let v4047 : BitVec 32 := Scalar.subi v4044 v4046
  let c781_i32_3459 : BitVec 32 := 781#32
  let c0_i32_3462 : BitVec 32 := 0#32
  let v4048 : BitVec 1 := Scalar.cmpi .sgt c781_i32_3459 c0_i32_3462
  let v4049 : BitVec 32 := Scalar.extui v4048
  let c0_i32_3463 : BitVec 32 := 0#32
  let v4050 : BitVec 1 := Scalar.cmpi .slt c781_i32_3459 c0_i32_3463
  let v4051 : BitVec 32 := Scalar.extui v4050
  let v4052 : BitVec 32 := Scalar.subi v4049 v4051
  let v4053 : BitVec 1 := Scalar.cmpi .ne v4047 v4052
  let v4054 : BitVec 32 := Scalar.remsi v4041 c781_i32_3459
  let c0_i32_3464 : BitVec 32 := 0#32
  let v4055 : BitVec 1 := Scalar.cmpi .ne v4054 c0_i32_3464
  let v4056 : BitVec 1 := Scalar.andi v4053 v4055
  let v4042 : BitVec 32 := Scalar.divsi v4041 c781_i32_3459
  let c1_i32_3465 : BitVec 32 := 1#32
  let v4057 : BitVec 32 := Scalar.subi v4042 c1_i32_3465
  let v4058 : BitVec 32 := Scalar.select v4056 v4057 v4042
  let c31_i32_3654 : BitVec 32 := 31#32
  let c781_i32_3466 : BitVec 32 := 781#32
  let v4059 : BitVec 32 := Scalar.muli v4058 c781_i32_3466
  let v4060 : BitVec 32 := Scalar.subi v4041 v4059
  let c128_i32_3498 : BitVec 32 := 128#32
  let v4092 : BitVec 32 := Scalar.muli v4060 c128_i32_3498
  ![v4058.toNat, 31, v4092.toNat]
def k0_cond2 (k0_t1 : Fin k0_t1_loop.trips) : BitVec 1 :=
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c2_i32_3659 : BitVec 32 := 2#32
  let v4349 : BitVec 1 := Scalar.cmpi .sge v1311 c2_i32_3659
  let v4350 : BitVec 32 := Scalar.extui v4349
  let c0_i32_3660 : BitVec 32 := 0#32
  let v4351 : BitVec 1 := Scalar.cmpi .ne v4350 c0_i32_3660
  v4351

def k0_off131 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3447 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4017 : BitVec 32 := Scalar.muli c32_i32_3447 v4016
  let v4018 : BitVec 32 := Scalar.addi v1 v4017
  let c20305_i32_3448 : BitVec 32 := 20305#32
  let v4019 : BitVec 32 := Scalar.minsi v4018 c20305_i32_3448
  let c0_i32_3450 : BitVec 32 := 0#32
  let v4021 : BitVec 1 := Scalar.cmpi .sgt v4019 c0_i32_3450
  let v4022 : BitVec 32 := Scalar.extui v4021
  let c0_i32_3451 : BitVec 32 := 0#32
  let v4023 : BitVec 1 := Scalar.cmpi .slt v4019 c0_i32_3451
  let v4024 : BitVec 32 := Scalar.extui v4023
  let v4025 : BitVec 32 := Scalar.subi v4022 v4024
  let c781_i32_3449 : BitVec 32 := 781#32
  let c0_i32_3452 : BitVec 32 := 0#32
  let v4026 : BitVec 1 := Scalar.cmpi .sgt c781_i32_3449 c0_i32_3452
  let v4027 : BitVec 32 := Scalar.extui v4026
  let c0_i32_3453 : BitVec 32 := 0#32
  let v4028 : BitVec 1 := Scalar.cmpi .slt c781_i32_3449 c0_i32_3453
  let v4029 : BitVec 32 := Scalar.extui v4028
  let v4030 : BitVec 32 := Scalar.subi v4027 v4029
  let v4031 : BitVec 1 := Scalar.cmpi .ne v4025 v4030
  let v4032 : BitVec 32 := Scalar.remsi v4019 c781_i32_3449
  let c0_i32_3454 : BitVec 32 := 0#32
  let v4033 : BitVec 1 := Scalar.cmpi .ne v4032 c0_i32_3454
  let v4034 : BitVec 1 := Scalar.andi v4031 v4033
  let v4020 : BitVec 32 := Scalar.divsi v4019 c781_i32_3449
  let c1_i32_3455 : BitVec 32 := 1#32
  let v4035 : BitVec 32 := Scalar.subi v4020 c1_i32_3455
  let v4036 : BitVec 32 := Scalar.select v4034 v4035 v4020
  let c32_i32_6176 : BitVec 32 := 32#32
  let c781_i32_3456 : BitVec 32 := 781#32
  let v4037 : BitVec 32 := Scalar.muli v4036 c781_i32_3456
  let v4038 : BitVec 32 := Scalar.subi v4019 v4037
  let v6720 : BitVec 32 := Scalar.muli c32_i32_6176 v4038
  let c0_i32_6180 : BitVec 32 := 0#32
  ![v4036.toNat, v6720.toNat, 0]

def k0_chk257 (v2 : IVec S16 32) (v4352 : IVec S16 32) : Prop :=
  (∀ a x, ((![v2, v4352] : Fin 2 → IVec S16 32) a x).toNat < S32x129.size a)
theorem k0_idx257_inb : ∀ (v2 : IVec S16 32) (v4352 : IVec S16 32) (k0_hw257 : k0_chk257 v2 v4352), ∀ a x, ((![v2, v4352] : Fin 2 → IVec S16 32) a x).toNat < S32x129.size a := fun v2 v4352 k0_hw257 => k0_hw257

def k0_chk258 (v4 : IVec S16 32) (v4356 : IVec S16 32) : Prop :=
  (∀ a x, ((![v4, v4356] : Fin 2 → IVec S16 32) a x).toNat < S32x129.size a)
theorem k0_idx258_inb : ∀ (v4 : IVec S16 32) (v4356 : IVec S16 32) (k0_hw258 : k0_chk258 v4 v4356), ∀ a x, ((![v4, v4356] : Fin 2 → IVec S16 32) a x).toNat < S32x129.size a := fun v4 v4356 k0_hw258 => k0_hw258

def k0_chk259 (v2 : IVec S16 32) (v4360 : IVec S16 32) : Prop :=
  (∀ a x, ((![v2, v4360] : Fin 2 → IVec S16 32) a x).toNat < S32x129.size a)
theorem k0_idx259_inb : ∀ (v2 : IVec S16 32) (v4360 : IVec S16 32) (k0_hw259 : k0_chk259 v2 v4360), ∀ a x, ((![v2, v4360] : Fin 2 → IVec S16 32) a x).toNat < S32x129.size a := fun v2 v4360 k0_hw259 => k0_hw259

def k0_chk260 (v4 : IVec S16 32) (v4364 : IVec S16 32) : Prop :=
  (∀ a x, ((![v4, v4364] : Fin 2 → IVec S16 32) a x).toNat < S32x129.size a)
theorem k0_idx260_inb : ∀ (v4 : IVec S16 32) (v4364 : IVec S16 32) (k0_hw260 : k0_chk260 v4 v4364), ∀ a x, ((![v4, v4364] : Fin 2 → IVec S16 32) a x).toNat < S32x129.size a := fun v4 v4364 k0_hw260 => k0_hw260

def k0_chk261 (v2 : IVec S16 32) (v4368 : IVec S16 32) : Prop :=
  (∀ a x, ((![v2, v4368] : Fin 2 → IVec S16 32) a x).toNat < S32x129.size a)
theorem k0_idx261_inb : ∀ (v2 : IVec S16 32) (v4368 : IVec S16 32) (k0_hw261 : k0_chk261 v2 v4368), ∀ a x, ((![v2, v4368] : Fin 2 → IVec S16 32) a x).toNat < S32x129.size a := fun v2 v4368 k0_hw261 => k0_hw261

def k0_chk262 (v4 : IVec S16 32) (v4372 : IVec S16 32) : Prop :=
  (∀ a x, ((![v4, v4372] : Fin 2 → IVec S16 32) a x).toNat < S32x129.size a)
theorem k0_idx262_inb : ∀ (v4 : IVec S16 32) (v4372 : IVec S16 32) (k0_hw262 : k0_chk262 v4 v4372), ∀ a x, ((![v4, v4372] : Fin 2 → IVec S16 32) a x).toNat < S32x129.size a := fun v4 v4372 k0_hw262 => k0_hw262

def k0_chk263 (v2 : IVec S16 32) (v4376 : IVec S16 32) : Prop :=
  (∀ a x, ((![v2, v4376] : Fin 2 → IVec S16 32) a x).toNat < S32x129.size a)
theorem k0_idx263_inb : ∀ (v2 : IVec S16 32) (v4376 : IVec S16 32) (k0_hw263 : k0_chk263 v2 v4376), ∀ a x, ((![v2, v4376] : Fin 2 → IVec S16 32) a x).toNat < S32x129.size a := fun v2 v4376 k0_hw263 => k0_hw263

def k0_chk264 (v4 : IVec S16 32) (v4380 : IVec S16 32) : Prop :=
  (∀ a x, ((![v4, v4380] : Fin 2 → IVec S16 32) a x).toNat < S32x129.size a)
theorem k0_idx264_inb : ∀ (v4 : IVec S16 32) (v4380 : IVec S16 32) (k0_hw264 : k0_chk264 v4 v4380), ∀ a x, ((![v4, v4380] : Fin 2 → IVec S16 32) a x).toNat < S32x129.size a := fun v4 v4380 k0_hw264 => k0_hw264

def k0_chk265 (v2 : IVec S16 32) (v4384 : IVec S16 32) : Prop :=
  (∀ a x, ((![v2, v4384] : Fin 2 → IVec S16 32) a x).toNat < S32x129.size a)
theorem k0_idx265_inb : ∀ (v2 : IVec S16 32) (v4384 : IVec S16 32) (k0_hw265 : k0_chk265 v2 v4384), ∀ a x, ((![v2, v4384] : Fin 2 → IVec S16 32) a x).toNat < S32x129.size a := fun v2 v4384 k0_hw265 => k0_hw265

def k0_chk266 (v4 : IVec S16 32) (v4388 : IVec S16 32) : Prop :=
  (∀ a x, ((![v4, v4388] : Fin 2 → IVec S16 32) a x).toNat < S32x129.size a)
theorem k0_idx266_inb : ∀ (v4 : IVec S16 32) (v4388 : IVec S16 32) (k0_hw266 : k0_chk266 v4 v4388), ∀ a x, ((![v4, v4388] : Fin 2 → IVec S16 32) a x).toNat < S32x129.size a := fun v4 v4388 k0_hw266 => k0_hw266

def k0_chk267 (v2 : IVec S16 32) (v4392 : IVec S16 32) : Prop :=
  (∀ a x, ((![v2, v4392] : Fin 2 → IVec S16 32) a x).toNat < S32x129.size a)
theorem k0_idx267_inb : ∀ (v2 : IVec S16 32) (v4392 : IVec S16 32) (k0_hw267 : k0_chk267 v2 v4392), ∀ a x, ((![v2, v4392] : Fin 2 → IVec S16 32) a x).toNat < S32x129.size a := fun v2 v4392 k0_hw267 => k0_hw267

def k0_chk268 (v4 : IVec S16 32) (v4396 : IVec S16 32) : Prop :=
  (∀ a x, ((![v4, v4396] : Fin 2 → IVec S16 32) a x).toNat < S32x129.size a)
theorem k0_idx268_inb : ∀ (v4 : IVec S16 32) (v4396 : IVec S16 32) (k0_hw268 : k0_chk268 v4 v4396), ∀ a x, ((![v4, v4396] : Fin 2 → IVec S16 32) a x).toNat < S32x129.size a := fun v4 v4396 k0_hw268 => k0_hw268

def k0_chk269 (v2 : IVec S16 32) (v4400 : IVec S16 32) : Prop :=
  (∀ a x, ((![v2, v4400] : Fin 2 → IVec S16 32) a x).toNat < S32x129.size a)
theorem k0_idx269_inb : ∀ (v2 : IVec S16 32) (v4400 : IVec S16 32) (k0_hw269 : k0_chk269 v2 v4400), ∀ a x, ((![v2, v4400] : Fin 2 → IVec S16 32) a x).toNat < S32x129.size a := fun v2 v4400 k0_hw269 => k0_hw269

def k0_chk270 (v4 : IVec S16 32) (v4404 : IVec S16 32) : Prop :=
  (∀ a x, ((![v4, v4404] : Fin 2 → IVec S16 32) a x).toNat < S32x129.size a)
theorem k0_idx270_inb : ∀ (v4 : IVec S16 32) (v4404 : IVec S16 32) (k0_hw270 : k0_chk270 v4 v4404), ∀ a x, ((![v4, v4404] : Fin 2 → IVec S16 32) a x).toNat < S32x129.size a := fun v4 v4404 k0_hw270 => k0_hw270

def k0_chk271 (v2 : IVec S16 32) (v4408 : IVec S16 32) : Prop :=
  (∀ a x, ((![v2, v4408] : Fin 2 → IVec S16 32) a x).toNat < S32x129.size a)
theorem k0_idx271_inb : ∀ (v2 : IVec S16 32) (v4408 : IVec S16 32) (k0_hw271 : k0_chk271 v2 v4408), ∀ a x, ((![v2, v4408] : Fin 2 → IVec S16 32) a x).toNat < S32x129.size a := fun v2 v4408 k0_hw271 => k0_hw271

def k0_chk272 (v4 : IVec S16 32) (v4412 : IVec S16 32) : Prop :=
  (∀ a x, ((![v4, v4412] : Fin 2 → IVec S16 32) a x).toNat < S32x129.size a)
theorem k0_idx272_inb : ∀ (v4 : IVec S16 32) (v4412 : IVec S16 32) (k0_hw272 : k0_chk272 v4 v4412), ∀ a x, ((![v4, v4412] : Fin 2 → IVec S16 32) a x).toNat < S32x129.size a := fun v4 v4412 k0_hw272 => k0_hw272

def k0_chk273 (v2 : IVec S16 32) (v4416 : IVec S16 32) : Prop :=
  (∀ a x, ((![v2, v4416] : Fin 2 → IVec S16 32) a x).toNat < S32x129.size a)
theorem k0_idx273_inb : ∀ (v2 : IVec S16 32) (v4416 : IVec S16 32) (k0_hw273 : k0_chk273 v2 v4416), ∀ a x, ((![v2, v4416] : Fin 2 → IVec S16 32) a x).toNat < S32x129.size a := fun v2 v4416 k0_hw273 => k0_hw273

def k0_chk274 (v4 : IVec S16 32) (v4420 : IVec S16 32) : Prop :=
  (∀ a x, ((![v4, v4420] : Fin 2 → IVec S16 32) a x).toNat < S32x129.size a)
theorem k0_idx274_inb : ∀ (v4 : IVec S16 32) (v4420 : IVec S16 32) (k0_hw274 : k0_chk274 v4 v4420), ∀ a x, ((![v4, v4420] : Fin 2 → IVec S16 32) a x).toNat < S32x129.size a := fun v4 v4420 k0_hw274 => k0_hw274

def k0_chk275 (v2 : IVec S16 32) (v4424 : IVec S16 32) : Prop :=
  (∀ a x, ((![v2, v4424] : Fin 2 → IVec S16 32) a x).toNat < S32x129.size a)
theorem k0_idx275_inb : ∀ (v2 : IVec S16 32) (v4424 : IVec S16 32) (k0_hw275 : k0_chk275 v2 v4424), ∀ a x, ((![v2, v4424] : Fin 2 → IVec S16 32) a x).toNat < S32x129.size a := fun v2 v4424 k0_hw275 => k0_hw275

def k0_chk276 (v4 : IVec S16 32) (v4428 : IVec S16 32) : Prop :=
  (∀ a x, ((![v4, v4428] : Fin 2 → IVec S16 32) a x).toNat < S32x129.size a)
theorem k0_idx276_inb : ∀ (v4 : IVec S16 32) (v4428 : IVec S16 32) (k0_hw276 : k0_chk276 v4 v4428), ∀ a x, ((![v4, v4428] : Fin 2 → IVec S16 32) a x).toNat < S32x129.size a := fun v4 v4428 k0_hw276 => k0_hw276

def k0_chk277 (v2 : IVec S16 32) (v4432 : IVec S16 32) : Prop :=
  (∀ a x, ((![v2, v4432] : Fin 2 → IVec S16 32) a x).toNat < S32x129.size a)
theorem k0_idx277_inb : ∀ (v2 : IVec S16 32) (v4432 : IVec S16 32) (k0_hw277 : k0_chk277 v2 v4432), ∀ a x, ((![v2, v4432] : Fin 2 → IVec S16 32) a x).toNat < S32x129.size a := fun v2 v4432 k0_hw277 => k0_hw277

def k0_chk278 (v4 : IVec S16 32) (v4436 : IVec S16 32) : Prop :=
  (∀ a x, ((![v4, v4436] : Fin 2 → IVec S16 32) a x).toNat < S32x129.size a)
theorem k0_idx278_inb : ∀ (v4 : IVec S16 32) (v4436 : IVec S16 32) (k0_hw278 : k0_chk278 v4 v4436), ∀ a x, ((![v4, v4436] : Fin 2 → IVec S16 32) a x).toNat < S32x129.size a := fun v4 v4436 k0_hw278 => k0_hw278

def k0_chk279 (v2 : IVec S16 32) (v4440 : IVec S16 32) : Prop :=
  (∀ a x, ((![v2, v4440] : Fin 2 → IVec S16 32) a x).toNat < S32x129.size a)
theorem k0_idx279_inb : ∀ (v2 : IVec S16 32) (v4440 : IVec S16 32) (k0_hw279 : k0_chk279 v2 v4440), ∀ a x, ((![v2, v4440] : Fin 2 → IVec S16 32) a x).toNat < S32x129.size a := fun v2 v4440 k0_hw279 => k0_hw279

def k0_chk280 (v4 : IVec S16 32) (v4444 : IVec S16 32) : Prop :=
  (∀ a x, ((![v4, v4444] : Fin 2 → IVec S16 32) a x).toNat < S32x129.size a)
theorem k0_idx280_inb : ∀ (v4 : IVec S16 32) (v4444 : IVec S16 32) (k0_hw280 : k0_chk280 v4 v4444), ∀ a x, ((![v4, v4444] : Fin 2 → IVec S16 32) a x).toNat < S32x129.size a := fun v4 v4444 k0_hw280 => k0_hw280

def k0_chk281 (v2 : IVec S16 32) (v4452 : IVec S16 32) : Prop :=
  (∀ a x, ((![v2, v4452] : Fin 2 → IVec S16 32) a x).toNat < S32x129.size a)
theorem k0_idx281_inb : ∀ (v2 : IVec S16 32) (v4452 : IVec S16 32) (k0_hw281 : k0_chk281 v2 v4452), ∀ a x, ((![v2, v4452] : Fin 2 → IVec S16 32) a x).toNat < S32x129.size a := fun v2 v4452 k0_hw281 => k0_hw281

def k0_chk282 (v4 : IVec S16 32) (v4460 : IVec S16 32) : Prop :=
  (∀ a x, ((![v4, v4460] : Fin 2 → IVec S16 32) a x).toNat < S32x129.size a)
theorem k0_idx282_inb : ∀ (v4 : IVec S16 32) (v4460 : IVec S16 32) (k0_hw282 : k0_chk282 v4 v4460), ∀ a x, ((![v4, v4460] : Fin 2 → IVec S16 32) a x).toNat < S32x129.size a := fun v4 v4460 k0_hw282 => k0_hw282

def k0_chk283 (v2 : IVec S16 32) (v4468 : IVec S16 32) : Prop :=
  (∀ a x, ((![v2, v4468] : Fin 2 → IVec S16 32) a x).toNat < S32x129.size a)
theorem k0_idx283_inb : ∀ (v2 : IVec S16 32) (v4468 : IVec S16 32) (k0_hw283 : k0_chk283 v2 v4468), ∀ a x, ((![v2, v4468] : Fin 2 → IVec S16 32) a x).toNat < S32x129.size a := fun v2 v4468 k0_hw283 => k0_hw283

def k0_chk284 (v4 : IVec S16 32) (v4476 : IVec S16 32) : Prop :=
  (∀ a x, ((![v4, v4476] : Fin 2 → IVec S16 32) a x).toNat < S32x129.size a)
theorem k0_idx284_inb : ∀ (v4 : IVec S16 32) (v4476 : IVec S16 32) (k0_hw284 : k0_chk284 v4 v4476), ∀ a x, ((![v4, v4476] : Fin 2 → IVec S16 32) a x).toNat < S32x129.size a := fun v4 v4476 k0_hw284 => k0_hw284

def k0_chk285 (v2 : IVec S16 32) (v4484 : IVec S16 32) : Prop :=
  (∀ a x, ((![v2, v4484] : Fin 2 → IVec S16 32) a x).toNat < S32x129.size a)
theorem k0_idx285_inb : ∀ (v2 : IVec S16 32) (v4484 : IVec S16 32) (k0_hw285 : k0_chk285 v2 v4484), ∀ a x, ((![v2, v4484] : Fin 2 → IVec S16 32) a x).toNat < S32x129.size a := fun v2 v4484 k0_hw285 => k0_hw285

def k0_chk286 (v4 : IVec S16 32) (v4492 : IVec S16 32) : Prop :=
  (∀ a x, ((![v4, v4492] : Fin 2 → IVec S16 32) a x).toNat < S32x129.size a)
theorem k0_idx286_inb : ∀ (v4 : IVec S16 32) (v4492 : IVec S16 32) (k0_hw286 : k0_chk286 v4 v4492), ∀ a x, ((![v4, v4492] : Fin 2 → IVec S16 32) a x).toNat < S32x129.size a := fun v4 v4492 k0_hw286 => k0_hw286

def k0_chk287 (v2 : IVec S16 32) (v4500 : IVec S16 32) : Prop :=
  (∀ a x, ((![v2, v4500] : Fin 2 → IVec S16 32) a x).toNat < S32x129.size a)
theorem k0_idx287_inb : ∀ (v2 : IVec S16 32) (v4500 : IVec S16 32) (k0_hw287 : k0_chk287 v2 v4500), ∀ a x, ((![v2, v4500] : Fin 2 → IVec S16 32) a x).toNat < S32x129.size a := fun v2 v4500 k0_hw287 => k0_hw287

def k0_chk288 (v4 : IVec S16 32) (v4508 : IVec S16 32) : Prop :=
  (∀ a x, ((![v4, v4508] : Fin 2 → IVec S16 32) a x).toNat < S32x129.size a)
theorem k0_idx288_inb : ∀ (v4 : IVec S16 32) (v4508 : IVec S16 32) (k0_hw288 : k0_chk288 v4 v4508), ∀ a x, ((![v4, v4508] : Fin 2 → IVec S16 32) a x).toNat < S32x129.size a := fun v4 v4508 k0_hw288 => k0_hw288

def k0_chk289 (v2 : IVec S16 32) (v4516 : IVec S16 32) : Prop :=
  (∀ a x, ((![v2, v4516] : Fin 2 → IVec S16 32) a x).toNat < S32x129.size a)
theorem k0_idx289_inb : ∀ (v2 : IVec S16 32) (v4516 : IVec S16 32) (k0_hw289 : k0_chk289 v2 v4516), ∀ a x, ((![v2, v4516] : Fin 2 → IVec S16 32) a x).toNat < S32x129.size a := fun v2 v4516 k0_hw289 => k0_hw289

def k0_chk290 (v4 : IVec S16 32) (v4524 : IVec S16 32) : Prop :=
  (∀ a x, ((![v4, v4524] : Fin 2 → IVec S16 32) a x).toNat < S32x129.size a)
theorem k0_idx290_inb : ∀ (v4 : IVec S16 32) (v4524 : IVec S16 32) (k0_hw290 : k0_chk290 v4 v4524), ∀ a x, ((![v4, v4524] : Fin 2 → IVec S16 32) a x).toNat < S32x129.size a := fun v4 v4524 k0_hw290 => k0_hw290

def k0_chk291 (v2 : IVec S16 32) (v4532 : IVec S16 32) : Prop :=
  (∀ a x, ((![v2, v4532] : Fin 2 → IVec S16 32) a x).toNat < S32x129.size a)
theorem k0_idx291_inb : ∀ (v2 : IVec S16 32) (v4532 : IVec S16 32) (k0_hw291 : k0_chk291 v2 v4532), ∀ a x, ((![v2, v4532] : Fin 2 → IVec S16 32) a x).toNat < S32x129.size a := fun v2 v4532 k0_hw291 => k0_hw291

def k0_chk292 (v4 : IVec S16 32) (v4540 : IVec S16 32) : Prop :=
  (∀ a x, ((![v4, v4540] : Fin 2 → IVec S16 32) a x).toNat < S32x129.size a)
theorem k0_idx292_inb : ∀ (v4 : IVec S16 32) (v4540 : IVec S16 32) (k0_hw292 : k0_chk292 v4 v4540), ∀ a x, ((![v4, v4540] : Fin 2 → IVec S16 32) a x).toNat < S32x129.size a := fun v4 v4540 k0_hw292 => k0_hw292

def k0_chk293 (v2 : IVec S16 32) (v4548 : IVec S16 32) : Prop :=
  (∀ a x, ((![v2, v4548] : Fin 2 → IVec S16 32) a x).toNat < S32x129.size a)
theorem k0_idx293_inb : ∀ (v2 : IVec S16 32) (v4548 : IVec S16 32) (k0_hw293 : k0_chk293 v2 v4548), ∀ a x, ((![v2, v4548] : Fin 2 → IVec S16 32) a x).toNat < S32x129.size a := fun v2 v4548 k0_hw293 => k0_hw293

def k0_chk294 (v4 : IVec S16 32) (v4556 : IVec S16 32) : Prop :=
  (∀ a x, ((![v4, v4556] : Fin 2 → IVec S16 32) a x).toNat < S32x129.size a)
theorem k0_idx294_inb : ∀ (v4 : IVec S16 32) (v4556 : IVec S16 32) (k0_hw294 : k0_chk294 v4 v4556), ∀ a x, ((![v4, v4556] : Fin 2 → IVec S16 32) a x).toNat < S32x129.size a := fun v4 v4556 k0_hw294 => k0_hw294

def k0_chk295 (v2 : IVec S16 32) (v4564 : IVec S16 32) : Prop :=
  (∀ a x, ((![v2, v4564] : Fin 2 → IVec S16 32) a x).toNat < S32x129.size a)
theorem k0_idx295_inb : ∀ (v2 : IVec S16 32) (v4564 : IVec S16 32) (k0_hw295 : k0_chk295 v2 v4564), ∀ a x, ((![v2, v4564] : Fin 2 → IVec S16 32) a x).toNat < S32x129.size a := fun v2 v4564 k0_hw295 => k0_hw295

def k0_chk296 (v4 : IVec S16 32) (v4572 : IVec S16 32) : Prop :=
  (∀ a x, ((![v4, v4572] : Fin 2 → IVec S16 32) a x).toNat < S32x129.size a)
theorem k0_idx296_inb : ∀ (v4 : IVec S16 32) (v4572 : IVec S16 32) (k0_hw296 : k0_chk296 v4 v4572), ∀ a x, ((![v4, v4572] : Fin 2 → IVec S16 32) a x).toNat < S32x129.size a := fun v4 v4572 k0_hw296 => k0_hw296

def k0_chk297 (v2 : IVec S16 32) (v4580 : IVec S16 32) : Prop :=
  (∀ a x, ((![v2, v4580] : Fin 2 → IVec S16 32) a x).toNat < S32x129.size a)
theorem k0_idx297_inb : ∀ (v2 : IVec S16 32) (v4580 : IVec S16 32) (k0_hw297 : k0_chk297 v2 v4580), ∀ a x, ((![v2, v4580] : Fin 2 → IVec S16 32) a x).toNat < S32x129.size a := fun v2 v4580 k0_hw297 => k0_hw297

def k0_chk298 (v4 : IVec S16 32) (v4588 : IVec S16 32) : Prop :=
  (∀ a x, ((![v4, v4588] : Fin 2 → IVec S16 32) a x).toNat < S32x129.size a)
theorem k0_idx298_inb : ∀ (v4 : IVec S16 32) (v4588 : IVec S16 32) (k0_hw298 : k0_chk298 v4 v4588), ∀ a x, ((![v4, v4588] : Fin 2 → IVec S16 32) a x).toNat < S32x129.size a := fun v4 v4588 k0_hw298 => k0_hw298

def k0_chk299 (v2 : IVec S16 32) (v4596 : IVec S16 32) : Prop :=
  (∀ a x, ((![v2, v4596] : Fin 2 → IVec S16 32) a x).toNat < S32x129.size a)
theorem k0_idx299_inb : ∀ (v2 : IVec S16 32) (v4596 : IVec S16 32) (k0_hw299 : k0_chk299 v2 v4596), ∀ a x, ((![v2, v4596] : Fin 2 → IVec S16 32) a x).toNat < S32x129.size a := fun v2 v4596 k0_hw299 => k0_hw299

def k0_chk300 (v4 : IVec S16 32) (v4604 : IVec S16 32) : Prop :=
  (∀ a x, ((![v4, v4604] : Fin 2 → IVec S16 32) a x).toNat < S32x129.size a)
theorem k0_idx300_inb : ∀ (v4 : IVec S16 32) (v4604 : IVec S16 32) (k0_hw300 : k0_chk300 v4 v4604), ∀ a x, ((![v4, v4604] : Fin 2 → IVec S16 32) a x).toNat < S32x129.size a := fun v4 v4604 k0_hw300 => k0_hw300

def k0_chk301 (v2 : IVec S16 32) (v4612 : IVec S16 32) : Prop :=
  (∀ a x, ((![v2, v4612] : Fin 2 → IVec S16 32) a x).toNat < S32x129.size a)
theorem k0_idx301_inb : ∀ (v2 : IVec S16 32) (v4612 : IVec S16 32) (k0_hw301 : k0_chk301 v2 v4612), ∀ a x, ((![v2, v4612] : Fin 2 → IVec S16 32) a x).toNat < S32x129.size a := fun v2 v4612 k0_hw301 => k0_hw301

def k0_chk302 (v4 : IVec S16 32) (v4620 : IVec S16 32) : Prop :=
  (∀ a x, ((![v4, v4620] : Fin 2 → IVec S16 32) a x).toNat < S32x129.size a)
theorem k0_idx302_inb : ∀ (v4 : IVec S16 32) (v4620 : IVec S16 32) (k0_hw302 : k0_chk302 v4 v4620), ∀ a x, ((![v4, v4620] : Fin 2 → IVec S16 32) a x).toNat < S32x129.size a := fun v4 v4620 k0_hw302 => k0_hw302

def k0_chk303 (v2 : IVec S16 32) (v4628 : IVec S16 32) : Prop :=
  (∀ a x, ((![v2, v4628] : Fin 2 → IVec S16 32) a x).toNat < S32x129.size a)
theorem k0_idx303_inb : ∀ (v2 : IVec S16 32) (v4628 : IVec S16 32) (k0_hw303 : k0_chk303 v2 v4628), ∀ a x, ((![v2, v4628] : Fin 2 → IVec S16 32) a x).toNat < S32x129.size a := fun v2 v4628 k0_hw303 => k0_hw303

def k0_chk304 (v4 : IVec S16 32) (v4636 : IVec S16 32) : Prop :=
  (∀ a x, ((![v4, v4636] : Fin 2 → IVec S16 32) a x).toNat < S32x129.size a)
theorem k0_idx304_inb : ∀ (v4 : IVec S16 32) (v4636 : IVec S16 32) (k0_hw304 : k0_chk304 v4 v4636), ∀ a x, ((![v4, v4636] : Fin 2 → IVec S16 32) a x).toNat < S32x129.size a := fun v4 v4636 k0_hw304 => k0_hw304

def k0_chk305 (v2 : IVec S16 32) (v4644 : IVec S16 32) : Prop :=
  (∀ a x, ((![v2, v4644] : Fin 2 → IVec S16 32) a x).toNat < S32x129.size a)
theorem k0_idx305_inb : ∀ (v2 : IVec S16 32) (v4644 : IVec S16 32) (k0_hw305 : k0_chk305 v2 v4644), ∀ a x, ((![v2, v4644] : Fin 2 → IVec S16 32) a x).toNat < S32x129.size a := fun v2 v4644 k0_hw305 => k0_hw305

def k0_chk306 (v4 : IVec S16 32) (v4652 : IVec S16 32) : Prop :=
  (∀ a x, ((![v4, v4652] : Fin 2 → IVec S16 32) a x).toNat < S32x129.size a)
theorem k0_idx306_inb : ∀ (v4 : IVec S16 32) (v4652 : IVec S16 32) (k0_hw306 : k0_chk306 v4 v4652), ∀ a x, ((![v4, v4652] : Fin 2 → IVec S16 32) a x).toNat < S32x129.size a := fun v4 v4652 k0_hw306 => k0_hw306

def k0_chk307 (v2 : IVec S16 32) (v4660 : IVec S16 32) : Prop :=
  (∀ a x, ((![v2, v4660] : Fin 2 → IVec S16 32) a x).toNat < S32x129.size a)
theorem k0_idx307_inb : ∀ (v2 : IVec S16 32) (v4660 : IVec S16 32) (k0_hw307 : k0_chk307 v2 v4660), ∀ a x, ((![v2, v4660] : Fin 2 → IVec S16 32) a x).toNat < S32x129.size a := fun v2 v4660 k0_hw307 => k0_hw307

def k0_chk308 (v4 : IVec S16 32) (v4668 : IVec S16 32) : Prop :=
  (∀ a x, ((![v4, v4668] : Fin 2 → IVec S16 32) a x).toNat < S32x129.size a)
theorem k0_idx308_inb : ∀ (v4 : IVec S16 32) (v4668 : IVec S16 32) (k0_hw308 : k0_chk308 v4 v4668), ∀ a x, ((![v4, v4668] : Fin 2 → IVec S16 32) a x).toNat < S32x129.size a := fun v4 v4668 k0_hw308 => k0_hw308

def k0_chk309 (v2 : IVec S16 32) (v4676 : IVec S16 32) : Prop :=
  (∀ a x, ((![v2, v4676] : Fin 2 → IVec S16 32) a x).toNat < S32x129.size a)
theorem k0_idx309_inb : ∀ (v2 : IVec S16 32) (v4676 : IVec S16 32) (k0_hw309 : k0_chk309 v2 v4676), ∀ a x, ((![v2, v4676] : Fin 2 → IVec S16 32) a x).toNat < S32x129.size a := fun v2 v4676 k0_hw309 => k0_hw309

def k0_chk310 (v4 : IVec S16 32) (v4684 : IVec S16 32) : Prop :=
  (∀ a x, ((![v4, v4684] : Fin 2 → IVec S16 32) a x).toNat < S32x129.size a)
theorem k0_idx310_inb : ∀ (v4 : IVec S16 32) (v4684 : IVec S16 32) (k0_hw310 : k0_chk310 v4 v4684), ∀ a x, ((![v4, v4684] : Fin 2 → IVec S16 32) a x).toNat < S32x129.size a := fun v4 v4684 k0_hw310 => k0_hw310

def k0_chk311 (v2 : IVec S16 32) (v4692 : IVec S16 32) : Prop :=
  (∀ a x, ((![v2, v4692] : Fin 2 → IVec S16 32) a x).toNat < S32x129.size a)
theorem k0_idx311_inb : ∀ (v2 : IVec S16 32) (v4692 : IVec S16 32) (k0_hw311 : k0_chk311 v2 v4692), ∀ a x, ((![v2, v4692] : Fin 2 → IVec S16 32) a x).toNat < S32x129.size a := fun v2 v4692 k0_hw311 => k0_hw311

def k0_chk312 (v4 : IVec S16 32) (v4700 : IVec S16 32) : Prop :=
  (∀ a x, ((![v4, v4700] : Fin 2 → IVec S16 32) a x).toNat < S32x129.size a)
theorem k0_idx312_inb : ∀ (v4 : IVec S16 32) (v4700 : IVec S16 32) (k0_hw312 : k0_chk312 v4 v4700), ∀ a x, ((![v4, v4700] : Fin 2 → IVec S16 32) a x).toNat < S32x129.size a := fun v4 v4700 k0_hw312 => k0_hw312

def k0_chk313 (v2 : IVec S16 32) (v4708 : IVec S16 32) : Prop :=
  (∀ a x, ((![v2, v4708] : Fin 2 → IVec S16 32) a x).toNat < S32x129.size a)
theorem k0_idx313_inb : ∀ (v2 : IVec S16 32) (v4708 : IVec S16 32) (k0_hw313 : k0_chk313 v2 v4708), ∀ a x, ((![v2, v4708] : Fin 2 → IVec S16 32) a x).toNat < S32x129.size a := fun v2 v4708 k0_hw313 => k0_hw313

def k0_chk314 (v4 : IVec S16 32) (v4716 : IVec S16 32) : Prop :=
  (∀ a x, ((![v4, v4716] : Fin 2 → IVec S16 32) a x).toNat < S32x129.size a)
theorem k0_idx314_inb : ∀ (v4 : IVec S16 32) (v4716 : IVec S16 32) (k0_hw314 : k0_chk314 v4 v4716), ∀ a x, ((![v4, v4716] : Fin 2 → IVec S16 32) a x).toNat < S32x129.size a := fun v4 v4716 k0_hw314 => k0_hw314

def k0_chk315 (v2 : IVec S16 32) (v4724 : IVec S16 32) : Prop :=
  (∀ a x, ((![v2, v4724] : Fin 2 → IVec S16 32) a x).toNat < S32x129.size a)
theorem k0_idx315_inb : ∀ (v2 : IVec S16 32) (v4724 : IVec S16 32) (k0_hw315 : k0_chk315 v2 v4724), ∀ a x, ((![v2, v4724] : Fin 2 → IVec S16 32) a x).toNat < S32x129.size a := fun v2 v4724 k0_hw315 => k0_hw315

def k0_chk316 (v4 : IVec S16 32) (v4732 : IVec S16 32) : Prop :=
  (∀ a x, ((![v4, v4732] : Fin 2 → IVec S16 32) a x).toNat < S32x129.size a)
theorem k0_idx316_inb : ∀ (v4 : IVec S16 32) (v4732 : IVec S16 32) (k0_hw316 : k0_chk316 v4 v4732), ∀ a x, ((![v4, v4732] : Fin 2 → IVec S16 32) a x).toNat < S32x129.size a := fun v4 v4732 k0_hw316 => k0_hw316

def k0_chk317 (v2 : IVec S16 32) (v4740 : IVec S16 32) : Prop :=
  (∀ a x, ((![v2, v4740] : Fin 2 → IVec S16 32) a x).toNat < S32x129.size a)
theorem k0_idx317_inb : ∀ (v2 : IVec S16 32) (v4740 : IVec S16 32) (k0_hw317 : k0_chk317 v2 v4740), ∀ a x, ((![v2, v4740] : Fin 2 → IVec S16 32) a x).toNat < S32x129.size a := fun v2 v4740 k0_hw317 => k0_hw317

def k0_chk318 (v4 : IVec S16 32) (v4748 : IVec S16 32) : Prop :=
  (∀ a x, ((![v4, v4748] : Fin 2 → IVec S16 32) a x).toNat < S32x129.size a)
theorem k0_idx318_inb : ∀ (v4 : IVec S16 32) (v4748 : IVec S16 32) (k0_hw318 : k0_chk318 v4 v4748), ∀ a x, ((![v4, v4748] : Fin 2 → IVec S16 32) a x).toNat < S32x129.size a := fun v4 v4748 k0_hw318 => k0_hw318

def k0_chk319 (v2 : IVec S16 32) (v4756 : IVec S16 32) : Prop :=
  (∀ a x, ((![v2, v4756] : Fin 2 → IVec S16 32) a x).toNat < S32x129.size a)
theorem k0_idx319_inb : ∀ (v2 : IVec S16 32) (v4756 : IVec S16 32) (k0_hw319 : k0_chk319 v2 v4756), ∀ a x, ((![v2, v4756] : Fin 2 → IVec S16 32) a x).toNat < S32x129.size a := fun v2 v4756 k0_hw319 => k0_hw319

def k0_chk320 (v4 : IVec S16 32) (v4764 : IVec S16 32) : Prop :=
  (∀ a x, ((![v4, v4764] : Fin 2 → IVec S16 32) a x).toNat < S32x129.size a)
theorem k0_idx320_inb : ∀ (v4 : IVec S16 32) (v4764 : IVec S16 32) (k0_hw320 : k0_chk320 v4 v4764), ∀ a x, ((![v4, v4764] : Fin 2 → IVec S16 32) a x).toNat < S32x129.size a := fun v4 v4764 k0_hw320 => k0_hw320

def k0_chk321 (v2 : IVec S16 32) (v4772 : IVec S16 32) : Prop :=
  (∀ a x, ((![v2, v4772] : Fin 2 → IVec S16 32) a x).toNat < S32x129.size a)
theorem k0_idx321_inb : ∀ (v2 : IVec S16 32) (v4772 : IVec S16 32) (k0_hw321 : k0_chk321 v2 v4772), ∀ a x, ((![v2, v4772] : Fin 2 → IVec S16 32) a x).toNat < S32x129.size a := fun v2 v4772 k0_hw321 => k0_hw321

def k0_chk322 (v4 : IVec S16 32) (v4780 : IVec S16 32) : Prop :=
  (∀ a x, ((![v4, v4780] : Fin 2 → IVec S16 32) a x).toNat < S32x129.size a)
theorem k0_idx322_inb : ∀ (v4 : IVec S16 32) (v4780 : IVec S16 32) (k0_hw322 : k0_chk322 v4 v4780), ∀ a x, ((![v4, v4780] : Fin 2 → IVec S16 32) a x).toNat < S32x129.size a := fun v4 v4780 k0_hw322 => k0_hw322

def k0_chk323 (v2 : IVec S16 32) (v4788 : IVec S16 32) : Prop :=
  (∀ a x, ((![v2, v4788] : Fin 2 → IVec S16 32) a x).toNat < S32x129.size a)
theorem k0_idx323_inb : ∀ (v2 : IVec S16 32) (v4788 : IVec S16 32) (k0_hw323 : k0_chk323 v2 v4788), ∀ a x, ((![v2, v4788] : Fin 2 → IVec S16 32) a x).toNat < S32x129.size a := fun v2 v4788 k0_hw323 => k0_hw323

def k0_chk324 (v4 : IVec S16 32) (v4796 : IVec S16 32) : Prop :=
  (∀ a x, ((![v4, v4796] : Fin 2 → IVec S16 32) a x).toNat < S32x129.size a)
theorem k0_idx324_inb : ∀ (v4 : IVec S16 32) (v4796 : IVec S16 32) (k0_hw324 : k0_chk324 v4 v4796), ∀ a x, ((![v4, v4796] : Fin 2 → IVec S16 32) a x).toNat < S32x129.size a := fun v4 v4796 k0_hw324 => k0_hw324

def k0_chk325 (v2 : IVec S16 32) (v4804 : IVec S16 32) : Prop :=
  (∀ a x, ((![v2, v4804] : Fin 2 → IVec S16 32) a x).toNat < S32x129.size a)
theorem k0_idx325_inb : ∀ (v2 : IVec S16 32) (v4804 : IVec S16 32) (k0_hw325 : k0_chk325 v2 v4804), ∀ a x, ((![v2, v4804] : Fin 2 → IVec S16 32) a x).toNat < S32x129.size a := fun v2 v4804 k0_hw325 => k0_hw325

def k0_chk326 (v4 : IVec S16 32) (v4812 : IVec S16 32) : Prop :=
  (∀ a x, ((![v4, v4812] : Fin 2 → IVec S16 32) a x).toNat < S32x129.size a)
theorem k0_idx326_inb : ∀ (v4 : IVec S16 32) (v4812 : IVec S16 32) (k0_hw326 : k0_chk326 v4 v4812), ∀ a x, ((![v4, v4812] : Fin 2 → IVec S16 32) a x).toNat < S32x129.size a := fun v4 v4812 k0_hw326 => k0_hw326

def k0_chk327 (v2 : IVec S16 32) (v4820 : IVec S16 32) : Prop :=
  (∀ a x, ((![v2, v4820] : Fin 2 → IVec S16 32) a x).toNat < S32x129.size a)
theorem k0_idx327_inb : ∀ (v2 : IVec S16 32) (v4820 : IVec S16 32) (k0_hw327 : k0_chk327 v2 v4820), ∀ a x, ((![v2, v4820] : Fin 2 → IVec S16 32) a x).toNat < S32x129.size a := fun v2 v4820 k0_hw327 => k0_hw327

def k0_chk328 (v4 : IVec S16 32) (v4828 : IVec S16 32) : Prop :=
  (∀ a x, ((![v4, v4828] : Fin 2 → IVec S16 32) a x).toNat < S32x129.size a)
theorem k0_idx328_inb : ∀ (v4 : IVec S16 32) (v4828 : IVec S16 32) (k0_hw328 : k0_chk328 v4 v4828), ∀ a x, ((![v4, v4828] : Fin 2 → IVec S16 32) a x).toNat < S32x129.size a := fun v4 v4828 k0_hw328 => k0_hw328

def k0_chk329 (v2 : IVec S16 32) (v4836 : IVec S16 32) : Prop :=
  (∀ a x, ((![v2, v4836] : Fin 2 → IVec S16 32) a x).toNat < S32x129.size a)
theorem k0_idx329_inb : ∀ (v2 : IVec S16 32) (v4836 : IVec S16 32) (k0_hw329 : k0_chk329 v2 v4836), ∀ a x, ((![v2, v4836] : Fin 2 → IVec S16 32) a x).toNat < S32x129.size a := fun v2 v4836 k0_hw329 => k0_hw329

def k0_chk330 (v4 : IVec S16 32) (v4844 : IVec S16 32) : Prop :=
  (∀ a x, ((![v4, v4844] : Fin 2 → IVec S16 32) a x).toNat < S32x129.size a)
theorem k0_idx330_inb : ∀ (v4 : IVec S16 32) (v4844 : IVec S16 32) (k0_hw330 : k0_chk330 v4 v4844), ∀ a x, ((![v4, v4844] : Fin 2 → IVec S16 32) a x).toNat < S32x129.size a := fun v4 v4844 k0_hw330 => k0_hw330

def k0_chk331 (v2 : IVec S16 32) (v4852 : IVec S16 32) : Prop :=
  (∀ a x, ((![v2, v4852] : Fin 2 → IVec S16 32) a x).toNat < S32x129.size a)
theorem k0_idx331_inb : ∀ (v2 : IVec S16 32) (v4852 : IVec S16 32) (k0_hw331 : k0_chk331 v2 v4852), ∀ a x, ((![v2, v4852] : Fin 2 → IVec S16 32) a x).toNat < S32x129.size a := fun v2 v4852 k0_hw331 => k0_hw331

def k0_chk332 (v4 : IVec S16 32) (v4860 : IVec S16 32) : Prop :=
  (∀ a x, ((![v4, v4860] : Fin 2 → IVec S16 32) a x).toNat < S32x129.size a)
theorem k0_idx332_inb : ∀ (v4 : IVec S16 32) (v4860 : IVec S16 32) (k0_hw332 : k0_chk332 v4 v4860), ∀ a x, ((![v4, v4860] : Fin 2 → IVec S16 32) a x).toNat < S32x129.size a := fun v4 v4860 k0_hw332 => k0_hw332

def k0_chk333 (v2 : IVec S16 32) (v4868 : IVec S16 32) : Prop :=
  (∀ a x, ((![v2, v4868] : Fin 2 → IVec S16 32) a x).toNat < S32x129.size a)
theorem k0_idx333_inb : ∀ (v2 : IVec S16 32) (v4868 : IVec S16 32) (k0_hw333 : k0_chk333 v2 v4868), ∀ a x, ((![v2, v4868] : Fin 2 → IVec S16 32) a x).toNat < S32x129.size a := fun v2 v4868 k0_hw333 => k0_hw333

def k0_chk334 (v4 : IVec S16 32) (v4876 : IVec S16 32) : Prop :=
  (∀ a x, ((![v4, v4876] : Fin 2 → IVec S16 32) a x).toNat < S32x129.size a)
theorem k0_idx334_inb : ∀ (v4 : IVec S16 32) (v4876 : IVec S16 32) (k0_hw334 : k0_chk334 v4 v4876), ∀ a x, ((![v4, v4876] : Fin 2 → IVec S16 32) a x).toNat < S32x129.size a := fun v4 v4876 k0_hw334 => k0_hw334

def k0_chk335 (v2 : IVec S16 32) (v4884 : IVec S16 32) : Prop :=
  (∀ a x, ((![v2, v4884] : Fin 2 → IVec S16 32) a x).toNat < S32x129.size a)
theorem k0_idx335_inb : ∀ (v2 : IVec S16 32) (v4884 : IVec S16 32) (k0_hw335 : k0_chk335 v2 v4884), ∀ a x, ((![v2, v4884] : Fin 2 → IVec S16 32) a x).toNat < S32x129.size a := fun v2 v4884 k0_hw335 => k0_hw335

def k0_chk336 (v4 : IVec S16 32) (v4892 : IVec S16 32) : Prop :=
  (∀ a x, ((![v4, v4892] : Fin 2 → IVec S16 32) a x).toNat < S32x129.size a)
theorem k0_idx336_inb : ∀ (v4 : IVec S16 32) (v4892 : IVec S16 32) (k0_hw336 : k0_chk336 v4 v4892), ∀ a x, ((![v4, v4892] : Fin 2 → IVec S16 32) a x).toNat < S32x129.size a := fun v4 v4892 k0_hw336 => k0_hw336

def k0_chk337 (v2 : IVec S16 32) (v4900 : IVec S16 32) : Prop :=
  (∀ a x, ((![v2, v4900] : Fin 2 → IVec S16 32) a x).toNat < S32x129.size a)
theorem k0_idx337_inb : ∀ (v2 : IVec S16 32) (v4900 : IVec S16 32) (k0_hw337 : k0_chk337 v2 v4900), ∀ a x, ((![v2, v4900] : Fin 2 → IVec S16 32) a x).toNat < S32x129.size a := fun v2 v4900 k0_hw337 => k0_hw337

def k0_chk338 (v4 : IVec S16 32) (v4908 : IVec S16 32) : Prop :=
  (∀ a x, ((![v4, v4908] : Fin 2 → IVec S16 32) a x).toNat < S32x129.size a)
theorem k0_idx338_inb : ∀ (v4 : IVec S16 32) (v4908 : IVec S16 32) (k0_hw338 : k0_chk338 v4 v4908), ∀ a x, ((![v4, v4908] : Fin 2 → IVec S16 32) a x).toNat < S32x129.size a := fun v4 v4908 k0_hw338 => k0_hw338

def k0_chk339 (v2 : IVec S16 32) (v4916 : IVec S16 32) : Prop :=
  (∀ a x, ((![v2, v4916] : Fin 2 → IVec S16 32) a x).toNat < S32x129.size a)
theorem k0_idx339_inb : ∀ (v2 : IVec S16 32) (v4916 : IVec S16 32) (k0_hw339 : k0_chk339 v2 v4916), ∀ a x, ((![v2, v4916] : Fin 2 → IVec S16 32) a x).toNat < S32x129.size a := fun v2 v4916 k0_hw339 => k0_hw339

def k0_chk340 (v4 : IVec S16 32) (v4924 : IVec S16 32) : Prop :=
  (∀ a x, ((![v4, v4924] : Fin 2 → IVec S16 32) a x).toNat < S32x129.size a)
theorem k0_idx340_inb : ∀ (v4 : IVec S16 32) (v4924 : IVec S16 32) (k0_hw340 : k0_chk340 v4 v4924), ∀ a x, ((![v4, v4924] : Fin 2 → IVec S16 32) a x).toNat < S32x129.size a := fun v4 v4924 k0_hw340 => k0_hw340

def k0_chk341 (v2 : IVec S16 32) (v4932 : IVec S16 32) : Prop :=
  (∀ a x, ((![v2, v4932] : Fin 2 → IVec S16 32) a x).toNat < S32x129.size a)
theorem k0_idx341_inb : ∀ (v2 : IVec S16 32) (v4932 : IVec S16 32) (k0_hw341 : k0_chk341 v2 v4932), ∀ a x, ((![v2, v4932] : Fin 2 → IVec S16 32) a x).toNat < S32x129.size a := fun v2 v4932 k0_hw341 => k0_hw341

def k0_chk342 (v4 : IVec S16 32) (v4940 : IVec S16 32) : Prop :=
  (∀ a x, ((![v4, v4940] : Fin 2 → IVec S16 32) a x).toNat < S32x129.size a)
theorem k0_idx342_inb : ∀ (v4 : IVec S16 32) (v4940 : IVec S16 32) (k0_hw342 : k0_chk342 v4 v4940), ∀ a x, ((![v4, v4940] : Fin 2 → IVec S16 32) a x).toNat < S32x129.size a := fun v4 v4940 k0_hw342 => k0_hw342

def k0_chk343 (v2 : IVec S16 32) (v4948 : IVec S16 32) : Prop :=
  (∀ a x, ((![v2, v4948] : Fin 2 → IVec S16 32) a x).toNat < S32x129.size a)
theorem k0_idx343_inb : ∀ (v2 : IVec S16 32) (v4948 : IVec S16 32) (k0_hw343 : k0_chk343 v2 v4948), ∀ a x, ((![v2, v4948] : Fin 2 → IVec S16 32) a x).toNat < S32x129.size a := fun v2 v4948 k0_hw343 => k0_hw343

def k0_chk344 (v4 : IVec S16 32) (v4956 : IVec S16 32) : Prop :=
  (∀ a x, ((![v4, v4956] : Fin 2 → IVec S16 32) a x).toNat < S32x129.size a)
theorem k0_idx344_inb : ∀ (v4 : IVec S16 32) (v4956 : IVec S16 32) (k0_hw344 : k0_chk344 v4 v4956), ∀ a x, ((![v4, v4956] : Fin 2 → IVec S16 32) a x).toNat < S32x129.size a := fun v4 v4956 k0_hw344 => k0_hw344

def k0_chk345 (v2 : IVec S16 32) (v4964 : IVec S16 32) : Prop :=
  (∀ a x, ((![v2, v4964] : Fin 2 → IVec S16 32) a x).toNat < S32x129.size a)
theorem k0_idx345_inb : ∀ (v2 : IVec S16 32) (v4964 : IVec S16 32) (k0_hw345 : k0_chk345 v2 v4964), ∀ a x, ((![v2, v4964] : Fin 2 → IVec S16 32) a x).toNat < S32x129.size a := fun v2 v4964 k0_hw345 => k0_hw345

def k0_chk346 (v4 : IVec S16 32) (v4972 : IVec S16 32) : Prop :=
  (∀ a x, ((![v4, v4972] : Fin 2 → IVec S16 32) a x).toNat < S32x129.size a)
theorem k0_idx346_inb : ∀ (v4 : IVec S16 32) (v4972 : IVec S16 32) (k0_hw346 : k0_chk346 v4 v4972), ∀ a x, ((![v4, v4972] : Fin 2 → IVec S16 32) a x).toNat < S32x129.size a := fun v4 v4972 k0_hw346 => k0_hw346

def k0_chk347 (v2 : IVec S16 32) (v4980 : IVec S16 32) : Prop :=
  (∀ a x, ((![v2, v4980] : Fin 2 → IVec S16 32) a x).toNat < S32x129.size a)
theorem k0_idx347_inb : ∀ (v2 : IVec S16 32) (v4980 : IVec S16 32) (k0_hw347 : k0_chk347 v2 v4980), ∀ a x, ((![v2, v4980] : Fin 2 → IVec S16 32) a x).toNat < S32x129.size a := fun v2 v4980 k0_hw347 => k0_hw347

def k0_chk348 (v4 : IVec S16 32) (v4988 : IVec S16 32) : Prop :=
  (∀ a x, ((![v4, v4988] : Fin 2 → IVec S16 32) a x).toNat < S32x129.size a)
theorem k0_idx348_inb : ∀ (v4 : IVec S16 32) (v4988 : IVec S16 32) (k0_hw348 : k0_chk348 v4 v4988), ∀ a x, ((![v4, v4988] : Fin 2 → IVec S16 32) a x).toNat < S32x129.size a := fun v4 v4988 k0_hw348 => k0_hw348

def k0_chk349 (v2 : IVec S16 32) (v4996 : IVec S16 32) : Prop :=
  (∀ a x, ((![v2, v4996] : Fin 2 → IVec S16 32) a x).toNat < S32x129.size a)
theorem k0_idx349_inb : ∀ (v2 : IVec S16 32) (v4996 : IVec S16 32) (k0_hw349 : k0_chk349 v2 v4996), ∀ a x, ((![v2, v4996] : Fin 2 → IVec S16 32) a x).toNat < S32x129.size a := fun v2 v4996 k0_hw349 => k0_hw349

def k0_chk350 (v4 : IVec S16 32) (v5004 : IVec S16 32) : Prop :=
  (∀ a x, ((![v4, v5004] : Fin 2 → IVec S16 32) a x).toNat < S32x129.size a)
theorem k0_idx350_inb : ∀ (v4 : IVec S16 32) (v5004 : IVec S16 32) (k0_hw350 : k0_chk350 v4 v5004), ∀ a x, ((![v4, v5004] : Fin 2 → IVec S16 32) a x).toNat < S32x129.size a := fun v4 v5004 k0_hw350 => k0_hw350

def k0_chk351 (v2 : IVec S16 32) (v5012 : IVec S16 32) : Prop :=
  (∀ a x, ((![v2, v5012] : Fin 2 → IVec S16 32) a x).toNat < S32x129.size a)
theorem k0_idx351_inb : ∀ (v2 : IVec S16 32) (v5012 : IVec S16 32) (k0_hw351 : k0_chk351 v2 v5012), ∀ a x, ((![v2, v5012] : Fin 2 → IVec S16 32) a x).toNat < S32x129.size a := fun v2 v5012 k0_hw351 => k0_hw351

def k0_chk352 (v4 : IVec S16 32) (v5020 : IVec S16 32) : Prop :=
  (∀ a x, ((![v4, v5020] : Fin 2 → IVec S16 32) a x).toNat < S32x129.size a)
theorem k0_idx352_inb : ∀ (v4 : IVec S16 32) (v5020 : IVec S16 32) (k0_hw352 : k0_chk352 v4 v5020), ∀ a x, ((![v4, v5020] : Fin 2 → IVec S16 32) a x).toNat < S32x129.size a := fun v4 v5020 k0_hw352 => k0_hw352

def k0_chk353 (v2 : IVec S16 32) (v5028 : IVec S16 32) : Prop :=
  (∀ a x, ((![v2, v5028] : Fin 2 → IVec S16 32) a x).toNat < S32x129.size a)
theorem k0_idx353_inb : ∀ (v2 : IVec S16 32) (v5028 : IVec S16 32) (k0_hw353 : k0_chk353 v2 v5028), ∀ a x, ((![v2, v5028] : Fin 2 → IVec S16 32) a x).toNat < S32x129.size a := fun v2 v5028 k0_hw353 => k0_hw353

def k0_chk354 (v4 : IVec S16 32) (v5036 : IVec S16 32) : Prop :=
  (∀ a x, ((![v4, v5036] : Fin 2 → IVec S16 32) a x).toNat < S32x129.size a)
theorem k0_idx354_inb : ∀ (v4 : IVec S16 32) (v5036 : IVec S16 32) (k0_hw354 : k0_chk354 v4 v5036), ∀ a x, ((![v4, v5036] : Fin 2 → IVec S16 32) a x).toNat < S32x129.size a := fun v4 v5036 k0_hw354 => k0_hw354

def k0_chk355 (v2 : IVec S16 32) (v5044 : IVec S16 32) : Prop :=
  (∀ a x, ((![v2, v5044] : Fin 2 → IVec S16 32) a x).toNat < S32x129.size a)
theorem k0_idx355_inb : ∀ (v2 : IVec S16 32) (v5044 : IVec S16 32) (k0_hw355 : k0_chk355 v2 v5044), ∀ a x, ((![v2, v5044] : Fin 2 → IVec S16 32) a x).toNat < S32x129.size a := fun v2 v5044 k0_hw355 => k0_hw355

def k0_chk356 (v4 : IVec S16 32) (v5052 : IVec S16 32) : Prop :=
  (∀ a x, ((![v4, v5052] : Fin 2 → IVec S16 32) a x).toNat < S32x129.size a)
theorem k0_idx356_inb : ∀ (v4 : IVec S16 32) (v5052 : IVec S16 32) (k0_hw356 : k0_chk356 v4 v5052), ∀ a x, ((![v4, v5052] : Fin 2 → IVec S16 32) a x).toNat < S32x129.size a := fun v4 v5052 k0_hw356 => k0_hw356

def k0_chk357 (v2 : IVec S16 32) (v5060 : IVec S16 32) : Prop :=
  (∀ a x, ((![v2, v5060] : Fin 2 → IVec S16 32) a x).toNat < S32x129.size a)
theorem k0_idx357_inb : ∀ (v2 : IVec S16 32) (v5060 : IVec S16 32) (k0_hw357 : k0_chk357 v2 v5060), ∀ a x, ((![v2, v5060] : Fin 2 → IVec S16 32) a x).toNat < S32x129.size a := fun v2 v5060 k0_hw357 => k0_hw357

def k0_chk358 (v4 : IVec S16 32) (v5068 : IVec S16 32) : Prop :=
  (∀ a x, ((![v4, v5068] : Fin 2 → IVec S16 32) a x).toNat < S32x129.size a)
theorem k0_idx358_inb : ∀ (v4 : IVec S16 32) (v5068 : IVec S16 32) (k0_hw358 : k0_chk358 v4 v5068), ∀ a x, ((![v4, v5068] : Fin 2 → IVec S16 32) a x).toNat < S32x129.size a := fun v4 v5068 k0_hw358 => k0_hw358

def k0_chk359 (v2 : IVec S16 32) (v5076 : IVec S16 32) : Prop :=
  (∀ a x, ((![v2, v5076] : Fin 2 → IVec S16 32) a x).toNat < S32x129.size a)
theorem k0_idx359_inb : ∀ (v2 : IVec S16 32) (v5076 : IVec S16 32) (k0_hw359 : k0_chk359 v2 v5076), ∀ a x, ((![v2, v5076] : Fin 2 → IVec S16 32) a x).toNat < S32x129.size a := fun v2 v5076 k0_hw359 => k0_hw359

def k0_chk360 (v4 : IVec S16 32) (v5084 : IVec S16 32) : Prop :=
  (∀ a x, ((![v4, v5084] : Fin 2 → IVec S16 32) a x).toNat < S32x129.size a)
theorem k0_idx360_inb : ∀ (v4 : IVec S16 32) (v5084 : IVec S16 32) (k0_hw360 : k0_chk360 v4 v5084), ∀ a x, ((![v4, v5084] : Fin 2 → IVec S16 32) a x).toNat < S32x129.size a := fun v4 v5084 k0_hw360 => k0_hw360

def k0_chk361 (v2 : IVec S16 32) (v5092 : IVec S16 32) : Prop :=
  (∀ a x, ((![v2, v5092] : Fin 2 → IVec S16 32) a x).toNat < S32x129.size a)
theorem k0_idx361_inb : ∀ (v2 : IVec S16 32) (v5092 : IVec S16 32) (k0_hw361 : k0_chk361 v2 v5092), ∀ a x, ((![v2, v5092] : Fin 2 → IVec S16 32) a x).toNat < S32x129.size a := fun v2 v5092 k0_hw361 => k0_hw361

def k0_chk362 (v4 : IVec S16 32) (v5100 : IVec S16 32) : Prop :=
  (∀ a x, ((![v4, v5100] : Fin 2 → IVec S16 32) a x).toNat < S32x129.size a)
theorem k0_idx362_inb : ∀ (v4 : IVec S16 32) (v5100 : IVec S16 32) (k0_hw362 : k0_chk362 v4 v5100), ∀ a x, ((![v4, v5100] : Fin 2 → IVec S16 32) a x).toNat < S32x129.size a := fun v4 v5100 k0_hw362 => k0_hw362

def k0_chk363 (v2 : IVec S16 32) (v5108 : IVec S16 32) : Prop :=
  (∀ a x, ((![v2, v5108] : Fin 2 → IVec S16 32) a x).toNat < S32x129.size a)
theorem k0_idx363_inb : ∀ (v2 : IVec S16 32) (v5108 : IVec S16 32) (k0_hw363 : k0_chk363 v2 v5108), ∀ a x, ((![v2, v5108] : Fin 2 → IVec S16 32) a x).toNat < S32x129.size a := fun v2 v5108 k0_hw363 => k0_hw363

def k0_chk364 (v4 : IVec S16 32) (v5116 : IVec S16 32) : Prop :=
  (∀ a x, ((![v4, v5116] : Fin 2 → IVec S16 32) a x).toNat < S32x129.size a)
theorem k0_idx364_inb : ∀ (v4 : IVec S16 32) (v5116 : IVec S16 32) (k0_hw364 : k0_chk364 v4 v5116), ∀ a x, ((![v4, v5116] : Fin 2 → IVec S16 32) a x).toNat < S32x129.size a := fun v4 v5116 k0_hw364 => k0_hw364

def k0_chk365 (v2 : IVec S16 32) (v5124 : IVec S16 32) : Prop :=
  (∀ a x, ((![v2, v5124] : Fin 2 → IVec S16 32) a x).toNat < S32x129.size a)
theorem k0_idx365_inb : ∀ (v2 : IVec S16 32) (v5124 : IVec S16 32) (k0_hw365 : k0_chk365 v2 v5124), ∀ a x, ((![v2, v5124] : Fin 2 → IVec S16 32) a x).toNat < S32x129.size a := fun v2 v5124 k0_hw365 => k0_hw365

def k0_chk366 (v4 : IVec S16 32) (v5132 : IVec S16 32) : Prop :=
  (∀ a x, ((![v4, v5132] : Fin 2 → IVec S16 32) a x).toNat < S32x129.size a)
theorem k0_idx366_inb : ∀ (v4 : IVec S16 32) (v5132 : IVec S16 32) (k0_hw366 : k0_chk366 v4 v5132), ∀ a x, ((![v4, v5132] : Fin 2 → IVec S16 32) a x).toNat < S32x129.size a := fun v4 v5132 k0_hw366 => k0_hw366

def k0_chk367 (v2 : IVec S16 32) (v5140 : IVec S16 32) : Prop :=
  (∀ a x, ((![v2, v5140] : Fin 2 → IVec S16 32) a x).toNat < S32x129.size a)
theorem k0_idx367_inb : ∀ (v2 : IVec S16 32) (v5140 : IVec S16 32) (k0_hw367 : k0_chk367 v2 v5140), ∀ a x, ((![v2, v5140] : Fin 2 → IVec S16 32) a x).toNat < S32x129.size a := fun v2 v5140 k0_hw367 => k0_hw367

def k0_chk368 (v4 : IVec S16 32) (v5148 : IVec S16 32) : Prop :=
  (∀ a x, ((![v4, v5148] : Fin 2 → IVec S16 32) a x).toNat < S32x129.size a)
theorem k0_idx368_inb : ∀ (v4 : IVec S16 32) (v5148 : IVec S16 32) (k0_hw368 : k0_chk368 v4 v5148), ∀ a x, ((![v4, v5148] : Fin 2 → IVec S16 32) a x).toNat < S32x129.size a := fun v4 v5148 k0_hw368 => k0_hw368

def k0_chk369 (v2 : IVec S16 32) (v5156 : IVec S16 32) : Prop :=
  (∀ a x, ((![v2, v5156] : Fin 2 → IVec S16 32) a x).toNat < S32x129.size a)
theorem k0_idx369_inb : ∀ (v2 : IVec S16 32) (v5156 : IVec S16 32) (k0_hw369 : k0_chk369 v2 v5156), ∀ a x, ((![v2, v5156] : Fin 2 → IVec S16 32) a x).toNat < S32x129.size a := fun v2 v5156 k0_hw369 => k0_hw369

def k0_chk370 (v4 : IVec S16 32) (v5164 : IVec S16 32) : Prop :=
  (∀ a x, ((![v4, v5164] : Fin 2 → IVec S16 32) a x).toNat < S32x129.size a)
theorem k0_idx370_inb : ∀ (v4 : IVec S16 32) (v5164 : IVec S16 32) (k0_hw370 : k0_chk370 v4 v5164), ∀ a x, ((![v4, v5164] : Fin 2 → IVec S16 32) a x).toNat < S32x129.size a := fun v4 v5164 k0_hw370 => k0_hw370

def k0_chk371 (v2 : IVec S16 32) (v5172 : IVec S16 32) : Prop :=
  (∀ a x, ((![v2, v5172] : Fin 2 → IVec S16 32) a x).toNat < S32x129.size a)
theorem k0_idx371_inb : ∀ (v2 : IVec S16 32) (v5172 : IVec S16 32) (k0_hw371 : k0_chk371 v2 v5172), ∀ a x, ((![v2, v5172] : Fin 2 → IVec S16 32) a x).toNat < S32x129.size a := fun v2 v5172 k0_hw371 => k0_hw371

def k0_chk372 (v4 : IVec S16 32) (v5180 : IVec S16 32) : Prop :=
  (∀ a x, ((![v4, v5180] : Fin 2 → IVec S16 32) a x).toNat < S32x129.size a)
theorem k0_idx372_inb : ∀ (v4 : IVec S16 32) (v5180 : IVec S16 32) (k0_hw372 : k0_chk372 v4 v5180), ∀ a x, ((![v4, v5180] : Fin 2 → IVec S16 32) a x).toNat < S32x129.size a := fun v4 v5180 k0_hw372 => k0_hw372

def k0_chk373 (v2 : IVec S16 32) (v5188 : IVec S16 32) : Prop :=
  (∀ a x, ((![v2, v5188] : Fin 2 → IVec S16 32) a x).toNat < S32x129.size a)
theorem k0_idx373_inb : ∀ (v2 : IVec S16 32) (v5188 : IVec S16 32) (k0_hw373 : k0_chk373 v2 v5188), ∀ a x, ((![v2, v5188] : Fin 2 → IVec S16 32) a x).toNat < S32x129.size a := fun v2 v5188 k0_hw373 => k0_hw373

def k0_chk374 (v4 : IVec S16 32) (v5196 : IVec S16 32) : Prop :=
  (∀ a x, ((![v4, v5196] : Fin 2 → IVec S16 32) a x).toNat < S32x129.size a)
theorem k0_idx374_inb : ∀ (v4 : IVec S16 32) (v5196 : IVec S16 32) (k0_hw374 : k0_chk374 v4 v5196), ∀ a x, ((![v4, v5196] : Fin 2 → IVec S16 32) a x).toNat < S32x129.size a := fun v4 v5196 k0_hw374 => k0_hw374

def k0_chk375 (v2 : IVec S16 32) (v5204 : IVec S16 32) : Prop :=
  (∀ a x, ((![v2, v5204] : Fin 2 → IVec S16 32) a x).toNat < S32x129.size a)
theorem k0_idx375_inb : ∀ (v2 : IVec S16 32) (v5204 : IVec S16 32) (k0_hw375 : k0_chk375 v2 v5204), ∀ a x, ((![v2, v5204] : Fin 2 → IVec S16 32) a x).toNat < S32x129.size a := fun v2 v5204 k0_hw375 => k0_hw375

def k0_chk376 (v4 : IVec S16 32) (v5212 : IVec S16 32) : Prop :=
  (∀ a x, ((![v4, v5212] : Fin 2 → IVec S16 32) a x).toNat < S32x129.size a)
theorem k0_idx376_inb : ∀ (v4 : IVec S16 32) (v5212 : IVec S16 32) (k0_hw376 : k0_chk376 v4 v5212), ∀ a x, ((![v4, v5212] : Fin 2 → IVec S16 32) a x).toNat < S32x129.size a := fun v4 v5212 k0_hw376 => k0_hw376

def k0_chk377 (v2 : IVec S16 32) (v5220 : IVec S16 32) : Prop :=
  (∀ a x, ((![v2, v5220] : Fin 2 → IVec S16 32) a x).toNat < S32x129.size a)
theorem k0_idx377_inb : ∀ (v2 : IVec S16 32) (v5220 : IVec S16 32) (k0_hw377 : k0_chk377 v2 v5220), ∀ a x, ((![v2, v5220] : Fin 2 → IVec S16 32) a x).toNat < S32x129.size a := fun v2 v5220 k0_hw377 => k0_hw377

def k0_chk378 (v4 : IVec S16 32) (v5228 : IVec S16 32) : Prop :=
  (∀ a x, ((![v4, v5228] : Fin 2 → IVec S16 32) a x).toNat < S32x129.size a)
theorem k0_idx378_inb : ∀ (v4 : IVec S16 32) (v5228 : IVec S16 32) (k0_hw378 : k0_chk378 v4 v5228), ∀ a x, ((![v4, v5228] : Fin 2 → IVec S16 32) a x).toNat < S32x129.size a := fun v4 v5228 k0_hw378 => k0_hw378

def k0_chk379 (v2 : IVec S16 32) (v5236 : IVec S16 32) : Prop :=
  (∀ a x, ((![v2, v5236] : Fin 2 → IVec S16 32) a x).toNat < S32x129.size a)
theorem k0_idx379_inb : ∀ (v2 : IVec S16 32) (v5236 : IVec S16 32) (k0_hw379 : k0_chk379 v2 v5236), ∀ a x, ((![v2, v5236] : Fin 2 → IVec S16 32) a x).toNat < S32x129.size a := fun v2 v5236 k0_hw379 => k0_hw379

def k0_chk380 (v4 : IVec S16 32) (v5244 : IVec S16 32) : Prop :=
  (∀ a x, ((![v4, v5244] : Fin 2 → IVec S16 32) a x).toNat < S32x129.size a)
theorem k0_idx380_inb : ∀ (v4 : IVec S16 32) (v5244 : IVec S16 32) (k0_hw380 : k0_chk380 v4 v5244), ∀ a x, ((![v4, v5244] : Fin 2 → IVec S16 32) a x).toNat < S32x129.size a := fun v4 v5244 k0_hw380 => k0_hw380

def k0_chk381 (v2 : IVec S16 32) (v5252 : IVec S16 32) : Prop :=
  (∀ a x, ((![v2, v5252] : Fin 2 → IVec S16 32) a x).toNat < S32x129.size a)
theorem k0_idx381_inb : ∀ (v2 : IVec S16 32) (v5252 : IVec S16 32) (k0_hw381 : k0_chk381 v2 v5252), ∀ a x, ((![v2, v5252] : Fin 2 → IVec S16 32) a x).toNat < S32x129.size a := fun v2 v5252 k0_hw381 => k0_hw381

def k0_chk382 (v4 : IVec S16 32) (v5260 : IVec S16 32) : Prop :=
  (∀ a x, ((![v4, v5260] : Fin 2 → IVec S16 32) a x).toNat < S32x129.size a)
theorem k0_idx382_inb : ∀ (v4 : IVec S16 32) (v5260 : IVec S16 32) (k0_hw382 : k0_chk382 v4 v5260), ∀ a x, ((![v4, v5260] : Fin 2 → IVec S16 32) a x).toNat < S32x129.size a := fun v4 v5260 k0_hw382 => k0_hw382

def k0_chk383 (v2 : IVec S16 32) (v5268 : IVec S16 32) : Prop :=
  (∀ a x, ((![v2, v5268] : Fin 2 → IVec S16 32) a x).toNat < S32x129.size a)
theorem k0_idx383_inb : ∀ (v2 : IVec S16 32) (v5268 : IVec S16 32) (k0_hw383 : k0_chk383 v2 v5268), ∀ a x, ((![v2, v5268] : Fin 2 → IVec S16 32) a x).toNat < S32x129.size a := fun v2 v5268 k0_hw383 => k0_hw383

def k0_chk384 (v4 : IVec S16 32) (v5276 : IVec S16 32) : Prop :=
  (∀ a x, ((![v4, v5276] : Fin 2 → IVec S16 32) a x).toNat < S32x129.size a)
theorem k0_idx384_inb : ∀ (v4 : IVec S16 32) (v5276 : IVec S16 32) (k0_hw384 : k0_chk384 v4 v5276), ∀ a x, ((![v4, v5276] : Fin 2 → IVec S16 32) a x).toNat < S32x129.size a := fun v4 v5276 k0_hw384 => k0_hw384

def k0_chk385 (v2 : IVec S16 32) (v5284 : IVec S16 32) : Prop :=
  (∀ a x, ((![v2, v5284] : Fin 2 → IVec S16 32) a x).toNat < S32x129.size a)
theorem k0_idx385_inb : ∀ (v2 : IVec S16 32) (v5284 : IVec S16 32) (k0_hw385 : k0_chk385 v2 v5284), ∀ a x, ((![v2, v5284] : Fin 2 → IVec S16 32) a x).toNat < S32x129.size a := fun v2 v5284 k0_hw385 => k0_hw385

def k0_chk386 (v4 : IVec S16 32) (v5292 : IVec S16 32) : Prop :=
  (∀ a x, ((![v4, v5292] : Fin 2 → IVec S16 32) a x).toNat < S32x129.size a)
theorem k0_idx386_inb : ∀ (v4 : IVec S16 32) (v5292 : IVec S16 32) (k0_hw386 : k0_chk386 v4 v5292), ∀ a x, ((![v4, v5292] : Fin 2 → IVec S16 32) a x).toNat < S32x129.size a := fun v4 v5292 k0_hw386 => k0_hw386

def k0_chk387 (v2 : IVec S16 32) (v5300 : IVec S16 32) : Prop :=
  (∀ a x, ((![v2, v5300] : Fin 2 → IVec S16 32) a x).toNat < S32x129.size a)
theorem k0_idx387_inb : ∀ (v2 : IVec S16 32) (v5300 : IVec S16 32) (k0_hw387 : k0_chk387 v2 v5300), ∀ a x, ((![v2, v5300] : Fin 2 → IVec S16 32) a x).toNat < S32x129.size a := fun v2 v5300 k0_hw387 => k0_hw387

def k0_chk388 (v4 : IVec S16 32) (v5308 : IVec S16 32) : Prop :=
  (∀ a x, ((![v4, v5308] : Fin 2 → IVec S16 32) a x).toNat < S32x129.size a)
theorem k0_idx388_inb : ∀ (v4 : IVec S16 32) (v5308 : IVec S16 32) (k0_hw388 : k0_chk388 v4 v5308), ∀ a x, ((![v4, v5308] : Fin 2 → IVec S16 32) a x).toNat < S32x129.size a := fun v4 v5308 k0_hw388 => k0_hw388

def k0_chk389 (v2 : IVec S16 32) (v5316 : IVec S16 32) : Prop :=
  (∀ a x, ((![v2, v5316] : Fin 2 → IVec S16 32) a x).toNat < S32x129.size a)
theorem k0_idx389_inb : ∀ (v2 : IVec S16 32) (v5316 : IVec S16 32) (k0_hw389 : k0_chk389 v2 v5316), ∀ a x, ((![v2, v5316] : Fin 2 → IVec S16 32) a x).toNat < S32x129.size a := fun v2 v5316 k0_hw389 => k0_hw389

def k0_chk390 (v4 : IVec S16 32) (v5324 : IVec S16 32) : Prop :=
  (∀ a x, ((![v4, v5324] : Fin 2 → IVec S16 32) a x).toNat < S32x129.size a)
theorem k0_idx390_inb : ∀ (v4 : IVec S16 32) (v5324 : IVec S16 32) (k0_hw390 : k0_chk390 v4 v5324), ∀ a x, ((![v4, v5324] : Fin 2 → IVec S16 32) a x).toNat < S32x129.size a := fun v4 v5324 k0_hw390 => k0_hw390

def k0_chk391 (v2 : IVec S16 32) (v5332 : IVec S16 32) : Prop :=
  (∀ a x, ((![v2, v5332] : Fin 2 → IVec S16 32) a x).toNat < S32x129.size a)
theorem k0_idx391_inb : ∀ (v2 : IVec S16 32) (v5332 : IVec S16 32) (k0_hw391 : k0_chk391 v2 v5332), ∀ a x, ((![v2, v5332] : Fin 2 → IVec S16 32) a x).toNat < S32x129.size a := fun v2 v5332 k0_hw391 => k0_hw391

def k0_chk392 (v4 : IVec S16 32) (v5340 : IVec S16 32) : Prop :=
  (∀ a x, ((![v4, v5340] : Fin 2 → IVec S16 32) a x).toNat < S32x129.size a)
theorem k0_idx392_inb : ∀ (v4 : IVec S16 32) (v5340 : IVec S16 32) (k0_hw392 : k0_chk392 v4 v5340), ∀ a x, ((![v4, v5340] : Fin 2 → IVec S16 32) a x).toNat < S32x129.size a := fun v4 v5340 k0_hw392 => k0_hw392

def k0_chk393 (v2 : IVec S16 32) (v5348 : IVec S16 32) : Prop :=
  (∀ a x, ((![v2, v5348] : Fin 2 → IVec S16 32) a x).toNat < S32x129.size a)
theorem k0_idx393_inb : ∀ (v2 : IVec S16 32) (v5348 : IVec S16 32) (k0_hw393 : k0_chk393 v2 v5348), ∀ a x, ((![v2, v5348] : Fin 2 → IVec S16 32) a x).toNat < S32x129.size a := fun v2 v5348 k0_hw393 => k0_hw393

def k0_chk394 (v4 : IVec S16 32) (v5356 : IVec S16 32) : Prop :=
  (∀ a x, ((![v4, v5356] : Fin 2 → IVec S16 32) a x).toNat < S32x129.size a)
theorem k0_idx394_inb : ∀ (v4 : IVec S16 32) (v5356 : IVec S16 32) (k0_hw394 : k0_chk394 v4 v5356), ∀ a x, ((![v4, v5356] : Fin 2 → IVec S16 32) a x).toNat < S32x129.size a := fun v4 v5356 k0_hw394 => k0_hw394

def k0_chk395 (v2 : IVec S16 32) (v5364 : IVec S16 32) : Prop :=
  (∀ a x, ((![v2, v5364] : Fin 2 → IVec S16 32) a x).toNat < S32x129.size a)
theorem k0_idx395_inb : ∀ (v2 : IVec S16 32) (v5364 : IVec S16 32) (k0_hw395 : k0_chk395 v2 v5364), ∀ a x, ((![v2, v5364] : Fin 2 → IVec S16 32) a x).toNat < S32x129.size a := fun v2 v5364 k0_hw395 => k0_hw395

def k0_chk396 (v4 : IVec S16 32) (v5372 : IVec S16 32) : Prop :=
  (∀ a x, ((![v4, v5372] : Fin 2 → IVec S16 32) a x).toNat < S32x129.size a)
theorem k0_idx396_inb : ∀ (v4 : IVec S16 32) (v5372 : IVec S16 32) (k0_hw396 : k0_chk396 v4 v5372), ∀ a x, ((![v4, v5372] : Fin 2 → IVec S16 32) a x).toNat < S32x129.size a := fun v4 v5372 k0_hw396 => k0_hw396

def k0_chk397 (v2 : IVec S16 32) (v5380 : IVec S16 32) : Prop :=
  (∀ a x, ((![v2, v5380] : Fin 2 → IVec S16 32) a x).toNat < S32x129.size a)
theorem k0_idx397_inb : ∀ (v2 : IVec S16 32) (v5380 : IVec S16 32) (k0_hw397 : k0_chk397 v2 v5380), ∀ a x, ((![v2, v5380] : Fin 2 → IVec S16 32) a x).toNat < S32x129.size a := fun v2 v5380 k0_hw397 => k0_hw397

def k0_chk398 (v4 : IVec S16 32) (v5388 : IVec S16 32) : Prop :=
  (∀ a x, ((![v4, v5388] : Fin 2 → IVec S16 32) a x).toNat < S32x129.size a)
theorem k0_idx398_inb : ∀ (v4 : IVec S16 32) (v5388 : IVec S16 32) (k0_hw398 : k0_chk398 v4 v5388), ∀ a x, ((![v4, v5388] : Fin 2 → IVec S16 32) a x).toNat < S32x129.size a := fun v4 v5388 k0_hw398 => k0_hw398

def k0_chk399 (v2 : IVec S16 32) (v5396 : IVec S16 32) : Prop :=
  (∀ a x, ((![v2, v5396] : Fin 2 → IVec S16 32) a x).toNat < S32x129.size a)
theorem k0_idx399_inb : ∀ (v2 : IVec S16 32) (v5396 : IVec S16 32) (k0_hw399 : k0_chk399 v2 v5396), ∀ a x, ((![v2, v5396] : Fin 2 → IVec S16 32) a x).toNat < S32x129.size a := fun v2 v5396 k0_hw399 => k0_hw399

def k0_chk400 (v4 : IVec S16 32) (v5404 : IVec S16 32) : Prop :=
  (∀ a x, ((![v4, v5404] : Fin 2 → IVec S16 32) a x).toNat < S32x129.size a)
theorem k0_idx400_inb : ∀ (v4 : IVec S16 32) (v5404 : IVec S16 32) (k0_hw400 : k0_chk400 v4 v5404), ∀ a x, ((![v4, v5404] : Fin 2 → IVec S16 32) a x).toNat < S32x129.size a := fun v4 v5404 k0_hw400 => k0_hw400

def k0_chk401 (v2 : IVec S16 32) (v5412 : IVec S16 32) : Prop :=
  (∀ a x, ((![v2, v5412] : Fin 2 → IVec S16 32) a x).toNat < S32x129.size a)
theorem k0_idx401_inb : ∀ (v2 : IVec S16 32) (v5412 : IVec S16 32) (k0_hw401 : k0_chk401 v2 v5412), ∀ a x, ((![v2, v5412] : Fin 2 → IVec S16 32) a x).toNat < S32x129.size a := fun v2 v5412 k0_hw401 => k0_hw401

def k0_chk402 (v4 : IVec S16 32) (v5420 : IVec S16 32) : Prop :=
  (∀ a x, ((![v4, v5420] : Fin 2 → IVec S16 32) a x).toNat < S32x129.size a)
theorem k0_idx402_inb : ∀ (v4 : IVec S16 32) (v5420 : IVec S16 32) (k0_hw402 : k0_chk402 v4 v5420), ∀ a x, ((![v4, v5420] : Fin 2 → IVec S16 32) a x).toNat < S32x129.size a := fun v4 v5420 k0_hw402 => k0_hw402

def k0_chk403 (v2 : IVec S16 32) (v5428 : IVec S16 32) : Prop :=
  (∀ a x, ((![v2, v5428] : Fin 2 → IVec S16 32) a x).toNat < S32x129.size a)
theorem k0_idx403_inb : ∀ (v2 : IVec S16 32) (v5428 : IVec S16 32) (k0_hw403 : k0_chk403 v2 v5428), ∀ a x, ((![v2, v5428] : Fin 2 → IVec S16 32) a x).toNat < S32x129.size a := fun v2 v5428 k0_hw403 => k0_hw403

def k0_chk404 (v4 : IVec S16 32) (v5436 : IVec S16 32) : Prop :=
  (∀ a x, ((![v4, v5436] : Fin 2 → IVec S16 32) a x).toNat < S32x129.size a)
theorem k0_idx404_inb : ∀ (v4 : IVec S16 32) (v5436 : IVec S16 32) (k0_hw404 : k0_chk404 v4 v5436), ∀ a x, ((![v4, v5436] : Fin 2 → IVec S16 32) a x).toNat < S32x129.size a := fun v4 v5436 k0_hw404 => k0_hw404

def k0_chk405 (v2 : IVec S16 32) (v5444 : IVec S16 32) : Prop :=
  (∀ a x, ((![v2, v5444] : Fin 2 → IVec S16 32) a x).toNat < S32x129.size a)
theorem k0_idx405_inb : ∀ (v2 : IVec S16 32) (v5444 : IVec S16 32) (k0_hw405 : k0_chk405 v2 v5444), ∀ a x, ((![v2, v5444] : Fin 2 → IVec S16 32) a x).toNat < S32x129.size a := fun v2 v5444 k0_hw405 => k0_hw405

def k0_chk406 (v4 : IVec S16 32) (v5452 : IVec S16 32) : Prop :=
  (∀ a x, ((![v4, v5452] : Fin 2 → IVec S16 32) a x).toNat < S32x129.size a)
theorem k0_idx406_inb : ∀ (v4 : IVec S16 32) (v5452 : IVec S16 32) (k0_hw406 : k0_chk406 v4 v5452), ∀ a x, ((![v4, v5452] : Fin 2 → IVec S16 32) a x).toNat < S32x129.size a := fun v4 v5452 k0_hw406 => k0_hw406

def k0_chk407 (v2 : IVec S16 32) (v5460 : IVec S16 32) : Prop :=
  (∀ a x, ((![v2, v5460] : Fin 2 → IVec S16 32) a x).toNat < S32x129.size a)
theorem k0_idx407_inb : ∀ (v2 : IVec S16 32) (v5460 : IVec S16 32) (k0_hw407 : k0_chk407 v2 v5460), ∀ a x, ((![v2, v5460] : Fin 2 → IVec S16 32) a x).toNat < S32x129.size a := fun v2 v5460 k0_hw407 => k0_hw407

def k0_chk408 (v4 : IVec S16 32) (v5468 : IVec S16 32) : Prop :=
  (∀ a x, ((![v4, v5468] : Fin 2 → IVec S16 32) a x).toNat < S32x129.size a)
theorem k0_idx408_inb : ∀ (v4 : IVec S16 32) (v5468 : IVec S16 32) (k0_hw408 : k0_chk408 v4 v5468), ∀ a x, ((![v4, v5468] : Fin 2 → IVec S16 32) a x).toNat < S32x129.size a := fun v4 v5468 k0_hw408 => k0_hw408

def k0_chk409 (v2 : IVec S16 32) (v5476 : IVec S16 32) : Prop :=
  (∀ a x, ((![v2, v5476] : Fin 2 → IVec S16 32) a x).toNat < S32x129.size a)
theorem k0_idx409_inb : ∀ (v2 : IVec S16 32) (v5476 : IVec S16 32) (k0_hw409 : k0_chk409 v2 v5476), ∀ a x, ((![v2, v5476] : Fin 2 → IVec S16 32) a x).toNat < S32x129.size a := fun v2 v5476 k0_hw409 => k0_hw409

def k0_chk410 (v4 : IVec S16 32) (v5484 : IVec S16 32) : Prop :=
  (∀ a x, ((![v4, v5484] : Fin 2 → IVec S16 32) a x).toNat < S32x129.size a)
theorem k0_idx410_inb : ∀ (v4 : IVec S16 32) (v5484 : IVec S16 32) (k0_hw410 : k0_chk410 v4 v5484), ∀ a x, ((![v4, v5484] : Fin 2 → IVec S16 32) a x).toNat < S32x129.size a := fun v4 v5484 k0_hw410 => k0_hw410

def k0_chk411 (v2 : IVec S16 32) (v5492 : IVec S16 32) : Prop :=
  (∀ a x, ((![v2, v5492] : Fin 2 → IVec S16 32) a x).toNat < S32x129.size a)
theorem k0_idx411_inb : ∀ (v2 : IVec S16 32) (v5492 : IVec S16 32) (k0_hw411 : k0_chk411 v2 v5492), ∀ a x, ((![v2, v5492] : Fin 2 → IVec S16 32) a x).toNat < S32x129.size a := fun v2 v5492 k0_hw411 => k0_hw411

def k0_chk412 (v4 : IVec S16 32) (v5500 : IVec S16 32) : Prop :=
  (∀ a x, ((![v4, v5500] : Fin 2 → IVec S16 32) a x).toNat < S32x129.size a)
theorem k0_idx412_inb : ∀ (v4 : IVec S16 32) (v5500 : IVec S16 32) (k0_hw412 : k0_chk412 v4 v5500), ∀ a x, ((![v4, v5500] : Fin 2 → IVec S16 32) a x).toNat < S32x129.size a := fun v4 v5500 k0_hw412 => k0_hw412

def k0_chk413 (v2 : IVec S16 32) (v5508 : IVec S16 32) : Prop :=
  (∀ a x, ((![v2, v5508] : Fin 2 → IVec S16 32) a x).toNat < S32x129.size a)
theorem k0_idx413_inb : ∀ (v2 : IVec S16 32) (v5508 : IVec S16 32) (k0_hw413 : k0_chk413 v2 v5508), ∀ a x, ((![v2, v5508] : Fin 2 → IVec S16 32) a x).toNat < S32x129.size a := fun v2 v5508 k0_hw413 => k0_hw413

def k0_chk414 (v4 : IVec S16 32) (v5516 : IVec S16 32) : Prop :=
  (∀ a x, ((![v4, v5516] : Fin 2 → IVec S16 32) a x).toNat < S32x129.size a)
theorem k0_idx414_inb : ∀ (v4 : IVec S16 32) (v5516 : IVec S16 32) (k0_hw414 : k0_chk414 v4 v5516), ∀ a x, ((![v4, v5516] : Fin 2 → IVec S16 32) a x).toNat < S32x129.size a := fun v4 v5516 k0_hw414 => k0_hw414

def k0_chk415 (v2 : IVec S16 32) (v5524 : IVec S16 32) : Prop :=
  (∀ a x, ((![v2, v5524] : Fin 2 → IVec S16 32) a x).toNat < S32x129.size a)
theorem k0_idx415_inb : ∀ (v2 : IVec S16 32) (v5524 : IVec S16 32) (k0_hw415 : k0_chk415 v2 v5524), ∀ a x, ((![v2, v5524] : Fin 2 → IVec S16 32) a x).toNat < S32x129.size a := fun v2 v5524 k0_hw415 => k0_hw415

def k0_chk416 (v4 : IVec S16 32) (v5532 : IVec S16 32) : Prop :=
  (∀ a x, ((![v4, v5532] : Fin 2 → IVec S16 32) a x).toNat < S32x129.size a)
theorem k0_idx416_inb : ∀ (v4 : IVec S16 32) (v5532 : IVec S16 32) (k0_hw416 : k0_chk416 v4 v5532), ∀ a x, ((![v4, v5532] : Fin 2 → IVec S16 32) a x).toNat < S32x129.size a := fun v4 v5532 k0_hw416 => k0_hw416

def k0_chk417 (v2 : IVec S16 32) (v5540 : IVec S16 32) : Prop :=
  (∀ a x, ((![v2, v5540] : Fin 2 → IVec S16 32) a x).toNat < S32x129.size a)
theorem k0_idx417_inb : ∀ (v2 : IVec S16 32) (v5540 : IVec S16 32) (k0_hw417 : k0_chk417 v2 v5540), ∀ a x, ((![v2, v5540] : Fin 2 → IVec S16 32) a x).toNat < S32x129.size a := fun v2 v5540 k0_hw417 => k0_hw417

def k0_chk418 (v4 : IVec S16 32) (v5548 : IVec S16 32) : Prop :=
  (∀ a x, ((![v4, v5548] : Fin 2 → IVec S16 32) a x).toNat < S32x129.size a)
theorem k0_idx418_inb : ∀ (v4 : IVec S16 32) (v5548 : IVec S16 32) (k0_hw418 : k0_chk418 v4 v5548), ∀ a x, ((![v4, v5548] : Fin 2 → IVec S16 32) a x).toNat < S32x129.size a := fun v4 v5548 k0_hw418 => k0_hw418

def k0_chk419 (v2 : IVec S16 32) (v5556 : IVec S16 32) : Prop :=
  (∀ a x, ((![v2, v5556] : Fin 2 → IVec S16 32) a x).toNat < S32x129.size a)
theorem k0_idx419_inb : ∀ (v2 : IVec S16 32) (v5556 : IVec S16 32) (k0_hw419 : k0_chk419 v2 v5556), ∀ a x, ((![v2, v5556] : Fin 2 → IVec S16 32) a x).toNat < S32x129.size a := fun v2 v5556 k0_hw419 => k0_hw419

def k0_chk420 (v4 : IVec S16 32) (v5564 : IVec S16 32) : Prop :=
  (∀ a x, ((![v4, v5564] : Fin 2 → IVec S16 32) a x).toNat < S32x129.size a)
theorem k0_idx420_inb : ∀ (v4 : IVec S16 32) (v5564 : IVec S16 32) (k0_hw420 : k0_chk420 v4 v5564), ∀ a x, ((![v4, v5564] : Fin 2 → IVec S16 32) a x).toNat < S32x129.size a := fun v4 v5564 k0_hw420 => k0_hw420

def k0_chk421 (v2 : IVec S16 32) (v5572 : IVec S16 32) : Prop :=
  (∀ a x, ((![v2, v5572] : Fin 2 → IVec S16 32) a x).toNat < S32x129.size a)
theorem k0_idx421_inb : ∀ (v2 : IVec S16 32) (v5572 : IVec S16 32) (k0_hw421 : k0_chk421 v2 v5572), ∀ a x, ((![v2, v5572] : Fin 2 → IVec S16 32) a x).toNat < S32x129.size a := fun v2 v5572 k0_hw421 => k0_hw421

def k0_chk422 (v4 : IVec S16 32) (v5580 : IVec S16 32) : Prop :=
  (∀ a x, ((![v4, v5580] : Fin 2 → IVec S16 32) a x).toNat < S32x129.size a)
theorem k0_idx422_inb : ∀ (v4 : IVec S16 32) (v5580 : IVec S16 32) (k0_hw422 : k0_chk422 v4 v5580), ∀ a x, ((![v4, v5580] : Fin 2 → IVec S16 32) a x).toNat < S32x129.size a := fun v4 v5580 k0_hw422 => k0_hw422

def k0_chk423 (v2 : IVec S16 32) (v5588 : IVec S16 32) : Prop :=
  (∀ a x, ((![v2, v5588] : Fin 2 → IVec S16 32) a x).toNat < S32x129.size a)
theorem k0_idx423_inb : ∀ (v2 : IVec S16 32) (v5588 : IVec S16 32) (k0_hw423 : k0_chk423 v2 v5588), ∀ a x, ((![v2, v5588] : Fin 2 → IVec S16 32) a x).toNat < S32x129.size a := fun v2 v5588 k0_hw423 => k0_hw423

def k0_chk424 (v4 : IVec S16 32) (v5596 : IVec S16 32) : Prop :=
  (∀ a x, ((![v4, v5596] : Fin 2 → IVec S16 32) a x).toNat < S32x129.size a)
theorem k0_idx424_inb : ∀ (v4 : IVec S16 32) (v5596 : IVec S16 32) (k0_hw424 : k0_chk424 v4 v5596), ∀ a x, ((![v4, v5596] : Fin 2 → IVec S16 32) a x).toNat < S32x129.size a := fun v4 v5596 k0_hw424 => k0_hw424

def k0_chk425 (v2 : IVec S16 32) (v5604 : IVec S16 32) : Prop :=
  (∀ a x, ((![v2, v5604] : Fin 2 → IVec S16 32) a x).toNat < S32x129.size a)
theorem k0_idx425_inb : ∀ (v2 : IVec S16 32) (v5604 : IVec S16 32) (k0_hw425 : k0_chk425 v2 v5604), ∀ a x, ((![v2, v5604] : Fin 2 → IVec S16 32) a x).toNat < S32x129.size a := fun v2 v5604 k0_hw425 => k0_hw425

def k0_chk426 (v4 : IVec S16 32) (v5612 : IVec S16 32) : Prop :=
  (∀ a x, ((![v4, v5612] : Fin 2 → IVec S16 32) a x).toNat < S32x129.size a)
theorem k0_idx426_inb : ∀ (v4 : IVec S16 32) (v5612 : IVec S16 32) (k0_hw426 : k0_chk426 v4 v5612), ∀ a x, ((![v4, v5612] : Fin 2 → IVec S16 32) a x).toNat < S32x129.size a := fun v4 v5612 k0_hw426 => k0_hw426

def k0_chk427 (v2 : IVec S16 32) (v5620 : IVec S16 32) : Prop :=
  (∀ a x, ((![v2, v5620] : Fin 2 → IVec S16 32) a x).toNat < S32x129.size a)
theorem k0_idx427_inb : ∀ (v2 : IVec S16 32) (v5620 : IVec S16 32) (k0_hw427 : k0_chk427 v2 v5620), ∀ a x, ((![v2, v5620] : Fin 2 → IVec S16 32) a x).toNat < S32x129.size a := fun v2 v5620 k0_hw427 => k0_hw427

def k0_chk428 (v4 : IVec S16 32) (v5628 : IVec S16 32) : Prop :=
  (∀ a x, ((![v4, v5628] : Fin 2 → IVec S16 32) a x).toNat < S32x129.size a)
theorem k0_idx428_inb : ∀ (v4 : IVec S16 32) (v5628 : IVec S16 32) (k0_hw428 : k0_chk428 v4 v5628), ∀ a x, ((![v4, v5628] : Fin 2 → IVec S16 32) a x).toNat < S32x129.size a := fun v4 v5628 k0_hw428 => k0_hw428

def k0_chk429 (v2 : IVec S16 32) (v5636 : IVec S16 32) : Prop :=
  (∀ a x, ((![v2, v5636] : Fin 2 → IVec S16 32) a x).toNat < S32x129.size a)
theorem k0_idx429_inb : ∀ (v2 : IVec S16 32) (v5636 : IVec S16 32) (k0_hw429 : k0_chk429 v2 v5636), ∀ a x, ((![v2, v5636] : Fin 2 → IVec S16 32) a x).toNat < S32x129.size a := fun v2 v5636 k0_hw429 => k0_hw429

def k0_chk430 (v4 : IVec S16 32) (v5644 : IVec S16 32) : Prop :=
  (∀ a x, ((![v4, v5644] : Fin 2 → IVec S16 32) a x).toNat < S32x129.size a)
theorem k0_idx430_inb : ∀ (v4 : IVec S16 32) (v5644 : IVec S16 32) (k0_hw430 : k0_chk430 v4 v5644), ∀ a x, ((![v4, v5644] : Fin 2 → IVec S16 32) a x).toNat < S32x129.size a := fun v4 v5644 k0_hw430 => k0_hw430

def k0_chk431 (v2 : IVec S16 32) (v5652 : IVec S16 32) : Prop :=
  (∀ a x, ((![v2, v5652] : Fin 2 → IVec S16 32) a x).toNat < S32x129.size a)
theorem k0_idx431_inb : ∀ (v2 : IVec S16 32) (v5652 : IVec S16 32) (k0_hw431 : k0_chk431 v2 v5652), ∀ a x, ((![v2, v5652] : Fin 2 → IVec S16 32) a x).toNat < S32x129.size a := fun v2 v5652 k0_hw431 => k0_hw431

def k0_chk432 (v4 : IVec S16 32) (v5660 : IVec S16 32) : Prop :=
  (∀ a x, ((![v4, v5660] : Fin 2 → IVec S16 32) a x).toNat < S32x129.size a)
theorem k0_idx432_inb : ∀ (v4 : IVec S16 32) (v5660 : IVec S16 32) (k0_hw432 : k0_chk432 v4 v5660), ∀ a x, ((![v4, v5660] : Fin 2 → IVec S16 32) a x).toNat < S32x129.size a := fun v4 v5660 k0_hw432 => k0_hw432

def k0_chk433 (v2 : IVec S16 32) (v5668 : IVec S16 32) : Prop :=
  (∀ a x, ((![v2, v5668] : Fin 2 → IVec S16 32) a x).toNat < S32x129.size a)
theorem k0_idx433_inb : ∀ (v2 : IVec S16 32) (v5668 : IVec S16 32) (k0_hw433 : k0_chk433 v2 v5668), ∀ a x, ((![v2, v5668] : Fin 2 → IVec S16 32) a x).toNat < S32x129.size a := fun v2 v5668 k0_hw433 => k0_hw433

def k0_chk434 (v4 : IVec S16 32) (v5676 : IVec S16 32) : Prop :=
  (∀ a x, ((![v4, v5676] : Fin 2 → IVec S16 32) a x).toNat < S32x129.size a)
theorem k0_idx434_inb : ∀ (v4 : IVec S16 32) (v5676 : IVec S16 32) (k0_hw434 : k0_chk434 v4 v5676), ∀ a x, ((![v4, v5676] : Fin 2 → IVec S16 32) a x).toNat < S32x129.size a := fun v4 v5676 k0_hw434 => k0_hw434

def k0_chk435 (v2 : IVec S16 32) (v5684 : IVec S16 32) : Prop :=
  (∀ a x, ((![v2, v5684] : Fin 2 → IVec S16 32) a x).toNat < S32x129.size a)
theorem k0_idx435_inb : ∀ (v2 : IVec S16 32) (v5684 : IVec S16 32) (k0_hw435 : k0_chk435 v2 v5684), ∀ a x, ((![v2, v5684] : Fin 2 → IVec S16 32) a x).toNat < S32x129.size a := fun v2 v5684 k0_hw435 => k0_hw435

def k0_chk436 (v4 : IVec S16 32) (v5692 : IVec S16 32) : Prop :=
  (∀ a x, ((![v4, v5692] : Fin 2 → IVec S16 32) a x).toNat < S32x129.size a)
theorem k0_idx436_inb : ∀ (v4 : IVec S16 32) (v5692 : IVec S16 32) (k0_hw436 : k0_chk436 v4 v5692), ∀ a x, ((![v4, v5692] : Fin 2 → IVec S16 32) a x).toNat < S32x129.size a := fun v4 v5692 k0_hw436 => k0_hw436

def k0_chk437 (v2 : IVec S16 32) (v5700 : IVec S16 32) : Prop :=
  (∀ a x, ((![v2, v5700] : Fin 2 → IVec S16 32) a x).toNat < S32x129.size a)
theorem k0_idx437_inb : ∀ (v2 : IVec S16 32) (v5700 : IVec S16 32) (k0_hw437 : k0_chk437 v2 v5700), ∀ a x, ((![v2, v5700] : Fin 2 → IVec S16 32) a x).toNat < S32x129.size a := fun v2 v5700 k0_hw437 => k0_hw437

def k0_chk438 (v4 : IVec S16 32) (v5708 : IVec S16 32) : Prop :=
  (∀ a x, ((![v4, v5708] : Fin 2 → IVec S16 32) a x).toNat < S32x129.size a)
theorem k0_idx438_inb : ∀ (v4 : IVec S16 32) (v5708 : IVec S16 32) (k0_hw438 : k0_chk438 v4 v5708), ∀ a x, ((![v4, v5708] : Fin 2 → IVec S16 32) a x).toNat < S32x129.size a := fun v4 v5708 k0_hw438 => k0_hw438

def k0_chk439 (v2 : IVec S16 32) (v5716 : IVec S16 32) : Prop :=
  (∀ a x, ((![v2, v5716] : Fin 2 → IVec S16 32) a x).toNat < S32x129.size a)
theorem k0_idx439_inb : ∀ (v2 : IVec S16 32) (v5716 : IVec S16 32) (k0_hw439 : k0_chk439 v2 v5716), ∀ a x, ((![v2, v5716] : Fin 2 → IVec S16 32) a x).toNat < S32x129.size a := fun v2 v5716 k0_hw439 => k0_hw439

def k0_chk440 (v4 : IVec S16 32) (v5724 : IVec S16 32) : Prop :=
  (∀ a x, ((![v4, v5724] : Fin 2 → IVec S16 32) a x).toNat < S32x129.size a)
theorem k0_idx440_inb : ∀ (v4 : IVec S16 32) (v5724 : IVec S16 32) (k0_hw440 : k0_chk440 v4 v5724), ∀ a x, ((![v4, v5724] : Fin 2 → IVec S16 32) a x).toNat < S32x129.size a := fun v4 v5724 k0_hw440 => k0_hw440

def k0_chk441 (v2 : IVec S16 32) (v5732 : IVec S16 32) : Prop :=
  (∀ a x, ((![v2, v5732] : Fin 2 → IVec S16 32) a x).toNat < S32x129.size a)
theorem k0_idx441_inb : ∀ (v2 : IVec S16 32) (v5732 : IVec S16 32) (k0_hw441 : k0_chk441 v2 v5732), ∀ a x, ((![v2, v5732] : Fin 2 → IVec S16 32) a x).toNat < S32x129.size a := fun v2 v5732 k0_hw441 => k0_hw441

def k0_chk442 (v4 : IVec S16 32) (v5740 : IVec S16 32) : Prop :=
  (∀ a x, ((![v4, v5740] : Fin 2 → IVec S16 32) a x).toNat < S32x129.size a)
theorem k0_idx442_inb : ∀ (v4 : IVec S16 32) (v5740 : IVec S16 32) (k0_hw442 : k0_chk442 v4 v5740), ∀ a x, ((![v4, v5740] : Fin 2 → IVec S16 32) a x).toNat < S32x129.size a := fun v4 v5740 k0_hw442 => k0_hw442

def k0_chk443 (v2 : IVec S16 32) (v5748 : IVec S16 32) : Prop :=
  (∀ a x, ((![v2, v5748] : Fin 2 → IVec S16 32) a x).toNat < S32x129.size a)
theorem k0_idx443_inb : ∀ (v2 : IVec S16 32) (v5748 : IVec S16 32) (k0_hw443 : k0_chk443 v2 v5748), ∀ a x, ((![v2, v5748] : Fin 2 → IVec S16 32) a x).toNat < S32x129.size a := fun v2 v5748 k0_hw443 => k0_hw443

def k0_chk444 (v4 : IVec S16 32) (v5756 : IVec S16 32) : Prop :=
  (∀ a x, ((![v4, v5756] : Fin 2 → IVec S16 32) a x).toNat < S32x129.size a)
theorem k0_idx444_inb : ∀ (v4 : IVec S16 32) (v5756 : IVec S16 32) (k0_hw444 : k0_chk444 v4 v5756), ∀ a x, ((![v4, v5756] : Fin 2 → IVec S16 32) a x).toNat < S32x129.size a := fun v4 v5756 k0_hw444 => k0_hw444

def k0_chk445 (v2 : IVec S16 32) (v5764 : IVec S16 32) : Prop :=
  (∀ a x, ((![v2, v5764] : Fin 2 → IVec S16 32) a x).toNat < S32x129.size a)
theorem k0_idx445_inb : ∀ (v2 : IVec S16 32) (v5764 : IVec S16 32) (k0_hw445 : k0_chk445 v2 v5764), ∀ a x, ((![v2, v5764] : Fin 2 → IVec S16 32) a x).toNat < S32x129.size a := fun v2 v5764 k0_hw445 => k0_hw445

def k0_chk446 (v4 : IVec S16 32) (v5772 : IVec S16 32) : Prop :=
  (∀ a x, ((![v4, v5772] : Fin 2 → IVec S16 32) a x).toNat < S32x129.size a)
theorem k0_idx446_inb : ∀ (v4 : IVec S16 32) (v5772 : IVec S16 32) (k0_hw446 : k0_chk446 v4 v5772), ∀ a x, ((![v4, v5772] : Fin 2 → IVec S16 32) a x).toNat < S32x129.size a := fun v4 v5772 k0_hw446 => k0_hw446

def k0_chk447 (v2 : IVec S16 32) (v5780 : IVec S16 32) : Prop :=
  (∀ a x, ((![v2, v5780] : Fin 2 → IVec S16 32) a x).toNat < S32x129.size a)
theorem k0_idx447_inb : ∀ (v2 : IVec S16 32) (v5780 : IVec S16 32) (k0_hw447 : k0_chk447 v2 v5780), ∀ a x, ((![v2, v5780] : Fin 2 → IVec S16 32) a x).toNat < S32x129.size a := fun v2 v5780 k0_hw447 => k0_hw447

def k0_chk448 (v4 : IVec S16 32) (v5788 : IVec S16 32) : Prop :=
  (∀ a x, ((![v4, v5788] : Fin 2 → IVec S16 32) a x).toNat < S32x129.size a)
theorem k0_idx448_inb : ∀ (v4 : IVec S16 32) (v5788 : IVec S16 32) (k0_hw448 : k0_chk448 v4 v5788), ∀ a x, ((![v4, v5788] : Fin 2 → IVec S16 32) a x).toNat < S32x129.size a := fun v4 v5788 k0_hw448 => k0_hw448

def k0_chk449 (v2 : IVec S16 32) (v5796 : IVec S16 32) : Prop :=
  (∀ a x, ((![v2, v5796] : Fin 2 → IVec S16 32) a x).toNat < S32x129.size a)
theorem k0_idx449_inb : ∀ (v2 : IVec S16 32) (v5796 : IVec S16 32) (k0_hw449 : k0_chk449 v2 v5796), ∀ a x, ((![v2, v5796] : Fin 2 → IVec S16 32) a x).toNat < S32x129.size a := fun v2 v5796 k0_hw449 => k0_hw449

def k0_chk450 (v4 : IVec S16 32) (v5804 : IVec S16 32) : Prop :=
  (∀ a x, ((![v4, v5804] : Fin 2 → IVec S16 32) a x).toNat < S32x129.size a)
theorem k0_idx450_inb : ∀ (v4 : IVec S16 32) (v5804 : IVec S16 32) (k0_hw450 : k0_chk450 v4 v5804), ∀ a x, ((![v4, v5804] : Fin 2 → IVec S16 32) a x).toNat < S32x129.size a := fun v4 v5804 k0_hw450 => k0_hw450

def k0_chk451 (v2 : IVec S16 32) (v5812 : IVec S16 32) : Prop :=
  (∀ a x, ((![v2, v5812] : Fin 2 → IVec S16 32) a x).toNat < S32x129.size a)
theorem k0_idx451_inb : ∀ (v2 : IVec S16 32) (v5812 : IVec S16 32) (k0_hw451 : k0_chk451 v2 v5812), ∀ a x, ((![v2, v5812] : Fin 2 → IVec S16 32) a x).toNat < S32x129.size a := fun v2 v5812 k0_hw451 => k0_hw451

def k0_chk452 (v4 : IVec S16 32) (v5820 : IVec S16 32) : Prop :=
  (∀ a x, ((![v4, v5820] : Fin 2 → IVec S16 32) a x).toNat < S32x129.size a)
theorem k0_idx452_inb : ∀ (v4 : IVec S16 32) (v5820 : IVec S16 32) (k0_hw452 : k0_chk452 v4 v5820), ∀ a x, ((![v4, v5820] : Fin 2 → IVec S16 32) a x).toNat < S32x129.size a := fun v4 v5820 k0_hw452 => k0_hw452

def k0_chk453 (v2 : IVec S16 32) (v5828 : IVec S16 32) : Prop :=
  (∀ a x, ((![v2, v5828] : Fin 2 → IVec S16 32) a x).toNat < S32x129.size a)
theorem k0_idx453_inb : ∀ (v2 : IVec S16 32) (v5828 : IVec S16 32) (k0_hw453 : k0_chk453 v2 v5828), ∀ a x, ((![v2, v5828] : Fin 2 → IVec S16 32) a x).toNat < S32x129.size a := fun v2 v5828 k0_hw453 => k0_hw453

def k0_chk454 (v4 : IVec S16 32) (v5836 : IVec S16 32) : Prop :=
  (∀ a x, ((![v4, v5836] : Fin 2 → IVec S16 32) a x).toNat < S32x129.size a)
theorem k0_idx454_inb : ∀ (v4 : IVec S16 32) (v5836 : IVec S16 32) (k0_hw454 : k0_chk454 v4 v5836), ∀ a x, ((![v4, v5836] : Fin 2 → IVec S16 32) a x).toNat < S32x129.size a := fun v4 v5836 k0_hw454 => k0_hw454

def k0_chk455 (v2 : IVec S16 32) (v5844 : IVec S16 32) : Prop :=
  (∀ a x, ((![v2, v5844] : Fin 2 → IVec S16 32) a x).toNat < S32x129.size a)
theorem k0_idx455_inb : ∀ (v2 : IVec S16 32) (v5844 : IVec S16 32) (k0_hw455 : k0_chk455 v2 v5844), ∀ a x, ((![v2, v5844] : Fin 2 → IVec S16 32) a x).toNat < S32x129.size a := fun v2 v5844 k0_hw455 => k0_hw455

def k0_chk456 (v4 : IVec S16 32) (v5852 : IVec S16 32) : Prop :=
  (∀ a x, ((![v4, v5852] : Fin 2 → IVec S16 32) a x).toNat < S32x129.size a)
theorem k0_idx456_inb : ∀ (v4 : IVec S16 32) (v5852 : IVec S16 32) (k0_hw456 : k0_chk456 v4 v5852), ∀ a x, ((![v4, v5852] : Fin 2 → IVec S16 32) a x).toNat < S32x129.size a := fun v4 v5852 k0_hw456 => k0_hw456

def k0_chk457 (v2 : IVec S16 32) (v5860 : IVec S16 32) : Prop :=
  (∀ a x, ((![v2, v5860] : Fin 2 → IVec S16 32) a x).toNat < S32x129.size a)
theorem k0_idx457_inb : ∀ (v2 : IVec S16 32) (v5860 : IVec S16 32) (k0_hw457 : k0_chk457 v2 v5860), ∀ a x, ((![v2, v5860] : Fin 2 → IVec S16 32) a x).toNat < S32x129.size a := fun v2 v5860 k0_hw457 => k0_hw457

def k0_chk458 (v4 : IVec S16 32) (v5868 : IVec S16 32) : Prop :=
  (∀ a x, ((![v4, v5868] : Fin 2 → IVec S16 32) a x).toNat < S32x129.size a)
theorem k0_idx458_inb : ∀ (v4 : IVec S16 32) (v5868 : IVec S16 32) (k0_hw458 : k0_chk458 v4 v5868), ∀ a x, ((![v4, v5868] : Fin 2 → IVec S16 32) a x).toNat < S32x129.size a := fun v4 v5868 k0_hw458 => k0_hw458

def k0_chk459 (v2 : IVec S16 32) (v5876 : IVec S16 32) : Prop :=
  (∀ a x, ((![v2, v5876] : Fin 2 → IVec S16 32) a x).toNat < S32x129.size a)
theorem k0_idx459_inb : ∀ (v2 : IVec S16 32) (v5876 : IVec S16 32) (k0_hw459 : k0_chk459 v2 v5876), ∀ a x, ((![v2, v5876] : Fin 2 → IVec S16 32) a x).toNat < S32x129.size a := fun v2 v5876 k0_hw459 => k0_hw459

def k0_chk460 (v4 : IVec S16 32) (v5884 : IVec S16 32) : Prop :=
  (∀ a x, ((![v4, v5884] : Fin 2 → IVec S16 32) a x).toNat < S32x129.size a)
theorem k0_idx460_inb : ∀ (v4 : IVec S16 32) (v5884 : IVec S16 32) (k0_hw460 : k0_chk460 v4 v5884), ∀ a x, ((![v4, v5884] : Fin 2 → IVec S16 32) a x).toNat < S32x129.size a := fun v4 v5884 k0_hw460 => k0_hw460

def k0_chk461 (v2 : IVec S16 32) (v5892 : IVec S16 32) : Prop :=
  (∀ a x, ((![v2, v5892] : Fin 2 → IVec S16 32) a x).toNat < S32x129.size a)
theorem k0_idx461_inb : ∀ (v2 : IVec S16 32) (v5892 : IVec S16 32) (k0_hw461 : k0_chk461 v2 v5892), ∀ a x, ((![v2, v5892] : Fin 2 → IVec S16 32) a x).toNat < S32x129.size a := fun v2 v5892 k0_hw461 => k0_hw461

def k0_chk462 (v4 : IVec S16 32) (v5900 : IVec S16 32) : Prop :=
  (∀ a x, ((![v4, v5900] : Fin 2 → IVec S16 32) a x).toNat < S32x129.size a)
theorem k0_idx462_inb : ∀ (v4 : IVec S16 32) (v5900 : IVec S16 32) (k0_hw462 : k0_chk462 v4 v5900), ∀ a x, ((![v4, v5900] : Fin 2 → IVec S16 32) a x).toNat < S32x129.size a := fun v4 v5900 k0_hw462 => k0_hw462

def k0_chk463 (v2 : IVec S16 32) (v5908 : IVec S16 32) : Prop :=
  (∀ a x, ((![v2, v5908] : Fin 2 → IVec S16 32) a x).toNat < S32x129.size a)
theorem k0_idx463_inb : ∀ (v2 : IVec S16 32) (v5908 : IVec S16 32) (k0_hw463 : k0_chk463 v2 v5908), ∀ a x, ((![v2, v5908] : Fin 2 → IVec S16 32) a x).toNat < S32x129.size a := fun v2 v5908 k0_hw463 => k0_hw463

def k0_chk464 (v4 : IVec S16 32) (v5916 : IVec S16 32) : Prop :=
  (∀ a x, ((![v4, v5916] : Fin 2 → IVec S16 32) a x).toNat < S32x129.size a)
theorem k0_idx464_inb : ∀ (v4 : IVec S16 32) (v5916 : IVec S16 32) (k0_hw464 : k0_chk464 v4 v5916), ∀ a x, ((![v4, v5916] : Fin 2 → IVec S16 32) a x).toNat < S32x129.size a := fun v4 v5916 k0_hw464 => k0_hw464

def k0_chk465 (v2 : IVec S16 32) (v5924 : IVec S16 32) : Prop :=
  (∀ a x, ((![v2, v5924] : Fin 2 → IVec S16 32) a x).toNat < S32x129.size a)
theorem k0_idx465_inb : ∀ (v2 : IVec S16 32) (v5924 : IVec S16 32) (k0_hw465 : k0_chk465 v2 v5924), ∀ a x, ((![v2, v5924] : Fin 2 → IVec S16 32) a x).toNat < S32x129.size a := fun v2 v5924 k0_hw465 => k0_hw465

def k0_chk466 (v4 : IVec S16 32) (v5932 : IVec S16 32) : Prop :=
  (∀ a x, ((![v4, v5932] : Fin 2 → IVec S16 32) a x).toNat < S32x129.size a)
theorem k0_idx466_inb : ∀ (v4 : IVec S16 32) (v5932 : IVec S16 32) (k0_hw466 : k0_chk466 v4 v5932), ∀ a x, ((![v4, v5932] : Fin 2 → IVec S16 32) a x).toNat < S32x129.size a := fun v4 v5932 k0_hw466 => k0_hw466

def k0_chk467 (v2 : IVec S16 32) (v5940 : IVec S16 32) : Prop :=
  (∀ a x, ((![v2, v5940] : Fin 2 → IVec S16 32) a x).toNat < S32x129.size a)
theorem k0_idx467_inb : ∀ (v2 : IVec S16 32) (v5940 : IVec S16 32) (k0_hw467 : k0_chk467 v2 v5940), ∀ a x, ((![v2, v5940] : Fin 2 → IVec S16 32) a x).toNat < S32x129.size a := fun v2 v5940 k0_hw467 => k0_hw467

def k0_chk468 (v4 : IVec S16 32) (v5948 : IVec S16 32) : Prop :=
  (∀ a x, ((![v4, v5948] : Fin 2 → IVec S16 32) a x).toNat < S32x129.size a)
theorem k0_idx468_inb : ∀ (v4 : IVec S16 32) (v5948 : IVec S16 32) (k0_hw468 : k0_chk468 v4 v5948), ∀ a x, ((![v4, v5948] : Fin 2 → IVec S16 32) a x).toNat < S32x129.size a := fun v4 v5948 k0_hw468 => k0_hw468

def k0_chk469 (v2 : IVec S16 32) (v5956 : IVec S16 32) : Prop :=
  (∀ a x, ((![v2, v5956] : Fin 2 → IVec S16 32) a x).toNat < S32x129.size a)
theorem k0_idx469_inb : ∀ (v2 : IVec S16 32) (v5956 : IVec S16 32) (k0_hw469 : k0_chk469 v2 v5956), ∀ a x, ((![v2, v5956] : Fin 2 → IVec S16 32) a x).toNat < S32x129.size a := fun v2 v5956 k0_hw469 => k0_hw469

def k0_chk470 (v4 : IVec S16 32) (v5964 : IVec S16 32) : Prop :=
  (∀ a x, ((![v4, v5964] : Fin 2 → IVec S16 32) a x).toNat < S32x129.size a)
theorem k0_idx470_inb : ∀ (v4 : IVec S16 32) (v5964 : IVec S16 32) (k0_hw470 : k0_chk470 v4 v5964), ∀ a x, ((![v4, v5964] : Fin 2 → IVec S16 32) a x).toNat < S32x129.size a := fun v4 v5964 k0_hw470 => k0_hw470

def k0_chk471 (v2 : IVec S16 32) (v5972 : IVec S16 32) : Prop :=
  (∀ a x, ((![v2, v5972] : Fin 2 → IVec S16 32) a x).toNat < S32x129.size a)
theorem k0_idx471_inb : ∀ (v2 : IVec S16 32) (v5972 : IVec S16 32) (k0_hw471 : k0_chk471 v2 v5972), ∀ a x, ((![v2, v5972] : Fin 2 → IVec S16 32) a x).toNat < S32x129.size a := fun v2 v5972 k0_hw471 => k0_hw471

def k0_chk472 (v4 : IVec S16 32) (v5980 : IVec S16 32) : Prop :=
  (∀ a x, ((![v4, v5980] : Fin 2 → IVec S16 32) a x).toNat < S32x129.size a)
theorem k0_idx472_inb : ∀ (v4 : IVec S16 32) (v5980 : IVec S16 32) (k0_hw472 : k0_chk472 v4 v5980), ∀ a x, ((![v4, v5980] : Fin 2 → IVec S16 32) a x).toNat < S32x129.size a := fun v4 v5980 k0_hw472 => k0_hw472

def k0_chk473 (v2 : IVec S16 32) (v5988 : IVec S16 32) : Prop :=
  (∀ a x, ((![v2, v5988] : Fin 2 → IVec S16 32) a x).toNat < S32x129.size a)
theorem k0_idx473_inb : ∀ (v2 : IVec S16 32) (v5988 : IVec S16 32) (k0_hw473 : k0_chk473 v2 v5988), ∀ a x, ((![v2, v5988] : Fin 2 → IVec S16 32) a x).toNat < S32x129.size a := fun v2 v5988 k0_hw473 => k0_hw473

def k0_chk474 (v4 : IVec S16 32) (v5996 : IVec S16 32) : Prop :=
  (∀ a x, ((![v4, v5996] : Fin 2 → IVec S16 32) a x).toNat < S32x129.size a)
theorem k0_idx474_inb : ∀ (v4 : IVec S16 32) (v5996 : IVec S16 32) (k0_hw474 : k0_chk474 v4 v5996), ∀ a x, ((![v4, v5996] : Fin 2 → IVec S16 32) a x).toNat < S32x129.size a := fun v4 v5996 k0_hw474 => k0_hw474

def k0_chk475 (v2 : IVec S16 32) (v6004 : IVec S16 32) : Prop :=
  (∀ a x, ((![v2, v6004] : Fin 2 → IVec S16 32) a x).toNat < S32x129.size a)
theorem k0_idx475_inb : ∀ (v2 : IVec S16 32) (v6004 : IVec S16 32) (k0_hw475 : k0_chk475 v2 v6004), ∀ a x, ((![v2, v6004] : Fin 2 → IVec S16 32) a x).toNat < S32x129.size a := fun v2 v6004 k0_hw475 => k0_hw475

def k0_chk476 (v4 : IVec S16 32) (v6012 : IVec S16 32) : Prop :=
  (∀ a x, ((![v4, v6012] : Fin 2 → IVec S16 32) a x).toNat < S32x129.size a)
theorem k0_idx476_inb : ∀ (v4 : IVec S16 32) (v6012 : IVec S16 32) (k0_hw476 : k0_chk476 v4 v6012), ∀ a x, ((![v4, v6012] : Fin 2 → IVec S16 32) a x).toNat < S32x129.size a := fun v4 v6012 k0_hw476 => k0_hw476

def k0_chk477 (v2 : IVec S16 32) (v6020 : IVec S16 32) : Prop :=
  (∀ a x, ((![v2, v6020] : Fin 2 → IVec S16 32) a x).toNat < S32x129.size a)
theorem k0_idx477_inb : ∀ (v2 : IVec S16 32) (v6020 : IVec S16 32) (k0_hw477 : k0_chk477 v2 v6020), ∀ a x, ((![v2, v6020] : Fin 2 → IVec S16 32) a x).toNat < S32x129.size a := fun v2 v6020 k0_hw477 => k0_hw477

def k0_chk478 (v4 : IVec S16 32) (v6028 : IVec S16 32) : Prop :=
  (∀ a x, ((![v4, v6028] : Fin 2 → IVec S16 32) a x).toNat < S32x129.size a)
theorem k0_idx478_inb : ∀ (v4 : IVec S16 32) (v6028 : IVec S16 32) (k0_hw478 : k0_chk478 v4 v6028), ∀ a x, ((![v4, v6028] : Fin 2 → IVec S16 32) a x).toNat < S32x129.size a := fun v4 v6028 k0_hw478 => k0_hw478

def k0_chk479 (v2 : IVec S16 32) (v6036 : IVec S16 32) : Prop :=
  (∀ a x, ((![v2, v6036] : Fin 2 → IVec S16 32) a x).toNat < S32x129.size a)
theorem k0_idx479_inb : ∀ (v2 : IVec S16 32) (v6036 : IVec S16 32) (k0_hw479 : k0_chk479 v2 v6036), ∀ a x, ((![v2, v6036] : Fin 2 → IVec S16 32) a x).toNat < S32x129.size a := fun v2 v6036 k0_hw479 => k0_hw479

def k0_chk480 (v4 : IVec S16 32) (v6044 : IVec S16 32) : Prop :=
  (∀ a x, ((![v4, v6044] : Fin 2 → IVec S16 32) a x).toNat < S32x129.size a)
theorem k0_idx480_inb : ∀ (v4 : IVec S16 32) (v6044 : IVec S16 32) (k0_hw480 : k0_chk480 v4 v6044), ∀ a x, ((![v4, v6044] : Fin 2 → IVec S16 32) a x).toNat < S32x129.size a := fun v4 v6044 k0_hw480 => k0_hw480

def k0_chk481 (v2 : IVec S16 32) (v6052 : IVec S16 32) : Prop :=
  (∀ a x, ((![v2, v6052] : Fin 2 → IVec S16 32) a x).toNat < S32x129.size a)
theorem k0_idx481_inb : ∀ (v2 : IVec S16 32) (v6052 : IVec S16 32) (k0_hw481 : k0_chk481 v2 v6052), ∀ a x, ((![v2, v6052] : Fin 2 → IVec S16 32) a x).toNat < S32x129.size a := fun v2 v6052 k0_hw481 => k0_hw481

def k0_chk482 (v4 : IVec S16 32) (v6060 : IVec S16 32) : Prop :=
  (∀ a x, ((![v4, v6060] : Fin 2 → IVec S16 32) a x).toNat < S32x129.size a)
theorem k0_idx482_inb : ∀ (v4 : IVec S16 32) (v6060 : IVec S16 32) (k0_hw482 : k0_chk482 v4 v6060), ∀ a x, ((![v4, v6060] : Fin 2 → IVec S16 32) a x).toNat < S32x129.size a := fun v4 v6060 k0_hw482 => k0_hw482

def k0_chk483 (v2 : IVec S16 32) (v6068 : IVec S16 32) : Prop :=
  (∀ a x, ((![v2, v6068] : Fin 2 → IVec S16 32) a x).toNat < S32x129.size a)
theorem k0_idx483_inb : ∀ (v2 : IVec S16 32) (v6068 : IVec S16 32) (k0_hw483 : k0_chk483 v2 v6068), ∀ a x, ((![v2, v6068] : Fin 2 → IVec S16 32) a x).toNat < S32x129.size a := fun v2 v6068 k0_hw483 => k0_hw483

def k0_chk484 (v4 : IVec S16 32) (v6076 : IVec S16 32) : Prop :=
  (∀ a x, ((![v4, v6076] : Fin 2 → IVec S16 32) a x).toNat < S32x129.size a)
theorem k0_idx484_inb : ∀ (v4 : IVec S16 32) (v6076 : IVec S16 32) (k0_hw484 : k0_chk484 v4 v6076), ∀ a x, ((![v4, v6076] : Fin 2 → IVec S16 32) a x).toNat < S32x129.size a := fun v4 v6076 k0_hw484 => k0_hw484

def k0_chk485 (v2 : IVec S16 32) (v6084 : IVec S16 32) : Prop :=
  (∀ a x, ((![v2, v6084] : Fin 2 → IVec S16 32) a x).toNat < S32x129.size a)
theorem k0_idx485_inb : ∀ (v2 : IVec S16 32) (v6084 : IVec S16 32) (k0_hw485 : k0_chk485 v2 v6084), ∀ a x, ((![v2, v6084] : Fin 2 → IVec S16 32) a x).toNat < S32x129.size a := fun v2 v6084 k0_hw485 => k0_hw485

def k0_chk486 (v4 : IVec S16 32) (v6092 : IVec S16 32) : Prop :=
  (∀ a x, ((![v4, v6092] : Fin 2 → IVec S16 32) a x).toNat < S32x129.size a)
theorem k0_idx486_inb : ∀ (v4 : IVec S16 32) (v6092 : IVec S16 32) (k0_hw486 : k0_chk486 v4 v6092), ∀ a x, ((![v4, v6092] : Fin 2 → IVec S16 32) a x).toNat < S32x129.size a := fun v4 v6092 k0_hw486 => k0_hw486

def k0_chk487 (v2 : IVec S16 32) (v6100 : IVec S16 32) : Prop :=
  (∀ a x, ((![v2, v6100] : Fin 2 → IVec S16 32) a x).toNat < S32x129.size a)
theorem k0_idx487_inb : ∀ (v2 : IVec S16 32) (v6100 : IVec S16 32) (k0_hw487 : k0_chk487 v2 v6100), ∀ a x, ((![v2, v6100] : Fin 2 → IVec S16 32) a x).toNat < S32x129.size a := fun v2 v6100 k0_hw487 => k0_hw487

def k0_chk488 (v4 : IVec S16 32) (v6108 : IVec S16 32) : Prop :=
  (∀ a x, ((![v4, v6108] : Fin 2 → IVec S16 32) a x).toNat < S32x129.size a)
theorem k0_idx488_inb : ∀ (v4 : IVec S16 32) (v6108 : IVec S16 32) (k0_hw488 : k0_chk488 v4 v6108), ∀ a x, ((![v4, v6108] : Fin 2 → IVec S16 32) a x).toNat < S32x129.size a := fun v4 v6108 k0_hw488 => k0_hw488

def k0_chk489 (v2 : IVec S16 32) (v6116 : IVec S16 32) : Prop :=
  (∀ a x, ((![v2, v6116] : Fin 2 → IVec S16 32) a x).toNat < S32x129.size a)
theorem k0_idx489_inb : ∀ (v2 : IVec S16 32) (v6116 : IVec S16 32) (k0_hw489 : k0_chk489 v2 v6116), ∀ a x, ((![v2, v6116] : Fin 2 → IVec S16 32) a x).toNat < S32x129.size a := fun v2 v6116 k0_hw489 => k0_hw489

def k0_chk490 (v4 : IVec S16 32) (v6124 : IVec S16 32) : Prop :=
  (∀ a x, ((![v4, v6124] : Fin 2 → IVec S16 32) a x).toNat < S32x129.size a)
theorem k0_idx490_inb : ∀ (v4 : IVec S16 32) (v6124 : IVec S16 32) (k0_hw490 : k0_chk490 v4 v6124), ∀ a x, ((![v4, v6124] : Fin 2 → IVec S16 32) a x).toNat < S32x129.size a := fun v4 v6124 k0_hw490 => k0_hw490

def k0_chk491 (v2 : IVec S16 32) (v6132 : IVec S16 32) : Prop :=
  (∀ a x, ((![v2, v6132] : Fin 2 → IVec S16 32) a x).toNat < S32x129.size a)
theorem k0_idx491_inb : ∀ (v2 : IVec S16 32) (v6132 : IVec S16 32) (k0_hw491 : k0_chk491 v2 v6132), ∀ a x, ((![v2, v6132] : Fin 2 → IVec S16 32) a x).toNat < S32x129.size a := fun v2 v6132 k0_hw491 => k0_hw491

def k0_chk492 (v4 : IVec S16 32) (v6140 : IVec S16 32) : Prop :=
  (∀ a x, ((![v4, v6140] : Fin 2 → IVec S16 32) a x).toNat < S32x129.size a)
theorem k0_idx492_inb : ∀ (v4 : IVec S16 32) (v6140 : IVec S16 32) (k0_hw492 : k0_chk492 v4 v6140), ∀ a x, ((![v4, v6140] : Fin 2 → IVec S16 32) a x).toNat < S32x129.size a := fun v4 v6140 k0_hw492 => k0_hw492

def k0_chk493 (v2 : IVec S16 32) (v6148 : IVec S16 32) : Prop :=
  (∀ a x, ((![v2, v6148] : Fin 2 → IVec S16 32) a x).toNat < S32x129.size a)
theorem k0_idx493_inb : ∀ (v2 : IVec S16 32) (v6148 : IVec S16 32) (k0_hw493 : k0_chk493 v2 v6148), ∀ a x, ((![v2, v6148] : Fin 2 → IVec S16 32) a x).toNat < S32x129.size a := fun v2 v6148 k0_hw493 => k0_hw493

def k0_chk494 (v4 : IVec S16 32) (v6156 : IVec S16 32) : Prop :=
  (∀ a x, ((![v4, v6156] : Fin 2 → IVec S16 32) a x).toNat < S32x129.size a)
theorem k0_idx494_inb : ∀ (v4 : IVec S16 32) (v6156 : IVec S16 32) (k0_hw494 : k0_chk494 v4 v6156), ∀ a x, ((![v4, v6156] : Fin 2 → IVec S16 32) a x).toNat < S32x129.size a := fun v4 v6156 k0_hw494 => k0_hw494

def k0_chk495 (v2 : IVec S16 32) (v6164 : IVec S16 32) : Prop :=
  (∀ a x, ((![v2, v6164] : Fin 2 → IVec S16 32) a x).toNat < S32x129.size a)
theorem k0_idx495_inb : ∀ (v2 : IVec S16 32) (v6164 : IVec S16 32) (k0_hw495 : k0_chk495 v2 v6164), ∀ a x, ((![v2, v6164] : Fin 2 → IVec S16 32) a x).toNat < S32x129.size a := fun v2 v6164 k0_hw495 => k0_hw495

def k0_chk496 (v4 : IVec S16 32) (v6172 : IVec S16 32) : Prop :=
  (∀ a x, ((![v4, v6172] : Fin 2 → IVec S16 32) a x).toNat < S32x129.size a)
theorem k0_idx496_inb : ∀ (v4 : IVec S16 32) (v6172 : IVec S16 32) (k0_hw496 : k0_chk496 v4 v6172), ∀ a x, ((![v4, v6172] : Fin 2 → IVec S16 32) a x).toNat < S32x129.size a := fun v4 v6172 k0_hw496 => k0_hw496

def k0_chk497 (v2 : IVec S16 32) (v6180 : IVec S16 32) : Prop :=
  (∀ a x, ((![v2, v6180] : Fin 2 → IVec S16 32) a x).toNat < S32x129.size a)
theorem k0_idx497_inb : ∀ (v2 : IVec S16 32) (v6180 : IVec S16 32) (k0_hw497 : k0_chk497 v2 v6180), ∀ a x, ((![v2, v6180] : Fin 2 → IVec S16 32) a x).toNat < S32x129.size a := fun v2 v6180 k0_hw497 => k0_hw497

def k0_chk498 (v4 : IVec S16 32) (v6188 : IVec S16 32) : Prop :=
  (∀ a x, ((![v4, v6188] : Fin 2 → IVec S16 32) a x).toNat < S32x129.size a)
theorem k0_idx498_inb : ∀ (v4 : IVec S16 32) (v6188 : IVec S16 32) (k0_hw498 : k0_chk498 v4 v6188), ∀ a x, ((![v4, v6188] : Fin 2 → IVec S16 32) a x).toNat < S32x129.size a := fun v4 v6188 k0_hw498 => k0_hw498

def k0_chk499 (v2 : IVec S16 32) (v6196 : IVec S16 32) : Prop :=
  (∀ a x, ((![v2, v6196] : Fin 2 → IVec S16 32) a x).toNat < S32x129.size a)
theorem k0_idx499_inb : ∀ (v2 : IVec S16 32) (v6196 : IVec S16 32) (k0_hw499 : k0_chk499 v2 v6196), ∀ a x, ((![v2, v6196] : Fin 2 → IVec S16 32) a x).toNat < S32x129.size a := fun v2 v6196 k0_hw499 => k0_hw499

def k0_chk500 (v4 : IVec S16 32) (v6204 : IVec S16 32) : Prop :=
  (∀ a x, ((![v4, v6204] : Fin 2 → IVec S16 32) a x).toNat < S32x129.size a)
theorem k0_idx500_inb : ∀ (v4 : IVec S16 32) (v6204 : IVec S16 32) (k0_hw500 : k0_chk500 v4 v6204), ∀ a x, ((![v4, v6204] : Fin 2 → IVec S16 32) a x).toNat < S32x129.size a := fun v4 v6204 k0_hw500 => k0_hw500

def k0_chk501 (v2 : IVec S16 32) (v6212 : IVec S16 32) : Prop :=
  (∀ a x, ((![v2, v6212] : Fin 2 → IVec S16 32) a x).toNat < S32x129.size a)
theorem k0_idx501_inb : ∀ (v2 : IVec S16 32) (v6212 : IVec S16 32) (k0_hw501 : k0_chk501 v2 v6212), ∀ a x, ((![v2, v6212] : Fin 2 → IVec S16 32) a x).toNat < S32x129.size a := fun v2 v6212 k0_hw501 => k0_hw501

def k0_chk502 (v4 : IVec S16 32) (v6220 : IVec S16 32) : Prop :=
  (∀ a x, ((![v4, v6220] : Fin 2 → IVec S16 32) a x).toNat < S32x129.size a)
theorem k0_idx502_inb : ∀ (v4 : IVec S16 32) (v6220 : IVec S16 32) (k0_hw502 : k0_chk502 v4 v6220), ∀ a x, ((![v4, v6220] : Fin 2 → IVec S16 32) a x).toNat < S32x129.size a := fun v4 v6220 k0_hw502 => k0_hw502

def k0_chk503 (v2 : IVec S16 32) (v6228 : IVec S16 32) : Prop :=
  (∀ a x, ((![v2, v6228] : Fin 2 → IVec S16 32) a x).toNat < S32x129.size a)
theorem k0_idx503_inb : ∀ (v2 : IVec S16 32) (v6228 : IVec S16 32) (k0_hw503 : k0_chk503 v2 v6228), ∀ a x, ((![v2, v6228] : Fin 2 → IVec S16 32) a x).toNat < S32x129.size a := fun v2 v6228 k0_hw503 => k0_hw503

def k0_chk504 (v4 : IVec S16 32) (v6236 : IVec S16 32) : Prop :=
  (∀ a x, ((![v4, v6236] : Fin 2 → IVec S16 32) a x).toNat < S32x129.size a)
theorem k0_idx504_inb : ∀ (v4 : IVec S16 32) (v6236 : IVec S16 32) (k0_hw504 : k0_chk504 v4 v6236), ∀ a x, ((![v4, v6236] : Fin 2 → IVec S16 32) a x).toNat < S32x129.size a := fun v4 v6236 k0_hw504 => k0_hw504

def k0_chk505 (v2 : IVec S16 32) (v6244 : IVec S16 32) : Prop :=
  (∀ a x, ((![v2, v6244] : Fin 2 → IVec S16 32) a x).toNat < S32x129.size a)
theorem k0_idx505_inb : ∀ (v2 : IVec S16 32) (v6244 : IVec S16 32) (k0_hw505 : k0_chk505 v2 v6244), ∀ a x, ((![v2, v6244] : Fin 2 → IVec S16 32) a x).toNat < S32x129.size a := fun v2 v6244 k0_hw505 => k0_hw505

def k0_chk506 (v4 : IVec S16 32) (v6252 : IVec S16 32) : Prop :=
  (∀ a x, ((![v4, v6252] : Fin 2 → IVec S16 32) a x).toNat < S32x129.size a)
theorem k0_idx506_inb : ∀ (v4 : IVec S16 32) (v6252 : IVec S16 32) (k0_hw506 : k0_chk506 v4 v6252), ∀ a x, ((![v4, v6252] : Fin 2 → IVec S16 32) a x).toNat < S32x129.size a := fun v4 v6252 k0_hw506 => k0_hw506

def k0_chk507 (v2 : IVec S16 32) (v6260 : IVec S16 32) : Prop :=
  (∀ a x, ((![v2, v6260] : Fin 2 → IVec S16 32) a x).toNat < S32x129.size a)
theorem k0_idx507_inb : ∀ (v2 : IVec S16 32) (v6260 : IVec S16 32) (k0_hw507 : k0_chk507 v2 v6260), ∀ a x, ((![v2, v6260] : Fin 2 → IVec S16 32) a x).toNat < S32x129.size a := fun v2 v6260 k0_hw507 => k0_hw507

def k0_chk508 (v4 : IVec S16 32) (v6268 : IVec S16 32) : Prop :=
  (∀ a x, ((![v4, v6268] : Fin 2 → IVec S16 32) a x).toNat < S32x129.size a)
theorem k0_idx508_inb : ∀ (v4 : IVec S16 32) (v6268 : IVec S16 32) (k0_hw508 : k0_chk508 v4 v6268), ∀ a x, ((![v4, v6268] : Fin 2 → IVec S16 32) a x).toNat < S32x129.size a := fun v4 v6268 k0_hw508 => k0_hw508

def k0_chk509 (v2 : IVec S16 32) (v6276 : IVec S16 32) : Prop :=
  (∀ a x, ((![v2, v6276] : Fin 2 → IVec S16 32) a x).toNat < S32x129.size a)
theorem k0_idx509_inb : ∀ (v2 : IVec S16 32) (v6276 : IVec S16 32) (k0_hw509 : k0_chk509 v2 v6276), ∀ a x, ((![v2, v6276] : Fin 2 → IVec S16 32) a x).toNat < S32x129.size a := fun v2 v6276 k0_hw509 => k0_hw509

def k0_chk510 (v4 : IVec S16 32) (v6284 : IVec S16 32) : Prop :=
  (∀ a x, ((![v4, v6284] : Fin 2 → IVec S16 32) a x).toNat < S32x129.size a)
theorem k0_idx510_inb : ∀ (v4 : IVec S16 32) (v6284 : IVec S16 32) (k0_hw510 : k0_chk510 v4 v6284), ∀ a x, ((![v4, v6284] : Fin 2 → IVec S16 32) a x).toNat < S32x129.size a := fun v4 v6284 k0_hw510 => k0_hw510

def k0_chk511 (v2 : IVec S16 32) (v6292 : IVec S16 32) : Prop :=
  (∀ a x, ((![v2, v6292] : Fin 2 → IVec S16 32) a x).toNat < S32x129.size a)
theorem k0_idx511_inb : ∀ (v2 : IVec S16 32) (v6292 : IVec S16 32) (k0_hw511 : k0_chk511 v2 v6292), ∀ a x, ((![v2, v6292] : Fin 2 → IVec S16 32) a x).toNat < S32x129.size a := fun v2 v6292 k0_hw511 => k0_hw511

def k0_chk512 (v4 : IVec S16 32) (v6300 : IVec S16 32) : Prop :=
  (∀ a x, ((![v4, v6300] : Fin 2 → IVec S16 32) a x).toNat < S32x129.size a)
theorem k0_idx512_inb : ∀ (v4 : IVec S16 32) (v6300 : IVec S16 32) (k0_hw512 : k0_chk512 v4 v6300), ∀ a x, ((![v4, v6300] : Fin 2 → IVec S16 32) a x).toNat < S32x129.size a := fun v4 v6300 k0_hw512 => k0_hw512
def k0_off132 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3447 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let v4017 : BitVec 32 := Scalar.muli c32_i32_3447 v4016
  let v4018 : BitVec 32 := Scalar.addi v1 v4017
  let c20305_i32_3448 : BitVec 32 := 20305#32
  let v4019 : BitVec 32 := Scalar.minsi v4018 c20305_i32_3448
  let c0_i32_3450 : BitVec 32 := 0#32
  let v4021 : BitVec 1 := Scalar.cmpi .sgt v4019 c0_i32_3450
  let v4022 : BitVec 32 := Scalar.extui v4021
  let c0_i32_3451 : BitVec 32 := 0#32
  let v4023 : BitVec 1 := Scalar.cmpi .slt v4019 c0_i32_3451
  let v4024 : BitVec 32 := Scalar.extui v4023
  let v4025 : BitVec 32 := Scalar.subi v4022 v4024
  let c781_i32_3449 : BitVec 32 := 781#32
  let c0_i32_3452 : BitVec 32 := 0#32
  let v4026 : BitVec 1 := Scalar.cmpi .sgt c781_i32_3449 c0_i32_3452
  let v4027 : BitVec 32 := Scalar.extui v4026
  let c0_i32_3453 : BitVec 32 := 0#32
  let v4028 : BitVec 1 := Scalar.cmpi .slt c781_i32_3449 c0_i32_3453
  let v4029 : BitVec 32 := Scalar.extui v4028
  let v4030 : BitVec 32 := Scalar.subi v4027 v4029
  let v4031 : BitVec 1 := Scalar.cmpi .ne v4025 v4030
  let v4032 : BitVec 32 := Scalar.remsi v4019 c781_i32_3449
  let c0_i32_3454 : BitVec 32 := 0#32
  let v4033 : BitVec 1 := Scalar.cmpi .ne v4032 c0_i32_3454
  let v4034 : BitVec 1 := Scalar.andi v4031 v4033
  let v4020 : BitVec 32 := Scalar.divsi v4019 c781_i32_3449
  let c1_i32_3455 : BitVec 32 := 1#32
  let v4035 : BitVec 32 := Scalar.subi v4020 c1_i32_3455
  let v4036 : BitVec 32 := Scalar.select v4034 v4035 v4020
  let c32_i32_5965 : BitVec 32 := 32#32
  let c781_i32_3456 : BitVec 32 := 781#32
  let v4037 : BitVec 32 := Scalar.muli v4036 c781_i32_3456
  let v4038 : BitVec 32 := Scalar.subi v4019 v4037
  let v6400 : BitVec 32 := Scalar.muli c32_i32_5965 v4038
  let c0_i32_5969 : BitVec 32 := 0#32
  ![v4036.toNat, v6400.toNat, 0]
def k0_off133 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c0_i32_6016 : BitVec 32 := 0#32
  let c781_i32_5983 : BitVec 32 := 781#32
  let v6430 : BitVec 32 := Scalar.muli v6429 c781_i32_5983
  let v6431 : BitVec 32 := Scalar.subi v6412 v6430
  let c128_i32_5984 : BitVec 32 := 128#32
  let v6432 : BitVec 32 := Scalar.muli v6431 c128_i32_5984
  ![v6429.toNat, 0, v6432.toNat]
def k0_off134 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c1_i32_6021 : BitVec 32 := 1#32
  let c781_i32_5983 : BitVec 32 := 781#32
  let v6430 : BitVec 32 := Scalar.muli v6429 c781_i32_5983
  let v6431 : BitVec 32 := Scalar.subi v6412 v6430
  let c128_i32_5985 : BitVec 32 := 128#32
  let v6433 : BitVec 32 := Scalar.muli v6431 c128_i32_5985
  ![v6429.toNat, 1, v6433.toNat]
def k0_off135 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c2_i32_6026 : BitVec 32 := 2#32
  let c781_i32_5983 : BitVec 32 := 781#32
  let v6430 : BitVec 32 := Scalar.muli v6429 c781_i32_5983
  let v6431 : BitVec 32 := Scalar.subi v6412 v6430
  let c128_i32_5986 : BitVec 32 := 128#32
  let v6434 : BitVec 32 := Scalar.muli v6431 c128_i32_5986
  ![v6429.toNat, 2, v6434.toNat]
def k0_off136 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c3_i32_6031 : BitVec 32 := 3#32
  let c781_i32_5983 : BitVec 32 := 781#32
  let v6430 : BitVec 32 := Scalar.muli v6429 c781_i32_5983
  let v6431 : BitVec 32 := Scalar.subi v6412 v6430
  let c128_i32_5987 : BitVec 32 := 128#32
  let v6435 : BitVec 32 := Scalar.muli v6431 c128_i32_5987
  ![v6429.toNat, 3, v6435.toNat]
def k0_off137 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c4_i32_6036 : BitVec 32 := 4#32
  let c781_i32_5983 : BitVec 32 := 781#32
  let v6430 : BitVec 32 := Scalar.muli v6429 c781_i32_5983
  let v6431 : BitVec 32 := Scalar.subi v6412 v6430
  let c128_i32_5988 : BitVec 32 := 128#32
  let v6436 : BitVec 32 := Scalar.muli v6431 c128_i32_5988
  ![v6429.toNat, 4, v6436.toNat]
def k0_off138 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c5_i32_6041 : BitVec 32 := 5#32
  let c781_i32_5983 : BitVec 32 := 781#32
  let v6430 : BitVec 32 := Scalar.muli v6429 c781_i32_5983
  let v6431 : BitVec 32 := Scalar.subi v6412 v6430
  let c128_i32_5989 : BitVec 32 := 128#32
  let v6437 : BitVec 32 := Scalar.muli v6431 c128_i32_5989
  ![v6429.toNat, 5, v6437.toNat]
def k0_off139 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c6_i32_6046 : BitVec 32 := 6#32
  let c781_i32_5983 : BitVec 32 := 781#32
  let v6430 : BitVec 32 := Scalar.muli v6429 c781_i32_5983
  let v6431 : BitVec 32 := Scalar.subi v6412 v6430
  let c128_i32_5990 : BitVec 32 := 128#32
  let v6438 : BitVec 32 := Scalar.muli v6431 c128_i32_5990
  ![v6429.toNat, 6, v6438.toNat]
def k0_off140 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c7_i32_6051 : BitVec 32 := 7#32
  let c781_i32_5983 : BitVec 32 := 781#32
  let v6430 : BitVec 32 := Scalar.muli v6429 c781_i32_5983
  let v6431 : BitVec 32 := Scalar.subi v6412 v6430
  let c128_i32_5991 : BitVec 32 := 128#32
  let v6439 : BitVec 32 := Scalar.muli v6431 c128_i32_5991
  ![v6429.toNat, 7, v6439.toNat]
def k0_off141 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c8_i32_6056 : BitVec 32 := 8#32
  let c781_i32_5983 : BitVec 32 := 781#32
  let v6430 : BitVec 32 := Scalar.muli v6429 c781_i32_5983
  let v6431 : BitVec 32 := Scalar.subi v6412 v6430
  let c128_i32_5992 : BitVec 32 := 128#32
  let v6440 : BitVec 32 := Scalar.muli v6431 c128_i32_5992
  ![v6429.toNat, 8, v6440.toNat]
def k0_off142 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c9_i32_6061 : BitVec 32 := 9#32
  let c781_i32_5983 : BitVec 32 := 781#32
  let v6430 : BitVec 32 := Scalar.muli v6429 c781_i32_5983
  let v6431 : BitVec 32 := Scalar.subi v6412 v6430
  let c128_i32_5993 : BitVec 32 := 128#32
  let v6441 : BitVec 32 := Scalar.muli v6431 c128_i32_5993
  ![v6429.toNat, 9, v6441.toNat]
def k0_off143 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c10_i32_6066 : BitVec 32 := 10#32
  let c781_i32_5983 : BitVec 32 := 781#32
  let v6430 : BitVec 32 := Scalar.muli v6429 c781_i32_5983
  let v6431 : BitVec 32 := Scalar.subi v6412 v6430
  let c128_i32_5994 : BitVec 32 := 128#32
  let v6442 : BitVec 32 := Scalar.muli v6431 c128_i32_5994
  ![v6429.toNat, 10, v6442.toNat]
def k0_off144 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c11_i32_6071 : BitVec 32 := 11#32
  let c781_i32_5983 : BitVec 32 := 781#32
  let v6430 : BitVec 32 := Scalar.muli v6429 c781_i32_5983
  let v6431 : BitVec 32 := Scalar.subi v6412 v6430
  let c128_i32_5995 : BitVec 32 := 128#32
  let v6443 : BitVec 32 := Scalar.muli v6431 c128_i32_5995
  ![v6429.toNat, 11, v6443.toNat]
def k0_off145 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c12_i32_6076 : BitVec 32 := 12#32
  let c781_i32_5983 : BitVec 32 := 781#32
  let v6430 : BitVec 32 := Scalar.muli v6429 c781_i32_5983
  let v6431 : BitVec 32 := Scalar.subi v6412 v6430
  let c128_i32_5996 : BitVec 32 := 128#32
  let v6444 : BitVec 32 := Scalar.muli v6431 c128_i32_5996
  ![v6429.toNat, 12, v6444.toNat]
def k0_off146 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c13_i32_6081 : BitVec 32 := 13#32
  let c781_i32_5983 : BitVec 32 := 781#32
  let v6430 : BitVec 32 := Scalar.muli v6429 c781_i32_5983
  let v6431 : BitVec 32 := Scalar.subi v6412 v6430
  let c128_i32_5997 : BitVec 32 := 128#32
  let v6445 : BitVec 32 := Scalar.muli v6431 c128_i32_5997
  ![v6429.toNat, 13, v6445.toNat]
def k0_off147 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c14_i32_6086 : BitVec 32 := 14#32
  let c781_i32_5983 : BitVec 32 := 781#32
  let v6430 : BitVec 32 := Scalar.muli v6429 c781_i32_5983
  let v6431 : BitVec 32 := Scalar.subi v6412 v6430
  let c128_i32_5998 : BitVec 32 := 128#32
  let v6446 : BitVec 32 := Scalar.muli v6431 c128_i32_5998
  ![v6429.toNat, 14, v6446.toNat]
def k0_off148 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c15_i32_6091 : BitVec 32 := 15#32
  let c781_i32_5983 : BitVec 32 := 781#32
  let v6430 : BitVec 32 := Scalar.muli v6429 c781_i32_5983
  let v6431 : BitVec 32 := Scalar.subi v6412 v6430
  let c128_i32_5999 : BitVec 32 := 128#32
  let v6447 : BitVec 32 := Scalar.muli v6431 c128_i32_5999
  ![v6429.toNat, 15, v6447.toNat]
def k0_off149 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c16_i32_6096 : BitVec 32 := 16#32
  let c781_i32_5983 : BitVec 32 := 781#32
  let v6430 : BitVec 32 := Scalar.muli v6429 c781_i32_5983
  let v6431 : BitVec 32 := Scalar.subi v6412 v6430
  let c128_i32_6000 : BitVec 32 := 128#32
  let v6448 : BitVec 32 := Scalar.muli v6431 c128_i32_6000
  ![v6429.toNat, 16, v6448.toNat]
def k0_off150 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c17_i32_6101 : BitVec 32 := 17#32
  let c781_i32_5983 : BitVec 32 := 781#32
  let v6430 : BitVec 32 := Scalar.muli v6429 c781_i32_5983
  let v6431 : BitVec 32 := Scalar.subi v6412 v6430
  let c128_i32_6001 : BitVec 32 := 128#32
  let v6449 : BitVec 32 := Scalar.muli v6431 c128_i32_6001
  ![v6429.toNat, 17, v6449.toNat]
def k0_off151 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c18_i32_6106 : BitVec 32 := 18#32
  let c781_i32_5983 : BitVec 32 := 781#32
  let v6430 : BitVec 32 := Scalar.muli v6429 c781_i32_5983
  let v6431 : BitVec 32 := Scalar.subi v6412 v6430
  let c128_i32_6002 : BitVec 32 := 128#32
  let v6450 : BitVec 32 := Scalar.muli v6431 c128_i32_6002
  ![v6429.toNat, 18, v6450.toNat]
def k0_off152 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c19_i32_6111 : BitVec 32 := 19#32
  let c781_i32_5983 : BitVec 32 := 781#32
  let v6430 : BitVec 32 := Scalar.muli v6429 c781_i32_5983
  let v6431 : BitVec 32 := Scalar.subi v6412 v6430
  let c128_i32_6003 : BitVec 32 := 128#32
  let v6451 : BitVec 32 := Scalar.muli v6431 c128_i32_6003
  ![v6429.toNat, 19, v6451.toNat]
def k0_off153 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c20_i32_6116 : BitVec 32 := 20#32
  let c781_i32_5983 : BitVec 32 := 781#32
  let v6430 : BitVec 32 := Scalar.muli v6429 c781_i32_5983
  let v6431 : BitVec 32 := Scalar.subi v6412 v6430
  let c128_i32_6004 : BitVec 32 := 128#32
  let v6452 : BitVec 32 := Scalar.muli v6431 c128_i32_6004
  ![v6429.toNat, 20, v6452.toNat]
def k0_off154 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c21_i32_6121 : BitVec 32 := 21#32
  let c781_i32_5983 : BitVec 32 := 781#32
  let v6430 : BitVec 32 := Scalar.muli v6429 c781_i32_5983
  let v6431 : BitVec 32 := Scalar.subi v6412 v6430
  let c128_i32_6005 : BitVec 32 := 128#32
  let v6453 : BitVec 32 := Scalar.muli v6431 c128_i32_6005
  ![v6429.toNat, 21, v6453.toNat]
def k0_off155 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c22_i32_6126 : BitVec 32 := 22#32
  let c781_i32_5983 : BitVec 32 := 781#32
  let v6430 : BitVec 32 := Scalar.muli v6429 c781_i32_5983
  let v6431 : BitVec 32 := Scalar.subi v6412 v6430
  let c128_i32_6006 : BitVec 32 := 128#32
  let v6454 : BitVec 32 := Scalar.muli v6431 c128_i32_6006
  ![v6429.toNat, 22, v6454.toNat]
def k0_off156 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c23_i32_6131 : BitVec 32 := 23#32
  let c781_i32_5983 : BitVec 32 := 781#32
  let v6430 : BitVec 32 := Scalar.muli v6429 c781_i32_5983
  let v6431 : BitVec 32 := Scalar.subi v6412 v6430
  let c128_i32_6007 : BitVec 32 := 128#32
  let v6455 : BitVec 32 := Scalar.muli v6431 c128_i32_6007
  ![v6429.toNat, 23, v6455.toNat]
def k0_off157 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c24_i32_6136 : BitVec 32 := 24#32
  let c781_i32_5983 : BitVec 32 := 781#32
  let v6430 : BitVec 32 := Scalar.muli v6429 c781_i32_5983
  let v6431 : BitVec 32 := Scalar.subi v6412 v6430
  let c128_i32_6008 : BitVec 32 := 128#32
  let v6456 : BitVec 32 := Scalar.muli v6431 c128_i32_6008
  ![v6429.toNat, 24, v6456.toNat]
def k0_off158 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c25_i32_6141 : BitVec 32 := 25#32
  let c781_i32_5983 : BitVec 32 := 781#32
  let v6430 : BitVec 32 := Scalar.muli v6429 c781_i32_5983
  let v6431 : BitVec 32 := Scalar.subi v6412 v6430
  let c128_i32_6009 : BitVec 32 := 128#32
  let v6457 : BitVec 32 := Scalar.muli v6431 c128_i32_6009
  ![v6429.toNat, 25, v6457.toNat]
def k0_off159 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c26_i32_6146 : BitVec 32 := 26#32
  let c781_i32_5983 : BitVec 32 := 781#32
  let v6430 : BitVec 32 := Scalar.muli v6429 c781_i32_5983
  let v6431 : BitVec 32 := Scalar.subi v6412 v6430
  let c128_i32_6010 : BitVec 32 := 128#32
  let v6458 : BitVec 32 := Scalar.muli v6431 c128_i32_6010
  ![v6429.toNat, 26, v6458.toNat]
def k0_off160 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c27_i32_6151 : BitVec 32 := 27#32
  let c781_i32_5983 : BitVec 32 := 781#32
  let v6430 : BitVec 32 := Scalar.muli v6429 c781_i32_5983
  let v6431 : BitVec 32 := Scalar.subi v6412 v6430
  let c128_i32_6011 : BitVec 32 := 128#32
  let v6459 : BitVec 32 := Scalar.muli v6431 c128_i32_6011
  ![v6429.toNat, 27, v6459.toNat]
def k0_off161 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c28_i32_6156 : BitVec 32 := 28#32
  let c781_i32_5983 : BitVec 32 := 781#32
  let v6430 : BitVec 32 := Scalar.muli v6429 c781_i32_5983
  let v6431 : BitVec 32 := Scalar.subi v6412 v6430
  let c128_i32_6012 : BitVec 32 := 128#32
  let v6460 : BitVec 32 := Scalar.muli v6431 c128_i32_6012
  ![v6429.toNat, 28, v6460.toNat]
def k0_off162 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c29_i32_6161 : BitVec 32 := 29#32
  let c781_i32_5983 : BitVec 32 := 781#32
  let v6430 : BitVec 32 := Scalar.muli v6429 c781_i32_5983
  let v6431 : BitVec 32 := Scalar.subi v6412 v6430
  let c128_i32_6013 : BitVec 32 := 128#32
  let v6461 : BitVec 32 := Scalar.muli v6431 c128_i32_6013
  ![v6429.toNat, 29, v6461.toNat]
def k0_off163 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c30_i32_6166 : BitVec 32 := 30#32
  let c781_i32_5983 : BitVec 32 := 781#32
  let v6430 : BitVec 32 := Scalar.muli v6429 c781_i32_5983
  let v6431 : BitVec 32 := Scalar.subi v6412 v6430
  let c128_i32_6014 : BitVec 32 := 128#32
  let v6462 : BitVec 32 := Scalar.muli v6431 c128_i32_6014
  ![v6429.toNat, 30, v6462.toNat]
def k0_off164 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_5974 : BitVec 32 := 32#32
  let c2_i32_818 : BitVec 32 := 2#32
  let c0_i32_373 : BitVec 32 := 0#32
  let c1_i32_374 : BitVec 32 := 1#32
  let arg11 : BitVec 32 := Scf.iv c0_i32_373 c1_i32_374 k0_t1
  let v1311 : BitVec 32 := Scalar.muli c2_i32_818 arg11
  let c1_i32_3446 : BitVec 32 := 1#32
  let v4016 : BitVec 32 := Scalar.addi v1311 c1_i32_3446
  let c2_i32_5973 : BitVec 32 := 2#32
  let v6409 : BitVec 32 := Scalar.addi v4016 c2_i32_5973
  let v6410 : BitVec 32 := Scalar.muli c32_i32_5974 v6409
  let v6411 : BitVec 32 := Scalar.addi v1 v6410
  let c20305_i32_5975 : BitVec 32 := 20305#32
  let v6412 : BitVec 32 := Scalar.minsi v6411 c20305_i32_5975
  let c0_i32_5977 : BitVec 32 := 0#32
  let v6414 : BitVec 1 := Scalar.cmpi .sgt v6412 c0_i32_5977
  let v6415 : BitVec 32 := Scalar.extui v6414
  let c0_i32_5978 : BitVec 32 := 0#32
  let v6416 : BitVec 1 := Scalar.cmpi .slt v6412 c0_i32_5978
  let v6417 : BitVec 32 := Scalar.extui v6416
  let v6418 : BitVec 32 := Scalar.subi v6415 v6417
  let c781_i32_5976 : BitVec 32 := 781#32
  let c0_i32_5979 : BitVec 32 := 0#32
  let v6419 : BitVec 1 := Scalar.cmpi .sgt c781_i32_5976 c0_i32_5979
  let v6420 : BitVec 32 := Scalar.extui v6419
  let c0_i32_5980 : BitVec 32 := 0#32
  let v6421 : BitVec 1 := Scalar.cmpi .slt c781_i32_5976 c0_i32_5980
  let v6422 : BitVec 32 := Scalar.extui v6421
  let v6423 : BitVec 32 := Scalar.subi v6420 v6422
  let v6424 : BitVec 1 := Scalar.cmpi .ne v6418 v6423
  let v6425 : BitVec 32 := Scalar.remsi v6412 c781_i32_5976
  let c0_i32_5981 : BitVec 32 := 0#32
  let v6426 : BitVec 1 := Scalar.cmpi .ne v6425 c0_i32_5981
  let v6427 : BitVec 1 := Scalar.andi v6424 v6426
  let v6413 : BitVec 32 := Scalar.divsi v6412 c781_i32_5976
  let c1_i32_5982 : BitVec 32 := 1#32
  let v6428 : BitVec 32 := Scalar.subi v6413 c1_i32_5982
  let v6429 : BitVec 32 := Scalar.select v6427 v6428 v6413
  let c31_i32_6171 : BitVec 32 := 31#32
  let c781_i32_5983 : BitVec 32 := 781#32
  let v6430 : BitVec 32 := Scalar.muli v6429 c781_i32_5983
  let v6431 : BitVec 32 := Scalar.subi v6412 v6430
  let c128_i32_6015 : BitVec 32 := 128#32
  let v6463 : BitVec 32 := Scalar.muli v6431 c128_i32_6015
  ![v6429.toNat, 31, v6463.toNat]
def k0_off165 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c0_i32_418 : BitVec 32 := 0#32
  let c781_i32_385 : BitVec 32 := 781#32
  let v646 : BitVec 32 := Scalar.muli v645 c781_i32_385
  let v647 : BitVec 32 := Scalar.subi v628 v646
  let c128_i32_386 : BitVec 32 := 128#32
  let v648 : BitVec 32 := Scalar.muli v647 c128_i32_386
  ![v645.toNat, 0, v648.toNat]
def k0_off166 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c1_i32_423 : BitVec 32 := 1#32
  let c781_i32_385 : BitVec 32 := 781#32
  let v646 : BitVec 32 := Scalar.muli v645 c781_i32_385
  let v647 : BitVec 32 := Scalar.subi v628 v646
  let c128_i32_387 : BitVec 32 := 128#32
  let v649 : BitVec 32 := Scalar.muli v647 c128_i32_387
  ![v645.toNat, 1, v649.toNat]
def k0_off167 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c2_i32_428 : BitVec 32 := 2#32
  let c781_i32_385 : BitVec 32 := 781#32
  let v646 : BitVec 32 := Scalar.muli v645 c781_i32_385
  let v647 : BitVec 32 := Scalar.subi v628 v646
  let c128_i32_388 : BitVec 32 := 128#32
  let v650 : BitVec 32 := Scalar.muli v647 c128_i32_388
  ![v645.toNat, 2, v650.toNat]
def k0_off168 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c3_i32_433 : BitVec 32 := 3#32
  let c781_i32_385 : BitVec 32 := 781#32
  let v646 : BitVec 32 := Scalar.muli v645 c781_i32_385
  let v647 : BitVec 32 := Scalar.subi v628 v646
  let c128_i32_389 : BitVec 32 := 128#32
  let v651 : BitVec 32 := Scalar.muli v647 c128_i32_389
  ![v645.toNat, 3, v651.toNat]
def k0_off169 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c4_i32_438 : BitVec 32 := 4#32
  let c781_i32_385 : BitVec 32 := 781#32
  let v646 : BitVec 32 := Scalar.muli v645 c781_i32_385
  let v647 : BitVec 32 := Scalar.subi v628 v646
  let c128_i32_390 : BitVec 32 := 128#32
  let v652 : BitVec 32 := Scalar.muli v647 c128_i32_390
  ![v645.toNat, 4, v652.toNat]
def k0_off170 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c5_i32_443 : BitVec 32 := 5#32
  let c781_i32_385 : BitVec 32 := 781#32
  let v646 : BitVec 32 := Scalar.muli v645 c781_i32_385
  let v647 : BitVec 32 := Scalar.subi v628 v646
  let c128_i32_391 : BitVec 32 := 128#32
  let v653 : BitVec 32 := Scalar.muli v647 c128_i32_391
  ![v645.toNat, 5, v653.toNat]
def k0_off171 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c6_i32_448 : BitVec 32 := 6#32
  let c781_i32_385 : BitVec 32 := 781#32
  let v646 : BitVec 32 := Scalar.muli v645 c781_i32_385
  let v647 : BitVec 32 := Scalar.subi v628 v646
  let c128_i32_392 : BitVec 32 := 128#32
  let v654 : BitVec 32 := Scalar.muli v647 c128_i32_392
  ![v645.toNat, 6, v654.toNat]
def k0_off172 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c7_i32_453 : BitVec 32 := 7#32
  let c781_i32_385 : BitVec 32 := 781#32
  let v646 : BitVec 32 := Scalar.muli v645 c781_i32_385
  let v647 : BitVec 32 := Scalar.subi v628 v646
  let c128_i32_393 : BitVec 32 := 128#32
  let v655 : BitVec 32 := Scalar.muli v647 c128_i32_393
  ![v645.toNat, 7, v655.toNat]
def k0_off173 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c8_i32_458 : BitVec 32 := 8#32
  let c781_i32_385 : BitVec 32 := 781#32
  let v646 : BitVec 32 := Scalar.muli v645 c781_i32_385
  let v647 : BitVec 32 := Scalar.subi v628 v646
  let c128_i32_394 : BitVec 32 := 128#32
  let v656 : BitVec 32 := Scalar.muli v647 c128_i32_394
  ![v645.toNat, 8, v656.toNat]
def k0_off174 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c9_i32_463 : BitVec 32 := 9#32
  let c781_i32_385 : BitVec 32 := 781#32
  let v646 : BitVec 32 := Scalar.muli v645 c781_i32_385
  let v647 : BitVec 32 := Scalar.subi v628 v646
  let c128_i32_395 : BitVec 32 := 128#32
  let v657 : BitVec 32 := Scalar.muli v647 c128_i32_395
  ![v645.toNat, 9, v657.toNat]
def k0_off175 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c10_i32_468 : BitVec 32 := 10#32
  let c781_i32_385 : BitVec 32 := 781#32
  let v646 : BitVec 32 := Scalar.muli v645 c781_i32_385
  let v647 : BitVec 32 := Scalar.subi v628 v646
  let c128_i32_396 : BitVec 32 := 128#32
  let v658 : BitVec 32 := Scalar.muli v647 c128_i32_396
  ![v645.toNat, 10, v658.toNat]
def k0_off176 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c11_i32_473 : BitVec 32 := 11#32
  let c781_i32_385 : BitVec 32 := 781#32
  let v646 : BitVec 32 := Scalar.muli v645 c781_i32_385
  let v647 : BitVec 32 := Scalar.subi v628 v646
  let c128_i32_397 : BitVec 32 := 128#32
  let v659 : BitVec 32 := Scalar.muli v647 c128_i32_397
  ![v645.toNat, 11, v659.toNat]
def k0_off177 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c12_i32_478 : BitVec 32 := 12#32
  let c781_i32_385 : BitVec 32 := 781#32
  let v646 : BitVec 32 := Scalar.muli v645 c781_i32_385
  let v647 : BitVec 32 := Scalar.subi v628 v646
  let c128_i32_398 : BitVec 32 := 128#32
  let v660 : BitVec 32 := Scalar.muli v647 c128_i32_398
  ![v645.toNat, 12, v660.toNat]
def k0_off178 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c13_i32_483 : BitVec 32 := 13#32
  let c781_i32_385 : BitVec 32 := 781#32
  let v646 : BitVec 32 := Scalar.muli v645 c781_i32_385
  let v647 : BitVec 32 := Scalar.subi v628 v646
  let c128_i32_399 : BitVec 32 := 128#32
  let v661 : BitVec 32 := Scalar.muli v647 c128_i32_399
  ![v645.toNat, 13, v661.toNat]
def k0_off179 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c14_i32_488 : BitVec 32 := 14#32
  let c781_i32_385 : BitVec 32 := 781#32
  let v646 : BitVec 32 := Scalar.muli v645 c781_i32_385
  let v647 : BitVec 32 := Scalar.subi v628 v646
  let c128_i32_400 : BitVec 32 := 128#32
  let v662 : BitVec 32 := Scalar.muli v647 c128_i32_400
  ![v645.toNat, 14, v662.toNat]
def k0_off180 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c15_i32_493 : BitVec 32 := 15#32
  let c781_i32_385 : BitVec 32 := 781#32
  let v646 : BitVec 32 := Scalar.muli v645 c781_i32_385
  let v647 : BitVec 32 := Scalar.subi v628 v646
  let c128_i32_401 : BitVec 32 := 128#32
  let v663 : BitVec 32 := Scalar.muli v647 c128_i32_401
  ![v645.toNat, 15, v663.toNat]
def k0_off181 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c16_i32_498 : BitVec 32 := 16#32
  let c781_i32_385 : BitVec 32 := 781#32
  let v646 : BitVec 32 := Scalar.muli v645 c781_i32_385
  let v647 : BitVec 32 := Scalar.subi v628 v646
  let c128_i32_402 : BitVec 32 := 128#32
  let v664 : BitVec 32 := Scalar.muli v647 c128_i32_402
  ![v645.toNat, 16, v664.toNat]
def k0_off182 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c17_i32_503 : BitVec 32 := 17#32
  let c781_i32_385 : BitVec 32 := 781#32
  let v646 : BitVec 32 := Scalar.muli v645 c781_i32_385
  let v647 : BitVec 32 := Scalar.subi v628 v646
  let c128_i32_403 : BitVec 32 := 128#32
  let v665 : BitVec 32 := Scalar.muli v647 c128_i32_403
  ![v645.toNat, 17, v665.toNat]
def k0_off183 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c18_i32_508 : BitVec 32 := 18#32
  let c781_i32_385 : BitVec 32 := 781#32
  let v646 : BitVec 32 := Scalar.muli v645 c781_i32_385
  let v647 : BitVec 32 := Scalar.subi v628 v646
  let c128_i32_404 : BitVec 32 := 128#32
  let v666 : BitVec 32 := Scalar.muli v647 c128_i32_404
  ![v645.toNat, 18, v666.toNat]
def k0_off184 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c19_i32_513 : BitVec 32 := 19#32
  let c781_i32_385 : BitVec 32 := 781#32
  let v646 : BitVec 32 := Scalar.muli v645 c781_i32_385
  let v647 : BitVec 32 := Scalar.subi v628 v646
  let c128_i32_405 : BitVec 32 := 128#32
  let v667 : BitVec 32 := Scalar.muli v647 c128_i32_405
  ![v645.toNat, 19, v667.toNat]
def k0_off185 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c20_i32_518 : BitVec 32 := 20#32
  let c781_i32_385 : BitVec 32 := 781#32
  let v646 : BitVec 32 := Scalar.muli v645 c781_i32_385
  let v647 : BitVec 32 := Scalar.subi v628 v646
  let c128_i32_406 : BitVec 32 := 128#32
  let v668 : BitVec 32 := Scalar.muli v647 c128_i32_406
  ![v645.toNat, 20, v668.toNat]
def k0_off186 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c21_i32_523 : BitVec 32 := 21#32
  let c781_i32_385 : BitVec 32 := 781#32
  let v646 : BitVec 32 := Scalar.muli v645 c781_i32_385
  let v647 : BitVec 32 := Scalar.subi v628 v646
  let c128_i32_407 : BitVec 32 := 128#32
  let v669 : BitVec 32 := Scalar.muli v647 c128_i32_407
  ![v645.toNat, 21, v669.toNat]
def k0_off187 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c22_i32_528 : BitVec 32 := 22#32
  let c781_i32_385 : BitVec 32 := 781#32
  let v646 : BitVec 32 := Scalar.muli v645 c781_i32_385
  let v647 : BitVec 32 := Scalar.subi v628 v646
  let c128_i32_408 : BitVec 32 := 128#32
  let v670 : BitVec 32 := Scalar.muli v647 c128_i32_408
  ![v645.toNat, 22, v670.toNat]
def k0_off188 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c23_i32_533 : BitVec 32 := 23#32
  let c781_i32_385 : BitVec 32 := 781#32
  let v646 : BitVec 32 := Scalar.muli v645 c781_i32_385
  let v647 : BitVec 32 := Scalar.subi v628 v646
  let c128_i32_409 : BitVec 32 := 128#32
  let v671 : BitVec 32 := Scalar.muli v647 c128_i32_409
  ![v645.toNat, 23, v671.toNat]
def k0_off189 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c24_i32_538 : BitVec 32 := 24#32
  let c781_i32_385 : BitVec 32 := 781#32
  let v646 : BitVec 32 := Scalar.muli v645 c781_i32_385
  let v647 : BitVec 32 := Scalar.subi v628 v646
  let c128_i32_410 : BitVec 32 := 128#32
  let v672 : BitVec 32 := Scalar.muli v647 c128_i32_410
  ![v645.toNat, 24, v672.toNat]
def k0_off190 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c25_i32_543 : BitVec 32 := 25#32
  let c781_i32_385 : BitVec 32 := 781#32
  let v646 : BitVec 32 := Scalar.muli v645 c781_i32_385
  let v647 : BitVec 32 := Scalar.subi v628 v646
  let c128_i32_411 : BitVec 32 := 128#32
  let v673 : BitVec 32 := Scalar.muli v647 c128_i32_411
  ![v645.toNat, 25, v673.toNat]
def k0_off191 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c26_i32_548 : BitVec 32 := 26#32
  let c781_i32_385 : BitVec 32 := 781#32
  let v646 : BitVec 32 := Scalar.muli v645 c781_i32_385
  let v647 : BitVec 32 := Scalar.subi v628 v646
  let c128_i32_412 : BitVec 32 := 128#32
  let v674 : BitVec 32 := Scalar.muli v647 c128_i32_412
  ![v645.toNat, 26, v674.toNat]
def k0_off192 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c27_i32_553 : BitVec 32 := 27#32
  let c781_i32_385 : BitVec 32 := 781#32
  let v646 : BitVec 32 := Scalar.muli v645 c781_i32_385
  let v647 : BitVec 32 := Scalar.subi v628 v646
  let c128_i32_413 : BitVec 32 := 128#32
  let v675 : BitVec 32 := Scalar.muli v647 c128_i32_413
  ![v645.toNat, 27, v675.toNat]
def k0_off193 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c28_i32_558 : BitVec 32 := 28#32
  let c781_i32_385 : BitVec 32 := 781#32
  let v646 : BitVec 32 := Scalar.muli v645 c781_i32_385
  let v647 : BitVec 32 := Scalar.subi v628 v646
  let c128_i32_414 : BitVec 32 := 128#32
  let v676 : BitVec 32 := Scalar.muli v647 c128_i32_414
  ![v645.toNat, 28, v676.toNat]
def k0_off194 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c29_i32_563 : BitVec 32 := 29#32
  let c781_i32_385 : BitVec 32 := 781#32
  let v646 : BitVec 32 := Scalar.muli v645 c781_i32_385
  let v647 : BitVec 32 := Scalar.subi v628 v646
  let c128_i32_415 : BitVec 32 := 128#32
  let v677 : BitVec 32 := Scalar.muli v647 c128_i32_415
  ![v645.toNat, 29, v677.toNat]
def k0_off195 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c30_i32_568 : BitVec 32 := 30#32
  let c781_i32_385 : BitVec 32 := 781#32
  let v646 : BitVec 32 := Scalar.muli v645 c781_i32_385
  let v647 : BitVec 32 := Scalar.subi v628 v646
  let c128_i32_416 : BitVec 32 := 128#32
  let v678 : BitVec 32 := Scalar.muli v647 c128_i32_416
  ![v645.toNat, 30, v678.toNat]
def k0_off196 (i : grid0.Coords) (c636_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_376 : BitVec 32 := 32#32
  let v626 : BitVec 32 := Scalar.muli c32_i32_376 c636_i32
  let v627 : BitVec 32 := Scalar.addi v1 v626
  let c20305_i32_377 : BitVec 32 := 20305#32
  let v628 : BitVec 32 := Scalar.minsi v627 c20305_i32_377
  let c0_i32_379 : BitVec 32 := 0#32
  let v630 : BitVec 1 := Scalar.cmpi .sgt v628 c0_i32_379
  let v631 : BitVec 32 := Scalar.extui v630
  let c0_i32_380 : BitVec 32 := 0#32
  let v632 : BitVec 1 := Scalar.cmpi .slt v628 c0_i32_380
  let v633 : BitVec 32 := Scalar.extui v632
  let v634 : BitVec 32 := Scalar.subi v631 v633
  let c781_i32_378 : BitVec 32 := 781#32
  let c0_i32_381 : BitVec 32 := 0#32
  let v635 : BitVec 1 := Scalar.cmpi .sgt c781_i32_378 c0_i32_381
  let v636 : BitVec 32 := Scalar.extui v635
  let c0_i32_382 : BitVec 32 := 0#32
  let v637 : BitVec 1 := Scalar.cmpi .slt c781_i32_378 c0_i32_382
  let v638 : BitVec 32 := Scalar.extui v637
  let v639 : BitVec 32 := Scalar.subi v636 v638
  let v640 : BitVec 1 := Scalar.cmpi .ne v634 v639
  let v641 : BitVec 32 := Scalar.remsi v628 c781_i32_378
  let c0_i32_383 : BitVec 32 := 0#32
  let v642 : BitVec 1 := Scalar.cmpi .ne v641 c0_i32_383
  let v643 : BitVec 1 := Scalar.andi v640 v642
  let v629 : BitVec 32 := Scalar.divsi v628 c781_i32_378
  let c1_i32_384 : BitVec 32 := 1#32
  let v644 : BitVec 32 := Scalar.subi v629 c1_i32_384
  let v645 : BitVec 32 := Scalar.select v643 v644 v629
  let c31_i32_573 : BitVec 32 := 31#32
  let c781_i32_385 : BitVec 32 := 781#32
  let v646 : BitVec 32 := Scalar.muli v645 c781_i32_385
  let v647 : BitVec 32 := Scalar.subi v628 v646
  let c128_i32_417 : BitVec 32 := 128#32
  let v679 : BitVec 32 := Scalar.muli v647 c128_i32_417
  ![v645.toNat, 31, v679.toNat]
def k0_off197 (i : grid0.Coords) (c634_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_578 : BitVec 32 := 32#32
  let v936 : BitVec 32 := Scalar.muli c32_i32_578 c634_i32
  let v937 : BitVec 32 := Scalar.addi v1 v936
  let c20305_i32_579 : BitVec 32 := 20305#32
  let v938 : BitVec 32 := Scalar.minsi v937 c20305_i32_579
  let c0_i32_581 : BitVec 32 := 0#32
  let v940 : BitVec 1 := Scalar.cmpi .sgt v938 c0_i32_581
  let v941 : BitVec 32 := Scalar.extui v940
  let c0_i32_582 : BitVec 32 := 0#32
  let v942 : BitVec 1 := Scalar.cmpi .slt v938 c0_i32_582
  let v943 : BitVec 32 := Scalar.extui v942
  let v944 : BitVec 32 := Scalar.subi v941 v943
  let c781_i32_580 : BitVec 32 := 781#32
  let c0_i32_583 : BitVec 32 := 0#32
  let v945 : BitVec 1 := Scalar.cmpi .sgt c781_i32_580 c0_i32_583
  let v946 : BitVec 32 := Scalar.extui v945
  let c0_i32_584 : BitVec 32 := 0#32
  let v947 : BitVec 1 := Scalar.cmpi .slt c781_i32_580 c0_i32_584
  let v948 : BitVec 32 := Scalar.extui v947
  let v949 : BitVec 32 := Scalar.subi v946 v948
  let v950 : BitVec 1 := Scalar.cmpi .ne v944 v949
  let v951 : BitVec 32 := Scalar.remsi v938 c781_i32_580
  let c0_i32_585 : BitVec 32 := 0#32
  let v952 : BitVec 1 := Scalar.cmpi .ne v951 c0_i32_585
  let v953 : BitVec 1 := Scalar.andi v950 v952
  let v939 : BitVec 32 := Scalar.divsi v938 c781_i32_580
  let c1_i32_586 : BitVec 32 := 1#32
  let v954 : BitVec 32 := Scalar.subi v939 c1_i32_586
  let v955 : BitVec 32 := Scalar.select v953 v954 v939
  let c32_i32_588 : BitVec 32 := 32#32
  let c781_i32_587 : BitVec 32 := 781#32
  let v956 : BitVec 32 := Scalar.muli v955 c781_i32_587
  let v957 : BitVec 32 := Scalar.subi v938 v956
  let v958 : BitVec 32 := Scalar.muli c32_i32_588 v957
  let c0_i32_592 : BitVec 32 := 0#32
  ![v955.toNat, v958.toNat, 0]
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32_816 : BitVec 32 := 26#32
  let v1308 : BitVec 1 := Scalar.cmpi .slt v1 c26_i32_816
  let v1309 : BitVec 32 := Scalar.extui v1308
  let c0_i32_817 : BitVec 32 := 0#32
  let v1310 : BitVec 1 := Scalar.cmpi .ne v1309 c0_i32_817
  v1310

def k0_off198 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_818 : BitVec 32 := 0#32
  let c99968_i32_r0 : BitVec 32 := 99968#32
  ![v1.toNat, 0, 99968]
def k0_off199 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_820 : BitVec 32 := 1#32
  let c99968_i32_r1 : BitVec 32 := 99968#32
  ![v1.toNat, 1, 99968]
def k0_off200 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_822 : BitVec 32 := 2#32
  let c99968_i32_r2 : BitVec 32 := 99968#32
  ![v1.toNat, 2, 99968]
def k0_off201 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_824 : BitVec 32 := 3#32
  let c99968_i32_r3 : BitVec 32 := 99968#32
  ![v1.toNat, 3, 99968]
def k0_off202 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_826 : BitVec 32 := 4#32
  let c99968_i32_r4 : BitVec 32 := 99968#32
  ![v1.toNat, 4, 99968]
def k0_off203 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_828 : BitVec 32 := 5#32
  let c99968_i32_r5 : BitVec 32 := 99968#32
  ![v1.toNat, 5, 99968]
def k0_off204 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_830 : BitVec 32 := 6#32
  let c99968_i32_r6 : BitVec 32 := 99968#32
  ![v1.toNat, 6, 99968]
def k0_off205 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_832 : BitVec 32 := 7#32
  let c99968_i32_r7 : BitVec 32 := 99968#32
  ![v1.toNat, 7, 99968]
def k0_off206 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_834 : BitVec 32 := 8#32
  let c99968_i32_r8 : BitVec 32 := 99968#32
  ![v1.toNat, 8, 99968]
def k0_off207 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32_836 : BitVec 32 := 9#32
  let c99968_i32_r9 : BitVec 32 := 99968#32
  ![v1.toNat, 9, 99968]
def k0_off208 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_838 : BitVec 32 := 10#32
  let c99968_i32_r10 : BitVec 32 := 99968#32
  ![v1.toNat, 10, 99968]
def k0_off209 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32_840 : BitVec 32 := 11#32
  let c99968_i32_r11 : BitVec 32 := 99968#32
  ![v1.toNat, 11, 99968]
def k0_off210 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32_842 : BitVec 32 := 12#32
  let c99968_i32_r12 : BitVec 32 := 99968#32
  ![v1.toNat, 12, 99968]
def k0_off211 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_844 : BitVec 32 := 13#32
  let c99968_i32_r13 : BitVec 32 := 99968#32
  ![v1.toNat, 13, 99968]
def k0_off212 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c14_i32_846 : BitVec 32 := 14#32
  let c99968_i32_r14 : BitVec 32 := 99968#32
  ![v1.toNat, 14, 99968]
def k0_off213 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_848 : BitVec 32 := 15#32
  let c99968_i32_r15 : BitVec 32 := 99968#32
  ![v1.toNat, 15, 99968]
def k0_off214 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_850 : BitVec 32 := 16#32
  let c99968_i32_r16 : BitVec 32 := 99968#32
  ![v1.toNat, 16, 99968]
def k0_off215 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32_852 : BitVec 32 := 17#32
  let c99968_i32_r17 : BitVec 32 := 99968#32
  ![v1.toNat, 17, 99968]
def k0_off216 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c18_i32_854 : BitVec 32 := 18#32
  let c99968_i32_r18 : BitVec 32 := 99968#32
  ![v1.toNat, 18, 99968]
def k0_off217 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32_856 : BitVec 32 := 19#32
  let c99968_i32_r19 : BitVec 32 := 99968#32
  ![v1.toNat, 19, 99968]
def k0_off218 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32_858 : BitVec 32 := 20#32
  let c99968_i32_r20 : BitVec 32 := 99968#32
  ![v1.toNat, 20, 99968]
def k0_off219 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_860 : BitVec 32 := 21#32
  let c99968_i32_r21 : BitVec 32 := 99968#32
  ![v1.toNat, 21, 99968]
def k0_off220 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c22_i32_862 : BitVec 32 := 22#32
  let c99968_i32_r22 : BitVec 32 := 99968#32
  ![v1.toNat, 22, 99968]
def k0_off221 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c23_i32_864 : BitVec 32 := 23#32
  let c99968_i32_r23 : BitVec 32 := 99968#32
  ![v1.toNat, 23, 99968]
def k0_off222 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_866 : BitVec 32 := 24#32
  let c99968_i32_r24 : BitVec 32 := 99968#32
  ![v1.toNat, 24, 99968]
def k0_off223 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32_868 : BitVec 32 := 25#32
  let c99968_i32_r25 : BitVec 32 := 99968#32
  ![v1.toNat, 25, 99968]
def k0_off224 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32_870 : BitVec 32 := 26#32
  let c99968_i32_r26 : BitVec 32 := 99968#32
  ![v1.toNat, 26, 99968]
def k0_off225 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c27_i32_872 : BitVec 32 := 27#32
  let c99968_i32_r27 : BitVec 32 := 99968#32
  ![v1.toNat, 27, 99968]
def k0_off226 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32_874 : BitVec 32 := 28#32
  let c99968_i32_r28 : BitVec 32 := 99968#32
  ![v1.toNat, 28, 99968]
def k0_off227 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c29_i32_876 : BitVec 32 := 29#32
  let c99968_i32_r29 : BitVec 32 := 99968#32
  ![v1.toNat, 29, 99968]
def k0_off228 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_878 : BitVec 32 := 30#32
  let c99968_i32_r30 : BitVec 32 := 99968#32
  ![v1.toNat, 30, 99968]
def k0_off229 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_880 : BitVec 32 := 31#32
  let c99968_i32_r31 : BitVec 32 := 99968#32
  ![v1.toNat, 31, 99968]

def k0_chk513 (i : grid0.Coords) (v2 : IVec S16 32) (v1311 : IVec S16 32) : Prop :=
  (∀ (k0_h3 : k0_cond3 i = 1#1), ∀ a x, ((![v2, v1311] : Fin 2 → IVec S16 32) a x).toNat < S32x33.size a)
theorem k0_idx513_inb : ∀ (i : grid0.Coords) (v2 : IVec S16 32) (v1311 : IVec S16 32) (k0_hw513 : k0_chk513 i v2 v1311), ∀ (k0_h3 : k0_cond3 i = 1#1), ∀ a x, ((![v2, v1311] : Fin 2 → IVec S16 32) a x).toNat < S32x33.size a := fun i v2 v1311 k0_hw513 k0_h3 => k0_hw513 k0_h3

def k0_chk514 (i : grid0.Coords) (v4 : IVec S16 32) (v1313 : IVec S16 32) : Prop :=
  (∀ (k0_h3 : k0_cond3 i = 1#1), ∀ a x, ((![v4, v1313] : Fin 2 → IVec S16 32) a x).toNat < S32x33.size a)
theorem k0_idx514_inb : ∀ (i : grid0.Coords) (v4 : IVec S16 32) (v1313 : IVec S16 32) (k0_hw514 : k0_chk514 i v4 v1313), ∀ (k0_h3 : k0_cond3 i = 1#1), ∀ a x, ((![v4, v1313] : Fin 2 → IVec S16 32) a x).toNat < S32x33.size a := fun i v4 v1313 k0_hw514 k0_h3 => k0_hw514 k0_h3

def k0_chk515 (i : grid0.Coords) (v2 : IVec S16 32) (v1315 : IVec S16 32) : Prop :=
  (∀ (k0_h3 : k0_cond3 i = 1#1), ∀ a x, ((![v2, v1315] : Fin 2 → IVec S16 32) a x).toNat < S32x33.size a)
theorem k0_idx515_inb : ∀ (i : grid0.Coords) (v2 : IVec S16 32) (v1315 : IVec S16 32) (k0_hw515 : k0_chk515 i v2 v1315), ∀ (k0_h3 : k0_cond3 i = 1#1), ∀ a x, ((![v2, v1315] : Fin 2 → IVec S16 32) a x).toNat < S32x33.size a := fun i v2 v1315 k0_hw515 k0_h3 => k0_hw515 k0_h3

def k0_chk516 (i : grid0.Coords) (v4 : IVec S16 32) (v1317 : IVec S16 32) : Prop :=
  (∀ (k0_h3 : k0_cond3 i = 1#1), ∀ a x, ((![v4, v1317] : Fin 2 → IVec S16 32) a x).toNat < S32x33.size a)
theorem k0_idx516_inb : ∀ (i : grid0.Coords) (v4 : IVec S16 32) (v1317 : IVec S16 32) (k0_hw516 : k0_chk516 i v4 v1317), ∀ (k0_h3 : k0_cond3 i = 1#1), ∀ a x, ((![v4, v1317] : Fin 2 → IVec S16 32) a x).toNat < S32x33.size a := fun i v4 v1317 k0_hw516 k0_h3 => k0_hw516 k0_h3

def k0_chk517 (i : grid0.Coords) (v2 : IVec S16 32) (v1319 : IVec S16 32) : Prop :=
  (∀ (k0_h3 : k0_cond3 i = 1#1), ∀ a x, ((![v2, v1319] : Fin 2 → IVec S16 32) a x).toNat < S32x33.size a)
theorem k0_idx517_inb : ∀ (i : grid0.Coords) (v2 : IVec S16 32) (v1319 : IVec S16 32) (k0_hw517 : k0_chk517 i v2 v1319), ∀ (k0_h3 : k0_cond3 i = 1#1), ∀ a x, ((![v2, v1319] : Fin 2 → IVec S16 32) a x).toNat < S32x33.size a := fun i v2 v1319 k0_hw517 k0_h3 => k0_hw517 k0_h3

def k0_chk518 (i : grid0.Coords) (v4 : IVec S16 32) (v1321 : IVec S16 32) : Prop :=
  (∀ (k0_h3 : k0_cond3 i = 1#1), ∀ a x, ((![v4, v1321] : Fin 2 → IVec S16 32) a x).toNat < S32x33.size a)
theorem k0_idx518_inb : ∀ (i : grid0.Coords) (v4 : IVec S16 32) (v1321 : IVec S16 32) (k0_hw518 : k0_chk518 i v4 v1321), ∀ (k0_h3 : k0_cond3 i = 1#1), ∀ a x, ((![v4, v1321] : Fin 2 → IVec S16 32) a x).toNat < S32x33.size a := fun i v4 v1321 k0_hw518 k0_h3 => k0_hw518 k0_h3

def k0_chk519 (i : grid0.Coords) (v2 : IVec S16 32) (v1323 : IVec S16 32) : Prop :=
  (∀ (k0_h3 : k0_cond3 i = 1#1), ∀ a x, ((![v2, v1323] : Fin 2 → IVec S16 32) a x).toNat < S32x33.size a)
theorem k0_idx519_inb : ∀ (i : grid0.Coords) (v2 : IVec S16 32) (v1323 : IVec S16 32) (k0_hw519 : k0_chk519 i v2 v1323), ∀ (k0_h3 : k0_cond3 i = 1#1), ∀ a x, ((![v2, v1323] : Fin 2 → IVec S16 32) a x).toNat < S32x33.size a := fun i v2 v1323 k0_hw519 k0_h3 => k0_hw519 k0_h3

def k0_chk520 (i : grid0.Coords) (v4 : IVec S16 32) (v1325 : IVec S16 32) : Prop :=
  (∀ (k0_h3 : k0_cond3 i = 1#1), ∀ a x, ((![v4, v1325] : Fin 2 → IVec S16 32) a x).toNat < S32x33.size a)
theorem k0_idx520_inb : ∀ (i : grid0.Coords) (v4 : IVec S16 32) (v1325 : IVec S16 32) (k0_hw520 : k0_chk520 i v4 v1325), ∀ (k0_h3 : k0_cond3 i = 1#1), ∀ a x, ((![v4, v1325] : Fin 2 → IVec S16 32) a x).toNat < S32x33.size a := fun i v4 v1325 k0_hw520 k0_h3 => k0_hw520 k0_h3

def k0_chk521 (i : grid0.Coords) (v2 : IVec S16 32) (v1327 : IVec S16 32) : Prop :=
  (∀ (k0_h3 : k0_cond3 i = 1#1), ∀ a x, ((![v2, v1327] : Fin 2 → IVec S16 32) a x).toNat < S32x33.size a)
theorem k0_idx521_inb : ∀ (i : grid0.Coords) (v2 : IVec S16 32) (v1327 : IVec S16 32) (k0_hw521 : k0_chk521 i v2 v1327), ∀ (k0_h3 : k0_cond3 i = 1#1), ∀ a x, ((![v2, v1327] : Fin 2 → IVec S16 32) a x).toNat < S32x33.size a := fun i v2 v1327 k0_hw521 k0_h3 => k0_hw521 k0_h3

def k0_chk522 (i : grid0.Coords) (v4 : IVec S16 32) (v1329 : IVec S16 32) : Prop :=
  (∀ (k0_h3 : k0_cond3 i = 1#1), ∀ a x, ((![v4, v1329] : Fin 2 → IVec S16 32) a x).toNat < S32x33.size a)
theorem k0_idx522_inb : ∀ (i : grid0.Coords) (v4 : IVec S16 32) (v1329 : IVec S16 32) (k0_hw522 : k0_chk522 i v4 v1329), ∀ (k0_h3 : k0_cond3 i = 1#1), ∀ a x, ((![v4, v1329] : Fin 2 → IVec S16 32) a x).toNat < S32x33.size a := fun i v4 v1329 k0_hw522 k0_h3 => k0_hw522 k0_h3

def k0_chk523 (i : grid0.Coords) (v2 : IVec S16 32) (v1331 : IVec S16 32) : Prop :=
  (∀ (k0_h3 : k0_cond3 i = 1#1), ∀ a x, ((![v2, v1331] : Fin 2 → IVec S16 32) a x).toNat < S32x33.size a)
theorem k0_idx523_inb : ∀ (i : grid0.Coords) (v2 : IVec S16 32) (v1331 : IVec S16 32) (k0_hw523 : k0_chk523 i v2 v1331), ∀ (k0_h3 : k0_cond3 i = 1#1), ∀ a x, ((![v2, v1331] : Fin 2 → IVec S16 32) a x).toNat < S32x33.size a := fun i v2 v1331 k0_hw523 k0_h3 => k0_hw523 k0_h3

def k0_chk524 (i : grid0.Coords) (v4 : IVec S16 32) (v1333 : IVec S16 32) : Prop :=
  (∀ (k0_h3 : k0_cond3 i = 1#1), ∀ a x, ((![v4, v1333] : Fin 2 → IVec S16 32) a x).toNat < S32x33.size a)
theorem k0_idx524_inb : ∀ (i : grid0.Coords) (v4 : IVec S16 32) (v1333 : IVec S16 32) (k0_hw524 : k0_chk524 i v4 v1333), ∀ (k0_h3 : k0_cond3 i = 1#1), ∀ a x, ((![v4, v1333] : Fin 2 → IVec S16 32) a x).toNat < S32x33.size a := fun i v4 v1333 k0_hw524 k0_h3 => k0_hw524 k0_h3

def k0_chk525 (i : grid0.Coords) (v2 : IVec S16 32) (v1335 : IVec S16 32) : Prop :=
  (∀ (k0_h3 : k0_cond3 i = 1#1), ∀ a x, ((![v2, v1335] : Fin 2 → IVec S16 32) a x).toNat < S32x33.size a)
theorem k0_idx525_inb : ∀ (i : grid0.Coords) (v2 : IVec S16 32) (v1335 : IVec S16 32) (k0_hw525 : k0_chk525 i v2 v1335), ∀ (k0_h3 : k0_cond3 i = 1#1), ∀ a x, ((![v2, v1335] : Fin 2 → IVec S16 32) a x).toNat < S32x33.size a := fun i v2 v1335 k0_hw525 k0_h3 => k0_hw525 k0_h3

def k0_chk526 (i : grid0.Coords) (v4 : IVec S16 32) (v1337 : IVec S16 32) : Prop :=
  (∀ (k0_h3 : k0_cond3 i = 1#1), ∀ a x, ((![v4, v1337] : Fin 2 → IVec S16 32) a x).toNat < S32x33.size a)
theorem k0_idx526_inb : ∀ (i : grid0.Coords) (v4 : IVec S16 32) (v1337 : IVec S16 32) (k0_hw526 : k0_chk526 i v4 v1337), ∀ (k0_h3 : k0_cond3 i = 1#1), ∀ a x, ((![v4, v1337] : Fin 2 → IVec S16 32) a x).toNat < S32x33.size a := fun i v4 v1337 k0_hw526 k0_h3 => k0_hw526 k0_h3

def k0_chk527 (i : grid0.Coords) (v2 : IVec S16 32) (v1339 : IVec S16 32) : Prop :=
  (∀ (k0_h3 : k0_cond3 i = 1#1), ∀ a x, ((![v2, v1339] : Fin 2 → IVec S16 32) a x).toNat < S32x33.size a)
theorem k0_idx527_inb : ∀ (i : grid0.Coords) (v2 : IVec S16 32) (v1339 : IVec S16 32) (k0_hw527 : k0_chk527 i v2 v1339), ∀ (k0_h3 : k0_cond3 i = 1#1), ∀ a x, ((![v2, v1339] : Fin 2 → IVec S16 32) a x).toNat < S32x33.size a := fun i v2 v1339 k0_hw527 k0_h3 => k0_hw527 k0_h3

def k0_chk528 (i : grid0.Coords) (v4 : IVec S16 32) (v1341 : IVec S16 32) : Prop :=
  (∀ (k0_h3 : k0_cond3 i = 1#1), ∀ a x, ((![v4, v1341] : Fin 2 → IVec S16 32) a x).toNat < S32x33.size a)
theorem k0_idx528_inb : ∀ (i : grid0.Coords) (v4 : IVec S16 32) (v1341 : IVec S16 32) (k0_hw528 : k0_chk528 i v4 v1341), ∀ (k0_h3 : k0_cond3 i = 1#1), ∀ a x, ((![v4, v1341] : Fin 2 → IVec S16 32) a x).toNat < S32x33.size a := fun i v4 v1341 k0_hw528 k0_h3 => k0_hw528 k0_h3

def k0_chk529 (i : grid0.Coords) (v2 : IVec S16 32) (v1343 : IVec S16 32) : Prop :=
  (∀ (k0_h3 : k0_cond3 i = 1#1), ∀ a x, ((![v2, v1343] : Fin 2 → IVec S16 32) a x).toNat < S32x33.size a)
theorem k0_idx529_inb : ∀ (i : grid0.Coords) (v2 : IVec S16 32) (v1343 : IVec S16 32) (k0_hw529 : k0_chk529 i v2 v1343), ∀ (k0_h3 : k0_cond3 i = 1#1), ∀ a x, ((![v2, v1343] : Fin 2 → IVec S16 32) a x).toNat < S32x33.size a := fun i v2 v1343 k0_hw529 k0_h3 => k0_hw529 k0_h3

def k0_chk530 (i : grid0.Coords) (v4 : IVec S16 32) (v1345 : IVec S16 32) : Prop :=
  (∀ (k0_h3 : k0_cond3 i = 1#1), ∀ a x, ((![v4, v1345] : Fin 2 → IVec S16 32) a x).toNat < S32x33.size a)
theorem k0_idx530_inb : ∀ (i : grid0.Coords) (v4 : IVec S16 32) (v1345 : IVec S16 32) (k0_hw530 : k0_chk530 i v4 v1345), ∀ (k0_h3 : k0_cond3 i = 1#1), ∀ a x, ((![v4, v1345] : Fin 2 → IVec S16 32) a x).toNat < S32x33.size a := fun i v4 v1345 k0_hw530 k0_h3 => k0_hw530 k0_h3

def k0_chk531 (i : grid0.Coords) (v2 : IVec S16 32) (v1347 : IVec S16 32) : Prop :=
  (∀ (k0_h3 : k0_cond3 i = 1#1), ∀ a x, ((![v2, v1347] : Fin 2 → IVec S16 32) a x).toNat < S32x33.size a)
theorem k0_idx531_inb : ∀ (i : grid0.Coords) (v2 : IVec S16 32) (v1347 : IVec S16 32) (k0_hw531 : k0_chk531 i v2 v1347), ∀ (k0_h3 : k0_cond3 i = 1#1), ∀ a x, ((![v2, v1347] : Fin 2 → IVec S16 32) a x).toNat < S32x33.size a := fun i v2 v1347 k0_hw531 k0_h3 => k0_hw531 k0_h3

def k0_chk532 (i : grid0.Coords) (v4 : IVec S16 32) (v1349 : IVec S16 32) : Prop :=
  (∀ (k0_h3 : k0_cond3 i = 1#1), ∀ a x, ((![v4, v1349] : Fin 2 → IVec S16 32) a x).toNat < S32x33.size a)
theorem k0_idx532_inb : ∀ (i : grid0.Coords) (v4 : IVec S16 32) (v1349 : IVec S16 32) (k0_hw532 : k0_chk532 i v4 v1349), ∀ (k0_h3 : k0_cond3 i = 1#1), ∀ a x, ((![v4, v1349] : Fin 2 → IVec S16 32) a x).toNat < S32x33.size a := fun i v4 v1349 k0_hw532 k0_h3 => k0_hw532 k0_h3

def k0_chk533 (i : grid0.Coords) (v2 : IVec S16 32) (v1351 : IVec S16 32) : Prop :=
  (∀ (k0_h3 : k0_cond3 i = 1#1), ∀ a x, ((![v2, v1351] : Fin 2 → IVec S16 32) a x).toNat < S32x33.size a)
theorem k0_idx533_inb : ∀ (i : grid0.Coords) (v2 : IVec S16 32) (v1351 : IVec S16 32) (k0_hw533 : k0_chk533 i v2 v1351), ∀ (k0_h3 : k0_cond3 i = 1#1), ∀ a x, ((![v2, v1351] : Fin 2 → IVec S16 32) a x).toNat < S32x33.size a := fun i v2 v1351 k0_hw533 k0_h3 => k0_hw533 k0_h3

def k0_chk534 (i : grid0.Coords) (v4 : IVec S16 32) (v1353 : IVec S16 32) : Prop :=
  (∀ (k0_h3 : k0_cond3 i = 1#1), ∀ a x, ((![v4, v1353] : Fin 2 → IVec S16 32) a x).toNat < S32x33.size a)
theorem k0_idx534_inb : ∀ (i : grid0.Coords) (v4 : IVec S16 32) (v1353 : IVec S16 32) (k0_hw534 : k0_chk534 i v4 v1353), ∀ (k0_h3 : k0_cond3 i = 1#1), ∀ a x, ((![v4, v1353] : Fin 2 → IVec S16 32) a x).toNat < S32x33.size a := fun i v4 v1353 k0_hw534 k0_h3 => k0_hw534 k0_h3

def k0_chk535 (i : grid0.Coords) (v2 : IVec S16 32) (v1355 : IVec S16 32) : Prop :=
  (∀ (k0_h3 : k0_cond3 i = 1#1), ∀ a x, ((![v2, v1355] : Fin 2 → IVec S16 32) a x).toNat < S32x33.size a)
theorem k0_idx535_inb : ∀ (i : grid0.Coords) (v2 : IVec S16 32) (v1355 : IVec S16 32) (k0_hw535 : k0_chk535 i v2 v1355), ∀ (k0_h3 : k0_cond3 i = 1#1), ∀ a x, ((![v2, v1355] : Fin 2 → IVec S16 32) a x).toNat < S32x33.size a := fun i v2 v1355 k0_hw535 k0_h3 => k0_hw535 k0_h3

def k0_chk536 (i : grid0.Coords) (v4 : IVec S16 32) (v1357 : IVec S16 32) : Prop :=
  (∀ (k0_h3 : k0_cond3 i = 1#1), ∀ a x, ((![v4, v1357] : Fin 2 → IVec S16 32) a x).toNat < S32x33.size a)
theorem k0_idx536_inb : ∀ (i : grid0.Coords) (v4 : IVec S16 32) (v1357 : IVec S16 32) (k0_hw536 : k0_chk536 i v4 v1357), ∀ (k0_h3 : k0_cond3 i = 1#1), ∀ a x, ((![v4, v1357] : Fin 2 → IVec S16 32) a x).toNat < S32x33.size a := fun i v4 v1357 k0_hw536 k0_h3 => k0_hw536 k0_h3

def k0_chk537 (i : grid0.Coords) (v2 : IVec S16 32) (v1363 : IVec S16 32) : Prop :=
  (∀ (k0_h3 : k0_cond3 i = 1#1), ∀ a x, ((![v2, v1363] : Fin 2 → IVec S16 32) a x).toNat < S32x33.size a)
theorem k0_idx537_inb : ∀ (i : grid0.Coords) (v2 : IVec S16 32) (v1363 : IVec S16 32) (k0_hw537 : k0_chk537 i v2 v1363), ∀ (k0_h3 : k0_cond3 i = 1#1), ∀ a x, ((![v2, v1363] : Fin 2 → IVec S16 32) a x).toNat < S32x33.size a := fun i v2 v1363 k0_hw537 k0_h3 => k0_hw537 k0_h3

def k0_chk538 (i : grid0.Coords) (v4 : IVec S16 32) (v1369 : IVec S16 32) : Prop :=
  (∀ (k0_h3 : k0_cond3 i = 1#1), ∀ a x, ((![v4, v1369] : Fin 2 → IVec S16 32) a x).toNat < S32x33.size a)
theorem k0_idx538_inb : ∀ (i : grid0.Coords) (v4 : IVec S16 32) (v1369 : IVec S16 32) (k0_hw538 : k0_chk538 i v4 v1369), ∀ (k0_h3 : k0_cond3 i = 1#1), ∀ a x, ((![v4, v1369] : Fin 2 → IVec S16 32) a x).toNat < S32x33.size a := fun i v4 v1369 k0_hw538 k0_h3 => k0_hw538 k0_h3

def k0_chk539 (i : grid0.Coords) (v2 : IVec S16 32) (v1375 : IVec S16 32) : Prop :=
  (∀ (k0_h3 : k0_cond3 i = 1#1), ∀ a x, ((![v2, v1375] : Fin 2 → IVec S16 32) a x).toNat < S32x33.size a)
theorem k0_idx539_inb : ∀ (i : grid0.Coords) (v2 : IVec S16 32) (v1375 : IVec S16 32) (k0_hw539 : k0_chk539 i v2 v1375), ∀ (k0_h3 : k0_cond3 i = 1#1), ∀ a x, ((![v2, v1375] : Fin 2 → IVec S16 32) a x).toNat < S32x33.size a := fun i v2 v1375 k0_hw539 k0_h3 => k0_hw539 k0_h3

def k0_chk540 (i : grid0.Coords) (v4 : IVec S16 32) (v1381 : IVec S16 32) : Prop :=
  (∀ (k0_h3 : k0_cond3 i = 1#1), ∀ a x, ((![v4, v1381] : Fin 2 → IVec S16 32) a x).toNat < S32x33.size a)
theorem k0_idx540_inb : ∀ (i : grid0.Coords) (v4 : IVec S16 32) (v1381 : IVec S16 32) (k0_hw540 : k0_chk540 i v4 v1381), ∀ (k0_h3 : k0_cond3 i = 1#1), ∀ a x, ((![v4, v1381] : Fin 2 → IVec S16 32) a x).toNat < S32x33.size a := fun i v4 v1381 k0_hw540 k0_h3 => k0_hw540 k0_h3

def k0_chk541 (i : grid0.Coords) (v2 : IVec S16 32) (v1387 : IVec S16 32) : Prop :=
  (∀ (k0_h3 : k0_cond3 i = 1#1), ∀ a x, ((![v2, v1387] : Fin 2 → IVec S16 32) a x).toNat < S32x33.size a)
theorem k0_idx541_inb : ∀ (i : grid0.Coords) (v2 : IVec S16 32) (v1387 : IVec S16 32) (k0_hw541 : k0_chk541 i v2 v1387), ∀ (k0_h3 : k0_cond3 i = 1#1), ∀ a x, ((![v2, v1387] : Fin 2 → IVec S16 32) a x).toNat < S32x33.size a := fun i v2 v1387 k0_hw541 k0_h3 => k0_hw541 k0_h3

def k0_chk542 (i : grid0.Coords) (v4 : IVec S16 32) (v1393 : IVec S16 32) : Prop :=
  (∀ (k0_h3 : k0_cond3 i = 1#1), ∀ a x, ((![v4, v1393] : Fin 2 → IVec S16 32) a x).toNat < S32x33.size a)
theorem k0_idx542_inb : ∀ (i : grid0.Coords) (v4 : IVec S16 32) (v1393 : IVec S16 32) (k0_hw542 : k0_chk542 i v4 v1393), ∀ (k0_h3 : k0_cond3 i = 1#1), ∀ a x, ((![v4, v1393] : Fin 2 → IVec S16 32) a x).toNat < S32x33.size a := fun i v4 v1393 k0_hw542 k0_h3 => k0_hw542 k0_h3

def k0_chk543 (i : grid0.Coords) (v2 : IVec S16 32) (v1399 : IVec S16 32) : Prop :=
  (∀ (k0_h3 : k0_cond3 i = 1#1), ∀ a x, ((![v2, v1399] : Fin 2 → IVec S16 32) a x).toNat < S32x33.size a)
theorem k0_idx543_inb : ∀ (i : grid0.Coords) (v2 : IVec S16 32) (v1399 : IVec S16 32) (k0_hw543 : k0_chk543 i v2 v1399), ∀ (k0_h3 : k0_cond3 i = 1#1), ∀ a x, ((![v2, v1399] : Fin 2 → IVec S16 32) a x).toNat < S32x33.size a := fun i v2 v1399 k0_hw543 k0_h3 => k0_hw543 k0_h3

def k0_chk544 (i : grid0.Coords) (v4 : IVec S16 32) (v1405 : IVec S16 32) : Prop :=
  (∀ (k0_h3 : k0_cond3 i = 1#1), ∀ a x, ((![v4, v1405] : Fin 2 → IVec S16 32) a x).toNat < S32x33.size a)
theorem k0_idx544_inb : ∀ (i : grid0.Coords) (v4 : IVec S16 32) (v1405 : IVec S16 32) (k0_hw544 : k0_chk544 i v4 v1405), ∀ (k0_h3 : k0_cond3 i = 1#1), ∀ a x, ((![v4, v1405] : Fin 2 → IVec S16 32) a x).toNat < S32x33.size a := fun i v4 v1405 k0_hw544 k0_h3 => k0_hw544 k0_h3

def k0_chk545 (i : grid0.Coords) (v2 : IVec S16 32) (v1411 : IVec S16 32) : Prop :=
  (∀ (k0_h3 : k0_cond3 i = 1#1), ∀ a x, ((![v2, v1411] : Fin 2 → IVec S16 32) a x).toNat < S32x33.size a)
theorem k0_idx545_inb : ∀ (i : grid0.Coords) (v2 : IVec S16 32) (v1411 : IVec S16 32) (k0_hw545 : k0_chk545 i v2 v1411), ∀ (k0_h3 : k0_cond3 i = 1#1), ∀ a x, ((![v2, v1411] : Fin 2 → IVec S16 32) a x).toNat < S32x33.size a := fun i v2 v1411 k0_hw545 k0_h3 => k0_hw545 k0_h3

def k0_chk546 (i : grid0.Coords) (v4 : IVec S16 32) (v1417 : IVec S16 32) : Prop :=
  (∀ (k0_h3 : k0_cond3 i = 1#1), ∀ a x, ((![v4, v1417] : Fin 2 → IVec S16 32) a x).toNat < S32x33.size a)
theorem k0_idx546_inb : ∀ (i : grid0.Coords) (v4 : IVec S16 32) (v1417 : IVec S16 32) (k0_hw546 : k0_chk546 i v4 v1417), ∀ (k0_h3 : k0_cond3 i = 1#1), ∀ a x, ((![v4, v1417] : Fin 2 → IVec S16 32) a x).toNat < S32x33.size a := fun i v4 v1417 k0_hw546 k0_h3 => k0_hw546 k0_h3

def k0_chk547 (i : grid0.Coords) (v2 : IVec S16 32) (v1423 : IVec S16 32) : Prop :=
  (∀ (k0_h3 : k0_cond3 i = 1#1), ∀ a x, ((![v2, v1423] : Fin 2 → IVec S16 32) a x).toNat < S32x33.size a)
theorem k0_idx547_inb : ∀ (i : grid0.Coords) (v2 : IVec S16 32) (v1423 : IVec S16 32) (k0_hw547 : k0_chk547 i v2 v1423), ∀ (k0_h3 : k0_cond3 i = 1#1), ∀ a x, ((![v2, v1423] : Fin 2 → IVec S16 32) a x).toNat < S32x33.size a := fun i v2 v1423 k0_hw547 k0_h3 => k0_hw547 k0_h3

def k0_chk548 (i : grid0.Coords) (v4 : IVec S16 32) (v1429 : IVec S16 32) : Prop :=
  (∀ (k0_h3 : k0_cond3 i = 1#1), ∀ a x, ((![v4, v1429] : Fin 2 → IVec S16 32) a x).toNat < S32x33.size a)
theorem k0_idx548_inb : ∀ (i : grid0.Coords) (v4 : IVec S16 32) (v1429 : IVec S16 32) (k0_hw548 : k0_chk548 i v4 v1429), ∀ (k0_h3 : k0_cond3 i = 1#1), ∀ a x, ((![v4, v1429] : Fin 2 → IVec S16 32) a x).toNat < S32x33.size a := fun i v4 v1429 k0_hw548 k0_h3 => k0_hw548 k0_h3

def k0_chk549 (i : grid0.Coords) (v2 : IVec S16 32) (v1435 : IVec S16 32) : Prop :=
  (∀ (k0_h3 : k0_cond3 i = 1#1), ∀ a x, ((![v2, v1435] : Fin 2 → IVec S16 32) a x).toNat < S32x33.size a)
theorem k0_idx549_inb : ∀ (i : grid0.Coords) (v2 : IVec S16 32) (v1435 : IVec S16 32) (k0_hw549 : k0_chk549 i v2 v1435), ∀ (k0_h3 : k0_cond3 i = 1#1), ∀ a x, ((![v2, v1435] : Fin 2 → IVec S16 32) a x).toNat < S32x33.size a := fun i v2 v1435 k0_hw549 k0_h3 => k0_hw549 k0_h3

def k0_chk550 (i : grid0.Coords) (v4 : IVec S16 32) (v1441 : IVec S16 32) : Prop :=
  (∀ (k0_h3 : k0_cond3 i = 1#1), ∀ a x, ((![v4, v1441] : Fin 2 → IVec S16 32) a x).toNat < S32x33.size a)
theorem k0_idx550_inb : ∀ (i : grid0.Coords) (v4 : IVec S16 32) (v1441 : IVec S16 32) (k0_hw550 : k0_chk550 i v4 v1441), ∀ (k0_h3 : k0_cond3 i = 1#1), ∀ a x, ((![v4, v1441] : Fin 2 → IVec S16 32) a x).toNat < S32x33.size a := fun i v4 v1441 k0_hw550 k0_h3 => k0_hw550 k0_h3

def k0_chk551 (i : grid0.Coords) (v2 : IVec S16 32) (v1447 : IVec S16 32) : Prop :=
  (∀ (k0_h3 : k0_cond3 i = 1#1), ∀ a x, ((![v2, v1447] : Fin 2 → IVec S16 32) a x).toNat < S32x33.size a)
theorem k0_idx551_inb : ∀ (i : grid0.Coords) (v2 : IVec S16 32) (v1447 : IVec S16 32) (k0_hw551 : k0_chk551 i v2 v1447), ∀ (k0_h3 : k0_cond3 i = 1#1), ∀ a x, ((![v2, v1447] : Fin 2 → IVec S16 32) a x).toNat < S32x33.size a := fun i v2 v1447 k0_hw551 k0_h3 => k0_hw551 k0_h3

def k0_chk552 (i : grid0.Coords) (v4 : IVec S16 32) (v1453 : IVec S16 32) : Prop :=
  (∀ (k0_h3 : k0_cond3 i = 1#1), ∀ a x, ((![v4, v1453] : Fin 2 → IVec S16 32) a x).toNat < S32x33.size a)
theorem k0_idx552_inb : ∀ (i : grid0.Coords) (v4 : IVec S16 32) (v1453 : IVec S16 32) (k0_hw552 : k0_chk552 i v4 v1453), ∀ (k0_h3 : k0_cond3 i = 1#1), ∀ a x, ((![v4, v1453] : Fin 2 → IVec S16 32) a x).toNat < S32x33.size a := fun i v4 v1453 k0_hw552 k0_h3 => k0_hw552 k0_h3

def k0_chk553 (i : grid0.Coords) (v2 : IVec S16 32) (v1459 : IVec S16 32) : Prop :=
  (∀ (k0_h3 : k0_cond3 i = 1#1), ∀ a x, ((![v2, v1459] : Fin 2 → IVec S16 32) a x).toNat < S32x33.size a)
theorem k0_idx553_inb : ∀ (i : grid0.Coords) (v2 : IVec S16 32) (v1459 : IVec S16 32) (k0_hw553 : k0_chk553 i v2 v1459), ∀ (k0_h3 : k0_cond3 i = 1#1), ∀ a x, ((![v2, v1459] : Fin 2 → IVec S16 32) a x).toNat < S32x33.size a := fun i v2 v1459 k0_hw553 k0_h3 => k0_hw553 k0_h3

def k0_chk554 (i : grid0.Coords) (v4 : IVec S16 32) (v1465 : IVec S16 32) : Prop :=
  (∀ (k0_h3 : k0_cond3 i = 1#1), ∀ a x, ((![v4, v1465] : Fin 2 → IVec S16 32) a x).toNat < S32x33.size a)
theorem k0_idx554_inb : ∀ (i : grid0.Coords) (v4 : IVec S16 32) (v1465 : IVec S16 32) (k0_hw554 : k0_chk554 i v4 v1465), ∀ (k0_h3 : k0_cond3 i = 1#1), ∀ a x, ((![v4, v1465] : Fin 2 → IVec S16 32) a x).toNat < S32x33.size a := fun i v4 v1465 k0_hw554 k0_h3 => k0_hw554 k0_h3

def k0_chk555 (i : grid0.Coords) (v2 : IVec S16 32) (v1471 : IVec S16 32) : Prop :=
  (∀ (k0_h3 : k0_cond3 i = 1#1), ∀ a x, ((![v2, v1471] : Fin 2 → IVec S16 32) a x).toNat < S32x33.size a)
theorem k0_idx555_inb : ∀ (i : grid0.Coords) (v2 : IVec S16 32) (v1471 : IVec S16 32) (k0_hw555 : k0_chk555 i v2 v1471), ∀ (k0_h3 : k0_cond3 i = 1#1), ∀ a x, ((![v2, v1471] : Fin 2 → IVec S16 32) a x).toNat < S32x33.size a := fun i v2 v1471 k0_hw555 k0_h3 => k0_hw555 k0_h3

def k0_chk556 (i : grid0.Coords) (v4 : IVec S16 32) (v1477 : IVec S16 32) : Prop :=
  (∀ (k0_h3 : k0_cond3 i = 1#1), ∀ a x, ((![v4, v1477] : Fin 2 → IVec S16 32) a x).toNat < S32x33.size a)
theorem k0_idx556_inb : ∀ (i : grid0.Coords) (v4 : IVec S16 32) (v1477 : IVec S16 32) (k0_hw556 : k0_chk556 i v4 v1477), ∀ (k0_h3 : k0_cond3 i = 1#1), ∀ a x, ((![v4, v1477] : Fin 2 → IVec S16 32) a x).toNat < S32x33.size a := fun i v4 v1477 k0_hw556 k0_h3 => k0_hw556 k0_h3

def k0_chk557 (i : grid0.Coords) (v2 : IVec S16 32) (v1483 : IVec S16 32) : Prop :=
  (∀ (k0_h3 : k0_cond3 i = 1#1), ∀ a x, ((![v2, v1483] : Fin 2 → IVec S16 32) a x).toNat < S32x33.size a)
theorem k0_idx557_inb : ∀ (i : grid0.Coords) (v2 : IVec S16 32) (v1483 : IVec S16 32) (k0_hw557 : k0_chk557 i v2 v1483), ∀ (k0_h3 : k0_cond3 i = 1#1), ∀ a x, ((![v2, v1483] : Fin 2 → IVec S16 32) a x).toNat < S32x33.size a := fun i v2 v1483 k0_hw557 k0_h3 => k0_hw557 k0_h3

def k0_chk558 (i : grid0.Coords) (v4 : IVec S16 32) (v1489 : IVec S16 32) : Prop :=
  (∀ (k0_h3 : k0_cond3 i = 1#1), ∀ a x, ((![v4, v1489] : Fin 2 → IVec S16 32) a x).toNat < S32x33.size a)
theorem k0_idx558_inb : ∀ (i : grid0.Coords) (v4 : IVec S16 32) (v1489 : IVec S16 32) (k0_hw558 : k0_chk558 i v4 v1489), ∀ (k0_h3 : k0_cond3 i = 1#1), ∀ a x, ((![v4, v1489] : Fin 2 → IVec S16 32) a x).toNat < S32x33.size a := fun i v4 v1489 k0_hw558 k0_h3 => k0_hw558 k0_h3

def k0_chk559 (i : grid0.Coords) (v2 : IVec S16 32) (v1495 : IVec S16 32) : Prop :=
  (∀ (k0_h3 : k0_cond3 i = 1#1), ∀ a x, ((![v2, v1495] : Fin 2 → IVec S16 32) a x).toNat < S32x33.size a)
theorem k0_idx559_inb : ∀ (i : grid0.Coords) (v2 : IVec S16 32) (v1495 : IVec S16 32) (k0_hw559 : k0_chk559 i v2 v1495), ∀ (k0_h3 : k0_cond3 i = 1#1), ∀ a x, ((![v2, v1495] : Fin 2 → IVec S16 32) a x).toNat < S32x33.size a := fun i v2 v1495 k0_hw559 k0_h3 => k0_hw559 k0_h3

def k0_chk560 (i : grid0.Coords) (v4 : IVec S16 32) (v1501 : IVec S16 32) : Prop :=
  (∀ (k0_h3 : k0_cond3 i = 1#1), ∀ a x, ((![v4, v1501] : Fin 2 → IVec S16 32) a x).toNat < S32x33.size a)
theorem k0_idx560_inb : ∀ (i : grid0.Coords) (v4 : IVec S16 32) (v1501 : IVec S16 32) (k0_hw560 : k0_chk560 i v4 v1501), ∀ (k0_h3 : k0_cond3 i = 1#1), ∀ a x, ((![v4, v1501] : Fin 2 → IVec S16 32) a x).toNat < S32x33.size a := fun i v4 v1501 k0_hw560 k0_h3 => k0_hw560 k0_h3

def k0_chk561 (i : grid0.Coords) (v2 : IVec S16 32) (v1507 : IVec S16 32) : Prop :=
  (∀ (k0_h3 : k0_cond3 i = 1#1), ∀ a x, ((![v2, v1507] : Fin 2 → IVec S16 32) a x).toNat < S32x33.size a)
theorem k0_idx561_inb : ∀ (i : grid0.Coords) (v2 : IVec S16 32) (v1507 : IVec S16 32) (k0_hw561 : k0_chk561 i v2 v1507), ∀ (k0_h3 : k0_cond3 i = 1#1), ∀ a x, ((![v2, v1507] : Fin 2 → IVec S16 32) a x).toNat < S32x33.size a := fun i v2 v1507 k0_hw561 k0_h3 => k0_hw561 k0_h3

def k0_chk562 (i : grid0.Coords) (v4 : IVec S16 32) (v1513 : IVec S16 32) : Prop :=
  (∀ (k0_h3 : k0_cond3 i = 1#1), ∀ a x, ((![v4, v1513] : Fin 2 → IVec S16 32) a x).toNat < S32x33.size a)
theorem k0_idx562_inb : ∀ (i : grid0.Coords) (v4 : IVec S16 32) (v1513 : IVec S16 32) (k0_hw562 : k0_chk562 i v4 v1513), ∀ (k0_h3 : k0_cond3 i = 1#1), ∀ a x, ((![v4, v1513] : Fin 2 → IVec S16 32) a x).toNat < S32x33.size a := fun i v4 v1513 k0_hw562 k0_h3 => k0_hw562 k0_h3

def k0_chk563 (i : grid0.Coords) (v2 : IVec S16 32) (v1519 : IVec S16 32) : Prop :=
  (∀ (k0_h3 : k0_cond3 i = 1#1), ∀ a x, ((![v2, v1519] : Fin 2 → IVec S16 32) a x).toNat < S32x33.size a)
theorem k0_idx563_inb : ∀ (i : grid0.Coords) (v2 : IVec S16 32) (v1519 : IVec S16 32) (k0_hw563 : k0_chk563 i v2 v1519), ∀ (k0_h3 : k0_cond3 i = 1#1), ∀ a x, ((![v2, v1519] : Fin 2 → IVec S16 32) a x).toNat < S32x33.size a := fun i v2 v1519 k0_hw563 k0_h3 => k0_hw563 k0_h3

def k0_chk564 (i : grid0.Coords) (v4 : IVec S16 32) (v1525 : IVec S16 32) : Prop :=
  (∀ (k0_h3 : k0_cond3 i = 1#1), ∀ a x, ((![v4, v1525] : Fin 2 → IVec S16 32) a x).toNat < S32x33.size a)
theorem k0_idx564_inb : ∀ (i : grid0.Coords) (v4 : IVec S16 32) (v1525 : IVec S16 32) (k0_hw564 : k0_chk564 i v4 v1525), ∀ (k0_h3 : k0_cond3 i = 1#1), ∀ a x, ((![v4, v1525] : Fin 2 → IVec S16 32) a x).toNat < S32x33.size a := fun i v4 v1525 k0_hw564 k0_h3 => k0_hw564 k0_h3

def k0_chk565 (i : grid0.Coords) (v2 : IVec S16 32) (v1531 : IVec S16 32) : Prop :=
  (∀ (k0_h3 : k0_cond3 i = 1#1), ∀ a x, ((![v2, v1531] : Fin 2 → IVec S16 32) a x).toNat < S32x33.size a)
theorem k0_idx565_inb : ∀ (i : grid0.Coords) (v2 : IVec S16 32) (v1531 : IVec S16 32) (k0_hw565 : k0_chk565 i v2 v1531), ∀ (k0_h3 : k0_cond3 i = 1#1), ∀ a x, ((![v2, v1531] : Fin 2 → IVec S16 32) a x).toNat < S32x33.size a := fun i v2 v1531 k0_hw565 k0_h3 => k0_hw565 k0_h3

def k0_chk566 (i : grid0.Coords) (v4 : IVec S16 32) (v1537 : IVec S16 32) : Prop :=
  (∀ (k0_h3 : k0_cond3 i = 1#1), ∀ a x, ((![v4, v1537] : Fin 2 → IVec S16 32) a x).toNat < S32x33.size a)
theorem k0_idx566_inb : ∀ (i : grid0.Coords) (v4 : IVec S16 32) (v1537 : IVec S16 32) (k0_hw566 : k0_chk566 i v4 v1537), ∀ (k0_h3 : k0_cond3 i = 1#1), ∀ a x, ((![v4, v1537] : Fin 2 → IVec S16 32) a x).toNat < S32x33.size a := fun i v4 v1537 k0_hw566 k0_h3 => k0_hw566 k0_h3

def k0_chk567 (i : grid0.Coords) (v2 : IVec S16 32) (v1543 : IVec S16 32) : Prop :=
  (∀ (k0_h3 : k0_cond3 i = 1#1), ∀ a x, ((![v2, v1543] : Fin 2 → IVec S16 32) a x).toNat < S32x33.size a)
theorem k0_idx567_inb : ∀ (i : grid0.Coords) (v2 : IVec S16 32) (v1543 : IVec S16 32) (k0_hw567 : k0_chk567 i v2 v1543), ∀ (k0_h3 : k0_cond3 i = 1#1), ∀ a x, ((![v2, v1543] : Fin 2 → IVec S16 32) a x).toNat < S32x33.size a := fun i v2 v1543 k0_hw567 k0_h3 => k0_hw567 k0_h3

def k0_chk568 (i : grid0.Coords) (v4 : IVec S16 32) (v1549 : IVec S16 32) : Prop :=
  (∀ (k0_h3 : k0_cond3 i = 1#1), ∀ a x, ((![v4, v1549] : Fin 2 → IVec S16 32) a x).toNat < S32x33.size a)
theorem k0_idx568_inb : ∀ (i : grid0.Coords) (v4 : IVec S16 32) (v1549 : IVec S16 32) (k0_hw568 : k0_chk568 i v4 v1549), ∀ (k0_h3 : k0_cond3 i = 1#1), ∀ a x, ((![v4, v1549] : Fin 2 → IVec S16 32) a x).toNat < S32x33.size a := fun i v4 v1549 k0_hw568 k0_h3 => k0_hw568 k0_h3

def k0_chk569 (i : grid0.Coords) (v2 : IVec S16 32) (v1555 : IVec S16 32) : Prop :=
  (∀ (k0_h3 : k0_cond3 i = 1#1), ∀ a x, ((![v2, v1555] : Fin 2 → IVec S16 32) a x).toNat < S32x33.size a)
theorem k0_idx569_inb : ∀ (i : grid0.Coords) (v2 : IVec S16 32) (v1555 : IVec S16 32) (k0_hw569 : k0_chk569 i v2 v1555), ∀ (k0_h3 : k0_cond3 i = 1#1), ∀ a x, ((![v2, v1555] : Fin 2 → IVec S16 32) a x).toNat < S32x33.size a := fun i v2 v1555 k0_hw569 k0_h3 => k0_hw569 k0_h3

def k0_chk570 (i : grid0.Coords) (v4 : IVec S16 32) (v1561 : IVec S16 32) : Prop :=
  (∀ (k0_h3 : k0_cond3 i = 1#1), ∀ a x, ((![v4, v1561] : Fin 2 → IVec S16 32) a x).toNat < S32x33.size a)
theorem k0_idx570_inb : ∀ (i : grid0.Coords) (v4 : IVec S16 32) (v1561 : IVec S16 32) (k0_hw570 : k0_chk570 i v4 v1561), ∀ (k0_h3 : k0_cond3 i = 1#1), ∀ a x, ((![v4, v1561] : Fin 2 → IVec S16 32) a x).toNat < S32x33.size a := fun i v4 v1561 k0_hw570 k0_h3 => k0_hw570 k0_h3

def k0_chk571 (i : grid0.Coords) (v2 : IVec S16 32) (v1567 : IVec S16 32) : Prop :=
  (∀ (k0_h3 : k0_cond3 i = 1#1), ∀ a x, ((![v2, v1567] : Fin 2 → IVec S16 32) a x).toNat < S32x33.size a)
theorem k0_idx571_inb : ∀ (i : grid0.Coords) (v2 : IVec S16 32) (v1567 : IVec S16 32) (k0_hw571 : k0_chk571 i v2 v1567), ∀ (k0_h3 : k0_cond3 i = 1#1), ∀ a x, ((![v2, v1567] : Fin 2 → IVec S16 32) a x).toNat < S32x33.size a := fun i v2 v1567 k0_hw571 k0_h3 => k0_hw571 k0_h3

def k0_chk572 (i : grid0.Coords) (v4 : IVec S16 32) (v1573 : IVec S16 32) : Prop :=
  (∀ (k0_h3 : k0_cond3 i = 1#1), ∀ a x, ((![v4, v1573] : Fin 2 → IVec S16 32) a x).toNat < S32x33.size a)
theorem k0_idx572_inb : ∀ (i : grid0.Coords) (v4 : IVec S16 32) (v1573 : IVec S16 32) (k0_hw572 : k0_chk572 i v4 v1573), ∀ (k0_h3 : k0_cond3 i = 1#1), ∀ a x, ((![v4, v1573] : Fin 2 → IVec S16 32) a x).toNat < S32x33.size a := fun i v4 v1573 k0_hw572 k0_h3 => k0_hw572 k0_h3

def k0_chk573 (i : grid0.Coords) (v2 : IVec S16 32) (v1579 : IVec S16 32) : Prop :=
  (∀ (k0_h3 : k0_cond3 i = 1#1), ∀ a x, ((![v2, v1579] : Fin 2 → IVec S16 32) a x).toNat < S32x33.size a)
theorem k0_idx573_inb : ∀ (i : grid0.Coords) (v2 : IVec S16 32) (v1579 : IVec S16 32) (k0_hw573 : k0_chk573 i v2 v1579), ∀ (k0_h3 : k0_cond3 i = 1#1), ∀ a x, ((![v2, v1579] : Fin 2 → IVec S16 32) a x).toNat < S32x33.size a := fun i v2 v1579 k0_hw573 k0_h3 => k0_hw573 k0_h3

def k0_chk574 (i : grid0.Coords) (v4 : IVec S16 32) (v1585 : IVec S16 32) : Prop :=
  (∀ (k0_h3 : k0_cond3 i = 1#1), ∀ a x, ((![v4, v1585] : Fin 2 → IVec S16 32) a x).toNat < S32x33.size a)
theorem k0_idx574_inb : ∀ (i : grid0.Coords) (v4 : IVec S16 32) (v1585 : IVec S16 32) (k0_hw574 : k0_chk574 i v4 v1585), ∀ (k0_h3 : k0_cond3 i = 1#1), ∀ a x, ((![v4, v1585] : Fin 2 → IVec S16 32) a x).toNat < S32x33.size a := fun i v4 v1585 k0_hw574 k0_h3 => k0_hw574 k0_h3

def k0_chk575 (i : grid0.Coords) (v2 : IVec S16 32) (v1591 : IVec S16 32) : Prop :=
  (∀ (k0_h3 : k0_cond3 i = 1#1), ∀ a x, ((![v2, v1591] : Fin 2 → IVec S16 32) a x).toNat < S32x33.size a)
theorem k0_idx575_inb : ∀ (i : grid0.Coords) (v2 : IVec S16 32) (v1591 : IVec S16 32) (k0_hw575 : k0_chk575 i v2 v1591), ∀ (k0_h3 : k0_cond3 i = 1#1), ∀ a x, ((![v2, v1591] : Fin 2 → IVec S16 32) a x).toNat < S32x33.size a := fun i v2 v1591 k0_hw575 k0_h3 => k0_hw575 k0_h3

def k0_chk576 (i : grid0.Coords) (v4 : IVec S16 32) (v1597 : IVec S16 32) : Prop :=
  (∀ (k0_h3 : k0_cond3 i = 1#1), ∀ a x, ((![v4, v1597] : Fin 2 → IVec S16 32) a x).toNat < S32x33.size a)
theorem k0_idx576_inb : ∀ (i : grid0.Coords) (v4 : IVec S16 32) (v1597 : IVec S16 32) (k0_hw576 : k0_chk576 i v4 v1597), ∀ (k0_h3 : k0_cond3 i = 1#1), ∀ a x, ((![v4, v1597] : Fin 2 → IVec S16 32) a x).toNat < S32x33.size a := fun i v4 v1597 k0_hw576 k0_h3 => k0_hw576 k0_h3
def k0_off230 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24992_i32_r32 : BitVec 32 := 24992#32
  let c0_i32_1261_r32 : BitVec 32 := 0#32
  ![v1.toNat, 24992, 0]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let v2 : BitVec 32 := Scalar.muli v1 c3328_i32
  ![v2.toNat]
@[reducible] def k1_t1_loop : Scf.Loop 32 :=
  let c0_i32_0 : BitVec 32 := 0#32
  let c208_i32 : BitVec 32 := 208#32
  let v3 : BitVec 32 := Scalar.addi c0_i32_0 c208_i32
  let c1_i32 : BitVec 32 := 1#32
  ⟨c0_i32_0, v3, c1_i32⟩
def k1_off2 (k1_t1 : Fin k1_t1_loop.trips) : Fin 1 → Nat :=
  let c16_i32 : BitVec 32 := 16#32
  let c0_i32_0 : BitVec 32 := 0#32
  let c1_i32 : BitVec 32 := 1#32
  let arg11 : BitVec 32 := Scf.iv c0_i32_0 c1_i32 k1_t1
  let v61 : BitVec 32 := Scalar.muli c16_i32 arg11
  let v62 : Index := Scalar.indexCast v61
  ![v62.toNat]
@[reducible] def k1_t2_loop : Scf.Loop 32 :=
  let c0_i32_9 : BitVec 32 := 0#32
  let c52_i32 : BitVec 32 := 52#32
  let v9 : BitVec 32 := Scalar.addi c0_i32_9 c52_i32
  let c1_i32_10 : BitVec 32 := 1#32
  ⟨c0_i32_9, v9, c1_i32_10⟩

def k1_chk1 (v64 : IVec S16 32) : Prop :=
  (∀ a x, ((![v64] : Fin 1 → IVec S16 32) a x).toNat < S3328.size a)
theorem k1_idx1_inb : ∀ (v64 : IVec S16 32) (k1_hw1 : k1_chk1 v64), ∀ a x, ((![v64] : Fin 1 → IVec S16 32) a x).toNat < S3328.size a := fun v64 k1_hw1 => k1_hw1

def k1_chk2 (v67 : IVec S16 32) : Prop :=
  (∀ a x, ((![v67] : Fin 1 → IVec S16 32) a x).toNat < S3328.size a)
theorem k1_idx2_inb : ∀ (v67 : IVec S16 32) (k1_hw2 : k1_chk2 v67), ∀ a x, ((![v67] : Fin 1 → IVec S16 32) a x).toNat < S3328.size a := fun v67 k1_hw2 => k1_hw2

def k1_chk3 (v70 : IVec S16 32) : Prop :=
  (∀ a x, ((![v70] : Fin 1 → IVec S16 32) a x).toNat < S3328.size a)
theorem k1_idx3_inb : ∀ (v70 : IVec S16 32) (k1_hw3 : k1_chk3 v70), ∀ a x, ((![v70] : Fin 1 → IVec S16 32) a x).toNat < S3328.size a := fun v70 k1_hw3 => k1_hw3

def k1_chk4 (v73 : IVec S16 32) : Prop :=
  (∀ a x, ((![v73] : Fin 1 → IVec S16 32) a x).toNat < S3328.size a)
theorem k1_idx4_inb : ∀ (v73 : IVec S16 32) (k1_hw4 : k1_chk4 v73), ∀ a x, ((![v73] : Fin 1 → IVec S16 32) a x).toNat < S3328.size a := fun v73 k1_hw4 => k1_hw4

def k1_chk5 (v76 : IVec S16 32) : Prop :=
  (∀ a x, ((![v76] : Fin 1 → IVec S16 32) a x).toNat < S3328.size a)
theorem k1_idx5_inb : ∀ (v76 : IVec S16 32) (k1_hw5 : k1_chk5 v76), ∀ a x, ((![v76] : Fin 1 → IVec S16 32) a x).toNat < S3328.size a := fun v76 k1_hw5 => k1_hw5

def k1_chk6 (v79 : IVec S16 32) : Prop :=
  (∀ a x, ((![v79] : Fin 1 → IVec S16 32) a x).toNat < S3328.size a)
theorem k1_idx6_inb : ∀ (v79 : IVec S16 32) (k1_hw6 : k1_chk6 v79), ∀ a x, ((![v79] : Fin 1 → IVec S16 32) a x).toNat < S3328.size a := fun v79 k1_hw6 => k1_hw6

def k1_chk7 (v82 : IVec S16 32) : Prop :=
  (∀ a x, ((![v82] : Fin 1 → IVec S16 32) a x).toNat < S3328.size a)
theorem k1_idx7_inb : ∀ (v82 : IVec S16 32) (k1_hw7 : k1_chk7 v82), ∀ a x, ((![v82] : Fin 1 → IVec S16 32) a x).toNat < S3328.size a := fun v82 k1_hw7 => k1_hw7

def k1_chk8 (v85 : IVec S16 32) : Prop :=
  (∀ a x, ((![v85] : Fin 1 → IVec S16 32) a x).toNat < S3328.size a)
theorem k1_idx8_inb : ∀ (v85 : IVec S16 32) (k1_hw8 : k1_chk8 v85), ∀ a x, ((![v85] : Fin 1 → IVec S16 32) a x).toNat < S3328.size a := fun v85 k1_hw8 => k1_hw8

def k1_chk9 (v94 : IVec S16 32) (v103 : IVec S16 32) : Prop :=
  (∀ a x, ((![v103, v94] : Fin 2 → IVec S16 32) a x).toNat < S416x128.size a)
theorem k1_idx9_inb : ∀ (v94 : IVec S16 32) (v103 : IVec S16 32) (k1_hw9 : k1_chk9 v94 v103), ∀ a x, ((![v103, v94] : Fin 2 → IVec S16 32) a x).toNat < S416x128.size a := fun v94 v103 k1_hw9 => k1_hw9

def k1_chk10 (v95 : IVec S16 32) (v105 : IVec S16 32) : Prop :=
  (∀ a x, ((![v105, v95] : Fin 2 → IVec S16 32) a x).toNat < S416x128.size a)
theorem k1_idx10_inb : ∀ (v95 : IVec S16 32) (v105 : IVec S16 32) (k1_hw10 : k1_chk10 v95 v105), ∀ a x, ((![v105, v95] : Fin 2 → IVec S16 32) a x).toNat < S416x128.size a := fun v95 v105 k1_hw10 => k1_hw10

def k1_chk11 (v96 : IVec S16 32) (v107 : IVec S16 32) : Prop :=
  (∀ a x, ((![v107, v96] : Fin 2 → IVec S16 32) a x).toNat < S416x128.size a)
theorem k1_idx11_inb : ∀ (v96 : IVec S16 32) (v107 : IVec S16 32) (k1_hw11 : k1_chk11 v96 v107), ∀ a x, ((![v107, v96] : Fin 2 → IVec S16 32) a x).toNat < S416x128.size a := fun v96 v107 k1_hw11 => k1_hw11

def k1_chk12 (v97 : IVec S16 32) (v109 : IVec S16 32) : Prop :=
  (∀ a x, ((![v109, v97] : Fin 2 → IVec S16 32) a x).toNat < S416x128.size a)
theorem k1_idx12_inb : ∀ (v97 : IVec S16 32) (v109 : IVec S16 32) (k1_hw12 : k1_chk12 v97 v109), ∀ a x, ((![v109, v97] : Fin 2 → IVec S16 32) a x).toNat < S416x128.size a := fun v97 v109 k1_hw12 => k1_hw12

def k1_chk13 (v98 : IVec S16 32) (v111 : IVec S16 32) : Prop :=
  (∀ a x, ((![v111, v98] : Fin 2 → IVec S16 32) a x).toNat < S416x128.size a)
theorem k1_idx13_inb : ∀ (v98 : IVec S16 32) (v111 : IVec S16 32) (k1_hw13 : k1_chk13 v98 v111), ∀ a x, ((![v111, v98] : Fin 2 → IVec S16 32) a x).toNat < S416x128.size a := fun v98 v111 k1_hw13 => k1_hw13

def k1_chk14 (v99 : IVec S16 32) (v113 : IVec S16 32) : Prop :=
  (∀ a x, ((![v113, v99] : Fin 2 → IVec S16 32) a x).toNat < S416x128.size a)
theorem k1_idx14_inb : ∀ (v99 : IVec S16 32) (v113 : IVec S16 32) (k1_hw14 : k1_chk14 v99 v113), ∀ a x, ((![v113, v99] : Fin 2 → IVec S16 32) a x).toNat < S416x128.size a := fun v99 v113 k1_hw14 => k1_hw14

def k1_chk15 (v100 : IVec S16 32) (v115 : IVec S16 32) : Prop :=
  (∀ a x, ((![v115, v100] : Fin 2 → IVec S16 32) a x).toNat < S416x128.size a)
theorem k1_idx15_inb : ∀ (v100 : IVec S16 32) (v115 : IVec S16 32) (k1_hw15 : k1_chk15 v100 v115), ∀ a x, ((![v115, v100] : Fin 2 → IVec S16 32) a x).toNat < S416x128.size a := fun v100 v115 k1_hw15 => k1_hw15

def k1_chk16 (v101 : IVec S16 32) (v117 : IVec S16 32) : Prop :=
  (∀ a x, ((![v117, v101] : Fin 2 → IVec S16 32) a x).toNat < S416x128.size a)
theorem k1_idx16_inb : ∀ (v101 : IVec S16 32) (v117 : IVec S16 32) (k1_hw16 : k1_chk16 v101 v117), ∀ a x, ((![v117, v101] : Fin 2 → IVec S16 32) a x).toNat < S416x128.size a := fun v101 v117 k1_hw16 => k1_hw16

def k1_chk17 (v103 : IVec S16 32) (v127 : IVec S16 32) : Prop :=
  (∀ a x, ((![v103, v127] : Fin 2 → IVec S16 32) a x).toNat < S416x128.size a)
theorem k1_idx17_inb : ∀ (v103 : IVec S16 32) (v127 : IVec S16 32) (k1_hw17 : k1_chk17 v103 v127), ∀ a x, ((![v103, v127] : Fin 2 → IVec S16 32) a x).toNat < S416x128.size a := fun v103 v127 k1_hw17 => k1_hw17

def k1_chk18 (v105 : IVec S16 32) (v130 : IVec S16 32) : Prop :=
  (∀ a x, ((![v105, v130] : Fin 2 → IVec S16 32) a x).toNat < S416x128.size a)
theorem k1_idx18_inb : ∀ (v105 : IVec S16 32) (v130 : IVec S16 32) (k1_hw18 : k1_chk18 v105 v130), ∀ a x, ((![v105, v130] : Fin 2 → IVec S16 32) a x).toNat < S416x128.size a := fun v105 v130 k1_hw18 => k1_hw18

def k1_chk19 (v107 : IVec S16 32) (v133 : IVec S16 32) : Prop :=
  (∀ a x, ((![v107, v133] : Fin 2 → IVec S16 32) a x).toNat < S416x128.size a)
theorem k1_idx19_inb : ∀ (v107 : IVec S16 32) (v133 : IVec S16 32) (k1_hw19 : k1_chk19 v107 v133), ∀ a x, ((![v107, v133] : Fin 2 → IVec S16 32) a x).toNat < S416x128.size a := fun v107 v133 k1_hw19 => k1_hw19

def k1_chk20 (v109 : IVec S16 32) (v136 : IVec S16 32) : Prop :=
  (∀ a x, ((![v109, v136] : Fin 2 → IVec S16 32) a x).toNat < S416x128.size a)
theorem k1_idx20_inb : ∀ (v109 : IVec S16 32) (v136 : IVec S16 32) (k1_hw20 : k1_chk20 v109 v136), ∀ a x, ((![v109, v136] : Fin 2 → IVec S16 32) a x).toNat < S416x128.size a := fun v109 v136 k1_hw20 => k1_hw20

def k1_chk21 (v111 : IVec S16 32) (v139 : IVec S16 32) : Prop :=
  (∀ a x, ((![v111, v139] : Fin 2 → IVec S16 32) a x).toNat < S416x128.size a)
theorem k1_idx21_inb : ∀ (v111 : IVec S16 32) (v139 : IVec S16 32) (k1_hw21 : k1_chk21 v111 v139), ∀ a x, ((![v111, v139] : Fin 2 → IVec S16 32) a x).toNat < S416x128.size a := fun v111 v139 k1_hw21 => k1_hw21

def k1_chk22 (v113 : IVec S16 32) (v142 : IVec S16 32) : Prop :=
  (∀ a x, ((![v113, v142] : Fin 2 → IVec S16 32) a x).toNat < S416x128.size a)
theorem k1_idx22_inb : ∀ (v113 : IVec S16 32) (v142 : IVec S16 32) (k1_hw22 : k1_chk22 v113 v142), ∀ a x, ((![v113, v142] : Fin 2 → IVec S16 32) a x).toNat < S416x128.size a := fun v113 v142 k1_hw22 => k1_hw22

def k1_chk23 (v115 : IVec S16 32) (v145 : IVec S16 32) : Prop :=
  (∀ a x, ((![v115, v145] : Fin 2 → IVec S16 32) a x).toNat < S416x128.size a)
theorem k1_idx23_inb : ∀ (v115 : IVec S16 32) (v145 : IVec S16 32) (k1_hw23 : k1_chk23 v115 v145), ∀ a x, ((![v115, v145] : Fin 2 → IVec S16 32) a x).toNat < S416x128.size a := fun v115 v145 k1_hw23 => k1_hw23

def k1_chk24 (v117 : IVec S16 32) (v148 : IVec S16 32) : Prop :=
  (∀ a x, ((![v117, v148] : Fin 2 → IVec S16 32) a x).toNat < S416x128.size a)
theorem k1_idx24_inb : ∀ (v117 : IVec S16 32) (v148 : IVec S16 32) (k1_hw24 : k1_chk24 v117 v148), ∀ a x, ((![v117, v148] : Fin 2 → IVec S16 32) a x).toNat < S416x128.size a := fun v117 v148 k1_hw24 => k1_hw24
def k1_off3 (k1_t2 : Fin k1_t2_loop.trips) (c0_i32_120 : BitVec 32) : Fin 2 → Nat :=
  let c2_i32_119 : BitVec 32 := 2#32
  let c0_i32_9 : BitVec 32 := 0#32
  let c1_i32_10 : BitVec 32 := 1#32
  let arg11 : BitVec 32 := Scf.iv c0_i32_9 c1_i32_10 k1_t2
  let v150 : BitVec 32 := Scalar.muli c2_i32_119 arg11
  let v151 : BitVec 32 := Scalar.addi v150 c0_i32_120
  let v152 : Index := Scalar.indexCast v151
  let c0 : Index := 0#32
  ![v152.toNat, 0]
def k1_off4 (k1_t2 : Fin k1_t2_loop.trips) (c0_i32_120 : BitVec 32) : Fin 2 → Nat :=
  let c2_i32_119 : BitVec 32 := 2#32
  let c0_i32_9 : BitVec 32 := 0#32
  let c1_i32_10 : BitVec 32 := 1#32
  let arg11 : BitVec 32 := Scf.iv c0_i32_9 c1_i32_10 k1_t2
  let v150 : BitVec 32 := Scalar.muli c2_i32_119 arg11
  let v151 : BitVec 32 := Scalar.addi v150 c0_i32_120
  let v154 : Index := Scalar.indexCast v151
  let c16 : Index := 16#32
  ![v154.toNat, 16]
def k1_off5 (k1_t2 : Fin k1_t2_loop.trips) (c0_i32_121 : BitVec 32) : Fin 2 → Nat :=
  let c2_i32_119 : BitVec 32 := 2#32
  let c0_i32_9 : BitVec 32 := 0#32
  let c1_i32_10 : BitVec 32 := 1#32
  let arg11 : BitVec 32 := Scf.iv c0_i32_9 c1_i32_10 k1_t2
  let v150 : BitVec 32 := Scalar.muli c2_i32_119 arg11
  let v156 : BitVec 32 := Scalar.addi v150 c0_i32_121
  let v157 : Index := Scalar.indexCast v156
  let c32 : Index := 32#32
  ![v157.toNat, 32]
def k1_off6 (k1_t2 : Fin k1_t2_loop.trips) (c0_i32_121 : BitVec 32) : Fin 2 → Nat :=
  let c2_i32_119 : BitVec 32 := 2#32
  let c0_i32_9 : BitVec 32 := 0#32
  let c1_i32_10 : BitVec 32 := 1#32
  let arg11 : BitVec 32 := Scf.iv c0_i32_9 c1_i32_10 k1_t2
  let v150 : BitVec 32 := Scalar.muli c2_i32_119 arg11
  let v156 : BitVec 32 := Scalar.addi v150 c0_i32_121
  let v159 : Index := Scalar.indexCast v156
  let c48 : Index := 48#32
  ![v159.toNat, 48]
def k1_off7 (k1_t2 : Fin k1_t2_loop.trips) (c0_i32_122 : BitVec 32) : Fin 2 → Nat :=
  let c2_i32_119 : BitVec 32 := 2#32
  let c0_i32_9 : BitVec 32 := 0#32
  let c1_i32_10 : BitVec 32 := 1#32
  let arg11 : BitVec 32 := Scf.iv c0_i32_9 c1_i32_10 k1_t2
  let v150 : BitVec 32 := Scalar.muli c2_i32_119 arg11
  let v161 : BitVec 32 := Scalar.addi v150 c0_i32_122
  let v162 : Index := Scalar.indexCast v161
  let c64 : Index := 64#32
  ![v162.toNat, 64]
def k1_off8 (k1_t2 : Fin k1_t2_loop.trips) (c0_i32_122 : BitVec 32) : Fin 2 → Nat :=
  let c2_i32_119 : BitVec 32 := 2#32
  let c0_i32_9 : BitVec 32 := 0#32
  let c1_i32_10 : BitVec 32 := 1#32
  let arg11 : BitVec 32 := Scf.iv c0_i32_9 c1_i32_10 k1_t2
  let v150 : BitVec 32 := Scalar.muli c2_i32_119 arg11
  let v161 : BitVec 32 := Scalar.addi v150 c0_i32_122
  let v164 : Index := Scalar.indexCast v161
  let c80 : Index := 80#32
  ![v164.toNat, 80]
def k1_off9 (k1_t2 : Fin k1_t2_loop.trips) (c0_i32_123 : BitVec 32) : Fin 2 → Nat :=
  let c2_i32_119 : BitVec 32 := 2#32
  let c0_i32_9 : BitVec 32 := 0#32
  let c1_i32_10 : BitVec 32 := 1#32
  let arg11 : BitVec 32 := Scf.iv c0_i32_9 c1_i32_10 k1_t2
  let v150 : BitVec 32 := Scalar.muli c2_i32_119 arg11
  let v166 : BitVec 32 := Scalar.addi v150 c0_i32_123
  let v167 : Index := Scalar.indexCast v166
  let c96 : Index := 96#32
  ![v167.toNat, 96]
def k1_off10 (k1_t2 : Fin k1_t2_loop.trips) (c0_i32_123 : BitVec 32) : Fin 2 → Nat :=
  let c2_i32_119 : BitVec 32 := 2#32
  let c0_i32_9 : BitVec 32 := 0#32
  let c1_i32_10 : BitVec 32 := 1#32
  let arg11 : BitVec 32 := Scf.iv c0_i32_9 c1_i32_10 k1_t2
  let v150 : BitVec 32 := Scalar.muli c2_i32_119 arg11
  let v166 : BitVec 32 := Scalar.addi v150 c0_i32_123
  let v169 : Index := Scalar.indexCast v166
  let c112 : Index := 112#32
  ![v169.toNat, 112]
def k1_off11 (i : grid1.Coords) (c0_i32_12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c832_i32 : BitVec 32 := 832#32
  let v10 : BitVec 32 := Scalar.muli v1 c832_i32
  let v11 : BitVec 32 := Scalar.addi v10 c0_i32_12
  let c0_i32_93_r1 : BitVec 32 := 0#32
  ![v11.toNat, 0]
@[reducible] def k1_t3_loop : Scf.Loop 32 :=
  let c0_i32_19 : BitVec 32 := 0#32
  let c52_i32_20 : BitVec 32 := 52#32
  let v16 : BitVec 32 := Scalar.addi c0_i32_19 c52_i32_20
  let c1_i32_21 : BitVec 32 := 1#32
  ⟨c0_i32_19, v16, c1_i32_21⟩

def k1_chk25 (v64 : IVec S16 32) : Prop :=
  (∀ a x, ((![v64] : Fin 1 → IVec S16 32) a x).toNat < S3328.size a)
theorem k1_idx25_inb : ∀ (v64 : IVec S16 32) (k1_hw25 : k1_chk25 v64), ∀ a x, ((![v64] : Fin 1 → IVec S16 32) a x).toNat < S3328.size a := fun v64 k1_hw25 => k1_hw25

def k1_chk26 (v67 : IVec S16 32) : Prop :=
  (∀ a x, ((![v67] : Fin 1 → IVec S16 32) a x).toNat < S3328.size a)
theorem k1_idx26_inb : ∀ (v67 : IVec S16 32) (k1_hw26 : k1_chk26 v67), ∀ a x, ((![v67] : Fin 1 → IVec S16 32) a x).toNat < S3328.size a := fun v67 k1_hw26 => k1_hw26

def k1_chk27 (v70 : IVec S16 32) : Prop :=
  (∀ a x, ((![v70] : Fin 1 → IVec S16 32) a x).toNat < S3328.size a)
theorem k1_idx27_inb : ∀ (v70 : IVec S16 32) (k1_hw27 : k1_chk27 v70), ∀ a x, ((![v70] : Fin 1 → IVec S16 32) a x).toNat < S3328.size a := fun v70 k1_hw27 => k1_hw27

def k1_chk28 (v73 : IVec S16 32) : Prop :=
  (∀ a x, ((![v73] : Fin 1 → IVec S16 32) a x).toNat < S3328.size a)
theorem k1_idx28_inb : ∀ (v73 : IVec S16 32) (k1_hw28 : k1_chk28 v73), ∀ a x, ((![v73] : Fin 1 → IVec S16 32) a x).toNat < S3328.size a := fun v73 k1_hw28 => k1_hw28

def k1_chk29 (v76 : IVec S16 32) : Prop :=
  (∀ a x, ((![v76] : Fin 1 → IVec S16 32) a x).toNat < S3328.size a)
theorem k1_idx29_inb : ∀ (v76 : IVec S16 32) (k1_hw29 : k1_chk29 v76), ∀ a x, ((![v76] : Fin 1 → IVec S16 32) a x).toNat < S3328.size a := fun v76 k1_hw29 => k1_hw29

def k1_chk30 (v79 : IVec S16 32) : Prop :=
  (∀ a x, ((![v79] : Fin 1 → IVec S16 32) a x).toNat < S3328.size a)
theorem k1_idx30_inb : ∀ (v79 : IVec S16 32) (k1_hw30 : k1_chk30 v79), ∀ a x, ((![v79] : Fin 1 → IVec S16 32) a x).toNat < S3328.size a := fun v79 k1_hw30 => k1_hw30

def k1_chk31 (v82 : IVec S16 32) : Prop :=
  (∀ a x, ((![v82] : Fin 1 → IVec S16 32) a x).toNat < S3328.size a)
theorem k1_idx31_inb : ∀ (v82 : IVec S16 32) (k1_hw31 : k1_chk31 v82), ∀ a x, ((![v82] : Fin 1 → IVec S16 32) a x).toNat < S3328.size a := fun v82 k1_hw31 => k1_hw31

def k1_chk32 (v85 : IVec S16 32) : Prop :=
  (∀ a x, ((![v85] : Fin 1 → IVec S16 32) a x).toNat < S3328.size a)
theorem k1_idx32_inb : ∀ (v85 : IVec S16 32) (k1_hw32 : k1_chk32 v85), ∀ a x, ((![v85] : Fin 1 → IVec S16 32) a x).toNat < S3328.size a := fun v85 k1_hw32 => k1_hw32

def k1_chk33 (v94 : IVec S16 32) (v103 : IVec S16 32) : Prop :=
  (∀ a x, ((![v103, v94] : Fin 2 → IVec S16 32) a x).toNat < S416x128.size a)
theorem k1_idx33_inb : ∀ (v94 : IVec S16 32) (v103 : IVec S16 32) (k1_hw33 : k1_chk33 v94 v103), ∀ a x, ((![v103, v94] : Fin 2 → IVec S16 32) a x).toNat < S416x128.size a := fun v94 v103 k1_hw33 => k1_hw33

def k1_chk34 (v95 : IVec S16 32) (v105 : IVec S16 32) : Prop :=
  (∀ a x, ((![v105, v95] : Fin 2 → IVec S16 32) a x).toNat < S416x128.size a)
theorem k1_idx34_inb : ∀ (v95 : IVec S16 32) (v105 : IVec S16 32) (k1_hw34 : k1_chk34 v95 v105), ∀ a x, ((![v105, v95] : Fin 2 → IVec S16 32) a x).toNat < S416x128.size a := fun v95 v105 k1_hw34 => k1_hw34

def k1_chk35 (v96 : IVec S16 32) (v107 : IVec S16 32) : Prop :=
  (∀ a x, ((![v107, v96] : Fin 2 → IVec S16 32) a x).toNat < S416x128.size a)
theorem k1_idx35_inb : ∀ (v96 : IVec S16 32) (v107 : IVec S16 32) (k1_hw35 : k1_chk35 v96 v107), ∀ a x, ((![v107, v96] : Fin 2 → IVec S16 32) a x).toNat < S416x128.size a := fun v96 v107 k1_hw35 => k1_hw35

def k1_chk36 (v97 : IVec S16 32) (v109 : IVec S16 32) : Prop :=
  (∀ a x, ((![v109, v97] : Fin 2 → IVec S16 32) a x).toNat < S416x128.size a)
theorem k1_idx36_inb : ∀ (v97 : IVec S16 32) (v109 : IVec S16 32) (k1_hw36 : k1_chk36 v97 v109), ∀ a x, ((![v109, v97] : Fin 2 → IVec S16 32) a x).toNat < S416x128.size a := fun v97 v109 k1_hw36 => k1_hw36

def k1_chk37 (v98 : IVec S16 32) (v111 : IVec S16 32) : Prop :=
  (∀ a x, ((![v111, v98] : Fin 2 → IVec S16 32) a x).toNat < S416x128.size a)
theorem k1_idx37_inb : ∀ (v98 : IVec S16 32) (v111 : IVec S16 32) (k1_hw37 : k1_chk37 v98 v111), ∀ a x, ((![v111, v98] : Fin 2 → IVec S16 32) a x).toNat < S416x128.size a := fun v98 v111 k1_hw37 => k1_hw37

def k1_chk38 (v99 : IVec S16 32) (v113 : IVec S16 32) : Prop :=
  (∀ a x, ((![v113, v99] : Fin 2 → IVec S16 32) a x).toNat < S416x128.size a)
theorem k1_idx38_inb : ∀ (v99 : IVec S16 32) (v113 : IVec S16 32) (k1_hw38 : k1_chk38 v99 v113), ∀ a x, ((![v113, v99] : Fin 2 → IVec S16 32) a x).toNat < S416x128.size a := fun v99 v113 k1_hw38 => k1_hw38

def k1_chk39 (v100 : IVec S16 32) (v115 : IVec S16 32) : Prop :=
  (∀ a x, ((![v115, v100] : Fin 2 → IVec S16 32) a x).toNat < S416x128.size a)
theorem k1_idx39_inb : ∀ (v100 : IVec S16 32) (v115 : IVec S16 32) (k1_hw39 : k1_chk39 v100 v115), ∀ a x, ((![v115, v100] : Fin 2 → IVec S16 32) a x).toNat < S416x128.size a := fun v100 v115 k1_hw39 => k1_hw39

def k1_chk40 (v101 : IVec S16 32) (v117 : IVec S16 32) : Prop :=
  (∀ a x, ((![v117, v101] : Fin 2 → IVec S16 32) a x).toNat < S416x128.size a)
theorem k1_idx40_inb : ∀ (v101 : IVec S16 32) (v117 : IVec S16 32) (k1_hw40 : k1_chk40 v101 v117), ∀ a x, ((![v117, v101] : Fin 2 → IVec S16 32) a x).toNat < S416x128.size a := fun v101 v117 k1_hw40 => k1_hw40

def k1_chk41 (v103 : IVec S16 32) (v127 : IVec S16 32) : Prop :=
  (∀ a x, ((![v103, v127] : Fin 2 → IVec S16 32) a x).toNat < S416x128.size a)
theorem k1_idx41_inb : ∀ (v103 : IVec S16 32) (v127 : IVec S16 32) (k1_hw41 : k1_chk41 v103 v127), ∀ a x, ((![v103, v127] : Fin 2 → IVec S16 32) a x).toNat < S416x128.size a := fun v103 v127 k1_hw41 => k1_hw41

def k1_chk42 (v105 : IVec S16 32) (v130 : IVec S16 32) : Prop :=
  (∀ a x, ((![v105, v130] : Fin 2 → IVec S16 32) a x).toNat < S416x128.size a)
theorem k1_idx42_inb : ∀ (v105 : IVec S16 32) (v130 : IVec S16 32) (k1_hw42 : k1_chk42 v105 v130), ∀ a x, ((![v105, v130] : Fin 2 → IVec S16 32) a x).toNat < S416x128.size a := fun v105 v130 k1_hw42 => k1_hw42

def k1_chk43 (v107 : IVec S16 32) (v133 : IVec S16 32) : Prop :=
  (∀ a x, ((![v107, v133] : Fin 2 → IVec S16 32) a x).toNat < S416x128.size a)
theorem k1_idx43_inb : ∀ (v107 : IVec S16 32) (v133 : IVec S16 32) (k1_hw43 : k1_chk43 v107 v133), ∀ a x, ((![v107, v133] : Fin 2 → IVec S16 32) a x).toNat < S416x128.size a := fun v107 v133 k1_hw43 => k1_hw43

def k1_chk44 (v109 : IVec S16 32) (v136 : IVec S16 32) : Prop :=
  (∀ a x, ((![v109, v136] : Fin 2 → IVec S16 32) a x).toNat < S416x128.size a)
theorem k1_idx44_inb : ∀ (v109 : IVec S16 32) (v136 : IVec S16 32) (k1_hw44 : k1_chk44 v109 v136), ∀ a x, ((![v109, v136] : Fin 2 → IVec S16 32) a x).toNat < S416x128.size a := fun v109 v136 k1_hw44 => k1_hw44

def k1_chk45 (v111 : IVec S16 32) (v139 : IVec S16 32) : Prop :=
  (∀ a x, ((![v111, v139] : Fin 2 → IVec S16 32) a x).toNat < S416x128.size a)
theorem k1_idx45_inb : ∀ (v111 : IVec S16 32) (v139 : IVec S16 32) (k1_hw45 : k1_chk45 v111 v139), ∀ a x, ((![v111, v139] : Fin 2 → IVec S16 32) a x).toNat < S416x128.size a := fun v111 v139 k1_hw45 => k1_hw45

def k1_chk46 (v113 : IVec S16 32) (v142 : IVec S16 32) : Prop :=
  (∀ a x, ((![v113, v142] : Fin 2 → IVec S16 32) a x).toNat < S416x128.size a)
theorem k1_idx46_inb : ∀ (v113 : IVec S16 32) (v142 : IVec S16 32) (k1_hw46 : k1_chk46 v113 v142), ∀ a x, ((![v113, v142] : Fin 2 → IVec S16 32) a x).toNat < S416x128.size a := fun v113 v142 k1_hw46 => k1_hw46

def k1_chk47 (v115 : IVec S16 32) (v145 : IVec S16 32) : Prop :=
  (∀ a x, ((![v115, v145] : Fin 2 → IVec S16 32) a x).toNat < S416x128.size a)
theorem k1_idx47_inb : ∀ (v115 : IVec S16 32) (v145 : IVec S16 32) (k1_hw47 : k1_chk47 v115 v145), ∀ a x, ((![v115, v145] : Fin 2 → IVec S16 32) a x).toNat < S416x128.size a := fun v115 v145 k1_hw47 => k1_hw47

def k1_chk48 (v117 : IVec S16 32) (v148 : IVec S16 32) : Prop :=
  (∀ a x, ((![v117, v148] : Fin 2 → IVec S16 32) a x).toNat < S416x128.size a)
theorem k1_idx48_inb : ∀ (v117 : IVec S16 32) (v148 : IVec S16 32) (k1_hw48 : k1_chk48 v117 v148), ∀ a x, ((![v117, v148] : Fin 2 → IVec S16 32) a x).toNat < S416x128.size a := fun v117 v148 k1_hw48 => k1_hw48
def k1_off12 (k1_t3 : Fin k1_t3_loop.trips) (c0_i32_120 : BitVec 32) : Fin 2 → Nat :=
  let c2_i32_119 : BitVec 32 := 2#32
  let c0_i32_19 : BitVec 32 := 0#32
  let c1_i32_21 : BitVec 32 := 1#32
  let arg11 : BitVec 32 := Scf.iv c0_i32_19 c1_i32_21 k1_t3
  let v150 : BitVec 32 := Scalar.muli c2_i32_119 arg11
  let v151 : BitVec 32 := Scalar.addi v150 c0_i32_120
  let v152 : Index := Scalar.indexCast v151
  let c0 : Index := 0#32
  ![v152.toNat, 0]
def k1_off13 (k1_t3 : Fin k1_t3_loop.trips) (c0_i32_120 : BitVec 32) : Fin 2 → Nat :=
  let c2_i32_119 : BitVec 32 := 2#32
  let c0_i32_19 : BitVec 32 := 0#32
  let c1_i32_21 : BitVec 32 := 1#32
  let arg11 : BitVec 32 := Scf.iv c0_i32_19 c1_i32_21 k1_t3
  let v150 : BitVec 32 := Scalar.muli c2_i32_119 arg11
  let v151 : BitVec 32 := Scalar.addi v150 c0_i32_120
  let v154 : Index := Scalar.indexCast v151
  let c16 : Index := 16#32
  ![v154.toNat, 16]
def k1_off14 (k1_t3 : Fin k1_t3_loop.trips) (c0_i32_121 : BitVec 32) : Fin 2 → Nat :=
  let c2_i32_119 : BitVec 32 := 2#32
  let c0_i32_19 : BitVec 32 := 0#32
  let c1_i32_21 : BitVec 32 := 1#32
  let arg11 : BitVec 32 := Scf.iv c0_i32_19 c1_i32_21 k1_t3
  let v150 : BitVec 32 := Scalar.muli c2_i32_119 arg11
  let v156 : BitVec 32 := Scalar.addi v150 c0_i32_121
  let v157 : Index := Scalar.indexCast v156
  let c32 : Index := 32#32
  ![v157.toNat, 32]
def k1_off15 (k1_t3 : Fin k1_t3_loop.trips) (c0_i32_121 : BitVec 32) : Fin 2 → Nat :=
  let c2_i32_119 : BitVec 32 := 2#32
  let c0_i32_19 : BitVec 32 := 0#32
  let c1_i32_21 : BitVec 32 := 1#32
  let arg11 : BitVec 32 := Scf.iv c0_i32_19 c1_i32_21 k1_t3
  let v150 : BitVec 32 := Scalar.muli c2_i32_119 arg11
  let v156 : BitVec 32 := Scalar.addi v150 c0_i32_121
  let v159 : Index := Scalar.indexCast v156
  let c48 : Index := 48#32
  ![v159.toNat, 48]
def k1_off16 (k1_t3 : Fin k1_t3_loop.trips) (c0_i32_122 : BitVec 32) : Fin 2 → Nat :=
  let c2_i32_119 : BitVec 32 := 2#32
  let c0_i32_19 : BitVec 32 := 0#32
  let c1_i32_21 : BitVec 32 := 1#32
  let arg11 : BitVec 32 := Scf.iv c0_i32_19 c1_i32_21 k1_t3
  let v150 : BitVec 32 := Scalar.muli c2_i32_119 arg11
  let v161 : BitVec 32 := Scalar.addi v150 c0_i32_122
  let v162 : Index := Scalar.indexCast v161
  let c64 : Index := 64#32
  ![v162.toNat, 64]
def k1_off17 (k1_t3 : Fin k1_t3_loop.trips) (c0_i32_122 : BitVec 32) : Fin 2 → Nat :=
  let c2_i32_119 : BitVec 32 := 2#32
  let c0_i32_19 : BitVec 32 := 0#32
  let c1_i32_21 : BitVec 32 := 1#32
  let arg11 : BitVec 32 := Scf.iv c0_i32_19 c1_i32_21 k1_t3
  let v150 : BitVec 32 := Scalar.muli c2_i32_119 arg11
  let v161 : BitVec 32 := Scalar.addi v150 c0_i32_122
  let v164 : Index := Scalar.indexCast v161
  let c80 : Index := 80#32
  ![v164.toNat, 80]
def k1_off18 (k1_t3 : Fin k1_t3_loop.trips) (c0_i32_123 : BitVec 32) : Fin 2 → Nat :=
  let c2_i32_119 : BitVec 32 := 2#32
  let c0_i32_19 : BitVec 32 := 0#32
  let c1_i32_21 : BitVec 32 := 1#32
  let arg11 : BitVec 32 := Scf.iv c0_i32_19 c1_i32_21 k1_t3
  let v150 : BitVec 32 := Scalar.muli c2_i32_119 arg11
  let v166 : BitVec 32 := Scalar.addi v150 c0_i32_123
  let v167 : Index := Scalar.indexCast v166
  let c96 : Index := 96#32
  ![v167.toNat, 96]
def k1_off19 (k1_t3 : Fin k1_t3_loop.trips) (c0_i32_123 : BitVec 32) : Fin 2 → Nat :=
  let c2_i32_119 : BitVec 32 := 2#32
  let c0_i32_19 : BitVec 32 := 0#32
  let c1_i32_21 : BitVec 32 := 1#32
  let arg11 : BitVec 32 := Scf.iv c0_i32_19 c1_i32_21 k1_t3
  let v150 : BitVec 32 := Scalar.muli c2_i32_119 arg11
  let v166 : BitVec 32 := Scalar.addi v150 c0_i32_123
  let v169 : Index := Scalar.indexCast v166
  let c112 : Index := 112#32
  ![v169.toNat, 112]
@[reducible] def k1_t4_loop : Scf.Loop 32 :=
  let c0_i32_31 : BitVec 32 := 0#32
  let c52_i32_32 : BitVec 32 := 52#32
  let v23 : BitVec 32 := Scalar.addi c0_i32_31 c52_i32_32
  let c1_i32_33 : BitVec 32 := 1#32
  ⟨c0_i32_31, v23, c1_i32_33⟩

def k1_chk49 (v64 : IVec S16 32) : Prop :=
  (∀ a x, ((![v64] : Fin 1 → IVec S16 32) a x).toNat < S3328.size a)
theorem k1_idx49_inb : ∀ (v64 : IVec S16 32) (k1_hw49 : k1_chk49 v64), ∀ a x, ((![v64] : Fin 1 → IVec S16 32) a x).toNat < S3328.size a := fun v64 k1_hw49 => k1_hw49

def k1_chk50 (v67 : IVec S16 32) : Prop :=
  (∀ a x, ((![v67] : Fin 1 → IVec S16 32) a x).toNat < S3328.size a)
theorem k1_idx50_inb : ∀ (v67 : IVec S16 32) (k1_hw50 : k1_chk50 v67), ∀ a x, ((![v67] : Fin 1 → IVec S16 32) a x).toNat < S3328.size a := fun v67 k1_hw50 => k1_hw50

def k1_chk51 (v70 : IVec S16 32) : Prop :=
  (∀ a x, ((![v70] : Fin 1 → IVec S16 32) a x).toNat < S3328.size a)
theorem k1_idx51_inb : ∀ (v70 : IVec S16 32) (k1_hw51 : k1_chk51 v70), ∀ a x, ((![v70] : Fin 1 → IVec S16 32) a x).toNat < S3328.size a := fun v70 k1_hw51 => k1_hw51

def k1_chk52 (v73 : IVec S16 32) : Prop :=
  (∀ a x, ((![v73] : Fin 1 → IVec S16 32) a x).toNat < S3328.size a)
theorem k1_idx52_inb : ∀ (v73 : IVec S16 32) (k1_hw52 : k1_chk52 v73), ∀ a x, ((![v73] : Fin 1 → IVec S16 32) a x).toNat < S3328.size a := fun v73 k1_hw52 => k1_hw52

def k1_chk53 (v76 : IVec S16 32) : Prop :=
  (∀ a x, ((![v76] : Fin 1 → IVec S16 32) a x).toNat < S3328.size a)
theorem k1_idx53_inb : ∀ (v76 : IVec S16 32) (k1_hw53 : k1_chk53 v76), ∀ a x, ((![v76] : Fin 1 → IVec S16 32) a x).toNat < S3328.size a := fun v76 k1_hw53 => k1_hw53

def k1_chk54 (v79 : IVec S16 32) : Prop :=
  (∀ a x, ((![v79] : Fin 1 → IVec S16 32) a x).toNat < S3328.size a)
theorem k1_idx54_inb : ∀ (v79 : IVec S16 32) (k1_hw54 : k1_chk54 v79), ∀ a x, ((![v79] : Fin 1 → IVec S16 32) a x).toNat < S3328.size a := fun v79 k1_hw54 => k1_hw54

def k1_chk55 (v82 : IVec S16 32) : Prop :=
  (∀ a x, ((![v82] : Fin 1 → IVec S16 32) a x).toNat < S3328.size a)
theorem k1_idx55_inb : ∀ (v82 : IVec S16 32) (k1_hw55 : k1_chk55 v82), ∀ a x, ((![v82] : Fin 1 → IVec S16 32) a x).toNat < S3328.size a := fun v82 k1_hw55 => k1_hw55

def k1_chk56 (v85 : IVec S16 32) : Prop :=
  (∀ a x, ((![v85] : Fin 1 → IVec S16 32) a x).toNat < S3328.size a)
theorem k1_idx56_inb : ∀ (v85 : IVec S16 32) (k1_hw56 : k1_chk56 v85), ∀ a x, ((![v85] : Fin 1 → IVec S16 32) a x).toNat < S3328.size a := fun v85 k1_hw56 => k1_hw56

def k1_chk57 (v94 : IVec S16 32) (v103 : IVec S16 32) : Prop :=
  (∀ a x, ((![v103, v94] : Fin 2 → IVec S16 32) a x).toNat < S416x128.size a)
theorem k1_idx57_inb : ∀ (v94 : IVec S16 32) (v103 : IVec S16 32) (k1_hw57 : k1_chk57 v94 v103), ∀ a x, ((![v103, v94] : Fin 2 → IVec S16 32) a x).toNat < S416x128.size a := fun v94 v103 k1_hw57 => k1_hw57

def k1_chk58 (v95 : IVec S16 32) (v105 : IVec S16 32) : Prop :=
  (∀ a x, ((![v105, v95] : Fin 2 → IVec S16 32) a x).toNat < S416x128.size a)
theorem k1_idx58_inb : ∀ (v95 : IVec S16 32) (v105 : IVec S16 32) (k1_hw58 : k1_chk58 v95 v105), ∀ a x, ((![v105, v95] : Fin 2 → IVec S16 32) a x).toNat < S416x128.size a := fun v95 v105 k1_hw58 => k1_hw58

def k1_chk59 (v96 : IVec S16 32) (v107 : IVec S16 32) : Prop :=
  (∀ a x, ((![v107, v96] : Fin 2 → IVec S16 32) a x).toNat < S416x128.size a)
theorem k1_idx59_inb : ∀ (v96 : IVec S16 32) (v107 : IVec S16 32) (k1_hw59 : k1_chk59 v96 v107), ∀ a x, ((![v107, v96] : Fin 2 → IVec S16 32) a x).toNat < S416x128.size a := fun v96 v107 k1_hw59 => k1_hw59

def k1_chk60 (v97 : IVec S16 32) (v109 : IVec S16 32) : Prop :=
  (∀ a x, ((![v109, v97] : Fin 2 → IVec S16 32) a x).toNat < S416x128.size a)
theorem k1_idx60_inb : ∀ (v97 : IVec S16 32) (v109 : IVec S16 32) (k1_hw60 : k1_chk60 v97 v109), ∀ a x, ((![v109, v97] : Fin 2 → IVec S16 32) a x).toNat < S416x128.size a := fun v97 v109 k1_hw60 => k1_hw60

def k1_chk61 (v98 : IVec S16 32) (v111 : IVec S16 32) : Prop :=
  (∀ a x, ((![v111, v98] : Fin 2 → IVec S16 32) a x).toNat < S416x128.size a)
theorem k1_idx61_inb : ∀ (v98 : IVec S16 32) (v111 : IVec S16 32) (k1_hw61 : k1_chk61 v98 v111), ∀ a x, ((![v111, v98] : Fin 2 → IVec S16 32) a x).toNat < S416x128.size a := fun v98 v111 k1_hw61 => k1_hw61

def k1_chk62 (v99 : IVec S16 32) (v113 : IVec S16 32) : Prop :=
  (∀ a x, ((![v113, v99] : Fin 2 → IVec S16 32) a x).toNat < S416x128.size a)
theorem k1_idx62_inb : ∀ (v99 : IVec S16 32) (v113 : IVec S16 32) (k1_hw62 : k1_chk62 v99 v113), ∀ a x, ((![v113, v99] : Fin 2 → IVec S16 32) a x).toNat < S416x128.size a := fun v99 v113 k1_hw62 => k1_hw62

def k1_chk63 (v100 : IVec S16 32) (v115 : IVec S16 32) : Prop :=
  (∀ a x, ((![v115, v100] : Fin 2 → IVec S16 32) a x).toNat < S416x128.size a)
theorem k1_idx63_inb : ∀ (v100 : IVec S16 32) (v115 : IVec S16 32) (k1_hw63 : k1_chk63 v100 v115), ∀ a x, ((![v115, v100] : Fin 2 → IVec S16 32) a x).toNat < S416x128.size a := fun v100 v115 k1_hw63 => k1_hw63

def k1_chk64 (v101 : IVec S16 32) (v117 : IVec S16 32) : Prop :=
  (∀ a x, ((![v117, v101] : Fin 2 → IVec S16 32) a x).toNat < S416x128.size a)
theorem k1_idx64_inb : ∀ (v101 : IVec S16 32) (v117 : IVec S16 32) (k1_hw64 : k1_chk64 v101 v117), ∀ a x, ((![v117, v101] : Fin 2 → IVec S16 32) a x).toNat < S416x128.size a := fun v101 v117 k1_hw64 => k1_hw64

def k1_chk65 (v103 : IVec S16 32) (v127 : IVec S16 32) : Prop :=
  (∀ a x, ((![v103, v127] : Fin 2 → IVec S16 32) a x).toNat < S416x128.size a)
theorem k1_idx65_inb : ∀ (v103 : IVec S16 32) (v127 : IVec S16 32) (k1_hw65 : k1_chk65 v103 v127), ∀ a x, ((![v103, v127] : Fin 2 → IVec S16 32) a x).toNat < S416x128.size a := fun v103 v127 k1_hw65 => k1_hw65

def k1_chk66 (v105 : IVec S16 32) (v130 : IVec S16 32) : Prop :=
  (∀ a x, ((![v105, v130] : Fin 2 → IVec S16 32) a x).toNat < S416x128.size a)
theorem k1_idx66_inb : ∀ (v105 : IVec S16 32) (v130 : IVec S16 32) (k1_hw66 : k1_chk66 v105 v130), ∀ a x, ((![v105, v130] : Fin 2 → IVec S16 32) a x).toNat < S416x128.size a := fun v105 v130 k1_hw66 => k1_hw66

def k1_chk67 (v107 : IVec S16 32) (v133 : IVec S16 32) : Prop :=
  (∀ a x, ((![v107, v133] : Fin 2 → IVec S16 32) a x).toNat < S416x128.size a)
theorem k1_idx67_inb : ∀ (v107 : IVec S16 32) (v133 : IVec S16 32) (k1_hw67 : k1_chk67 v107 v133), ∀ a x, ((![v107, v133] : Fin 2 → IVec S16 32) a x).toNat < S416x128.size a := fun v107 v133 k1_hw67 => k1_hw67

def k1_chk68 (v109 : IVec S16 32) (v136 : IVec S16 32) : Prop :=
  (∀ a x, ((![v109, v136] : Fin 2 → IVec S16 32) a x).toNat < S416x128.size a)
theorem k1_idx68_inb : ∀ (v109 : IVec S16 32) (v136 : IVec S16 32) (k1_hw68 : k1_chk68 v109 v136), ∀ a x, ((![v109, v136] : Fin 2 → IVec S16 32) a x).toNat < S416x128.size a := fun v109 v136 k1_hw68 => k1_hw68

def k1_chk69 (v111 : IVec S16 32) (v139 : IVec S16 32) : Prop :=
  (∀ a x, ((![v111, v139] : Fin 2 → IVec S16 32) a x).toNat < S416x128.size a)
theorem k1_idx69_inb : ∀ (v111 : IVec S16 32) (v139 : IVec S16 32) (k1_hw69 : k1_chk69 v111 v139), ∀ a x, ((![v111, v139] : Fin 2 → IVec S16 32) a x).toNat < S416x128.size a := fun v111 v139 k1_hw69 => k1_hw69

def k1_chk70 (v113 : IVec S16 32) (v142 : IVec S16 32) : Prop :=
  (∀ a x, ((![v113, v142] : Fin 2 → IVec S16 32) a x).toNat < S416x128.size a)
theorem k1_idx70_inb : ∀ (v113 : IVec S16 32) (v142 : IVec S16 32) (k1_hw70 : k1_chk70 v113 v142), ∀ a x, ((![v113, v142] : Fin 2 → IVec S16 32) a x).toNat < S416x128.size a := fun v113 v142 k1_hw70 => k1_hw70

def k1_chk71 (v115 : IVec S16 32) (v145 : IVec S16 32) : Prop :=
  (∀ a x, ((![v115, v145] : Fin 2 → IVec S16 32) a x).toNat < S416x128.size a)
theorem k1_idx71_inb : ∀ (v115 : IVec S16 32) (v145 : IVec S16 32) (k1_hw71 : k1_chk71 v115 v145), ∀ a x, ((![v115, v145] : Fin 2 → IVec S16 32) a x).toNat < S416x128.size a := fun v115 v145 k1_hw71 => k1_hw71

def k1_chk72 (v117 : IVec S16 32) (v148 : IVec S16 32) : Prop :=
  (∀ a x, ((![v117, v148] : Fin 2 → IVec S16 32) a x).toNat < S416x128.size a)
theorem k1_idx72_inb : ∀ (v117 : IVec S16 32) (v148 : IVec S16 32) (k1_hw72 : k1_chk72 v117 v148), ∀ a x, ((![v117, v148] : Fin 2 → IVec S16 32) a x).toNat < S416x128.size a := fun v117 v148 k1_hw72 => k1_hw72
def k1_off20 (k1_t4 : Fin k1_t4_loop.trips) (c0_i32_120 : BitVec 32) : Fin 2 → Nat :=
  let c2_i32_119 : BitVec 32 := 2#32
  let c0_i32_31 : BitVec 32 := 0#32
  let c1_i32_33 : BitVec 32 := 1#32
  let arg11 : BitVec 32 := Scf.iv c0_i32_31 c1_i32_33 k1_t4
  let v150 : BitVec 32 := Scalar.muli c2_i32_119 arg11
  let v151 : BitVec 32 := Scalar.addi v150 c0_i32_120
  let v152 : Index := Scalar.indexCast v151
  let c0 : Index := 0#32
  ![v152.toNat, 0]
def k1_off21 (k1_t4 : Fin k1_t4_loop.trips) (c0_i32_120 : BitVec 32) : Fin 2 → Nat :=
  let c2_i32_119 : BitVec 32 := 2#32
  let c0_i32_31 : BitVec 32 := 0#32
  let c1_i32_33 : BitVec 32 := 1#32
  let arg11 : BitVec 32 := Scf.iv c0_i32_31 c1_i32_33 k1_t4
  let v150 : BitVec 32 := Scalar.muli c2_i32_119 arg11
  let v151 : BitVec 32 := Scalar.addi v150 c0_i32_120
  let v154 : Index := Scalar.indexCast v151
  let c16 : Index := 16#32
  ![v154.toNat, 16]
def k1_off22 (k1_t4 : Fin k1_t4_loop.trips) (c0_i32_121 : BitVec 32) : Fin 2 → Nat :=
  let c2_i32_119 : BitVec 32 := 2#32
  let c0_i32_31 : BitVec 32 := 0#32
  let c1_i32_33 : BitVec 32 := 1#32
  let arg11 : BitVec 32 := Scf.iv c0_i32_31 c1_i32_33 k1_t4
  let v150 : BitVec 32 := Scalar.muli c2_i32_119 arg11
  let v156 : BitVec 32 := Scalar.addi v150 c0_i32_121
  let v157 : Index := Scalar.indexCast v156
  let c32 : Index := 32#32
  ![v157.toNat, 32]
def k1_off23 (k1_t4 : Fin k1_t4_loop.trips) (c0_i32_121 : BitVec 32) : Fin 2 → Nat :=
  let c2_i32_119 : BitVec 32 := 2#32
  let c0_i32_31 : BitVec 32 := 0#32
  let c1_i32_33 : BitVec 32 := 1#32
  let arg11 : BitVec 32 := Scf.iv c0_i32_31 c1_i32_33 k1_t4
  let v150 : BitVec 32 := Scalar.muli c2_i32_119 arg11
  let v156 : BitVec 32 := Scalar.addi v150 c0_i32_121
  let v159 : Index := Scalar.indexCast v156
  let c48 : Index := 48#32
  ![v159.toNat, 48]
def k1_off24 (k1_t4 : Fin k1_t4_loop.trips) (c0_i32_122 : BitVec 32) : Fin 2 → Nat :=
  let c2_i32_119 : BitVec 32 := 2#32
  let c0_i32_31 : BitVec 32 := 0#32
  let c1_i32_33 : BitVec 32 := 1#32
  let arg11 : BitVec 32 := Scf.iv c0_i32_31 c1_i32_33 k1_t4
  let v150 : BitVec 32 := Scalar.muli c2_i32_119 arg11
  let v161 : BitVec 32 := Scalar.addi v150 c0_i32_122
  let v162 : Index := Scalar.indexCast v161
  let c64 : Index := 64#32
  ![v162.toNat, 64]
def k1_off25 (k1_t4 : Fin k1_t4_loop.trips) (c0_i32_122 : BitVec 32) : Fin 2 → Nat :=
  let c2_i32_119 : BitVec 32 := 2#32
  let c0_i32_31 : BitVec 32 := 0#32
  let c1_i32_33 : BitVec 32 := 1#32
  let arg11 : BitVec 32 := Scf.iv c0_i32_31 c1_i32_33 k1_t4
  let v150 : BitVec 32 := Scalar.muli c2_i32_119 arg11
  let v161 : BitVec 32 := Scalar.addi v150 c0_i32_122
  let v164 : Index := Scalar.indexCast v161
  let c80 : Index := 80#32
  ![v164.toNat, 80]
def k1_off26 (k1_t4 : Fin k1_t4_loop.trips) (c0_i32_123 : BitVec 32) : Fin 2 → Nat :=
  let c2_i32_119 : BitVec 32 := 2#32
  let c0_i32_31 : BitVec 32 := 0#32
  let c1_i32_33 : BitVec 32 := 1#32
  let arg11 : BitVec 32 := Scf.iv c0_i32_31 c1_i32_33 k1_t4
  let v150 : BitVec 32 := Scalar.muli c2_i32_119 arg11
  let v166 : BitVec 32 := Scalar.addi v150 c0_i32_123
  let v167 : Index := Scalar.indexCast v166
  let c96 : Index := 96#32
  ![v167.toNat, 96]
def k1_off27 (k1_t4 : Fin k1_t4_loop.trips) (c0_i32_123 : BitVec 32) : Fin 2 → Nat :=
  let c2_i32_119 : BitVec 32 := 2#32
  let c0_i32_31 : BitVec 32 := 0#32
  let c1_i32_33 : BitVec 32 := 1#32
  let arg11 : BitVec 32 := Scf.iv c0_i32_31 c1_i32_33 k1_t4
  let v150 : BitVec 32 := Scalar.muli c2_i32_119 arg11
  let v166 : BitVec 32 := Scalar.addi v150 c0_i32_123
  let v169 : Index := Scalar.indexCast v166
  let c112 : Index := 112#32
  ![v169.toNat, 112]
@[reducible] def k1_t5_loop : Scf.Loop 32 :=
  let c0_i32_43 : BitVec 32 := 0#32
  let c52_i32_44 : BitVec 32 := 52#32
  let v30 : BitVec 32 := Scalar.addi c0_i32_43 c52_i32_44
  let c1_i32_45 : BitVec 32 := 1#32
  ⟨c0_i32_43, v30, c1_i32_45⟩

def k1_chk73 (v64 : IVec S16 32) : Prop :=
  (∀ a x, ((![v64] : Fin 1 → IVec S16 32) a x).toNat < S3328.size a)
theorem k1_idx73_inb : ∀ (v64 : IVec S16 32) (k1_hw73 : k1_chk73 v64), ∀ a x, ((![v64] : Fin 1 → IVec S16 32) a x).toNat < S3328.size a := fun v64 k1_hw73 => k1_hw73

def k1_chk74 (v67 : IVec S16 32) : Prop :=
  (∀ a x, ((![v67] : Fin 1 → IVec S16 32) a x).toNat < S3328.size a)
theorem k1_idx74_inb : ∀ (v67 : IVec S16 32) (k1_hw74 : k1_chk74 v67), ∀ a x, ((![v67] : Fin 1 → IVec S16 32) a x).toNat < S3328.size a := fun v67 k1_hw74 => k1_hw74

def k1_chk75 (v70 : IVec S16 32) : Prop :=
  (∀ a x, ((![v70] : Fin 1 → IVec S16 32) a x).toNat < S3328.size a)
theorem k1_idx75_inb : ∀ (v70 : IVec S16 32) (k1_hw75 : k1_chk75 v70), ∀ a x, ((![v70] : Fin 1 → IVec S16 32) a x).toNat < S3328.size a := fun v70 k1_hw75 => k1_hw75

def k1_chk76 (v73 : IVec S16 32) : Prop :=
  (∀ a x, ((![v73] : Fin 1 → IVec S16 32) a x).toNat < S3328.size a)
theorem k1_idx76_inb : ∀ (v73 : IVec S16 32) (k1_hw76 : k1_chk76 v73), ∀ a x, ((![v73] : Fin 1 → IVec S16 32) a x).toNat < S3328.size a := fun v73 k1_hw76 => k1_hw76

def k1_chk77 (v76 : IVec S16 32) : Prop :=
  (∀ a x, ((![v76] : Fin 1 → IVec S16 32) a x).toNat < S3328.size a)
theorem k1_idx77_inb : ∀ (v76 : IVec S16 32) (k1_hw77 : k1_chk77 v76), ∀ a x, ((![v76] : Fin 1 → IVec S16 32) a x).toNat < S3328.size a := fun v76 k1_hw77 => k1_hw77

def k1_chk78 (v79 : IVec S16 32) : Prop :=
  (∀ a x, ((![v79] : Fin 1 → IVec S16 32) a x).toNat < S3328.size a)
theorem k1_idx78_inb : ∀ (v79 : IVec S16 32) (k1_hw78 : k1_chk78 v79), ∀ a x, ((![v79] : Fin 1 → IVec S16 32) a x).toNat < S3328.size a := fun v79 k1_hw78 => k1_hw78

def k1_chk79 (v82 : IVec S16 32) : Prop :=
  (∀ a x, ((![v82] : Fin 1 → IVec S16 32) a x).toNat < S3328.size a)
theorem k1_idx79_inb : ∀ (v82 : IVec S16 32) (k1_hw79 : k1_chk79 v82), ∀ a x, ((![v82] : Fin 1 → IVec S16 32) a x).toNat < S3328.size a := fun v82 k1_hw79 => k1_hw79

def k1_chk80 (v85 : IVec S16 32) : Prop :=
  (∀ a x, ((![v85] : Fin 1 → IVec S16 32) a x).toNat < S3328.size a)
theorem k1_idx80_inb : ∀ (v85 : IVec S16 32) (k1_hw80 : k1_chk80 v85), ∀ a x, ((![v85] : Fin 1 → IVec S16 32) a x).toNat < S3328.size a := fun v85 k1_hw80 => k1_hw80

def k1_chk81 (v94 : IVec S16 32) (v103 : IVec S16 32) : Prop :=
  (∀ a x, ((![v103, v94] : Fin 2 → IVec S16 32) a x).toNat < S416x128.size a)
theorem k1_idx81_inb : ∀ (v94 : IVec S16 32) (v103 : IVec S16 32) (k1_hw81 : k1_chk81 v94 v103), ∀ a x, ((![v103, v94] : Fin 2 → IVec S16 32) a x).toNat < S416x128.size a := fun v94 v103 k1_hw81 => k1_hw81

def k1_chk82 (v95 : IVec S16 32) (v105 : IVec S16 32) : Prop :=
  (∀ a x, ((![v105, v95] : Fin 2 → IVec S16 32) a x).toNat < S416x128.size a)
theorem k1_idx82_inb : ∀ (v95 : IVec S16 32) (v105 : IVec S16 32) (k1_hw82 : k1_chk82 v95 v105), ∀ a x, ((![v105, v95] : Fin 2 → IVec S16 32) a x).toNat < S416x128.size a := fun v95 v105 k1_hw82 => k1_hw82

def k1_chk83 (v96 : IVec S16 32) (v107 : IVec S16 32) : Prop :=
  (∀ a x, ((![v107, v96] : Fin 2 → IVec S16 32) a x).toNat < S416x128.size a)
theorem k1_idx83_inb : ∀ (v96 : IVec S16 32) (v107 : IVec S16 32) (k1_hw83 : k1_chk83 v96 v107), ∀ a x, ((![v107, v96] : Fin 2 → IVec S16 32) a x).toNat < S416x128.size a := fun v96 v107 k1_hw83 => k1_hw83

def k1_chk84 (v97 : IVec S16 32) (v109 : IVec S16 32) : Prop :=
  (∀ a x, ((![v109, v97] : Fin 2 → IVec S16 32) a x).toNat < S416x128.size a)
theorem k1_idx84_inb : ∀ (v97 : IVec S16 32) (v109 : IVec S16 32) (k1_hw84 : k1_chk84 v97 v109), ∀ a x, ((![v109, v97] : Fin 2 → IVec S16 32) a x).toNat < S416x128.size a := fun v97 v109 k1_hw84 => k1_hw84

def k1_chk85 (v98 : IVec S16 32) (v111 : IVec S16 32) : Prop :=
  (∀ a x, ((![v111, v98] : Fin 2 → IVec S16 32) a x).toNat < S416x128.size a)
theorem k1_idx85_inb : ∀ (v98 : IVec S16 32) (v111 : IVec S16 32) (k1_hw85 : k1_chk85 v98 v111), ∀ a x, ((![v111, v98] : Fin 2 → IVec S16 32) a x).toNat < S416x128.size a := fun v98 v111 k1_hw85 => k1_hw85

def k1_chk86 (v99 : IVec S16 32) (v113 : IVec S16 32) : Prop :=
  (∀ a x, ((![v113, v99] : Fin 2 → IVec S16 32) a x).toNat < S416x128.size a)
theorem k1_idx86_inb : ∀ (v99 : IVec S16 32) (v113 : IVec S16 32) (k1_hw86 : k1_chk86 v99 v113), ∀ a x, ((![v113, v99] : Fin 2 → IVec S16 32) a x).toNat < S416x128.size a := fun v99 v113 k1_hw86 => k1_hw86

def k1_chk87 (v100 : IVec S16 32) (v115 : IVec S16 32) : Prop :=
  (∀ a x, ((![v115, v100] : Fin 2 → IVec S16 32) a x).toNat < S416x128.size a)
theorem k1_idx87_inb : ∀ (v100 : IVec S16 32) (v115 : IVec S16 32) (k1_hw87 : k1_chk87 v100 v115), ∀ a x, ((![v115, v100] : Fin 2 → IVec S16 32) a x).toNat < S416x128.size a := fun v100 v115 k1_hw87 => k1_hw87

def k1_chk88 (v101 : IVec S16 32) (v117 : IVec S16 32) : Prop :=
  (∀ a x, ((![v117, v101] : Fin 2 → IVec S16 32) a x).toNat < S416x128.size a)
theorem k1_idx88_inb : ∀ (v101 : IVec S16 32) (v117 : IVec S16 32) (k1_hw88 : k1_chk88 v101 v117), ∀ a x, ((![v117, v101] : Fin 2 → IVec S16 32) a x).toNat < S416x128.size a := fun v101 v117 k1_hw88 => k1_hw88

def k1_chk89 (v103 : IVec S16 32) (v127 : IVec S16 32) : Prop :=
  (∀ a x, ((![v103, v127] : Fin 2 → IVec S16 32) a x).toNat < S416x128.size a)
theorem k1_idx89_inb : ∀ (v103 : IVec S16 32) (v127 : IVec S16 32) (k1_hw89 : k1_chk89 v103 v127), ∀ a x, ((![v103, v127] : Fin 2 → IVec S16 32) a x).toNat < S416x128.size a := fun v103 v127 k1_hw89 => k1_hw89

def k1_chk90 (v105 : IVec S16 32) (v130 : IVec S16 32) : Prop :=
  (∀ a x, ((![v105, v130] : Fin 2 → IVec S16 32) a x).toNat < S416x128.size a)
theorem k1_idx90_inb : ∀ (v105 : IVec S16 32) (v130 : IVec S16 32) (k1_hw90 : k1_chk90 v105 v130), ∀ a x, ((![v105, v130] : Fin 2 → IVec S16 32) a x).toNat < S416x128.size a := fun v105 v130 k1_hw90 => k1_hw90

def k1_chk91 (v107 : IVec S16 32) (v133 : IVec S16 32) : Prop :=
  (∀ a x, ((![v107, v133] : Fin 2 → IVec S16 32) a x).toNat < S416x128.size a)
theorem k1_idx91_inb : ∀ (v107 : IVec S16 32) (v133 : IVec S16 32) (k1_hw91 : k1_chk91 v107 v133), ∀ a x, ((![v107, v133] : Fin 2 → IVec S16 32) a x).toNat < S416x128.size a := fun v107 v133 k1_hw91 => k1_hw91

def k1_chk92 (v109 : IVec S16 32) (v136 : IVec S16 32) : Prop :=
  (∀ a x, ((![v109, v136] : Fin 2 → IVec S16 32) a x).toNat < S416x128.size a)
theorem k1_idx92_inb : ∀ (v109 : IVec S16 32) (v136 : IVec S16 32) (k1_hw92 : k1_chk92 v109 v136), ∀ a x, ((![v109, v136] : Fin 2 → IVec S16 32) a x).toNat < S416x128.size a := fun v109 v136 k1_hw92 => k1_hw92

def k1_chk93 (v111 : IVec S16 32) (v139 : IVec S16 32) : Prop :=
  (∀ a x, ((![v111, v139] : Fin 2 → IVec S16 32) a x).toNat < S416x128.size a)
theorem k1_idx93_inb : ∀ (v111 : IVec S16 32) (v139 : IVec S16 32) (k1_hw93 : k1_chk93 v111 v139), ∀ a x, ((![v111, v139] : Fin 2 → IVec S16 32) a x).toNat < S416x128.size a := fun v111 v139 k1_hw93 => k1_hw93

def k1_chk94 (v113 : IVec S16 32) (v142 : IVec S16 32) : Prop :=
  (∀ a x, ((![v113, v142] : Fin 2 → IVec S16 32) a x).toNat < S416x128.size a)
theorem k1_idx94_inb : ∀ (v113 : IVec S16 32) (v142 : IVec S16 32) (k1_hw94 : k1_chk94 v113 v142), ∀ a x, ((![v113, v142] : Fin 2 → IVec S16 32) a x).toNat < S416x128.size a := fun v113 v142 k1_hw94 => k1_hw94

def k1_chk95 (v115 : IVec S16 32) (v145 : IVec S16 32) : Prop :=
  (∀ a x, ((![v115, v145] : Fin 2 → IVec S16 32) a x).toNat < S416x128.size a)
theorem k1_idx95_inb : ∀ (v115 : IVec S16 32) (v145 : IVec S16 32) (k1_hw95 : k1_chk95 v115 v145), ∀ a x, ((![v115, v145] : Fin 2 → IVec S16 32) a x).toNat < S416x128.size a := fun v115 v145 k1_hw95 => k1_hw95

def k1_chk96 (v117 : IVec S16 32) (v148 : IVec S16 32) : Prop :=
  (∀ a x, ((![v117, v148] : Fin 2 → IVec S16 32) a x).toNat < S416x128.size a)
theorem k1_idx96_inb : ∀ (v117 : IVec S16 32) (v148 : IVec S16 32) (k1_hw96 : k1_chk96 v117 v148), ∀ a x, ((![v117, v148] : Fin 2 → IVec S16 32) a x).toNat < S416x128.size a := fun v117 v148 k1_hw96 => k1_hw96
def k1_off28 (k1_t5 : Fin k1_t5_loop.trips) (c0_i32_120 : BitVec 32) : Fin 2 → Nat :=
  let c2_i32_119 : BitVec 32 := 2#32
  let c0_i32_43 : BitVec 32 := 0#32
  let c1_i32_45 : BitVec 32 := 1#32
  let arg11 : BitVec 32 := Scf.iv c0_i32_43 c1_i32_45 k1_t5
  let v150 : BitVec 32 := Scalar.muli c2_i32_119 arg11
  let v151 : BitVec 32 := Scalar.addi v150 c0_i32_120
  let v152 : Index := Scalar.indexCast v151
  let c0 : Index := 0#32
  ![v152.toNat, 0]
def k1_off29 (k1_t5 : Fin k1_t5_loop.trips) (c0_i32_120 : BitVec 32) : Fin 2 → Nat :=
  let c2_i32_119 : BitVec 32 := 2#32
  let c0_i32_43 : BitVec 32 := 0#32
  let c1_i32_45 : BitVec 32 := 1#32
  let arg11 : BitVec 32 := Scf.iv c0_i32_43 c1_i32_45 k1_t5
  let v150 : BitVec 32 := Scalar.muli c2_i32_119 arg11
  let v151 : BitVec 32 := Scalar.addi v150 c0_i32_120
  let v154 : Index := Scalar.indexCast v151
  let c16 : Index := 16#32
  ![v154.toNat, 16]
def k1_off30 (k1_t5 : Fin k1_t5_loop.trips) (c0_i32_121 : BitVec 32) : Fin 2 → Nat :=
  let c2_i32_119 : BitVec 32 := 2#32
  let c0_i32_43 : BitVec 32 := 0#32
  let c1_i32_45 : BitVec 32 := 1#32
  let arg11 : BitVec 32 := Scf.iv c0_i32_43 c1_i32_45 k1_t5
  let v150 : BitVec 32 := Scalar.muli c2_i32_119 arg11
  let v156 : BitVec 32 := Scalar.addi v150 c0_i32_121
  let v157 : Index := Scalar.indexCast v156
  let c32 : Index := 32#32
  ![v157.toNat, 32]
def k1_off31 (k1_t5 : Fin k1_t5_loop.trips) (c0_i32_121 : BitVec 32) : Fin 2 → Nat :=
  let c2_i32_119 : BitVec 32 := 2#32
  let c0_i32_43 : BitVec 32 := 0#32
  let c1_i32_45 : BitVec 32 := 1#32
  let arg11 : BitVec 32 := Scf.iv c0_i32_43 c1_i32_45 k1_t5
  let v150 : BitVec 32 := Scalar.muli c2_i32_119 arg11
  let v156 : BitVec 32 := Scalar.addi v150 c0_i32_121
  let v159 : Index := Scalar.indexCast v156
  let c48 : Index := 48#32
  ![v159.toNat, 48]
def k1_off32 (k1_t5 : Fin k1_t5_loop.trips) (c0_i32_122 : BitVec 32) : Fin 2 → Nat :=
  let c2_i32_119 : BitVec 32 := 2#32
  let c0_i32_43 : BitVec 32 := 0#32
  let c1_i32_45 : BitVec 32 := 1#32
  let arg11 : BitVec 32 := Scf.iv c0_i32_43 c1_i32_45 k1_t5
  let v150 : BitVec 32 := Scalar.muli c2_i32_119 arg11
  let v161 : BitVec 32 := Scalar.addi v150 c0_i32_122
  let v162 : Index := Scalar.indexCast v161
  let c64 : Index := 64#32
  ![v162.toNat, 64]
def k1_off33 (k1_t5 : Fin k1_t5_loop.trips) (c0_i32_122 : BitVec 32) : Fin 2 → Nat :=
  let c2_i32_119 : BitVec 32 := 2#32
  let c0_i32_43 : BitVec 32 := 0#32
  let c1_i32_45 : BitVec 32 := 1#32
  let arg11 : BitVec 32 := Scf.iv c0_i32_43 c1_i32_45 k1_t5
  let v150 : BitVec 32 := Scalar.muli c2_i32_119 arg11
  let v161 : BitVec 32 := Scalar.addi v150 c0_i32_122
  let v164 : Index := Scalar.indexCast v161
  let c80 : Index := 80#32
  ![v164.toNat, 80]
def k1_off34 (k1_t5 : Fin k1_t5_loop.trips) (c0_i32_123 : BitVec 32) : Fin 2 → Nat :=
  let c2_i32_119 : BitVec 32 := 2#32
  let c0_i32_43 : BitVec 32 := 0#32
  let c1_i32_45 : BitVec 32 := 1#32
  let arg11 : BitVec 32 := Scf.iv c0_i32_43 c1_i32_45 k1_t5
  let v150 : BitVec 32 := Scalar.muli c2_i32_119 arg11
  let v166 : BitVec 32 := Scalar.addi v150 c0_i32_123
  let v167 : Index := Scalar.indexCast v166
  let c96 : Index := 96#32
  ![v167.toNat, 96]
def k1_off35 (k1_t5 : Fin k1_t5_loop.trips) (c0_i32_123 : BitVec 32) : Fin 2 → Nat :=
  let c2_i32_119 : BitVec 32 := 2#32
  let c0_i32_43 : BitVec 32 := 0#32
  let c1_i32_45 : BitVec 32 := 1#32
  let arg11 : BitVec 32 := Scf.iv c0_i32_43 c1_i32_45 k1_t5
  let v150 : BitVec 32 := Scalar.muli c2_i32_119 arg11
  let v166 : BitVec 32 := Scalar.addi v150 c0_i32_123
  let v169 : Index := Scalar.indexCast v166
  let c112 : Index := 112#32
  ![v169.toNat, 112]
@[reducible] def k1_t6_loop : Scf.Loop 32 :=
  let c0_i32_54 : BitVec 32 := 0#32
  let c52_i32_55 : BitVec 32 := 52#32
  let v37 : BitVec 32 := Scalar.addi c0_i32_54 c52_i32_55
  let c1_i32_56 : BitVec 32 := 1#32
  ⟨c0_i32_54, v37, c1_i32_56⟩

def k1_chk97 (v64 : IVec S16 32) : Prop :=
  (∀ a x, ((![v64] : Fin 1 → IVec S16 32) a x).toNat < S3328.size a)
theorem k1_idx97_inb : ∀ (v64 : IVec S16 32) (k1_hw97 : k1_chk97 v64), ∀ a x, ((![v64] : Fin 1 → IVec S16 32) a x).toNat < S3328.size a := fun v64 k1_hw97 => k1_hw97

def k1_chk98 (v67 : IVec S16 32) : Prop :=
  (∀ a x, ((![v67] : Fin 1 → IVec S16 32) a x).toNat < S3328.size a)
theorem k1_idx98_inb : ∀ (v67 : IVec S16 32) (k1_hw98 : k1_chk98 v67), ∀ a x, ((![v67] : Fin 1 → IVec S16 32) a x).toNat < S3328.size a := fun v67 k1_hw98 => k1_hw98

def k1_chk99 (v70 : IVec S16 32) : Prop :=
  (∀ a x, ((![v70] : Fin 1 → IVec S16 32) a x).toNat < S3328.size a)
theorem k1_idx99_inb : ∀ (v70 : IVec S16 32) (k1_hw99 : k1_chk99 v70), ∀ a x, ((![v70] : Fin 1 → IVec S16 32) a x).toNat < S3328.size a := fun v70 k1_hw99 => k1_hw99

def k1_chk100 (v73 : IVec S16 32) : Prop :=
  (∀ a x, ((![v73] : Fin 1 → IVec S16 32) a x).toNat < S3328.size a)
theorem k1_idx100_inb : ∀ (v73 : IVec S16 32) (k1_hw100 : k1_chk100 v73), ∀ a x, ((![v73] : Fin 1 → IVec S16 32) a x).toNat < S3328.size a := fun v73 k1_hw100 => k1_hw100

def k1_chk101 (v76 : IVec S16 32) : Prop :=
  (∀ a x, ((![v76] : Fin 1 → IVec S16 32) a x).toNat < S3328.size a)
theorem k1_idx101_inb : ∀ (v76 : IVec S16 32) (k1_hw101 : k1_chk101 v76), ∀ a x, ((![v76] : Fin 1 → IVec S16 32) a x).toNat < S3328.size a := fun v76 k1_hw101 => k1_hw101

def k1_chk102 (v79 : IVec S16 32) : Prop :=
  (∀ a x, ((![v79] : Fin 1 → IVec S16 32) a x).toNat < S3328.size a)
theorem k1_idx102_inb : ∀ (v79 : IVec S16 32) (k1_hw102 : k1_chk102 v79), ∀ a x, ((![v79] : Fin 1 → IVec S16 32) a x).toNat < S3328.size a := fun v79 k1_hw102 => k1_hw102

def k1_chk103 (v82 : IVec S16 32) : Prop :=
  (∀ a x, ((![v82] : Fin 1 → IVec S16 32) a x).toNat < S3328.size a)
theorem k1_idx103_inb : ∀ (v82 : IVec S16 32) (k1_hw103 : k1_chk103 v82), ∀ a x, ((![v82] : Fin 1 → IVec S16 32) a x).toNat < S3328.size a := fun v82 k1_hw103 => k1_hw103

def k1_chk104 (v85 : IVec S16 32) : Prop :=
  (∀ a x, ((![v85] : Fin 1 → IVec S16 32) a x).toNat < S3328.size a)
theorem k1_idx104_inb : ∀ (v85 : IVec S16 32) (k1_hw104 : k1_chk104 v85), ∀ a x, ((![v85] : Fin 1 → IVec S16 32) a x).toNat < S3328.size a := fun v85 k1_hw104 => k1_hw104

def k1_chk105 (v94 : IVec S16 32) (v103 : IVec S16 32) : Prop :=
  (∀ a x, ((![v103, v94] : Fin 2 → IVec S16 32) a x).toNat < S416x128.size a)
theorem k1_idx105_inb : ∀ (v94 : IVec S16 32) (v103 : IVec S16 32) (k1_hw105 : k1_chk105 v94 v103), ∀ a x, ((![v103, v94] : Fin 2 → IVec S16 32) a x).toNat < S416x128.size a := fun v94 v103 k1_hw105 => k1_hw105

def k1_chk106 (v95 : IVec S16 32) (v105 : IVec S16 32) : Prop :=
  (∀ a x, ((![v105, v95] : Fin 2 → IVec S16 32) a x).toNat < S416x128.size a)
theorem k1_idx106_inb : ∀ (v95 : IVec S16 32) (v105 : IVec S16 32) (k1_hw106 : k1_chk106 v95 v105), ∀ a x, ((![v105, v95] : Fin 2 → IVec S16 32) a x).toNat < S416x128.size a := fun v95 v105 k1_hw106 => k1_hw106

def k1_chk107 (v96 : IVec S16 32) (v107 : IVec S16 32) : Prop :=
  (∀ a x, ((![v107, v96] : Fin 2 → IVec S16 32) a x).toNat < S416x128.size a)
theorem k1_idx107_inb : ∀ (v96 : IVec S16 32) (v107 : IVec S16 32) (k1_hw107 : k1_chk107 v96 v107), ∀ a x, ((![v107, v96] : Fin 2 → IVec S16 32) a x).toNat < S416x128.size a := fun v96 v107 k1_hw107 => k1_hw107

def k1_chk108 (v97 : IVec S16 32) (v109 : IVec S16 32) : Prop :=
  (∀ a x, ((![v109, v97] : Fin 2 → IVec S16 32) a x).toNat < S416x128.size a)
theorem k1_idx108_inb : ∀ (v97 : IVec S16 32) (v109 : IVec S16 32) (k1_hw108 : k1_chk108 v97 v109), ∀ a x, ((![v109, v97] : Fin 2 → IVec S16 32) a x).toNat < S416x128.size a := fun v97 v109 k1_hw108 => k1_hw108

def k1_chk109 (v98 : IVec S16 32) (v111 : IVec S16 32) : Prop :=
  (∀ a x, ((![v111, v98] : Fin 2 → IVec S16 32) a x).toNat < S416x128.size a)
theorem k1_idx109_inb : ∀ (v98 : IVec S16 32) (v111 : IVec S16 32) (k1_hw109 : k1_chk109 v98 v111), ∀ a x, ((![v111, v98] : Fin 2 → IVec S16 32) a x).toNat < S416x128.size a := fun v98 v111 k1_hw109 => k1_hw109

def k1_chk110 (v99 : IVec S16 32) (v113 : IVec S16 32) : Prop :=
  (∀ a x, ((![v113, v99] : Fin 2 → IVec S16 32) a x).toNat < S416x128.size a)
theorem k1_idx110_inb : ∀ (v99 : IVec S16 32) (v113 : IVec S16 32) (k1_hw110 : k1_chk110 v99 v113), ∀ a x, ((![v113, v99] : Fin 2 → IVec S16 32) a x).toNat < S416x128.size a := fun v99 v113 k1_hw110 => k1_hw110

def k1_chk111 (v100 : IVec S16 32) (v115 : IVec S16 32) : Prop :=
  (∀ a x, ((![v115, v100] : Fin 2 → IVec S16 32) a x).toNat < S416x128.size a)
theorem k1_idx111_inb : ∀ (v100 : IVec S16 32) (v115 : IVec S16 32) (k1_hw111 : k1_chk111 v100 v115), ∀ a x, ((![v115, v100] : Fin 2 → IVec S16 32) a x).toNat < S416x128.size a := fun v100 v115 k1_hw111 => k1_hw111

def k1_chk112 (v101 : IVec S16 32) (v117 : IVec S16 32) : Prop :=
  (∀ a x, ((![v117, v101] : Fin 2 → IVec S16 32) a x).toNat < S416x128.size a)
theorem k1_idx112_inb : ∀ (v101 : IVec S16 32) (v117 : IVec S16 32) (k1_hw112 : k1_chk112 v101 v117), ∀ a x, ((![v117, v101] : Fin 2 → IVec S16 32) a x).toNat < S416x128.size a := fun v101 v117 k1_hw112 => k1_hw112

def k1_chk113 (v103 : IVec S16 32) (v127 : IVec S16 32) : Prop :=
  (∀ a x, ((![v103, v127] : Fin 2 → IVec S16 32) a x).toNat < S416x128.size a)
theorem k1_idx113_inb : ∀ (v103 : IVec S16 32) (v127 : IVec S16 32) (k1_hw113 : k1_chk113 v103 v127), ∀ a x, ((![v103, v127] : Fin 2 → IVec S16 32) a x).toNat < S416x128.size a := fun v103 v127 k1_hw113 => k1_hw113

def k1_chk114 (v105 : IVec S16 32) (v130 : IVec S16 32) : Prop :=
  (∀ a x, ((![v105, v130] : Fin 2 → IVec S16 32) a x).toNat < S416x128.size a)
theorem k1_idx114_inb : ∀ (v105 : IVec S16 32) (v130 : IVec S16 32) (k1_hw114 : k1_chk114 v105 v130), ∀ a x, ((![v105, v130] : Fin 2 → IVec S16 32) a x).toNat < S416x128.size a := fun v105 v130 k1_hw114 => k1_hw114

def k1_chk115 (v107 : IVec S16 32) (v133 : IVec S16 32) : Prop :=
  (∀ a x, ((![v107, v133] : Fin 2 → IVec S16 32) a x).toNat < S416x128.size a)
theorem k1_idx115_inb : ∀ (v107 : IVec S16 32) (v133 : IVec S16 32) (k1_hw115 : k1_chk115 v107 v133), ∀ a x, ((![v107, v133] : Fin 2 → IVec S16 32) a x).toNat < S416x128.size a := fun v107 v133 k1_hw115 => k1_hw115

def k1_chk116 (v109 : IVec S16 32) (v136 : IVec S16 32) : Prop :=
  (∀ a x, ((![v109, v136] : Fin 2 → IVec S16 32) a x).toNat < S416x128.size a)
theorem k1_idx116_inb : ∀ (v109 : IVec S16 32) (v136 : IVec S16 32) (k1_hw116 : k1_chk116 v109 v136), ∀ a x, ((![v109, v136] : Fin 2 → IVec S16 32) a x).toNat < S416x128.size a := fun v109 v136 k1_hw116 => k1_hw116

def k1_chk117 (v111 : IVec S16 32) (v139 : IVec S16 32) : Prop :=
  (∀ a x, ((![v111, v139] : Fin 2 → IVec S16 32) a x).toNat < S416x128.size a)
theorem k1_idx117_inb : ∀ (v111 : IVec S16 32) (v139 : IVec S16 32) (k1_hw117 : k1_chk117 v111 v139), ∀ a x, ((![v111, v139] : Fin 2 → IVec S16 32) a x).toNat < S416x128.size a := fun v111 v139 k1_hw117 => k1_hw117

def k1_chk118 (v113 : IVec S16 32) (v142 : IVec S16 32) : Prop :=
  (∀ a x, ((![v113, v142] : Fin 2 → IVec S16 32) a x).toNat < S416x128.size a)
theorem k1_idx118_inb : ∀ (v113 : IVec S16 32) (v142 : IVec S16 32) (k1_hw118 : k1_chk118 v113 v142), ∀ a x, ((![v113, v142] : Fin 2 → IVec S16 32) a x).toNat < S416x128.size a := fun v113 v142 k1_hw118 => k1_hw118

def k1_chk119 (v115 : IVec S16 32) (v145 : IVec S16 32) : Prop :=
  (∀ a x, ((![v115, v145] : Fin 2 → IVec S16 32) a x).toNat < S416x128.size a)
theorem k1_idx119_inb : ∀ (v115 : IVec S16 32) (v145 : IVec S16 32) (k1_hw119 : k1_chk119 v115 v145), ∀ a x, ((![v115, v145] : Fin 2 → IVec S16 32) a x).toNat < S416x128.size a := fun v115 v145 k1_hw119 => k1_hw119

def k1_chk120 (v117 : IVec S16 32) (v148 : IVec S16 32) : Prop :=
  (∀ a x, ((![v117, v148] : Fin 2 → IVec S16 32) a x).toNat < S416x128.size a)
theorem k1_idx120_inb : ∀ (v117 : IVec S16 32) (v148 : IVec S16 32) (k1_hw120 : k1_chk120 v117 v148), ∀ a x, ((![v117, v148] : Fin 2 → IVec S16 32) a x).toNat < S416x128.size a := fun v117 v148 k1_hw120 => k1_hw120
def k1_off36 (k1_t6 : Fin k1_t6_loop.trips) (c0_i32_120 : BitVec 32) : Fin 2 → Nat :=
  let c2_i32_119 : BitVec 32 := 2#32
  let c0_i32_54 : BitVec 32 := 0#32
  let c1_i32_56 : BitVec 32 := 1#32
  let arg11 : BitVec 32 := Scf.iv c0_i32_54 c1_i32_56 k1_t6
  let v150 : BitVec 32 := Scalar.muli c2_i32_119 arg11
  let v151 : BitVec 32 := Scalar.addi v150 c0_i32_120
  let v152 : Index := Scalar.indexCast v151
  let c0 : Index := 0#32
  ![v152.toNat, 0]
def k1_off37 (k1_t6 : Fin k1_t6_loop.trips) (c0_i32_120 : BitVec 32) : Fin 2 → Nat :=
  let c2_i32_119 : BitVec 32 := 2#32
  let c0_i32_54 : BitVec 32 := 0#32
  let c1_i32_56 : BitVec 32 := 1#32
  let arg11 : BitVec 32 := Scf.iv c0_i32_54 c1_i32_56 k1_t6
  let v150 : BitVec 32 := Scalar.muli c2_i32_119 arg11
  let v151 : BitVec 32 := Scalar.addi v150 c0_i32_120
  let v154 : Index := Scalar.indexCast v151
  let c16 : Index := 16#32
  ![v154.toNat, 16]
def k1_off38 (k1_t6 : Fin k1_t6_loop.trips) (c0_i32_121 : BitVec 32) : Fin 2 → Nat :=
  let c2_i32_119 : BitVec 32 := 2#32
  let c0_i32_54 : BitVec 32 := 0#32
  let c1_i32_56 : BitVec 32 := 1#32
  let arg11 : BitVec 32 := Scf.iv c0_i32_54 c1_i32_56 k1_t6
  let v150 : BitVec 32 := Scalar.muli c2_i32_119 arg11
  let v156 : BitVec 32 := Scalar.addi v150 c0_i32_121
  let v157 : Index := Scalar.indexCast v156
  let c32 : Index := 32#32
  ![v157.toNat, 32]
def k1_off39 (k1_t6 : Fin k1_t6_loop.trips) (c0_i32_121 : BitVec 32) : Fin 2 → Nat :=
  let c2_i32_119 : BitVec 32 := 2#32
  let c0_i32_54 : BitVec 32 := 0#32
  let c1_i32_56 : BitVec 32 := 1#32
  let arg11 : BitVec 32 := Scf.iv c0_i32_54 c1_i32_56 k1_t6
  let v150 : BitVec 32 := Scalar.muli c2_i32_119 arg11
  let v156 : BitVec 32 := Scalar.addi v150 c0_i32_121
  let v159 : Index := Scalar.indexCast v156
  let c48 : Index := 48#32
  ![v159.toNat, 48]
def k1_off40 (k1_t6 : Fin k1_t6_loop.trips) (c0_i32_122 : BitVec 32) : Fin 2 → Nat :=
  let c2_i32_119 : BitVec 32 := 2#32
  let c0_i32_54 : BitVec 32 := 0#32
  let c1_i32_56 : BitVec 32 := 1#32
  let arg11 : BitVec 32 := Scf.iv c0_i32_54 c1_i32_56 k1_t6
  let v150 : BitVec 32 := Scalar.muli c2_i32_119 arg11
  let v161 : BitVec 32 := Scalar.addi v150 c0_i32_122
  let v162 : Index := Scalar.indexCast v161
  let c64 : Index := 64#32
  ![v162.toNat, 64]
def k1_off41 (k1_t6 : Fin k1_t6_loop.trips) (c0_i32_122 : BitVec 32) : Fin 2 → Nat :=
  let c2_i32_119 : BitVec 32 := 2#32
  let c0_i32_54 : BitVec 32 := 0#32
  let c1_i32_56 : BitVec 32 := 1#32
  let arg11 : BitVec 32 := Scf.iv c0_i32_54 c1_i32_56 k1_t6
  let v150 : BitVec 32 := Scalar.muli c2_i32_119 arg11
  let v161 : BitVec 32 := Scalar.addi v150 c0_i32_122
  let v164 : Index := Scalar.indexCast v161
  let c80 : Index := 80#32
  ![v164.toNat, 80]
def k1_off42 (k1_t6 : Fin k1_t6_loop.trips) (c0_i32_123 : BitVec 32) : Fin 2 → Nat :=
  let c2_i32_119 : BitVec 32 := 2#32
  let c0_i32_54 : BitVec 32 := 0#32
  let c1_i32_56 : BitVec 32 := 1#32
  let arg11 : BitVec 32 := Scf.iv c0_i32_54 c1_i32_56 k1_t6
  let v150 : BitVec 32 := Scalar.muli c2_i32_119 arg11
  let v166 : BitVec 32 := Scalar.addi v150 c0_i32_123
  let v167 : Index := Scalar.indexCast v166
  let c96 : Index := 96#32
  ![v167.toNat, 96]
def k1_off43 (k1_t6 : Fin k1_t6_loop.trips) (c0_i32_123 : BitVec 32) : Fin 2 → Nat :=
  let c2_i32_119 : BitVec 32 := 2#32
  let c0_i32_54 : BitVec 32 := 0#32
  let c1_i32_56 : BitVec 32 := 1#32
  let arg11 : BitVec 32 := Scf.iv c0_i32_54 c1_i32_56 k1_t6
  let v150 : BitVec 32 := Scalar.muli c2_i32_119 arg11
  let v166 : BitVec 32 := Scalar.addi v150 c0_i32_123
  let v169 : Index := Scalar.indexCast v166
  let c112 : Index := 112#32
  ![v169.toNat, 112]
@[reducible] def k1_t7_loop : Scf.Loop 32 :=
  let c0_i32_66 : BitVec 32 := 0#32
  let c52_i32_67 : BitVec 32 := 52#32
  let v44 : BitVec 32 := Scalar.addi c0_i32_66 c52_i32_67
  let c1_i32_68 : BitVec 32 := 1#32
  ⟨c0_i32_66, v44, c1_i32_68⟩

def k1_chk121 (v64 : IVec S16 32) : Prop :=
  (∀ a x, ((![v64] : Fin 1 → IVec S16 32) a x).toNat < S3328.size a)
theorem k1_idx121_inb : ∀ (v64 : IVec S16 32) (k1_hw121 : k1_chk121 v64), ∀ a x, ((![v64] : Fin 1 → IVec S16 32) a x).toNat < S3328.size a := fun v64 k1_hw121 => k1_hw121

def k1_chk122 (v67 : IVec S16 32) : Prop :=
  (∀ a x, ((![v67] : Fin 1 → IVec S16 32) a x).toNat < S3328.size a)
theorem k1_idx122_inb : ∀ (v67 : IVec S16 32) (k1_hw122 : k1_chk122 v67), ∀ a x, ((![v67] : Fin 1 → IVec S16 32) a x).toNat < S3328.size a := fun v67 k1_hw122 => k1_hw122

def k1_chk123 (v70 : IVec S16 32) : Prop :=
  (∀ a x, ((![v70] : Fin 1 → IVec S16 32) a x).toNat < S3328.size a)
theorem k1_idx123_inb : ∀ (v70 : IVec S16 32) (k1_hw123 : k1_chk123 v70), ∀ a x, ((![v70] : Fin 1 → IVec S16 32) a x).toNat < S3328.size a := fun v70 k1_hw123 => k1_hw123

def k1_chk124 (v73 : IVec S16 32) : Prop :=
  (∀ a x, ((![v73] : Fin 1 → IVec S16 32) a x).toNat < S3328.size a)
theorem k1_idx124_inb : ∀ (v73 : IVec S16 32) (k1_hw124 : k1_chk124 v73), ∀ a x, ((![v73] : Fin 1 → IVec S16 32) a x).toNat < S3328.size a := fun v73 k1_hw124 => k1_hw124

def k1_chk125 (v76 : IVec S16 32) : Prop :=
  (∀ a x, ((![v76] : Fin 1 → IVec S16 32) a x).toNat < S3328.size a)
theorem k1_idx125_inb : ∀ (v76 : IVec S16 32) (k1_hw125 : k1_chk125 v76), ∀ a x, ((![v76] : Fin 1 → IVec S16 32) a x).toNat < S3328.size a := fun v76 k1_hw125 => k1_hw125

def k1_chk126 (v79 : IVec S16 32) : Prop :=
  (∀ a x, ((![v79] : Fin 1 → IVec S16 32) a x).toNat < S3328.size a)
theorem k1_idx126_inb : ∀ (v79 : IVec S16 32) (k1_hw126 : k1_chk126 v79), ∀ a x, ((![v79] : Fin 1 → IVec S16 32) a x).toNat < S3328.size a := fun v79 k1_hw126 => k1_hw126

def k1_chk127 (v82 : IVec S16 32) : Prop :=
  (∀ a x, ((![v82] : Fin 1 → IVec S16 32) a x).toNat < S3328.size a)
theorem k1_idx127_inb : ∀ (v82 : IVec S16 32) (k1_hw127 : k1_chk127 v82), ∀ a x, ((![v82] : Fin 1 → IVec S16 32) a x).toNat < S3328.size a := fun v82 k1_hw127 => k1_hw127

def k1_chk128 (v85 : IVec S16 32) : Prop :=
  (∀ a x, ((![v85] : Fin 1 → IVec S16 32) a x).toNat < S3328.size a)
theorem k1_idx128_inb : ∀ (v85 : IVec S16 32) (k1_hw128 : k1_chk128 v85), ∀ a x, ((![v85] : Fin 1 → IVec S16 32) a x).toNat < S3328.size a := fun v85 k1_hw128 => k1_hw128

def k1_chk129 (v94 : IVec S16 32) (v103 : IVec S16 32) : Prop :=
  (∀ a x, ((![v103, v94] : Fin 2 → IVec S16 32) a x).toNat < S416x128.size a)
theorem k1_idx129_inb : ∀ (v94 : IVec S16 32) (v103 : IVec S16 32) (k1_hw129 : k1_chk129 v94 v103), ∀ a x, ((![v103, v94] : Fin 2 → IVec S16 32) a x).toNat < S416x128.size a := fun v94 v103 k1_hw129 => k1_hw129

def k1_chk130 (v95 : IVec S16 32) (v105 : IVec S16 32) : Prop :=
  (∀ a x, ((![v105, v95] : Fin 2 → IVec S16 32) a x).toNat < S416x128.size a)
theorem k1_idx130_inb : ∀ (v95 : IVec S16 32) (v105 : IVec S16 32) (k1_hw130 : k1_chk130 v95 v105), ∀ a x, ((![v105, v95] : Fin 2 → IVec S16 32) a x).toNat < S416x128.size a := fun v95 v105 k1_hw130 => k1_hw130

def k1_chk131 (v96 : IVec S16 32) (v107 : IVec S16 32) : Prop :=
  (∀ a x, ((![v107, v96] : Fin 2 → IVec S16 32) a x).toNat < S416x128.size a)
theorem k1_idx131_inb : ∀ (v96 : IVec S16 32) (v107 : IVec S16 32) (k1_hw131 : k1_chk131 v96 v107), ∀ a x, ((![v107, v96] : Fin 2 → IVec S16 32) a x).toNat < S416x128.size a := fun v96 v107 k1_hw131 => k1_hw131

def k1_chk132 (v97 : IVec S16 32) (v109 : IVec S16 32) : Prop :=
  (∀ a x, ((![v109, v97] : Fin 2 → IVec S16 32) a x).toNat < S416x128.size a)
theorem k1_idx132_inb : ∀ (v97 : IVec S16 32) (v109 : IVec S16 32) (k1_hw132 : k1_chk132 v97 v109), ∀ a x, ((![v109, v97] : Fin 2 → IVec S16 32) a x).toNat < S416x128.size a := fun v97 v109 k1_hw132 => k1_hw132

def k1_chk133 (v98 : IVec S16 32) (v111 : IVec S16 32) : Prop :=
  (∀ a x, ((![v111, v98] : Fin 2 → IVec S16 32) a x).toNat < S416x128.size a)
theorem k1_idx133_inb : ∀ (v98 : IVec S16 32) (v111 : IVec S16 32) (k1_hw133 : k1_chk133 v98 v111), ∀ a x, ((![v111, v98] : Fin 2 → IVec S16 32) a x).toNat < S416x128.size a := fun v98 v111 k1_hw133 => k1_hw133

def k1_chk134 (v99 : IVec S16 32) (v113 : IVec S16 32) : Prop :=
  (∀ a x, ((![v113, v99] : Fin 2 → IVec S16 32) a x).toNat < S416x128.size a)
theorem k1_idx134_inb : ∀ (v99 : IVec S16 32) (v113 : IVec S16 32) (k1_hw134 : k1_chk134 v99 v113), ∀ a x, ((![v113, v99] : Fin 2 → IVec S16 32) a x).toNat < S416x128.size a := fun v99 v113 k1_hw134 => k1_hw134

def k1_chk135 (v100 : IVec S16 32) (v115 : IVec S16 32) : Prop :=
  (∀ a x, ((![v115, v100] : Fin 2 → IVec S16 32) a x).toNat < S416x128.size a)
theorem k1_idx135_inb : ∀ (v100 : IVec S16 32) (v115 : IVec S16 32) (k1_hw135 : k1_chk135 v100 v115), ∀ a x, ((![v115, v100] : Fin 2 → IVec S16 32) a x).toNat < S416x128.size a := fun v100 v115 k1_hw135 => k1_hw135

def k1_chk136 (v101 : IVec S16 32) (v117 : IVec S16 32) : Prop :=
  (∀ a x, ((![v117, v101] : Fin 2 → IVec S16 32) a x).toNat < S416x128.size a)
theorem k1_idx136_inb : ∀ (v101 : IVec S16 32) (v117 : IVec S16 32) (k1_hw136 : k1_chk136 v101 v117), ∀ a x, ((![v117, v101] : Fin 2 → IVec S16 32) a x).toNat < S416x128.size a := fun v101 v117 k1_hw136 => k1_hw136

def k1_chk137 (v103 : IVec S16 32) (v127 : IVec S16 32) : Prop :=
  (∀ a x, ((![v103, v127] : Fin 2 → IVec S16 32) a x).toNat < S416x128.size a)
theorem k1_idx137_inb : ∀ (v103 : IVec S16 32) (v127 : IVec S16 32) (k1_hw137 : k1_chk137 v103 v127), ∀ a x, ((![v103, v127] : Fin 2 → IVec S16 32) a x).toNat < S416x128.size a := fun v103 v127 k1_hw137 => k1_hw137

def k1_chk138 (v105 : IVec S16 32) (v130 : IVec S16 32) : Prop :=
  (∀ a x, ((![v105, v130] : Fin 2 → IVec S16 32) a x).toNat < S416x128.size a)
theorem k1_idx138_inb : ∀ (v105 : IVec S16 32) (v130 : IVec S16 32) (k1_hw138 : k1_chk138 v105 v130), ∀ a x, ((![v105, v130] : Fin 2 → IVec S16 32) a x).toNat < S416x128.size a := fun v105 v130 k1_hw138 => k1_hw138

def k1_chk139 (v107 : IVec S16 32) (v133 : IVec S16 32) : Prop :=
  (∀ a x, ((![v107, v133] : Fin 2 → IVec S16 32) a x).toNat < S416x128.size a)
theorem k1_idx139_inb : ∀ (v107 : IVec S16 32) (v133 : IVec S16 32) (k1_hw139 : k1_chk139 v107 v133), ∀ a x, ((![v107, v133] : Fin 2 → IVec S16 32) a x).toNat < S416x128.size a := fun v107 v133 k1_hw139 => k1_hw139

def k1_chk140 (v109 : IVec S16 32) (v136 : IVec S16 32) : Prop :=
  (∀ a x, ((![v109, v136] : Fin 2 → IVec S16 32) a x).toNat < S416x128.size a)
theorem k1_idx140_inb : ∀ (v109 : IVec S16 32) (v136 : IVec S16 32) (k1_hw140 : k1_chk140 v109 v136), ∀ a x, ((![v109, v136] : Fin 2 → IVec S16 32) a x).toNat < S416x128.size a := fun v109 v136 k1_hw140 => k1_hw140

def k1_chk141 (v111 : IVec S16 32) (v139 : IVec S16 32) : Prop :=
  (∀ a x, ((![v111, v139] : Fin 2 → IVec S16 32) a x).toNat < S416x128.size a)
theorem k1_idx141_inb : ∀ (v111 : IVec S16 32) (v139 : IVec S16 32) (k1_hw141 : k1_chk141 v111 v139), ∀ a x, ((![v111, v139] : Fin 2 → IVec S16 32) a x).toNat < S416x128.size a := fun v111 v139 k1_hw141 => k1_hw141

def k1_chk142 (v113 : IVec S16 32) (v142 : IVec S16 32) : Prop :=
  (∀ a x, ((![v113, v142] : Fin 2 → IVec S16 32) a x).toNat < S416x128.size a)
theorem k1_idx142_inb : ∀ (v113 : IVec S16 32) (v142 : IVec S16 32) (k1_hw142 : k1_chk142 v113 v142), ∀ a x, ((![v113, v142] : Fin 2 → IVec S16 32) a x).toNat < S416x128.size a := fun v113 v142 k1_hw142 => k1_hw142

def k1_chk143 (v115 : IVec S16 32) (v145 : IVec S16 32) : Prop :=
  (∀ a x, ((![v115, v145] : Fin 2 → IVec S16 32) a x).toNat < S416x128.size a)
theorem k1_idx143_inb : ∀ (v115 : IVec S16 32) (v145 : IVec S16 32) (k1_hw143 : k1_chk143 v115 v145), ∀ a x, ((![v115, v145] : Fin 2 → IVec S16 32) a x).toNat < S416x128.size a := fun v115 v145 k1_hw143 => k1_hw143

def k1_chk144 (v117 : IVec S16 32) (v148 : IVec S16 32) : Prop :=
  (∀ a x, ((![v117, v148] : Fin 2 → IVec S16 32) a x).toNat < S416x128.size a)
theorem k1_idx144_inb : ∀ (v117 : IVec S16 32) (v148 : IVec S16 32) (k1_hw144 : k1_chk144 v117 v148), ∀ a x, ((![v117, v148] : Fin 2 → IVec S16 32) a x).toNat < S416x128.size a := fun v117 v148 k1_hw144 => k1_hw144
def k1_off44 (k1_t7 : Fin k1_t7_loop.trips) (c0_i32_120 : BitVec 32) : Fin 2 → Nat :=
  let c2_i32_119 : BitVec 32 := 2#32
  let c0_i32_66 : BitVec 32 := 0#32
  let c1_i32_68 : BitVec 32 := 1#32
  let arg11 : BitVec 32 := Scf.iv c0_i32_66 c1_i32_68 k1_t7
  let v150 : BitVec 32 := Scalar.muli c2_i32_119 arg11
  let v151 : BitVec 32 := Scalar.addi v150 c0_i32_120
  let v152 : Index := Scalar.indexCast v151
  let c0 : Index := 0#32
  ![v152.toNat, 0]
def k1_off45 (k1_t7 : Fin k1_t7_loop.trips) (c0_i32_120 : BitVec 32) : Fin 2 → Nat :=
  let c2_i32_119 : BitVec 32 := 2#32
  let c0_i32_66 : BitVec 32 := 0#32
  let c1_i32_68 : BitVec 32 := 1#32
  let arg11 : BitVec 32 := Scf.iv c0_i32_66 c1_i32_68 k1_t7
  let v150 : BitVec 32 := Scalar.muli c2_i32_119 arg11
  let v151 : BitVec 32 := Scalar.addi v150 c0_i32_120
  let v154 : Index := Scalar.indexCast v151
  let c16 : Index := 16#32
  ![v154.toNat, 16]
def k1_off46 (k1_t7 : Fin k1_t7_loop.trips) (c0_i32_121 : BitVec 32) : Fin 2 → Nat :=
  let c2_i32_119 : BitVec 32 := 2#32
  let c0_i32_66 : BitVec 32 := 0#32
  let c1_i32_68 : BitVec 32 := 1#32
  let arg11 : BitVec 32 := Scf.iv c0_i32_66 c1_i32_68 k1_t7
  let v150 : BitVec 32 := Scalar.muli c2_i32_119 arg11
  let v156 : BitVec 32 := Scalar.addi v150 c0_i32_121
  let v157 : Index := Scalar.indexCast v156
  let c32 : Index := 32#32
  ![v157.toNat, 32]
def k1_off47 (k1_t7 : Fin k1_t7_loop.trips) (c0_i32_121 : BitVec 32) : Fin 2 → Nat :=
  let c2_i32_119 : BitVec 32 := 2#32
  let c0_i32_66 : BitVec 32 := 0#32
  let c1_i32_68 : BitVec 32 := 1#32
  let arg11 : BitVec 32 := Scf.iv c0_i32_66 c1_i32_68 k1_t7
  let v150 : BitVec 32 := Scalar.muli c2_i32_119 arg11
  let v156 : BitVec 32 := Scalar.addi v150 c0_i32_121
  let v159 : Index := Scalar.indexCast v156
  let c48 : Index := 48#32
  ![v159.toNat, 48]
def k1_off48 (k1_t7 : Fin k1_t7_loop.trips) (c0_i32_122 : BitVec 32) : Fin 2 → Nat :=
  let c2_i32_119 : BitVec 32 := 2#32
  let c0_i32_66 : BitVec 32 := 0#32
  let c1_i32_68 : BitVec 32 := 1#32
  let arg11 : BitVec 32 := Scf.iv c0_i32_66 c1_i32_68 k1_t7
  let v150 : BitVec 32 := Scalar.muli c2_i32_119 arg11
  let v161 : BitVec 32 := Scalar.addi v150 c0_i32_122
  let v162 : Index := Scalar.indexCast v161
  let c64 : Index := 64#32
  ![v162.toNat, 64]
def k1_off49 (k1_t7 : Fin k1_t7_loop.trips) (c0_i32_122 : BitVec 32) : Fin 2 → Nat :=
  let c2_i32_119 : BitVec 32 := 2#32
  let c0_i32_66 : BitVec 32 := 0#32
  let c1_i32_68 : BitVec 32 := 1#32
  let arg11 : BitVec 32 := Scf.iv c0_i32_66 c1_i32_68 k1_t7
  let v150 : BitVec 32 := Scalar.muli c2_i32_119 arg11
  let v161 : BitVec 32 := Scalar.addi v150 c0_i32_122
  let v164 : Index := Scalar.indexCast v161
  let c80 : Index := 80#32
  ![v164.toNat, 80]
def k1_off50 (k1_t7 : Fin k1_t7_loop.trips) (c0_i32_123 : BitVec 32) : Fin 2 → Nat :=
  let c2_i32_119 : BitVec 32 := 2#32
  let c0_i32_66 : BitVec 32 := 0#32
  let c1_i32_68 : BitVec 32 := 1#32
  let arg11 : BitVec 32 := Scf.iv c0_i32_66 c1_i32_68 k1_t7
  let v150 : BitVec 32 := Scalar.muli c2_i32_119 arg11
  let v166 : BitVec 32 := Scalar.addi v150 c0_i32_123
  let v167 : Index := Scalar.indexCast v166
  let c96 : Index := 96#32
  ![v167.toNat, 96]
def k1_off51 (k1_t7 : Fin k1_t7_loop.trips) (c0_i32_123 : BitVec 32) : Fin 2 → Nat :=
  let c2_i32_119 : BitVec 32 := 2#32
  let c0_i32_66 : BitVec 32 := 0#32
  let c1_i32_68 : BitVec 32 := 1#32
  let arg11 : BitVec 32 := Scf.iv c0_i32_66 c1_i32_68 k1_t7
  let v150 : BitVec 32 := Scalar.muli c2_i32_119 arg11
  let v166 : BitVec 32 := Scalar.addi v150 c0_i32_123
  let v169 : Index := Scalar.indexCast v166
  let c112 : Index := 112#32
  ![v169.toNat, 112]
@[reducible] def k1_t8_loop : Scf.Loop 32 :=
  let c0_i32_77 : BitVec 32 := 0#32
  let c52_i32_78 : BitVec 32 := 52#32
  let v51 : BitVec 32 := Scalar.addi c0_i32_77 c52_i32_78
  let c1_i32_79 : BitVec 32 := 1#32
  ⟨c0_i32_77, v51, c1_i32_79⟩

def k1_chk145 (v64 : IVec S16 32) : Prop :=
  (∀ a x, ((![v64] : Fin 1 → IVec S16 32) a x).toNat < S3328.size a)
theorem k1_idx145_inb : ∀ (v64 : IVec S16 32) (k1_hw145 : k1_chk145 v64), ∀ a x, ((![v64] : Fin 1 → IVec S16 32) a x).toNat < S3328.size a := fun v64 k1_hw145 => k1_hw145

def k1_chk146 (v67 : IVec S16 32) : Prop :=
  (∀ a x, ((![v67] : Fin 1 → IVec S16 32) a x).toNat < S3328.size a)
theorem k1_idx146_inb : ∀ (v67 : IVec S16 32) (k1_hw146 : k1_chk146 v67), ∀ a x, ((![v67] : Fin 1 → IVec S16 32) a x).toNat < S3328.size a := fun v67 k1_hw146 => k1_hw146

def k1_chk147 (v70 : IVec S16 32) : Prop :=
  (∀ a x, ((![v70] : Fin 1 → IVec S16 32) a x).toNat < S3328.size a)
theorem k1_idx147_inb : ∀ (v70 : IVec S16 32) (k1_hw147 : k1_chk147 v70), ∀ a x, ((![v70] : Fin 1 → IVec S16 32) a x).toNat < S3328.size a := fun v70 k1_hw147 => k1_hw147

def k1_chk148 (v73 : IVec S16 32) : Prop :=
  (∀ a x, ((![v73] : Fin 1 → IVec S16 32) a x).toNat < S3328.size a)
theorem k1_idx148_inb : ∀ (v73 : IVec S16 32) (k1_hw148 : k1_chk148 v73), ∀ a x, ((![v73] : Fin 1 → IVec S16 32) a x).toNat < S3328.size a := fun v73 k1_hw148 => k1_hw148

def k1_chk149 (v76 : IVec S16 32) : Prop :=
  (∀ a x, ((![v76] : Fin 1 → IVec S16 32) a x).toNat < S3328.size a)
theorem k1_idx149_inb : ∀ (v76 : IVec S16 32) (k1_hw149 : k1_chk149 v76), ∀ a x, ((![v76] : Fin 1 → IVec S16 32) a x).toNat < S3328.size a := fun v76 k1_hw149 => k1_hw149

def k1_chk150 (v79 : IVec S16 32) : Prop :=
  (∀ a x, ((![v79] : Fin 1 → IVec S16 32) a x).toNat < S3328.size a)
theorem k1_idx150_inb : ∀ (v79 : IVec S16 32) (k1_hw150 : k1_chk150 v79), ∀ a x, ((![v79] : Fin 1 → IVec S16 32) a x).toNat < S3328.size a := fun v79 k1_hw150 => k1_hw150

def k1_chk151 (v82 : IVec S16 32) : Prop :=
  (∀ a x, ((![v82] : Fin 1 → IVec S16 32) a x).toNat < S3328.size a)
theorem k1_idx151_inb : ∀ (v82 : IVec S16 32) (k1_hw151 : k1_chk151 v82), ∀ a x, ((![v82] : Fin 1 → IVec S16 32) a x).toNat < S3328.size a := fun v82 k1_hw151 => k1_hw151

def k1_chk152 (v85 : IVec S16 32) : Prop :=
  (∀ a x, ((![v85] : Fin 1 → IVec S16 32) a x).toNat < S3328.size a)
theorem k1_idx152_inb : ∀ (v85 : IVec S16 32) (k1_hw152 : k1_chk152 v85), ∀ a x, ((![v85] : Fin 1 → IVec S16 32) a x).toNat < S3328.size a := fun v85 k1_hw152 => k1_hw152

def k1_chk153 (v94 : IVec S16 32) (v103 : IVec S16 32) : Prop :=
  (∀ a x, ((![v103, v94] : Fin 2 → IVec S16 32) a x).toNat < S416x128.size a)
theorem k1_idx153_inb : ∀ (v94 : IVec S16 32) (v103 : IVec S16 32) (k1_hw153 : k1_chk153 v94 v103), ∀ a x, ((![v103, v94] : Fin 2 → IVec S16 32) a x).toNat < S416x128.size a := fun v94 v103 k1_hw153 => k1_hw153

def k1_chk154 (v95 : IVec S16 32) (v105 : IVec S16 32) : Prop :=
  (∀ a x, ((![v105, v95] : Fin 2 → IVec S16 32) a x).toNat < S416x128.size a)
theorem k1_idx154_inb : ∀ (v95 : IVec S16 32) (v105 : IVec S16 32) (k1_hw154 : k1_chk154 v95 v105), ∀ a x, ((![v105, v95] : Fin 2 → IVec S16 32) a x).toNat < S416x128.size a := fun v95 v105 k1_hw154 => k1_hw154

def k1_chk155 (v96 : IVec S16 32) (v107 : IVec S16 32) : Prop :=
  (∀ a x, ((![v107, v96] : Fin 2 → IVec S16 32) a x).toNat < S416x128.size a)
theorem k1_idx155_inb : ∀ (v96 : IVec S16 32) (v107 : IVec S16 32) (k1_hw155 : k1_chk155 v96 v107), ∀ a x, ((![v107, v96] : Fin 2 → IVec S16 32) a x).toNat < S416x128.size a := fun v96 v107 k1_hw155 => k1_hw155

def k1_chk156 (v97 : IVec S16 32) (v109 : IVec S16 32) : Prop :=
  (∀ a x, ((![v109, v97] : Fin 2 → IVec S16 32) a x).toNat < S416x128.size a)
theorem k1_idx156_inb : ∀ (v97 : IVec S16 32) (v109 : IVec S16 32) (k1_hw156 : k1_chk156 v97 v109), ∀ a x, ((![v109, v97] : Fin 2 → IVec S16 32) a x).toNat < S416x128.size a := fun v97 v109 k1_hw156 => k1_hw156

def k1_chk157 (v98 : IVec S16 32) (v111 : IVec S16 32) : Prop :=
  (∀ a x, ((![v111, v98] : Fin 2 → IVec S16 32) a x).toNat < S416x128.size a)
theorem k1_idx157_inb : ∀ (v98 : IVec S16 32) (v111 : IVec S16 32) (k1_hw157 : k1_chk157 v98 v111), ∀ a x, ((![v111, v98] : Fin 2 → IVec S16 32) a x).toNat < S416x128.size a := fun v98 v111 k1_hw157 => k1_hw157

def k1_chk158 (v99 : IVec S16 32) (v113 : IVec S16 32) : Prop :=
  (∀ a x, ((![v113, v99] : Fin 2 → IVec S16 32) a x).toNat < S416x128.size a)
theorem k1_idx158_inb : ∀ (v99 : IVec S16 32) (v113 : IVec S16 32) (k1_hw158 : k1_chk158 v99 v113), ∀ a x, ((![v113, v99] : Fin 2 → IVec S16 32) a x).toNat < S416x128.size a := fun v99 v113 k1_hw158 => k1_hw158

def k1_chk159 (v100 : IVec S16 32) (v115 : IVec S16 32) : Prop :=
  (∀ a x, ((![v115, v100] : Fin 2 → IVec S16 32) a x).toNat < S416x128.size a)
theorem k1_idx159_inb : ∀ (v100 : IVec S16 32) (v115 : IVec S16 32) (k1_hw159 : k1_chk159 v100 v115), ∀ a x, ((![v115, v100] : Fin 2 → IVec S16 32) a x).toNat < S416x128.size a := fun v100 v115 k1_hw159 => k1_hw159

def k1_chk160 (v101 : IVec S16 32) (v117 : IVec S16 32) : Prop :=
  (∀ a x, ((![v117, v101] : Fin 2 → IVec S16 32) a x).toNat < S416x128.size a)
theorem k1_idx160_inb : ∀ (v101 : IVec S16 32) (v117 : IVec S16 32) (k1_hw160 : k1_chk160 v101 v117), ∀ a x, ((![v117, v101] : Fin 2 → IVec S16 32) a x).toNat < S416x128.size a := fun v101 v117 k1_hw160 => k1_hw160

def k1_chk161 (v103 : IVec S16 32) (v127 : IVec S16 32) : Prop :=
  (∀ a x, ((![v103, v127] : Fin 2 → IVec S16 32) a x).toNat < S416x128.size a)
theorem k1_idx161_inb : ∀ (v103 : IVec S16 32) (v127 : IVec S16 32) (k1_hw161 : k1_chk161 v103 v127), ∀ a x, ((![v103, v127] : Fin 2 → IVec S16 32) a x).toNat < S416x128.size a := fun v103 v127 k1_hw161 => k1_hw161

def k1_chk162 (v105 : IVec S16 32) (v130 : IVec S16 32) : Prop :=
  (∀ a x, ((![v105, v130] : Fin 2 → IVec S16 32) a x).toNat < S416x128.size a)
theorem k1_idx162_inb : ∀ (v105 : IVec S16 32) (v130 : IVec S16 32) (k1_hw162 : k1_chk162 v105 v130), ∀ a x, ((![v105, v130] : Fin 2 → IVec S16 32) a x).toNat < S416x128.size a := fun v105 v130 k1_hw162 => k1_hw162

def k1_chk163 (v107 : IVec S16 32) (v133 : IVec S16 32) : Prop :=
  (∀ a x, ((![v107, v133] : Fin 2 → IVec S16 32) a x).toNat < S416x128.size a)
theorem k1_idx163_inb : ∀ (v107 : IVec S16 32) (v133 : IVec S16 32) (k1_hw163 : k1_chk163 v107 v133), ∀ a x, ((![v107, v133] : Fin 2 → IVec S16 32) a x).toNat < S416x128.size a := fun v107 v133 k1_hw163 => k1_hw163

def k1_chk164 (v109 : IVec S16 32) (v136 : IVec S16 32) : Prop :=
  (∀ a x, ((![v109, v136] : Fin 2 → IVec S16 32) a x).toNat < S416x128.size a)
theorem k1_idx164_inb : ∀ (v109 : IVec S16 32) (v136 : IVec S16 32) (k1_hw164 : k1_chk164 v109 v136), ∀ a x, ((![v109, v136] : Fin 2 → IVec S16 32) a x).toNat < S416x128.size a := fun v109 v136 k1_hw164 => k1_hw164

def k1_chk165 (v111 : IVec S16 32) (v139 : IVec S16 32) : Prop :=
  (∀ a x, ((![v111, v139] : Fin 2 → IVec S16 32) a x).toNat < S416x128.size a)
theorem k1_idx165_inb : ∀ (v111 : IVec S16 32) (v139 : IVec S16 32) (k1_hw165 : k1_chk165 v111 v139), ∀ a x, ((![v111, v139] : Fin 2 → IVec S16 32) a x).toNat < S416x128.size a := fun v111 v139 k1_hw165 => k1_hw165

def k1_chk166 (v113 : IVec S16 32) (v142 : IVec S16 32) : Prop :=
  (∀ a x, ((![v113, v142] : Fin 2 → IVec S16 32) a x).toNat < S416x128.size a)
theorem k1_idx166_inb : ∀ (v113 : IVec S16 32) (v142 : IVec S16 32) (k1_hw166 : k1_chk166 v113 v142), ∀ a x, ((![v113, v142] : Fin 2 → IVec S16 32) a x).toNat < S416x128.size a := fun v113 v142 k1_hw166 => k1_hw166

def k1_chk167 (v115 : IVec S16 32) (v145 : IVec S16 32) : Prop :=
  (∀ a x, ((![v115, v145] : Fin 2 → IVec S16 32) a x).toNat < S416x128.size a)
theorem k1_idx167_inb : ∀ (v115 : IVec S16 32) (v145 : IVec S16 32) (k1_hw167 : k1_chk167 v115 v145), ∀ a x, ((![v115, v145] : Fin 2 → IVec S16 32) a x).toNat < S416x128.size a := fun v115 v145 k1_hw167 => k1_hw167

def k1_chk168 (v117 : IVec S16 32) (v148 : IVec S16 32) : Prop :=
  (∀ a x, ((![v117, v148] : Fin 2 → IVec S16 32) a x).toNat < S416x128.size a)
theorem k1_idx168_inb : ∀ (v117 : IVec S16 32) (v148 : IVec S16 32) (k1_hw168 : k1_chk168 v117 v148), ∀ a x, ((![v117, v148] : Fin 2 → IVec S16 32) a x).toNat < S416x128.size a := fun v117 v148 k1_hw168 => k1_hw168
def k1_off52 (k1_t8 : Fin k1_t8_loop.trips) (c0_i32_120 : BitVec 32) : Fin 2 → Nat :=
  let c2_i32_119 : BitVec 32 := 2#32
  let c0_i32_77 : BitVec 32 := 0#32
  let c1_i32_79 : BitVec 32 := 1#32
  let arg11 : BitVec 32 := Scf.iv c0_i32_77 c1_i32_79 k1_t8
  let v150 : BitVec 32 := Scalar.muli c2_i32_119 arg11
  let v151 : BitVec 32 := Scalar.addi v150 c0_i32_120
  let v152 : Index := Scalar.indexCast v151
  let c0 : Index := 0#32
  ![v152.toNat, 0]
def k1_off53 (k1_t8 : Fin k1_t8_loop.trips) (c0_i32_120 : BitVec 32) : Fin 2 → Nat :=
  let c2_i32_119 : BitVec 32 := 2#32
  let c0_i32_77 : BitVec 32 := 0#32
  let c1_i32_79 : BitVec 32 := 1#32
  let arg11 : BitVec 32 := Scf.iv c0_i32_77 c1_i32_79 k1_t8
  let v150 : BitVec 32 := Scalar.muli c2_i32_119 arg11
  let v151 : BitVec 32 := Scalar.addi v150 c0_i32_120
  let v154 : Index := Scalar.indexCast v151
  let c16 : Index := 16#32
  ![v154.toNat, 16]
def k1_off54 (k1_t8 : Fin k1_t8_loop.trips) (c0_i32_121 : BitVec 32) : Fin 2 → Nat :=
  let c2_i32_119 : BitVec 32 := 2#32
  let c0_i32_77 : BitVec 32 := 0#32
  let c1_i32_79 : BitVec 32 := 1#32
  let arg11 : BitVec 32 := Scf.iv c0_i32_77 c1_i32_79 k1_t8
  let v150 : BitVec 32 := Scalar.muli c2_i32_119 arg11
  let v156 : BitVec 32 := Scalar.addi v150 c0_i32_121
  let v157 : Index := Scalar.indexCast v156
  let c32 : Index := 32#32
  ![v157.toNat, 32]
def k1_off55 (k1_t8 : Fin k1_t8_loop.trips) (c0_i32_121 : BitVec 32) : Fin 2 → Nat :=
  let c2_i32_119 : BitVec 32 := 2#32
  let c0_i32_77 : BitVec 32 := 0#32
  let c1_i32_79 : BitVec 32 := 1#32
  let arg11 : BitVec 32 := Scf.iv c0_i32_77 c1_i32_79 k1_t8
  let v150 : BitVec 32 := Scalar.muli c2_i32_119 arg11
  let v156 : BitVec 32 := Scalar.addi v150 c0_i32_121
  let v159 : Index := Scalar.indexCast v156
  let c48 : Index := 48#32
  ![v159.toNat, 48]
def k1_off56 (k1_t8 : Fin k1_t8_loop.trips) (c0_i32_122 : BitVec 32) : Fin 2 → Nat :=
  let c2_i32_119 : BitVec 32 := 2#32
  let c0_i32_77 : BitVec 32 := 0#32
  let c1_i32_79 : BitVec 32 := 1#32
  let arg11 : BitVec 32 := Scf.iv c0_i32_77 c1_i32_79 k1_t8
  let v150 : BitVec 32 := Scalar.muli c2_i32_119 arg11
  let v161 : BitVec 32 := Scalar.addi v150 c0_i32_122
  let v162 : Index := Scalar.indexCast v161
  let c64 : Index := 64#32
  ![v162.toNat, 64]
def k1_off57 (k1_t8 : Fin k1_t8_loop.trips) (c0_i32_122 : BitVec 32) : Fin 2 → Nat :=
  let c2_i32_119 : BitVec 32 := 2#32
  let c0_i32_77 : BitVec 32 := 0#32
  let c1_i32_79 : BitVec 32 := 1#32
  let arg11 : BitVec 32 := Scf.iv c0_i32_77 c1_i32_79 k1_t8
  let v150 : BitVec 32 := Scalar.muli c2_i32_119 arg11
  let v161 : BitVec 32 := Scalar.addi v150 c0_i32_122
  let v164 : Index := Scalar.indexCast v161
  let c80 : Index := 80#32
  ![v164.toNat, 80]
def k1_off58 (k1_t8 : Fin k1_t8_loop.trips) (c0_i32_123 : BitVec 32) : Fin 2 → Nat :=
  let c2_i32_119 : BitVec 32 := 2#32
  let c0_i32_77 : BitVec 32 := 0#32
  let c1_i32_79 : BitVec 32 := 1#32
  let arg11 : BitVec 32 := Scf.iv c0_i32_77 c1_i32_79 k1_t8
  let v150 : BitVec 32 := Scalar.muli c2_i32_119 arg11
  let v166 : BitVec 32 := Scalar.addi v150 c0_i32_123
  let v167 : Index := Scalar.indexCast v166
  let c96 : Index := 96#32
  ![v167.toNat, 96]
def k1_off59 (k1_t8 : Fin k1_t8_loop.trips) (c0_i32_123 : BitVec 32) : Fin 2 → Nat :=
  let c2_i32_119 : BitVec 32 := 2#32
  let c0_i32_77 : BitVec 32 := 0#32
  let c1_i32_79 : BitVec 32 := 1#32
  let arg11 : BitVec 32 := Scf.iv c0_i32_77 c1_i32_79 k1_t8
  let v150 : BitVec 32 := Scalar.muli c2_i32_119 arg11
  let v166 : BitVec 32 := Scalar.addi v150 c0_i32_123
  let v169 : Index := Scalar.indexCast v166
  let c112 : Index := 112#32
  ![v169.toNat, 112]
@[reducible] def k1_t9_loop : Scf.Loop 32 :=
  let c0_i32_88 : BitVec 32 := 0#32
  let c52_i32_89 : BitVec 32 := 52#32
  let v58 : BitVec 32 := Scalar.addi c0_i32_88 c52_i32_89
  let c1_i32_90 : BitVec 32 := 1#32
  ⟨c0_i32_88, v58, c1_i32_90⟩

def k1_chk169 (v64 : IVec S16 32) : Prop :=
  (∀ a x, ((![v64] : Fin 1 → IVec S16 32) a x).toNat < S3328.size a)
theorem k1_idx169_inb : ∀ (v64 : IVec S16 32) (k1_hw169 : k1_chk169 v64), ∀ a x, ((![v64] : Fin 1 → IVec S16 32) a x).toNat < S3328.size a := fun v64 k1_hw169 => k1_hw169

def k1_chk170 (v67 : IVec S16 32) : Prop :=
  (∀ a x, ((![v67] : Fin 1 → IVec S16 32) a x).toNat < S3328.size a)
theorem k1_idx170_inb : ∀ (v67 : IVec S16 32) (k1_hw170 : k1_chk170 v67), ∀ a x, ((![v67] : Fin 1 → IVec S16 32) a x).toNat < S3328.size a := fun v67 k1_hw170 => k1_hw170

def k1_chk171 (v70 : IVec S16 32) : Prop :=
  (∀ a x, ((![v70] : Fin 1 → IVec S16 32) a x).toNat < S3328.size a)
theorem k1_idx171_inb : ∀ (v70 : IVec S16 32) (k1_hw171 : k1_chk171 v70), ∀ a x, ((![v70] : Fin 1 → IVec S16 32) a x).toNat < S3328.size a := fun v70 k1_hw171 => k1_hw171

def k1_chk172 (v73 : IVec S16 32) : Prop :=
  (∀ a x, ((![v73] : Fin 1 → IVec S16 32) a x).toNat < S3328.size a)
theorem k1_idx172_inb : ∀ (v73 : IVec S16 32) (k1_hw172 : k1_chk172 v73), ∀ a x, ((![v73] : Fin 1 → IVec S16 32) a x).toNat < S3328.size a := fun v73 k1_hw172 => k1_hw172

def k1_chk173 (v76 : IVec S16 32) : Prop :=
  (∀ a x, ((![v76] : Fin 1 → IVec S16 32) a x).toNat < S3328.size a)
theorem k1_idx173_inb : ∀ (v76 : IVec S16 32) (k1_hw173 : k1_chk173 v76), ∀ a x, ((![v76] : Fin 1 → IVec S16 32) a x).toNat < S3328.size a := fun v76 k1_hw173 => k1_hw173

def k1_chk174 (v79 : IVec S16 32) : Prop :=
  (∀ a x, ((![v79] : Fin 1 → IVec S16 32) a x).toNat < S3328.size a)
theorem k1_idx174_inb : ∀ (v79 : IVec S16 32) (k1_hw174 : k1_chk174 v79), ∀ a x, ((![v79] : Fin 1 → IVec S16 32) a x).toNat < S3328.size a := fun v79 k1_hw174 => k1_hw174

def k1_chk175 (v82 : IVec S16 32) : Prop :=
  (∀ a x, ((![v82] : Fin 1 → IVec S16 32) a x).toNat < S3328.size a)
theorem k1_idx175_inb : ∀ (v82 : IVec S16 32) (k1_hw175 : k1_chk175 v82), ∀ a x, ((![v82] : Fin 1 → IVec S16 32) a x).toNat < S3328.size a := fun v82 k1_hw175 => k1_hw175

def k1_chk176 (v85 : IVec S16 32) : Prop :=
  (∀ a x, ((![v85] : Fin 1 → IVec S16 32) a x).toNat < S3328.size a)
theorem k1_idx176_inb : ∀ (v85 : IVec S16 32) (k1_hw176 : k1_chk176 v85), ∀ a x, ((![v85] : Fin 1 → IVec S16 32) a x).toNat < S3328.size a := fun v85 k1_hw176 => k1_hw176

def k1_chk177 (v94 : IVec S16 32) (v103 : IVec S16 32) : Prop :=
  (∀ a x, ((![v103, v94] : Fin 2 → IVec S16 32) a x).toNat < S416x128.size a)
theorem k1_idx177_inb : ∀ (v94 : IVec S16 32) (v103 : IVec S16 32) (k1_hw177 : k1_chk177 v94 v103), ∀ a x, ((![v103, v94] : Fin 2 → IVec S16 32) a x).toNat < S416x128.size a := fun v94 v103 k1_hw177 => k1_hw177

def k1_chk178 (v95 : IVec S16 32) (v105 : IVec S16 32) : Prop :=
  (∀ a x, ((![v105, v95] : Fin 2 → IVec S16 32) a x).toNat < S416x128.size a)
theorem k1_idx178_inb : ∀ (v95 : IVec S16 32) (v105 : IVec S16 32) (k1_hw178 : k1_chk178 v95 v105), ∀ a x, ((![v105, v95] : Fin 2 → IVec S16 32) a x).toNat < S416x128.size a := fun v95 v105 k1_hw178 => k1_hw178

def k1_chk179 (v96 : IVec S16 32) (v107 : IVec S16 32) : Prop :=
  (∀ a x, ((![v107, v96] : Fin 2 → IVec S16 32) a x).toNat < S416x128.size a)
theorem k1_idx179_inb : ∀ (v96 : IVec S16 32) (v107 : IVec S16 32) (k1_hw179 : k1_chk179 v96 v107), ∀ a x, ((![v107, v96] : Fin 2 → IVec S16 32) a x).toNat < S416x128.size a := fun v96 v107 k1_hw179 => k1_hw179

def k1_chk180 (v97 : IVec S16 32) (v109 : IVec S16 32) : Prop :=
  (∀ a x, ((![v109, v97] : Fin 2 → IVec S16 32) a x).toNat < S416x128.size a)
theorem k1_idx180_inb : ∀ (v97 : IVec S16 32) (v109 : IVec S16 32) (k1_hw180 : k1_chk180 v97 v109), ∀ a x, ((![v109, v97] : Fin 2 → IVec S16 32) a x).toNat < S416x128.size a := fun v97 v109 k1_hw180 => k1_hw180

def k1_chk181 (v98 : IVec S16 32) (v111 : IVec S16 32) : Prop :=
  (∀ a x, ((![v111, v98] : Fin 2 → IVec S16 32) a x).toNat < S416x128.size a)
theorem k1_idx181_inb : ∀ (v98 : IVec S16 32) (v111 : IVec S16 32) (k1_hw181 : k1_chk181 v98 v111), ∀ a x, ((![v111, v98] : Fin 2 → IVec S16 32) a x).toNat < S416x128.size a := fun v98 v111 k1_hw181 => k1_hw181

def k1_chk182 (v99 : IVec S16 32) (v113 : IVec S16 32) : Prop :=
  (∀ a x, ((![v113, v99] : Fin 2 → IVec S16 32) a x).toNat < S416x128.size a)
theorem k1_idx182_inb : ∀ (v99 : IVec S16 32) (v113 : IVec S16 32) (k1_hw182 : k1_chk182 v99 v113), ∀ a x, ((![v113, v99] : Fin 2 → IVec S16 32) a x).toNat < S416x128.size a := fun v99 v113 k1_hw182 => k1_hw182

def k1_chk183 (v100 : IVec S16 32) (v115 : IVec S16 32) : Prop :=
  (∀ a x, ((![v115, v100] : Fin 2 → IVec S16 32) a x).toNat < S416x128.size a)
theorem k1_idx183_inb : ∀ (v100 : IVec S16 32) (v115 : IVec S16 32) (k1_hw183 : k1_chk183 v100 v115), ∀ a x, ((![v115, v100] : Fin 2 → IVec S16 32) a x).toNat < S416x128.size a := fun v100 v115 k1_hw183 => k1_hw183

def k1_chk184 (v101 : IVec S16 32) (v117 : IVec S16 32) : Prop :=
  (∀ a x, ((![v117, v101] : Fin 2 → IVec S16 32) a x).toNat < S416x128.size a)
theorem k1_idx184_inb : ∀ (v101 : IVec S16 32) (v117 : IVec S16 32) (k1_hw184 : k1_chk184 v101 v117), ∀ a x, ((![v117, v101] : Fin 2 → IVec S16 32) a x).toNat < S416x128.size a := fun v101 v117 k1_hw184 => k1_hw184

def k1_chk185 (v103 : IVec S16 32) (v127 : IVec S16 32) : Prop :=
  (∀ a x, ((![v103, v127] : Fin 2 → IVec S16 32) a x).toNat < S416x128.size a)
theorem k1_idx185_inb : ∀ (v103 : IVec S16 32) (v127 : IVec S16 32) (k1_hw185 : k1_chk185 v103 v127), ∀ a x, ((![v103, v127] : Fin 2 → IVec S16 32) a x).toNat < S416x128.size a := fun v103 v127 k1_hw185 => k1_hw185

def k1_chk186 (v105 : IVec S16 32) (v130 : IVec S16 32) : Prop :=
  (∀ a x, ((![v105, v130] : Fin 2 → IVec S16 32) a x).toNat < S416x128.size a)
theorem k1_idx186_inb : ∀ (v105 : IVec S16 32) (v130 : IVec S16 32) (k1_hw186 : k1_chk186 v105 v130), ∀ a x, ((![v105, v130] : Fin 2 → IVec S16 32) a x).toNat < S416x128.size a := fun v105 v130 k1_hw186 => k1_hw186

def k1_chk187 (v107 : IVec S16 32) (v133 : IVec S16 32) : Prop :=
  (∀ a x, ((![v107, v133] : Fin 2 → IVec S16 32) a x).toNat < S416x128.size a)
theorem k1_idx187_inb : ∀ (v107 : IVec S16 32) (v133 : IVec S16 32) (k1_hw187 : k1_chk187 v107 v133), ∀ a x, ((![v107, v133] : Fin 2 → IVec S16 32) a x).toNat < S416x128.size a := fun v107 v133 k1_hw187 => k1_hw187

def k1_chk188 (v109 : IVec S16 32) (v136 : IVec S16 32) : Prop :=
  (∀ a x, ((![v109, v136] : Fin 2 → IVec S16 32) a x).toNat < S416x128.size a)
theorem k1_idx188_inb : ∀ (v109 : IVec S16 32) (v136 : IVec S16 32) (k1_hw188 : k1_chk188 v109 v136), ∀ a x, ((![v109, v136] : Fin 2 → IVec S16 32) a x).toNat < S416x128.size a := fun v109 v136 k1_hw188 => k1_hw188

def k1_chk189 (v111 : IVec S16 32) (v139 : IVec S16 32) : Prop :=
  (∀ a x, ((![v111, v139] : Fin 2 → IVec S16 32) a x).toNat < S416x128.size a)
theorem k1_idx189_inb : ∀ (v111 : IVec S16 32) (v139 : IVec S16 32) (k1_hw189 : k1_chk189 v111 v139), ∀ a x, ((![v111, v139] : Fin 2 → IVec S16 32) a x).toNat < S416x128.size a := fun v111 v139 k1_hw189 => k1_hw189

def k1_chk190 (v113 : IVec S16 32) (v142 : IVec S16 32) : Prop :=
  (∀ a x, ((![v113, v142] : Fin 2 → IVec S16 32) a x).toNat < S416x128.size a)
theorem k1_idx190_inb : ∀ (v113 : IVec S16 32) (v142 : IVec S16 32) (k1_hw190 : k1_chk190 v113 v142), ∀ a x, ((![v113, v142] : Fin 2 → IVec S16 32) a x).toNat < S416x128.size a := fun v113 v142 k1_hw190 => k1_hw190

def k1_chk191 (v115 : IVec S16 32) (v145 : IVec S16 32) : Prop :=
  (∀ a x, ((![v115, v145] : Fin 2 → IVec S16 32) a x).toNat < S416x128.size a)
theorem k1_idx191_inb : ∀ (v115 : IVec S16 32) (v145 : IVec S16 32) (k1_hw191 : k1_chk191 v115 v145), ∀ a x, ((![v115, v145] : Fin 2 → IVec S16 32) a x).toNat < S416x128.size a := fun v115 v145 k1_hw191 => k1_hw191

def k1_chk192 (v117 : IVec S16 32) (v148 : IVec S16 32) : Prop :=
  (∀ a x, ((![v117, v148] : Fin 2 → IVec S16 32) a x).toNat < S416x128.size a)
theorem k1_idx192_inb : ∀ (v117 : IVec S16 32) (v148 : IVec S16 32) (k1_hw192 : k1_chk192 v117 v148), ∀ a x, ((![v117, v148] : Fin 2 → IVec S16 32) a x).toNat < S416x128.size a := fun v117 v148 k1_hw192 => k1_hw192
def k1_off60 (k1_t9 : Fin k1_t9_loop.trips) (c0_i32_120 : BitVec 32) : Fin 2 → Nat :=
  let c2_i32_119 : BitVec 32 := 2#32
  let c0_i32_88 : BitVec 32 := 0#32
  let c1_i32_90 : BitVec 32 := 1#32
  let arg11 : BitVec 32 := Scf.iv c0_i32_88 c1_i32_90 k1_t9
  let v150 : BitVec 32 := Scalar.muli c2_i32_119 arg11
  let v151 : BitVec 32 := Scalar.addi v150 c0_i32_120
  let v152 : Index := Scalar.indexCast v151
  let c0 : Index := 0#32
  ![v152.toNat, 0]
def k1_off61 (k1_t9 : Fin k1_t9_loop.trips) (c0_i32_120 : BitVec 32) : Fin 2 → Nat :=
  let c2_i32_119 : BitVec 32 := 2#32
  let c0_i32_88 : BitVec 32 := 0#32
  let c1_i32_90 : BitVec 32 := 1#32
  let arg11 : BitVec 32 := Scf.iv c0_i32_88 c1_i32_90 k1_t9
  let v150 : BitVec 32 := Scalar.muli c2_i32_119 arg11
  let v151 : BitVec 32 := Scalar.addi v150 c0_i32_120
  let v154 : Index := Scalar.indexCast v151
  let c16 : Index := 16#32
  ![v154.toNat, 16]
def k1_off62 (k1_t9 : Fin k1_t9_loop.trips) (c0_i32_121 : BitVec 32) : Fin 2 → Nat :=
  let c2_i32_119 : BitVec 32 := 2#32
  let c0_i32_88 : BitVec 32 := 0#32
  let c1_i32_90 : BitVec 32 := 1#32
  let arg11 : BitVec 32 := Scf.iv c0_i32_88 c1_i32_90 k1_t9
  let v150 : BitVec 32 := Scalar.muli c2_i32_119 arg11
  let v156 : BitVec 32 := Scalar.addi v150 c0_i32_121
  let v157 : Index := Scalar.indexCast v156
  let c32 : Index := 32#32
  ![v157.toNat, 32]
def k1_off63 (k1_t9 : Fin k1_t9_loop.trips) (c0_i32_121 : BitVec 32) : Fin 2 → Nat :=
  let c2_i32_119 : BitVec 32 := 2#32
  let c0_i32_88 : BitVec 32 := 0#32
  let c1_i32_90 : BitVec 32 := 1#32
  let arg11 : BitVec 32 := Scf.iv c0_i32_88 c1_i32_90 k1_t9
  let v150 : BitVec 32 := Scalar.muli c2_i32_119 arg11
  let v156 : BitVec 32 := Scalar.addi v150 c0_i32_121
  let v159 : Index := Scalar.indexCast v156
  let c48 : Index := 48#32
  ![v159.toNat, 48]
def k1_off64 (k1_t9 : Fin k1_t9_loop.trips) (c0_i32_122 : BitVec 32) : Fin 2 → Nat :=
  let c2_i32_119 : BitVec 32 := 2#32
  let c0_i32_88 : BitVec 32 := 0#32
  let c1_i32_90 : BitVec 32 := 1#32
  let arg11 : BitVec 32 := Scf.iv c0_i32_88 c1_i32_90 k1_t9
  let v150 : BitVec 32 := Scalar.muli c2_i32_119 arg11
  let v161 : BitVec 32 := Scalar.addi v150 c0_i32_122
  let v162 : Index := Scalar.indexCast v161
  let c64 : Index := 64#32
  ![v162.toNat, 64]
def k1_off65 (k1_t9 : Fin k1_t9_loop.trips) (c0_i32_122 : BitVec 32) : Fin 2 → Nat :=
  let c2_i32_119 : BitVec 32 := 2#32
  let c0_i32_88 : BitVec 32 := 0#32
  let c1_i32_90 : BitVec 32 := 1#32
  let arg11 : BitVec 32 := Scf.iv c0_i32_88 c1_i32_90 k1_t9
  let v150 : BitVec 32 := Scalar.muli c2_i32_119 arg11
  let v161 : BitVec 32 := Scalar.addi v150 c0_i32_122
  let v164 : Index := Scalar.indexCast v161
  let c80 : Index := 80#32
  ![v164.toNat, 80]
def k1_off66 (k1_t9 : Fin k1_t9_loop.trips) (c0_i32_123 : BitVec 32) : Fin 2 → Nat :=
  let c2_i32_119 : BitVec 32 := 2#32
  let c0_i32_88 : BitVec 32 := 0#32
  let c1_i32_90 : BitVec 32 := 1#32
  let arg11 : BitVec 32 := Scf.iv c0_i32_88 c1_i32_90 k1_t9
  let v150 : BitVec 32 := Scalar.muli c2_i32_119 arg11
  let v166 : BitVec 32 := Scalar.addi v150 c0_i32_123
  let v167 : Index := Scalar.indexCast v166
  let c96 : Index := 96#32
  ![v167.toNat, 96]
def k1_off67 (k1_t9 : Fin k1_t9_loop.trips) (c0_i32_123 : BitVec 32) : Fin 2 → Nat :=
  let c2_i32_119 : BitVec 32 := 2#32
  let c0_i32_88 : BitVec 32 := 0#32
  let c1_i32_90 : BitVec 32 := 1#32
  let arg11 : BitVec 32 := Scf.iv c0_i32_88 c1_i32_90 k1_t9
  let v150 : BitVec 32 := Scalar.muli c2_i32_119 arg11
  let v166 : BitVec 32 := Scalar.addi v150 c0_i32_123
  let v169 : Index := Scalar.indexCast v166
  let c112 : Index := 112#32
  ![v169.toNat, 112]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x832 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x13 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S832x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S13x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S512x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4096x39 : Shape := ⟨2, ![4096, 39]⟩
abbrev S26x100000x32 : Shape := ⟨3, ![26, 100000, 32]⟩
abbrev S845x512 : Shape := ⟨2, ![845, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S4096x26 : Shape := ⟨2, ![4096, 26]⟩
abbrev S_ : Shape := ⟨0, ![]⟩
abbrev S26x4096 : Shape := ⟨2, ![26, 4096]⟩
abbrev S26x4096x1 : Shape := ⟨3, ![26, 4096, 1]⟩
abbrev S1 : Shape := ⟨1, ![1]⟩
abbrev S1x1x1 : Shape := ⟨3, ![1, 1, 1]⟩
abbrev S26x4096x32 : Shape := ⟨3, ![26, 4096, 32]⟩
abbrev S4096x26x32 : Shape := ⟨3, ![4096, 26, 32]⟩
abbrev S4096x832 : Shape := ⟨2, ![4096, 832]⟩
abbrev S4096x13 : Shape := ⟨2, ![4096, 13]⟩
abbrev S4096x845 : Shape := ⟨2, ![4096, 845]⟩
abbrev S4096x512 : Shape := ⟨2, ![4096, 512]⟩
abbrev S1x512 : Shape := ⟨2, ![1, 512]⟩
abbrev S4096x256 : Shape := ⟨2, ![4096, 256]⟩
abbrev S1x256 : Shape := ⟨2, ![1, 256]⟩
abbrev S4096x128 : Shape := ⟨2, ![4096, 128]⟩
abbrev S1x128 : Shape := ⟨2, ![1, 128]⟩

abbrev nBuf : Space → Nat
  | .hbm => 59
  | .vmem => 0
  | .smem => 0
  | _ => 0

abbrev bufTy : (tb : Table) → Fin (tcTables nBuf tb) → BufTy
  | .hbm, ⟨0, _⟩ => ⟨S4096x39, .f32⟩
  | .hbm, ⟨1, _⟩ => ⟨S26x100000x32, .f32⟩
  | .hbm, ⟨2, _⟩ => ⟨S845x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S4096x26, .f32⟩
  | .hbm, ⟨9, _⟩ => ⟨S4096x26, .i32⟩
  | .hbm, ⟨10, _⟩ => ⟨S_, .i32⟩
  | .hbm, ⟨11, _⟩ => ⟨S4096x26, .i32⟩
  | .hbm, ⟨12, _⟩ => ⟨S4096x26, .i1⟩
  | .hbm, ⟨13, _⟩ => ⟨S_, .i32⟩
  | .hbm, ⟨14, _⟩ => ⟨S4096x26, .i32⟩
  | .hbm, ⟨15, _⟩ => ⟨S4096x26, .i32⟩
  | .hbm, ⟨16, _⟩ => ⟨S4096x26, .i32⟩
  | .hbm, ⟨17, _⟩ => ⟨S26x4096, .i32⟩
  | .hbm, ⟨18, _⟩ => ⟨S26x4096x1, .i32⟩
  | .hbm, ⟨19, _⟩ => ⟨S1, .i32⟩
  | .hbm, ⟨20, _⟩ => ⟨S_, .i32⟩
  | .hbm, ⟨21, _⟩ => ⟨S26x4096x1, .i32⟩
  | .hbm, ⟨22, _⟩ => ⟨S26x4096x1, .i1⟩
  | .hbm, ⟨23, _⟩ => ⟨S1x1x1, .i32⟩
  | .hbm, ⟨24, _⟩ => ⟨S26x4096x1, .i32⟩
  | .hbm, ⟨25, _⟩ => ⟨S26x4096x1, .i1⟩
  | .hbm, ⟨26, _⟩ => ⟨S26x4096x1, .i1⟩
  | .hbm, ⟨27, _⟩ => ⟨S_, .i1⟩
  | .hbm, ⟨28, _⟩ => ⟨S26x4096, .i1⟩
  | .hbm, ⟨29, _⟩ => ⟨S26x4096x32, .f32⟩
  | .hbm, ⟨30, _⟩ => ⟨S26x4096x32, .i1⟩
  | .hbm, ⟨31, _⟩ => ⟨S_, .f32⟩
  | .hbm, ⟨32, _⟩ => ⟨S26x4096x32, .f32⟩
  | .hbm, ⟨33, _⟩ => ⟨S26x4096x32, .f32⟩
  | .hbm, ⟨34, _⟩ => ⟨S4096x26x32, .f32⟩
  | .hbm, ⟨35, _⟩ => ⟨S4096x832, .f32⟩
  | .hbm, ⟨36, _⟩ => ⟨S4096x13, .f32⟩
  | .hbm, ⟨37, _⟩ => ⟨S4096x845, .f32⟩
  | .hbm, ⟨38, _⟩ => ⟨S4096x512, .f32⟩
  | .hbm, ⟨39, _⟩ => ⟨S1x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S4096x256, .f32⟩
  | .hbm, ⟨46, _⟩ => ⟨S1x256, .f32⟩
  | .hbm, ⟨47, _⟩ => ⟨S4096x256, .f32⟩
  | .hbm, ⟨48, _⟩ => ⟨S4096x256, .f32⟩
  | .hbm, ⟨49, _⟩ => ⟨S_, .f32⟩
  | .hbm, ⟨50, _⟩ => ⟨S4096x256, .f32⟩
  | .hbm, ⟨51, _⟩ => ⟨S4096x256, .f32⟩
  | .hbm, ⟨52, _⟩ => ⟨S4096x128, .f32⟩
  | .hbm, ⟨53, _⟩ => ⟨S1x128, .f32⟩
  | .hbm, ⟨54, _⟩ => ⟨S4096x128, .f32⟩
  | .hbm, ⟨55, _⟩ => ⟨S4096x128, .f32⟩
  | .hbm, ⟨56, _⟩ => ⟨S_, .f32⟩
  | .hbm, ⟨57, _⟩ => ⟨S4096x128, .f32⟩
  | .hbm, ⟨58, _⟩ => ⟨S4096x128, .f32⟩
  | _, _ => ⟨S4096x39, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_c_1 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_c_3 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_cst : Ref sig .tc := ⟨.hbm, 31, rfl⟩
abbrev main_call0_v16 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_call1_cst : Ref sig .tc := ⟨.hbm, 42, rfl⟩
abbrev main_call1_v0 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_call2_cst : Ref sig .tc := ⟨.hbm, 49, rfl⟩
abbrev main_call2_v0 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_call3_cst : Ref sig .tc := ⟨.hbm, 56, rfl⟩
abbrev main_call3_v0 : Ref sig .tc := ⟨.hbm, 57, rfl⟩
abbrev main_v21 : Ref sig .tc := ⟨.hbm, 58, rfl⟩

abbrev nD : Nat := 1
abbrev τ : Topo := Topo.v7x

variable {F : FTy → Type} [FloatOps F]
-- ==== Proof.Words.lean ====
/-
  The words by which a tile of the detranspose kernel says where a block lies, and that every block it handles lies inside
  the buffers.
-/
module

public import proofs.«01_k».proof.KernelIdeal
public import Idealize.ShloMosaic.Lib.SparseCore.Ops

@[expose] public section

noncomputable section

namespace Cert.Proof.Kern

open Cert.KernelIdeal
open Idealize.ShloMosaic
open Idealize.SL.Sem

/-! ## The words that say where a block lies -/

/-- The tile's number. -/
abbrev widW (i : grid0.Coords) : BitVec 32 := Scalar.addi (Scalar.muli (BitVec.ofNat 32 (i 1).val) 2#32) (BitVec.ofNat 32 (i 0).val)

/-- The block that the tile handles in round `k`. -/
abbrev blkW (i : grid0.Coords) (k : BitVec 32) : BitVec 32 := Scalar.minsi (Scalar.addi (widW i) (Scalar.muli 32#32 k)) 20305#32

/-- The field a block belongs to. -/
abbrev fldW (b : BitVec 32) : BitVec 32 :=
  Scalar.select (Scalar.andi
      (Scalar.cmpi .ne (Scalar.subi (Scalar.extui (Scalar.cmpi .sgt b 0#32)) (Scalar.extui (Scalar.cmpi .slt b 0#32)))
        (Scalar.subi (Scalar.extui (Scalar.cmpi .sgt 781#32 0#32)) (Scalar.extui (Scalar.cmpi .slt 781#32 0#32))))
      (Scalar.cmpi .ne (Scalar.remsi b 781#32) 0#32))
    (Scalar.subi (Scalar.divsi b 781#32) 1#32) (Scalar.divsi b 781#32)

/-- Its number in the field. -/
abbrev numW (b : BitVec 32) : BitVec 32 := Scalar.subi b (Scalar.muli (fldW b) 781#32)

/-- The word `k` of round `2 t + p`, and of the round two further. -/
abbrev kW (t : Fin k0_t1_loop.trips) (p : BitVec 32) : BitVec 32 := Scalar.addi (Scalar.muli 2#32 (Scf.iv 0#32 1#32 t)) p

/-- Where row `e` of a block starts in the transposed tables, and where its transpose starts in the packed table. -/
abbrev inOff (i : grid0.Coords) (k : BitVec 32) (e : ℕ) : Fin 3 → ℕ := ![(fldW (blkW i k)).toNat, e, (Scalar.muli (numW (blkW i k)) 128#32).toNat]
abbrev outOff (i : grid0.Coords) (k : BitVec 32) : Fin 3 → ℕ := ![(fldW (blkW i k)).toNat, (Scalar.muli 32#32 (numW (blkW i k))).toNat, 0]

/-- The block of round `k` is one of the 20306. -/
def InB (i : grid0.Coords) (k : BitVec 32) : Prop :=
  (fldW (blkW i k)).toNat + 1 ≤ 26 ∧ (Scalar.muli (numW (blkW i k)) 128#32).toNat + 128 ≤ 100000 ∧ (Scalar.muli 32#32 (numW (blkW i k))).toNat + 32 ≤ 25000

instance (i : grid0.Coords) (k : BitVec 32) : Decidable (InB i k) := by unfold InB; infer_instance

theorem inOff_inb {i : grid0.Coords} {k : BitVec 32} (h : InB i k) (e : ℕ) (a : Fin 3) :
    inOff i k (e % 32) a + S1x1x128.size a ≤ S26x32x100000.size a := by
  match a with
  | 0 => exact h.1
  | 1 => exact Nat.mod_lt e (by decide)
  | 2 => exact h.2.1

theorem outOff_inb {i : grid0.Coords} {k : BitVec 32} (h : InB i k) (a : Fin 3) :
    outOff i k a + S1x32x128.size a ≤ S26x25000x128.size a := by
  match a with
  | 0 => exact h.1
  | 1 => exact h.2.2
  | 2 => exact Nat.le_refl 128

/-- Before the loop, and after it, -/
theorem inB0 : ∀ i : grid0.Coords, InB i 0#32 ∧ InB i 1#32 ∧ InB i 634#32 ∧ InB i 635#32 ∧ InB i 636#32 ∧ InB i 637#32 := by decide +kernel

/-- and in every trip of it. -/
theorem inBk : ∀ (i : grid0.Coords) (t : Fin k0_t1_loop.trips), (InB i (kW t 0#32) ∧ InB i (kW t 1#32)) ∧ InB i (Scalar.addi (kW t 0#32) 2#32) ∧ InB i (Scalar.addi (kW t 1#32) 2#32) := by
  decide +kernel

/-- A tile that copies one of the last rows has one of the 26 fields. -/
theorem wid_le : ∀ i : grid0.Coords, k0_cond3 i = 1#1 → (widW i).toNat + 1 ≤ 26 := by decide +kernel

/-! ## The printed offsets are these -/

theorem row_inb {i : grid0.Coords} {k : BitVec 32} (h : InB i k) {off : Fin 3 → ℕ} (e : ℕ) (he : e < 32) (ho : off = inOff i k e) (a : Fin 3) :
    off a + S1x1x128.size a ≤ S26x32x100000.size a := by
  rw [ho]
  match a with
  | 0 => exact h.1
  | 1 => exact he
  | 2 => exact h.2.1

theorem blk_inb {i : grid0.Coords} {k : BitVec 32} (h : InB i k) {off : Fin 3 → ℕ} (ho : off = outOff i k) (a : Fin 3) :
    off a + S1x32x128.size a ≤ S26x25000x128.size a := by
  rw [ho]
  exact outOff_inb h a

end Cert.Proof.Kern
-- ==== Proof.Facts.lean ====
/-
  The side conditions of the printed program: the offsets of the detranspose kernel by the lemmas on its words, the others
  decided.
-/
module

public import proofs.«01_k».proof.Proof.Words
public import Idealize.ShloMosaic.Lib.Affine
public import Idealize.ShloMosaic.Lib.Decide
public import Idealize.ShloMosaic.Lib.Exec

@[expose] public section

set_option synthInstance.maxSize 4096

namespace Cert.KernelIdeal.Gen

open Idealize.ShloMosaic Idealize.SL.Sem Cert.Proof.Kern

theorem inBr : ∀ (i : grid0.Coords) (r : Fin 2), InB i (BitVec.ofNat 32 r.val) := by decide +kernel
theorem inBs : ∀ (i : grid0.Coords) (r : Fin 2), InB i (BitVec.ofNat 32 (636 + r.val)) := by decide +kernel
theorem inBq : ∀ (i : grid0.Coords) (r : Fin 2), InB i (BitVec.ofNat 32 (634 + r.val)) := by decide +kernel

set_option maxRecDepth 100000 in
set_option maxHeartbeats 40000000 in
instance facts₀ : Cert.KernelIdeal.Facts₀ := by
  constructor
  all_goals first
    | (refine fun i t a => row_inb ?_ _ ?_ rfl a
       · with_reducible first | exact (inBk i t).1.1 | exact (inBk i t).1.2 | exact (inBk i t).2.1 | exact (inBk i t).2.2 | exact inBr i t | exact inBs i t
       · decide)
    | (refine fun i t a => blk_inb ?_ rfl a
       with_reducible first | exact (inBk i t).1.1 | exact (inBk i t).1.2 | exact inBq i t)
    | (refine fun i t _ a => blk_inb ?_ rfl a
       with_reducible first | exact (inBk i t).1.1 | exact (inBk i t).1.2)
    | exact fun _ => .inl rfl
    | exact fun _ _ _ => rfl
    | exact fun _ _ h => funext fun a => by match a with | 0 => exact congrArg (fun x : Fin 8 => (BitVec.ofNat 32 x.val).toNat) (h 0 rfl) | 1 => rfl
    | (refine fun i => ?_
       obtain ⟨_ | _ | n, hn⟩ := i
       all_goals first
         | exact Memref.isWhole_whole _
         | exact absurd hn (by decide)
         | exact (Nat.not_lt_of_le (Nat.le_add_left 2 n) hn).elim
         | exact (Nat.not_lt_of_le (Nat.le_add_left 1 (n + 1)) hn).elim)
    | decide +kernel
    | skip

instance facts : Cert.KernelIdeal.Facts where

end Cert.KernelIdeal.Gen
-- ==== Proof.Skel.lean ====
/-
  The lookup kernel and the dense kernel as memory operations over named values: the pure values between two memory
  operations are named, the loops' bodies are named, and each printed function is the one written here by definition.
-/
module

public import proofs.«01_k».proof.Proof.Facts

@[expose] public section

set_option synthInstance.maxSize 4096

noncomputable section

namespace Cert.KernelIdeal.Gen

open Cert.KernelIdeal.Facts₀ Cert.KernelIdeal.Facts
open Idealize.ShloMosaic Idealize.SL.Sem

variable {F : FTy → Type} [FloatOps F]

noncomputable def k1_pay73 (v63 : Vec F S16 .i32) : IVec S16 32 :=
  have v64 : IVec S16 32 := broadcast S16 2#32
  have v65 : IVec S16 32 := shrui v63 v64
  v65

noncomputable def k1_pay74 (v63 : Vec F S16 .i32) : IVec S16 32 :=
  have v69 : IVec S16 32 := broadcast S16 3#32
  have v70 : IVec S16 32 := andi v63 v69
  have v71 : IVec S16 32 := broadcast S16 5#32
  have v72 : IVec S16 32 := shli v70 v71
  v72

set_option cleanup.letToHave false in set_option maxHeartbeats 40000000 in
noncomputable def k1_t9_body (i : grid1.Coords) (arg2 : Memref sig .scVector .hbm S106496 .i32) (harg2 : arg2.IsWhole) (arg3 : Memref sig .scVector .hbm S650000x128 .f32) (harg3 : arg3.IsWhole) (arg4 : Memref sig .scVector .hbm S26624x128 .f32) (harg4 : arg4.IsWhole) (arg5 : Memref sig .scVector .vmem S3328 .i32) (harg5 : arg5.IsWhole) (arg6 : Memref sig .scVector .vmem S3328 .i32) (harg6 : arg6.IsWhole) (arg7 : Memref sig .scVector .vmem S3328 .i32) (harg7 : arg7.IsWhole) (arg8 : Memref sig .scVector .vmem S416x128 .f32) (harg8 : arg8.IsWhole) (arg9 : Memref sig .scVector .vmem S104x128 .f32) (harg9 : arg9.IsWhole) (arg10 : DmaSems sig S_) (v61_r0 : DmaSems sig S_) (v61_r1 : DmaSems sig S_) (v61_r2 : DmaSems sig S_) (v61_r3 : DmaSems sig S_) (v61_r4 : DmaSems sig S_) (v61_r5 : DmaSems sig S_) (v61_r6 : DmaSems sig S_) (v61_r7 : DmaSems sig S_) (v61_r8 : DmaSems sig S_) (v4 : IVec S16 32) :
    Fin k1_t9_loop.trips → Unit → Prog (TpuEff nD τ sig (Elt F) Λ₀ (.scVector ((i 0).castLE hcore1) ((i 1).castLE hsub1))) (Unit) :=
  fun k1_t9 _ => do
    let ⟨arg11, v61, v87, v88, v89, v90, v91, v92, v93, v94⟩ : Σ' (arg11 : BitVec 32) (v61 : BitVec 32) (v87 : Vec F S16 .i32) (v88 : Vec F S16 .i32) (v89 : Vec F S16 .i32) (v90 : Vec F S16 .i32) (v91 : Vec F S16 .i32) (v92 : Vec F S16 .i32) (v93 : Vec F S16 .i32), IVec S16 32 ← k1_part29 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4 0#32 1#32 k1_t9
    let ⟨v97, v98, v99, v100, v101, v107, v109, v111, v113, v115, v117, v118, v119, v120, v121, v122, v123, v124, v125, v128, v131, v133⟩ : Σ' (v97 : IVec S16 32) (v98 : IVec S16 32) (v99 : IVec S16 32) (v100 : IVec S16 32) (v101 : IVec S16 32) (v107 : IVec S16 32) (v109 : IVec S16 32) (v111 : IVec S16 32) (v113 : IVec S16 32) (v115 : IVec S16 32) (v117 : IVec S16 32) (v118 : Vec F S16 .f32) (v119 : Vec F S16 .f32) (v120 : Vec F S16 .f32) (v121 : Vec F S16 .f32) (v122 : Vec F S16 .f32) (v123 : Vec F S16 .f32) (v124 : Vec F S16 .f32) (v125 : Vec F S16 .f32) (v128 : Vec F S16 .f32) (v131 : Vec F S16 .f32), IVec S16 32 ← k1_part30 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4 v61 v87 v88 v89 v90 v91 v92 v93 v94
    let ⟨v134, v137, v140, v143, v146, v149, v150, v161⟩ : Σ' (v134 : Vec F S16 .f32) (v137 : Vec F S16 .f32) (v140 : Vec F S16 .f32) (v143 : Vec F S16 .f32) (v146 : Vec F S16 .f32) (v149 : Vec F S16 .f32) (v150 : BitVec 32), BitVec 32 ← k1_part31 i arg2 harg2 arg3 harg3 arg4 harg4 arg5 harg5 arg6 harg6 arg7 harg7 arg8 harg8 arg9 harg9 arg10 v61_r0 v61_r1 v61_r2 v61_r3 v61_r4 v61_r5 v61_r6 v61_r7 v61_r8 k1_t9 arg11 v97 v98 v99 v100 v101 v107 v109 v111 v113 v115 v117 v118 v119 v120 v128 v131 v133
    let v186 : BitVec 32 ← k1_part32 i arg2 harg2 arg3 harg3 arg4 harg4 arg5 harg5 arg6 harg6 arg7 harg7 arg8 harg8 arg9 harg9 arg10 v61_r0 v61_r1 v61_r2 v61_r3 v61_r4 v61_r5 v61_r6 v61_r7 v61_r8 k1_t9 v121 v122 v123 v124 v125 v134 v137 v140 v143 v146 v150 v161
    let v190_ld : Vec F S1x16 .f32 ← Prog.lift (.load arg9 (Rect.unit (s := S104x128) (k1_off67 k1_t9 1#32) S1x16.size (k1_off67_inb k1_t9 1)).toLoadRect (View.loadsAt_vmem h_S1x16))
    Prog.lift (.store arg9 (Rect.unit (s := S104x128) (k1_off67 k1_t9 1#32) S1x16.size (k1_off67_inb k1_t9 1)) (shapeCast S1x16 v149 shapeCasts_S16_S1x16) Finset.univ (View.stores_vmem_bits_univ h_S1x16 rfl) (.inl rfl))
    pure ⟨⟩

set_option cleanup.letToHave false in set_option maxHeartbeats 40000000 in
noncomputable def cc1_lookup_k_skel (i : grid1.Coords) (arg2 : Memref sig .scVector .hbm S106496 .i32) (harg2 : arg2.IsWhole) (arg3 : Memref sig .scVector .hbm S650000x128 .f32) (harg3 : arg3.IsWhole) (arg4 : Memref sig .scVector .hbm S26624x128 .f32) (harg4 : arg4.IsWhole) (arg5 : Memref sig .scVector .vmem S3328 .i32) (harg5 : arg5.IsWhole) (arg6 : Memref sig .scVector .vmem S3328 .i32) (harg6 : arg6.IsWhole) (arg7 : Memref sig .scVector .vmem S3328 .i32) (harg7 : arg7.IsWhole) (arg8 : Memref sig .scVector .vmem S416x128 .f32) (harg8 : arg8.IsWhole) (arg9 : Memref sig .scVector .vmem S104x128 .f32) (harg9 : arg9.IsWhole) (arg10 : DmaSems sig S_) (v61_r0 : DmaSems sig S_) (v61_r1 : DmaSems sig S_) (v61_r2 : DmaSems sig S_) (v61_r3 : DmaSems sig S_) (v61_r4 : DmaSems sig S_) (v61_r5 : DmaSems sig S_) (v61_r6 : DmaSems sig S_) (v61_r7 : DmaSems sig S_) (v61_r8 : DmaSems sig S_) :
    Prog (TpuEff nD τ sig (Elt F) Λ₀ (.scVector ((i 0).castLE hcore1) ((i 1).castLE hsub1))) PUnit := do
  let ⟨v1, v4⟩ : Σ' (v1 : BitVec 32), IVec S16 32 ← k1_part33 i arg2 harg2 arg3 harg3 arg4 harg4 arg5 harg5 arg6 harg6 arg7 harg7 arg8 harg8 arg9 harg9 arg10 v61_r0 v61_r1 v61_r2 v61_r3 v61_r4 v61_r5 v61_r6 v61_r7 v61_r8
  k1_part34 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v1 v4
  k1_part35 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v1 v4
  let v52 : BitVec 32 ← k1_part36 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v1 v4
  let v63_r7 : Memref sig .scVector .hbm S104x128 .f32 := arg4.slice (Rect.unit (s := S26624x128) (k1_off11 i 624#32) S104x128.size (k1_off11_inb i 6)) (fun _ => rfl)
  Prog.lift (.enqueueDma arg9 (.here v63_r7) (.dma v61_r7.sem) harg9.wordExact (View.wordExact_bits rfl) ⟨Or.inl rfl, trivial⟩)
  let v65_r7 : Memref sig .scVector .hbm S104x128 .f32 := arg4.slice (Rect.unit (s := S26624x128) (k1_off11 i 624#32) S104x128.size (k1_off11_inb i 6)) (fun _ => rfl)
  Prog.lift (.waitDma2 v61_r7.sem arg9 v65_r7 harg9.wordExact (View.wordExact_bits rfl))
  let v54 : Memref sig .scVector .vmem S416 .i32 := arg6.slice (Rect.unit (s := S3328) ![2912] S416.size inb_S3328_S416_2912) (fun _ => rfl)
  let v55 : Memref sig .scVector .hbm S650000x128 .f32 := arg3.slice (Rect.unit (s := S650000x128) ![0, 0] S650000x128.size inb_S650000x128_S650000x128_0_0) (fun _ => rfl)
  SparseCore.enqueueIndirectGather rfl v55 arg8 gathers_S650000x128_S416x128 v54 rfl arg10.sem (View.wordExact_bits rfl) rfl (Or.inl rfl)
  let v57 : Memref sig .scVector .hbm S650000x128 .f32 := arg3.slice (Rect.unit (s := S650000x128) ![0, 0] S650000x128.size inb_S650000x128_S650000x128_0_0) (fun _ => rfl)
  SparseCore.waitIndirectGather arg10.sem v57 arg8 (View.wordExact_bits rfl) harg8.wordExact
  Scf.Loop.for k1_t9_loop k1_t9_ok ⟨⟩ (k1_t9_body i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4)
  let v63_r8 : Memref sig .scVector .hbm S104x128 .f32 := arg4.slice (Rect.unit (s := S26624x128) (k1_off11 i 728#32) S104x128.size (k1_off11_inb i 7)) (fun _ => rfl)
  Prog.lift (.enqueueDma arg9 (.here v63_r8) (.dma v61_r8.sem) harg9.wordExact (View.wordExact_bits rfl) ⟨Or.inl rfl, trivial⟩)
  let v65_r8 : Memref sig .scVector .hbm S104x128 .f32 := arg4.slice (Rect.unit (s := S26624x128) (k1_off11 i 728#32) S104x128.size (k1_off11_inb i 7)) (fun _ => rfl)
  Prog.lift (.waitDma2 v61_r8.sem arg9 v65_r8 harg9.wordExact (View.wordExact_bits rfl))
  pure ⟨⟩

set_option maxRecDepth 65536 in
theorem cc1_lookup_k_eq_skeleton : cc1_lookup_k (F := F) = cc1_lookup_k_skel (F := F) := rfl

set_option cleanup.letToHave false in set_option maxHeartbeats 40000000 in
noncomputable def k1_t1_body (i : grid1.Coords) (arg2 : Memref sig .scVector .hbm S106496 .i32) (harg2 : arg2.IsWhole) (arg3 : Memref sig .scVector .hbm S650000x128 .f32) (harg3 : arg3.IsWhole) (arg4 : Memref sig .scVector .hbm S26624x128 .f32) (harg4 : arg4.IsWhole) (arg5 : Memref sig .scVector .vmem S3328 .i32) (harg5 : arg5.IsWhole) (arg6 : Memref sig .scVector .vmem S3328 .i32) (harg6 : arg6.IsWhole) (arg7 : Memref sig .scVector .vmem S3328 .i32) (harg7 : arg7.IsWhole) (arg8 : Memref sig .scVector .vmem S416x128 .f32) (harg8 : arg8.IsWhole) (arg9 : Memref sig .scVector .vmem S104x128 .f32) (harg9 : arg9.IsWhole) (arg10 : DmaSems sig S_) (v61_r0 : DmaSems sig S_) (v61_r1 : DmaSems sig S_) (v61_r2 : DmaSems sig S_) (v61_r3 : DmaSems sig S_) (v61_r4 : DmaSems sig S_) (v61_r5 : DmaSems sig S_) (v61_r6 : DmaSems sig S_) (v61_r7 : DmaSems sig S_) (v61_r8 : DmaSems sig S_) :
    Fin k1_t1_loop.trips → Unit → Prog (TpuEff nD τ sig (Elt F) Λ₀ (.scVector ((i 0).castLE hcore1) ((i 1).castLE hsub1))) (Unit) :=
  fun k1_t1 _ => do
    let v63 : Vec F S16 .i32 ← Prog.lift (.load arg5 (Rect.unit (s := S3328) (k1_off2 k1_t1) S16.size (k1_off2_inb k1_t1)).toLoadRect (View.loadsAt_vmem h_S16))
    let v68 : Vec F S16 .i32 ← Prog.lift (.load arg6 (Rect.unit (s := S3328) (k1_off2 k1_t1) S16.size (k1_off2_inb k1_t1)).toLoadRect (View.loadsAt_vmem h_S16))
    Prog.lift (.store arg6 (Rect.unit (s := S3328) (k1_off2 k1_t1) S16.size (k1_off2_inb k1_t1)) (k1_pay73 v63) Finset.univ (View.stores_vmem_bits_univ h_S16 rfl) (.inl rfl))
    let v75 : Vec F S16 .i32 ← Prog.lift (.load arg7 (Rect.unit (s := S3328) (k1_off2 k1_t1) S16.size (k1_off2_inb k1_t1)).toLoadRect (View.loadsAt_vmem h_S16))
    Prog.lift (.store arg7 (Rect.unit (s := S3328) (k1_off2 k1_t1) S16.size (k1_off2_inb k1_t1)) (k1_pay74 v63) Finset.univ (View.stores_vmem_bits_univ h_S16 rfl) (.inl rfl))
    pure ⟨⟩

set_option cleanup.letToHave false in set_option maxHeartbeats 40000000 in
noncomputable def k1_t2_body (i : grid1.Coords) (arg2 : Memref sig .scVector .hbm S106496 .i32) (harg2 : arg2.IsWhole) (arg3 : Memref sig .scVector .hbm S650000x128 .f32) (harg3 : arg3.IsWhole) (arg4 : Memref sig .scVector .hbm S26624x128 .f32) (harg4 : arg4.IsWhole) (arg5 : Memref sig .scVector .vmem S3328 .i32) (harg5 : arg5.IsWhole) (arg6 : Memref sig .scVector .vmem S3328 .i32) (harg6 : arg6.IsWhole) (arg7 : Memref sig .scVector .vmem S3328 .i32) (harg7 : arg7.IsWhole) (arg8 : Memref sig .scVector .vmem S416x128 .f32) (harg8 : arg8.IsWhole) (arg9 : Memref sig .scVector .vmem S104x128 .f32) (harg9 : arg9.IsWhole) (arg10 : DmaSems sig S_) (v61_r0 : DmaSems sig S_) (v61_r1 : DmaSems sig S_) (v61_r2 : DmaSems sig S_) (v61_r3 : DmaSems sig S_) (v61_r4 : DmaSems sig S_) (v61_r5 : DmaSems sig S_) (v61_r6 : DmaSems sig S_) (v61_r7 : DmaSems sig S_) (v61_r8 : DmaSems sig S_) (v4 : IVec S16 32) :
    Fin k1_t2_loop.trips → Unit → Prog (TpuEff nD τ sig (Elt F) Λ₀ (.scVector ((i 0).castLE hcore1) ((i 1).castLE hsub1))) (Unit) :=
  fun k1_t2 _ => do
    let ⟨arg11, v61, v87, v88, v89, v90, v91, v92, v93, v94⟩ : Σ' (arg11 : BitVec 32) (v61 : BitVec 32) (v87 : Vec F S16 .i32) (v88 : Vec F S16 .i32) (v89 : Vec F S16 .i32) (v90 : Vec F S16 .i32) (v91 : Vec F S16 .i32) (v92 : Vec F S16 .i32) (v93 : Vec F S16 .i32), IVec S16 32 ← k1_part1 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4 0#32 1#32 k1_t2
    let ⟨v97, v98, v99, v100, v101, v107, v109, v111, v113, v115, v117, v118, v119, v120, v121, v122, v123, v124, v125, v128, v131, v133⟩ : Σ' (v97 : IVec S16 32) (v98 : IVec S16 32) (v99 : IVec S16 32) (v100 : IVec S16 32) (v101 : IVec S16 32) (v107 : IVec S16 32) (v109 : IVec S16 32) (v111 : IVec S16 32) (v113 : IVec S16 32) (v115 : IVec S16 32) (v117 : IVec S16 32) (v118 : Vec F S16 .f32) (v119 : Vec F S16 .f32) (v120 : Vec F S16 .f32) (v121 : Vec F S16 .f32) (v122 : Vec F S16 .f32) (v123 : Vec F S16 .f32) (v124 : Vec F S16 .f32) (v125 : Vec F S16 .f32) (v128 : Vec F S16 .f32) (v131 : Vec F S16 .f32), IVec S16 32 ← k1_part2 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4 v61 v87 v88 v89 v90 v91 v92 v93 v94
    let ⟨v134, v137, v140, v143, v146, v149, v150, v161⟩ : Σ' (v134 : Vec F S16 .f32) (v137 : Vec F S16 .f32) (v140 : Vec F S16 .f32) (v143 : Vec F S16 .f32) (v146 : Vec F S16 .f32) (v149 : Vec F S16 .f32) (v150 : BitVec 32), BitVec 32 ← k1_part3 i arg2 harg2 arg3 harg3 arg4 harg4 arg5 harg5 arg6 harg6 arg7 harg7 arg8 harg8 arg9 harg9 arg10 v61_r0 v61_r1 v61_r2 v61_r3 v61_r4 v61_r5 v61_r6 v61_r7 v61_r8 k1_t2 arg11 v97 v98 v99 v100 v101 v107 v109 v111 v113 v115 v117 v118 v119 v120 v128 v131 v133
    let v186 : BitVec 32 ← k1_part4 i arg2 harg2 arg3 harg3 arg4 harg4 arg5 harg5 arg6 harg6 arg7 harg7 arg8 harg8 arg9 harg9 arg10 v61_r0 v61_r1 v61_r2 v61_r3 v61_r4 v61_r5 v61_r6 v61_r7 v61_r8 k1_t2 v121 v122 v123 v124 v125 v134 v137 v140 v143 v146 v150 v161
    let v190_ld : Vec F S1x16 .f32 ← Prog.lift (.load arg9 (Rect.unit (s := S104x128) (k1_off10 k1_t2 1#32) S1x16.size (k1_off10_inb k1_t2 1)).toLoadRect (View.loadsAt_vmem h_S1x16))
    Prog.lift (.store arg9 (Rect.unit (s := S104x128) (k1_off10 k1_t2 1#32) S1x16.size (k1_off10_inb k1_t2 1)) (shapeCast S1x16 v149 shapeCasts_S16_S1x16) Finset.univ (View.stores_vmem_bits_univ h_S1x16 rfl) (.inl rfl))
    pure ⟨⟩

set_option cleanup.letToHave false in set_option maxHeartbeats 40000000 in
noncomputable def k1_part33_skel (i : grid1.Coords) (arg2 : Memref sig .scVector .hbm S106496 .i32) (harg2 : arg2.IsWhole) (arg3 : Memref sig .scVector .hbm S650000x128 .f32) (harg3 : arg3.IsWhole) (arg4 : Memref sig .scVector .hbm S26624x128 .f32) (harg4 : arg4.IsWhole) (arg5 : Memref sig .scVector .vmem S3328 .i32) (harg5 : arg5.IsWhole) (arg6 : Memref sig .scVector .vmem S3328 .i32) (harg6 : arg6.IsWhole) (arg7 : Memref sig .scVector .vmem S3328 .i32) (harg7 : arg7.IsWhole) (arg8 : Memref sig .scVector .vmem S416x128 .f32) (harg8 : arg8.IsWhole) (arg9 : Memref sig .scVector .vmem S104x128 .f32) (harg9 : arg9.IsWhole) (arg10 : DmaSems sig S_) (v61_r0 : DmaSems sig S_) (v61_r1 : DmaSems sig S_) (v61_r2 : DmaSems sig S_) (v61_r3 : DmaSems sig S_) (v61_r4 : DmaSems sig S_) (v61_r5 : DmaSems sig S_) (v61_r6 : DmaSems sig S_) (v61_r7 : DmaSems sig S_) (v61_r8 : DmaSems sig S_) :
    Prog (TpuEff nD τ sig (Elt F) Λ₀ (.scVector ((i 0).castLE hcore1) ((i 1).castLE hsub1))) (Σ' (v1 : BitVec 32), IVec S16 32) := do
  let arg0 : BitVec 32 := BitVec.ofNat 32 (i 0).val
  let arg1 : BitVec 32 := BitVec.ofNat 32 (i 1).val
  let v0 : BitVec 32 := Scalar.muli arg1 2#32
  let v1 : BitVec 32 := Scalar.addi v0 arg0
  let v63_r0 : Memref sig .scVector .hbm S3328 .i32 := arg2.slice (Rect.unit (s := S106496) (k1_off1 i) S3328.size (k1_off1_inb i)) (fun _ => rfl)
  Prog.lift (.enqueueDma v63_r0 (.here arg5) (.dma v61_r0.sem) (View.wordExact_bits rfl) harg5.wordExact ⟨Or.inl rfl, trivial⟩)
  let v65_r0 : Memref sig .scVector .hbm S3328 .i32 := arg2.slice (Rect.unit (s := S106496) (k1_off1 i) S3328.size (k1_off1_inb i)) (fun _ => rfl)
  Prog.lift (.waitDma2 v61_r0.sem v65_r0 arg5 (View.wordExact_bits rfl) harg5.wordExact)
  Scf.Loop.for k1_t1_loop k1_t1_ok ⟨⟩ (k1_t1_body i arg2 harg2 arg3 harg3 arg4 harg4 arg5 harg5 arg6 harg6 arg7 harg7 arg8 harg8 arg9 harg9 arg10 v61_r0 v61_r1 v61_r2 v61_r3 v61_r4 v61_r5 v61_r6 v61_r7 v61_r8)
  have v4 : IVec S16 32 := iota .scVector S16 32 [0] iota_S16_d0_w32_scVector
  let v5 : Memref sig .scVector .vmem S416 .i32 := arg6.slice (Rect.unit (s := S3328) ![0] S416.size inb_S3328_S416_0) (fun _ => rfl)
  let v6 : Memref sig .scVector .hbm S650000x128 .f32 := arg3.slice (Rect.unit (s := S650000x128) ![0, 0] S650000x128.size inb_S650000x128_S650000x128_0_0) (fun _ => rfl)
  SparseCore.enqueueIndirectGather rfl v6 arg8 gathers_S650000x128_S416x128 v5 rfl arg10.sem (View.wordExact_bits rfl) rfl (Or.inl rfl)
  let v8 : Memref sig .scVector .hbm S650000x128 .f32 := arg3.slice (Rect.unit (s := S650000x128) ![0, 0] S650000x128.size inb_S650000x128_S650000x128_0_0) (fun _ => rfl)
  SparseCore.waitIndirectGather arg10.sem v8 arg8 (View.wordExact_bits rfl) harg8.wordExact
  Scf.Loop.for k1_t2_loop k1_t2_ok ⟨⟩ (k1_t2_body i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4)
  let v63_r1 : Memref sig .scVector .hbm S104x128 .f32 := arg4.slice (Rect.unit (s := S26624x128) (k1_off11 i 0#32) S104x128.size (k1_off11_inb i 0)) (fun _ => rfl)
  Prog.lift (.enqueueDma arg9 (.here v63_r1) (.dma v61_r1.sem) harg9.wordExact (View.wordExact_bits rfl) ⟨Or.inl rfl, trivial⟩)
  let v65_r1 : Memref sig .scVector .hbm S104x128 .f32 := arg4.slice (Rect.unit (s := S26624x128) (k1_off11 i 0#32) S104x128.size (k1_off11_inb i 0)) (fun _ => rfl)
  Prog.lift (.waitDma2 v61_r1.sem arg9 v65_r1 harg9.wordExact (View.wordExact_bits rfl))
  let v12 : Memref sig .scVector .vmem S416 .i32 := arg6.slice (Rect.unit (s := S3328) ![416] S416.size inb_S3328_S416_416) (fun _ => rfl)
  let v13 : Memref sig .scVector .hbm S650000x128 .f32 := arg3.slice (Rect.unit (s := S650000x128) ![0, 0] S650000x128.size inb_S650000x128_S650000x128_0_0) (fun _ => rfl)
  SparseCore.enqueueIndirectGather rfl v13 arg8 gathers_S650000x128_S416x128 v12 rfl arg10.sem (View.wordExact_bits rfl) rfl (Or.inl rfl)
  pure ⟨v1, v4⟩

set_option maxRecDepth 65536 in
theorem k1_part33_eq_skeleton : k1_part33 (F := F) = k1_part33_skel (F := F) := rfl

set_option cleanup.letToHave false in set_option maxHeartbeats 40000000 in
noncomputable def k1_t3_body (i : grid1.Coords) (arg2 : Memref sig .scVector .hbm S106496 .i32) (harg2 : arg2.IsWhole) (arg3 : Memref sig .scVector .hbm S650000x128 .f32) (harg3 : arg3.IsWhole) (arg4 : Memref sig .scVector .hbm S26624x128 .f32) (harg4 : arg4.IsWhole) (arg5 : Memref sig .scVector .vmem S3328 .i32) (harg5 : arg5.IsWhole) (arg6 : Memref sig .scVector .vmem S3328 .i32) (harg6 : arg6.IsWhole) (arg7 : Memref sig .scVector .vmem S3328 .i32) (harg7 : arg7.IsWhole) (arg8 : Memref sig .scVector .vmem S416x128 .f32) (harg8 : arg8.IsWhole) (arg9 : Memref sig .scVector .vmem S104x128 .f32) (harg9 : arg9.IsWhole) (arg10 : DmaSems sig S_) (v61_r0 : DmaSems sig S_) (v61_r1 : DmaSems sig S_) (v61_r2 : DmaSems sig S_) (v61_r3 : DmaSems sig S_) (v61_r4 : DmaSems sig S_) (v61_r5 : DmaSems sig S_) (v61_r6 : DmaSems sig S_) (v61_r7 : DmaSems sig S_) (v61_r8 : DmaSems sig S_) (v1 : BitVec 32) (v4 : IVec S16 32) :
    Fin k1_t3_loop.trips → Unit → Prog (TpuEff nD τ sig (Elt F) Λ₀ (.scVector ((i 0).castLE hcore1) ((i 1).castLE hsub1))) (Unit) :=
  fun k1_t3 _ => do
    let ⟨arg11, v61, v87, v88, v89, v90, v91, v92, v93, v94⟩ : Σ' (arg11 : BitVec 32) (v61 : BitVec 32) (v87 : Vec F S16 .i32) (v88 : Vec F S16 .i32) (v89 : Vec F S16 .i32) (v90 : Vec F S16 .i32) (v91 : Vec F S16 .i32) (v92 : Vec F S16 .i32) (v93 : Vec F S16 .i32), IVec S16 32 ← k1_part5 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4 0#32 1#32 k1_t3
    let ⟨v97, v98, v99, v100, v101, v107, v109, v111, v113, v115, v117, v118, v119, v120, v121, v122, v123, v124, v125, v128, v131, v133⟩ : Σ' (v97 : IVec S16 32) (v98 : IVec S16 32) (v99 : IVec S16 32) (v100 : IVec S16 32) (v101 : IVec S16 32) (v107 : IVec S16 32) (v109 : IVec S16 32) (v111 : IVec S16 32) (v113 : IVec S16 32) (v115 : IVec S16 32) (v117 : IVec S16 32) (v118 : Vec F S16 .f32) (v119 : Vec F S16 .f32) (v120 : Vec F S16 .f32) (v121 : Vec F S16 .f32) (v122 : Vec F S16 .f32) (v123 : Vec F S16 .f32) (v124 : Vec F S16 .f32) (v125 : Vec F S16 .f32) (v128 : Vec F S16 .f32) (v131 : Vec F S16 .f32), IVec S16 32 ← k1_part6 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4 v61 v87 v88 v89 v90 v91 v92 v93 v94
    let ⟨v134, v137, v140, v143, v146, v149, v150, v161⟩ : Σ' (v134 : Vec F S16 .f32) (v137 : Vec F S16 .f32) (v140 : Vec F S16 .f32) (v143 : Vec F S16 .f32) (v146 : Vec F S16 .f32) (v149 : Vec F S16 .f32) (v150 : BitVec 32), BitVec 32 ← k1_part7 i arg2 harg2 arg3 harg3 arg4 harg4 arg5 harg5 arg6 harg6 arg7 harg7 arg8 harg8 arg9 harg9 arg10 v61_r0 v61_r1 v61_r2 v61_r3 v61_r4 v61_r5 v61_r6 v61_r7 v61_r8 k1_t3 arg11 v97 v98 v99 v100 v101 v107 v109 v111 v113 v115 v117 v118 v119 v120 v128 v131 v133
    let v186 : BitVec 32 ← k1_part8 i arg2 harg2 arg3 harg3 arg4 harg4 arg5 harg5 arg6 harg6 arg7 harg7 arg8 harg8 arg9 harg9 arg10 v61_r0 v61_r1 v61_r2 v61_r3 v61_r4 v61_r5 v61_r6 v61_r7 v61_r8 k1_t3 v121 v122 v123 v124 v125 v134 v137 v140 v143 v146 v150 v161
    let v190_ld : Vec F S1x16 .f32 ← Prog.lift (.load arg9 (Rect.unit (s := S104x128) (k1_off19 k1_t3 1#32) S1x16.size (k1_off19_inb k1_t3 1)).toLoadRect (View.loadsAt_vmem h_S1x16))
    Prog.lift (.store arg9 (Rect.unit (s := S104x128) (k1_off19 k1_t3 1#32) S1x16.size (k1_off19_inb k1_t3 1)) (shapeCast S1x16 v149 shapeCasts_S16_S1x16) Finset.univ (View.stores_vmem_bits_univ h_S1x16 rfl) (.inl rfl))
    pure ⟨⟩

set_option cleanup.letToHave false in set_option maxHeartbeats 40000000 in
noncomputable def k1_t4_body (i : grid1.Coords) (arg2 : Memref sig .scVector .hbm S106496 .i32) (harg2 : arg2.IsWhole) (arg3 : Memref sig .scVector .hbm S650000x128 .f32) (harg3 : arg3.IsWhole) (arg4 : Memref sig .scVector .hbm S26624x128 .f32) (harg4 : arg4.IsWhole) (arg5 : Memref sig .scVector .vmem S3328 .i32) (harg5 : arg5.IsWhole) (arg6 : Memref sig .scVector .vmem S3328 .i32) (harg6 : arg6.IsWhole) (arg7 : Memref sig .scVector .vmem S3328 .i32) (harg7 : arg7.IsWhole) (arg8 : Memref sig .scVector .vmem S416x128 .f32) (harg8 : arg8.IsWhole) (arg9 : Memref sig .scVector .vmem S104x128 .f32) (harg9 : arg9.IsWhole) (arg10 : DmaSems sig S_) (v61_r0 : DmaSems sig S_) (v61_r1 : DmaSems sig S_) (v61_r2 : DmaSems sig S_) (v61_r3 : DmaSems sig S_) (v61_r4 : DmaSems sig S_) (v61_r5 : DmaSems sig S_) (v61_r6 : DmaSems sig S_) (v61_r7 : DmaSems sig S_) (v61_r8 : DmaSems sig S_) (v1 : BitVec 32) (v4 : IVec S16 32) :
    Fin k1_t4_loop.trips → Unit → Prog (TpuEff nD τ sig (Elt F) Λ₀ (.scVector ((i 0).castLE hcore1) ((i 1).castLE hsub1))) (Unit) :=
  fun k1_t4 _ => do
    let ⟨arg11, v61, v87, v88, v89, v90, v91, v92, v93, v94⟩ : Σ' (arg11 : BitVec 32) (v61 : BitVec 32) (v87 : Vec F S16 .i32) (v88 : Vec F S16 .i32) (v89 : Vec F S16 .i32) (v90 : Vec F S16 .i32) (v91 : Vec F S16 .i32) (v92 : Vec F S16 .i32) (v93 : Vec F S16 .i32), IVec S16 32 ← k1_part9 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4 0#32 1#32 k1_t4
    let ⟨v97, v98, v99, v100, v101, v107, v109, v111, v113, v115, v117, v118, v119, v120, v121, v122, v123, v124, v125, v128, v131, v133⟩ : Σ' (v97 : IVec S16 32) (v98 : IVec S16 32) (v99 : IVec S16 32) (v100 : IVec S16 32) (v101 : IVec S16 32) (v107 : IVec S16 32) (v109 : IVec S16 32) (v111 : IVec S16 32) (v113 : IVec S16 32) (v115 : IVec S16 32) (v117 : IVec S16 32) (v118 : Vec F S16 .f32) (v119 : Vec F S16 .f32) (v120 : Vec F S16 .f32) (v121 : Vec F S16 .f32) (v122 : Vec F S16 .f32) (v123 : Vec F S16 .f32) (v124 : Vec F S16 .f32) (v125 : Vec F S16 .f32) (v128 : Vec F S16 .f32) (v131 : Vec F S16 .f32), IVec S16 32 ← k1_part10 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4 v61 v87 v88 v89 v90 v91 v92 v93 v94
    let ⟨v134, v137, v140, v143, v146, v149, v150, v161⟩ : Σ' (v134 : Vec F S16 .f32) (v137 : Vec F S16 .f32) (v140 : Vec F S16 .f32) (v143 : Vec F S16 .f32) (v146 : Vec F S16 .f32) (v149 : Vec F S16 .f32) (v150 : BitVec 32), BitVec 32 ← k1_part11 i arg2 harg2 arg3 harg3 arg4 harg4 arg5 harg5 arg6 harg6 arg7 harg7 arg8 harg8 arg9 harg9 arg10 v61_r0 v61_r1 v61_r2 v61_r3 v61_r4 v61_r5 v61_r6 v61_r7 v61_r8 k1_t4 arg11 v97 v98 v99 v100 v101 v107 v109 v111 v113 v115 v117 v118 v119 v120 v128 v131 v133
    let v186 : BitVec 32 ← k1_part12 i arg2 harg2 arg3 harg3 arg4 harg4 arg5 harg5 arg6 harg6 arg7 harg7 arg8 harg8 arg9 harg9 arg10 v61_r0 v61_r1 v61_r2 v61_r3 v61_r4 v61_r5 v61_r6 v61_r7 v61_r8 k1_t4 v121 v122 v123 v124 v125 v134 v137 v140 v143 v146 v150 v161
    let v190_ld : Vec F S1x16 .f32 ← Prog.lift (.load arg9 (Rect.unit (s := S104x128) (k1_off27 k1_t4 1#32) S1x16.size (k1_off27_inb k1_t4 1)).toLoadRect (View.loadsAt_vmem h_S1x16))
    Prog.lift (.store arg9 (Rect.unit (s := S104x128) (k1_off27 k1_t4 1#32) S1x16.size (k1_off27_inb k1_t4 1)) (shapeCast S1x16 v149 shapeCasts_S16_S1x16) Finset.univ (View.stores_vmem_bits_univ h_S1x16 rfl) (.inl rfl))
    pure ⟨⟩

set_option cleanup.letToHave false in set_option maxHeartbeats 40000000 in
noncomputable def k1_part34_skel (i : grid1.Coords) (arg2 : Memref sig .scVector .hbm S106496 .i32) (harg2 : arg2.IsWhole) (arg3 : Memref sig .scVector .hbm S650000x128 .f32) (harg3 : arg3.IsWhole) (arg4 : Memref sig .scVector .hbm S26624x128 .f32) (harg4 : arg4.IsWhole) (arg5 : Memref sig .scVector .vmem S3328 .i32) (harg5 : arg5.IsWhole) (arg6 : Memref sig .scVector .vmem S3328 .i32) (harg6 : arg6.IsWhole) (arg7 : Memref sig .scVector .vmem S3328 .i32) (harg7 : arg7.IsWhole) (arg8 : Memref sig .scVector .vmem S416x128 .f32) (harg8 : arg8.IsWhole) (arg9 : Memref sig .scVector .vmem S104x128 .f32) (harg9 : arg9.IsWhole) (arg10 : DmaSems sig S_) (v61_r0 : DmaSems sig S_) (v61_r1 : DmaSems sig S_) (v61_r2 : DmaSems sig S_) (v61_r3 : DmaSems sig S_) (v61_r4 : DmaSems sig S_) (v61_r5 : DmaSems sig S_) (v61_r6 : DmaSems sig S_) (v61_r7 : DmaSems sig S_) (v61_r8 : DmaSems sig S_) (v1 : BitVec 32) (v4 : IVec S16 32) :
    Prog (TpuEff nD τ sig (Elt F) Λ₀ (.scVector ((i 0).castLE hcore1) ((i 1).castLE hsub1))) (PUnit) := do
  let v15 : Memref sig .scVector .hbm S650000x128 .f32 := arg3.slice (Rect.unit (s := S650000x128) ![0, 0] S650000x128.size inb_S650000x128_S650000x128_0_0) (fun _ => rfl)
  SparseCore.waitIndirectGather arg10.sem v15 arg8 (View.wordExact_bits rfl) harg8.wordExact
  Scf.Loop.for k1_t3_loop k1_t3_ok ⟨⟩ (k1_t3_body i arg2 harg2 arg3 harg3 arg4 harg4 arg5 harg5 arg6 harg6 arg7 harg7 arg8 harg8 arg9 harg9 arg10 v61_r0 v61_r1 v61_r2 v61_r3 v61_r4 v61_r5 v61_r6 v61_r7 v61_r8 v1 v4)
  let v63_r2 : Memref sig .scVector .hbm S104x128 .f32 := arg4.slice (Rect.unit (s := S26624x128) (k1_off11 i 104#32) S104x128.size (k1_off11_inb i 1)) (fun _ => rfl)
  Prog.lift (.enqueueDma arg9 (.here v63_r2) (.dma v61_r2.sem) harg9.wordExact (View.wordExact_bits rfl) ⟨Or.inl rfl, trivial⟩)
  let v65_r2 : Memref sig .scVector .hbm S104x128 .f32 := arg4.slice (Rect.unit (s := S26624x128) (k1_off11 i 104#32) S104x128.size (k1_off11_inb i 1)) (fun _ => rfl)
  Prog.lift (.waitDma2 v61_r2.sem arg9 v65_r2 harg9.wordExact (View.wordExact_bits rfl))
  let v19 : Memref sig .scVector .vmem S416 .i32 := arg6.slice (Rect.unit (s := S3328) ![832] S416.size inb_S3328_S416_832) (fun _ => rfl)
  let v20 : Memref sig .scVector .hbm S650000x128 .f32 := arg3.slice (Rect.unit (s := S650000x128) ![0, 0] S650000x128.size inb_S650000x128_S650000x128_0_0) (fun _ => rfl)
  SparseCore.enqueueIndirectGather rfl v20 arg8 gathers_S650000x128_S416x128 v19 rfl arg10.sem (View.wordExact_bits rfl) rfl (Or.inl rfl)
  let v22 : Memref sig .scVector .hbm S650000x128 .f32 := arg3.slice (Rect.unit (s := S650000x128) ![0, 0] S650000x128.size inb_S650000x128_S650000x128_0_0) (fun _ => rfl)
  SparseCore.waitIndirectGather arg10.sem v22 arg8 (View.wordExact_bits rfl) harg8.wordExact
  Scf.Loop.for k1_t4_loop k1_t4_ok ⟨⟩ (k1_t4_body i arg2 harg2 arg3 harg3 arg4 harg4 arg5 harg5 arg6 harg6 arg7 harg7 arg8 harg8 arg9 harg9 arg10 v61_r0 v61_r1 v61_r2 v61_r3 v61_r4 v61_r5 v61_r6 v61_r7 v61_r8 v1 v4)
  let v63_r3 : Memref sig .scVector .hbm S104x128 .f32 := arg4.slice (Rect.unit (s := S26624x128) (k1_off11 i 208#32) S104x128.size (k1_off11_inb i 2)) (fun _ => rfl)
  Prog.lift (.enqueueDma arg9 (.here v63_r3) (.dma v61_r3.sem) harg9.wordExact (View.wordExact_bits rfl) ⟨Or.inl rfl, trivial⟩)
  let v65_r3 : Memref sig .scVector .hbm S104x128 .f32 := arg4.slice (Rect.unit (s := S26624x128) (k1_off11 i 208#32) S104x128.size (k1_off11_inb i 2)) (fun _ => rfl)
  Prog.lift (.waitDma2 v61_r3.sem arg9 v65_r3 harg9.wordExact (View.wordExact_bits rfl))
  pure ⟨⟩

set_option maxRecDepth 65536 in
theorem k1_part34_eq_skeleton : k1_part34 (F := F) = k1_part34_skel (F := F) := rfl

set_option cleanup.letToHave false in set_option maxHeartbeats 40000000 in
noncomputable def k1_t5_body (i : grid1.Coords) (arg2 : Memref sig .scVector .hbm S106496 .i32) (harg2 : arg2.IsWhole) (arg3 : Memref sig .scVector .hbm S650000x128 .f32) (harg3 : arg3.IsWhole) (arg4 : Memref sig .scVector .hbm S26624x128 .f32) (harg4 : arg4.IsWhole) (arg5 : Memref sig .scVector .vmem S3328 .i32) (harg5 : arg5.IsWhole) (arg6 : Memref sig .scVector .vmem S3328 .i32) (harg6 : arg6.IsWhole) (arg7 : Memref sig .scVector .vmem S3328 .i32) (harg7 : arg7.IsWhole) (arg8 : Memref sig .scVector .vmem S416x128 .f32) (harg8 : arg8.IsWhole) (arg9 : Memref sig .scVector .vmem S104x128 .f32) (harg9 : arg9.IsWhole) (arg10 : DmaSems sig S_) (v61_r0 : DmaSems sig S_) (v61_r1 : DmaSems sig S_) (v61_r2 : DmaSems sig S_) (v61_r3 : DmaSems sig S_) (v61_r4 : DmaSems sig S_) (v61_r5 : DmaSems sig S_) (v61_r6 : DmaSems sig S_) (v61_r7 : DmaSems sig S_) (v61_r8 : DmaSems sig S_) (v1 : BitVec 32) (v4 : IVec S16 32) :
    Fin k1_t5_loop.trips → Unit → Prog (TpuEff nD τ sig (Elt F) Λ₀ (.scVector ((i 0).castLE hcore1) ((i 1).castLE hsub1))) (Unit) :=
  fun k1_t5 _ => do
    let ⟨arg11, v61, v87, v88, v89, v90, v91, v92, v93, v94⟩ : Σ' (arg11 : BitVec 32) (v61 : BitVec 32) (v87 : Vec F S16 .i32) (v88 : Vec F S16 .i32) (v89 : Vec F S16 .i32) (v90 : Vec F S16 .i32) (v91 : Vec F S16 .i32) (v92 : Vec F S16 .i32) (v93 : Vec F S16 .i32), IVec S16 32 ← k1_part13 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4 0#32 1#32 k1_t5
    let ⟨v97, v98, v99, v100, v101, v107, v109, v111, v113, v115, v117, v118, v119, v120, v121, v122, v123, v124, v125, v128, v131, v133⟩ : Σ' (v97 : IVec S16 32) (v98 : IVec S16 32) (v99 : IVec S16 32) (v100 : IVec S16 32) (v101 : IVec S16 32) (v107 : IVec S16 32) (v109 : IVec S16 32) (v111 : IVec S16 32) (v113 : IVec S16 32) (v115 : IVec S16 32) (v117 : IVec S16 32) (v118 : Vec F S16 .f32) (v119 : Vec F S16 .f32) (v120 : Vec F S16 .f32) (v121 : Vec F S16 .f32) (v122 : Vec F S16 .f32) (v123 : Vec F S16 .f32) (v124 : Vec F S16 .f32) (v125 : Vec F S16 .f32) (v128 : Vec F S16 .f32) (v131 : Vec F S16 .f32), IVec S16 32 ← k1_part14 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4 v61 v87 v88 v89 v90 v91 v92 v93 v94
    let ⟨v134, v137, v140, v143, v146, v149, v150, v161⟩ : Σ' (v134 : Vec F S16 .f32) (v137 : Vec F S16 .f32) (v140 : Vec F S16 .f32) (v143 : Vec F S16 .f32) (v146 : Vec F S16 .f32) (v149 : Vec F S16 .f32) (v150 : BitVec 32), BitVec 32 ← k1_part15 i arg2 harg2 arg3 harg3 arg4 harg4 arg5 harg5 arg6 harg6 arg7 harg7 arg8 harg8 arg9 harg9 arg10 v61_r0 v61_r1 v61_r2 v61_r3 v61_r4 v61_r5 v61_r6 v61_r7 v61_r8 k1_t5 arg11 v97 v98 v99 v100 v101 v107 v109 v111 v113 v115 v117 v118 v119 v120 v128 v131 v133
    let v186 : BitVec 32 ← k1_part16 i arg2 harg2 arg3 harg3 arg4 harg4 arg5 harg5 arg6 harg6 arg7 harg7 arg8 harg8 arg9 harg9 arg10 v61_r0 v61_r1 v61_r2 v61_r3 v61_r4 v61_r5 v61_r6 v61_r7 v61_r8 k1_t5 v121 v122 v123 v124 v125 v134 v137 v140 v143 v146 v150 v161
    let v190_ld : Vec F S1x16 .f32 ← Prog.lift (.load arg9 (Rect.unit (s := S104x128) (k1_off35 k1_t5 1#32) S1x16.size (k1_off35_inb k1_t5 1)).toLoadRect (View.loadsAt_vmem h_S1x16))
    Prog.lift (.store arg9 (Rect.unit (s := S104x128) (k1_off35 k1_t5 1#32) S1x16.size (k1_off35_inb k1_t5 1)) (shapeCast S1x16 v149 shapeCasts_S16_S1x16) Finset.univ (View.stores_vmem_bits_univ h_S1x16 rfl) (.inl rfl))
    pure ⟨⟩

set_option cleanup.letToHave false in set_option maxHeartbeats 40000000 in
noncomputable def k1_t6_body (i : grid1.Coords) (arg2 : Memref sig .scVector .hbm S106496 .i32) (harg2 : arg2.IsWhole) (arg3 : Memref sig .scVector .hbm S650000x128 .f32) (harg3 : arg3.IsWhole) (arg4 : Memref sig .scVector .hbm S26624x128 .f32) (harg4 : arg4.IsWhole) (arg5 : Memref sig .scVector .vmem S3328 .i32) (harg5 : arg5.IsWhole) (arg6 : Memref sig .scVector .vmem S3328 .i32) (harg6 : arg6.IsWhole) (arg7 : Memref sig .scVector .vmem S3328 .i32) (harg7 : arg7.IsWhole) (arg8 : Memref sig .scVector .vmem S416x128 .f32) (harg8 : arg8.IsWhole) (arg9 : Memref sig .scVector .vmem S104x128 .f32) (harg9 : arg9.IsWhole) (arg10 : DmaSems sig S_) (v61_r0 : DmaSems sig S_) (v61_r1 : DmaSems sig S_) (v61_r2 : DmaSems sig S_) (v61_r3 : DmaSems sig S_) (v61_r4 : DmaSems sig S_) (v61_r5 : DmaSems sig S_) (v61_r6 : DmaSems sig S_) (v61_r7 : DmaSems sig S_) (v61_r8 : DmaSems sig S_) (v1 : BitVec 32) (v4 : IVec S16 32) :
    Fin k1_t6_loop.trips → Unit → Prog (TpuEff nD τ sig (Elt F) Λ₀ (.scVector ((i 0).castLE hcore1) ((i 1).castLE hsub1))) (Unit) :=
  fun k1_t6 _ => do
    let ⟨arg11, v61, v87, v88, v89, v90, v91, v92, v93, v94⟩ : Σ' (arg11 : BitVec 32) (v61 : BitVec 32) (v87 : Vec F S16 .i32) (v88 : Vec F S16 .i32) (v89 : Vec F S16 .i32) (v90 : Vec F S16 .i32) (v91 : Vec F S16 .i32) (v92 : Vec F S16 .i32) (v93 : Vec F S16 .i32), IVec S16 32 ← k1_part17 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4 0#32 1#32 k1_t6
    let ⟨v97, v98, v99, v100, v101, v107, v109, v111, v113, v115, v117, v118, v119, v120, v121, v122, v123, v124, v125, v128, v131, v133⟩ : Σ' (v97 : IVec S16 32) (v98 : IVec S16 32) (v99 : IVec S16 32) (v100 : IVec S16 32) (v101 : IVec S16 32) (v107 : IVec S16 32) (v109 : IVec S16 32) (v111 : IVec S16 32) (v113 : IVec S16 32) (v115 : IVec S16 32) (v117 : IVec S16 32) (v118 : Vec F S16 .f32) (v119 : Vec F S16 .f32) (v120 : Vec F S16 .f32) (v121 : Vec F S16 .f32) (v122 : Vec F S16 .f32) (v123 : Vec F S16 .f32) (v124 : Vec F S16 .f32) (v125 : Vec F S16 .f32) (v128 : Vec F S16 .f32) (v131 : Vec F S16 .f32), IVec S16 32 ← k1_part18 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4 v61 v87 v88 v89 v90 v91 v92 v93 v94
    let ⟨v134, v137, v140, v143, v146, v149, v150, v161⟩ : Σ' (v134 : Vec F S16 .f32) (v137 : Vec F S16 .f32) (v140 : Vec F S16 .f32) (v143 : Vec F S16 .f32) (v146 : Vec F S16 .f32) (v149 : Vec F S16 .f32) (v150 : BitVec 32), BitVec 32 ← k1_part19 i arg2 harg2 arg3 harg3 arg4 harg4 arg5 harg5 arg6 harg6 arg7 harg7 arg8 harg8 arg9 harg9 arg10 v61_r0 v61_r1 v61_r2 v61_r3 v61_r4 v61_r5 v61_r6 v61_r7 v61_r8 k1_t6 arg11 v97 v98 v99 v100 v101 v107 v109 v111 v113 v115 v117 v118 v119 v120 v128 v131 v133
    let v186 : BitVec 32 ← k1_part20 i arg2 harg2 arg3 harg3 arg4 harg4 arg5 harg5 arg6 harg6 arg7 harg7 arg8 harg8 arg9 harg9 arg10 v61_r0 v61_r1 v61_r2 v61_r3 v61_r4 v61_r5 v61_r6 v61_r7 v61_r8 k1_t6 v121 v122 v123 v124 v125 v134 v137 v140 v143 v146 v150 v161
    let v190_ld : Vec F S1x16 .f32 ← Prog.lift (.load arg9 (Rect.unit (s := S104x128) (k1_off43 k1_t6 1#32) S1x16.size (k1_off43_inb k1_t6 1)).toLoadRect (View.loadsAt_vmem h_S1x16))
    Prog.lift (.store arg9 (Rect.unit (s := S104x128) (k1_off43 k1_t6 1#32) S1x16.size (k1_off43_inb k1_t6 1)) (shapeCast S1x16 v149 shapeCasts_S16_S1x16) Finset.univ (View.stores_vmem_bits_univ h_S1x16 rfl) (.inl rfl))
    pure ⟨⟩

set_option cleanup.letToHave false in set_option maxHeartbeats 40000000 in
noncomputable def k1_part35_skel (i : grid1.Coords) (arg2 : Memref sig .scVector .hbm S106496 .i32) (harg2 : arg2.IsWhole) (arg3 : Memref sig .scVector .hbm S650000x128 .f32) (harg3 : arg3.IsWhole) (arg4 : Memref sig .scVector .hbm S26624x128 .f32) (harg4 : arg4.IsWhole) (arg5 : Memref sig .scVector .vmem S3328 .i32) (harg5 : arg5.IsWhole) (arg6 : Memref sig .scVector .vmem S3328 .i32) (harg6 : arg6.IsWhole) (arg7 : Memref sig .scVector .vmem S3328 .i32) (harg7 : arg7.IsWhole) (arg8 : Memref sig .scVector .vmem S416x128 .f32) (harg8 : arg8.IsWhole) (arg9 : Memref sig .scVector .vmem S104x128 .f32) (harg9 : arg9.IsWhole) (arg10 : DmaSems sig S_) (v61_r0 : DmaSems sig S_) (v61_r1 : DmaSems sig S_) (v61_r2 : DmaSems sig S_) (v61_r3 : DmaSems sig S_) (v61_r4 : DmaSems sig S_) (v61_r5 : DmaSems sig S_) (v61_r6 : DmaSems sig S_) (v61_r7 : DmaSems sig S_) (v61_r8 : DmaSems sig S_) (v1 : BitVec 32) (v4 : IVec S16 32) :
    Prog (TpuEff nD τ sig (Elt F) Λ₀ (.scVector ((i 0).castLE hcore1) ((i 1).castLE hsub1))) (PUnit) := do
  let v26 : Memref sig .scVector .vmem S416 .i32 := arg6.slice (Rect.unit (s := S3328) ![1248] S416.size inb_S3328_S416_1248) (fun _ => rfl)
  let v27 : Memref sig .scVector .hbm S650000x128 .f32 := arg3.slice (Rect.unit (s := S650000x128) ![0, 0] S650000x128.size inb_S650000x128_S650000x128_0_0) (fun _ => rfl)
  SparseCore.enqueueIndirectGather rfl v27 arg8 gathers_S650000x128_S416x128 v26 rfl arg10.sem (View.wordExact_bits rfl) rfl (Or.inl rfl)
  let v29 : Memref sig .scVector .hbm S650000x128 .f32 := arg3.slice (Rect.unit (s := S650000x128) ![0, 0] S650000x128.size inb_S650000x128_S650000x128_0_0) (fun _ => rfl)
  SparseCore.waitIndirectGather arg10.sem v29 arg8 (View.wordExact_bits rfl) harg8.wordExact
  Scf.Loop.for k1_t5_loop k1_t5_ok ⟨⟩ (k1_t5_body i arg2 harg2 arg3 harg3 arg4 harg4 arg5 harg5 arg6 harg6 arg7 harg7 arg8 harg8 arg9 harg9 arg10 v61_r0 v61_r1 v61_r2 v61_r3 v61_r4 v61_r5 v61_r6 v61_r7 v61_r8 v1 v4)
  let v63_r4 : Memref sig .scVector .hbm S104x128 .f32 := arg4.slice (Rect.unit (s := S26624x128) (k1_off11 i 312#32) S104x128.size (k1_off11_inb i 3)) (fun _ => rfl)
  Prog.lift (.enqueueDma arg9 (.here v63_r4) (.dma v61_r4.sem) harg9.wordExact (View.wordExact_bits rfl) ⟨Or.inl rfl, trivial⟩)
  let v65_r4 : Memref sig .scVector .hbm S104x128 .f32 := arg4.slice (Rect.unit (s := S26624x128) (k1_off11 i 312#32) S104x128.size (k1_off11_inb i 3)) (fun _ => rfl)
  Prog.lift (.waitDma2 v61_r4.sem arg9 v65_r4 harg9.wordExact (View.wordExact_bits rfl))
  let v33 : Memref sig .scVector .vmem S416 .i32 := arg6.slice (Rect.unit (s := S3328) ![1664] S416.size inb_S3328_S416_1664) (fun _ => rfl)
  let v34 : Memref sig .scVector .hbm S650000x128 .f32 := arg3.slice (Rect.unit (s := S650000x128) ![0, 0] S650000x128.size inb_S650000x128_S650000x128_0_0) (fun _ => rfl)
  SparseCore.enqueueIndirectGather rfl v34 arg8 gathers_S650000x128_S416x128 v33 rfl arg10.sem (View.wordExact_bits rfl) rfl (Or.inl rfl)
  let v36 : Memref sig .scVector .hbm S650000x128 .f32 := arg3.slice (Rect.unit (s := S650000x128) ![0, 0] S650000x128.size inb_S650000x128_S650000x128_0_0) (fun _ => rfl)
  SparseCore.waitIndirectGather arg10.sem v36 arg8 (View.wordExact_bits rfl) harg8.wordExact
  Scf.Loop.for k1_t6_loop k1_t6_ok ⟨⟩ (k1_t6_body i arg2 harg2 arg3 harg3 arg4 harg4 arg5 harg5 arg6 harg6 arg7 harg7 arg8 harg8 arg9 harg9 arg10 v61_r0 v61_r1 v61_r2 v61_r3 v61_r4 v61_r5 v61_r6 v61_r7 v61_r8 v1 v4)
  pure ⟨⟩

set_option maxRecDepth 65536 in
theorem k1_part35_eq_skeleton : k1_part35 (F := F) = k1_part35_skel (F := F) := rfl

set_option cleanup.letToHave false in set_option maxHeartbeats 40000000 in
noncomputable def k1_t7_body (i : grid1.Coords) (arg2 : Memref sig .scVector .hbm S106496 .i32) (harg2 : arg2.IsWhole) (arg3 : Memref sig .scVector .hbm S650000x128 .f32) (harg3 : arg3.IsWhole) (arg4 : Memref sig .scVector .hbm S26624x128 .f32) (harg4 : arg4.IsWhole) (arg5 : Memref sig .scVector .vmem S3328 .i32) (harg5 : arg5.IsWhole) (arg6 : Memref sig .scVector .vmem S3328 .i32) (harg6 : arg6.IsWhole) (arg7 : Memref sig .scVector .vmem S3328 .i32) (harg7 : arg7.IsWhole) (arg8 : Memref sig .scVector .vmem S416x128 .f32) (harg8 : arg8.IsWhole) (arg9 : Memref sig .scVector .vmem S104x128 .f32) (harg9 : arg9.IsWhole) (arg10 : DmaSems sig S_) (v61_r0 : DmaSems sig S_) (v61_r1 : DmaSems sig S_) (v61_r2 : DmaSems sig S_) (v61_r3 : DmaSems sig S_) (v61_r4 : DmaSems sig S_) (v61_r5 : DmaSems sig S_) (v61_r6 : DmaSems sig S_) (v61_r7 : DmaSems sig S_) (v61_r8 : DmaSems sig S_) (v1 : BitVec 32) (v4 : IVec S16 32) :
    Fin k1_t7_loop.trips → Unit → Prog (TpuEff nD τ sig (Elt F) Λ₀ (.scVector ((i 0).castLE hcore1) ((i 1).castLE hsub1))) (Unit) :=
  fun k1_t7 _ => do
    let ⟨arg11, v61, v87, v88, v89, v90, v91, v92, v93, v94⟩ : Σ' (arg11 : BitVec 32) (v61 : BitVec 32) (v87 : Vec F S16 .i32) (v88 : Vec F S16 .i32) (v89 : Vec F S16 .i32) (v90 : Vec F S16 .i32) (v91 : Vec F S16 .i32) (v92 : Vec F S16 .i32) (v93 : Vec F S16 .i32), IVec S16 32 ← k1_part21 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4 0#32 1#32 k1_t7
    let ⟨v97, v98, v99, v100, v101, v107, v109, v111, v113, v115, v117, v118, v119, v120, v121, v122, v123, v124, v125, v128, v131, v133⟩ : Σ' (v97 : IVec S16 32) (v98 : IVec S16 32) (v99 : IVec S16 32) (v100 : IVec S16 32) (v101 : IVec S16 32) (v107 : IVec S16 32) (v109 : IVec S16 32) (v111 : IVec S16 32) (v113 : IVec S16 32) (v115 : IVec S16 32) (v117 : IVec S16 32) (v118 : Vec F S16 .f32) (v119 : Vec F S16 .f32) (v120 : Vec F S16 .f32) (v121 : Vec F S16 .f32) (v122 : Vec F S16 .f32) (v123 : Vec F S16 .f32) (v124 : Vec F S16 .f32) (v125 : Vec F S16 .f32) (v128 : Vec F S16 .f32) (v131 : Vec F S16 .f32), IVec S16 32 ← k1_part22 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4 v61 v87 v88 v89 v90 v91 v92 v93 v94
    let ⟨v134, v137, v140, v143, v146, v149, v150, v161⟩ : Σ' (v134 : Vec F S16 .f32) (v137 : Vec F S16 .f32) (v140 : Vec F S16 .f32) (v143 : Vec F S16 .f32) (v146 : Vec F S16 .f32) (v149 : Vec F S16 .f32) (v150 : BitVec 32), BitVec 32 ← k1_part23 i arg2 harg2 arg3 harg3 arg4 harg4 arg5 harg5 arg6 harg6 arg7 harg7 arg8 harg8 arg9 harg9 arg10 v61_r0 v61_r1 v61_r2 v61_r3 v61_r4 v61_r5 v61_r6 v61_r7 v61_r8 k1_t7 arg11 v97 v98 v99 v100 v101 v107 v109 v111 v113 v115 v117 v118 v119 v120 v128 v131 v133
    let v186 : BitVec 32 ← k1_part24 i arg2 harg2 arg3 harg3 arg4 harg4 arg5 harg5 arg6 harg6 arg7 harg7 arg8 harg8 arg9 harg9 arg10 v61_r0 v61_r1 v61_r2 v61_r3 v61_r4 v61_r5 v61_r6 v61_r7 v61_r8 k1_t7 v121 v122 v123 v124 v125 v134 v137 v140 v143 v146 v150 v161
    let v190_ld : Vec F S1x16 .f32 ← Prog.lift (.load arg9 (Rect.unit (s := S104x128) (k1_off51 k1_t7 1#32) S1x16.size (k1_off51_inb k1_t7 1)).toLoadRect (View.loadsAt_vmem h_S1x16))
    Prog.lift (.store arg9 (Rect.unit (s := S104x128) (k1_off51 k1_t7 1#32) S1x16.size (k1_off51_inb k1_t7 1)) (shapeCast S1x16 v149 shapeCasts_S16_S1x16) Finset.univ (View.stores_vmem_bits_univ h_S1x16 rfl) (.inl rfl))
    pure ⟨⟩

set_option cleanup.letToHave false in set_option maxHeartbeats 40000000 in
noncomputable def k1_t8_body (i : grid1.Coords) (arg2 : Memref sig .scVector .hbm S106496 .i32) (harg2 : arg2.IsWhole) (arg3 : Memref sig .scVector .hbm S650000x128 .f32) (harg3 : arg3.IsWhole) (arg4 : Memref sig .scVector .hbm S26624x128 .f32) (harg4 : arg4.IsWhole) (arg5 : Memref sig .scVector .vmem S3328 .i32) (harg5 : arg5.IsWhole) (arg6 : Memref sig .scVector .vmem S3328 .i32) (harg6 : arg6.IsWhole) (arg7 : Memref sig .scVector .vmem S3328 .i32) (harg7 : arg7.IsWhole) (arg8 : Memref sig .scVector .vmem S416x128 .f32) (harg8 : arg8.IsWhole) (arg9 : Memref sig .scVector .vmem S104x128 .f32) (harg9 : arg9.IsWhole) (arg10 : DmaSems sig S_) (v61_r0 : DmaSems sig S_) (v61_r1 : DmaSems sig S_) (v61_r2 : DmaSems sig S_) (v61_r3 : DmaSems sig S_) (v61_r4 : DmaSems sig S_) (v61_r5 : DmaSems sig S_) (v61_r6 : DmaSems sig S_) (v61_r7 : DmaSems sig S_) (v61_r8 : DmaSems sig S_) (v1 : BitVec 32) (v4 : IVec S16 32) :
    Fin k1_t8_loop.trips → Unit → Prog (TpuEff nD τ sig (Elt F) Λ₀ (.scVector ((i 0).castLE hcore1) ((i 1).castLE hsub1))) (Unit) :=
  fun k1_t8 _ => do
    let ⟨arg11, v61, v87, v88, v89, v90, v91, v92, v93, v94⟩ : Σ' (arg11 : BitVec 32) (v61 : BitVec 32) (v87 : Vec F S16 .i32) (v88 : Vec F S16 .i32) (v89 : Vec F S16 .i32) (v90 : Vec F S16 .i32) (v91 : Vec F S16 .i32) (v92 : Vec F S16 .i32) (v93 : Vec F S16 .i32), IVec S16 32 ← k1_part25 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4 0#32 1#32 k1_t8
    let ⟨v97, v98, v99, v100, v101, v107, v109, v111, v113, v115, v117, v118, v119, v120, v121, v122, v123, v124, v125, v128, v131, v133⟩ : Σ' (v97 : IVec S16 32) (v98 : IVec S16 32) (v99 : IVec S16 32) (v100 : IVec S16 32) (v101 : IVec S16 32) (v107 : IVec S16 32) (v109 : IVec S16 32) (v111 : IVec S16 32) (v113 : IVec S16 32) (v115 : IVec S16 32) (v117 : IVec S16 32) (v118 : Vec F S16 .f32) (v119 : Vec F S16 .f32) (v120 : Vec F S16 .f32) (v121 : Vec F S16 .f32) (v122 : Vec F S16 .f32) (v123 : Vec F S16 .f32) (v124 : Vec F S16 .f32) (v125 : Vec F S16 .f32) (v128 : Vec F S16 .f32) (v131 : Vec F S16 .f32), IVec S16 32 ← k1_part26 i arg2 harg2 arg3 harg3 arg4 harg4 arg5 harg5 arg6 harg6 arg7 harg7 arg8 harg8 arg9 harg9 arg10 v61_r0 v61_r1 v61_r2 v61_r3 v61_r4 v61_r5 v61_r6 v61_r7 v61_r8 v4 v61 v87 v88 v89 v90 v91 v92 v93 v94
    let ⟨v134, v137, v140, v143, v146, v149, v150, v161⟩ : Σ' (v134 : Vec F S16 .f32) (v137 : Vec F S16 .f32) (v140 : Vec F S16 .f32) (v143 : Vec F S16 .f32) (v146 : Vec F S16 .f32) (v149 : Vec F S16 .f32) (v150 : BitVec 32), BitVec 32 ← k1_part27 i arg2 harg2 arg3 harg3 arg4 harg4 arg5 harg5 arg6 harg6 arg7 harg7 arg8 harg8 arg9 harg9 arg10 v61_r0 v61_r1 v61_r2 v61_r3 v61_r4 v61_r5 v61_r6 v61_r7 v61_r8 k1_t8 arg11 v97 v98 v99 v100 v101 v107 v109 v111 v113 v115 v117 v118 v119 v120 v128 v131 v133
    let v186 : BitVec 32 ← k1_part28 i arg2 harg2 arg3 harg3 arg4 harg4 arg5 harg5 arg6 harg6 arg7 harg7 arg8 harg8 arg9 harg9 arg10 v61_r0 v61_r1 v61_r2 v61_r3 v61_r4 v61_r5 v61_r6 v61_r7 v61_r8 k1_t8 v121 v122 v123 v124 v125 v134 v137 v140 v143 v146 v150 v161
    let v190_ld : Vec F S1x16 .f32 ← Prog.lift (.load arg9 (Rect.unit (s := S104x128) (k1_off59 k1_t8 1#32) S1x16.size (k1_off59_inb k1_t8 1)).toLoadRect (View.loadsAt_vmem h_S1x16))
    Prog.lift (.store arg9 (Rect.unit (s := S104x128) (k1_off59 k1_t8 1#32) S1x16.size (k1_off59_inb k1_t8 1)) (shapeCast S1x16 v149 shapeCasts_S16_S1x16) Finset.univ (View.stores_vmem_bits_univ h_S1x16 rfl) (.inl rfl))
    pure ⟨⟩

set_option cleanup.letToHave false in set_option maxHeartbeats 40000000 in
noncomputable def k1_part36_skel (i : grid1.Coords) (arg2 : Memref sig .scVector .hbm S106496 .i32) (harg2 : arg2.IsWhole) (arg3 : Memref sig .scVector .hbm S650000x128 .f32) (harg3 : arg3.IsWhole) (arg4 : Memref sig .scVector .hbm S26624x128 .f32) (harg4 : arg4.IsWhole) (arg5 : Memref sig .scVector .vmem S3328 .i32) (harg5 : arg5.IsWhole) (arg6 : Memref sig .scVector .vmem S3328 .i32) (harg6 : arg6.IsWhole) (arg7 : Memref sig .scVector .vmem S3328 .i32) (harg7 : arg7.IsWhole) (arg8 : Memref sig .scVector .vmem S416x128 .f32) (harg8 : arg8.IsWhole) (arg9 : Memref sig .scVector .vmem S104x128 .f32) (harg9 : arg9.IsWhole) (arg10 : DmaSems sig S_) (v61_r0 : DmaSems sig S_) (v61_r1 : DmaSems sig S_) (v61_r2 : DmaSems sig S_) (v61_r3 : DmaSems sig S_) (v61_r4 : DmaSems sig S_) (v61_r5 : DmaSems sig S_) (v61_r6 : DmaSems sig S_) (v61_r7 : DmaSems sig S_) (v61_r8 : DmaSems sig S_) (v1 : BitVec 32) (v4 : IVec S16 32) :
    Prog (TpuEff nD τ sig (Elt F) Λ₀ (.scVector ((i 0).castLE hcore1) ((i 1).castLE hsub1))) (BitVec 32) := do
  let v63_r5 : Memref sig .scVector .hbm S104x128 .f32 := arg4.slice (Rect.unit (s := S26624x128) (k1_off11 i 416#32) S104x128.size (k1_off11_inb i 4)) (fun _ => rfl)
  Prog.lift (.enqueueDma arg9 (.here v63_r5) (.dma v61_r5.sem) harg9.wordExact (View.wordExact_bits rfl) ⟨Or.inl rfl, trivial⟩)
  let v65_r5 : Memref sig .scVector .hbm S104x128 .f32 := arg4.slice (Rect.unit (s := S26624x128) (k1_off11 i 416#32) S104x128.size (k1_off11_inb i 4)) (fun _ => rfl)
  Prog.lift (.waitDma2 v61_r5.sem arg9 v65_r5 harg9.wordExact (View.wordExact_bits rfl))
  let v40 : Memref sig .scVector .vmem S416 .i32 := arg6.slice (Rect.unit (s := S3328) ![2080] S416.size inb_S3328_S416_2080) (fun _ => rfl)
  let v41 : Memref sig .scVector .hbm S650000x128 .f32 := arg3.slice (Rect.unit (s := S650000x128) ![0, 0] S650000x128.size inb_S650000x128_S650000x128_0_0) (fun _ => rfl)
  SparseCore.enqueueIndirectGather rfl v41 arg8 gathers_S650000x128_S416x128 v40 rfl arg10.sem (View.wordExact_bits rfl) rfl (Or.inl rfl)
  let v43 : Memref sig .scVector .hbm S650000x128 .f32 := arg3.slice (Rect.unit (s := S650000x128) ![0, 0] S650000x128.size inb_S650000x128_S650000x128_0_0) (fun _ => rfl)
  SparseCore.waitIndirectGather arg10.sem v43 arg8 (View.wordExact_bits rfl) harg8.wordExact
  Scf.Loop.for k1_t7_loop k1_t7_ok ⟨⟩ (k1_t7_body i arg2 harg2 arg3 harg3 arg4 harg4 arg5 harg5 arg6 harg6 arg7 harg7 arg8 harg8 arg9 harg9 arg10 v61_r0 v61_r1 v61_r2 v61_r3 v61_r4 v61_r5 v61_r6 v61_r7 v61_r8 v1 v4)
  let v63_r6 : Memref sig .scVector .hbm S104x128 .f32 := arg4.slice (Rect.unit (s := S26624x128) (k1_off11 i 520#32) S104x128.size (k1_off11_inb i 5)) (fun _ => rfl)
  Prog.lift (.enqueueDma arg9 (.here v63_r6) (.dma v61_r6.sem) harg9.wordExact (View.wordExact_bits rfl) ⟨Or.inl rfl, trivial⟩)
  let v65_r6 : Memref sig .scVector .hbm S104x128 .f32 := arg4.slice (Rect.unit (s := S26624x128) (k1_off11 i 520#32) S104x128.size (k1_off11_inb i 5)) (fun _ => rfl)
  Prog.lift (.waitDma2 v61_r6.sem arg9 v65_r6 harg9.wordExact (View.wordExact_bits rfl))
  let v47 : Memref sig .scVector .vmem S416 .i32 := arg6.slice (Rect.unit (s := S3328) ![2496] S416.size inb_S3328_S416_2496) (fun _ => rfl)
  let v48 : Memref sig .scVector .hbm S650000x128 .f32 := arg3.slice (Rect.unit (s := S650000x128) ![0, 0] S650000x128.size inb_S650000x128_S650000x128_0_0) (fun _ => rfl)
  SparseCore.enqueueIndirectGather rfl v48 arg8 gathers_S650000x128_S416x128 v47 rfl arg10.sem (View.wordExact_bits rfl) rfl (Or.inl rfl)
  let v50 : Memref sig .scVector .hbm S650000x128 .f32 := arg3.slice (Rect.unit (s := S650000x128) ![0, 0] S650000x128.size inb_S650000x128_S650000x128_0_0) (fun _ => rfl)
  SparseCore.waitIndirectGather arg10.sem v50 arg8 (View.wordExact_bits rfl) harg8.wordExact
  Scf.Loop.for k1_t8_loop k1_t8_ok ⟨⟩ (k1_t8_body i arg2 harg2 arg3 harg3 arg4 harg4 arg5 harg5 arg6 harg6 arg7 harg7 arg8 harg8 arg9 harg9 arg10 v61_r0 v61_r1 v61_r2 v61_r3 v61_r4 v61_r5 v61_r6 v61_r7 v61_r8 v1 v4)
  let v52 : BitVec 32 := Scalar.muli v1 832#32
  pure v52

set_option maxRecDepth 65536 in
theorem k1_part36_eq_skeleton : k1_part36 (F := F) = k1_part36_skel (F := F) := rfl

noncomputable def k2_pay1 (v0 : Vec F S512x832 .f32) (v2 : Vec F S832x512 .f32) (v5 : Vec F S512x13 .f32) (v7 : Vec F S13x512 .f32) (v11 : Vec F S1x512 .f32) (v17 : Vec F S512x256 .f32) (v19 : Vec F S1x256 .f32) (v25 : Vec F S256x128 .f32) (v27 : Vec F S1x128 .f32) : FVec F S512x128 .f32 :=
  have v1 : FVec F S512x832 .f32 := shapeCast S512x832 v0 shapeCasts_S512x832_S512x832
  have v3 : FVec F S832x512 .f32 := shapeCast S832x512 v2 shapeCasts_S832x512_S832x512
  have cst : FVec F S512x512 .f32 := constant S512x512 .f32 0x00000000#32
  have v4 : FVec F S512x512 .f32 := matmul dot_S512x832_S832x512_S512x512_1_0_0_1_n_n none v1 v3 cst
  have v6 : FVec F S512x13 .f32 := shapeCast S512x13 v5 shapeCasts_S512x13_S512x13
  have v8 : FVec F S13x512 .f32 := shapeCast S13x512 v7 shapeCasts_S13x512_S13x512
  have cst_7 : FVec F S512x512 .f32 := constant S512x512 .f32 0x00000000#32
  have v9 : FVec F S512x512 .f32 := matmul dot_S512x13_S13x512_S512x512_1_0_0_1_n_n none v6 v8 cst_7
  have v10 : FVec F S512x512 .f32 := addf v4 v9
  have v12 : FVec F S1x512 .f32 := shapeCast S1x512 v11 shapeCasts_S1x512_S1x512
  have v13 : FVec F S512x512 .f32 := broadcastTo S512x512 v12 broadcasts_S1x512_S512x512
  have v14 : FVec F S512x512 .f32 := addf v10 v13
  have cst_10 : F .f32 := Scalar.ofBits .f32 0x00000000#32
  have v15 : FVec F S512x512 .f32 := broadcast S512x512 cst_10
  have v16 : FVec F S512x512 .f32 := maximumf v14 v15
  have cst_13 : FVec F S512x256 .f32 := constant S512x256 .f32 0x00000000#32
  have v18 : FVec F S512x256 .f32 := matmul dot_S512x512_S512x256_S512x256_1_0_0_1_n_n none v16 v17 cst_13
  have v20 : FVec F S1x256 .f32 := shapeCast S1x256 v19 shapeCasts_S1x256_S1x256
  have v21 : FVec F S512x256 .f32 := broadcastTo S512x256 v20 broadcasts_S1x256_S512x256
  have v22 : FVec F S512x256 .f32 := addf v18 v21
  have cst_16 : F .f32 := Scalar.ofBits .f32 0x00000000#32
  have v23 : FVec F S512x256 .f32 := broadcast S512x256 cst_16
  have v24 : FVec F S512x256 .f32 := maximumf v22 v23
  have cst_19 : FVec F S512x128 .f32 := constant S512x128 .f32 0x00000000#32
  have v26 : FVec F S512x128 .f32 := matmul dot_S512x256_S256x128_S512x128_1_0_0_1_n_n none v24 v25 cst_19
  have v28 : FVec F S1x128 .f32 := shapeCast S1x128 v27 shapeCasts_S1x128_S1x128
  have v29 : FVec F S512x128 .f32 := broadcastTo S512x128 v28 broadcasts_S1x128_S512x128
  have v30 : FVec F S512x128 .f32 := addf v26 v29
  have cst_22 : F .f32 := Scalar.ofBits .f32 0x00000000#32
  have v31 : FVec F S512x128 .f32 := broadcast S512x128 cst_22
  have v32 : FVec F S512x128 .f32 := maximumf v30 v31
  v32

noncomputable def cc2__mlp_body_skel (i : grid2.Coords) (arg1 : Memref sig .tc .vmem S512x832 .f32) (harg1 : arg1.IsWhole) (arg2 : Memref sig .tc .vmem S512x13 .f32) (harg2 : arg2.IsWhole) (arg3 : Memref sig .tc .vmem S832x512 .f32) (harg3 : arg3.IsWhole) (arg4 : Memref sig .tc .vmem S13x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S512x128 .f32) (harg10 : arg10.IsWhole) :
    Prog (TpuEff nD τ sig (Elt F) Λ₀ .tc) PUnit := do
  let v32 : FVec F S512x128 .f32 ← k2_part1 i arg1 harg1 arg2 harg2 arg3 harg3 arg4 harg4 arg5 harg5 arg6 harg6 arg7 harg7 arg8 harg8 arg9 harg9 arg10 harg10
  let v33 : Vec F S512x128 .f32 ← Prog.lift (.load arg10 (Rect.unit (s := S512x128) ![0, 0] S512x128.size inb_S512x128_S512x128_0_0).toLoadRect (View.loadsAt_vmem h_S512x128))
  Prog.lift (.store arg10 (Rect.unit (s := S512x128) ![0, 0] S512x128.size inb_S512x128_S512x128_0_0) v32 Finset.univ (View.stores_vmem_bits_univ h_S512x128 rfl) (.inl rfl))
  pure ⟨⟩

set_option maxRecDepth 65536 in
theorem cc2__mlp_body_eq_skeleton : cc2__mlp_body (F := F) = cc2__mlp_body_skel (F := F) := rfl

noncomputable def k2_part1_skel (i : grid2.Coords) (arg1 : Memref sig .tc .vmem S512x832 .f32) (harg1 : arg1.IsWhole) (arg2 : Memref sig .tc .vmem S512x13 .f32) (harg2 : arg2.IsWhole) (arg3 : Memref sig .tc .vmem S832x512 .f32) (harg3 : arg3.IsWhole) (arg4 : Memref sig .tc .vmem S13x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S512x128 .f32) (harg10 : arg10.IsWhole) :
    Prog (TpuEff nD τ sig (Elt F) Λ₀ .tc) (FVec F S512x128 .f32) := do
  let v0 : Vec F S512x832 .f32 ← Prog.lift (.load arg1 (Rect.unit (s := S512x832) ![0, 0] S512x832.size inb_S512x832_S512x832_0_0).toLoadRect (View.loadsAt_vmem h_S512x832))
  let v2 : Vec F S832x512 .f32 ← Prog.lift (.load arg3 (Rect.unit (s := S832x512) ![0, 0] S832x512.size inb_S832x512_S832x512_0_0).toLoadRect (View.loadsAt_vmem h_S832x512))
  let v5 : Vec F S512x13 .f32 ← Prog.lift (.load arg2 (Rect.unit (s := S512x13) ![0, 0] S512x13.size inb_S512x13_S512x13_0_0).toLoadRect (View.loadsAt_vmem h_S512x13))
  let v7 : Vec F S13x512 .f32 ← Prog.lift (.load arg4 (Rect.unit (s := S13x512) ![0, 0] S13x512.size inb_S13x512_S13x512_0_0).toLoadRect (View.loadsAt_vmem h_S13x512))
  let v11 : Vec F S1x512 .f32 ← Prog.lift (.load arg5 (Rect.unit (s := S1x512) ![0, 0] S1x512.size inb_S1x512_S1x512_0_0).toLoadRect (View.loadsAt_vmem h_S1x512))
  let v17 : Vec F S512x256 .f32 ← Prog.lift (.load arg6 (Rect.unit (s := S512x256) ![0, 0] S512x256.size inb_S512x256_S512x256_0_0).toLoadRect (View.loadsAt_vmem h_S512x256))
  let v19 : Vec F S1x256 .f32 ← Prog.lift (.load arg7 (Rect.unit (s := S1x256) ![0, 0] S1x256.size inb_S1x256_S1x256_0_0).toLoadRect (View.loadsAt_vmem h_S1x256))
  let v25 : Vec F S256x128 .f32 ← Prog.lift (.load arg8 (Rect.unit (s := S256x128) ![0, 0] S256x128.size inb_S256x128_S256x128_0_0).toLoadRect (View.loadsAt_vmem h_S256x128))
  let v27 : Vec F S1x128 .f32 ← Prog.lift (.load arg9 (Rect.unit (s := S1x128) ![0, 0] S1x128.size inb_S1x128_S1x128_0_0).toLoadRect (View.loadsAt_vmem h_S1x128))
  pure (k2_pay1 v0 v2 v5 v7 v11 v17 v19 v25 v27)

set_option maxRecDepth 65536 in
theorem k2_part1_eq_skeleton : k2_part1 (F := F) = k2_part1_skel (F := F) := rfl

end Cert.KernelIdeal.Gen
-- ==== Proof.Offs.lean ====
/-
  The offsets of the lookup kernel in closed form.
-/
module

public import proofs.«01_k».proof.Proof.Facts

@[expose] public section

namespace Cert.KernelIdeal.Gen

open Cert.KernelIdeal.Facts₀ Cert.KernelIdeal.Facts
open Idealize.ShloMosaic Idealize.SL.Sem

theorem k1_off1_eq : ∀ i : grid1.Coords, k1_off1 i = ![6656 * (i 1).val + 3328 * (i 0).val] := by decide +kernel
theorem k1_off2_eq : ∀ t : Fin k1_t1_loop.trips, k1_off2 t = ![16 * t.val] := by decide +kernel
theorem k1_off3_eq : ∀ t : Fin k1_t2_loop.trips, ∀ r : Fin 2, k1_off3 t (BitVec.ofNat 32 r.val) = ![2 * t.val + r.val, 0] := by decide +kernel
theorem k1_off4_eq : ∀ t : Fin k1_t2_loop.trips, ∀ r : Fin 2, k1_off4 t (BitVec.ofNat 32 r.val) = ![2 * t.val + r.val, 16] := by decide +kernel
theorem k1_off5_eq : ∀ t : Fin k1_t2_loop.trips, ∀ r : Fin 2, k1_off5 t (BitVec.ofNat 32 r.val) = ![2 * t.val + r.val, 32] := by decide +kernel
theorem k1_off6_eq : ∀ t : Fin k1_t2_loop.trips, ∀ r : Fin 2, k1_off6 t (BitVec.ofNat 32 r.val) = ![2 * t.val + r.val, 48] := by decide +kernel
theorem k1_off7_eq : ∀ t : Fin k1_t2_loop.trips, ∀ r : Fin 2, k1_off7 t (BitVec.ofNat 32 r.val) = ![2 * t.val + r.val, 64] := by decide +kernel
theorem k1_off8_eq : ∀ t : Fin k1_t2_loop.trips, ∀ r : Fin 2, k1_off8 t (BitVec.ofNat 32 r.val) = ![2 * t.val + r.val, 80] := by decide +kernel
theorem k1_off9_eq : ∀ t : Fin k1_t2_loop.trips, ∀ r : Fin 2, k1_off9 t (BitVec.ofNat 32 r.val) = ![2 * t.val + r.val, 96] := by decide +kernel
theorem k1_off10_eq : ∀ t : Fin k1_t2_loop.trips, ∀ r : Fin 2, k1_off10 t (BitVec.ofNat 32 r.val) = ![2 * t.val + r.val, 112] := by decide +kernel
theorem k1_off11_eq : ∀ (i : grid1.Coords) (r : Fin 8), k1_off11 i (BitVec.ofNat 32 (104 * r.val)) = ![1664 * (i 1).val + 832 * (i 0).val + 104 * r.val, 0] := by decide +kernel

end Cert.KernelIdeal.Gen
-- ==== Proof.Pipe.lean ====
/-
  The pipelined call of the dense layers: the layout facts its launch takes, its grid's points, its windows one by one, the
  arrays of the TensorCore it does not touch, and at which points each window is fetched and written back.
-/
module

public import proofs.«01_k».proof.Proof.Facts
public import Idealize.ShloMosaic.Lib.Pipeline.Kit
public import Idealize.ShloMosaic.Lib.Pipeline.Regions

@[expose] public section

noncomputable section

namespace Cert.KernelIdeal.Gen

open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 1 → List (DmaSem sig) :=
  fun | 0 => Pipeline.specSems spec2 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 2 (pipeline 0 of @main) -/

/-- The layout the launch needs: the windows' arrays unscoped, distinct buffers, the staging buffers scoped and
    distinct, the staging semaphores scoped. -/
theorem winFacts2 : Pipeline.WinFacts spec2 := by decide
/-- No window's block is empty. -/
theorem block_pos2 : ∀ w : Fin 10, 0 < (spec2 w).block.numel := by decide
/-- The windows' arrays and the staging memrefs are whole buffers. -/
theorem arr_whole2 : ∀ w : Fin 10, (spec2 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | ⟨_ + 10, h⟩ => absurd h (Nat.not_lt.2 (Nat.le_add_left _ _))
theorem stage_whole2 : ∀ (w : Fin 10) (s : Fin (spec2 w).nbuf), ((spec2 w).stage s).IsWhole := fun | 0 => fun s => hstage2_0 (s.cast nbuf2_0) | 1 => fun s => hstage2_1 (s.cast nbuf2_1) | 2 => fun s => hstage2_2 (s.cast nbuf2_2) | 3 => fun s => hstage2_3 (s.cast nbuf2_3) | 4 => fun s => hstage2_4 (s.cast nbuf2_4) | 5 => fun s => hstage2_5 (s.cast nbuf2_5) | 6 => fun s => hstage2_6 (s.cast nbuf2_6) | 7 => fun s => hstage2_7 (s.cast nbuf2_7) | 8 => fun s => hstage2_8 (s.cast nbuf2_8) | 9 => fun s => hstage2_9 (s.cast nbuf2_9) | ⟨_ + 10, h⟩ => absurd h (Nat.not_lt.2 (Nat.le_add_left _ _))
/-- The five, bundled: what the launch theorems take. -/
theorem launch2 : Pipeline.LaunchFacts (nD := nD) (τ := τ) cfgs 0 := ⟨cellOf_inj, winFacts2, block_pos2, arr_whole2, stage_whole2⟩

/-- The grid has 8 points. -/
theorem N_2 : grid2.N = 8 := by decide
/-- Point 0. -/
def t2_0 : Fin grid2.N := ⟨0, by rw [N_2]; decide⟩
/-- Point 1. -/
def t2_1 : Fin grid2.N := ⟨1, by rw [N_2]; decide⟩
/-- Point 2. -/
def t2_2 : Fin grid2.N := ⟨2, by rw [N_2]; decide⟩
/-- Point 3. -/
def t2_3 : Fin grid2.N := ⟨3, by rw [N_2]; decide⟩
/-- Point 4. -/
def t2_4 : Fin grid2.N := ⟨4, by rw [N_2]; decide⟩
/-- Point 5. -/
def t2_5 : Fin grid2.N := ⟨5, by rw [N_2]; decide⟩
/-- Point 6. -/
def t2_6 : Fin grid2.N := ⟨6, by rw [N_2]; decide⟩
/-- Point 7. -/
def t2_7 : Fin grid2.N := ⟨7, by rw [N_2]; decide⟩
/-- Every point is one of them. -/
theorem fin_N2 (t : Fin grid2.N) : t = t2_0 ∨ t = t2_1 ∨ t = t2_2 ∨ t = t2_3 ∨ t = t2_4 ∨ t = t2_5 ∨ t = t2_6 ∨ t = t2_7 := by
  obtain ⟨t, ht⟩ := t; have := N_2; simp only [t2_0, t2_1, t2_2, t2_3, t2_4, t2_5, t2_6, t2_7, Fin.mk.injEq]; omega

/-- The windows conjoined one by one. -/
theorem bigSep_W2 {M : Type} [URA M] (Φ : Fin 10 → sProp M) : bigSep Finset.univ Φ = iprop(Φ (0 : Fin 10) ∗ Φ (1 : Fin 10) ∗ Φ (2 : Fin 10) ∗ Φ (3 : Fin 10) ∗ Φ (4 : Fin 10) ∗ Φ (5 : Fin 10) ∗ Φ (6 : Fin 10) ∗ Φ (7 : Fin 10) ∗ Φ (8 : Fin 10) ∗ Φ (9 : Fin 10)) :=
  bigSep_univ_eq_bigSepL [(0 : Fin 10), (1 : Fin 10), (2 : Fin 10), (3 : Fin 10), (4 : Fin 10), (5 : Fin 10), (6 : Fin 10), (7 : Fin 10), (8 : Fin 10), (9 : Fin 10)] (by decide) (by decide) Φ
/-- The core's scoped buffers that are no staging buffer of custom_call 2, each whole at some contents:
    none. -/
theorem scopedRest2_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = (BI.emp : sProp (MT nD τ sig Ix Val Name U Lvl)) :=
  Pipeline.scopedRest_eq_of_list spec2 c [] (by decide) (by decide)
/-- Its unscoped buffers that are no window's array, each whole at contents `V`:
    `main_arg0`, `main_arg1`, `main_arg2`, `main_arg3`, `main_arg5`, `main_arg7`, `main_v0`, `main_v1`, `main_v2`, `main_c`, `main_v3`, `main_v4`, `main_v5`, `main_v6`, `main_v7`, `main_v8`, `main_v10`, `main_v11`, `main_v12`, `main_v13`. -/
theorem unscopedRest2_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.unscopedRest (Ix := Ix) (Name := Name) (U := U) (Lvl := Lvl) spec2 c V : sProp (MT nD τ sig Ix Val Name U Lvl))
      = iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_arg5) ↦{fullShare} V main_arg5) ∗ (((c : Thread nD τ).loc main_arg7) ↦{fullShare} V main_arg7) ∗ (((c : Thread nD τ).loc main_v0) ↦{fullShare} V main_v0) ∗ (((c : Thread nD τ).loc main_v1) ↦{fullShare} V main_v1) ∗ (((c : Thread nD τ).loc main_v2) ↦{fullShare} V main_v2) ∗ (((c : Thread nD τ).loc main_c) ↦{fullShare} V main_c) ∗ (((c : Thread nD τ).loc main_v3) ↦{fullShare} V main_v3) ∗ (((c : Thread nD τ).loc main_v4) ↦{fullShare} V main_v4) ∗ (((c : Thread nD τ).loc main_v5) ↦{fullShare} V main_v5) ∗ (((c : Thread nD τ).loc main_v6) ↦{fullShare} V main_v6) ∗ (((c : Thread nD τ).loc main_v7) ↦{fullShare} V main_v7) ∗ (((c : Thread nD τ).loc main_v8) ↦{fullShare} V main_v8) ∗ (((c : Thread nD τ).loc main_v10) ↦{fullShare} V main_v10) ∗ (((c : Thread nD τ).loc main_v11) ↦{fullShare} V main_v11) ∗ (((c : Thread nD τ).loc main_v12) ↦{fullShare} V main_v12) ∗ (((c : Thread nD τ).loc main_v13) ↦{fullShare} V main_v13)) :=
  Pipeline.unscopedRest_eq_of_list spec2 c V [main_arg0, main_arg1, main_arg2, main_arg3, main_arg5, main_arg7, main_v0, main_v1, main_v2, main_c, main_v3, main_v4, main_v5, main_v6, main_v7, main_v8, main_v10, main_v11, main_v12, main_v13] (by decide) (by decide)

/-! ## Fetches and write-backs -/

/-- Window 0 (operand 0 (%14)) is fetched at every point. -/
theorem fetch2_0 : ∀ t : Fin cfg2.N, (cfg2.win 0).fetch t = true :=
  (fun t => (Pipeline.Window.fetch_reads win2_0 rfl 0 (by decide) (by decide) (Pipeline.Window.sep_of_coord cc2_transform_0 0 0 (fun _ => rfl) (by decide)) (P := 1) (by decide) t).mpr (Nat.mod_one _) : ∀ t : Fin grid2.N, win2_0.fetch t = true)
/-- Window 1 (operand 1 (%9)) is fetched at every point. -/
theorem fetch2_1 : ∀ t : Fin cfg2.N, (cfg2.win 1).fetch t = true :=
  (fun t => (Pipeline.Window.fetch_reads win2_1 rfl 0 (by decide) (by decide) (Pipeline.Window.sep_of_coord cc2_transform_1 0 0 (fun _ => rfl) (by decide)) (P := 1) (by decide) t).mpr (Nat.mod_one _) : ∀ t : Fin grid2.N, win2_1.fetch t = true)
/-- Window 2 (operand 2 (%15)) is fetched at the first point only. -/
theorem fetch2_2 : ∀ t : Fin cfg2.N, (cfg2.win 2).fetch t = true ↔ t.val % 8 = 0 :=
  (fun t => Pipeline.Window.fetch_const win2_2 rfl (fun _ _ => rfl) (n := 8) (by decide) t : ∀ t : Fin grid2.N, win2_2.fetch t = true ↔ t.val % 8 = 0)
/-- Window 3 (operand 3 (%16)) is fetched at the first point only. -/
theorem fetch2_3 : ∀ t : Fin cfg2.N, (cfg2.win 3).fetch t = true ↔ t.val % 8 = 0 :=
  (fun t => Pipeline.Window.fetch_const win2_3 rfl (fun _ _ => rfl) (n := 8) (by decide) t : ∀ t : Fin grid2.N, win2_3.fetch t = true ↔ t.val % 8 = 0)
/-- Window 4 (operand 4 (%17)) is fetched at the first point only. -/
theorem fetch2_4 : ∀ t : Fin cfg2.N, (cfg2.win 4).fetch t = true ↔ t.val % 8 = 0 :=
  (fun t => Pipeline.Window.fetch_const win2_4 rfl (fun _ _ => rfl) (n := 8) (by decide) t : ∀ t : Fin grid2.N, win2_4.fetch t = true ↔ t.val % 8 = 0)
/-- Window 5 (operand 5 (%arg4)) is fetched at the first point only. -/
theorem fetch2_5 : ∀ t : Fin cfg2.N, (cfg2.win 5).fetch t = true ↔ t.val % 8 = 0 :=
  (fun t => Pipeline.Window.fetch_const win2_5 rfl (fun _ _ => rfl) (n := 8) (by decide) t : ∀ t : Fin grid2.N, win2_5.fetch t = true ↔ t.val % 8 = 0)
/-- Window 6 (operand 6 (%18)) is fetched at the first point only. -/
theorem fetch2_6 : ∀ t : Fin cfg2.N, (cfg2.win 6).fetch t = true ↔ t.val % 8 = 0 :=
  (fun t => Pipeline.Window.fetch_const win2_6 rfl (fun _ _ => rfl) (n := 8) (by decide) t : ∀ t : Fin grid2.N, win2_6.fetch t = true ↔ t.val % 8 = 0)
/-- Window 7 (operand 7 (%arg6)) is fetched at the first point only. -/
theorem fetch2_7 : ∀ t : Fin cfg2.N, (cfg2.win 7).fetch t = true ↔ t.val % 8 = 0 :=
  (fun t => Pipeline.Window.fetch_const win2_7 rfl (fun _ _ => rfl) (n := 8) (by decide) t : ∀ t : Fin grid2.N, win2_7.fetch t = true ↔ t.val % 8 = 0)
/-- Window 8 (operand 8 (%19)) is fetched at the first point only. -/
theorem fetch2_8 : ∀ t : Fin cfg2.N, (cfg2.win 8).fetch t = true ↔ t.val % 8 = 0 :=
  (fun t => Pipeline.Window.fetch_const win2_8 rfl (fun _ _ => rfl) (n := 8) (by decide) t : ∀ t : Fin grid2.N, win2_8.fetch t = true ↔ t.val % 8 = 0)
/-- Window 9 (result 0 (%20)) is written back at every point. -/
theorem flush2_9 : ∀ t : Fin cfg2.N, (cfg2.win 9).flush t = true :=
  (fun t => (Pipeline.Window.flush_reads win2_9 rfl 0 (by decide) (by decide) (Pipeline.Window.sep_of_coord cc2_transform_9 0 0 (fun _ => rfl) (by decide)) (P := 1) (m := 0) (by decide) rfl t).mpr (Nat.mod_one _) : ∀ t : Fin grid2.N, win2_9.flush t = true)

/-- The current staging memref of each window at point `t`: which of its buffers it is on. -/
abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)
abbrev st2_4 (t : Fin cfg2.N) := (cfg2.win 4).stage (cfg2.slots t 4)
abbrev st2_5 (t : Fin cfg2.N) := (cfg2.win 5).stage (cfg2.slots t 5)
abbrev st2_6 (t : Fin cfg2.N) := (cfg2.win 6).stage (cfg2.slots t 6)
abbrev st2_7 (t : Fin cfg2.N) := (cfg2.win 7).stage (cfg2.slots t 7)
abbrev st2_8 (t : Fin cfg2.N) := (cfg2.win 8).stage (cfg2.slots t 8)
abbrev st2_9 (t : Fin cfg2.N) := (cfg2.win 9).stage (cfg2.slots t 9)

/-- The kernel body at point `t`, on what the pipeline calls it with (`defs₀`'s row at the slots). -/
abbrev bodyAt2 (t : Fin cfg2.N) : Prog (TpuEff nD τ sig (Elt F) Λ₀ .tc) PUnit :=
  cc2__mlp_body (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9))

end Cert.KernelIdeal.Gen
-- ==== Proof.Base.lean ====
/-
  The set-up the other modules share: the program as the launch theorem sees it, the resource algebra of the proof, and
  names for the buffers of the SparseCore call and for its tiles.

  Everything is stated over any float values `F`, so that the one run proved here gives both the exact-arithmetic
  claim (`F := Ideal`) and the machine program's (`F := Bits`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.WriteMode
public import proofs.«01_k».proof.Proof.Skel
public import proofs.«01_k».proof.Proof.Offs
public import proofs.«01_k».proof.Proof.Pipe

@[expose] public section

noncomputable section

namespace Cert.Proof.Kern

open Cert.KernelIdeal Cert.KernelIdeal.Facts₀ Cert.KernelIdeal.Facts Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K [FloatOps F] : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the write mode and the copies' counters -/

abbrev UH : Type := URounds (GSem nD τ sig) ℕ
abbrev UP : Type := URounds (GSem nD τ sig) Unit
abbrev UW (F : FTy → Type) : Type := WmRA nD τ sig (Elt F)
abbrev UU (F : FTy → Type) : Type := UH × (UP × (UW F × Counters))

/-- The handshakes' rounds, -/
abbrev EH : Emb UH (MT nD τ sig (HIx 2) (Elt F) ℕ (UU F) ℕ) := embL

/-- and the pipelined call's. -/
abbrev EP : Emb UP (MT nD τ sig (HIx 2) (Elt F) ℕ (UU F) ℕ) := (Emb.inl : Emb UP (UP × (UW F × Counters))).trans embR

/-- The write mode's summand. -/
abbrev EW : UEmb (UW F) (UU F) :=
  (UEmb.inl : UEmb (UW F) (UW F × Counters)).trans
    ((UEmb.inr : UEmb (UW F × Counters) (UP × (UW F × Counters))).trans (UEmb.inr : UEmb (UP × (UW F × Counters)) (UU F)))

/-! ## The SparseCore call's buffers, as a tile names them -/

abbrev posV : Memref sig .scVector .hbm S106496 .i32 := Memref.whole main_v8_scv
abbrev pkV : Memref sig .scVector .hbm S650000x128 .f32 := Memref.whole main_v12_scv
abbrev outV : Memref sig .scVector .hbm S26624x128 .f32 := Memref.whole main_v13_scv
abbrev s0V : Memref sig .scVector .vmem S3328 .i32 := Memref.whole cc1_scratch0
abbrev s1V : Memref sig .scVector .vmem S3328 .i32 := Memref.whole cc1_scratch1
abbrev s2V : Memref sig .scVector .vmem S3328 .i32 := Memref.whole cc1_scratch2
abbrev s3V : Memref sig .scVector .vmem S416x128 .f32 := Memref.whole cc1_scratch3
abbrev s4V : Memref sig .scVector .vmem S104x128 .f32 := Memref.whole cc1_scratch4

abbrev cV (L : grid1.Coords) : Fin τ.nSC := (L 0).castLE hcore1
abbrev jV (L : grid1.Coords) : Fin τ.nSub := (L 1).castLE hsub1

/-- The tile of grid point `L` on device `d`. -/
abbrev Tl (d : Dev nD) (L : grid1.Coords) : Thread nD τ := V d (cV L) (jV L)

end Cert.Proof.Kern
-- ==== Proof.SelBody.lean ====
/-
  The selection loop of the lookup kernel. A tile has fetched, for one chunk, 416 rows of the packed table (four
  embeddings of 32 words each to a row) and picks out of every row the one embedding its index asks for. Four chosen
  embeddings are laid side by side in a row of the tile's 104x128 output scratch.

  The kernel repeats this loop once per chunk, and the eight printed bodies differ in one constant. Here the body is
  written once for a chunk number (`selBody`), each printed body is that one by definition (`t2_body_eq` and its
  fellows), and the loop is run once, with what it leaves in the scratch (`selLoop`).
-/
module

public import proofs.«01_k».proof.Proof.Base

@[expose] public section

noncomputable section

namespace Cert.Proof.Kern

open Cert.KernelIdeal Cert.KernelIdeal.Facts₀ Cert.KernelIdeal.Facts Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The body, once -/

/-- One trip of the selection loop at chunk `c`: eight embeddings, each as two halves of sixteen lanes. -/
def selBody (i : grid1.Coords) (c : ℕ) (v4 : IVec S16 32) (t : Fin k1_t2_loop.trips) :
    Prog (TpuEff nD τ sig (Elt F) Λ₀ (.scVector ((i 0).castLE hcore1) ((i 1).castLE hsub1))) Unit := do
  let b : BitVec 32 := Scalar.muli 8#32 (Scf.iv 0#32 1#32 t)
  let p0 : IVec S16 32 := broadcast S16 (Scalar.addi (Scalar.addi b 0#32) (BitVec.ofNat 32 (416 * c)))
  have h0 : k1_chk1 p0 := (← Prog.lift (TpuEff.assume (k1_chk1 p0) (k1_chk1.dec p0))).down
  let p1 : IVec S16 32 := broadcast S16 (Scalar.addi (Scalar.addi b 1#32) (BitVec.ofNat 32 (416 * c)))
  have h1 : k1_chk1 p1 := (← Prog.lift (TpuEff.assume (k1_chk1 p1) (k1_chk1.dec p1))).down
  let p2 : IVec S16 32 := broadcast S16 (Scalar.addi (Scalar.addi b 2#32) (BitVec.ofNat 32 (416 * c)))
  have h2 : k1_chk1 p2 := (← Prog.lift (TpuEff.assume (k1_chk1 p2) (k1_chk1.dec p2))).down
  let p3 : IVec S16 32 := broadcast S16 (Scalar.addi (Scalar.addi b 3#32) (BitVec.ofNat 32 (416 * c)))
  have h3 : k1_chk1 p3 := (← Prog.lift (TpuEff.assume (k1_chk1 p3) (k1_chk1.dec p3))).down
  let p4 : IVec S16 32 := broadcast S16 (Scalar.addi (Scalar.addi b 4#32) (BitVec.ofNat 32 (416 * c)))
  have h4 : k1_chk1 p4 := (← Prog.lift (TpuEff.assume (k1_chk1 p4) (k1_chk1.dec p4))).down
  let p5 : IVec S16 32 := broadcast S16 (Scalar.addi (Scalar.addi b 5#32) (BitVec.ofNat 32 (416 * c)))
  have h5 : k1_chk1 p5 := (← Prog.lift (TpuEff.assume (k1_chk1 p5) (k1_chk1.dec p5))).down
  let p6 : IVec S16 32 := broadcast S16 (Scalar.addi (Scalar.addi b 6#32) (BitVec.ofNat 32 (416 * c)))
  have h6 : k1_chk1 p6 := (← Prog.lift (TpuEff.assume (k1_chk1 p6) (k1_chk1.dec p6))).down
  let p7 : IVec S16 32 := broadcast S16 (Scalar.addi (Scalar.addi b 7#32) (BitVec.ofNat 32 (416 * c)))
  have h7 : k1_chk1 p7 := (← Prog.lift (TpuEff.assume (k1_chk1 p7) (k1_chk1.dec p7))).down
  let o0 : Vec F S16 .i32 ← SparseCore.vectorLoadIdx s2V ![p0] (k1_idx1_inb p0 h0) (View.loads_vmem h_S3328)
  let o1 : Vec F S16 .i32 ← SparseCore.vectorLoadIdx s2V ![p1] (k1_idx1_inb p1 h1) (View.loads_vmem h_S3328)
  let o2 : Vec F S16 .i32 ← SparseCore.vectorLoadIdx s2V ![p2] (k1_idx1_inb p2 h2) (View.loads_vmem h_S3328)
  let o3 : Vec F S16 .i32 ← SparseCore.vectorLoadIdx s2V ![p3] (k1_idx1_inb p3 h3) (View.loads_vmem h_S3328)
  let o4 : Vec F S16 .i32 ← SparseCore.vectorLoadIdx s2V ![p4] (k1_idx1_inb p4 h4) (View.loads_vmem h_S3328)
  let o5 : Vec F S16 .i32 ← SparseCore.vectorLoadIdx s2V ![p5] (k1_idx1_inb p5 h5) (View.loads_vmem h_S3328)
  let o6 : Vec F S16 .i32 ← SparseCore.vectorLoadIdx s2V ![p6] (k1_idx1_inb p6 h6) (View.loads_vmem h_S3328)
  let o7 : Vec F S16 .i32 ← SparseCore.vectorLoadIdx s2V ![p7] (k1_idx1_inb p7 h7) (View.loads_vmem h_S3328)
  let r0 : IVec S16 32 := broadcast S16 (Scalar.addi b 0#32)
  have g0 : k1_chk9 (addi o0 v4) r0 := (← Prog.lift (TpuEff.assume (k1_chk9 (addi o0 v4) r0) (k1_chk9.dec (addi o0 v4) r0))).down
  let r1 : IVec S16 32 := broadcast S16 (Scalar.addi b 1#32)
  have g1 : k1_chk9 (addi o1 v4) r1 := (← Prog.lift (TpuEff.assume (k1_chk9 (addi o1 v4) r1) (k1_chk9.dec (addi o1 v4) r1))).down
  let r2 : IVec S16 32 := broadcast S16 (Scalar.addi b 2#32)
  have g2 : k1_chk9 (addi o2 v4) r2 := (← Prog.lift (TpuEff.assume (k1_chk9 (addi o2 v4) r2) (k1_chk9.dec (addi o2 v4) r2))).down
  let r3 : IVec S16 32 := broadcast S16 (Scalar.addi b 3#32)
  have g3 : k1_chk9 (addi o3 v4) r3 := (← Prog.lift (TpuEff.assume (k1_chk9 (addi o3 v4) r3) (k1_chk9.dec (addi o3 v4) r3))).down
  let r4 : IVec S16 32 := broadcast S16 (Scalar.addi b 4#32)
  have g4 : k1_chk9 (addi o4 v4) r4 := (← Prog.lift (TpuEff.assume (k1_chk9 (addi o4 v4) r4) (k1_chk9.dec (addi o4 v4) r4))).down
  let r5 : IVec S16 32 := broadcast S16 (Scalar.addi b 5#32)
  have g5 : k1_chk9 (addi o5 v4) r5 := (← Prog.lift (TpuEff.assume (k1_chk9 (addi o5 v4) r5) (k1_chk9.dec (addi o5 v4) r5))).down
  let r6 : IVec S16 32 := broadcast S16 (Scalar.addi b 6#32)
  have g6 : k1_chk9 (addi o6 v4) r6 := (← Prog.lift (TpuEff.assume (k1_chk9 (addi o6 v4) r6) (k1_chk9.dec (addi o6 v4) r6))).down
  let r7 : IVec S16 32 := broadcast S16 (Scalar.addi b 7#32)
  have g7 : k1_chk9 (addi o7 v4) r7 := (← Prog.lift (TpuEff.assume (k1_chk9 (addi o7 v4) r7) (k1_chk9.dec (addi o7 v4) r7))).down
  let x0 : Vec F S16 .f32 ← SparseCore.vectorLoadIdx s3V ![r0, addi o0 v4] (k1_idx9_inb (addi o0 v4) r0 g0) (View.loads_vmem h_S416x128)
  let x1 : Vec F S16 .f32 ← SparseCore.vectorLoadIdx s3V ![r1, addi o1 v4] (k1_idx9_inb (addi o1 v4) r1 g1) (View.loads_vmem h_S416x128)
  let x2 : Vec F S16 .f32 ← SparseCore.vectorLoadIdx s3V ![r2, addi o2 v4] (k1_idx9_inb (addi o2 v4) r2 g2) (View.loads_vmem h_S416x128)
  let x3 : Vec F S16 .f32 ← SparseCore.vectorLoadIdx s3V ![r3, addi o3 v4] (k1_idx9_inb (addi o3 v4) r3 g3) (View.loads_vmem h_S416x128)
  let x4 : Vec F S16 .f32 ← SparseCore.vectorLoadIdx s3V ![r4, addi o4 v4] (k1_idx9_inb (addi o4 v4) r4 g4) (View.loads_vmem h_S416x128)
  let x5 : Vec F S16 .f32 ← SparseCore.vectorLoadIdx s3V ![r5, addi o5 v4] (k1_idx9_inb (addi o5 v4) r5 g5) (View.loads_vmem h_S416x128)
  let x6 : Vec F S16 .f32 ← SparseCore.vectorLoadIdx s3V ![r6, addi o6 v4] (k1_idx9_inb (addi o6 v4) r6 g6) (View.loads_vmem h_S416x128)
  let x7 : Vec F S16 .f32 ← SparseCore.vectorLoadIdx s3V ![r7, addi o7 v4] (k1_idx9_inb (addi o7 v4) r7 g7) (View.loads_vmem h_S416x128)
  let u0 : IVec S16 32 := addi (addi o0 v4) (broadcast S16 16#32)
  have k0 : k1_chk17 r0 u0 := (← Prog.lift (TpuEff.assume (k1_chk17 r0 u0) (k1_chk17.dec r0 u0))).down
  let y0 : Vec F S16 .f32 ← SparseCore.vectorLoadIdx s3V ![r0, u0] (k1_idx17_inb r0 u0 k0) (View.loads_vmem h_S416x128)
  let u1 : IVec S16 32 := addi (addi o1 v4) (broadcast S16 16#32)
  have k1 : k1_chk17 r1 u1 := (← Prog.lift (TpuEff.assume (k1_chk17 r1 u1) (k1_chk17.dec r1 u1))).down
  let y1 : Vec F S16 .f32 ← SparseCore.vectorLoadIdx s3V ![r1, u1] (k1_idx17_inb r1 u1 k1) (View.loads_vmem h_S416x128)
  let u2 : IVec S16 32 := addi (addi o2 v4) (broadcast S16 16#32)
  have k2 : k1_chk17 r2 u2 := (← Prog.lift (TpuEff.assume (k1_chk17 r2 u2) (k1_chk17.dec r2 u2))).down
  let y2 : Vec F S16 .f32 ← SparseCore.vectorLoadIdx s3V ![r2, u2] (k1_idx17_inb r2 u2 k2) (View.loads_vmem h_S416x128)
  let u3 : IVec S16 32 := addi (addi o3 v4) (broadcast S16 16#32)
  have k3 : k1_chk17 r3 u3 := (← Prog.lift (TpuEff.assume (k1_chk17 r3 u3) (k1_chk17.dec r3 u3))).down
  let y3 : Vec F S16 .f32 ← SparseCore.vectorLoadIdx s3V ![r3, u3] (k1_idx17_inb r3 u3 k3) (View.loads_vmem h_S416x128)
  let u4 : IVec S16 32 := addi (addi o4 v4) (broadcast S16 16#32)
  have k4 : k1_chk17 r4 u4 := (← Prog.lift (TpuEff.assume (k1_chk17 r4 u4) (k1_chk17.dec r4 u4))).down
  let y4 : Vec F S16 .f32 ← SparseCore.vectorLoadIdx s3V ![r4, u4] (k1_idx17_inb r4 u4 k4) (View.loads_vmem h_S416x128)
  let u5 : IVec S16 32 := addi (addi o5 v4) (broadcast S16 16#32)
  have k5 : k1_chk17 r5 u5 := (← Prog.lift (TpuEff.assume (k1_chk17 r5 u5) (k1_chk17.dec r5 u5))).down
  let y5 : Vec F S16 .f32 ← SparseCore.vectorLoadIdx s3V ![r5, u5] (k1_idx17_inb r5 u5 k5) (View.loads_vmem h_S416x128)
  let u6 : IVec S16 32 := addi (addi o6 v4) (broadcast S16 16#32)
  have k6 : k1_chk17 r6 u6 := (← Prog.lift (TpuEff.assume (k1_chk17 r6 u6) (k1_chk17.dec r6 u6))).down
  let y6 : Vec F S16 .f32 ← SparseCore.vectorLoadIdx s3V ![r6, u6] (k1_idx17_inb r6 u6 k6) (View.loads_vmem h_S416x128)
  let u7 : IVec S16 32 := addi (addi o7 v4) (broadcast S16 16#32)
  have k7 : k1_chk17 r7 u7 := (← Prog.lift (TpuEff.assume (k1_chk17 r7 u7) (k1_chk17.dec r7 u7))).down
  let y7 : Vec F S16 .f32 ← SparseCore.vectorLoadIdx s3V ![r7, u7] (k1_idx17_inb r7 u7 k7) (View.loads_vmem h_S416x128)
  let _ ← Prog.lift (.load s4V (Rect.unit (s := S104x128) (k1_off3 t 0#32) S1x16.size (k1_off3_inb t 0)).toLoadRect (View.loadsAt_vmem h_S1x16))
  Prog.lift (.store s4V (Rect.unit (s := S104x128) (k1_off3 t 0#32) S1x16.size (k1_off3_inb t 0)) (shapeCast S1x16 x0 shapeCasts_S16_S1x16) Finset.univ (View.stores_vmem_bits_univ h_S1x16 rfl) (.inl rfl))
  let _ ← Prog.lift (.load s4V (Rect.unit (s := S104x128) (k1_off4 t 0#32) S1x16.size (k1_off4_inb t 0)).toLoadRect (View.loadsAt_vmem h_S1x16))
  Prog.lift (.store s4V (Rect.unit (s := S104x128) (k1_off4 t 0#32) S1x16.size (k1_off4_inb t 0)) (shapeCast S1x16 y0 shapeCasts_S16_S1x16) Finset.univ (View.stores_vmem_bits_univ h_S1x16 rfl) (.inl rfl))
  let _ ← Prog.lift (.load s4V (Rect.unit (s := S104x128) (k1_off5 t 0#32) S1x16.size (k1_off5_inb t 0)).toLoadRect (View.loadsAt_vmem h_S1x16))
  Prog.lift (.store s4V (Rect.unit (s := S104x128) (k1_off5 t 0#32) S1x16.size (k1_off5_inb t 0)) (shapeCast S1x16 x1 shapeCasts_S16_S1x16) Finset.univ (View.stores_vmem_bits_univ h_S1x16 rfl) (.inl rfl))
  let _ ← Prog.lift (.load s4V (Rect.unit (s := S104x128) (k1_off6 t 0#32) S1x16.size (k1_off6_inb t 0)).toLoadRect (View.loadsAt_vmem h_S1x16))
  Prog.lift (.store s4V (Rect.unit (s := S104x128) (k1_off6 t 0#32) S1x16.size (k1_off6_inb t 0)) (shapeCast S1x16 y1 shapeCasts_S16_S1x16) Finset.univ (View.stores_vmem_bits_univ h_S1x16 rfl) (.inl rfl))
  let _ ← Prog.lift (.load s4V (Rect.unit (s := S104x128) (k1_off7 t 0#32) S1x16.size (k1_off7_inb t 0)).toLoadRect (View.loadsAt_vmem h_S1x16))
  Prog.lift (.store s4V (Rect.unit (s := S104x128) (k1_off7 t 0#32) S1x16.size (k1_off7_inb t 0)) (shapeCast S1x16 x2 shapeCasts_S16_S1x16) Finset.univ (View.stores_vmem_bits_univ h_S1x16 rfl) (.inl rfl))
  let _ ← Prog.lift (.load s4V (Rect.unit (s := S104x128) (k1_off8 t 0#32) S1x16.size (k1_off8_inb t 0)).toLoadRect (View.loadsAt_vmem h_S1x16))
  Prog.lift (.store s4V (Rect.unit (s := S104x128) (k1_off8 t 0#32) S1x16.size (k1_off8_inb t 0)) (shapeCast S1x16 y2 shapeCasts_S16_S1x16) Finset.univ (View.stores_vmem_bits_univ h_S1x16 rfl) (.inl rfl))
  let _ ← Prog.lift (.load s4V (Rect.unit (s := S104x128) (k1_off9 t 0#32) S1x16.size (k1_off9_inb t 0)).toLoadRect (View.loadsAt_vmem h_S1x16))
  Prog.lift (.store s4V (Rect.unit (s := S104x128) (k1_off9 t 0#32) S1x16.size (k1_off9_inb t 0)) (shapeCast S1x16 x3 shapeCasts_S16_S1x16) Finset.univ (View.stores_vmem_bits_univ h_S1x16 rfl) (.inl rfl))
  let _ ← Prog.lift (.load s4V (Rect.unit (s := S104x128) (k1_off10 t 0#32) S1x16.size (k1_off10_inb t 0)).toLoadRect (View.loadsAt_vmem h_S1x16))
  Prog.lift (.store s4V (Rect.unit (s := S104x128) (k1_off10 t 0#32) S1x16.size (k1_off10_inb t 0)) (shapeCast S1x16 y3 shapeCasts_S16_S1x16) Finset.univ (View.stores_vmem_bits_univ h_S1x16 rfl) (.inl rfl))
  let _ ← Prog.lift (.load s4V (Rect.unit (s := S104x128) (k1_off3 t 1#32) S1x16.size (k1_off3_inb t 1)).toLoadRect (View.loadsAt_vmem h_S1x16))
  Prog.lift (.store s4V (Rect.unit (s := S104x128) (k1_off3 t 1#32) S1x16.size (k1_off3_inb t 1)) (shapeCast S1x16 x4 shapeCasts_S16_S1x16) Finset.univ (View.stores_vmem_bits_univ h_S1x16 rfl) (.inl rfl))
  let _ ← Prog.lift (.load s4V (Rect.unit (s := S104x128) (k1_off4 t 1#32) S1x16.size (k1_off4_inb t 1)).toLoadRect (View.loadsAt_vmem h_S1x16))
  Prog.lift (.store s4V (Rect.unit (s := S104x128) (k1_off4 t 1#32) S1x16.size (k1_off4_inb t 1)) (shapeCast S1x16 y4 shapeCasts_S16_S1x16) Finset.univ (View.stores_vmem_bits_univ h_S1x16 rfl) (.inl rfl))
  let _ ← Prog.lift (.load s4V (Rect.unit (s := S104x128) (k1_off5 t 1#32) S1x16.size (k1_off5_inb t 1)).toLoadRect (View.loadsAt_vmem h_S1x16))
  Prog.lift (.store s4V (Rect.unit (s := S104x128) (k1_off5 t 1#32) S1x16.size (k1_off5_inb t 1)) (shapeCast S1x16 x5 shapeCasts_S16_S1x16) Finset.univ (View.stores_vmem_bits_univ h_S1x16 rfl) (.inl rfl))
  let _ ← Prog.lift (.load s4V (Rect.unit (s := S104x128) (k1_off6 t 1#32) S1x16.size (k1_off6_inb t 1)).toLoadRect (View.loadsAt_vmem h_S1x16))
  Prog.lift (.store s4V (Rect.unit (s := S104x128) (k1_off6 t 1#32) S1x16.size (k1_off6_inb t 1)) (shapeCast S1x16 y5 shapeCasts_S16_S1x16) Finset.univ (View.stores_vmem_bits_univ h_S1x16 rfl) (.inl rfl))
  let _ ← Prog.lift (.load s4V (Rect.unit (s := S104x128) (k1_off7 t 1#32) S1x16.size (k1_off7_inb t 1)).toLoadRect (View.loadsAt_vmem h_S1x16))
  Prog.lift (.store s4V (Rect.unit (s := S104x128) (k1_off7 t 1#32) S1x16.size (k1_off7_inb t 1)) (shapeCast S1x16 x6 shapeCasts_S16_S1x16) Finset.univ (View.stores_vmem_bits_univ h_S1x16 rfl) (.inl rfl))
  let _ ← Prog.lift (.load s4V (Rect.unit (s := S104x128) (k1_off8 t 1#32) S1x16.size (k1_off8_inb t 1)).toLoadRect (View.loadsAt_vmem h_S1x16))
  Prog.lift (.store s4V (Rect.unit (s := S104x128) (k1_off8 t 1#32) S1x16.size (k1_off8_inb t 1)) (shapeCast S1x16 y6 shapeCasts_S16_S1x16) Finset.univ (View.stores_vmem_bits_univ h_S1x16 rfl) (.inl rfl))
  let _ ← Prog.lift (.load s4V (Rect.unit (s := S104x128) (k1_off9 t 1#32) S1x16.size (k1_off9_inb t 1)).toLoadRect (View.loadsAt_vmem h_S1x16))
  Prog.lift (.store s4V (Rect.unit (s := S104x128) (k1_off9 t 1#32) S1x16.size (k1_off9_inb t 1)) (shapeCast S1x16 x7 shapeCasts_S16_S1x16) Finset.univ (View.stores_vmem_bits_univ h_S1x16 rfl) (.inl rfl))
  let _ ← Prog.lift (.load s4V (Rect.unit (s := S104x128) (k1_off10 t 1#32) S1x16.size (k1_off10_inb t 1)).toLoadRect (View.loadsAt_vmem h_S1x16))
  Prog.lift (.store s4V (Rect.unit (s := S104x128) (k1_off10 t 1#32) S1x16.size (k1_off10_inb t 1)) (shapeCast S1x16 y7 shapeCasts_S16_S1x16) Finset.univ (View.stores_vmem_bits_univ h_S1x16 rfl) (.inl rfl))
  pure ⟨⟩

set_option maxRecDepth 100000 in
set_option maxHeartbeats 4000000 in
/-- The printed body of chunk 0's selection loop is `selBody` at that chunk. -/
theorem t2_body_eq (i : grid1.Coords) (v4 : IVec S16 32) :
    k1_t2_body (F := F) i posV (Memref.isWhole_whole _) pkV (Memref.isWhole_whole _) outV (Memref.isWhole_whole _) s0V (Memref.isWhole_whole _)
      s1V (Memref.isWhole_whole _) s2V (Memref.isWhole_whole _) s3V (Memref.isWhole_whole _) s4V (Memref.isWhole_whole _) cc1_scratch5
      cc1_scoped0 cc1_scoped1 cc1_scoped2 cc1_scoped3 cc1_scoped4 cc1_scoped5 cc1_scoped6 cc1_scoped7 cc1_scoped8 v4
    = fun t _ => selBody i 0 v4 t := rfl

set_option maxRecDepth 100000 in
set_option maxHeartbeats 4000000 in
/-- The printed body of chunk 1's selection loop is `selBody` at that chunk. -/
theorem t3_body_eq (i : grid1.Coords) (v1 : BitVec 32) (v4 : IVec S16 32) :
    k1_t3_body (F := F) i posV (Memref.isWhole_whole _) pkV (Memref.isWhole_whole _) outV (Memref.isWhole_whole _) s0V (Memref.isWhole_whole _)
      s1V (Memref.isWhole_whole _) s2V (Memref.isWhole_whole _) s3V (Memref.isWhole_whole _) s4V (Memref.isWhole_whole _) cc1_scratch5
      cc1_scoped0 cc1_scoped1 cc1_scoped2 cc1_scoped3 cc1_scoped4 cc1_scoped5 cc1_scoped6 cc1_scoped7 cc1_scoped8 v1 v4
    = fun t _ => selBody i 1 v4 t := rfl

set_option maxRecDepth 100000 in
set_option maxHeartbeats 4000000 in
/-- The printed body of chunk 2's selection loop is `selBody` at that chunk. -/
theorem t4_body_eq (i : grid1.Coords) (v1 : BitVec 32) (v4 : IVec S16 32) :
    k1_t4_body (F := F) i posV (Memref.isWhole_whole _) pkV (Memref.isWhole_whole _) outV (Memref.isWhole_whole _) s0V (Memref.isWhole_whole _)
      s1V (Memref.isWhole_whole _) s2V (Memref.isWhole_whole _) s3V (Memref.isWhole_whole _) s4V (Memref.isWhole_whole _) cc1_scratch5
      cc1_scoped0 cc1_scoped1 cc1_scoped2 cc1_scoped3 cc1_scoped4 cc1_scoped5 cc1_scoped6 cc1_scoped7 cc1_scoped8 v1 v4
    = fun t _ => selBody i 2 v4 t := rfl

set_option maxRecDepth 100000 in
set_option maxHeartbeats 4000000 in
/-- The printed body of chunk 3's selection loop is `selBody` at that chunk. -/
theorem t5_body_eq (i : grid1.Coords) (v1 : BitVec 32) (v4 : IVec S16 32) :
    k1_t5_body (F := F) i posV (Memref.isWhole_whole _) pkV (Memref.isWhole_whole _) outV (Memref.isWhole_whole _) s0V (Memref.isWhole_whole _)
      s1V (Memref.isWhole_whole _) s2V (Memref.isWhole_whole _) s3V (Memref.isWhole_whole _) s4V (Memref.isWhole_whole _) cc1_scratch5
      cc1_scoped0 cc1_scoped1 cc1_scoped2 cc1_scoped3 cc1_scoped4 cc1_scoped5 cc1_scoped6 cc1_scoped7 cc1_scoped8 v1 v4
    = fun t _ => selBody i 3 v4 t := rfl

set_option maxRecDepth 100000 in
set_option maxHeartbeats 4000000 in
/-- The printed body of chunk 4's selection loop is `selBody` at that chunk. -/
theorem t6_body_eq (i : grid1.Coords) (v1 : BitVec 32) (v4 : IVec S16 32) :
    k1_t6_body (F := F) i posV (Memref.isWhole_whole _) pkV (Memref.isWhole_whole _) outV (Memref.isWhole_whole _) s0V (Memref.isWhole_whole _)
      s1V (Memref.isWhole_whole _) s2V (Memref.isWhole_whole _) s3V (Memref.isWhole_whole _) s4V (Memref.isWhole_whole _) cc1_scratch5
      cc1_scoped0 cc1_scoped1 cc1_scoped2 cc1_scoped3 cc1_scoped4 cc1_scoped5 cc1_scoped6 cc1_scoped7 cc1_scoped8 v1 v4
    = fun t _ => selBody i 4 v4 t := rfl

set_option maxRecDepth 100000 in
set_option maxHeartbeats 4000000 in
/-- The printed body of chunk 5's selection loop is `selBody` at that chunk. -/
theorem t7_body_eq (i : grid1.Coords) (v1 : BitVec 32) (v4 : IVec S16 32) :
    k1_t7_body (F := F) i posV (Memref.isWhole_whole _) pkV (Memref.isWhole_whole _) outV (Memref.isWhole_whole _) s0V (Memref.isWhole_whole _)
      s1V (Memref.isWhole_whole _) s2V (Memref.isWhole_whole _) s3V (Memref.isWhole_whole _) s4V (Memref.isWhole_whole _) cc1_scratch5
      cc1_scoped0 cc1_scoped1 cc1_scoped2 cc1_scoped3 cc1_scoped4 cc1_scoped5 cc1_scoped6 cc1_scoped7 cc1_scoped8 v1 v4
    = fun t _ => selBody i 5 v4 t := rfl

set_option maxRecDepth 100000 in
set_option maxHeartbeats 4000000 in
/-- The printed body of chunk 6's selection loop is `selBody` at that chunk. -/
theorem t8_body_eq (i : grid1.Coords) (v1 : BitVec 32) (v4 : IVec S16 32) :
    k1_t8_body (F := F) i posV (Memref.isWhole_whole _) pkV (Memref.isWhole_whole _) outV (Memref.isWhole_whole _) s0V (Memref.isWhole_whole _)
      s1V (Memref.isWhole_whole _) s2V (Memref.isWhole_whole _) s3V (Memref.isWhole_whole _) s4V (Memref.isWhole_whole _) cc1_scratch5
      cc1_scoped0 cc1_scoped1 cc1_scoped2 cc1_scoped3 cc1_scoped4 cc1_scoped5 cc1_scoped6 cc1_scoped7 cc1_scoped8 v1 v4
    = fun t _ => selBody i 6 v4 t := rfl

set_option maxRecDepth 100000 in
set_option maxHeartbeats 4000000 in
/-- The printed body of chunk 7's selection loop is `selBody` at that chunk. -/
theorem t9_body_eq (i : grid1.Coords) (v4 : IVec S16 32) :
    k1_t9_body (F := F) i posV (Memref.isWhole_whole _) pkV (Memref.isWhole_whole _) outV (Memref.isWhole_whole _) s0V (Memref.isWhole_whole _)
      s1V (Memref.isWhole_whole _) s2V (Memref.isWhole_whole _) s3V (Memref.isWhole_whole _) s4V (Memref.isWhole_whole _) cc1_scratch5
      cc1_scoped0 cc1_scoped1 cc1_scoped2 cc1_scoped3 cc1_scoped4 cc1_scoped5 cc1_scoped6 cc1_scoped7 cc1_scoped8 v4
    = fun t _ => selBody i 7 v4 t := rfl

end Cert.Proof.Kern
-- ==== Proof.Sel.lean ====
/-
  The selection loop's run: what each chosen half-embedding holds, and the loop from an unknown scratch to one that holds
  the chunk's 416 embeddings in order (`selLoop`).
-/
module

public import proofs.«01_k».proof.Proof.SelBody
public import Idealize.ShloMosaic.Lib.PointwiseCore

@[expose] public section

noncomputable section

namespace Cert.Proof.Kern

open Cert.KernelIdeal Cert.KernelIdeal.Facts₀ Cert.KernelIdeal.Facts Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ (UU F) ℕ

/-! ## The words a trip computes -/

/-- Entry `n` of a tile's list (taken modulo its length, so that it is defined for every number). -/
abbrev at1 (n : ℕ) : S3328.Idx := fun | 0 => ⟨n % 3328, Nat.mod_lt _ (by decide)⟩

/-- Row `r`, lane `l` of the fetched rows (each modulo its bound). -/
abbrev at2 (r l : ℕ) : S416x128.Idx := fun
  | 0 => ⟨r % 416, Nat.mod_lt _ (by decide)⟩
  | 1 => ⟨l % 128, Nat.mod_lt _ (by decide)⟩

theorem trips_t2 : k1_t2_loop.trips = 52 := by decide +kernel

theorem iv_word {c : ℕ} (hc : c < 8) (t : Fin k1_t2_loop.trips) {j : ℕ} (hj : j < 8) :
    (Scalar.addi (Scalar.addi (Scalar.muli 8#32 (Scf.iv 0#32 1#32 t)) (BitVec.ofNat 32 j)) (BitVec.ofNat 32 (416 * c))).toNat
      = 416 * c + 8 * t.val + j := by
  have ht : t.val < 52 := lt_of_lt_of_eq t.isLt trips_t2
  simp only [Scalar.addi, Scalar.muli, IntOp.addi, IntOp.muli, Scf.iv, BitVec.toNat_add, BitVec.toNat_mul, BitVec.toNat_ofNat]
  omega

theorem row_word (t : Fin k1_t2_loop.trips) {j : ℕ} (hj : j < 8) :
    (Scalar.addi (Scalar.muli 8#32 (Scf.iv 0#32 1#32 t)) (BitVec.ofNat 32 j)).toNat = 8 * t.val + j := by
  have ht : t.val < 52 := lt_of_lt_of_eq t.isLt trips_t2
  simp only [Scalar.addi, Scalar.muli, IntOp.addi, IntOp.muli, Scf.iv, BitVec.toNat_add, BitVec.toNat_mul, BitVec.toNat_ofNat]
  omega

/-- The kernel's lane numbers. -/
abbrev lanes : IVec S16 32 := iota .scVector S16 32 [0] iota_S16_d0_w32_scVector

theorem lanes_apply (x : S16.Idx) : (lanes x).toNat = (x 0).val := by
  have hx : (x 0).val < 16 := (x 0).isLt
  simp only [iota, List.foldl_cons, List.foldl_nil, BitVec.toNat_ofNat]
  show (0 * _ + (x 0).val) % 2 ^ 32 = _
  omega

/-- The lane offset every embedding of the list starts at is one of 0, 32, 64, 96: at most 96. -/
def OffOK (f7 : S3328.Idx → BitVec 32) : Prop := ∀ x, (f7 x).toNat ≤ 96

theorem low_apply {o : IVec S16 32} (ho : ∀ x, (o x).toNat ≤ 96) (x : S16.Idx) : (addi o lanes x).toNat = (o x).toNat + (x 0).val := by
  have hx : (x 0).val < 16 := (x 0).isLt
  have := ho x
  simp only [addi, IntOp.addi, BitVec.toNat_add, lanes_apply]
  omega

theorem high_apply {o : IVec S16 32} (ho : ∀ x, (o x).toNat ≤ 96) (x : S16.Idx) :
    (addi (addi o lanes) (broadcast S16 16#32) x).toNat = (o x).toNat + (x 0).val + 16 := by
  have hx : (x 0).val < 16 := (x 0).isLt
  have := ho x
  have h := low_apply ho x
  show (IntOp.addi (addi o lanes x) 16#32).toNat = _
  simp only [IntOp.addi, BitVec.toNat_add, h, BitVec.toNat_ofNat]
  omega

theorem chk_list {c : ℕ} (hc : c < 8) (t : Fin k1_t2_loop.trips) {j : ℕ} (hj : j < 8) :
    k1_chk1 (broadcast S16 (Scalar.addi (Scalar.addi (Scalar.muli 8#32 (Scf.iv 0#32 1#32 t)) (BitVec.ofNat 32 j)) (BitVec.ofNat 32 (416 * c)))) := by
  intro a x
  have ht : t.val < 52 := lt_of_lt_of_eq t.isLt trips_t2
  obtain rfl : a = 0 := Subsingleton.elim _ _
  show (Scalar.addi _ _).toNat < 3328
  rw [iv_word hc t hj]; omega

theorem chk_low (t : Fin k1_t2_loop.trips) {j : ℕ} (hj : j < 8) {o : IVec S16 32} (ho : ∀ x, (o x).toNat ≤ 96) :
    k1_chk9 (addi o lanes) (broadcast S16 (Scalar.addi (Scalar.muli 8#32 (Scf.iv 0#32 1#32 t)) (BitVec.ofNat 32 j))) := by
  intro a x
  have ht : t.val < 52 := lt_of_lt_of_eq t.isLt trips_t2
  have hx : (x 0).val < 16 := (x 0).isLt
  match a with
  | 0 => show (Scalar.addi _ _).toNat < 416; rw [row_word t hj]; omega
  | 1 => show (addi o lanes x).toNat < 128; rw [low_apply ho]; have := ho x; omega

theorem chk_high (t : Fin k1_t2_loop.trips) {j : ℕ} (hj : j < 8) {o : IVec S16 32} (ho : ∀ x, (o x).toNat ≤ 96) :
    k1_chk17 (broadcast S16 (Scalar.addi (Scalar.muli 8#32 (Scf.iv 0#32 1#32 t)) (BitVec.ofNat 32 j))) (addi (addi o lanes) (broadcast S16 16#32)) := by
  intro a x
  have ht : t.val < 52 := lt_of_lt_of_eq t.isLt trips_t2
  have hx : (x 0).val < 16 := (x 0).isLt
  match a with
  | 0 => show (Scalar.addi _ _).toNat < 416; rw [row_word t hj]; omega
  | 1 => show (addi (addi o lanes) (broadcast S16 16#32) x).toNat < 128; rw [high_apply ho]; have := ho x; omega

/-! ## What a trip picks -/

/-- Row `r`, lane `l` of the output scratch at chunk `c`: word `l % 32` of the embedding of entry `4 r + l / 32` of the
    chunk, which sits in fetched row `4 r + l / 32` from the lane its list entry names. -/
def sel (f7 : S3328.Idx → Elt F .i32) (f8 : S416x128.Idx → Elt F .f32) (c r l : ℕ) : Elt F .f32 :=
  f8 (at2 (4 * r + l / 32) ((f7 (at1 (416 * c + (4 * r + l / 32))) : BitVec 32).toNat + l % 32))

section Values

variable {f7 : S3328.Idx → Elt F .i32} {f8 : S416x128.Idx → Elt F .f32} {c : ℕ} (t : Fin k1_t2_loop.trips)

/-- An entry of the list, loaded to all lanes. -/
theorem list_val (hc : c < 8) {j : ℕ} (hj : j < 8) {idxs : Fin S3328.rank → IVec S16 32} (h : ∀ a x, (idxs a x).toNat < S3328.size a)
    (hi : idxs = ![broadcast S16 (Scalar.addi (Scalar.addi (Scalar.muli 8#32 (Scf.iv 0#32 1#32 t)) (BitVec.ofNat 32 j)) (BitVec.ofNat 32 (416 * c)))])
    (x : S16.Idx) : (loadIdx (F := F) f7 idxs h : Vec F S16 .i32) x = f7 (at1 (416 * c + (8 * t.val + j))) := by
  subst hi
  have ht : t.val < 52 := lt_of_lt_of_eq t.isLt trips_t2
  refine congrArg f7 (funext fun a => Fin.ext ?_)
  obtain rfl : a = 0 := Subsingleton.elim _ _
  show (Scalar.addi _ _).toNat = (416 * c + (8 * t.val + j)) % 3328
  rw [iv_word hc t hj]; omega

theorem list_le (hf : OffOK f7) {idxs : Fin S3328.rank → IVec S16 32} (h : ∀ a x, (idxs a x).toNat < S3328.size a) (x : S16.Idx) :
    ((loadIdx (F := F) f7 idxs h : Vec F S16 .i32) x : BitVec 32).toNat ≤ 96 := hf _

theorem low_val (hf : OffOK f7) {j : ℕ} (hj : j < 8) {o : Vec F S16 .i32} (ho : ∀ x, o x = f7 (at1 (416 * c + (8 * t.val + j))))
    {idxs : Fin S416x128.rank → IVec S16 32} (h : ∀ a x, (idxs a x).toNat < S416x128.size a)
    (hi : idxs = ![broadcast S16 (Scalar.addi (Scalar.muli 8#32 (Scf.iv 0#32 1#32 t)) (BitVec.ofNat 32 j)), addi o lanes]) (x : S16.Idx) :
    (loadIdx (F := F) f8 idxs h : Vec F S16 .f32) x = sel f7 f8 c (2 * t.val + j / 4) (32 * (j % 4) + (x 0).val) := by
  subst hi
  have ht : t.val < 52 := lt_of_lt_of_eq t.isLt trips_t2
  have hx : (x 0).val < 16 := (x 0).isLt
  have ho' : ∀ x, (o x : BitVec 32).toNat ≤ 96 := fun x => by rw [ho]; exact hf _
  have e1 : 4 * (2 * t.val + j / 4) + (32 * (j % 4) + (x 0).val) / 32 = 8 * t.val + j := by omega
  have e2 : (32 * (j % 4) + (x 0).val) % 32 = (x 0).val := by omega
  unfold sel
  rw [e1, e2]
  refine congrArg f8 (funext fun a => Fin.ext ?_)
  match a with
  | 0 => show (Scalar.addi _ _).toNat = (8 * t.val + j) % 416; rw [row_word t hj]; omega
  | 1 =>
    show (addi o lanes x).toNat = ((f7 (at1 (416 * c + (8 * t.val + j))) : BitVec 32).toNat + (x 0).val) % 128
    have h1 := ho' x
    rw [low_apply ho', ho]
    rw [ho] at h1
    omega

theorem high_val (hf : OffOK f7) {j : ℕ} (hj : j < 8) {o : Vec F S16 .i32} (ho : ∀ x, o x = f7 (at1 (416 * c + (8 * t.val + j))))
    {idxs : Fin S416x128.rank → IVec S16 32} (h : ∀ a x, (idxs a x).toNat < S416x128.size a)
    (hi : idxs = ![broadcast S16 (Scalar.addi (Scalar.muli 8#32 (Scf.iv 0#32 1#32 t)) (BitVec.ofNat 32 j)), addi (addi o lanes) (broadcast S16 16#32)])
    (x : S16.Idx) :
    (loadIdx (F := F) f8 idxs h : Vec F S16 .f32) x = sel f7 f8 c (2 * t.val + j / 4) (32 * (j % 4) + 16 + (x 0).val) := by
  subst hi
  have ht : t.val < 52 := lt_of_lt_of_eq t.isLt trips_t2
  have hx : (x 0).val < 16 := (x 0).isLt
  have ho' : ∀ x, (o x : BitVec 32).toNat ≤ 96 := fun x => by rw [ho]; exact hf _
  have e1 : 4 * (2 * t.val + j / 4) + (32 * (j % 4) + 16 + (x 0).val) / 32 = 8 * t.val + j := by omega
  have e2 : (32 * (j % 4) + 16 + (x 0).val) % 32 = (x 0).val + 16 := by omega
  unfold sel
  rw [e1, e2]
  refine congrArg f8 (funext fun a => Fin.ext ?_)
  match a with
  | 0 => show (Scalar.addi _ _).toNat = (8 * t.val + j) % 416; rw [row_word t hj]; omega
  | 1 =>
    show (addi (addi o lanes) (broadcast S16 16#32) x).toNat = ((f7 (at1 (416 * c + (8 * t.val + j))) : BitVec 32).toNat + ((x 0).val + 16)) % 128
    have h1 := ho' x
    rw [high_apply ho', ho]
    rw [ho] at h1
    omega

end Values

/-! ## The state between a trip's accesses -/

variable (d : Dev nD) (L : grid1.Coords)

/-- The first `n` groups of sixteen lanes, in row-major order, hold what the chunk's selection puts there. -/
def Good (f7 : S3328.Idx → Elt F .i32) (f8 : S416x128.Idx → Elt F .f32) (c n : ℕ) (g : S104x128.Idx → Elt F .f32) : Prop :=
  ∀ i : S104x128.Idx, (i 0).val * 8 + (i 1).val / 16 < n → g i = sel f7 f8 c (i 0).val (i 1).val

/-- The list, the fetched rows, and the output scratch with its first `n` groups written. -/
def St (f7 : S3328.Idx → Elt F .i32) (f8 : S416x128.Idx → Elt F .f32) (c n : ℕ) : sProp 𝕄 :=
  iprop(((Tl d L).loc cc1_scratch2 ↦{fullShare} f7) ∗ ((Tl d L).loc cc1_scratch3 ↦{fullShare} f8)
    ∗ ∃ g, ⌜Good f7 f8 c n g⌝ ∗ ((Tl d L).loc cc1_scratch4 ↦{fullShare} g))

variable [FloatOps F] {d L}

abbrev WP {α : Type} (d : Dev nD) (L : grid1.Coords) (p : Prog (TpuEff nD τ sig (Elt F) Λ₀ (Tl d L).2) α) (Q : α → sProp 𝕄) : sProp 𝕄 :=
  wp frame (wpE (defs₀ (F := F)) 𝒱₀ (Tl d L) none) Set.univ p Q

section Steps

variable {f7 : S3328.Idx → Elt F .i32} {f8 : S416x128.Idx → Elt F .f32} {c n : ℕ}

theorem step_assume {Q : Unit → sProp 𝕄} {A : sProp 𝕄} {P : Prop} {dec : Decidable P} {k : PLift P → Prog (TpuEff nD τ sig (Elt F) Λ₀ (Tl d L).2) Unit} (hP : P)
    (hk : A ⊢ WP d L (k ⟨hP⟩) Q) : A ⊢ WP d L (Prog.lift (TpuEff.assume P dec) >>= k) Q :=
  hk.trans (wp_assume 𝒱₀ (Tl d L) none Set.univ hP)

theorem step_list {Q : Unit → sProp 𝕄} {idxs : Fin S3328.rank → IVec S16 32} {h : ∀ a x, (idxs a x).toNat < S3328.size a} {hl}
    {k : Vec F S16 .i32 → Prog (TpuEff nD τ sig (Elt F) Λ₀ (Tl d L).2) Unit}
    (hk : St d L f7 f8 c n ⊢ WP d L (k (loadIdx f7 idxs h)) Q) :
    St d L f7 f8 c n ⊢ WP d L (SparseCore.vectorLoadIdx s2V idxs h hl >>= k) Q := by
  have hk' : _ ⊢ _ := hk
  unfold St at hk' ⊢
  iintro ⟨H7, H8, Hg⟩
  iapply (SparseCore.wp_vectorLoadIdx 𝒱₀ (Tl d L) none Set.univ (base := s2V) (S := Finset.univ) (q := fullShare) (f := f7)
    (Finset.subset_univ _)) $$ H7
  rw [show (s2V.access (Rect.whole S3328)).read (Elt F) f7 = f7 from Memref.read_access_whole _ _ _]
  iintro H7
  iapply hk'
  iframe

theorem step_rows {Q : Unit → sProp 𝕄} {idxs : Fin S416x128.rank → IVec S16 32} {h : ∀ a x, (idxs a x).toNat < S416x128.size a} {hl}
    {k : Vec F S16 .f32 → Prog (TpuEff nD τ sig (Elt F) Λ₀ (Tl d L).2) Unit}
    (hk : St d L f7 f8 c n ⊢ WP d L (k (loadIdx f8 idxs h)) Q) :
    St d L f7 f8 c n ⊢ WP d L (SparseCore.vectorLoadIdx s3V idxs h hl >>= k) Q := by
  have hk' : _ ⊢ _ := hk
  unfold St at hk' ⊢
  iintro ⟨H7, H8, Hg⟩
  iapply (SparseCore.wp_vectorLoadIdx 𝒱₀ (Tl d L) none Set.univ (base := s3V) (S := Finset.univ) (q := fullShare) (f := f8)
    (Finset.subset_univ _)) $$ H8
  rw [show (s3V.access (Rect.whole S416x128)).read (Elt F) f8 = f8 from Memref.read_access_whole _ _ _]
  iintro H8
  iapply hk'
  iframe

/-- A register of sixteen lanes, stored as a row. -/
theorem row_cast (v : Vec F S16 .f32) (k : Fin 16) : shapeCast S1x16 v shapeCasts_S16_S1x16 (ix2 0 k) = v (ix1 k) := by
  pointwise

/-- One group more is written: the group at row `r`, lanes from `16 u`. -/
theorem good_write {r u : ℕ} (hu : u < 8) (hn : n = 8 * r + u) {off : Fin 2 → ℕ} (ho : off = ![r, 16 * u])
    {inb : ∀ a, off a + S1x16.size a ≤ S104x128.size a} {v : Vec F S16 .f32} (hv : ∀ x, v x = sel f7 f8 c r (16 * u + (x 0).val))
    {g : S104x128.Idx → Elt F .f32} (hg : Good f7 f8 c n g) :
    Good f7 f8 c (n + 1) ((s4V.access (Rect.unit (s := S104x128) off S1x16.size inb)).write (Elt F) g (shapeCast S1x16 v shapeCasts_S16_S1x16) Finset.univ) := by
  subst ho hn
  intro i hi
  have hi1 : (i 1).val < 128 := (i 1).isLt
  by_cases hr : (i 0).val = r ∧ (i 1).val / 16 = u
  · have hx : i = (s4V.access (Rect.unit (s := S104x128) ![r, 16 * u] S1x16.size inb)).emb
        (ix2 0 ⟨(i 1).val % 16, Nat.mod_lt _ (by decide)⟩ : S1x16.Idx) := by
      funext a; apply Fin.ext
      match a with
      | 0 => show (i 0).val = r + 1 * 0; omega
      | 1 => show (i 1).val = 16 * u + 1 * ((i 1).val % 16); omega
    conv_lhs => rw [hx]
    rw [View.write_emb_of_mem _ _ (Finset.mem_univ _)]
    refine (row_cast v _).trans ((hv _).trans ?_)
    rw [hr.1]
    congr 1
    show 16 * u + (i 1).val % 16 = (i 1).val
    omega
  · rw [View.write_of_not_mem]
    · exact hg i (by omega)
    · intro hm
      obtain ⟨x, -, hx⟩ := Finset.mem_map.mp hm
      have h0 : (i 0).val = r + 1 * (x 0).val := by rw [← hx]; rfl
      have h1 : (i 1).val = 16 * u + 1 * (x 1).val := by rw [← hx]; rfl
      have hx0 : (x 0).val < 1 := (x 0).isLt
      have hx1 : (x 1).val < 16 := (x 1).isLt
      exact hr ⟨by omega, by omega⟩

theorem step_put {Q : Unit → sProp 𝕄} {r u : ℕ} (hu : u < 8) (hn : n = 8 * r + u) {off : Fin 2 → ℕ} (ho : off = ![r, 16 * u])
    {inb : ∀ a, off a + S1x16.size a ≤ S104x128.size a} {v : Vec F S16 .f32} (hv : ∀ x, v x = sel f7 f8 c r (16 * u + (x 0).val))
    {hl} {hs} {hm} {k : Unit → Prog (TpuEff nD τ sig (Elt F) Λ₀ (Tl d L).2) Unit}
    (hk : St d L f7 f8 c (n + 1) ⊢ WP d L (k ⟨⟩) Q) :
    St d L f7 f8 c n ⊢ WP d L (Prog.lift (.load s4V (Rect.unit (s := S104x128) off S1x16.size inb).toLoadRect hl) >>= fun _ =>
      Prog.lift (.store s4V (Rect.unit (s := S104x128) off S1x16.size inb) (shapeCast S1x16 v shapeCasts_S16_S1x16) Finset.univ hs hm) >>= k) Q := by
  have hk' : _ ⊢ _ := hk
  unfold St at hk' ⊢
  simp only [Prog.lift, Prog.bind_op, Prog.bind_ret]
  iintro ⟨H7, H8, ⟨%g, %hg, Hg⟩⟩
  iapply (wp_load (defs := defs₀ (F := F)) 𝒱₀ (Tl d L) none Set.univ (m := s4V) (S := Finset.univ) (q := fullShare) (f := g) (Finset.subset_univ _)) $$ Hg
  iintro Hg
  iapply (wp_store (defs := defs₀ (F := F)) 𝒱₀ (Tl d L) none Set.univ (m := s4V)
    (r := Rect.unit (s := S104x128) off S1x16.size inb) (w := shapeCast S1x16 v shapeCasts_S16_S1x16) (Mk := Finset.univ) (S := Finset.univ) (f := g) (Finset.subset_univ _)) $$ Hg
  iintro Hg
  iapply hk'
  iframe
  iexists ((s4V.access (Rect.unit (s := S104x128) off S1x16.size inb)).write (Elt F) g (shapeCast S1x16 v shapeCasts_S16_S1x16) Finset.univ)
  isplitr [Hg]
  · ipureintro
    exact good_write (inb := inb) hu hn ho hv hg
  · iexact Hg

end Steps

set_option maxHeartbeats 4000000 in
/-- A trip writes the sixteen groups of its two rows. -/
theorem selTrip {f7 : S3328.Idx → Elt F .i32} {f8 : S416x128.Idx → Elt F .f32} (hf : OffOK f7) {c : ℕ} (hc : c < 8) (t : Fin k1_t2_loop.trips) :
    St d L f7 f8 c (16 * t.val) ⊢ WP d L (selBody (F := F) L c lanes t) fun _ => St d L f7 f8 c (16 * (t.val + 1)) := by
  unfold selBody
  dsimp only
  refine step_assume (F := F) (d := d) (L := L) (chk_list hc t (j := 0) (by decide)) ?_
  refine step_assume (F := F) (d := d) (L := L) (chk_list hc t (j := 1) (by decide)) ?_
  refine step_assume (F := F) (d := d) (L := L) (chk_list hc t (j := 2) (by decide)) ?_
  refine step_assume (F := F) (d := d) (L := L) (chk_list hc t (j := 3) (by decide)) ?_
  refine step_assume (F := F) (d := d) (L := L) (chk_list hc t (j := 4) (by decide)) ?_
  refine step_assume (F := F) (d := d) (L := L) (chk_list hc t (j := 5) (by decide)) ?_
  refine step_assume (F := F) (d := d) (L := L) (chk_list hc t (j := 6) (by decide)) ?_
  refine step_assume (F := F) (d := d) (L := L) (chk_list hc t (j := 7) (by decide)) ?_
  refine step_list ?_
  refine step_list ?_
  refine step_list ?_
  refine step_list ?_
  refine step_list ?_
  refine step_list ?_
  refine step_list ?_
  refine step_list ?_
  refine step_assume (F := F) (d := d) (L := L) (chk_low t (j := 0) (by decide) (list_le hf _)) ?_
  refine step_assume (F := F) (d := d) (L := L) (chk_low t (j := 1) (by decide) (list_le hf _)) ?_
  refine step_assume (F := F) (d := d) (L := L) (chk_low t (j := 2) (by decide) (list_le hf _)) ?_
  refine step_assume (F := F) (d := d) (L := L) (chk_low t (j := 3) (by decide) (list_le hf _)) ?_
  refine step_assume (F := F) (d := d) (L := L) (chk_low t (j := 4) (by decide) (list_le hf _)) ?_
  refine step_assume (F := F) (d := d) (L := L) (chk_low t (j := 5) (by decide) (list_le hf _)) ?_
  refine step_assume (F := F) (d := d) (L := L) (chk_low t (j := 6) (by decide) (list_le hf _)) ?_
  refine step_assume (F := F) (d := d) (L := L) (chk_low t (j := 7) (by decide) (list_le hf _)) ?_
  refine step_rows ?_
  refine step_rows ?_
  refine step_rows ?_
  refine step_rows ?_
  refine step_rows ?_
  refine step_rows ?_
  refine step_rows ?_
  refine step_rows ?_
  refine step_assume (F := F) (d := d) (L := L) (chk_high t (j := 0) (by decide) (list_le hf _)) ?_
  refine step_rows ?_
  refine step_assume (F := F) (d := d) (L := L) (chk_high t (j := 1) (by decide) (list_le hf _)) ?_
  refine step_rows ?_
  refine step_assume (F := F) (d := d) (L := L) (chk_high t (j := 2) (by decide) (list_le hf _)) ?_
  refine step_rows ?_
  refine step_assume (F := F) (d := d) (L := L) (chk_high t (j := 3) (by decide) (list_le hf _)) ?_
  refine step_rows ?_
  refine step_assume (F := F) (d := d) (L := L) (chk_high t (j := 4) (by decide) (list_le hf _)) ?_
  refine step_rows ?_
  refine step_assume (F := F) (d := d) (L := L) (chk_high t (j := 5) (by decide) (list_le hf _)) ?_
  refine step_rows ?_
  refine step_assume (F := F) (d := d) (L := L) (chk_high t (j := 6) (by decide) (list_le hf _)) ?_
  refine step_rows ?_
  refine step_assume (F := F) (d := d) (L := L) (chk_high t (j := 7) (by decide) (list_le hf _)) ?_
  refine step_rows ?_
  refine step_put (r := 2 * t.val + 0) (u := 0) (by decide) (by omega) (k1_off3_eq t 0) (low_val t hf (j := 0) (by decide) (list_val t hc (by decide) _ rfl) _ rfl) ?_
  refine step_put (r := 2 * t.val + 0) (u := 1) (by decide) (by omega) (k1_off4_eq t 0) (high_val t hf (j := 0) (by decide) (list_val t hc (by decide) _ rfl) _ rfl) ?_
  refine step_put (r := 2 * t.val + 0) (u := 2) (by decide) (by omega) (k1_off5_eq t 0) (low_val t hf (j := 1) (by decide) (list_val t hc (by decide) _ rfl) _ rfl) ?_
  refine step_put (r := 2 * t.val + 0) (u := 3) (by decide) (by omega) (k1_off6_eq t 0) (high_val t hf (j := 1) (by decide) (list_val t hc (by decide) _ rfl) _ rfl) ?_
  refine step_put (r := 2 * t.val + 0) (u := 4) (by decide) (by omega) (k1_off7_eq t 0) (low_val t hf (j := 2) (by decide) (list_val t hc (by decide) _ rfl) _ rfl) ?_
  refine step_put (r := 2 * t.val + 0) (u := 5) (by decide) (by omega) (k1_off8_eq t 0) (high_val t hf (j := 2) (by decide) (list_val t hc (by decide) _ rfl) _ rfl) ?_
  refine step_put (r := 2 * t.val + 0) (u := 6) (by decide) (by omega) (k1_off9_eq t 0) (low_val t hf (j := 3) (by decide) (list_val t hc (by decide) _ rfl) _ rfl) ?_
  refine step_put (r := 2 * t.val + 0) (u := 7) (by decide) (by omega) (k1_off10_eq t 0) (high_val t hf (j := 3) (by decide) (list_val t hc (by decide) _ rfl) _ rfl) ?_
  refine step_put (r := 2 * t.val + 1) (u := 0) (by decide) (by omega) (k1_off3_eq t 1) (low_val t hf (j := 4) (by decide) (list_val t hc (by decide) _ rfl) _ rfl) ?_
  refine step_put (r := 2 * t.val + 1) (u := 1) (by decide) (by omega) (k1_off4_eq t 1) (high_val t hf (j := 4) (by decide) (list_val t hc (by decide) _ rfl) _ rfl) ?_
  refine step_put (r := 2 * t.val + 1) (u := 2) (by decide) (by omega) (k1_off5_eq t 1) (low_val t hf (j := 5) (by decide) (list_val t hc (by decide) _ rfl) _ rfl) ?_
  refine step_put (r := 2 * t.val + 1) (u := 3) (by decide) (by omega) (k1_off6_eq t 1) (high_val t hf (j := 5) (by decide) (list_val t hc (by decide) _ rfl) _ rfl) ?_
  refine step_put (r := 2 * t.val + 1) (u := 4) (by decide) (by omega) (k1_off7_eq t 1) (low_val t hf (j := 6) (by decide) (list_val t hc (by decide) _ rfl) _ rfl) ?_
  refine step_put (r := 2 * t.val + 1) (u := 5) (by decide) (by omega) (k1_off8_eq t 1) (high_val t hf (j := 6) (by decide) (list_val t hc (by decide) _ rfl) _ rfl) ?_
  refine step_put (r := 2 * t.val + 1) (u := 6) (by decide) (by omega) (k1_off9_eq t 1) (low_val t hf (j := 7) (by decide) (list_val t hc (by decide) _ rfl) _ rfl) ?_
  refine step_put (r := 2 * t.val + 1) (u := 7) (by decide) (by omega) (k1_off10_eq t 1) (high_val t hf (j := 7) (by decide) (list_val t hc (by decide) _ rfl) _ rfl) ?_
  rw [show 16 * t.val + 1 + 1 + 1 + 1 + 1 + 1 + 1 + 1 + 1 + 1 + 1 + 1 + 1 + 1 + 1 + 1 = 16 * (t.val + 1) from by omega, Prog.pure_eq_ret, WP, wp_ret]
  exact BI.fupd_intro

/-- The whole loop: from the list and the fetched rows, and the output scratch at any contents, to the scratch holding the
    chunk's embeddings. -/
theorem selLoop {f7 : S3328.Idx → Elt F .i32} {f8 : S416x128.Idx → Elt F .f32} (hf : OffOK f7) {c : ℕ} (hc : c < 8) {α : Type}
    {k : Unit → Prog (TpuEff nD τ sig (Elt F) Λ₀ (Tl d L).2) α} {Q : α → sProp 𝕄} {R : sProp 𝕄}
    (hk : iprop(((Tl d L).loc cc1_scratch2 ↦{fullShare} f7) ∗ ((Tl d L).loc cc1_scratch3 ↦{fullShare} f8)
        ∗ ((Tl d L).loc cc1_scratch4 ↦{fullShare} (fun i => sel f7 f8 c (i 0).val (i 1).val)) ∗ R) ⊢ WP d L (k ⟨⟩) Q) :
    iprop(((Tl d L).loc cc1_scratch2 ↦{fullShare} f7) ∗ ((Tl d L).loc cc1_scratch3 ↦{fullShare} f8)
        ∗ (∃ g, (Tl d L).loc cc1_scratch4 ↦{fullShare} g) ∗ R)
      ⊢ WP d L (Scf.Loop.for k1_t2_loop k1_t2_ok ⟨⟩ (fun t _ => selBody (F := F) L c lanes t) >>= k) Q := by
  have hloop := Scf.wp_for_bind (Fr := frame) (wpE := wpE (defs₀ (F := F)) 𝒱₀ (Tl d L) none) (Es := Set.univ) k1_t2_loop.lb k1_t2_loop.ub k1_t2_loop.st k1_t2_ok ⟨⟩
    (fun t (_ : Unit) => selBody (F := F) L c lanes t) (fun n _ => St d L f7 f8 c (16 * n)) (fun t _ => selTrip hf hc t) (kk := k) (Q := Q)
  iintro ⟨H7, H8, ⟨%g, Hg⟩, HR⟩
  iapply hloop $$ [H7 H8 Hg]
  · unfold St
    iframe
    iexists g
    isplitr [Hg]
    · ipureintro; intro i hi; omega
    · iexact Hg
  · iintro %_u HS
    unfold St
    icases HS with ⟨H7, H8, ⟨%g', %hg', Hg⟩⟩
    iapply hk
    iframe
    have e : g' = fun i => sel f7 f8 c (i 0).val (i 1).val := funext fun i => hg' i (by
      have h0 : (i 0).val < 104 := (i 0).isLt
      have h1 : (i 1).val < 128 := (i 1).isLt
      show _ < 16 * k1_t2_loop.trips
      rw [trips_t2]; omega)
    subst e
    iexact Hg

end Cert.Proof.Kern
-- ==== Proof.Split.lean ====
/-
  The first loop of a tile: each position of its list is split into the number of the packed row that holds its embedding
  and the lane where the embedding starts in that row (`splitLoop`).
-/
module

public import proofs.«01_k».proof.Proof.Sel
public import Idealize.ShloMosaic.Lib.PointwiseCore

@[expose] public section

noncomputable section

namespace Cert.Proof.Kern

open Cert.KernelIdeal Cert.KernelIdeal.Facts₀ Cert.KernelIdeal.Facts Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ (UU F) ℕ

/-- The packed row of a position. -/
def rowW (w : BitVec 32) : BitVec 32 := w >>> 2
/-- The lane a position's embedding starts at. -/
def laneW (w : BitVec 32) : BitVec 32 := (w &&& 3#32) <<< 5

theorem rowW_toNat (w : BitVec 32) : (rowW w).toNat = w.toNat / 4 := by
  simp only [rowW, BitVec.toNat_ushiftRight, Nat.shiftRight_eq_div_pow]

theorem laneW_toNat (w : BitVec 32) : (laneW w).toNat = 32 * (w.toNat % 4) := by
  have h : w.toNat &&& 3 = w.toNat % 4 := Nat.and_two_pow_sub_one_eq_mod w.toNat 2
  simp only [laneW, BitVec.toNat_shiftLeft, BitVec.toNat_and, BitVec.toNat_ofNat, Nat.shiftLeft_eq]
  rw [show (3 % 2 ^ 32 : ℕ) = 3 from rfl, h]
  omega

theorem trips_t1 : k1_t1_loop.trips = 208 := by decide +kernel

theorem pay73_apply (v : Vec F S16 .i32) (x : S16.Idx) : k1_pay73 v x = rowW (v x) := by
  show IntOp.shrui .vector (v x) 2#32 = _
  unfold IntOp.shrui rowW
  rw [if_pos (by decide)]; rfl

theorem pay74_apply (v : Vec F S16 .i32) (x : S16.Idx) : k1_pay74 v x = laneW (v x) := by
  show IntOp.shli .vector (IntOp.andi (v x) 3#32) 5#32 = _
  unfold IntOp.shli IntOp.andi laneW
  rw [if_pos (by decide)]; rfl

variable (d : Dev nD) (L : grid1.Coords)

/-- The first `n` entries of a list hold what `g` makes of the positions there. -/
def Done (p : S3328.Idx → Elt F .i32) (g : BitVec 32 → BitVec 32) (n : ℕ) (f : S3328.Idx → Elt F .i32) : Prop :=
  ∀ i : S3328.Idx, (i 0).val < n → f i = g (p i)

/-- The positions, and the two lists with their first `n` entries made. -/
def Sp (p : S3328.Idx → Elt F .i32) (n : ℕ) : sProp 𝕄 :=
  iprop(((Tl d L).loc cc1_scratch0 ↦{fullShare} p)
    ∗ (∃ f, ⌜Done p rowW n f⌝ ∗ ((Tl d L).loc cc1_scratch1 ↦{fullShare} f))
    ∗ ∃ f, ⌜Done p laneW n f⌝ ∗ ((Tl d L).loc cc1_scratch2 ↦{fullShare} f))

variable [FloatOps F] {d L}

/-- Sixteen entries more. -/
theorem done_write1 {p : S3328.Idx → Elt F .i32} (t : Fin k1_t1_loop.trips) {w : Vec F S16 .i32}
    (hw : ∀ x, w x = rowW ((s0V.access (Rect.unit (s := S3328) (k1_off2 t) S16.size (k1_off2_inb t))).read (Elt F) p x))
    {f : S3328.Idx → Elt F .i32} (hf : Done p rowW (16 * t.val) f) :
    Done p rowW (16 * (t.val + 1)) ((s1V.access (Rect.unit (s := S3328) (k1_off2 t) S16.size (k1_off2_inb t))).write (Elt F) f w Finset.univ) := by
  intro i hi
  have ho : k1_off2 t 0 = 16 * t.val := by rw [k1_off2_eq]; rfl
  by_cases hr : (i 0).val < 16 * t.val
  · rw [View.write_of_not_mem]
    · exact hf i hr
    · intro hm
      obtain ⟨x, -, hx⟩ := Finset.mem_map.mp hm
      have h0 : (i 0).val = k1_off2 t 0 + 1 * (x 0).val := by rw [← hx]; rfl
      omega
  · have hx : i = (s1V.access (Rect.unit (s := S3328) (k1_off2 t) S16.size (k1_off2_inb t))).emb (ix1 ⟨(i 0).val - 16 * t.val, by omega⟩ : S16.Idx) := by
      funext a; apply Fin.ext
      obtain rfl : a = 0 := Subsingleton.elim _ _
      show (i 0).val = k1_off2 t 0 + 1 * ((i 0).val - 16 * t.val); omega
    conv_lhs => rw [hx]
    rw [View.write_emb_of_mem _ _ (Finset.mem_univ _), hw]
    conv_rhs => rw [hx]
    rfl

theorem done_write2 {p : S3328.Idx → Elt F .i32} (t : Fin k1_t1_loop.trips) {w : Vec F S16 .i32}
    (hw : ∀ x, w x = laneW ((s0V.access (Rect.unit (s := S3328) (k1_off2 t) S16.size (k1_off2_inb t))).read (Elt F) p x))
    {f : S3328.Idx → Elt F .i32} (hf : Done p laneW (16 * t.val) f) :
    Done p laneW (16 * (t.val + 1)) ((s2V.access (Rect.unit (s := S3328) (k1_off2 t) S16.size (k1_off2_inb t))).write (Elt F) f w Finset.univ) := by
  intro i hi
  have ho : k1_off2 t 0 = 16 * t.val := by rw [k1_off2_eq]; rfl
  by_cases hr : (i 0).val < 16 * t.val
  · rw [View.write_of_not_mem]
    · exact hf i hr
    · intro hm
      obtain ⟨x, -, hx⟩ := Finset.mem_map.mp hm
      have h0 : (i 0).val = k1_off2 t 0 + 1 * (x 0).val := by rw [← hx]; rfl
      omega
  · have hx : i = (s2V.access (Rect.unit (s := S3328) (k1_off2 t) S16.size (k1_off2_inb t))).emb (ix1 ⟨(i 0).val - 16 * t.val, by omega⟩ : S16.Idx) := by
      funext a; apply Fin.ext
      obtain rfl : a = 0 := Subsingleton.elim _ _
      show (i 0).val = k1_off2 t 0 + 1 * ((i 0).val - 16 * t.val); omega
    conv_lhs => rw [hx]
    rw [View.write_emb_of_mem _ _ (Finset.mem_univ _), hw]
    conv_rhs => rw [hx]
    rfl

/-- The loop's body over the call's own buffers. -/
def splitBody (t : Fin k1_t1_loop.trips) : Prog (TpuEff nD τ sig (Elt F) Λ₀ (Tl d L).2) Unit := do
  let v ← Prog.lift (.load s0V (Rect.unit (s := S3328) (k1_off2 t) S16.size (k1_off2_inb t)).toLoadRect (View.loadsAt_vmem h_S16))
  let _ ← Prog.lift (.load s1V (Rect.unit (s := S3328) (k1_off2 t) S16.size (k1_off2_inb t)).toLoadRect (View.loadsAt_vmem h_S16))
  Prog.lift (.store s1V (Rect.unit (s := S3328) (k1_off2 t) S16.size (k1_off2_inb t)) (k1_pay73 v) Finset.univ (View.stores_vmem_bits_univ h_S16 rfl) (.inl rfl))
  let _ ← Prog.lift (.load s2V (Rect.unit (s := S3328) (k1_off2 t) S16.size (k1_off2_inb t)).toLoadRect (View.loadsAt_vmem h_S16))
  Prog.lift (.store s2V (Rect.unit (s := S3328) (k1_off2 t) S16.size (k1_off2_inb t)) (k1_pay74 v) Finset.univ (View.stores_vmem_bits_univ h_S16 rfl) (.inl rfl))
  pure ⟨⟩

theorem t1_body_eq {q5 q0 q1 q2 q3 q4 q6 q7 q8} : k1_t1_body (F := F) L posV (Memref.isWhole_whole _) pkV (Memref.isWhole_whole _) outV (Memref.isWhole_whole _)
    s0V (Memref.isWhole_whole _) s1V (Memref.isWhole_whole _) s2V (Memref.isWhole_whole _) s3V (Memref.isWhole_whole _) s4V (Memref.isWhole_whole _)
    cc1_scratch5 q0 q1 q2 q3 q4 q5 q6 q7 q8 = fun t _ => splitBody (F := F) (d := d) (L := L) t := rfl

theorem splitTrip {p : S3328.Idx → Elt F .i32} (t : Fin k1_t1_loop.trips) :
    Sp d L p (16 * t.val) ⊢ WP d L (splitBody (F := F) (d := d) (L := L) t) fun _ => Sp d L p (16 * (t.val + 1)) := by
  unfold Sp splitBody
  simp only [Prog.lift, Prog.bind_op, Prog.bind_ret]
  iintro ⟨H0, ⟨%f1, %h1, H1⟩, ⟨%f2, %h2, H2⟩⟩
  iapply (wp_load (defs := defs₀ (F := F)) 𝒱₀ (Tl d L) none Set.univ (m := s0V) (S := Finset.univ) (q := fullShare) (f := p) (Finset.subset_univ _)) $$ H0
  iintro H0
  iapply (wp_load (defs := defs₀ (F := F)) 𝒱₀ (Tl d L) none Set.univ (m := s1V) (S := Finset.univ) (q := fullShare) (f := f1) (Finset.subset_univ _)) $$ H1
  iintro H1
  iapply (wp_store (defs := defs₀ (F := F)) 𝒱₀ (Tl d L) none Set.univ (m := s1V)
    (r := Rect.unit (s := S3328) (k1_off2 t) S16.size (k1_off2_inb t))
    (w := k1_pay73 ((s0V.access (Rect.unit (s := S3328) (k1_off2 t) S16.size (k1_off2_inb t))).read (Elt F) p)) (Mk := Finset.univ) (S := Finset.univ) (f := f1) (Finset.subset_univ _)) $$ H1
  iintro H1
  iapply (wp_load (defs := defs₀ (F := F)) 𝒱₀ (Tl d L) none Set.univ (m := s2V) (S := Finset.univ) (q := fullShare) (f := f2) (Finset.subset_univ _)) $$ H2
  iintro H2
  iapply (wp_store (defs := defs₀ (F := F)) 𝒱₀ (Tl d L) none Set.univ (m := s2V)
    (r := Rect.unit (s := S3328) (k1_off2 t) S16.size (k1_off2_inb t))
    (w := k1_pay74 ((s0V.access (Rect.unit (s := S3328) (k1_off2 t) S16.size (k1_off2_inb t))).read (Elt F) p)) (Mk := Finset.univ) (S := Finset.univ) (f := f2) (Finset.subset_univ _)) $$ H2
  iintro H2
  rw [Prog.pure_eq_ret, wp_ret]
  iapply BI.fupd_intro
  iframe
  isplitl [H1]
  · iexists ((s1V.access (Rect.unit (s := S3328) (k1_off2 t) S16.size (k1_off2_inb t))).write (Elt F) f1 (k1_pay73 ((s0V.access (Rect.unit (s := S3328) (k1_off2 t) S16.size (k1_off2_inb t))).read (Elt F) p)) Finset.univ)
    isplitr [H1]
    · ipureintro; exact done_write1 t (pay73_apply _) h1
    · iexact H1
  · iexists ((s2V.access (Rect.unit (s := S3328) (k1_off2 t) S16.size (k1_off2_inb t))).write (Elt F) f2 (k1_pay74 ((s0V.access (Rect.unit (s := S3328) (k1_off2 t) S16.size (k1_off2_inb t))).read (Elt F) p)) Finset.univ)
    isplitr [H2]
    · ipureintro; exact done_write2 t (pay74_apply _) h2
    · iexact H2

/-- The whole loop: from the positions to the two lists. -/
theorem splitLoop {p : S3328.Idx → Elt F .i32} {α : Type}
    {k : Unit → Prog (TpuEff nD τ sig (Elt F) Λ₀ (Tl d L).2) α} {Q : α → sProp 𝕄} {R : sProp 𝕄}
    (hk : iprop(((Tl d L).loc cc1_scratch0 ↦{fullShare} p) ∗ ((Tl d L).loc cc1_scratch1 ↦{fullShare} fun i => rowW (p i))
        ∗ ((Tl d L).loc cc1_scratch2 ↦{fullShare} fun i => laneW (p i)) ∗ R) ⊢ WP d L (k ⟨⟩) Q) :
    iprop(((Tl d L).loc cc1_scratch0 ↦{fullShare} p) ∗ (∃ g, (Tl d L).loc cc1_scratch1 ↦{fullShare} g)
        ∗ (∃ g, (Tl d L).loc cc1_scratch2 ↦{fullShare} g) ∗ R)
      ⊢ WP d L (Scf.Loop.for k1_t1_loop k1_t1_ok ⟨⟩ (fun t _ => splitBody (F := F) (d := d) (L := L) t) >>= k) Q := by
  have hloop := Scf.wp_for_bind (Fr := frame) (wpE := wpE (defs₀ (F := F)) 𝒱₀ (Tl d L) none) (Es := Set.univ) k1_t1_loop.lb k1_t1_loop.ub k1_t1_loop.st k1_t1_ok ⟨⟩
    (fun t (_ : Unit) => splitBody (F := F) (d := d) (L := L) t) (fun n _ => Sp d L p (16 * n)) (fun t _ => splitTrip t) (kk := k) (Q := Q)
  iintro ⟨H0, ⟨%g1, H1⟩, ⟨%g2, H2⟩, HR⟩
  iapply hloop $$ [H0 H1 H2]
  · unfold Sp
    iframe
    isplitl [H1]
    · iexists g1
      isplitr [H1]
      · ipureintro; intro i hi; omega
      · iexact H1
    · iexists g2
      isplitr [H2]
      · ipureintro; intro i hi; omega
      · iexact H2
  · iintro %_u HS
    unfold Sp
    icases HS with ⟨H0, ⟨%f1, %h1, H1⟩, ⟨%f2, %h2, H2⟩⟩
    have hb : ∀ i : S3328.Idx, (i 0).val < 16 * k1_t1_loop.trips := fun i => by
      have h0 : (i 0).val < 3328 := (i 0).isLt
      rw [trips_t1]; omega
    have e1 : f1 = fun i => rowW (p i) := funext fun i => h1 i (hb i)
    have e2 : f2 = fun i => laneW (p i) := funext fun i => h2 i (hb i)
    subst e1 e2
    iapply hk
    iframe

end Cert.Proof.Kern
-- ==== Proof.Chunk.lean ====
/-
  One chunk of a tile: the indirect copy that fetches the packed rows its list names, the selection loop over them, and the
  copy of the 416 embeddings out to the result (`chunk`), and the value all the chunks together leave there (`embO`).
-/
module

public import proofs.«01_k».proof.Proof.Split
public import Idealize.ShloMosaic.Lib.PointwiseCore

@[expose] public section

noncomputable section

namespace Cert.Proof.Kern

open Cert.KernelIdeal Cert.KernelIdeal.Facts₀ Cert.KernelIdeal.Facts Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ (UU F) ℕ

/-! ## What the lookup leaves -/

/-- Entry `n` of the whole list of positions (modulo its length). -/
abbrev atP (n : ℕ) : S106496.Idx := fun | 0 => ⟨n % 106496, Nat.mod_lt _ (by decide)⟩

/-- Row `r`, lane `l` of the packed table (each modulo its bound). -/
abbrev atT (r l : ℕ) : S650000x128.Idx := fun
  | 0 => ⟨r % 650000, Nat.mod_lt _ (by decide)⟩
  | 1 => ⟨l % 128, Nat.mod_lt _ (by decide)⟩

/-- Word `l` of the embedding of entry `n` of the list. -/
def embAt (pos : S106496.Idx → Elt F .i32) (tab : S650000x128.Idx → Elt F .f32) (n l : ℕ) : Elt F .f32 :=
  tab (atT (rowW (pos (atP n))).toNat ((laneW (pos (atP n))).toNat + l))

/-- The result of the lookup: four embeddings to a row, in the order of the list. -/
def embO (pos : S106496.Idx → Elt F .i32) (tab : S650000x128.Idx → Elt F .f32) : S26624x128.Idx → Elt F .f32 :=
  fun i => embAt pos tab (4 * (i 0).val + (i 1).val / 32) ((i 1).val % 32)

/-- The part of the list tile `L` works on. -/
def lst (pos : S106496.Idx → Elt F .i32) (L : grid1.Coords) : S3328.Idx → Elt F .i32 :=
  fun i => pos (atP (6656 * (L 1).val + 3328 * (L 0).val + (i 0).val))

/-- Every position lies in the table. -/
def InTable (pos : S106496.Idx → Elt F .i32) : Prop := ∀ i, (pos i : BitVec 32).toNat < 2600000

theorem offOK_lst (pos : S106496.Idx → Elt F .i32) (L : grid1.Coords) : OffOK fun i => laneW (lst pos L i) := fun x => by
  show (laneW _).toNat ≤ 96
  rw [laneW_toNat]; omega

/-- The rows chunk `c` fetches. -/
def fetched (pos : S106496.Idx → Elt F .i32) (tab : S650000x128.Idx → Elt F .f32) (L : grid1.Coords) (c : ℕ) : S416x128.Idx → Elt F .f32 :=
  fun i => tab (atT (rowW (lst pos L (at1 (416 * c + (i 0).val)))).toNat (i 1).val)

theorem wid_lt (L : grid1.Coords) : (L 0).val < 2 ∧ (L 1).val < 16 := ⟨(L 0).isLt, (L 1).isLt⟩

/-- What the selection picks of the fetched rows is what the result holds at the chunk's place. -/
theorem sel_fetched (pos : S106496.Idx → Elt F .i32) (tab : S650000x128.Idx → Elt F .f32) (L : grid1.Coords) {c r l : ℕ} (hc : c < 8)
    (hr : r < 104) (hl : l < 128) :
    sel (fun i => laneW (lst pos L i)) (fetched pos tab L c) c r l
      = embAt pos tab (4 * (1664 * (L 1).val + 832 * (L 0).val + 104 * c + r) + l / 32) (l % 32) := by
  obtain ⟨h0, h1⟩ := wid_lt L
  unfold sel fetched embAt
  have e1 : ((at1 (416 * c + (4 * r + l / 32))) 0).val = 416 * c + (4 * r + l / 32) := Nat.mod_eq_of_lt (by omega)
  have e2 : ((at2 (4 * r + l / 32) 0) 0).val = 4 * r + l / 32 := Nat.mod_eq_of_lt (by omega)
  have e3 : lst pos L (at1 (416 * c + (4 * r + l / 32))) = pos (atP (4 * (1664 * (L 1).val + 832 * (L 0).val + 104 * c + r) + l / 32)) := by
    unfold lst
    rw [e1]; congr 2; omega
  have hle : (laneW (pos (atP (4 * (1664 * (L 1).val + 832 * (L 0).val + 104 * c + r) + l / 32)))).toNat ≤ 96 := by rw [laneW_toNat]; omega
  show tab (atT (rowW (lst pos L (at1 (416 * c + (4 * r + l / 32) % 416)))).toNat (((laneW (lst pos L (at1 (416 * c + (4 * r + l / 32))))).toNat + l % 32) % 128)) = _
  rw [Nat.mod_eq_of_lt (show 4 * r + l / 32 < 416 by omega), e3, Nat.mod_eq_of_lt (show _ + l % 32 < 128 by omega)]

/-! ## The chunk's run -/

variable (d : Dev nD) (L : grid1.Coords) [FloatOps F]

/-- The packed table, as a tile's indirect copies name it: all of it. -/
abbrev pkK : Memref sig .scVector .hbm S650000x128 .f32 :=
  pkV.slice (Rect.unit (s := S650000x128) ![0, 0] S650000x128.size inb_S650000x128_S650000x128_0_0) (fun _ => rfl)

/-- What a tile holds between chunks: its two lists, its two scratch buffers at any contents, a share of the packed table,
    the indirect copies' semaphore at rest, and what it owes. -/
def TS (pos : S106496.Idx → Elt F .i32) (tab : S650000x128.Idx → Elt F .f32) (q : PosShare TreeShare)
    (O : CellTallies nD τ sig (HIx 2)) (W : Waits sig (HIx 2)) : sProp 𝕄 :=
  iprop(((Tl d L).loc cc1_scratch1 ↦{fullShare} fun i => rowW (lst pos L i)) ∗ ((Tl d L).loc cc1_scratch2 ↦{fullShare} fun i => laneW (lst pos L i))
    ∗ (∃ g, (Tl d L).loc cc1_scratch3 ↦{fullShare} g) ∗ (∃ g, (Tl d L).loc cc1_scratch4 ↦{fullShare} g)
    ∗ ((pkV).view.loc (Tl d L) ↦{q} tab) ∗ semVal (Tl d L, .dma cc1_scratch5.sem) 0
    ∗ (∃ W', ⌜∀ p ∈ W', p ∈ W ∨ p.2 = none⌝ ∗ owes (Tl d L) O W') ∗ Transfers.MayWaits (Tl d L) (default : HIx 2) O)

variable {d L}

/-- The rows a chunk's part of the list names. -/
theorem read_list {pos : S106496.Idx → Elt F .i32} {c : ℕ} (hc : c < 8) {o : Fin 1 → ℕ} {inb : ∀ a, o a + S416.size a ≤ S3328.size a} (ho : o 0 = 416 * c) (x : S416.Idx) :
    (s1V.slice (Rect.unit (s := S3328) o S416.size inb) (fun _ => rfl)).view.read (Elt F) (fun i => rowW (lst pos L i)) x
      = rowW (lst pos L (at1 (416 * c + (x 0).val))) := by
  have hx : (x 0).val < 416 := (x 0).isLt
  refine (View.read_apply _ _).trans ((cast_eq _ _).trans ?_)
  congr 2
  funext (a : Fin 1); apply Fin.ext
  obtain rfl : a = 0 := Subsingleton.elim _ _
  show o 0 + 1 * (x 0).val = (416 * c + (x 0).val) % 3328
  omega

theorem list_in {pos : S106496.Idx → Elt F .i32} (hpos : InTable pos) {c : ℕ} (hc : c < 8) {o : Fin 1 → ℕ} {inb : ∀ a, o a + S416.size a ≤ S3328.size a} (ho : o 0 = 416 * c) (x : S416.Idx) :
    ((s1V.slice (Rect.unit (s := S3328) o S416.size inb) (fun _ => rfl)).view.read (Elt F) (fun i => rowW (lst pos L i)) x : BitVec 32).toNat
      < S650000x128.size gathers_S650000x128_S416x128.axis := by
  rw [read_list hc ho, rowW_toNat]
  have := hpos (atP (6656 * (L 1).val + 3328 * (L 0).val + ((at1 (416 * c + (x 0).val)) 0).val))
  show _ < 650000
  unfold lst
  omega

theorem pay_eq {pos : S106496.Idx → Elt F .i32} {tab : S650000x128.Idx → Elt F .f32} (hpos : InTable pos) {c : ℕ} (hc : c < 8) {o : Fin 1 → ℕ} {inb : ∀ a, o a + S416.size a ≤ S3328.size a} (ho : o 0 = 416 * c)
    {hn : S416.numel = S416x128.size gathers_S650000x128_S416x128.axis'} {hin} :
    SparseCore.gatherPayload gathers_S650000x128_S416x128 ((pkK).view.read (Elt F) tab)
      (SparseCore.rows ((s1V.slice (Rect.unit (s := S3328) o S416.size inb) (fun _ => rfl)).view.read (Elt F) (fun i => rowW (lst pos L i))) hn hin)
      = fetched pos tab L c := by
  funext x
  have hx0 : (x 0).val < 416 := (x 0).isLt
  have hx1 : (x 1).val < 128 := (x 1).isLt
  unfold SparseCore.gatherPayload fetched
  refine (View.read_apply _ _).trans ((cast_eq _ _).trans ?_)
  have hk : ((S416.rowMajor.symm ((x 0).cast hn.symm)) 0).val = (x 0).val := by
    rw [← Shape.rowMajor_val_one]
    exact congrArg Fin.val (S416.rowMajor.apply_symm_apply _)
  have hrow := list_in (L := L) hpos hc (inb := inb) ho (S416.rowMajor.symm ((x 0).cast hn.symm))
  congr 1
  funext a; apply Fin.ext
  match a with
  | 0 =>
    show 0 + 1 * ((s1V.slice (Rect.unit (s := S3328) o S416.size inb) (fun _ => rfl)).view.read (Elt F) (fun i => rowW (lst pos L i)) (S416.rowMajor.symm ((x 0).cast hn.symm)) : BitVec 32).toNat = _ % 650000
    rw [read_list hc ho, hk] at hrow ⊢
    rw [Nat.mod_eq_of_lt (show _ < 650000 from hrow)]; omega
  | 1 => show 0 + 1 * (x 1).val = (x 1).val % 128; omega

/-- Rows of the result, as a tile's copies out name them. -/
abbrev outAt (w : Fin 2 → ℕ) (inb : ∀ a, w a + S104x128.size a ≤ S26624x128.size a) : Memref sig .scVector .hbm S104x128 .f32 :=
  outV.slice (Rect.unit (s := S26624x128) w S104x128.size inb) (fun _ => rfl)

/-- What the copy out writes is the result's value on those rows. -/
theorem out_congr (pos : S106496.Idx → Elt F .i32) (tab : S650000x128.Idx → Elt F .f32) {c : ℕ} (hc : c < 8) {w : Fin 2 → ℕ}
    (hw : w = ![1664 * (L 1).val + 832 * (L 0).val + 104 * c, 0]) {inb : ∀ a, w a + S104x128.size a ≤ S26624x128.size a}
    (g : Buf (Elt F) ((outAt w inb).view.loc (Tl d L))) {g4 : S104x128.Idx → Elt F .f32}
    (h4 : g4 = fun i => sel (fun i => laneW (lst pos L i)) (fetched pos tab L c) c (i 0).val (i 1).val) :
    ((outAt w inb).view.loc (Tl d L) ↦[(outAt w inb).view.set]{fullShare} (outAt w inb).view.write (Elt F) g g4 Finset.univ : sProp 𝕄)
      = (outAt w inb).view.loc (Tl d L) ↦[(outAt w inb).view.set]{fullShare} embO pos tab := by
  refine pointsTo_congr fun i hi => ?_
  obtain ⟨x, -, rfl⟩ := Finset.mem_map.mp hi
  have hx0 : (x 0).val < 104 := (x 0).isLt
  have hx1 : (x 1).val < 128 := (x 1).isLt
  rw [View.write_emb_of_mem _ _ (Finset.mem_univ _)]
  refine (cast_eq _ _).trans ?_
  subst h4 hw
  refine (sel_fetched pos tab L hc hx0 hx1).trans ?_
  unfold embO
  have e0 : (((outAt _ inb).view.emb x) 0).val = 1664 * (L 1).val + 832 * (L 0).val + 104 * c + 1 * (x 0).val := rfl
  have e1 : (((outAt _ inb).view.emb x) 1).val = 0 + 1 * (x 1).val := rfl
  rw [e0, e1, Nat.one_mul, Nat.one_mul, Nat.zero_add]

theorem credit_sum : ∀ h : S650000x128.Gathers 0 S416x128,
    ∑ j, ((s3V).slice (S416x128.rowRect h.axis' j) (S416x128.stride_rowRect h.axis' j)).view.dmaCredit = (s3V).view.dmaCredit := by
  intro h
  have e : ∀ j, ((s3V).slice (S416x128.rowRect h.axis' j) (S416x128.stride_rowRect h.axis' j)).view.dmaCredit = 4096 := fun j => by
    show (∏ b : Fin 2, if b = 0 then 1 else S416x128.size b) * 32 = 4096
    rw [Fin.prod_univ_two]; rfl
  rw [Finset.sum_congr rfl fun j _ => e j, Finset.sum_const]
  show (Finset.univ : Finset (Fin 416)).card • 4096 = (∏ b : Fin 2, S416x128.size b) * 32
  rw [Finset.card_fin, Fin.prod_univ_two]; rfl

theorem selLoop' {f7 : S3328.Idx → Elt F .i32} {f8 : S416x128.Idx → Elt F .f32} (hf : OffOK f7) {c : ℕ} (hc : c < 8) {α : Type}
    {k : Unit → Prog (TpuEff nD τ sig (Elt F) Λ₀ (Tl d L).2) α} {Q : α → sProp 𝕄} :
    iprop(((Tl d L).loc cc1_scratch2 ↦{fullShare} f7) ∗ ((Tl d L).loc cc1_scratch3 ↦{fullShare} f8) ∗ (∃ g, (Tl d L).loc cc1_scratch4 ↦{fullShare} g))
      ⊢ iprop((((Tl d L).loc cc1_scratch2 ↦{fullShare} f7) ∗ ((Tl d L).loc cc1_scratch3 ↦{fullShare} f8)
            ∗ ((Tl d L).loc cc1_scratch4 ↦{fullShare} (fun i => sel f7 f8 c (i 0).val (i 1).val)) -∗ WP d L (k ⟨⟩) Q)
          -∗ WP d L (Scf.Loop.for k1_t2_loop k1_t2_ok ⟨⟩ (fun t _ => selBody (F := F) L c lanes t) >>= k) Q) := by
  iintro ⟨H7, H8, H9⟩ HR
  iapply (selLoop (d := d) (L := L) hf hc (f8 := f8) (R := iprop((((Tl d L).loc cc1_scratch2 ↦{fullShare} f7) ∗ ((Tl d L).loc cc1_scratch3 ↦{fullShare} f8)
            ∗ ((Tl d L).loc cc1_scratch4 ↦{fullShare} (fun i => sel f7 f8 c (i 0).val (i 1).val)) -∗ WP d L (k ⟨⟩) Q))) (by
    iintro ⟨H7, H8, H9, HR⟩
    iapply HR
    iframe))
  iframe

/-- One chunk: from the lists and a share of the packed table, the chunk's rows of the result are written. -/
theorem chunk {pos : S106496.Idx → Elt F .i32} (hpos : InTable pos) {tab : S650000x128.Idx → Elt F .f32} {q : PosShare TreeShare}
    {O : CellTallies nD τ sig (HIx 2)} {W : Waits sig (HIx 2)} {c : ℕ} (hc : c < 8) {o : Fin 1 → ℕ} (ho : o 0 = 416 * c) {inb : ∀ a, o a + S416.size a ≤ S3328.size a}
    {w : Fin 2 → ℕ} (hw : w = ![1664 * (L 1).val + 832 * (L 0).val + 104 * c, 0]) {inb' : ∀ a, w a + S104x128.size a ≤ S26624x128.size a}
    {sm : DmaSem sig} {α : Type} {k : Unit → Prog (TpuEff nD τ sig (Elt F) Λ₀ (Tl d L).2) α} {Q : α → sProp 𝕄}
    {h1 h2 h3 h4 h5 h6 h7 h8 h9 h10 h11 h12 h13} :
    iprop(TS d L pos tab q O W ∗ (∃ g, (outAt w inb').view.loc (Tl d L) ↦[(outAt w inb').view.set]{fullShare} g) ∗ semVal (Tl d L, .dma sm) 0)
      ⊢ iprop((TS d L pos tab q O W ∗ ((outAt w inb').view.loc (Tl d L) ↦[(outAt w inb').view.set]{fullShare} embO pos tab) ∗ semVal (Tl d L, .dma sm) 0
            -∗ WP d L (k ⟨⟩) Q)
          -∗ WP d L (SparseCore.enqueueIndirectGather h1 (pkK) s3V gathers_S650000x128_S416x128 (s1V.slice (Rect.unit (s := S3328) o S416.size inb) (fun _ => rfl)) h2 cc1_scratch5.sem h3 h4 h5 h6
          >>= fun _ => SparseCore.waitIndirectGather cc1_scratch5.sem (pkK) s3V h7 h8
          >>= fun _ => Scf.Loop.for k1_t2_loop k1_t2_ok ⟨⟩ (fun t _ => selBody (F := F) L c lanes t)
          >>= fun _ => Prog.lift (.enqueueDma s4V (.here (outAt w inb')) (.dma sm) h9 h10 h11)
          >>= fun _ => Prog.lift (.waitDma2 sm s4V (outAt w inb') h12 h13) >>= k) Q) := by
  iintro ⟨HT, ⟨%g, Ho⟩, Hsm⟩ Hk
  unfold TS
  icases HT with ⟨H1, H2, ⟨%g3, H3⟩, H4, Hp, Hs5, ⟨%W₁, %hW₁, HO⟩, #Hmw⟩
  ihave Hp' := (pointsTo_split_subset (ℓ := (pkV).view.loc (Tl d L)) (q := q) (f := tab) (S := Finset.univ) (Finset.subset_univ (pkK).view.set)).1 $$ Hp
  icases Hp' with ⟨Hp, Hpr⟩
  ihave H1' := (pointsTo_split_subset (ℓ := (Tl d L).loc cc1_scratch1) (q := fullShare) (S := Finset.univ)
    (Finset.subset_univ (s1V.slice (Rect.unit (s := S3328) o S416.size inb) (fun _ => rfl)).view.set)).1 $$ H1
  icases H1' with ⟨H1, H1r⟩
  have h3s : (s3V).view.set = Finset.univ := View.set_whole _
  ihave H3' := (Entails.of_eq (show ((Tl d L).loc cc1_scratch3 ↦{fullShare} g3 : sProp 𝕄)
      = (s3V).view.loc (Tl d L) ↦[(s3V).view.set]{fullShare} g3 by rw [h3s])) $$ H3
  iapply (SparseCore.wp_indirectGatherLocal countersEmb 𝒱₀ (Tl d L) none (hg := gathers_S650000x128_S416x128) (default : HIx 2)
      (s3V).view.dmaCredit (credit_sum _) (by decide) (list_in hpos hc ho)) $$ [Hp H3' H1 Hs5]
  · isplitl [Hp]; · iexact Hp
    isplitl [H3']; · iexact H3'
    isplitl [H1]; · iexact H1
    iexact Hs5
  iintro Hfl
  rw [pay_eq hpos hc ho]
  iapply (Transfers.wp_waitLocalO countersEmb 𝒱₀ (Tl d L) none (default : HIx 2) (rfl : (s3V).view.dmaCredit = _)) $$ [Hfl HO]
  · isplitl [Hfl]; · iexact Hfl
    isplitl [HO]; · iexact HO
    iapply (Transfers.MayWaits.elim (SemLoc.dma cc1_scratch5.sem)) $$ Hmw
  iintro ⟨⟨H3, Hp, H1⟩, Hs5, HO⟩
  ihave Hp := (pointsTo_split_subset (ℓ := (pkV).view.loc (Tl d L)) (q := q) (f := tab) (S := Finset.univ) (Finset.subset_univ (pkK).view.set)).2 $$ [Hp Hpr]
  · isplitl [Hp] <;> iassumption
  ihave H1 := (pointsTo_split_subset (ℓ := (Tl d L).loc cc1_scratch1) (q := fullShare) (S := Finset.univ)
    (Finset.subset_univ (s1V.slice (Rect.unit (s := S3328) o S416.size inb) (fun _ => rfl)).view.set)).2 $$ [H1 H1r]
  · isplitl [H1] <;> iassumption
  ihave H3 := (Entails.of_eq (show ((s3V).view.loc (Tl d L) ↦[(s3V).view.set]{fullShare} ((s3V).view.write (Elt F) g3 (fetched pos tab L c) Finset.univ) : sProp 𝕄)
      = (Tl d L).loc cc1_scratch3 ↦{fullShare} fetched pos tab L c by rw [h3s, View.write_whole_univ])) $$ H3
  iapply (selLoop' (d := d) (L := L) (offOK_lst pos L) hc) $$ [H2 H3 H4]
  · iframe
  iintro ⟨H2, H3, H4⟩
  iapply (Transfers.wp_dmaLocal countersEmb 𝒱₀ (Tl d L) none (src := s4V) (dst := outAt w inb') (sm := .dma sm) (default : HIx 2) (outAt w inb').view.dmaCredit rfl
    (View.dmaCredit_pos _ (by decide)) (Finset.Subset.refl _)) $$ [H4 Ho Hsm]
  · isplitl [H4]
    · iapply (Entails.of_eq (show ((Tl d L).loc cc1_scratch4 ↦{fullShare} _ : sProp 𝕄) = (s4V).view.loc (Tl d L) ↦[(s4V).view.set]{fullShare} _ by
        rw [show (s4V).view.set = Finset.univ from View.set_whole _])) $$ H4
    isplitl [Ho]; · iexact Ho
    iexact Hsm
  iintro Hfl
  iapply (Transfers.wp_waitLocalO countersEmb 𝒱₀ (Tl d L) none (default : HIx 2) (rfl : (outAt w inb').view.dmaCredit = _)) $$ [Hfl HO]
  · isplitl [Hfl]; · iexact Hfl
    isplitl [HO]; · iexact HO
    iapply (Transfers.MayWaits.elim (SemLoc.dma sm)) $$ Hmw
  iintro ⟨⟨Ho, H4⟩, Hsm, HO⟩
  ihave H4 := (Entails.of_eq (show ((s4V).view.loc (Tl d L) ↦[(s4V).view.set]{fullShare} _ : sProp 𝕄) = (Tl d L).loc cc1_scratch4 ↦{fullShare} _ by
        rw [show (s4V).view.set = Finset.univ from View.set_whole _])) $$ H4
  ihave Ho := (Entails.of_eq (out_congr (d := d) (L := L) pos tab hc hw g (g4 := ReadAs.same.apply ((s4V).view.read (Elt F) _)) rfl)) $$ Ho
  iapply Hk
  iframe H1 H2 Hp Hs5 Ho Hsm Hmw
  isplitl [H3]; · iexists _; iexact H3
  isplitl [H4]; · iexists _; iexact H4
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW₁ p hp

end Cert.Proof.Kern
-- ==== Proof.Tile.lean ====
/-
  A tile's whole task (`tile_body`): its part of the list fetched, split into rows and lanes, and the eight chunks one after
  the other; from its part of the list, a share of the packed table and its eight blocks of the result at any contents, to
  the blocks holding the result's value.
-/
module

public import proofs.«01_k».proof.Proof.Chunk

@[expose] public section

noncomputable section

namespace Cert.Proof.Kern

open Cert.KernelIdeal Cert.KernelIdeal.Facts₀ Cert.KernelIdeal.Facts Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ (UU F) ℕ

/-! ## Taking several parts out of a big separating conjunction -/

theorem bigSep_pull {I : Type} [DecidableEq I] (Φ : I → sProp 𝕄) (l : List I) (hn : l.Nodup) :
    ∀ s : Finset I, (∀ a ∈ l, a ∈ s) → bigSep s Φ = l.foldr (fun a r => iprop(Φ a ∗ r)) (bigSep (s.filter (· ∉ l)) Φ) := by
  induction l with
  | nil => intro s _; simp
  | cons a l ih =>
    intro s hs
    have hn' := List.nodup_cons.mp hn
    rw [SparseCore.bigSep_erase' (hs a (List.mem_cons_self ..)), ih hn'.2 (s.erase a) fun b hb =>
      Finset.mem_erase.mpr ⟨fun e => hn'.1 (e ▸ hb), hs b (List.mem_cons_of_mem _ hb)⟩]
    show iprop(Φ a ∗ _) = iprop(Φ a ∗ _)
    rw [show (s.erase a).filter (· ∉ l) = s.filter (· ∉ a :: l) from by
      ext b; simp only [Finset.mem_filter, Finset.mem_erase, List.mem_cons, not_or]; tauto]

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

variable (d : Dev nD) (L : grid1.Coords)

/-- The call's DMA semaphores. -/
abbrev semL : List (DmaSem sig) :=
  [cc1_scratch5.sem, cc1_scoped0.sem, cc1_scoped1.sem, cc1_scoped2.sem, cc1_scoped3.sem, cc1_scoped4.sem, cc1_scoped5.sem,
    cc1_scoped6.sem, cc1_scoped7.sem, cc1_scoped8.sem]

theorem semL_nodup : semL.Nodup := by decide

theorem semL_scoped : ∀ s ∈ semL, (SemLoc.dma s : SemLoc sig).isScoped .scVector = true := by decide

/-- A tile's scoped cells are its ten semaphores and others. -/
theorem ownSems0_V : ∃ R : sProp 𝕄, (ownSems0 (Tl d L) : sProp 𝕄)
      = (semL.map fun s => ((Tl d L, SemLoc.dma s) : GSem nD τ sig)).foldr (fun a r => iprop(semVal a 0 ∗ r)) R := by
  unfold SparseCore.Cfg.ownSems0
  refine ⟨_, bigSep_pull (fun g => semVal g 0) (semL.map fun s => ((Tl d L, SemLoc.dma s) : GSem nD τ sig)) ?_ (ownCells (Tl d L)) ?_⟩
  · exact List.Nodup.map (fun a b h => SemLoc.dma.inj (congrArg Prod.snd h)) semL_nodup
  · intro a ha
    obtain ⟨s, hs, rfl⟩ := List.mem_map.mp ha
    refine mem_ownCells.mpr ⟨rfl, ?_⟩
    exact semL_scoped s hs

abbrev refL : List (Ref sig .scVector) := [cc1_scratch0, cc1_scratch1, cc1_scratch2, cc1_scratch3, cc1_scratch4]

theorem refL_nodup : refL.Nodup := by decide

/-- A tile's own buffers are its five scratch buffers and others. -/
theorem ownBufs_V : ∃ R : sProp 𝕄, (ownBufs (Tl d L) : sProp 𝕄)
      = (refL.map (Proc.scVector (cV L) (jV L)).devRef).foldr (fun b r => iprop((∃ f, ((d, b) : Loc nD τ sig) ↦{fullShare} f) ∗ r)) R := by
  unfold SparseCore.Cfg.ownBufs
  refine ⟨_, bigSep_pull (fun b => iprop(∃ f, ((d, b) : Loc nD τ sig) ↦{fullShare} f)) _ ?_ _ ?_⟩
  · exact List.Nodup.map (Proc.devRef_injective _) refL_nodup
  · intro a ha
    simp only [refL, List.map_cons, List.map_nil, List.mem_cons, List.not_mem_nil, _root_.or_false] at ha
    rcases ha with rfl | rfl | rfl | rfl | rfl <;> exact SparseCore.Cfg.mem_ownRefs_of_owner rfl

/-- A tile's part of the list, as its fetch names it. -/
abbrev posK : Memref sig .scVector .hbm S3328 .i32 :=
  posV.slice (Rect.unit (s := S106496) (k1_off1 L) S3328.size (k1_off1_inb L)) (fun _ => rfl)

/-- What the fetch lands. -/
theorem read_pos (pos : S106496.Idx → Elt F .i32) : (posK L).view.read (Elt F) pos = lst pos L := by
  obtain ⟨h0, h1⟩ := wid_lt L
  funext x
  have hx : (x 0).val < 3328 := (x 0).isLt
  refine (View.read_apply _ _).trans ((cast_eq _ _).trans ?_)
  unfold lst
  congr 1
  funext (a : Fin 1); apply Fin.ext
  obtain rfl : a = 0 := Subsingleton.elim _ _
  have ho : k1_off1 L 0 = 6656 * (L 1).val + 3328 * (L 0).val := by rw [k1_off1_eq]; rfl
  show k1_off1 L 0 + 1 * (x 0).val = (6656 * (L 1).val + 3328 * (L 0).val + (x 0).val) % 106496
  omega

/-- Block `c` of a tile's rows of the result, as its copy out names it. -/
abbrev outK (c : Fin 8) : Memref sig .scVector .hbm S104x128 .f32 :=
  outAt (k1_off11 L (BitVec.ofNat 32 (104 * c.val))) (k1_off11_inb L c)

variable [FloatOps F]

theorem splitLoop' {p : S3328.Idx → Elt F .i32} {α : Type}
    {k : Unit → Prog (TpuEff nD τ sig (Elt F) Λ₀ (Tl d L).2) α} {Q : α → sProp 𝕄} :
    iprop(((Tl d L).loc cc1_scratch0 ↦{fullShare} p) ∗ (∃ g, (Tl d L).loc cc1_scratch1 ↦{fullShare} g) ∗ (∃ g, (Tl d L).loc cc1_scratch2 ↦{fullShare} g))
      ⊢ iprop((((Tl d L).loc cc1_scratch0 ↦{fullShare} p) ∗ ((Tl d L).loc cc1_scratch1 ↦{fullShare} fun i => rowW (p i))
            ∗ ((Tl d L).loc cc1_scratch2 ↦{fullShare} fun i => laneW (p i)) -∗ WP d L (k ⟨⟩) Q)
          -∗ WP d L (Scf.Loop.for k1_t1_loop k1_t1_ok ⟨⟩ (fun t _ => splitBody (F := F) (d := d) (L := L) t) >>= k) Q) := by
  iintro ⟨H7, H8, H9⟩ HR
  iapply (splitLoop (d := d) (L := L) (R := iprop((((Tl d L).loc cc1_scratch0 ↦{fullShare} p) ∗ ((Tl d L).loc cc1_scratch1 ↦{fullShare} fun i => rowW (p i))
            ∗ ((Tl d L).loc cc1_scratch2 ↦{fullShare} fun i => laneW (p i)) -∗ WP d L (k ⟨⟩) Q))) (by
    iintro ⟨H7, H8, H9, HR⟩
    iapply HR
    iframe))
  iframe

/-- What tile `L` starts with: its part of the list, a share of the packed table, and its eight blocks of the result. -/
abbrev goT (pos : S106496.Idx → Elt F .i32) (tab : S650000x128.Idx → Elt F .f32) (q : PosShare TreeShare) : sProp 𝕄 :=
  iprop(((posK L).view.loc (Tl d L) ↦[(posK L).view.set]{fullShare} pos) ∗ ((pkV).view.loc (Tl d L) ↦{q} tab)
    ∗ bigSep Finset.univ fun c : Fin 8 => iprop(∃ g, (outK L c).view.loc (Tl d L) ↦[(outK L c).view.set]{fullShare} g))

/-- What it ends with: the same, the blocks at the result's value. -/
abbrev tdT (pos : S106496.Idx → Elt F .i32) (tab : S650000x128.Idx → Elt F .f32) (q : PosShare TreeShare) : sProp 𝕄 :=
  iprop(((posK L).view.loc (Tl d L) ↦[(posK L).view.set]{fullShare} pos) ∗ ((pkV).view.loc (Tl d L) ↦{q} tab)
    ∗ bigSep Finset.univ fun c : Fin 8 => iprop((outK L c).view.loc (Tl d L) ↦[(outK L c).view.set]{fullShare} embO pos tab))

set_option maxHeartbeats 4000000 in
/-- The task of tile `L`. -/
theorem tile_body (hF : (K (F := F)).Facts) {pos : S106496.Idx → Elt F .i32} (hpos : InTable pos) {tab : S650000x128.Idx → Elt F .f32} {q : PosShare TreeShare}
    (O : CellTallies nD τ sig (HIx 2)) (W : Waits sig (HIx 2)) (hO : ∀ g, O g none = 0) :
    iprop(levAts (K (F := F)).L (K (F := F)).lev ∗ emp
        ∗ goT d L pos tab q
        ∗ scopedBufs (Tl d L) ∗ scopedSems0 (Tl d L) ∗ owes (Tl d L) O W)
      ⊢ wp frame (wpE (defs₀ (F := F)) 𝒱₀ (Tl d L) none) Set.univ
          (cc1_lookup_k L posV (Memref.isWhole_whole _) pkV (Memref.isWhole_whole _) outV (Memref.isWhole_whole _)
            s0V (Memref.isWhole_whole _) s1V (Memref.isWhole_whole _) s2V (Memref.isWhole_whole _) s3V (Memref.isWhole_whole _) s4V (Memref.isWhole_whole _)
            cc1_scratch5 cc1_scoped0 cc1_scoped1 cc1_scoped2 cc1_scoped3 cc1_scoped4 cc1_scoped5 cc1_scoped6 cc1_scoped7 cc1_scoped8)
          fun _ => iprop(tdT d L pos tab q
            ∗ scopedBufs (Tl d L) ∗ scopedSems0 (Tl d L)
            ∗ ∃ W', ⌜∀ p ∈ W', p ∈ W ∨ p.2 = none⌝ ∗ owes (Tl d L) O W') := by
  obtain ⟨RS, hRS⟩ := ownSems0_V (F := F) d L
  obtain ⟨RB, hRB⟩ := ownBufs_V (F := F) d L
  rw [(K (F := F)).scopedBufs_V hF d (cV L) (jV L), SparseCore.Cfg.scopedSems0_V (Val := Elt F) d (cV L) (jV L), hRS, hRB]
  unfold goT tdT
  rw [bigSep_eight (F := F), bigSep_eight (F := F)]
  simp only [semL, refL, List.map_cons, List.map_nil, List.foldr_cons, List.foldr_nil]
  simp only [cc1_lookup_k_eq_skeleton]; unfold cc1_lookup_k_skel
  simp only [k1_part33_eq_skeleton, k1_part34_eq_skeleton, k1_part35_eq_skeleton, k1_part36_eq_skeleton]
  unfold k1_part33_skel k1_part34_skel k1_part35_skel k1_part36_skel
  simp only [Prog.bind_assoc, Prog.pure_eq_ret, Prog.bind_ret]
  rw [t1_body_eq (d := d)]
  simp only [t2_body_eq, t3_body_eq, t4_body_eq, t5_body_eq, t6_body_eq, t7_body_eq, t8_body_eq, t9_body_eq]
  iintro ⟨#Hlv, -, ⟨Hpos, Hpk, Ho0, Ho1, Ho2, Ho3, Ho4, Ho5, Ho6, Ho7⟩, ⟨⟨%f0, Hs0⟩, Hs1, Hs2, Hs3, Hs4, Hbufs⟩,
    ⟨Hm, Hm0, Hm1, Hm2, Hm3, Hm4, Hm5, Hm6, Hm7, Hm8, Hsems⟩, HO⟩
  ihave #Hmw := (show (levAts (K (F := F)).L (K (F := F)).lev : sProp 𝕄) ⊢ Transfers.MayWaits (Tl d L) (default : HIx 2) O from
    (K (F := F)).mayWaits_none (thr := Tl d L) hO) $$ Hlv
  ihave Hs0 := (Entails.of_eq (show ((d, (Proc.scVector (cV L) (jV L)).devRef cc1_scratch0) ↦{fullShare} f0 : sProp 𝕄) = (s0V).view.loc (Tl d L) ↦[(s0V).view.set]{fullShare} f0 by
    rw [show (s0V).view.set = Finset.univ from View.set_whole _])) $$ Hs0
  iapply (Transfers.wp_dmaLocal countersEmb 𝒱₀ (Tl d L) none (src := posK L) (dst := s0V) (sm := .dma cc1_scoped0.sem) (default : HIx 2) (s0V).view.dmaCredit rfl
    (View.dmaCredit_pos _ (by decide)) (Finset.Subset.refl _)) $$ [Hpos Hs0 Hm0]
  · isplitl [Hpos]; · iexact Hpos
    isplitl [Hs0]; · iexact Hs0
    iexact Hm0
  iintro Hfl
  iapply (Transfers.wp_waitLocalO countersEmb 𝒱₀ (Tl d L) none (default : HIx 2) (rfl : (s0V).view.dmaCredit = _)) $$ [Hfl HO]
  · isplitl [Hfl]; · iexact Hfl
    isplitl [HO]; · iexact HO
    iapply (Transfers.MayWaits.elim (SemLoc.dma cc1_scoped0.sem)) $$ Hmw
  iintro ⟨⟨Hs0, Hpos⟩, Hm0, HO⟩
  ihave Hs0 := (Entails.of_eq (show ((s0V).view.loc (Tl d L) ↦[(s0V).view.set]{fullShare} (s0V).view.write (Elt F) f0 (ReadAs.same.apply ((posK L).view.read (Elt F) pos)) Finset.univ : sProp 𝕄)
      = (Tl d L).loc cc1_scratch0 ↦{fullShare} lst pos L by
    rw [show (s0V).view.set = Finset.univ from View.set_whole _, View.write_whole_univ]
    exact congrArg _ (read_pos L pos))) $$ Hs0
  iapply (splitLoop' (d := d) (L := L)) $$ [Hs0 Hs1 Hs2]
  · isplitl [Hs0]; · iexact Hs0
    isplitl [Hs1]; · iexact Hs1
    iexact Hs2
  iintro ⟨Hs0, Hs1, Hs2⟩
  ihave HT : TS d L pos tab q O W $$ [Hs1 Hs2 Hs3 Hs4 Hpk Hm HO]
  · unfold TS
    isplitl [Hs1]; · iexact Hs1
    isplitl [Hs2]; · iexact Hs2
    isplitl [Hs3]; · iexact Hs3
    isplitl [Hs4]; · iexact Hs4
    isplitl [Hpk]; · iexact Hpk
    isplitl [Hm]; · iexact Hm
    isplitl [HO]
    · iexists _; isplitr
      swap; · iexact HO
      ipureintro; intro p hp
      rcases Finset.mem_insert.mp hp with hp | hp; · exact .inr (hp ▸ rfl)
      exact .inl hp
    · iexact Hmw
  iapply (chunk (d := d) (L := L) (q := q) (O := O) (W := W) hpos (c := 0) (by decide) (o := ![0]) rfl (w := k1_off11 L 0#32) (k1_off11_eq L 0) (sm := cc1_scoped1.sem)) $$ [HT Ho0 Hm1]
  · isplitl [HT]; · iexact HT
    isplitl [Ho0]; · iexact Ho0
    iexact Hm1
  iintro ⟨HT, Ho0, Hm1⟩
  iapply (chunk (d := d) (L := L) (q := q) (O := O) (W := W) hpos (c := 1) (by decide) (o := ![416]) rfl (w := k1_off11 L 104#32) (k1_off11_eq L 1) (sm := cc1_scoped2.sem)) $$ [HT Ho1 Hm2]
  · isplitl [HT]; · iexact HT
    isplitl [Ho1]; · iexact Ho1
    iexact Hm2
  iintro ⟨HT, Ho1, Hm2⟩
  iapply (chunk (d := d) (L := L) (q := q) (O := O) (W := W) hpos (c := 2) (by decide) (o := ![832]) rfl (w := k1_off11 L 208#32) (k1_off11_eq L 2) (sm := cc1_scoped3.sem)) $$ [HT Ho2 Hm3]
  · isplitl [HT]; · iexact HT
    isplitl [Ho2]; · iexact Ho2
    iexact Hm3
  iintro ⟨HT, Ho2, Hm3⟩
  iapply (chunk (d := d) (L := L) (q := q) (O := O) (W := W) hpos (c := 3) (by decide) (o := ![1248]) rfl (w := k1_off11 L 312#32) (k1_off11_eq L 3) (sm := cc1_scoped4.sem)) $$ [HT Ho3 Hm4]
  · isplitl [HT]; · iexact HT
    isplitl [Ho3]; · iexact Ho3
    iexact Hm4
  iintro ⟨HT, Ho3, Hm4⟩
  iapply (chunk (d := d) (L := L) (q := q) (O := O) (W := W) hpos (c := 4) (by decide) (o := ![1664]) rfl (w := k1_off11 L 416#32) (k1_off11_eq L 4) (sm := cc1_scoped5.sem)) $$ [HT Ho4 Hm5]
  · isplitl [HT]; · iexact HT
    isplitl [Ho4]; · iexact Ho4
    iexact Hm5
  iintro ⟨HT, Ho4, Hm5⟩
  iapply (chunk (d := d) (L := L) (q := q) (O := O) (W := W) hpos (c := 5) (by decide) (o := ![2080]) rfl (w := k1_off11 L 520#32) (k1_off11_eq L 5) (sm := cc1_scoped6.sem)) $$ [HT Ho5 Hm6]
  · isplitl [HT]; · iexact HT
    isplitl [Ho5]; · iexact Ho5
    iexact Hm6
  iintro ⟨HT, Ho5, Hm6⟩
  iapply (chunk (d := d) (L := L) (q := q) (O := O) (W := W) hpos (c := 6) (by decide) (o := ![2496]) rfl (w := k1_off11 L 624#32) (k1_off11_eq L 6) (sm := cc1_scoped7.sem)) $$ [HT Ho6 Hm7]
  · isplitl [HT]; · iexact HT
    isplitl [Ho6]; · iexact Ho6
    iexact Hm7
  iintro ⟨HT, Ho6, Hm7⟩
  iapply (chunk (d := d) (L := L) (q := q) (O := O) (W := W) hpos (c := 7) (by decide) (o := ![2912]) rfl (w := k1_off11 L 728#32) (k1_off11_eq L 7) (sm := cc1_scoped8.sem)) $$ [HT Ho7 Hm8]
  · isplitl [HT]; · iexact HT
    isplitl [Ho7]; · iexact Ho7
    iexact Hm8
  iintro ⟨HT, Ho7, Hm8⟩
  unfold TS
  icases HT with ⟨Hs1, Hs2, Hs3, Hs4, Hpk, Hm, HO, -⟩
  rw [WP, wp_ret]
  iapply BI.fupd_intro
  isplitl [Hpos Hpk Ho0 Ho1 Ho2 Ho3 Ho4 Ho5 Ho6 Ho7]
  · isplitl [Hpos]; · iexact Hpos
    isplitl [Hpk]; · iexact Hpk
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [Hs0 Hs1 Hs2 Hs3 Hs4 Hbufs]
  · isplitl [Hs0]; · iexists _; iexact Hs0
    isplitl [Hs1]; · iexists _; iexact Hs1
    isplitl [Hs2]; · iexists _; iexact Hs2
    isplitl [Hs3]; · iexact Hs3
    isplitl [Hs4]; · iexact Hs4
    iexact Hbufs
  isplitl [Hm Hm0 Hm1 Hm2 Hm3 Hm4 Hm5 Hm6 Hm7 Hm8 Hsems]
  · isplitl [Hm]; · iexact Hm
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    iexact Hsems
  iexact HO

end Cert.Proof.Kern
-- ==== Proof.Det.lean ====
/-
  The program of the detranspose kernel, written once. A tile copies blocks of 32 x 128 words of the transposed tables into
  its scratch, transposes each by gathers of sixteen lanes, and copies the result to the packed table. The printed program
  spells out every copy and every gather; here they are lists and recursions over a row's, a gather's or a store's number,
  and the printed program is shown to be this one.
-/
module

public import proofs.«01_k».proof.Proof.Words
public import Idealize.ShloMosaic.Lib.SparseCore.Ops
public import Idealize.ShloMosaic.Lib.Tactic
public import Idealize.ShloMosaic.Lib.Tactic.ProgEq

@[expose] public section

noncomputable section

namespace Cert.Proof.Kern

open Cert.KernelIdeal Cert.KernelIdeal.Facts₀ Cert.KernelIdeal.Facts

open Idealize.ShloMosaic
open Idealize.ShloMosaic.SparseCore (S V T)
open Idealize.SL.Sem

variable [Cert.KernelIdeal.Facts] {F : FTy → Type} [FloatOps F]

/-! ## The buffers -/

abbrev ttV : Memref sig .scVector .hbm S26x32x100000 .f32 := Memref.whole main_v10_scv
abbrev pdV : Memref sig .scVector .hbm S26x25000x128 .f32 := Memref.whole main_v11_scv
abbrev ibV : Memref sig .scVector .vmem S2x32x129 .f32 := Memref.whole cc0_scratch0
abbrev sbV : Memref sig .scVector .vmem S2x32x128 .f32 := Memref.whole cc0_scratch1
abbrev tbV : Memref sig .scVector .vmem S32x33 .f32 := Memref.whole cc0_scratch2

theorem inRow_inb (p e : ℕ) (a : Fin 3) : (![p % 2, e % 32, 0] : Fin 3 → ℕ) a + S1x1x128.size a ≤ S2x32x129.size a := by
  match a with
  | 0 => exact Nat.mod_lt p (by decide)
  | 1 => exact Nat.mod_lt e (by decide)
  | 2 => exact (by decide : 0 + 128 ≤ 129)

theorem inBlk_inb (p : ℕ) (a : Fin 3) : (![p % 2, 0, 0] : Fin 3 → ℕ) a + S1x32x129.size a ≤ S2x32x129.size a := by
  match a with
  | 0 => exact Nat.mod_lt p (by decide)
  | 1 => exact Nat.le_refl 32
  | 2 => exact Nat.le_refl 129

theorem stBlk_inb (p : ℕ) (a : Fin 3) : (![p % 2, 0, 0] : Fin 3 → ℕ) a + S1x32x128.size a ≤ S2x32x128.size a := by
  match a with
  | 0 => exact Nat.mod_lt p (by decide)
  | 1 => exact Nat.le_refl 32
  | 2 => exact Nat.le_refl 128

theorem grp_inb (w : ℕ) (a : Fin 2) : (![w / 8 % 32, 16 * (w % 8)] : Fin 2 → ℕ) a + S1x16.size a ≤ S32x128.size a := by
  match a with
  | 0 => exact Nat.mod_lt _ (by decide)
  | 1 => show 16 * (w % 8) + 16 ≤ 128; omega

/-! ## The pieces of the buffers -/

/-- Row `e` of slot `p` of the scratch that blocks arrive in. -/
abbrev inRow (p e : ℕ) : Memref sig .scVector .vmem S128 .f32 :=
  (ibV.slice (Rect.unit (s := S2x32x129) ![p % 2, e % 32, 0] S1x1x128.size (inRow_inb p e)) (fun _ => rfl)).squeeze S128 squeezes_S1x1x128_S128

/-- The slot. -/
abbrev inBlk (p : ℕ) : Memref sig .scVector .vmem S32x129 .f32 :=
  (ibV.slice (Rect.unit (s := S2x32x129) ![p % 2, 0, 0] S1x32x129.size (inBlk_inb p)) (fun _ => rfl)).squeeze S32x129 squeezes_S1x32x129_S32x129

/-- Slot `p` of the scratch that transposed blocks leave from. -/
abbrev stBlk (p : ℕ) : Memref sig .scVector .vmem S32x128 .f32 :=
  (sbV.slice (Rect.unit (s := S2x32x128) ![p % 2, 0, 0] S1x32x128.size (stBlk_inb p)) (fun _ => rfl)).squeeze S32x128 squeezes_S1x32x128_S32x128

/-- Row `e` of the block of round `k`, in the transposed tables. -/
abbrev ttRow {i : grid0.Coords} {k : BitVec 32} (h : InB i k) (e : ℕ) : Memref sig .scVector .hbm S128 .f32 :=
  (ttV.slice (Rect.unit (s := S26x32x100000) (inOff i k (e % 32)) S1x1x128.size (inOff_inb h e)) (fun _ => rfl)).squeeze S128 squeezes_S1x1x128_S128

/-- The transposed block's place in the packed table. -/
abbrev pdBlk {i : grid0.Coords} {k : BitVec 32} (h : InB i k) : Memref sig .scVector .hbm S32x128 .f32 :=
  (pdV.slice (Rect.unit (s := S26x25000x128) (outOff i k) S1x32x128.size (outOff_inb h)) (fun _ => rfl)).squeeze S32x128 squeezes_S1x32x128_S32x128

/-! ## The program -/

abbrev PG (F : FTy → Type) (i : grid0.Coords) : Type → Type 1 := Prog (TpuEff nD τ sig (Elt F) Λ₀ (.scVector ((i 0).castLE hcore0) ((i 1).castLE hsub0)))

section
variable {i : grid0.Coords} {α : Type}

/-- The copies of rows `32 - n` to `31` of the block of round `k` into slot `p`, started. -/
def starts {k : BitVec 32} (h : InB i k) (p : ℕ) (s : DmaSems sig S_) (n : ℕ) (K : PG F i α) : PG F i α :=
  Nat.rec (motive := fun _ => PG F i α) K
    (fun n r => .op (.enqueueDma (ttRow h (31 - n)) (.here (inRow p (31 - n))) (.dma s.sem) ((View.wordExact_bits rfl).reshape _ _)
      ((View.wordExact_bits rfl).reshape _ _) ⟨Or.inl rfl, trivial⟩) fun _ => r) n

/-- The same copies, waited for. -/
def waits {k : BitVec 32} (h : InB i k) (p : ℕ) (s : DmaSems sig S_) (n : ℕ) (K : PG F i α) : PG F i α :=
  Nat.rec (motive := fun _ => PG F i α) K
    (fun n r => .op (.waitDma2 s.sem (ttRow h (31 - n)) (inRow p (31 - n)) ((View.wordExact_bits rfl).reshape _ _)
      ((View.wordExact_bits rfl).reshape _ _)) fun _ => r) n

/-- The copy of a transposed block out of slot `p`, started, -/
def outStart {k : BitVec 32} (h : InB i k) (p : ℕ) (s : DmaSems sig S_) (K : PG F i α) : PG F i α :=
  .op (.enqueueDma (stBlk p) (.here (pdBlk h)) (.dma s.sem) ((View.wordExact_bits rfl).reshape _ _)
      ((View.wordExact_bits rfl).reshape _ _) ⟨Or.inl rfl, trivial⟩) fun _ => K

/-- and waited for. -/
def outWait {k : BitVec 32} (h : InB i k) (p : ℕ) (s : DmaSems sig S_) (K : PG F i α) : PG F i α :=
  .op (.waitDma2 s.sem (stBlk p) (pdBlk h) ((View.wordExact_bits rfl).reshape _ _) ((View.wordExact_bits rfl).reshape _ _)) fun _ => K

/-- A schedule of loads (`true`) and stores (`false`): a load's value joins a queue, a store takes the queue's head. Loads and
    stores are numbered from `r` and from `w`. -/
def sched (load : ℕ → (Vec F S16 .f32 → PG F i α) → PG F i α) (store : ℕ → Vec F S16 .f32 → PG F i α → PG F i α) (K : PG F i α) (l : List Bool) :
    ℕ → ℕ → List (Vec F S16 .f32) → PG F i α :=
  List.rec (motive := fun _ => ℕ → ℕ → List (Vec F S16 .f32) → PG F i α) (fun _ _ _ => K)
    (fun b _ rest r w q => cond b (load r fun v => rest (r + 1) w (q ++ [v]))
      (List.rec (motive := fun _ => PG F i α) K (fun v q' _ => store w v (rest r (w + 1) q')) q)) l

/-- Twenty-three loads, then a load and a store in turn, then the stores that are left. -/
def plan (n : ℕ) : List Bool :=
  Nat.rec (motive := fun _ => List Bool) (Nat.rec (motive := fun _ => List Bool) (Nat.rec (motive := fun _ => List Bool) [] (fun _ l => false :: l) 23)
    (fun _ l => true :: false :: l) n) (fun _ l => true :: l) 23

/-- The lanes' numbers, and the same raised by sixteen. -/
abbrev lanesW : IVec S16 32 := iota .scVector S16 32 [0] iota_S16_d0_w32_scVector
abbrev rowsW (r : ℕ) : IVec S16 32 := cond (Nat.beq (r % 2) 0) lanesW (addi lanesW (broadcast S16 16#32))
abbrev colW (r : ℕ) : IVec S16 32 := broadcast S16 (BitVec.ofNat 32 (r / 2))

/-- Gather `r` of the transposition of slot `p`, and store `w`. -/
def gat (p : ℕ) (r : ℕ) (K : Vec F S16 .f32 → PG F i α) : PG F i α :=
  .op (.assume (k0_chk1 (rowsW r) (colW r)) (k0_chk1.dec (rowsW r) (colW r))) fun h =>
    .op (.load (inBlk p) (.whole S32x129) (View.loadsAt_whole (View.loads_vmem h_S32x129))) fun f =>
      K (loadIdx f ![rowsW r, colW r] (k0_idx1_inb (rowsW r) (colW r) h.down))

def put (p : ℕ) (w : ℕ) (v : Vec F S16 .f32) (K : PG F i α) : PG F i α :=
  .op (.load (stBlk p) (Rect.unit (s := S32x128) ![w / 8 % 32, 16 * (w % 8)] S1x16.size (grp_inb w)).toLoadRect (View.loadsAt_vmem h_S1x16)) fun _ =>
    .op (.store (stBlk p) (Rect.unit (s := S32x128) ![w / 8 % 32, 16 * (w % 8)] S1x16.size (grp_inb w)) (shapeCast S1x16 v shapeCasts_S16_S1x16)
      Finset.univ (View.stores_vmem_bits_univ h_S1x16 rfl) (.inl rfl)) fun _ => K

end

/-- One slot's half of a trip. -/
def half {i : grid0.Coords} {k k' : BitVec 32} (b : Bool) (h : InB i k) (h' : InB i k') (p : ℕ) (s so : DmaSems sig S_) (K : PG F i Unit) : PG F i Unit :=
  waits h p s 32 (cond b (outWait h p so (sched (gat p) (put p) (outStart h p so (starts h' p s 32 K)) (plan 233) 0 0 []))
    (sched (gat p) (put p) (outStart h p so (starts h' p s 32 K)) (plan 233) 0 0 []))

/-- A trip of the loop; `b` says whether it is a later one than the first. -/
def trip (b : Bool) (i : grid0.Coords) (t : Fin k0_t1_loop.trips) : PG F i Unit :=
  half b (inBk i t).1.1 (inBk i t).2.1 0 cc0_scratch3 cc0_scratch5
    (half b (inBk i t).1.2 (inBk i t).2.2 1 cc0_scratch4 cc0_scratch6 (.ret ⟨⟩))

end Cert.Proof.Kern
-- ==== Proof.Geo.lean ====
/-
  The pieces of the buffers that a tile of the detranspose kernel names: which elements each piece holds, and what the
  copies, the gathers and the stores put where.
-/
module

public import proofs.«01_k».proof.Proof.Det
public import Idealize.ShloMosaic.Lib.PointwiseCore
public import Idealize.ShloMosaic.Lib.ValueLayout

@[expose] public section

noncomputable section

namespace Cert.Proof.Kern

open Cert.KernelIdeal Cert.KernelIdeal.Facts₀ Cert.KernelIdeal.Facts

open Idealize.ShloMosaic
open Idealize.SL.Sem

/-! ## A squeeze's index map -/

theorem rsh13 {a : ℕ} (h : (⟨1, ![a]⟩ : Shape).numel = (⟨3, ![1, 1, a]⟩ : Shape).numel) (x : (⟨1, ![a]⟩ : Shape).Idx) :
    Shape.reshapeEquiv h x = ix3 (⟨0, Nat.one_pos⟩ : Fin 1) (⟨0, Nat.one_pos⟩ : Fin 1) (x 0 : Fin a) :=
  Shape.reshapeEquiv_eq_of_rowMajor h (by
    refine (Shape.rowMajor_val_three _).trans (Eq.trans ?_ (Shape.rowMajor_val_one _).symm)
    show ((0 * 1 + 0) * a + (x 0).val) = (x 0).val
    simp only [Nat.zero_mul, Nat.zero_add])

theorem rsh12 {a : ℕ} (h : (⟨1, ![a]⟩ : Shape).numel = (⟨2, ![1, a]⟩ : Shape).numel) (x : (⟨1, ![a]⟩ : Shape).Idx) :
    Shape.reshapeEquiv h x = ix2 (⟨0, Nat.one_pos⟩ : Fin 1) (x 0 : Fin a) :=
  Shape.reshapeEquiv_eq_of_rowMajor h (by
    refine (Shape.rowMajor_val_two _).trans (Eq.trans ?_ (Shape.rowMajor_val_one _).symm)
    show (0 * a + (x 0).val) = (x 0).val
    simp only [Nat.zero_mul, Nat.zero_add])

theorem rsh23 {a b : ℕ} (h : (⟨2, ![a, b]⟩ : Shape).numel = (⟨3, ![1, a, b]⟩ : Shape).numel) (x : (⟨2, ![a, b]⟩ : Shape).Idx) :
    Shape.reshapeEquiv h x = ix3 (⟨0, Nat.one_pos⟩ : Fin 1) (x 0 : Fin a) (x 1 : Fin b) :=
  Shape.reshapeEquiv_eq_of_rowMajor h (by
    refine (Shape.rowMajor_val_three _).trans (Eq.trans ?_ (Shape.rowMajor_val_two _).symm)
    show ((0 * a + (x 0).val) * b + (x 1).val) = (x 0).val * b + (x 1).val
    simp only [Nat.zero_mul, Nat.zero_add])

variable [Cert.KernelIdeal.Facts]

theorem inRow_emb (p e : ℕ) (x : S128.Idx) : (((inRow p e).view.emb x : S2x32x129.Idx) 0).val = p % 2
    ∧ (((inRow p e).view.emb x : S2x32x129.Idx) 1).val = e % 32 ∧ (((inRow p e).view.emb x : S2x32x129.Idx) 2).val = (x 0).val := by
  refine ⟨?_, ?_, ?_⟩
  · exact Eq.trans (congrArg (fun z : (⟨3, ![1, 1, 128]⟩ : Shape).Idx => p % 2 + 1 * (z 0).val) (rsh13 (a := 128) (by decide) x)) (by show p % 2 + 1 * 0 = _; omega)
  · exact Eq.trans (congrArg (fun z : (⟨3, ![1, 1, 128]⟩ : Shape).Idx => e % 32 + 1 * (z 1).val) (rsh13 (a := 128) (by decide) x)) (by show e % 32 + 1 * 0 = _; omega)
  · exact Eq.trans (congrArg (fun z : (⟨3, ![1, 1, 128]⟩ : Shape).Idx => 0 + 1 * (z 2).val) (rsh13 (a := 128) (by decide) x)) (by show 0 + 1 * (x 0).val = _; omega)

theorem inBlk_emb (p : ℕ) (x : S32x129.Idx) : (((inBlk p).view.emb x : S2x32x129.Idx) 0).val = p % 2
    ∧ (((inBlk p).view.emb x : S2x32x129.Idx) 1).val = (x 0).val ∧ (((inBlk p).view.emb x : S2x32x129.Idx) 2).val = (x 1).val := by
  refine ⟨?_, ?_, ?_⟩
  · exact Eq.trans (congrArg (fun z : (⟨3, ![1, 32, 129]⟩ : Shape).Idx => p % 2 + 1 * (z 0).val) (rsh23 (a := 32) (b := 129) (by decide) x)) (by show p % 2 + 1 * 0 = _; omega)
  · exact Eq.trans (congrArg (fun z : (⟨3, ![1, 32, 129]⟩ : Shape).Idx => 0 + 1 * (z 1).val) (rsh23 (a := 32) (b := 129) (by decide) x)) (by show 0 + 1 * (x 0).val = _; omega)
  · exact Eq.trans (congrArg (fun z : (⟨3, ![1, 32, 129]⟩ : Shape).Idx => 0 + 1 * (z 2).val) (rsh23 (a := 32) (b := 129) (by decide) x)) (by show 0 + 1 * (x 1).val = _; omega)

theorem stBlk_emb (p : ℕ) (x : S32x128.Idx) : (((stBlk p).view.emb x : S2x32x128.Idx) 0).val = p % 2
    ∧ (((stBlk p).view.emb x : S2x32x128.Idx) 1).val = (x 0).val ∧ (((stBlk p).view.emb x : S2x32x128.Idx) 2).val = (x 1).val := by
  refine ⟨?_, ?_, ?_⟩
  · exact Eq.trans (congrArg (fun z : (⟨3, ![1, 32, 128]⟩ : Shape).Idx => p % 2 + 1 * (z 0).val) (rsh23 (a := 32) (b := 128) (by decide) x)) (by show p % 2 + 1 * 0 = _; omega)
  · exact Eq.trans (congrArg (fun z : (⟨3, ![1, 32, 128]⟩ : Shape).Idx => 0 + 1 * (z 1).val) (rsh23 (a := 32) (b := 128) (by decide) x)) (by show 0 + 1 * (x 0).val = _; omega)
  · exact Eq.trans (congrArg (fun z : (⟨3, ![1, 32, 128]⟩ : Shape).Idx => 0 + 1 * (z 2).val) (rsh23 (a := 32) (b := 128) (by decide) x)) (by show 0 + 1 * (x 1).val = _; omega)

/-- The field of a block, where it starts in the transposed tables, and where in the packed table. -/
abbrev fldN (i : grid0.Coords) (k : BitVec 32) : ℕ := (fldW (blkW i k)).toNat
abbrev colN (i : grid0.Coords) (k : BitVec 32) : ℕ := (Scalar.muli (numW (blkW i k)) 128#32).toNat
abbrev rowN (i : grid0.Coords) (k : BitVec 32) : ℕ := (Scalar.muli 32#32 (numW (blkW i k))).toNat

theorem col_row {i : grid0.Coords} {k : BitVec 32} (h : InB i k) : colN i k = 4 * rowN i k := by
  have h1 := h.2.1
  have h2 := h.2.2
  unfold colN rowN
  generalize numW (blkW i k) = n at h1 h2 ⊢
  have hn := n.isLt
  simp only [Scalar.muli, IntOp.muli, BitVec.toNat_mul, BitVec.toNat_ofNat] at h1 h2 ⊢
  omega

section
variable {i : grid0.Coords} {k : BitVec 32} (h : InB i k)

theorem ttRow_emb (e : ℕ) (x : S128.Idx) : (((ttRow h e).view.emb x : S26x32x100000.Idx) 0).val = fldN i k
    ∧ (((ttRow h e).view.emb x : S26x32x100000.Idx) 1).val = e % 32 ∧ (((ttRow h e).view.emb x : S26x32x100000.Idx) 2).val = colN i k + (x 0).val := by
  refine ⟨?_, ?_, ?_⟩
  · exact Eq.trans (congrArg (fun z : (⟨3, ![1, 1, 128]⟩ : Shape).Idx => fldN i k + 1 * (z 0).val) (rsh13 (a := 128) (by decide) x)) (by show fldN i k + 1 * 0 = _; omega)
  · exact Eq.trans (congrArg (fun z : (⟨3, ![1, 1, 128]⟩ : Shape).Idx => e % 32 + 1 * (z 1).val) (rsh13 (a := 128) (by decide) x)) (by show e % 32 + 1 * 0 = _; omega)
  · exact Eq.trans (congrArg (fun z : (⟨3, ![1, 1, 128]⟩ : Shape).Idx => colN i k + 1 * (z 2).val) (rsh13 (a := 128) (by decide) x)) (by show colN i k + 1 * (x 0).val = _; omega)

theorem pdBlk_emb (x : S32x128.Idx) : (((pdBlk h).view.emb x : S26x25000x128.Idx) 0).val = fldN i k
    ∧ (((pdBlk h).view.emb x : S26x25000x128.Idx) 1).val = rowN i k + (x 0).val ∧ (((pdBlk h).view.emb x : S26x25000x128.Idx) 2).val = (x 1).val := by
  refine ⟨?_, ?_, ?_⟩
  · exact Eq.trans (congrArg (fun z : (⟨3, ![1, 32, 128]⟩ : Shape).Idx => fldN i k + 1 * (z 0).val) (rsh23 (a := 32) (b := 128) (by decide) x)) (by show fldN i k + 1 * 0 = _; omega)
  · exact Eq.trans (congrArg (fun z : (⟨3, ![1, 32, 128]⟩ : Shape).Idx => rowN i k + 1 * (z 1).val) (rsh23 (a := 32) (b := 128) (by decide) x)) (by show rowN i k + 1 * (x 0).val = _; omega)
  · exact Eq.trans (congrArg (fun z : (⟨3, ![1, 32, 128]⟩ : Shape).Idx => 0 + 1 * (z 2).val) (rsh23 (a := 32) (b := 128) (by decide) x)) (by show 0 + 1 * (x 1).val = _; omega)

end

/-! ## The elements of the pieces -/

theorem idx3_ext {s0 s1 s2 : ℕ} {x y : (⟨3, ![s0, s1, s2]⟩ : Shape).Idx} (h0 : (x 0).val = (y 0).val) (h1 : (x 1).val = (y 1).val)
    (h2 : (x 2).val = (y 2).val) : x = y := by
  funext a; apply Fin.ext
  match a with
  | 0 => exact h0
  | 1 => exact h1
  | 2 => exact h2

/-- Slot `p` of the scratch that blocks arrive in, and row `e` of it with the word no copy writes. -/
def slotI (p : ℕ) : Finset S2x32x129.Idx := Finset.univ.filter fun x => (x 0).val = p % 2
def rowI (p e : ℕ) : Finset S2x32x129.Idx := Finset.univ.filter fun x => (x 0).val = p % 2 ∧ (x 1).val = e % 32

/-- Slot `p` of the scratch that transposed blocks leave from. -/
def slotS (p : ℕ) : Finset S2x32x128.Idx := Finset.univ.filter fun x => (x 0).val = p % 2

theorem mem_slotI {p : ℕ} {x : S2x32x129.Idx} : x ∈ slotI p ↔ (x 0).val = p % 2 := by simp [slotI]
theorem mem_rowI {p e : ℕ} {x : S2x32x129.Idx} : x ∈ rowI p e ↔ (x 0).val = p % 2 ∧ (x 1).val = e % 32 := by simp [rowI]
theorem mem_slotS {p : ℕ} {x : S2x32x128.Idx} : x ∈ slotS p ↔ (x 0).val = p % 2 := by simp [slotS]

theorem slotI_rows (p : ℕ) : slotI p = (Finset.univ : Finset (Fin 32)).biUnion fun e => rowI p e.val := by
  ext x
  have hx : (x 1).val < 32 := (x 1).isLt
  simp only [mem_slotI, Finset.mem_biUnion, Finset.mem_univ, mem_rowI]
  constructor
  · intro h; exact ⟨⟨(x 1).val, hx⟩, trivial, h, (Nat.mod_eq_of_lt hx).symm⟩
  · rintro ⟨e, -, h, -⟩; exact h

theorem rowI_disj (p : ℕ) : ∀ t ∈ (Finset.univ : Finset (Fin 32)), ∀ t' ∈ (Finset.univ : Finset (Fin 32)), t ≠ t' → Disjoint (rowI p t.val) (rowI p t'.val) := by
  intro t _ t' _ hne
  refine Finset.disjoint_left.mpr fun x hx hx' => hne (Fin.ext ?_)
  have h := (mem_rowI.mp hx).2
  have h' := (mem_rowI.mp hx').2
  have := t.isLt; have := t'.isLt
  omega

theorem inRow_sub (p e : ℕ) : (inRow p e).view.set ⊆ rowI p e := by
  intro x hx
  obtain ⟨y, -, rfl⟩ := Finset.mem_map.mp hx
  obtain ⟨h0, h1, -⟩ := inRow_emb p e y
  exact mem_rowI.mpr ⟨h0, h1⟩

theorem inBlk_set (p : ℕ) : (inBlk p).view.set ⊆ slotI p := by
  intro x hx
  obtain ⟨y, -, rfl⟩ := Finset.mem_map.mp hx
  exact mem_slotI.mpr (inBlk_emb p y).1

theorem stBlk_set (p : ℕ) : (stBlk p).view.set = slotS p := by
  ext x
  constructor
  · intro hx
    obtain ⟨y, -, rfl⟩ := Finset.mem_map.mp hx
    exact mem_slotS.mpr (stBlk_emb p y).1
  · intro hx
    refine Finset.mem_map.mpr ⟨(ix2 (x 1) (x 2) : S32x128.Idx), Finset.mem_univ _, ?_⟩
    obtain ⟨h0, h1, h2⟩ := stBlk_emb p (ix2 (x 1) (x 2))
    exact idx3_ext (h0.trans (mem_slotS.mp hx).symm) h1 h2

section
variable {i : grid0.Coords} {k : BitVec 32} (h : InB i k)

theorem ttRow_disj : ∀ t ∈ (Finset.univ : Finset (Fin 32)), ∀ t' ∈ (Finset.univ : Finset (Fin 32)), t ≠ t' →
    Disjoint (ttRow h t.val).view.set (ttRow h t'.val).view.set := by
  intro t _ t' _ hne
  refine Finset.disjoint_left.mpr fun x hx hx' => hne (Fin.ext ?_)
  obtain ⟨y, -, rfl⟩ := Finset.mem_map.mp hx
  obtain ⟨y', -, hy⟩ := Finset.mem_map.mp hx'
  have e1 := (ttRow_emb h t.val y).2.1
  have e2 := (ttRow_emb h t'.val y').2.1
  rw [hy] at e2
  have := t.isLt; have := t'.isLt
  omega

/-- The rows of the block, in the transposed tables. -/
def ttSet : Finset S26x32x100000.Idx := (Finset.univ : Finset (Fin 32)).biUnion fun e => (ttRow h e.val).view.set

/-- The words of the packed table that the block fills. -/
def blkS (i : grid0.Coords) (k : BitVec 32) : Finset S26x25000x128.Idx :=
  Finset.univ.filter fun x => (x 0).val = fldN i k ∧ rowN i k ≤ (x 1).val ∧ (x 1).val < rowN i k + 32

theorem mem_blkS {i : grid0.Coords} {k : BitVec 32} {x : S26x25000x128.Idx} :
    x ∈ blkS i k ↔ (x 0).val = fldN i k ∧ rowN i k ≤ (x 1).val ∧ (x 1).val < rowN i k + 32 := by simp [blkS]

theorem blkS_sub : blkS i k ⊆ (pdBlk h).view.set := by
  intro x hx
  obtain ⟨h0, h1, h2⟩ := mem_blkS.mp hx
  have hy : (x 1).val - rowN i k < 32 := by omega
  refine Finset.mem_map.mpr ⟨(ix2 ⟨(x 1).val - rowN i k, hy⟩ (x 2) : S32x128.Idx), Finset.mem_univ _, ?_⟩
  obtain ⟨e0, e1, e2⟩ := pdBlk_emb h (ix2 ⟨(x 1).val - rowN i k, hy⟩ (x 2))
  refine idx3_ext (e0.trans h0.symm) (e1.trans ?_) e2
  show rowN i k + ((x 1).val - rowN i k) = (x 1).val
  omega

end

/-! ## The values -/

variable {F : FTy → Type}

/-- Row `b` of field `a` of the transposed tables, at `c` (each modulo its bound, so that it is defined for every number). -/
def ttAt (tt : S26x32x100000.Idx → Elt F .f32) (a b c : ℕ) : Elt F .f32 :=
  tt (ix3 (⟨a % 26, Nat.mod_lt _ (by decide)⟩ : Fin 26) (⟨b % 32, Nat.mod_lt _ (by decide)⟩ : Fin 32) (⟨c % 100000, Nat.mod_lt _ (by decide)⟩ : Fin 100000))

theorem ttAt_eq {tt : S26x32x100000.Idx → Elt F .f32} {a b c : ℕ} {x : S26x32x100000.Idx} (h0 : (x 0).val = a) (h1 : (x 1).val = b)
    (h2 : (x 2).val = c) : tt x = ttAt tt a b c := by
  have hx0 : (x 0).val < 26 := (x 0).isLt
  have hx1 : (x 1).val < 32 := (x 1).isLt
  have hx2 : (x 2).val < 100000 := (x 2).isLt
  subst h0 h1 h2
  refine congrArg tt (idx3_ext ?_ ?_ ?_)
  · exact (Nat.mod_eq_of_lt hx0).symm
  · exact (Nat.mod_eq_of_lt hx1).symm
  · exact (Nat.mod_eq_of_lt hx2).symm

/-- The packed table: four embeddings to a row. -/
def packed (tt : S26x32x100000.Idx → Elt F .f32) : S26x25000x128.Idx → Elt F .f32 :=
  fun x => ttAt tt (x 0).val ((x 2).val % 32) (4 * (x 1).val + (x 2).val / 32)

/-- A slot holds the block that starts at `c` in field `a`. -/
def InGood (tt : S26x32x100000.Idx → Elt F .f32) (a c p : ℕ) (g : S2x32x129.Idx → Elt F .f32) : Prop :=
  ∀ x : S2x32x129.Idx, (x 0).val = p % 2 → (x 2).val < 128 → g x = ttAt tt a (x 1).val (c + (x 2).val)

/-- The first `w` groups of sixteen words of a slot hold the block's transpose. -/
def StGood (tt : S26x32x100000.Idx → Elt F .f32) (a c p w : ℕ) (g : S2x32x128.Idx → Elt F .f32) : Prop :=
  ∀ x : S2x32x128.Idx, (x 0).val = p % 2 → 8 * (x 1).val + (x 2).val / 16 < w → g x = ttAt tt a ((x 2).val % 32) (c + 4 * (x 1).val + (x 2).val / 32)

/-- The sixteen words that gather `r` finds. -/
def GV (tt : S26x32x100000.Idx → Elt F .f32) (a c r : ℕ) (v : Vec F S16 .f32) : Prop :=
  ∀ x : S16.Idx, v x = ttAt tt a ((x 0).val + 16 * (r % 2)) (c + r / 2)

theorem row_written {i : grid0.Coords} {k : BitVec 32} (h : InB i k) (p e : ℕ) (tt : S26x32x100000.Idx → Elt F .f32) (f : S2x32x129.Idx → Elt F .f32)
    {x : S2x32x129.Idx} (hx : x ∈ rowI p e) (hc : (x 2).val < 128) :
    (inRow p e).view.write (Elt F) f ((ReadAs.same : ReadAs (Elt F) S128 .f32 S128 .f32).apply ((ttRow h e).view.read (Elt F) tt)) Finset.univ x
      = ttAt tt (fldN i k) (x 1).val (colN i k + (x 2).val) := by
  obtain ⟨h0, h1⟩ := mem_rowI.mp hx
  have hy : x = (inRow p e).view.emb (ix1 ⟨(x 2).val, hc⟩ : S128.Idx) := by
    obtain ⟨e0, e1, e2⟩ := inRow_emb p e (ix1 ⟨(x 2).val, hc⟩)
    exact idx3_ext (h0.trans e0.symm) (h1.trans e1.symm) e2.symm
  conv_lhs => rw [hy]
  rw [View.write_emb_of_mem _ _ (Finset.mem_univ _)]
  obtain ⟨e0, e1, e2⟩ := ttRow_emb h e (ix1 ⟨(x 2).val, hc⟩)
  rw [h1]
  exact ttAt_eq e0 e1 e2

theorem lanesW_apply (x : S16.Idx) : (lanesW x).toNat = (x 0).val := by
  have hx : (x 0).val < 16 := (x 0).isLt
  simp only [iota, List.foldl_cons, List.foldl_nil, BitVec.toNat_ofNat]
  show (0 * _ + (x 0).val) % 2 ^ 32 = _
  omega

theorem rowsW_apply (r : ℕ) (x : S16.Idx) : (rowsW r x).toNat = (x 0).val + 16 * (r % 2) := by
  have hx : (x 0).val < 16 := (x 0).isLt
  unfold rowsW
  rcases Nat.mod_two_eq_zero_or_one r with h | h
  · rw [h]; show (lanesW x).toNat = _; rw [lanesW_apply]; omega
  · rw [h]; show (IntOp.addi (lanesW x) 16#32).toNat = _
    simp only [IntOp.addi, BitVec.toNat_add, lanesW_apply, BitVec.toNat_ofNat]
    omega

theorem colW_apply {r : ℕ} (hr : r < 512) (x : S16.Idx) : (colW r x).toNat = r / 2 := by
  show (BitVec.ofNat 32 (r / 2)).toNat = _
  rw [BitVec.toNat_ofNat]; omega

theorem chk_gat {r : ℕ} (hr : r < 256) : k0_chk1 (rowsW r) (colW r) := by
  intro a x
  have hx : (x 0).val < 16 := (x 0).isLt
  match a with
  | 0 => show (rowsW r x).toNat < 32; rw [rowsW_apply]; omega
  | 1 => show (colW r x).toNat < 129; rw [colW_apply (by omega)]; omega

theorem gat_val {tt : S26x32x100000.Idx → Elt F .f32} {a c p : ℕ} {g : S2x32x129.Idx → Elt F .f32} (hg : InGood tt a c p g) {r : ℕ} (hr : r < 256)
    (hin : ∀ a x, ((![rowsW r, colW r] : Fin 2 → IVec S16 32) a x).toNat < S32x129.size a) :
    GV tt a c r (loadIdx (F := F) (e := .f32) (s := S32x129) ((inBlk p).view.readAt (Elt F) (.whole S32x129) g) ![rowsW r, colW r] hin) := by
  intro x
  have hx : (x 0).val < 16 := (x 0).isLt
  refine (View.readAt_apply _ _ _).trans ((View.read_apply _ _).trans ((cast_eq _ _).trans ?_))
  obtain ⟨e0, e1, e2⟩ := inBlk_emb p ((LoadRect.whole S32x129).idx fun a => ⟨((![rowsW r, colW r] : Fin 2 → IVec S16 32) a x).toNat, hin a x⟩)
  have f1 : (((LoadRect.whole S32x129).idx fun a => ⟨((![rowsW r, colW r] : Fin 2 → IVec S16 32) a x).toNat, hin a x⟩) 0).val = (x 0).val + 16 * (r % 2) := by
    rw [← rowsW_apply r x]
    show 0 + 1 * (rowsW r x).toNat = _
    omega
  have f2 : (((LoadRect.whole S32x129).idx fun a => ⟨((![rowsW r, colW r] : Fin 2 → IVec S16 32) a x).toNat, hin a x⟩) 1).val = r / 2 := by
    rw [← colW_apply (show r < 512 by omega) x]
    show 0 + 1 * (colW r x).toNat = _
    omega
  refine (hg _ e0 ?_).trans ?_
  · rw [e2, f2]; omega
  · rw [e1, e2, f1, f2]

/-- A register of sixteen lanes, stored as a row. -/
theorem lane_cast (v : Vec F S16 .f32) (j : Fin 16) : shapeCast S1x16 v shapeCasts_S16_S1x16 (ix2 0 j) = v (ix1 j) := by
  pointwise

/-- One group more is written. -/
theorem put_good {tt : S26x32x100000.Idx → Elt F .f32} {a c p w : ℕ} (hw : w < 256) {v : Vec F S16 .f32} (hv : GV tt a c w v)
    {g : S2x32x128.Idx → Elt F .f32} (hg : StGood tt a c p w g) :
    StGood tt a c p (w + 1) (((stBlk p).access (Rect.unit (s := S32x128) ![w / 8 % 32, 16 * (w % 8)] S1x16.size (grp_inb w))).write (Elt F) g
      (shapeCast S1x16 v shapeCasts_S16_S1x16) Finset.univ) := by
  intro x hx0 hx
  have hx1 : (x 1).val < 32 := (x 1).isLt
  have hx2 : (x 2).val < 128 := (x 2).isLt
  by_cases hr : (x 1).val = w / 8 ∧ (x 2).val / 16 = w % 8
  · have hy : x = ((stBlk p).access (Rect.unit (s := S32x128) ![w / 8 % 32, 16 * (w % 8)] S1x16.size (grp_inb w))).emb
        (ix2 0 ⟨(x 2).val % 16, Nat.mod_lt _ (by decide)⟩ : S1x16.Idx) := by
      obtain ⟨e0, e1, e2⟩ := stBlk_emb p ((Rect.unit (s := S32x128) ![w / 8 % 32, 16 * (w % 8)] S1x16.size (grp_inb w)).emb
        (ix2 0 ⟨(x 2).val % 16, Nat.mod_lt _ (by decide)⟩ : S1x16.Idx))
      refine idx3_ext (hx0.trans e0.symm) (Eq.trans ?_ e1.symm) (Eq.trans ?_ e2.symm)
      · show (x 1).val = w / 8 % 32 + 1 * 0; omega
      · show (x 2).val = 16 * (w % 8) + 1 * ((x 2).val % 16); omega
    conv_lhs => rw [hy]
    rw [View.write_emb_of_mem _ _ (Finset.mem_univ _)]
    refine (lane_cast v _).trans ((hv _).trans ?_)
    show ttAt tt a ((x 2).val % 16 + 16 * (w % 2)) (c + w / 2) = _
    congr 1 <;> omega
  · rw [View.write_of_not_mem]
    · exact hg x hx0 (by omega)
    · intro hm
      obtain ⟨y, -, hy⟩ := Finset.mem_map.mp hm
      obtain ⟨-, e1, e2⟩ := stBlk_emb p ((Rect.unit (s := S32x128) ![w / 8 % 32, 16 * (w % 8)] S1x16.size (grp_inb w)).emb y)
      have h1 : (x 1).val = w / 8 % 32 + 1 * (y 0).val := by rw [← hy]; exact e1
      have h2 : (x 2).val = 16 * (w % 8) + 1 * (y 1).val := by rw [← hy]; exact e2
      have hy0 : (y 0).val < 1 := (y 0).isLt
      have hy1 : (y 1).val < 16 := (y 1).isLt
      exact hr ⟨by omega, by omega⟩

/-- What a copy out of a slot writes is the packed table's value. -/
theorem out_adm {i : grid0.Coords} {k : BitVec 32} (h : InB i k) (p : ℕ) {tt : S26x32x100000.Idx → Elt F .f32}
    {g : S2x32x128.Idx → Elt F .f32} (hg : StGood tt (fldN i k) (colN i k) p 256 g) :
    (pdBlk h).view.Admitted (Elt F) (fun x => some (packed tt x)) ((stBlk p).view.read (Elt F) g) Finset.univ := by
  intro x _ u hu
  obtain ⟨e0, e1, e2⟩ := pdBlk_emb h x
  obtain ⟨s0, s1, s2⟩ := stBlk_emb p x
  have hx0 : (x 0).val < 32 := (x 0).isLt
  have hx1 : (x 1).val < 128 := (x 1).isLt
  have hu' : some (packed tt ((pdBlk h).view.emb x)) = some u := hu
  rw [← Option.some.inj hu']
  refine (View.read_apply _ _).trans ((cast_eq _ _).trans ((hg _ s0 ?_).trans ?_))
  · rw [s1, s2]; omega
  · unfold packed
    rw [s1, s2, e0, e1, e2, col_row h]
    congr 1; omega

end Cert.Proof.Kern
-- ==== Proof.Sched.lean ====
/-
  A schedule of gathers and stores, run: with `w` stores done and the values of gathers `w` to `r - 1` waiting, it stores
  them in order, whatever the interleaving, as long as no store comes before its gather (`ok`).
-/
module

public import proofs.«01_k».proof.Proof.Det
public import Idealize.ShloMosaic.Lib.Tactic

@[expose] public section

noncomputable section

namespace Cert.Proof.Kern

open Cert.KernelIdeal

open Idealize.ShloMosaic
open Idealize.SL Idealize.SL.RA Idealize.SL.BI
open scoped Idealize.SL.BI
open Idealize.SL.BI.BIBase Idealize.SL.BI.Laws Idealize.SL.ProofMode Idealize.SL.Sem

/-- The schedule makes `N` gathers and `N` stores, each store after its gather. -/
def ok (N : ℕ) : List Bool → ℕ → ℕ → Bool
  | [], _, w => Nat.beq w N
  | true :: l, r, w => Nat.blt r N && ok N l (r + 1) w
  | false :: l, r, w => Nat.blt w r && Nat.blt w N && ok N l r (w + 1)

theorem ok_plan : ok 256 (plan 233) 0 0 = true ∧ ok 64 (plan 41) 0 0 = true := by decide +kernel

variable [Cert.KernelIdeal.Facts] {F : FTy → Type} {i : grid0.Coords} {α : Type}

/-- The waiting values are those of gathers `w`, `w + 1`, … -/
def Wait (G : ℕ → Vec F S16 .f32 → Prop) : ℕ → List (Vec F S16 .f32) → Prop
  | _, [] => True
  | w, v :: q => G w v ∧ Wait G (w + 1) q

theorem Wait.snoc {G : ℕ → Vec F S16 .f32 → Prop} {v : Vec F S16 .f32} : ∀ {q : List (Vec F S16 .f32)} {w : ℕ}, Wait G w q → G (w + q.length) v → Wait G w (q ++ [v])
  | [], _, _, hv => ⟨hv, trivial⟩
  | _ :: q, w, h, hv => ⟨h.1, Wait.snoc (q := q) h.2 (by rw [Nat.add_right_comm, Nat.add_assoc]; exact hv)⟩

/-- `X p` says that program `p` runs from state `w`. -/
theorem sched_run {X : ℕ → PG F i α → Prop} {G : ℕ → Vec F S16 .f32 → Prop} {N : ℕ}
    {load : ℕ → (Vec F S16 .f32 → PG F i α) → PG F i α} {store : ℕ → Vec F S16 .f32 → PG F i α → PG F i α} {K : PG F i α}
    (hload : ∀ w r k, r < N → (∀ v, G r v → X w (k v)) → X w (load r k))
    (hstore : ∀ w v k, w < N → G w v → X (w + 1) k → X w (store w v k)) (hK : X N K) :
    ∀ (l : List Bool) (r w : ℕ) (q : List (Vec F S16 .f32)), ok N l r w = true → Wait G w q → w + q.length = r → X w (sched load store K l r w q)
  | [], r, w, q, h, _, _ => by
    have hw : w = N := Nat.eq_of_beq_eq_true h
    subst hw
    exact hK
  | true :: l, r, w, q, h, hq, hr => by
    obtain ⟨h1, h2⟩ := Bool.and_eq_true_iff.mp h
    refine hload w r _ (by simpa using h1) fun v hv => ?_
    exact sched_run hload hstore hK l (r + 1) w (q ++ [v]) h2 (hq.snoc (by rw [hr]; exact hv)) (by rw [List.length_append]; show w + (q.length + 1) = r + 1; omega)
  | false :: l, r, w, q, h, hq, hr => by
    obtain ⟨h1, h2⟩ := Bool.and_eq_true_iff.mp h
    obtain ⟨h3, h4⟩ := Bool.and_eq_true_iff.mp h1
    match q, hq, hr with
    | [], _, hr => exact absurd hr (by have : w < r := by simpa using h3
                                       simp only [List.length_nil]; omega)
    | v :: q, hq, hr =>
      refine hstore w v _ (by simpa using h4) hq.1 ?_
      exact sched_run hload hstore hK l r (w + 1) q h2 hq.2 (by simp only [List.length_cons] at hr; omega)

end Cert.Proof.Kern
-- ==== Proof.Marks.lean ====
/-
  Two tools for a buffer that many tiles write, some of them the same part with the same values. Its ownership is put into
  write mode, where a share is enough to write and records what has been written: the shares are dealt out and joined
  (`marks_split`, `marks_join`), and a copy on a share is issued and waited for (`wp_dmaMark`).
-/
module

public import Idealize.ShloMosaic.Lib.WriteMode
public import Idealize.ShloMosaic.Lib.Transfers
public import Idealize.ShloMosaic.Lib.ShareLeaves
public import Idealize.ShloMosaic.Lib.Tactic

@[expose] public section

noncomputable section

namespace Cert.Proof.Kern

open Idealize.ShloMosaic Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Ix : Type} [DecidableEq Ix] {Val : EltTy → Type} {Name : Type} [DecidableEq Name]
variable {U : Type} [URA U] {Lvl : Type} {emb : UEmb (WmRA nD τ sig Val) U}

local notation "𝕄" => MT nD τ sig Ix Val Name U Lvl
local notation:60 ℓ " ⇝[" I "]{" q "} " f:max " ⇒ " g:max " @ " W:max => willBeTo emb ℓ I q f g W

section Shares

variable {ℓ : Loc nD τ sig} (I : Finset (Idx ℓ)) (f : Buf Val ℓ) (g : Tgt Val ℓ)

/-- A share with nothing written yet is its halves. -/
theorem marks_halve (q : PosShare TreeShare) :
    (ℓ ⇝[I]{q} f ⇒ g @ ∅ : sProp 𝕄) ⊢ iprop((ℓ ⇝[I]{q.left} f ⇒ g @ ∅) ∗ (ℓ ⇝[I]{q.right} f ⇒ g @ ∅)) := by
  haveI : IsOp q q.left q.right := IsOp.posShare_halves q
  iintro Hb
  icases Hb with ⟨Hl, Hr⟩
  isplitl [Hl] <;> iassumption

/-- Two halves are the share, with what either has written. -/
theorem marks_double (q : PosShare TreeShare) (W W' : Finset (Idx ℓ)) :
    iprop((ℓ ⇝[I]{q.left} f ⇒ g @ W) ∗ (ℓ ⇝[I]{q.right} f ⇒ g @ W')) ⊢ (ℓ ⇝[I]{q} f ⇒ g @ (W ∪ W') : sProp 𝕄) := by
  haveI : IsOp q q.left q.right := IsOp.posShare_halves q
  iintro ⟨Hl, Hr⟩
  icombine Hl Hr as Hb
  iexact Hb

theorem marks_split : ∀ (n : ℕ) (q : PosShare TreeShare),
    (ℓ ⇝[I]{q} f ⇒ g @ ∅ : sProp 𝕄) ⊢ bigSep Finset.univ fun i : Fin (2 ^ n) => ℓ ⇝[I]{leaf n q i} f ⇒ g @ ∅
  | 0, q => Entails.of_eq (bigSep_univ_of_subsingleton (0 : Fin 1) (Φ := fun i : Fin (2 ^ 0) => (ℓ ⇝[I]{leaf 0 q i} f ⇒ g @ ∅ : sProp 𝕄))).symm
  | n + 1, q => by
    refine (marks_halve I f g q).trans (BIBase.Entails.trans (BIClass.sep_mono (marks_split n q.left) (marks_split n q.right)) (Entails.of_eq ?_))
    rw [bigSep_univ_equiv (sumEquiv n) (fun i : Fin (2 ^ (n + 1)) => (ℓ ⇝[I]{leaf (n + 1) q i} f ⇒ g @ ∅ : sProp 𝕄)), bigSep_univ_sum]
    congr 1 <;> refine bigSep_congr fun i _ => ?_
    · rw [leaf_inl]
    · rw [leaf_inr]

theorem marks_join : ∀ (n : ℕ) (q : PosShare TreeShare) (W : Fin (2 ^ n) → Finset (Idx ℓ)),
    (bigSep Finset.univ fun i : Fin (2 ^ n) => (ℓ ⇝[I]{leaf n q i} f ⇒ g @ (W i) : sProp 𝕄)) ⊢ (ℓ ⇝[I]{q} f ⇒ g @ (Finset.univ.biUnion W))
  | 0, q, W => by
    rw [show (Finset.univ.biUnion W) = W 0 from by
      rw [show (Finset.univ : Finset (Fin (2 ^ 0))) = {0} from rfl, Finset.singleton_biUnion]]
    exact Entails.of_eq (bigSep_univ_of_subsingleton (0 : Fin 1) (Φ := fun i : Fin (2 ^ 0) => (ℓ ⇝[I]{leaf 0 q i} f ⇒ g @ (W i) : sProp 𝕄)))
  | n + 1, q, W => by
    rw [bigSep_univ_equiv (sumEquiv n) (fun i : Fin (2 ^ (n + 1)) => (ℓ ⇝[I]{leaf (n + 1) q i} f ⇒ g @ (W i) : sProp 𝕄)), bigSep_univ_sum]
    have e : Finset.univ.biUnion W = (Finset.univ.biUnion fun i => W (sumEquiv n (Sum.inl i))) ∪ (Finset.univ.biUnion fun i => W (sumEquiv n (Sum.inr i))) := by
      ext x
      simp only [Finset.mem_biUnion, Finset.mem_union, Finset.mem_univ, true_and]
      constructor
      · rintro ⟨i, hi⟩
        obtain ⟨j, rfl⟩ := (sumEquiv n).surjective i
        rcases j with j | j
        · exact .inl ⟨j, hi⟩
        · exact .inr ⟨j, hi⟩
      · rintro (⟨j, h⟩ | ⟨j, h⟩)
        · exact ⟨_, h⟩
        · exact ⟨_, h⟩
    rw [e]
    refine BIBase.Entails.trans (BIClass.sep_mono (BIBase.Entails.trans (Entails.of_eq ?_) (marks_join n q.left fun i => W (sumEquiv n (Sum.inl i))))
      (BIBase.Entails.trans (Entails.of_eq ?_) (marks_join n q.right fun i => W (sumEquiv n (Sum.inr i))))) (marks_double I f g q _ _)
    · exact bigSep_congr fun i _ => by rw [leaf_inl]
    · exact bigSep_congr fun i _ => by rw [leaf_inr]

end Shares

variable [Preorder Lvl] {Λ : Labels} {defs : Defs nD τ sig Val Λ} (𝒱 : Variants) (c : Thread nD τ) (bd : Option 𝒱.V)
variable {α : Type} {sp sp' : Space} {s : Shape} {e : EltTy}

/-- A local copy to a buffer of which a share is held in write mode: it delivers the share with the copy's elements
    recorded as written, beside the source. -/
theorem wp_dmaMark (EC : UEmb Counters 𝕄) {Q : α → sProp 𝕄} [Infinite Name] [EC.LandsIn (upEmb : UEmb _ 𝕄)] {ιwm : Name}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {S : Finset (Idx (dst.view.loc c))} {qd : PosShare TreeShare} {fd : Buf Val (dst.view.loc c)} {g : Tgt Val (dst.view.loc c)}
    {W : Finset (Idx (dst.view.loc c))} (ι : Ix) (N : ℕ) (hN : dst.view.amount sm = N) (hN0 : 0 < N)
    (hS : dst.view.set ⊆ S) (hadm : dst.view.Admitted Val g (src.view.read Val fs) Finset.univ) :
    iprop(wmInv emb ιwm ∗ (src.view.loc c ↦[src.view.set]{q} fs) ∗ (dst.view.loc c ⇝[S]{qd} fd ⇒ g @ W) ∗ semVal (c, sm) 0)
      ⊢ iprop((Flight EC c sm ι N iprop((dst.view.loc c ⇝[S]{qd} fd ⇒ g @ (W ∪ dst.view.set)) ∗ (src.view.loc c ↦[src.view.set]{q} fs))
              -∗ wp frame (wpE defs 𝒱 c bd) Set.univ (k ⟨⟩) Q)
          -∗ wp frame (wpE defs 𝒱 c bd) Set.univ (.op (.enqueueDma src (.here dst) sm hsrc hdst hsem) k) Q) := by
  iintro ⟨Hwm, Hs, Hd, Hv⟩ Hk
  imod (flight_alloc EC hN0 iprop((dst.view.loc c ⇝[S]{qd} fd ⇒ g @ (W ∪ dst.view.set))
      ∗ (src.view.loc c ↦[src.view.set]{q} fs)) (g := (c, sm))) $$ Hv with ⟨%γ, %δ, %κ, #Hinv, Hγ, Hδ⟩
  iapply (wp_enqueueDma 𝒱 c bd Set.univ ι N hN) $$ [Hwm Hs Hd] [Hγ]
  · isplitl [Hs]; · iexact Hs
    iapply (willBeTo_writeUpdate (emb := emb) (ιwm := ιwm) c (v := dst.view) (S := S) hS hadm)
    isplitl [Hwm] <;> iassumption
  · iapply (flight_creditUpdate EC (δ := δ))
    isplitr; · iexact Hinv
    iexact Hγ
  iintro Hcred
  iapply Hk
  iapply (flight_intro EC c (κ := κ))
  isplitr; · iexact Hinv
  isplitl [Hδ] <;> iassumption

end Cert.Proof.Kern
-- ==== Proof.DetRun.lean ====
/-
  The steps of a tile of the detranspose kernel, run one by one: the copies of a block's rows into a slot, started
  (`starts_run`) and waited for (`waits_run`), the block's transposition (`turn_run`), the copy of the transposed block into the
  packed table, started (`outStart_run`) and waited for (`outWait_run`), and one slot's half of a trip (`half_run`).
-/
module

public import proofs.«01_k».proof.Proof.Geo
public import proofs.«01_k».proof.Proof.Sched
public import proofs.«01_k».proof.Proof.Marks
public import Idealize.ShloMosaic.Lib.Batch
public import Idealize.ShloMosaic.Lib.SparseCore.Quiescent

@[expose] public section

noncomputable section

namespace Cert.Proof.Kern

open Cert.KernelIdeal Cert.KernelIdeal.Facts₀ Cert.KernelIdeal.Facts

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable [Cert.KernelIdeal.Facts] {F : FTy → Type} [FloatOps F]
variable {U : Type} [URA U] [CountersIn U] (emb : UEmb (WmRA nD τ sig (Elt F)) U)

local notation "𝕄" => MT nD τ sig (HIx 2) (Elt F) ℕ U ℕ
local notation:60 ℓ " ⇝[" I "]{" q "} " f:max " ⇒ " g:max " @ " W:max => willBeTo emb ℓ I q f g W

/-- The tile of grid point `i` on device `d`. -/
abbrev Td (d : Dev nD) (i : grid0.Coords) : Thread nD τ := V d ((i 0).castLE hcore0) ((i 1).castLE hsub0)

abbrev WPd (U : Type) [URA U] {α : Type} (d : Dev nD) (i : grid0.Coords) (p : PG F i α) (Q : α → sProp 𝕄) : sProp 𝕄 :=
  wp frame (wpE (defs₀ (F := F)) Variants.none (Td d i) none) Set.univ p Q

section
variable (d : Dev nD) (i : grid0.Coords) (O : CellTallies nD τ sig (HIx 2)) (W : Waits sig (HIx 2))

/-- What the tile owes: what it did, and the waits of its own copies. -/
abbrev OW : sProp 𝕄 := iprop(∃ W', ⌜∀ p ∈ W', p ∈ W ∨ p.2 = none⌝ ∗ owes (Td d i) O W')

theorem ow_insert {W' : Waits sig (HIx 2)} {s : DmaSem sig} (h : ∀ p ∈ W', p ∈ W ∨ p.2 = none) :
    (owes (Td d i) O (insert (SemLoc.dma s, (default : HIx 2)) W') : sProp 𝕄) ⊢ OW d i O W := by
  iintro HO
  iexists _; isplitr
  swap; · iexact HO
  ipureintro; intro p hp
  rcases Finset.mem_insert.mp hp with hp | hp; · exact .inr (hp ▸ rfl)
  exact h p hp

/-- What the wait for a row, and for a block, takes. -/
def NR : ℕ := (ibV).view.ref.dmaCredit S128 .f32
def NB : ℕ := (pdV).view.ref.dmaCredit S32x128 .f32

theorem credR (p e : ℕ) : (inRow p e).view.dmaCredit = NR := rfl
theorem credB {k : BitVec 32} (h : InB i k) : (pdBlk h).view.dmaCredit = NB := rfl

theorem NR_pos : 0 < NR := credR 0 0 ▸ View.dmaCredit_pos _ (by decide)
theorem NB_pos {k : BitVec 32} (h : InB i k) : 0 < NB := credB i h ▸ View.dmaCredit_pos _ (by decide)

abbrev ibP (p : ℕ) (g : S2x32x129.Idx → Elt F .f32) : sProp 𝕄 := iprop((ibV).view.loc (Td d i) ↦[slotI p]{fullShare} g)
abbrev sbP (p : ℕ) (g : S2x32x128.Idx → Elt F .f32) : sProp 𝕄 := iprop((sbV).view.loc (Td d i) ↦[slotS p]{fullShare} g)
abbrev ttP (q : PosShare TreeShare) (tt : S26x32x100000.Idx → Elt F .f32) : sProp 𝕄 := iprop((ttV).view.loc (Td d i) ↦[Finset.univ]{q} tt)

variable {i}
variable {k : BitVec 32} (h : InB i k) (p : ℕ) (s : DmaSems sig S_) (q : PosShare TreeShare) (tt : S26x32x100000.Idx → Elt F .f32)

/-- What the copy of row `e` delivers. -/
def Dl (f : S2x32x129.Idx → Elt F .f32) (e : Fin 32) : sProp 𝕄 :=
  iprop(((inRow p e.val).view.loc (Td d i) ↦[rowI p e.val]{fullShare}
      ((inRow p e.val).view.write (Elt F) f ((ReadAs.same : ReadAs (Elt F) S128 .f32 S128 .f32).apply ((ttRow h e.val).view.read (Elt F) tt)) Finset.univ))
    ∗ ((ttRow h e.val).view.loc (Td d i) ↦[(ttRow h e.val).view.set]{q} tt))

instance (f : S2x32x129.Idx → Elt F .f32) (e : Fin 32) : Storable (upEmb : UEmb _ 𝕄) (Dl d h p q tt f e) := by unfold Dl; infer_instance

/-- A block on its way into slot `p`. -/
def InFl : sProp 𝕄 :=
  iprop(∃ f, Batch countersEmb (Td d i) (.dma s.sem) (default : HIx 2) NR (Dl d h p q tt f) 32 0
    ∗ ((ttV).view.loc (Td d i) ↦[Finset.univ \ ttSet h]{q} tt))

end

section
variable {d : Dev nD} {i : grid0.Coords} {O : CellTallies nD τ sig (HIx 2)} {W : Waits sig (HIx 2)} {α : Type} {K : PG F i α}
variable {k : BitVec 32} {h : InB i k} {p : ℕ} {s : DmaSems sig S_} {q : PosShare TreeShare} {tt : S26x32x100000.Idx → Elt F .f32}

theorem starts_aux {R : sProp 𝕄} {Q : α → sProp 𝕄} {f : S2x32x129.Idx → Elt F .f32}
    (hk : iprop(R ∗ Batch countersEmb (Td d i) (.dma s.sem) (default : HIx 2) NR (Dl d h p q tt f) 32 0) ⊢ WPd U d i K Q) :
    ∀ n, n ≤ 32 → iprop(R ∗ (bigSep (Finset.univ.filter fun e : Fin 32 => 32 - n ≤ e.val) fun e =>
          iprop(((ibV).view.loc (Td d i) ↦[rowI p e.val]{fullShare} f) ∗ ((ttV).view.loc (Td d i) ↦[(ttRow h e.val).view.set]{q} tt)))
        ∗ Batch countersEmb (Td d i) (.dma s.sem) (default : HIx 2) NR (Dl d h p q tt f) (32 - n) 0)
      ⊢ WPd U d i (starts h p s n K) Q
  | 0, _ => by
    iintro ⟨HR, -, HB⟩
    iapply hk
    isplitl [HR]; · iexact HR
    iexact HB
  | n + 1, hn => by
    have hj : 31 - n < 32 := by omega
    have hset : (Finset.univ.filter fun e : Fin 32 => 32 - (n + 1) ≤ e.val) = insert (⟨31 - n, hj⟩ : Fin 32) (Finset.univ.filter fun e : Fin 32 => 32 - n ≤ e.val) := by
      ext e
      simp only [Finset.mem_filter, Finset.mem_univ, _root_.true_and, Finset.mem_insert, Fin.ext_iff]
      omega
    have hni : (⟨31 - n, hj⟩ : Fin 32) ∉ (Finset.univ.filter fun e : Fin 32 => 32 - n ≤ e.val) := by
      simp only [Finset.mem_filter, Finset.mem_univ, _root_.true_and]
      omega
    have e1 : 32 - (n + 1) = 31 - n := by omega
    have e2 : 31 - n + 1 = 32 - n := by omega
    rw [hset, SparseCore.bigSep_insert' hni, e1]
    have ih := starts_aux hk n (by omega)
    iintro ⟨HR, ⟨⟨Hi, Ht⟩, HS⟩, HB⟩
    iapply (wp_dmaBatch countersEmb Variants.none (Td d i) none (src := ttRow h (31 - n)) (dst := inRow p (31 - n)) (sm := .dma s.sem) (q := q) (fs := tt) (Sd := rowI p (31 - n)) (fd := f)
      (D := Dl d h p q tt f) (default : HIx 2) NR (credR p _) (inRow_sub p (31 - n)) hj (Nat.zero_le _) (Entails.of_eq rfl)) $$ [Hi Ht HB]
    · isplitl [Ht]; · iexact Ht
      isplitl [Hi]; · iexact Hi
      iexact HB
    rw [e2]
    iintro HB
    iapply ih
    isplitl [HR]; · iexact HR
    isplitl [HS]; · iexact HS
    iexact HB

theorem starts_run {R : sProp 𝕄} {Q : α → sProp 𝕄} (hk : iprop(R ∗ InFl d h p s q tt) ⊢ WPd U d i K Q) :
    iprop(R ∗ (∃ f, ibP d i p f) ∗ ttP d i q tt ∗ semVal (Td d i, .dma s.sem) 0) ⊢ WPd U d i (starts h p s 32 K) Q := by
  iintro ⟨HR, ⟨%f, Hi⟩, Ht, Hv⟩
  imod (batch_alloc' countersEmb (Td d i) (sm := .dma s.sem) (default : HIx 2) NR (Dl d h p q tt f) (E := Set.univ)) $$ Hv with HB
  have ha := starts_aux (R := iprop(R ∗ ((ttV).view.loc (Td d i) ↦[Finset.univ \ ttSet h]{q} tt))) (f := f) (h := h) (p := p) (s := s) (q := q) (tt := tt) (K := K) (Q := Q) (by
    iintro ⟨⟨HR, Hr⟩, HB⟩
    iapply hk
    isplitl [HR]; · iexact HR
    unfold InFl
    iexists f
    isplitl [HB]; · iexact HB
    iexact Hr) 32 (Nat.le_refl 32)
  have hu : (Finset.univ.filter fun e : Fin 32 => 32 - 32 ≤ e.val) = Finset.univ := by
    ext e; simp
  rw [hu, bigSep_sep'] at ha
  ihave Ht := (pointsTo_split_subset (q := q) (f := tt) (ℓ := (ttV).view.loc (Td d i)) (Finset.subset_univ (ttSet h))).1 $$ Ht
  icases Ht with ⟨Ht, Hr⟩
  ihave Ht := (Entails.of_eq (show ((ttV).view.loc (Td d i) ↦[ttSet h]{q} tt : sProp 𝕄) = _ from pointsTo_biUnion (q := q) (f := tt) (ℓ := (ttV).view.loc (Td d i)) Finset.univ (fun e : Fin 32 => (ttRow h e.val).view.set) (ttRow_disj h))) $$ Ht
  ihave Hi := (Entails.of_eq ((congrArg (fun I => ((ibV).view.loc (Td d i) ↦[I]{fullShare} f : sProp 𝕄)) (slotI_rows p)).trans
    (pointsTo_biUnion (q := fullShare) (f := f) (ℓ := (ibV).view.loc (Td d i)) Finset.univ (fun e : Fin 32 => rowI p e.val) (rowI_disj p)))) $$ Hi
  iapply ha
  isplitl [HR Hr]
  · isplitl [HR]; · iexact HR
    iexact Hr
  isplitl [Hi Ht]
  · isplitl [Hi]; · iexact Hi
    iexact Ht
  iexact HB

theorem waits_aux {R : sProp 𝕄} {Q : α → sProp 𝕄} {f : S2x32x129.Idx → Elt F .f32}
    (hk : iprop(R ∗ bigSep Finset.univ (Dl d h p q tt f) ∗ semVal (Td d i, .dma s.sem) 0 ∗ OW d i O W) ⊢ WPd U d i K Q) :
    ∀ n, n < 32 → iprop(R ∗ MayWaits (Td d i) (default : HIx 2) O
        ∗ Batch countersEmb (Td d i) (.dma s.sem) (default : HIx 2) NR (Dl d h p q tt f) 32 (NR * (31 - n)) ∗ OW d i O W)
      ⊢ WPd U d i (waits h p s (n + 1) K) Q
  | 0, _ => by
    iintro ⟨HR, #Hm, HB, ⟨%W', %hW, HO⟩⟩
    iapply (wp_waitBatchLastO countersEmb Variants.none (Td d i) none (n := 32) (dstw := inRow p 31) (srcw := ttRow h 31) (D := Dl d h p q tt f) (u := NR * 31)
      (hsrc := (View.wordExact_bits rfl).reshape _ _) (hdst := (View.wordExact_bits rfl).reshape _ _) (default : HIx 2) (credR p 31) NR_pos (by rw [← Nat.mul_succ])) $$ [HB HO]
    · isplitl [HB]; · iexact HB
      isplitl [HO]; · iexact HO
      iapply (MayWaits.elim (SemLoc.dma s.sem)) $$ Hm
    iintro ⟨HD, Hv, HO⟩
    iapply hk
    isplitl [HR]; · iexact HR
    isplitl [HD]; · iexact HD
    isplitl [Hv]; · iexact Hv
    iapply (ow_insert d i O W hW) $$ HO
  | n + 1, hn => by
    have e1 : NR * (31 - (n + 1)) + NR = NR * (31 - n) := by rw [← Nat.mul_succ]; congr 1; omega
    have ih := waits_aux hk n (by omega)
    iintro ⟨HR, #Hm, HB, ⟨%W', %hW, HO⟩⟩
    iapply (wp_waitBatchO countersEmb Variants.none (Td d i) none (n := 32) (dstw := inRow p (31 - (n + 1))) (srcw := ttRow h (31 - (n + 1))) (D := Dl d h p q tt f)
      (u := NR * (31 - (n + 1))) (hsrc := (View.wordExact_bits rfl).reshape _ _) (hdst := (View.wordExact_bits rfl).reshape _ _) (default : HIx 2) (credR p _)
      (by rw [e1]; exact (Nat.mul_lt_mul_left NR_pos).mpr (by omega))) $$ [HB HO]
    · isplitl [HB]; · iexact HB
      isplitl [HO]; · iexact HO
      iapply (MayWaits.elim (SemLoc.dma s.sem)) $$ Hm
    rw [e1]
    iintro ⟨HB, HO⟩
    iapply ih
    isplitl [HR]; · iexact HR
    isplitr; · iexact Hm
    isplitl [HB]; · iexact HB
    iapply (ow_insert d i O W hW) $$ HO

theorem waits_run {R : sProp 𝕄} {Q : α → sProp 𝕄}
    (hk : ∀ g, InGood tt (fldN i k) (colN i k) p g → iprop(R ∗ ibP d i p g ∗ ttP d i q tt ∗ semVal (Td d i, .dma s.sem) 0 ∗ OW d i O W) ⊢ WPd U d i K Q) :
    iprop(R ∗ MayWaits (Td d i) (default : HIx 2) O ∗ InFl d h p s q tt ∗ OW d i O W) ⊢ WPd U d i (waits h p s 32 K) Q := by
  unfold InFl
  iintro ⟨HR, #Hm, ⟨%f, HB, Hr⟩, HO⟩
  have ha := waits_aux (R := iprop(R ∗ ((ttV).view.loc (Td d i) ↦[Finset.univ \ ttSet h]{q} tt))) (f := f) (h := h) (p := p) (s := s) (q := q) (tt := tt) (K := K) (Q := Q)
    (O := O) (W := W) (by
    unfold Dl
    rw [bigSep_sep']
    iintro ⟨⟨HR, Hr⟩, ⟨Hi, Ht⟩, Hv, HO⟩
    ihave Ht := (Entails.of_eq (show ((ttV).view.loc (Td d i) ↦[ttSet h]{q} tt : sProp 𝕄) = _ from pointsTo_biUnion (q := q) (f := tt) (ℓ := (ttV).view.loc (Td d i)) Finset.univ (fun e : Fin 32 => (ttRow h e.val).view.set) (ttRow_disj h)).symm) $$ Ht
    ihave Ht := (pointsTo_split_subset (q := q) (f := tt) (ℓ := (ttV).view.loc (Td d i)) (Finset.subset_univ (ttSet h))).2 $$ [Ht Hr]
    · isplitl [Ht]; · iexact Ht
      iexact Hr
    ihave Hi := (pointsTo_biUnion_join (q := fullShare) (ℓ := (ibV).view.loc (Td d i)) Finset.univ (fun e : Fin 32 => rowI p e.val)
      (fun e : Fin 32 => (inRow p e.val).view.write (Elt F) f ((ReadAs.same : ReadAs (Elt F) S128 .f32 S128 .f32).apply ((ttRow h e.val).view.read (Elt F) tt)) Finset.univ) f (rowI_disj p)) $$ Hi
    icases Hi with ⟨%g, %hg, Hi⟩
    ihave Hi := (Entails.of_eq (congrArg (fun I => ((ibV).view.loc (Td d i) ↦[I]{fullShare} g : sProp 𝕄)) (slotI_rows p).symm)) $$ Hi
    iapply (hk g (fun x hx hc => by
      have hx1 : (x 1).val < 32 := (x 1).isLt
      have hm : x ∈ rowI p (x 1).val := mem_rowI.mpr ⟨hx, (Nat.mod_eq_of_lt hx1).symm⟩
      exact (hg ⟨(x 1).val, hx1⟩ (Finset.mem_univ _) x hm).trans (row_written h p (x 1).val tt f hm hc)))
    isplitl [HR]; · iexact HR
    isplitl [Hi]; · iexact Hi
    isplitl [Ht]; · iexact Ht
    isplitl [Hv]; · iexact Hv
    iexact HO) 31 (by decide)
  iapply ha
  isplitl [HR Hr]
  · isplitl [HR]; · iexact HR
    iexact Hr
  isplitr; · iexact Hm
  isplitl [HB]; · iexact HB
  iexact HO

theorem put_run {R : sProp 𝕄} {Q : α → sProp 𝕄} {a c w : ℕ} {v : Vec F S16 .f32} (hw : w < 256) (hv : GV tt a c w v)
    (hk : iprop(R ∗ ∃ f, ⌜StGood tt a c p (w + 1) f⌝ ∗ sbP d i p f) ⊢ WPd U d i K Q) :
    iprop(R ∗ ∃ f, ⌜StGood tt a c p w f⌝ ∗ sbP d i p f) ⊢ WPd U d i (put p w v K) Q := by
  have hsub : ((stBlk p).access (Rect.unit (s := S32x128) ![w / 8 % 32, 16 * (w % 8)] S1x16.size (grp_inb w))).setOn Finset.univ ⊆ slotS p := by
    intro x hx
    obtain ⟨y, -, rfl⟩ := Finset.mem_map.mp hx
    exact mem_slotS.mpr (stBlk_emb p _).1
  unfold put
  iintro ⟨HR, ⟨%f, %hf, Hs⟩⟩
  iapply (wp_load (defs := defs₀ (F := F)) Variants.none (Td d i) none Set.univ (m := stBlk p) (S := slotS p) (q := fullShare) (f := f) (by
    intro x hx
    obtain ⟨y, -, rfl⟩ := Finset.mem_map.mp hx
    exact mem_slotS.mpr (stBlk_emb p _).1)) $$ Hs
  iintro Hs
  iapply (wp_store (defs := defs₀ (F := F)) Variants.none (Td d i) none Set.univ (m := stBlk p)
    (r := Rect.unit (s := S32x128) ![w / 8 % 32, 16 * (w % 8)] S1x16.size (grp_inb w)) (w := shapeCast S1x16 v shapeCasts_S16_S1x16) (Mk := Finset.univ)
    (S := slotS p) (f := f) hsub) $$ Hs
  iintro Hs
  iapply hk
  isplitl [HR]; · iexact HR
  iexists (((stBlk p).access (Rect.unit (s := S32x128) ![w / 8 % 32, 16 * (w % 8)] S1x16.size (grp_inb w))).write (Elt F) f (shapeCast S1x16 v shapeCasts_S16_S1x16) Finset.univ)
  isplitr [Hs]
  · ipureintro; exact put_good hw hv hf
  · iexact Hs

theorem gat_run {R : sProp 𝕄} {Q : α → sProp 𝕄} {a c r : ℕ} {g : S2x32x129.Idx → Elt F .f32} (hg : InGood tt a c p g) (hr : r < 256) {k' : Vec F S16 .f32 → PG F i α}
    (hk : ∀ v, GV tt a c r v → iprop((R ∗ ibP d i p g)) ⊢ WPd U d i (k' v) Q) :
    iprop(R ∗ ibP d i p g) ⊢ WPd U d i (gat p r k') Q := by
  unfold gat
  refine BIBase.Entails.trans ?_ (wp_assume Variants.none (Td d i) none Set.univ (chk_gat hr))
  iintro ⟨HR, Hi⟩
  iapply (wp_load (defs := defs₀ (F := F)) Variants.none (Td d i) none Set.univ (m := inBlk p) (S := slotI p) (q := fullShare) (f := g) (by
    intro x hx
    obtain ⟨y, -, rfl⟩ := Finset.mem_map.mp hx
    exact mem_slotI.mpr (inBlk_emb p _).1)) $$ Hi
  iintro Hi
  iapply (hk _ (gat_val hg hr _))
  isplitl [HR]; · iexact HR
  iexact Hi

/-- A block, transposed. -/
theorem turn_run {R : sProp 𝕄} {Q : α → sProp 𝕄} {a c : ℕ} {g : S2x32x129.Idx → Elt F .f32} (hg : InGood tt a c p g)
    (hk : ∀ f, StGood tt a c p 256 f → iprop(R ∗ ibP d i p g ∗ sbP d i p f) ⊢ WPd U d i K Q) :
    iprop(R ∗ ibP d i p g ∗ ∃ f, sbP d i p f) ⊢ WPd U d i (sched (gat p) (put p) K (plan 233) 0 0 []) Q := by
  have hs := sched_run (F := F) (i := i) (α := α) (N := 256) (G := GV tt a c) (load := gat p) (store := put p) (K := K)
    (X := fun w k' => iprop((R ∗ ibP d i p g) ∗ ∃ f, ⌜StGood tt a c p w f⌝ ∗ sbP d i p f) ⊢ WPd U d i k' Q)
    (fun w r k' hr hk' => by
      have := gat_run (R := iprop(R ∗ ∃ f, ⌜StGood tt a c p w f⌝ ∗ sbP d i p f)) (d := d) (Q := Q) (k' := k') hg hr (fun v hv => by
        iintro ⟨⟨HR, Hs⟩, Hi⟩
        iapply (hk' v hv)
        isplitl [HR Hi]
        · isplitl [HR]; · iexact HR
          iexact Hi
        iexact Hs)
      iintro ⟨⟨HR, Hi⟩, Hs⟩
      iapply this
      isplitl [HR Hs]
      · isplitl [HR]; · iexact HR
        iexact Hs
      iexact Hi)
    (fun w v k' hw hv hk' => put_run hw hv hk')
    (by
      iintro ⟨⟨HR, Hi⟩, ⟨%f, %hf, Hs⟩⟩
      iapply (hk f hf)
      isplitl [HR]; · iexact HR
      isplitl [Hi]; · iexact Hi
      iexact Hs)
    (plan 233) 0 0 [] ok_plan.1 trivial rfl
  iintro ⟨HR, Hi, ⟨%f, Hs⟩⟩
  iapply hs
  isplitl [HR Hi]
  · isplitl [HR]; · iexact HR
    iexact Hi
  iexists f
  isplitr [Hs]
  · ipureintro; intro x _ hx; omega
  · iexact Hs

end

/-! ## The copies out -/

section
variable (d : Dev nD) (i : grid0.Coords) (p : ℕ) (so : DmaSems sig S_) (qd : PosShare TreeShare) (f0 : S26x25000x128.Idx → Elt F .f32)
  (tt : S26x32x100000.Idx → Elt F .f32) (C : Finset S26x25000x128.Idx → Prop)

abbrev pdM (W : Finset S26x25000x128.Idx) : sProp 𝕄 :=
  iprop((pdV).view.loc (Td d i) ⇝[Finset.univ]{qd} f0 ⇒ (fun x => some (packed tt x)) @ W)

/-- A share of the packed table, with marks of which `C` holds. -/
def pdSh : sProp 𝕄 := iprop(∃ W, ⌜C W⌝ ∗ pdM emb d i qd f0 tt W)

/-- A block on its way out of slot `p`. -/
def OutFl : sProp 𝕄 :=
  iprop(∃ (W : Finset S26x25000x128.Idx) (f : S2x32x128.Idx → Elt F .f32), ⌜C W⌝ ∗ Flight countersEmb (Td d i) (.dma so.sem) (default : HIx 2) NB
    iprop(pdM emb d i qd f0 tt W ∗ sbP d i p f))

/-- Slot `p` at rest, with nothing on its way out. -/
def OutRest : sProp 𝕄 := iprop((∃ f, sbP d i p f) ∗ semVal (Td d i, .dma so.sem) 0 ∗ pdSh emb d i qd f0 tt C)

end

section
variable {d : Dev nD} {i : grid0.Coords} {O : CellTallies nD τ sig (HIx 2)} {W : Waits sig (HIx 2)} {α : Type} {K : PG F i α}
variable {k : BitVec 32} {h : InB i k} {p : ℕ} {so : DmaSems sig S_} {qd : PosShare TreeShare} {f0 : S26x25000x128.Idx → Elt F .f32}
variable {tt : S26x32x100000.Idx → Elt F .f32} {C C' : Finset S26x25000x128.Idx → Prop} {ιwm : ℕ}

theorem outStart_run {R : sProp 𝕄} {Q : α → sProp 𝕄} {f : S2x32x128.Idx → Elt F .f32} (hf : StGood tt (fldN i k) (colN i k) p 256 f)
    (hC : ∀ W, C W → C' (W ∪ (pdBlk h).view.set)) (hk : iprop(R ∗ OutFl emb d i p so qd f0 tt C') ⊢ WPd U d i K Q) :
    iprop(R ∗ wmInv emb ιwm ∗ sbP d i p f ∗ semVal (Td d i, .dma so.sem) 0 ∗ pdSh emb d i qd f0 tt C) ⊢ WPd U d i (outStart h p so K) Q := by
  unfold outStart pdSh
  iintro ⟨HR, #Hw, Hs, Hv, ⟨%W, %hW, Hp⟩⟩
  ihave Hs := (Entails.of_eq (congrArg (fun I => ((sbV).view.loc (Td d i) ↦[I]{fullShare} f : sProp 𝕄)) (stBlk_set p).symm)) $$ Hs
  iapply (wp_dmaMark Variants.none (Td d i) none countersEmb (emb := emb) (ιwm := ιwm) (src := stBlk p) (dst := pdBlk h) (sm := .dma so.sem) (S := Finset.univ)
    (default : HIx 2) NB (credB i h) (NB_pos i h) (Finset.subset_univ _) (out_adm h p hf)) $$ [Hs Hv Hp]
  · isplitr; · iexact Hw
    isplitl [Hs]; · iexact Hs
    isplitl [Hp]; · iexact Hp
    iexact Hv
  iintro Hfl
  iapply hk
  isplitl [HR]; · iexact HR
  unfold OutFl
  iexists _, f
  isplitr [Hfl]
  · ipureintro; exact hC W hW
  iapply (Entails.of_eq (congrArg (fun I => (Flight countersEmb (Td d i) (.dma so.sem) (default : HIx 2) NB
      iprop(pdM emb d i qd f0 tt (W ∪ (pdBlk h).view.set) ∗ ((sbV).view.loc (Td d i) ↦[I]{fullShare} f)) : sProp 𝕄)) (stBlk_set p)))
  iexact Hfl

theorem outWait_run {R : sProp 𝕄} {Q : α → sProp 𝕄}
    (hk : iprop(R ∗ OutRest emb d i p so qd f0 tt C ∗ OW d i O W) ⊢ WPd U d i K Q) :
    iprop(R ∗ MayWaits (Td d i) (default : HIx 2) O ∗ OutFl emb d i p so qd f0 tt C ∗ OW d i O W) ⊢ WPd U d i (outWait h p so K) Q := by
  unfold outWait OutFl
  iintro ⟨HR, #Hm, ⟨%W1, %f, %hW1, Hfl⟩, ⟨%W', %hW, HO⟩⟩
  iapply (wp_waitLocalO countersEmb Variants.none (Td d i) none (srcw := stBlk p) (dstw := pdBlk h)
      (hsrc := (View.wordExact_bits rfl).reshape _ _) (hdst := (View.wordExact_bits rfl).reshape _ _) (default : HIx 2) (credB i h)) $$ [Hfl HO]
  · isplitl [Hfl]; · iexact Hfl
    isplitl [HO]; · iexact HO
    iapply (MayWaits.elim (SemLoc.dma so.sem)) $$ Hm
  iintro ⟨⟨Hp, Hs⟩, Hv, HO⟩
  iapply hk
  isplitl [HR]; · iexact HR
  isplitl [Hp Hs Hv]
  · unfold OutRest pdSh
    isplitl [Hs]; · iexists f; iexact Hs
    isplitl [Hv]; · iexact Hv
    iexists W1
    isplitr [Hp]; · ipureintro; exact hW1
    iexact Hp
  iapply (ow_insert d i O W hW) $$ HO

end

section
variable {d : Dev nD} {i : grid0.Coords} {O : CellTallies nD τ sig (HIx 2)} {W : Waits sig (HIx 2)} {K : PG F i Unit}
variable {k k' : BitVec 32} {h : InB i k} {h' : InB i k'} {p : ℕ} {s so : DmaSems sig S_} {q qd : PosShare TreeShare} {f0 : S26x25000x128.Idx → Elt F .f32}
variable {tt : S26x32x100000.Idx → Elt F .f32} {C C' : Finset S26x25000x128.Idx → Prop} {ιwm : ℕ}

theorem turnOut_run {R : sProp 𝕄} {Q : Unit → sProp 𝕄} {g : S2x32x129.Idx → Elt F .f32} (hg : InGood tt (fldN i k) (colN i k) p g)
    (hC : ∀ W, C W → C' (W ∪ (pdBlk h).view.set))
    (hk : iprop(R ∗ InFl d h' p s q tt ∗ OutFl emb d i p so qd f0 tt C') ⊢ WPd U d i K Q) :
    iprop(R ∗ wmInv emb ιwm ∗ ibP d i p g ∗ ttP d i q tt ∗ semVal (Td d i, .dma s.sem) 0 ∗ OutRest emb d i p so qd f0 tt C)
      ⊢ WPd U d i (sched (gat p) (put p) (outStart h p so (starts h' p s 32 K)) (plan 233) 0 0 []) Q := by
  have ht := turn_run (R := iprop(R ∗ wmInv emb ιwm ∗ ttP d i q tt ∗ semVal (Td d i, .dma s.sem) 0 ∗ semVal (Td d i, .dma so.sem) 0 ∗ pdSh emb d i qd f0 tt C))
    (d := d) (K := outStart h p so (starts h' p s 32 K)) (Q := Q) hg (fun f hf => by
      have hs := starts_run (R := iprop(R ∗ OutFl emb d i p so qd f0 tt C')) (d := d) (h := h') (p := p) (s := s) (q := q) (tt := tt) (K := K) (Q := Q) (by
        iintro ⟨⟨HR, Ho⟩, Hi⟩
        iapply hk
        isplitl [HR]; · iexact HR
        isplitl [Hi]; · iexact Hi
        iexact Ho)
      have ho := outStart_run emb (R := iprop(R ∗ ibP d i p g ∗ ttP d i q tt ∗ semVal (Td d i, .dma s.sem) 0)) (ιwm := ιwm) (d := d) (f0 := f0) (qd := qd) (so := so) (h := h)
        (K := starts h' p s 32 K) (Q := Q) hf hC (by
        iintro ⟨⟨HR, Hi, Ht, Hv⟩, Ho⟩
        iapply hs
        isplitl [HR Ho]
        · isplitl [HR]; · iexact HR
          iexact Ho
        isplitl [Hi]; · iexists g; iexact Hi
        isplitl [Ht]; · iexact Ht
        iexact Hv)
      iintro ⟨⟨HR, Hw, Ht, Hv, Hvo, Hp⟩, Hi, Hs⟩
      iapply ho
      isplitl [HR Hi Ht Hv]
      · isplitl [HR]; · iexact HR
        isplitl [Hi]; · iexact Hi
        isplitl [Ht]; · iexact Ht
        iexact Hv
      isplitl [Hw]; · iexact Hw
      isplitl [Hs]; · iexact Hs
      isplitl [Hvo]; · iexact Hvo
      iexact Hp)
  unfold OutRest
  iintro ⟨HR, Hw, Hi, Ht, Hv, ⟨Hs, Hvo, Hp⟩⟩
  iapply ht
  isplitl [HR Hw Ht Hv Hvo Hp]
  · isplitl [HR]; · iexact HR
    isplitl [Hw]; · iexact Hw
    isplitl [Ht]; · iexact Ht
    isplitl [Hv]; · iexact Hv
    isplitl [Hvo]; · iexact Hvo
    iexact Hp
  isplitl [Hi]; · iexact Hi
  iexact Hs

/-- One slot's half of a trip: the first has nothing to wait for on the way out. -/
theorem half_run {R : sProp 𝕄} {Q : Unit → sProp 𝕄} (b : Bool) (hC : ∀ W, C W → C' (W ∪ (pdBlk h).view.set))
    (hk : iprop(R ∗ InFl d h' p s q tt ∗ OutFl emb d i p so qd f0 tt C' ∗ OW d i O W) ⊢ WPd U d i K Q) :
    iprop(R ∗ MayWaits (Td d i) (default : HIx 2) O ∗ wmInv emb ιwm ∗ InFl d h p s q tt
        ∗ (bif b then OutFl emb d i p so qd f0 tt C else OutRest emb d i p so qd f0 tt C) ∗ OW d i O W)
      ⊢ WPd U d i (half b h h' p s so K) Q := by
  have h1 := fun g (hg : InGood tt (fldN i k) (colN i k) p g) => turnOut_run emb (R := iprop(R ∗ OW d i O W)) (ιwm := ιwm) (d := d) (f0 := f0) (qd := qd) (s := s) (so := so) (q := q) (h := h) (h' := h')
    (K := K) (Q := Q) hg hC (by
      iintro ⟨⟨HR, HO⟩, Hi, Ho⟩
      iapply hk
      isplitl [HR]; · iexact HR
      isplitl [Hi]; · iexact Hi
      isplitl [Ho]; · iexact Ho
      iexact HO)
  unfold half
  cases b with
  | false =>
    have hw := waits_run (R := iprop(R ∗ wmInv emb ιwm ∗ OutRest emb d i p so qd f0 tt C)) (d := d) (O := O) (W := W) (s := s) (q := q) (h := h)
      (K := sched (gat p) (put p) (outStart h p so (starts h' p s 32 K)) (plan 233) 0 0 []) (Q := Q) (fun g hg => by
        iintro ⟨⟨HR, Hw, Ho⟩, Hi, Ht, Hv, HO⟩
        iapply (h1 g hg)
        isplitl [HR HO]
        · isplitl [HR]; · iexact HR
          iexact HO
        isplitl [Hw]; · iexact Hw
        isplitl [Hi]; · iexact Hi
        isplitl [Ht]; · iexact Ht
        isplitl [Hv]; · iexact Hv
        iexact Ho)
    simp only [cond_false]
    iintro ⟨HR, Hm, Hw, Hi, Ho, HO⟩
    iapply hw
    isplitl [HR Hw Ho]
    · isplitl [HR]; · iexact HR
      isplitl [Hw]; · iexact Hw
      iexact Ho
    isplitl [Hm]; · iexact Hm
    isplitl [Hi]; · iexact Hi
    iexact HO
  | true =>
    have hw := waits_run (R := iprop(R ∗ MayWaits (Td d i) (default : HIx 2) O ∗ wmInv emb ιwm ∗ OutFl emb d i p so qd f0 tt C)) (d := d) (O := O) (W := W) (s := s) (q := q) (h := h)
      (K := outWait h p so (sched (gat p) (put p) (outStart h p so (starts h' p s 32 K)) (plan 233) 0 0 [])) (Q := Q) (fun g hg => by
        have ho := outWait_run emb (R := iprop(R ∗ wmInv emb ιwm ∗ ibP d i p g ∗ ttP d i q tt ∗ semVal (Td d i, .dma s.sem) 0)) (d := d) (O := O) (W := W) (so := so) (f0 := f0) (qd := qd) (tt := tt) (C := C)
          (h := h) (p := p) (K := sched (gat p) (put p) (outStart h p so (starts h' p s 32 K)) (plan 233) 0 0 []) (Q := Q) (by
          iintro ⟨⟨HR, Hw, Hi, Ht, Hv⟩, Ho, HO⟩
          iapply (h1 g hg)
          isplitl [HR HO]
          · isplitl [HR]; · iexact HR
            iexact HO
          isplitl [Hw]; · iexact Hw
          isplitl [Hi]; · iexact Hi
          isplitl [Ht]; · iexact Ht
          isplitl [Hv]; · iexact Hv
          iexact Ho)
        iintro ⟨⟨HR, Hm, Hw, Ho⟩, Hi, Ht, Hv, HO⟩
        iapply ho
        isplitl [HR Hw Hi Ht Hv]
        · isplitl [HR]; · iexact HR
          isplitl [Hw]; · iexact Hw
          isplitl [Hi]; · iexact Hi
          isplitl [Ht]; · iexact Ht
          iexact Hv
        isplitl [Hm]; · iexact Hm
        isplitl [Ho]; · iexact Ho
        iexact HO)
    simp only [cond_true]
    iintro ⟨HR, #Hm, Hw, Hi, Ho, HO⟩
    iapply hw
    isplitl [HR Hw Ho]
    · isplitl [HR]; · iexact HR
      isplitr; · iexact Hm
      isplitl [Hw]; · iexact Hw
      iexact Ho
    isplitr; · iexact Hm
    isplitl [Hi]; · iexact Hi
    iexact HO

end

end Cert.Proof.Kern
-- ==== Proof.DetEq.lean ====
/-
  The printed detranspose kernel is the program of `Det`, step by step: `det_eq`.
-/
module

public import proofs.«01_k».proof.Proof.Det

@[expose] public section

noncomputable section

namespace Cert.Proof.Kern

open Cert.KernelIdeal Cert.KernelIdeal.Facts₀ Cert.KernelIdeal.Facts

open Idealize.ShloMosaic
open Idealize.ShloMosaic.SparseCore (S V T)
open Idealize.SL.Sem

variable [Cert.KernelIdeal.Facts] {F : FTy → Type} [FloatOps F]

/-! ## The rows that no block holds: the last 32 of a field -/

section
variable {i : grid0.Coords}

theorem ttTail_inb {i : grid0.Coords} (h3 : k0_cond3 i = 1#1) (e : ℕ) (a : Fin 3) :
    (![(widW i).toNat, e % 32, 99968] : Fin 3 → ℕ) a + S1x1x32.size a ≤ S26x32x100000.size a := by
  match a with
  | 0 => exact wid_le i h3
  | 1 => exact Nat.mod_lt e (by decide)
  | 2 => exact Nat.le_refl 100000

theorem tbRow_inb (e : ℕ) (a : Fin 2) : (![e % 32, 0] : Fin 2 → ℕ) a + S1x32.size a ≤ S32x33.size a := by
  match a with
  | 0 => exact Nat.mod_lt e (by decide)
  | 1 => exact (by decide : 0 + 32 ≤ 33)

theorem pdTail_inb {i : grid0.Coords} (h3 : k0_cond3 i = 1#1) (a : Fin 3) :
    (![(widW i).toNat, 24992, 0] : Fin 3 → ℕ) a + S1x8x128.size a ≤ S26x25000x128.size a := by
  match a with
  | 0 => exact wid_le i h3
  | 1 => exact Nat.le_refl 25000
  | 2 => exact Nat.le_refl 128

abbrev ttTail (h3 : k0_cond3 i = 1#1) (e : ℕ) : Memref sig .scVector .hbm S32 .f32 :=
  (ttV.slice (Rect.unit (s := S26x32x100000) ![(widW i).toNat, e % 32, 99968] S1x1x32.size (ttTail_inb h3 e)) (fun _ => rfl)).squeeze S32 squeezes_S1x1x32_S32

abbrev tbRow (e : ℕ) : Memref sig .scVector .vmem S32 .f32 :=
  (tbV.slice (Rect.unit (s := S32x33) ![e % 32, 0] S1x32.size (tbRow_inb e)) (fun _ => rfl)).squeeze S32 squeezes_S1x32_S32

abbrev stTail : Memref sig .scVector .vmem S8x128 .f32 :=
  (sbV.slice (Rect.unit (s := S2x32x128) ![0, 0, 0] S1x8x128.size inb_S2x32x128_S1x8x128_0_0_0) (fun _ => rfl)).squeeze S8x128 squeezes_S1x8x128_S8x128

abbrev pdTail (h3 : k0_cond3 i = 1#1) : Memref sig .scVector .hbm S8x128 .f32 :=
  (pdV.slice (Rect.unit (s := S26x25000x128) ![(widW i).toNat, 24992, 0] S1x8x128.size (pdTail_inb h3)) (fun _ => rfl)).squeeze S8x128 squeezes_S1x8x128_S8x128

/-- The semaphore of the copy of row `e`. -/
abbrev tailSem (e : ℕ) : DmaSems sig S_ := [cc0_scoped0, cc0_scoped1, cc0_scoped2, cc0_scoped3, cc0_scoped4, cc0_scoped5, cc0_scoped6, cc0_scoped7, cc0_scoped8, cc0_scoped9, cc0_scoped10, cc0_scoped11, cc0_scoped12, cc0_scoped13, cc0_scoped14, cc0_scoped15, cc0_scoped16, cc0_scoped17, cc0_scoped18, cc0_scoped19, cc0_scoped20, cc0_scoped21, cc0_scoped22, cc0_scoped23, cc0_scoped24, cc0_scoped25, cc0_scoped26, cc0_scoped27, cc0_scoped28, cc0_scoped29, cc0_scoped30, cc0_scoped31].getD e cc0_scoped0

/-- Row after row is copied in. -/
def tailRows (h3 : k0_cond3 i = 1#1) (n : ℕ) (K : PG F i Unit) : PG F i Unit :=
  Nat.rec (motive := fun _ => PG F i Unit) K
    (fun n r => .op (.enqueueDma (ttTail h3 (31 - n)) (.here (tbRow (31 - n))) (.dma (tailSem (31 - n)).sem) ((View.wordExact_bits rfl).reshape _ _)
        ((View.wordExact_bits rfl).reshape _ _) ⟨Or.inl rfl, trivial⟩) fun _ =>
      .op (.waitDma2 (tailSem (31 - n)).sem (ttTail h3 (31 - n)) (tbRow (31 - n)) ((View.wordExact_bits rfl).reshape _ _)
        ((View.wordExact_bits rfl).reshape _ _)) fun _ => r) n

def tailGat (h3 : k0_cond3 i = 1#1) (r : ℕ) (K : Vec F S16 .f32 → PG F i Unit) : PG F i Unit :=
  .op (.assume (k0_chk513 i (rowsW r) (colW r)) (k0_chk513.dec i (rowsW r) (colW r))) fun h =>
    .op (.load tbV (.whole S32x33) (View.loadsAt_whole (View.loads_vmem h_S32x33))) fun f =>
      K (loadIdx f ![rowsW r, colW r] (k0_idx513_inb i (rowsW r) (colW r) h.down h3))

def tail (h3 : k0_cond3 i = 1#1) : PG F i Unit :=
  tailRows h3 32 (sched (tailGat h3) (put 0)
    (.op (.enqueueDma stTail (.here (pdTail h3)) (.dma cc0_scoped32.sem) ((View.wordExact_bits rfl).reshape _ _)
        ((View.wordExact_bits rfl).reshape _ _) ⟨Or.inl rfl, trivial⟩) fun _ =>
      .op (.waitDma2 cc0_scoped32.sem stTail (pdTail h3) ((View.wordExact_bits rfl).reshape _ _)
        ((View.wordExact_bits rfl).reshape _ _)) fun _ => .ret ⟨⟩) (plan 41) 0 0 [])

end

/-- What is left after the loop. -/
def fin (i : grid0.Coords) : PG F i Unit :=
  waits (inB0 i).2.2.2.2.1 0 cc0_scratch3 32 (outWait (inB0 i).2.2.1 0 cc0_scratch5
    (waits (inB0 i).2.2.2.2.2 1 cc0_scratch4 32 (outWait (inB0 i).2.2.2.1 1 cc0_scratch6
      (Prog.bind (if h3 : k0_cond3 i = 1#1 then tail h3 else .ret ⟨⟩) fun _ => .ret ⟨⟩))))

/-- The kernel. -/
def det (i : grid0.Coords) : PG F i Unit :=
  starts (inB0 i).1 0 cc0_scratch3 32 (starts (inB0 i).2.1 1 cc0_scratch4 32
    (Prog.bind (Scf.Loop.for k0_t1_loop k0_t1_ok PUnit.unit fun t _ => trip (decide (t.val ≠ 0)) i t) fun _ => fin i))

theorem cond_iff : ∀ t : Fin k0_t1_loop.trips, (k0_cond1 t = 1#1 ↔ t.val ≠ 0) ∧ (k0_cond2 t = 1#1 ↔ t.val ≠ 0) := by decide +kernel

set_option maxRecDepth 100000
set_option maxHeartbeats 4000000

/-- The printed statements 1081–1140 are two copies, the loop and some words. -/
theorem part_loop (i : grid0.Coords) (v1 : BitVec 32) :
    k0_part263 (F := F) i ttV (Memref.isWhole_whole _) pdV (Memref.isWhole_whole _) ibV (Memref.isWhole_whole _) sbV (Memref.isWhole_whole _)
      tbV (Memref.isWhole_whole _) cc0_scratch3 cc0_scratch4 cc0_scratch5 cc0_scratch6 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 v1 (rowsW 0) (rowsW 1)
      = starts (inB0 i).2.1 1 cc0_scratch4 2 (Prog.bind (Scf.Loop.for k0_t1_loop k0_t1_ok PUnit.unit fun t _ => trip (decide (t.val ≠ 0)) i t)
          fun _ => .ret ⟨numW (Scalar.minsi (Scalar.addi v1 (Scalar.muli 32#32 636#32)) 20305#32), 128#32⟩) := by
  unfold k0_part263
  refine ProgEq.op_congr (E := TpuEff nD τ sig (Elt F) Λ₀ (.scVector ((i 0).castLE hcore0) ((i 1).castLE hsub0))) _ _ _ _ _ _ ?_ (fun _ => ?_)
  · sl_kernel_rfl
  refine ProgEq.op_congr (E := TpuEff nD τ sig (Elt F) Λ₀ (.scVector ((i 0).castLE hcore0) ((i 1).castLE hsub0))) _ _ _ _ _ _ ?_ (fun _ => ?_)
  · sl_kernel_rfl
  change Prog.bind (Scf.Loop.for k0_t1_loop k0_t1_ok PUnit.unit _) _ = _
  refine ProgEq.bind_congr _ _ _ _ _ _ _ ?_ (fun _ => ?_)
  rotate_left
  · sl_kernel_rfl
  refine congrArg (Scf.Loop.for k0_t1_loop k0_t1_ok PUnit.unit) (funext fun t => funext fun _ => ?_)
  by_cases h : t.val ≠ 0
  · have h1 := (cond_iff t).1.2 h
    have h2 := (cond_iff t).2.2 h
    rw [decide_eq_true h]
    simp only [k0_part209, k0_part210, k0_part211, k0_part212, k0_part10, k0_part115, dif_pos h1, dif_pos h2]
    sl_kernel_rfl
  · have h1 := fun c => h ((cond_iff t).1.1 c)
    have h2 := fun c => h ((cond_iff t).2.1 c)
    rw [decide_eq_false h]
    simp only [k0_part209, k0_part210, k0_part211, k0_part212, k0_part10, k0_part115, dif_neg h1, dif_neg h2]
    sl_kernel_rfl

/-- The printed program is the one above. -/
theorem det_eq (i : grid0.Coords) : cc0_detrans_k (F := F) i ttV (Memref.isWhole_whole _) pdV (Memref.isWhole_whole _) ibV (Memref.isWhole_whole _) sbV (Memref.isWhole_whole _)
      tbV (Memref.isWhole_whole _) cc0_scratch3 cc0_scratch4 cc0_scratch5 cc0_scratch6 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 = det i := by
  by_cases h3 : k0_cond3 i = 1#1
  · unfold cc0_detrans_k
    simp only [dif_pos h3]
    unfold k0_part283
    iterate 62 refine ProgEq.op_congr (E := TpuEff nD τ sig (Elt F) Λ₀ (.scVector ((i 0).castLE hcore0) ((i 1).castLE hsub0))) _ _ _ _ _ _ (by sl_kernel_rfl) (fun _ => ?_)
    change Prog.bind (Prog.bind (k0_part263 (F := F) i ttV (Memref.isWhole_whole _) pdV (Memref.isWhole_whole _) ibV (Memref.isWhole_whole _) sbV (Memref.isWhole_whole _)
        tbV (Memref.isWhole_whole _) cc0_scratch3 cc0_scratch4 cc0_scratch5 cc0_scratch6 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 _ (rowsW 0) (rowsW 1)) _) _ = _
    rw [part_loop]
    refine ProgEq.op_congr (E := TpuEff nD τ sig (Elt F) Λ₀ (.scVector ((i 0).castLE hcore0) ((i 1).castLE hsub0))) _ _ _ _ _ _ rfl (fun _ => ?_)
    refine ProgEq.op_congr (E := TpuEff nD τ sig (Elt F) Λ₀ (.scVector ((i 0).castLE hcore0) ((i 1).castLE hsub0))) _ _ _ _ _ _ rfl (fun _ => ?_)
    refine Eq.trans (ProgEq.bind_assoc _ _ _ _ (Prog.bind _ _) _ _) ?_
    refine Eq.trans (ProgEq.bind_assoc _ _ _ _ _ _ _) ?_
    refine ProgEq.bind_congr _ _ _ _ _ _ _ rfl (fun _ => ?_)
    unfold fin
    rw [dif_pos h3]
    sl_kernel_rfl
  · unfold cc0_detrans_k
    simp only [dif_neg h3]
    unfold k0_part283
    iterate 62 refine ProgEq.op_congr (E := TpuEff nD τ sig (Elt F) Λ₀ (.scVector ((i 0).castLE hcore0) ((i 1).castLE hsub0))) _ _ _ _ _ _ (by sl_kernel_rfl) (fun _ => ?_)
    change Prog.bind (Prog.bind (k0_part263 (F := F) i ttV (Memref.isWhole_whole _) pdV (Memref.isWhole_whole _) ibV (Memref.isWhole_whole _) sbV (Memref.isWhole_whole _)
        tbV (Memref.isWhole_whole _) cc0_scratch3 cc0_scratch4 cc0_scratch5 cc0_scratch6 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 _ (rowsW 0) (rowsW 1)) _) _ = _
    rw [part_loop]
    refine ProgEq.op_congr (E := TpuEff nD τ sig (Elt F) Λ₀ (.scVector ((i 0).castLE hcore0) ((i 1).castLE hsub0))) _ _ _ _ _ _ rfl (fun _ => ?_)
    refine ProgEq.op_congr (E := TpuEff nD τ sig (Elt F) Λ₀ (.scVector ((i 0).castLE hcore0) ((i 1).castLE hsub0))) _ _ _ _ _ _ rfl (fun _ => ?_)
    refine Eq.trans (ProgEq.bind_assoc _ _ _ _ (Prog.bind _ _) _ _) ?_
    refine Eq.trans (ProgEq.bind_assoc _ _ _ _ _ _ _) ?_
    refine ProgEq.bind_congr _ _ _ _ _ _ _ rfl (fun _ => ?_)
    unfold fin
    rw [dif_neg h3]
    sl_kernel_rfl

end Cert.Proof.Kern
-- ==== Proof.DetTail.lean ====
/-
  The last 32 rows of a field of the tables, which no block holds: a tile that has a field copies them in row by row
  (`tailRows_run`), transposes them and copies them out (`tail_run`).
-/
module

public import proofs.«01_k».proof.Proof.DetRun
public import proofs.«01_k».proof.Proof.DetEq

@[expose] public section

noncomputable section

namespace Cert.Proof.Kern

open Cert.KernelIdeal Cert.KernelIdeal.Facts₀ Cert.KernelIdeal.Facts

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable [Cert.KernelIdeal.Facts] {F : FTy → Type}

/-! ## The pieces -/

section
variable {i : grid0.Coords} (h3 : k0_cond3 i = 1#1)

theorem ttTail_emb (e : ℕ) (x : S32.Idx) : (((ttTail h3 e).view.emb x : S26x32x100000.Idx) 0).val = (widW i).toNat
    ∧ (((ttTail h3 e).view.emb x : S26x32x100000.Idx) 1).val = e % 32 ∧ (((ttTail h3 e).view.emb x : S26x32x100000.Idx) 2).val = 99968 + (x 0).val := by
  refine ⟨?_, ?_, ?_⟩
  · exact Eq.trans (congrArg (fun z : (⟨3, ![1, 1, 32]⟩ : Shape).Idx => (widW i).toNat + 1 * (z 0).val) (rsh13 (a := 32) (by decide) x)) (by show (widW i).toNat + 1 * 0 = _; omega)
  · exact Eq.trans (congrArg (fun z : (⟨3, ![1, 1, 32]⟩ : Shape).Idx => e % 32 + 1 * (z 1).val) (rsh13 (a := 32) (by decide) x)) (by show e % 32 + 1 * 0 = _; omega)
  · exact Eq.trans (congrArg (fun z : (⟨3, ![1, 1, 32]⟩ : Shape).Idx => 99968 + 1 * (z 2).val) (rsh13 (a := 32) (by decide) x)) (by show 99968 + 1 * (x 0).val = _; omega)

theorem tbRow_emb (e : ℕ) (x : S32.Idx) : (((tbRow e).view.emb x : S32x33.Idx) 0).val = e % 32 ∧ (((tbRow e).view.emb x : S32x33.Idx) 1).val = (x 0).val := by
  refine ⟨?_, ?_⟩
  · exact Eq.trans (congrArg (fun z : (⟨2, ![1, 32]⟩ : Shape).Idx => e % 32 + 1 * (z 0).val) (rsh12 (a := 32) (by decide) x)) (by show e % 32 + 1 * 0 = _; omega)
  · exact Eq.trans (congrArg (fun z : (⟨2, ![1, 32]⟩ : Shape).Idx => 0 + 1 * (z 1).val) (rsh12 (a := 32) (by decide) x)) (by show 0 + 1 * (x 0).val = _; omega)

theorem stTail_emb (x : S8x128.Idx) : (((stTail).view.emb x : S2x32x128.Idx) 0).val = 0
    ∧ (((stTail).view.emb x : S2x32x128.Idx) 1).val = (x 0).val ∧ (((stTail).view.emb x : S2x32x128.Idx) 2).val = (x 1).val := by
  refine ⟨?_, ?_, ?_⟩
  · exact Eq.trans (congrArg (fun z : (⟨3, ![1, 8, 128]⟩ : Shape).Idx => 0 + 1 * (z 0).val) (rsh23 (a := 8) (b := 128) (by decide) x)) (by show 0 + 1 * 0 = _; omega)
  · exact Eq.trans (congrArg (fun z : (⟨3, ![1, 8, 128]⟩ : Shape).Idx => 0 + 1 * (z 1).val) (rsh23 (a := 8) (b := 128) (by decide) x)) (by show 0 + 1 * (x 0).val = _; omega)
  · exact Eq.trans (congrArg (fun z : (⟨3, ![1, 8, 128]⟩ : Shape).Idx => 0 + 1 * (z 2).val) (rsh23 (a := 8) (b := 128) (by decide) x)) (by show 0 + 1 * (x 1).val = _; omega)

theorem pdTail_emb (x : S8x128.Idx) : (((pdTail h3).view.emb x : S26x25000x128.Idx) 0).val = (widW i).toNat
    ∧ (((pdTail h3).view.emb x : S26x25000x128.Idx) 1).val = 24992 + (x 0).val ∧ (((pdTail h3).view.emb x : S26x25000x128.Idx) 2).val = (x 1).val := by
  refine ⟨?_, ?_, ?_⟩
  · exact Eq.trans (congrArg (fun z : (⟨3, ![1, 8, 128]⟩ : Shape).Idx => (widW i).toNat + 1 * (z 0).val) (rsh23 (a := 8) (b := 128) (by decide) x)) (by show (widW i).toNat + 1 * 0 = _; omega)
  · exact Eq.trans (congrArg (fun z : (⟨3, ![1, 8, 128]⟩ : Shape).Idx => 24992 + 1 * (z 1).val) (rsh23 (a := 8) (b := 128) (by decide) x)) (by show 24992 + 1 * (x 0).val = _; omega)
  · exact Eq.trans (congrArg (fun z : (⟨3, ![1, 8, 128]⟩ : Shape).Idx => 0 + 1 * (z 2).val) (rsh23 (a := 8) (b := 128) (by decide) x)) (by show 0 + 1 * (x 1).val = _; omega)

theorem stTail_sub : (stTail).view.set ⊆ slotS 0 := by
  intro x hx
  obtain ⟨y, -, rfl⟩ := Finset.mem_map.mp hx
  exact mem_slotS.mpr (stTail_emb y).1

/-- The words of the packed table that the last rows of a tile's field fill. -/
def tailS (i : grid0.Coords) : Finset S26x25000x128.Idx := Finset.univ.filter fun x => (x 0).val = (widW i).toNat ∧ 24992 ≤ (x 1).val

theorem mem_tailS {x : S26x25000x128.Idx} : x ∈ tailS i ↔ (x 0).val = (widW i).toNat ∧ 24992 ≤ (x 1).val := by simp [tailS]

theorem tailS_sub : tailS i ⊆ (pdTail h3).view.set := by
  intro x hx
  obtain ⟨h0, h1⟩ := mem_tailS.mp hx
  have hx1 : (x 1).val < 25000 := (x 1).isLt
  refine Finset.mem_map.mpr ⟨(ix2 ⟨(x 1).val - 24992, by omega⟩ (x 2) : S8x128.Idx), Finset.mem_univ _, ?_⟩
  obtain ⟨e0, e1, e2⟩ := pdTail_emb h3 (ix2 ⟨(x 1).val - 24992, by omega⟩ (x 2))
  refine idx3_ext (e0.trans h0.symm) (e1.trans ?_) e2
  show 24992 + ((x 1).val - 24992) = (x 1).val
  omega

/-- The first `n` rows are in. -/
def TbGood (tt : S26x32x100000.Idx → Elt F .f32) (a n : ℕ) (f : S32x33.Idx → Elt F .f32) : Prop :=
  ∀ x : S32x33.Idx, (x 0).val < n → (x 1).val < 32 → f x = ttAt tt a (x 0).val (99968 + (x 1).val)

theorem idx2_ext {s0 s1 : ℕ} {x y : (⟨2, ![s0, s1]⟩ : Shape).Idx} (h0 : (x 0).val = (y 0).val) (h1 : (x 1).val = (y 1).val) : x = y := by
  funext a; apply Fin.ext
  match a with
  | 0 => exact h0
  | 1 => exact h1

theorem tb_written {e : ℕ} (he : e < 32) {tt : S26x32x100000.Idx → Elt F .f32} {f : S32x33.Idx → Elt F .f32} (hf : TbGood tt (widW i).toNat e f) :
    TbGood tt (widW i).toNat (e + 1) ((tbRow e).view.write (Elt F) f ((ReadAs.same : ReadAs (Elt F) S32 .f32 S32 .f32).apply ((ttTail h3 e).view.read (Elt F) tt)) Finset.univ) := by
  intro x hx hc
  by_cases h : (x 0).val = e
  · have hy : x = (tbRow e).view.emb (ix1 ⟨(x 1).val, hc⟩ : S32.Idx) := by
      obtain ⟨e0, e1⟩ := tbRow_emb e (ix1 ⟨(x 1).val, hc⟩)
      exact idx2_ext (h.trans ((Nat.mod_eq_of_lt he).symm.trans e0.symm)) e1.symm
    conv_lhs => rw [hy]
    rw [View.write_emb_of_mem _ _ (Finset.mem_univ _)]
    obtain ⟨e0, e1, e2⟩ := ttTail_emb h3 e (ix1 ⟨(x 1).val, hc⟩)
    rw [h]
    exact ttAt_eq e0 (e1.trans (Nat.mod_eq_of_lt he)) e2
  · rw [View.write_of_not_mem]
    · exact hf x (by omega) hc
    · intro hm
      obtain ⟨y, -, hy⟩ := Finset.mem_map.mp hm
      have e0 := (tbRow_emb e y).1
      rw [hy] at e0
      exact h (e0.trans (Nat.mod_eq_of_lt he))

theorem chk_tail {r : ℕ} (hr : r < 64) : k0_chk513 i (rowsW r) (colW r) := by
  intro _ a x
  have hx : (x 0).val < 16 := (x 0).isLt
  match a with
  | 0 => show (rowsW r x).toNat < 32; rw [rowsW_apply]; omega
  | 1 => show (colW r x).toNat < 33; rw [colW_apply (by omega)]; omega

theorem tail_val {tt : S26x32x100000.Idx → Elt F .f32} {a : ℕ} {f : S32x33.Idx → Elt F .f32} (hf : TbGood tt a 32 f) {r : ℕ} (hr : r < 64)
    (hin : ∀ a x, ((![rowsW r, colW r] : Fin 2 → IVec S16 32) a x).toNat < S32x33.size a) :
    GV tt a 99968 r (loadIdx (F := F) (e := .f32) (s := S32x33) ((tbV).view.readAt (Elt F) (.whole S32x33) f) ![rowsW r, colW r] hin) := by
  intro x
  have hx : (x 0).val < 16 := (x 0).isLt
  refine (View.readAt_apply _ _ _).trans ((View.read_apply _ _).trans ((cast_eq _ _).trans ?_))
  have f1 : (((tbV).view.emb ((LoadRect.whole S32x33).idx (idxAt ![rowsW r, colW r] hin x)) : S32x33.Idx) 0).val = (x 0).val + 16 * (r % 2) := by
    rw [← rowsW_apply r x]
    show 0 + 1 * (rowsW r x).toNat = _
    omega
  have f2 : (((tbV).view.emb ((LoadRect.whole S32x33).idx (idxAt ![rowsW r, colW r] hin x)) : S32x33.Idx) 1).val = r / 2 := by
    rw [← colW_apply (show r < 512 by omega) x]
    show 0 + 1 * (colW r x).toNat = _
    omega
  refine (hf _ ?_ ?_).trans ?_
  · rw [f1]; omega
  · rw [f2]; omega
  · rw [f1, f2]

theorem tail_adm {tt : S26x32x100000.Idx → Elt F .f32} {g : S2x32x128.Idx → Elt F .f32} (hg : StGood tt (widW i).toNat 99968 0 64 g) :
    (pdTail h3).view.Admitted (Elt F) (fun x => some (packed tt x)) ((stTail).view.read (Elt F) g) Finset.univ := by
  intro x _ u hu
  obtain ⟨e0, e1, e2⟩ := pdTail_emb h3 x
  obtain ⟨s0, s1, s2⟩ := stTail_emb x
  have hx0 : (x 0).val < 8 := (x 0).isLt
  have hx1 : (x 1).val < 128 := (x 1).isLt
  have hu' : some (packed tt ((pdTail h3).view.emb x)) = some u := hu
  rw [← Option.some.inj hu']
  refine (View.read_apply _ _).trans ((cast_eq _ _).trans ((hg _ s0 ?_).trans ?_))
  · rw [s1, s2]; omega
  · unfold packed
    rw [s1, s2, e0, e1, e2]
    congr 1; omega

end

/-! ## The steps -/

variable [FloatOps F] {U : Type} [URA U] [CountersIn U] (emb : UEmb (WmRA nD τ sig (Elt F)) U)

local notation "𝕄" => MT nD τ sig (HIx 2) (Elt F) ℕ U ℕ

section
variable (d : Dev nD) (i : grid0.Coords)

abbrev tbP (f : S32x33.Idx → Elt F .f32) : sProp 𝕄 := iprop((tbV).view.loc (Td d i) ↦[Finset.univ]{fullShare} f)

/-- The semaphores of the rows. -/
def semsT : sProp 𝕄 := bigSep Finset.univ fun e : Fin 32 => (semVal (Td d i, .dma (tailSem e.val).sem) 0 : sProp 𝕄)

theorem semsT_take {e : ℕ} (he : e < 32) : (semsT d i : sProp 𝕄) = iprop(semVal (Td d i, .dma (tailSem e).sem) 0
    ∗ bigSep (Finset.univ.erase (⟨e, he⟩ : Fin 32)) fun e : Fin 32 => (semVal (Td d i, .dma (tailSem e.val).sem) 0 : sProp 𝕄)) :=
  SparseCore.bigSep_erase' (Φ := fun e : Fin 32 => (semVal (Td d i, .dma (tailSem e.val).sem) 0 : sProp 𝕄)) (Finset.mem_univ (⟨e, he⟩ : Fin 32))

end

section
variable {d : Dev nD} {i : grid0.Coords} {h3 : k0_cond3 i = 1#1} {O : CellTallies nD τ sig (HIx 2)} {W : Waits sig (HIx 2)} {K : PG F i Unit}
variable {q qd : PosShare TreeShare} {f0 : S26x25000x128.Idx → Elt F .f32} {tt : S26x32x100000.Idx → Elt F .f32}
variable {C C' : Finset S26x25000x128.Idx → Prop} {ιwm : ℕ}

theorem tailRows_run {R : sProp 𝕄} {Q : Unit → sProp 𝕄}
    (hk : ∀ f, TbGood tt (widW i).toNat 32 f → iprop(R ∗ tbP d i f ∗ ttP d i q tt ∗ semsT d i ∗ OW d i O W) ⊢ WPd U d i K Q) :
    ∀ n, n ≤ 32 → ∀ f, TbGood tt (widW i).toNat (32 - n) f →
      iprop(R ∗ MayWaits (Td d i) (default : HIx 2) O ∗ tbP d i f ∗ ttP d i q tt ∗ semsT d i ∗ OW d i O W) ⊢ WPd U d i (tailRows h3 n K) Q
  | 0, _, f, hf => by
    iintro ⟨HR, -, Hb, Ht, Hs, HO⟩
    iapply (hk f hf)
    isplitl [HR]; · iexact HR
    isplitl [Hb]; · iexact Hb
    isplitl [Ht]; · iexact Ht
    isplitl [Hs]; · iexact Hs
    iexact HO
  | n + 1, hn, f, hf => by
    have hj : 31 - n < 32 := by omega
    have e1 : 32 - (n + 1) = 31 - n := by omega
    have e2 : 31 - n + 1 = 32 - n := by omega
    rw [e1] at hf
    have hf' := tb_written h3 hj hf
    rw [e2] at hf'
    have ih := tailRows_run hk n (by omega) _ hf'
    iintro ⟨HR, #Hm, Hb, Ht, Hs, ⟨%W', %hW, HO⟩⟩
    ihave Hs := (Entails.of_eq (semsT_take d i hj)) $$ Hs
    icases Hs with ⟨Hv, Hs⟩
    ihave Ht := (pointsTo_split_subset (q := q) (f := tt) (ℓ := (ttV).view.loc (Td d i)) (Finset.subset_univ (ttTail h3 (31 - n)).view.set)).1 $$ Ht
    icases Ht with ⟨Ht, Hr⟩
    iapply (wp_dmaLocal countersEmb Variants.none (Td d i) none (src := ttTail h3 (31 - n)) (dst := tbRow (31 - n)) (sm := .dma (tailSem (31 - n)).sem) (q := q) (fs := tt)
      (Sd := Finset.univ) (fd := f) (default : HIx 2) (tbRow (31 - n)).view.dmaCredit rfl (View.dmaCredit_pos _ (by decide)) (Finset.subset_univ _)) $$ [Ht Hb Hv]
    · isplitl [Ht]; · iexact Ht
      isplitl [Hb]; · iexact Hb
      iexact Hv
    iintro Hfl
    iapply (wp_waitLocalO countersEmb Variants.none (Td d i) none (srcw := ttTail h3 (31 - n)) (dstw := tbRow (31 - n))
      (hsrc := (View.wordExact_bits rfl).reshape _ _) (hdst := (View.wordExact_bits rfl).reshape _ _) (default : HIx 2) (rfl : (tbRow (31 - n)).view.dmaCredit = _)) $$ [Hfl HO]
    · isplitl [Hfl]; · iexact Hfl
      isplitl [HO]; · iexact HO
      iapply (MayWaits.elim (SemLoc.dma (tailSem (31 - n)).sem)) $$ Hm
    iintro ⟨⟨Hb, Ht⟩, Hv, HO⟩
    ihave Ht := (pointsTo_split_subset (q := q) (f := tt) (ℓ := (ttV).view.loc (Td d i)) (Finset.subset_univ (ttTail h3 (31 - n)).view.set)).2 $$ [Ht Hr]
    · isplitl [Ht]; · iexact Ht
      iexact Hr
    iapply ih
    isplitl [HR]; · iexact HR
    isplitr; · iexact Hm
    isplitl [Hb]; · iexact Hb
    isplitl [Ht]; · iexact Ht
    isplitl [Hv Hs]
    · iapply (Entails.of_eq (semsT_take d i hj).symm)
      isplitl [Hv]; · iexact Hv
      iexact Hs
    iapply (ow_insert d i O W hW) $$ HO

theorem tailGat_run {R : sProp 𝕄} {Q : Unit → sProp 𝕄} {a r : ℕ} {f : S32x33.Idx → Elt F .f32} (hf : TbGood tt a 32 f) (hr : r < 64) {k' : Vec F S16 .f32 → PG F i Unit}
    (hk : ∀ v, GV tt a 99968 r v → iprop(R ∗ tbP d i f) ⊢ WPd U d i (k' v) Q) :
    iprop(R ∗ tbP d i f) ⊢ WPd U d i (tailGat h3 r k') Q := by
  unfold tailGat
  refine BIBase.Entails.trans ?_ (wp_assume Variants.none (Td d i) none Set.univ (chk_tail (i := i) hr))
  iintro ⟨HR, Hb⟩
  iapply (wp_load (defs := defs₀ (F := F)) Variants.none (Td d i) none Set.univ (m := tbV) (S := Finset.univ) (q := fullShare) (f := f) (Finset.subset_univ _)) $$ Hb
  iintro Hb
  iapply (hk _ (tail_val hf hr _))
  isplitl [HR]; · iexact HR
  iexact Hb

/-- The copy out of the transposed rows. -/
def tailOut (h3 : k0_cond3 i = 1#1) : PG F i Unit :=
  .op (.enqueueDma stTail (.here (pdTail h3)) (.dma cc0_scoped32.sem) ((View.wordExact_bits rfl).reshape _ _)
      ((View.wordExact_bits rfl).reshape _ _) ⟨Or.inl rfl, trivial⟩) fun _ =>
    .op (.waitDma2 cc0_scoped32.sem stTail (pdTail h3) ((View.wordExact_bits rfl).reshape _ _)
      ((View.wordExact_bits rfl).reshape _ _)) fun _ => .ret ⟨⟩

theorem tailOut_run {R : sProp 𝕄} {Q : Unit → sProp 𝕄} {f : S2x32x128.Idx → Elt F .f32} (hf : StGood tt (widW i).toNat 99968 0 64 f)
    (hC : ∀ W, C W → C' (W ∪ (pdTail h3).view.set))
    (hk : iprop(R ∗ (∃ f, sbP d i 0 f) ∗ semVal (Td d i, .dma cc0_scoped32.sem) 0 ∗ pdSh emb d i qd f0 tt C' ∗ OW d i O W) ⊢ WPd U d i (.ret ⟨⟩) Q) :
    iprop(R ∗ MayWaits (Td d i) (default : HIx 2) O ∗ wmInv emb ιwm ∗ sbP d i 0 f ∗ semVal (Td d i, .dma cc0_scoped32.sem) 0 ∗ pdSh emb d i qd f0 tt C ∗ OW d i O W)
      ⊢ WPd U d i (tailOut h3) Q := by
  unfold tailOut pdSh
  iintro ⟨HR, #Hm, #Hw, Hs, Hv, ⟨%W1, %hW1, Hp⟩, ⟨%W', %hW, HO⟩⟩
  ihave Hs := (pointsTo_split_subset (q := fullShare) (f := f) (ℓ := (sbV).view.loc (Td d i)) stTail_sub).1 $$ Hs
  icases Hs with ⟨Hs, Hr⟩
  iapply (wp_dmaMark Variants.none (Td d i) none countersEmb (emb := emb) (ιwm := ιwm) (src := stTail) (dst := pdTail h3) (sm := .dma cc0_scoped32.sem) (S := Finset.univ)
    (default : HIx 2) (pdTail h3).view.dmaCredit rfl (View.dmaCredit_pos _ (by decide)) (Finset.subset_univ _) (tail_adm h3 hf)) $$ [Hs Hv Hp]
  · isplitr; · iexact Hw
    isplitl [Hs]; · iexact Hs
    isplitl [Hp]; · iexact Hp
    iexact Hv
  iintro Hfl
  iapply (wp_waitLocalO countersEmb Variants.none (Td d i) none (srcw := stTail) (dstw := pdTail h3)
      (hsrc := (View.wordExact_bits rfl).reshape _ _) (hdst := (View.wordExact_bits rfl).reshape _ _) (default : HIx 2) (rfl : (pdTail h3).view.dmaCredit = _)) $$ [Hfl HO]
  · isplitl [Hfl]; · iexact Hfl
    isplitl [HO]; · iexact HO
    iapply (MayWaits.elim (SemLoc.dma cc0_scoped32.sem)) $$ Hm
  iintro ⟨⟨Hp, Hs⟩, Hv, HO⟩
  ihave Hs := (pointsTo_split_subset (q := fullShare) (f := f) (ℓ := (sbV).view.loc (Td d i)) stTail_sub).2 $$ [Hs Hr]
  · isplitl [Hs]; · iexact Hs
    iexact Hr
  iapply hk
  isplitl [HR]; · iexact HR
  isplitl [Hs]; · iexists f; iexact Hs
  isplitl [Hv]; · iexact Hv
  isplitl [Hp]
  · unfold pdSh
    iexists _
    isplitr [Hp]
    · ipureintro; exact hC W1 hW1
    · iexact Hp
  iapply (ow_insert d i O W hW) $$ HO

theorem tailTurn_run {R : sProp 𝕄} {Q : Unit → sProp 𝕄} {a : ℕ} {f : S32x33.Idx → Elt F .f32} (hf : TbGood tt a 32 f)
    (hk : ∀ g, StGood tt a 99968 0 64 g → iprop(R ∗ tbP d i f ∗ sbP d i 0 g) ⊢ WPd U d i K Q) :
    iprop(R ∗ tbP d i f ∗ ∃ g, sbP d i 0 g) ⊢ WPd U d i (sched (tailGat h3) (put 0) K (plan 41) 0 0 []) Q := by
  have hs := sched_run (F := F) (i := i) (α := Unit) (N := 64) (G := GV tt a 99968) (load := tailGat h3) (store := put 0) (K := K)
    (X := fun w k' => iprop((R ∗ tbP d i f) ∗ ∃ g, ⌜StGood tt a 99968 0 w g⌝ ∗ sbP d i 0 g) ⊢ WPd U d i k' Q)
    (fun w r k' hr hk' => by
      have := tailGat_run (R := iprop(R ∗ ∃ g, ⌜StGood tt a 99968 0 w g⌝ ∗ sbP d i 0 g)) (d := d) (h3 := h3) (Q := Q) (k' := k') hf hr (fun v hv => by
        iintro ⟨⟨HR, Hs⟩, Hi⟩
        iapply (hk' v hv)
        isplitl [HR Hi]
        · isplitl [HR]; · iexact HR
          iexact Hi
        iexact Hs)
      iintro ⟨⟨HR, Hi⟩, Hs⟩
      iapply this
      isplitl [HR Hs]
      · isplitl [HR]; · iexact HR
        iexact Hs
      iexact Hi)
    (fun w v k' hw hv hk' => put_run (show w < 256 by omega) hv hk')
    (by
      iintro ⟨⟨HR, Hi⟩, ⟨%g, %hg, Hs⟩⟩
      iapply (hk g hg)
      isplitl [HR]; · iexact HR
      isplitl [Hi]; · iexact Hi
      iexact Hs)
    (plan 41) 0 0 [] ok_plan.2 trivial rfl
  iintro ⟨HR, Hi, ⟨%g, Hs⟩⟩
  iapply hs
  isplitl [HR Hi]
  · isplitl [HR]; · iexact HR
    iexact Hi
  iexists g
  isplitr [Hs]
  · ipureintro; intro x _ hx; omega
  · iexact Hs

theorem tail_eq : (tail h3 : PG F i Unit) = tailRows h3 32 (sched (tailGat h3) (put 0) (tailOut h3) (plan 41) 0 0 []) := by
  unfold tail tailOut
  rfl

theorem tailEnd_run {R : sProp 𝕄} {Q : Unit → sProp 𝕄} (hC : ∀ W, C W → C' (W ∪ (pdTail h3).view.set))
    (hk : iprop(R ∗ (∃ f, tbP d i f) ∗ ttP d i q tt ∗ semsT d i ∗ (∃ f, sbP d i 0 f) ∗ semVal (Td d i, .dma cc0_scoped32.sem) 0 ∗ pdSh emb d i qd f0 tt C' ∗ OW d i O W)
      ⊢ WPd U d i (.ret ⟨⟩) Q) (f : S32x33.Idx → Elt F .f32) (hf : TbGood tt (widW i).toNat 32 f) :
    iprop((R ∗ MayWaits (Td d i) (default : HIx 2) O ∗ wmInv emb ιwm ∗ (∃ f, sbP d i 0 f) ∗ semVal (Td d i, .dma cc0_scoped32.sem) 0 ∗ pdSh emb d i qd f0 tt C)
        ∗ tbP d i f ∗ ttP d i q tt ∗ semsT d i ∗ OW d i O W)
      ⊢ WPd U d i (sched (tailGat h3) (put 0) (tailOut h3) (plan 41) 0 0 []) Q := by
  have ho := fun (g : S2x32x128.Idx → Elt F .f32) (hg : StGood tt (widW i).toNat 99968 0 64 g) =>
    tailOut_run emb (R := iprop(tbP d i f ∗ ttP d i q tt ∗ semsT d i ∗ R)) (ιwm := ιwm) (d := d) (O := O) (W := W) (qd := qd) (f0 := f0) (h3 := h3) (C := C) (C' := C') (Q := Q) hg hC (by
      iintro ⟨⟨Hb, Ht, Hts, HR⟩, Hs, Hv, Hp, HO⟩
      iapply hk
      isplitl [HR]; · iexact HR
      isplitl [Hb]; · iexists f; iexact Hb
      isplitl [Ht]; · iexact Ht
      isplitl [Hts]; · iexact Hts
      isplitl [Hs]; · iexact Hs
      isplitl [Hv]; · iexact Hv
      isplitl [Hp]; · iexact Hp
      iexact HO)
  have ht := tailTurn_run (R := iprop(R ∗ MayWaits (Td d i) (default : HIx 2) O ∗ wmInv emb ιwm ∗ semVal (Td d i, .dma cc0_scoped32.sem) 0 ∗ pdSh emb d i qd f0 tt C
      ∗ ttP d i q tt ∗ semsT d i ∗ OW d i O W)) (d := d) (h3 := h3) (Q := Q) (K := tailOut h3) hf (fun g hg => by
    iintro ⟨⟨HR, Hm, Hw, Hv, Hp, Ht, Hts, HO⟩, Hb, Hs⟩
    iapply (ho g hg)
    isplitl [Hb Ht Hts HR]
    · isplitl [Hb]; · iexact Hb
      isplitl [Ht]; · iexact Ht
      isplitl [Hts]; · iexact Hts
      iexact HR
    isplitl [Hm]; · iexact Hm
    isplitl [Hw]; · iexact Hw
    isplitl [Hs]; · iexact Hs
    isplitl [Hv]; · iexact Hv
    isplitl [Hp]; · iexact Hp
    iexact HO)
  iintro ⟨⟨HR, Hm, Hw, Hs, Hv, Hp⟩, Hb, Ht, Hts, HO⟩
  iapply ht
  isplitr [Hb Hs]
  · isplitl [HR]; · iexact HR
    isplitl [Hm]; · iexact Hm
    isplitl [Hw]; · iexact Hw
    isplitl [Hv]; · iexact Hv
    isplitl [Hp]; · iexact Hp
    isplitl [Ht]; · iexact Ht
    isplitl [Hts]; · iexact Hts
    iexact HO
  isplitl [Hb]; · iexact Hb
  iexact Hs

/-- The last rows of the field, whole. -/
theorem tail_run {R : sProp 𝕄} {Q : Unit → sProp 𝕄} (hC : ∀ W, C W → C' (W ∪ (pdTail h3).view.set))
    (hk : iprop(R ∗ (∃ f, tbP d i f) ∗ ttP d i q tt ∗ semsT d i ∗ (∃ f, sbP d i 0 f) ∗ semVal (Td d i, .dma cc0_scoped32.sem) 0 ∗ pdSh emb d i qd f0 tt C' ∗ OW d i O W)
      ⊢ WPd U d i (.ret ⟨⟩) Q) :
    iprop(R ∗ MayWaits (Td d i) (default : HIx 2) O ∗ wmInv emb ιwm ∗ (∃ f, tbP d i f) ∗ ttP d i q tt ∗ semsT d i ∗ (∃ f, sbP d i 0 f)
        ∗ semVal (Td d i, .dma cc0_scoped32.sem) 0 ∗ pdSh emb d i qd f0 tt C ∗ OW d i O W)
      ⊢ WPd U d i (tail h3) Q := by
  rw [tail_eq]
  have hr := fun f => tailRows_run (d := d) (h3 := h3) (O := O) (W := W) (q := q) (tt := tt) (Q := Q)
      (K := sched (tailGat h3) (put 0) (tailOut h3) (plan 41) 0 0 []) (tailEnd_run emb (ιwm := ιwm) (C := C) (C' := C') hC hk) 32 (Nat.le_refl 32) f
  iintro ⟨HR, #Hm, Hw, ⟨%f, Hb⟩, Ht, Hts, Hs, Hv, Hp, HO⟩
  iapply (hr f (fun x hx => absurd hx (Nat.not_lt_zero _)))
  isplitl [HR Hw Hs Hv Hp]
  · isplitl [HR]; · iexact HR
    isplitr; · iexact Hm
    isplitl [Hw]; · iexact Hw
    isplitl [Hs]; · iexact Hs
    isplitl [Hv]; · iexact Hv
    iexact Hp
  isplitr; · iexact Hm
  isplitl [Hb]; · iexact Hb
  isplitl [Ht]; · iexact Ht
  isplitl [Hts]; · iexact Hts
  iexact HO

end

end Cert.Proof.Kern

end
-- ==== Proof.DetLoop.lean ====
/-
  The detranspose kernel of one tile, run from its first copy to its last (`det_run`). The rounds of a tile are numbered; even ones
  go through slot 0 and odd ones through slot 1, and each slot has its own share of the two arrays.
-/
module

public import proofs.«01_k».proof.Proof.DetTail

@[expose] public section

noncomputable section

namespace Cert.Proof.Kern

open Cert.KernelIdeal Cert.KernelIdeal.Facts₀ Cert.KernelIdeal.Facts

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

theorem kW_eq : ∀ t : Fin k0_t1_loop.trips, kW t 0#32 = BitVec.ofNat 32 (2 * t.val + 0) ∧ kW t 1#32 = BitVec.ofNat 32 (2 * t.val + 1)
    ∧ Scalar.addi (kW t 0#32) 2#32 = BitVec.ofNat 32 (2 * (t.val + 1) + 0) ∧ Scalar.addi (kW t 1#32) 2#32 = BitVec.ofNat 32 (2 * (t.val + 1) + 1) := by decide +kernel

theorem trips0 : k0_t1_loop.trips = 318 := by decide +kernel

/-- After `n` rounds of parity `p` their blocks are written. -/
def CC (i : grid0.Coords) (p n : ℕ) (W : Finset S26x25000x128.Idx) : Prop := ∀ m < n, blkS i (BitVec.ofNat 32 (2 * m + p)) ⊆ W

/-- Everything a tile writes is written. -/
def DoneD (i : grid0.Coords) (W : Finset S26x25000x128.Idx) : Prop :=
  (CC i 0 318 W ∧ CC i 1 318 W) ∧ (k0_cond3 i = 1#1 → tailS i ⊆ W)

theorem CC.left {i : grid0.Coords} {p n : ℕ} {W : Finset S26x25000x128.Idx} (h : CC i p n W) (W' : Finset S26x25000x128.Idx) : CC i p n (W ∪ W') :=
  fun m hm => (h m hm).trans Finset.subset_union_left
theorem CC.right {i : grid0.Coords} {p n : ℕ} {W : Finset S26x25000x128.Idx} (h : CC i p n W) (W' : Finset S26x25000x128.Idx) : CC i p n (W' ∪ W) :=
  fun m hm => (h m hm).trans Finset.subset_union_right

variable [Cert.KernelIdeal.Facts] {F : FTy → Type}

theorem cc_step {i : grid0.Coords} {k : BitVec 32} (h : InB i k) {p n : ℕ} (e : k = BitVec.ofNat 32 (2 * n + p)) :
    ∀ W, CC i p n W → CC i p (n + 1) (W ∪ (pdBlk h).view.set) := by
  intro W hW m hm
  rcases Nat.lt_succ_iff_lt_or_eq.mp hm with hm | rfl
  · exact (hW m hm).trans Finset.subset_union_left
  · subst e
    exact (blkS_sub h).trans Finset.subset_union_right

variable [FloatOps F] {U : Type} [URA U] [CountersIn U] (emb : UEmb (WmRA nD τ sig (Elt F)) U)

local notation "𝕄" => MT nD τ sig (HIx 2) (Elt F) ℕ U ℕ

section
variable (d : Dev nD) (i : grid0.Coords) (O : CellTallies nD τ sig (HIx 2)) (W : Waits sig (HIx 2)) (ιwm : ℕ)
variable (q qd : PosShare TreeShare) (f0 : S26x25000x128.Idx → Elt F .f32) (tt : S26x32x100000.Idx → Elt F .f32)

/-- The block of round `2 n + p` on its way in. -/
def InFlN (p : ℕ) (s : DmaSems sig S_) (q : PosShare TreeShare) (n : ℕ) : sProp 𝕄 :=
  if h : InB i (BitVec.ofNat 32 (2 * n + p)) then InFl d h p s q tt else iprop(emp)

theorem inFlN {p : ℕ} {s : DmaSems sig S_} {q : PosShare TreeShare} {n : ℕ} {k : BitVec 32} (h : InB i k) (e : k = BitVec.ofNat 32 (2 * n + p)) :
    (InFlN d i tt p s q n : sProp 𝕄) = InFl d h p s q tt := by
  subst e
  exact dif_pos h

/-- A slot before its round `2 n + p`. -/
def Slot (p : ℕ) (s so : DmaSems sig S_) (q qd : PosShare TreeShare) (n : ℕ) : sProp 𝕄 :=
  iprop(InFlN d i tt p s q n ∗ (bif decide (n ≠ 0) then OutFl emb d i p so qd f0 tt (CC i p n) else OutRest emb d i p so qd f0 tt (CC i p n)))

/-- A tile before trip `n`. -/
def Jn (n : ℕ) : sProp 𝕄 :=
  iprop(MayWaits (Td d i) (default : HIx 2) O ∗ wmInv emb ιwm ∗ Slot emb d i f0 tt 0 cc0_scratch3 cc0_scratch5 q.left qd.left n
    ∗ Slot emb d i f0 tt 1 cc0_scratch4 cc0_scratch6 q.right qd.right n ∗ OW d i O W)

theorem slot_next {k' : BitVec 32} (h' : InB i k') (p : ℕ) (s so : DmaSems sig S_) (q qd : PosShare TreeShare) (n : ℕ) (e : k' = BitVec.ofNat 32 (2 * (n + 1) + p)) :
    iprop(InFl d h' p s q tt ∗ OutFl emb d i p so qd f0 tt (CC i p (n + 1))) ⊢ (Slot emb d i f0 tt p s so q qd (n + 1) : sProp 𝕄) := by
  unfold Slot
  rw [inFlN d i tt h' e, decide_eq_true (Nat.succ_ne_zero n), cond_true]

theorem trip_run (t : Fin k0_t1_loop.trips) :
    Jn emb d i O W ιwm q qd f0 tt t.val ⊢ WPd U d i (trip (decide (t.val ≠ 0)) i t) fun _ => Jn emb d i O W ιwm q qd f0 tt (t.val + 1) := by
  obtain ⟨e0, e1, e2, e3⟩ := kW_eq t
  have hret : Jn emb d i O W ιwm q qd f0 tt (t.val + 1) ⊢ WPd U d i (.ret ⟨⟩ : PG F i Unit) fun _ => Jn emb d i O W ιwm q qd f0 tt (t.val + 1) := by
    unfold WPd
    rw [wp_ret]
    exact BI.fupd_intro
  have h1 := half_run emb (R := iprop(MayWaits (Td d i) (default : HIx 2) O ∗ wmInv emb ιwm ∗ Slot emb d i f0 tt 0 cc0_scratch3 cc0_scratch5 q.left qd.left (t.val + 1)))
    (d := d) (O := O) (W := W) (h := (inBk i t).1.2) (h' := (inBk i t).2.2) (p := 1) (s := cc0_scratch4) (so := cc0_scratch6) (q := q.right) (qd := qd.right) (f0 := f0) (tt := tt)
    (ιwm := ιwm) (K := .ret ⟨⟩) (Q := fun _ => Jn emb d i O W ιwm q qd f0 tt (t.val + 1)) (decide (t.val ≠ 0)) (cc_step (inBk i t).1.2 e1) (by
      iintro ⟨⟨Hm, Hw, Hs⟩, Hi, Ho, HO⟩
      iapply hret
      unfold Jn
      isplitl [Hm]; · iexact Hm
      isplitl [Hw]; · iexact Hw
      isplitl [Hs]; · iexact Hs
      isplitr [HO]
      · iapply (slot_next emb d i f0 tt (inBk i t).2.2 1 cc0_scratch4 cc0_scratch6 q.right qd.right t.val e3)
        isplitl [Hi]; · iexact Hi
        iexact Ho
      iexact HO)
  have h0 := half_run emb (R := iprop(MayWaits (Td d i) (default : HIx 2) O ∗ wmInv emb ιwm ∗ Slot emb d i f0 tt 1 cc0_scratch4 cc0_scratch6 q.right qd.right t.val))
    (d := d) (O := O) (W := W) (h := (inBk i t).1.1) (h' := (inBk i t).2.1) (p := 0) (s := cc0_scratch3) (so := cc0_scratch5) (q := q.left) (qd := qd.left) (f0 := f0) (tt := tt)
    (ιwm := ιwm) (K := half (decide (t.val ≠ 0)) (inBk i t).1.2 (inBk i t).2.2 1 cc0_scratch4 cc0_scratch6 (.ret ⟨⟩)) (Q := fun _ => Jn emb d i O W ιwm q qd f0 tt (t.val + 1))
    (decide (t.val ≠ 0)) (cc_step (inBk i t).1.1 e0) (by
      have hs := slot_next emb d i f0 tt (inBk i t).2.1 0 cc0_scratch3 cc0_scratch5 q.left qd.left t.val e2
      unfold Slot at h1 hs ⊢
      rw [inFlN d i tt (inBk i t).1.2 e1]
      iintro ⟨⟨#Hm, #Hw, Hi1, Ho1⟩, Hi, Ho, HO⟩
      iapply h1
      isplitl [Hi Ho]
      · isplitr; · iexact Hm
        isplitr; · iexact Hw
        iapply hs
        isplitl [Hi]; · iexact Hi
        iexact Ho
      isplitr; · iexact Hm
      isplitr; · iexact Hw
      isplitl [Hi1]; · iexact Hi1
      isplitl [Ho1]; · iexact Ho1
      iexact HO)
  unfold trip Jn
  iintro ⟨#Hm, #Hw, Hs0, Hs1, HO⟩
  unfold Slot at h0 ⊢
  ihave Hs0 := (Entails.of_eq (congrArg (fun X => iprop(X ∗ (bif decide (t.val ≠ 0) then OutFl emb d i 0 cc0_scratch5 qd.left f0 tt (CC i 0 t.val)
      else OutRest emb d i 0 cc0_scratch5 qd.left f0 tt (CC i 0 t.val)))) (inFlN d i tt (s := cc0_scratch3) (q := q.left) (inBk i t).1.1 e0))) $$ Hs0
  icases Hs0 with ⟨Hi0, Ho0⟩
  iapply h0
  isplitl [Hs1]
  · isplitr; · iexact Hm
    isplitr; · iexact Hw
    iexact Hs1
  isplitr; · iexact Hm
  isplitr; · iexact Hw
  isplitl [Hi0]; · iexact Hi0
  isplitl [Ho0]; · iexact Ho0
  iexact HO

end

section
variable {d : Dev nD} {i : grid0.Coords} {O : CellTallies nD τ sig (HIx 2)} {W : Waits sig (HIx 2)} {ιwm : ℕ}
variable {q qd : PosShare TreeShare} {f0 : S26x25000x128.Idx → Elt F .f32} {tt : S26x32x100000.Idx → Elt F .f32}

theorem loop_run {R : sProp 𝕄} {Q : Unit → sProp 𝕄} {K : PG F i Unit} (hk : iprop(R ∗ Jn emb d i O W ιwm q qd f0 tt 318) ⊢ WPd U d i K Q) :
    iprop(R ∗ Jn emb d i O W ιwm q qd f0 tt 0)
      ⊢ WPd U d i (Prog.bind (Scf.Loop.for k0_t1_loop k0_t1_ok PUnit.unit fun t _ => trip (decide (t.val ≠ 0)) i t) fun _ => K) Q := by
  have hloop := Scf.wp_for_bind (Fr := frame) (wpE := wpE (defs₀ (F := F)) Variants.none (Td d i) none) (Es := Set.univ) k0_t1_loop.lb k0_t1_loop.ub k0_t1_loop.st k0_t1_ok PUnit.unit
    (fun t (_ : PUnit) => trip (F := F) (decide (t.val ≠ 0)) i t) (fun n _ => Jn emb d i O W ιwm q qd f0 tt n)
    (fun t _ => trip_run emb d i O W ιwm q qd f0 tt t) (kk := fun _ => K) (Q := Q)
  iintro ⟨HR, HJ⟩
  iapply hloop $$ [HJ]
  · iexact HJ
  iintro %_u HJ
  iapply hk
  isplitl [HR]; · iexact HR
  iapply (Entails.of_eq (congrArg (Jn emb d i O W ιwm q qd f0 tt) trips0))
  iexact HJ

/-- What a tile has at the end. -/
def DetEnd (emb : UEmb (WmRA nD τ sig (Elt F)) U) (d : Dev nD) (i : grid0.Coords) (O : CellTallies nD τ sig (HIx 2)) (W : Waits sig (HIx 2))
    (q qd : PosShare TreeShare) (f0 : S26x25000x128.Idx → Elt F .f32) (tt : S26x32x100000.Idx → Elt F .f32) : sProp 𝕄 :=
  iprop((∃ f, ibP d i 0 f) ∗ (∃ f, ibP d i 1 f) ∗ (∃ f, sbP d i 0 f) ∗ (∃ f, sbP d i 1 f) ∗ (∃ f, tbP d i f) ∗ ttP d i q tt
    ∗ pdSh emb d i qd f0 tt (DoneD i) ∗ semVal (Td d i, .dma cc0_scratch3.sem) 0 ∗ semVal (Td d i, .dma cc0_scratch4.sem) 0
    ∗ semVal (Td d i, .dma cc0_scratch5.sem) 0 ∗ semVal (Td d i, .dma cc0_scratch6.sem) 0 ∗ semVal (Td d i, .dma cc0_scoped32.sem) 0 ∗ semsT d i ∗ OW d i O W)

theorem tt_halves (d : Dev nD) (i : grid0.Coords) (q : PosShare TreeShare) (tt : S26x32x100000.Idx → Elt F .f32) :
    (ttP d i q tt : sProp 𝕄) ⊣⊢ iprop(ttP d i q.left tt ∗ ttP d i q.right tt) := pointsTo_share (PosShare.mem_left_op_right q)

theorem pd_double {C C' : Finset S26x25000x128.Idx → Prop} (hC : ∀ W W', C W → C (W ∪ W')) (hC' : ∀ W W', C' W → C' (W' ∪ W)) :
    iprop(pdSh emb d i qd.left f0 tt C ∗ pdSh emb d i qd.right f0 tt C') ⊢ (pdSh emb d i qd f0 tt (fun W => C W ∧ C' W) : sProp 𝕄) := by
  unfold pdSh
  iintro ⟨⟨%W1, %h1, H1⟩, ⟨%W2, %h2, H2⟩⟩
  iexists (W1 ∪ W2)
  isplitr [H1 H2]
  · ipureintro; exact ⟨hC _ _ h1, hC' _ _ h2⟩
  iapply (marks_double (emb := emb) (ℓ := (pdV).view.loc (Td d i)) Finset.univ f0 (fun x => some (packed tt x)) qd W1 W2)
  isplitl [H1]; · iexact H1
  iexact H2

/-- The part of the program that copies the last rows. -/
def lastT (i : grid0.Coords) : PG F i Unit := if h3 : k0_cond3 i = 1#1 then tail h3 else .ret ⟨⟩

theorem fin_eq (i : grid0.Coords) : (fin i : PG F i Unit) =
    waits (inB0 i).2.2.2.2.1 0 cc0_scratch3 32 (outWait (inB0 i).2.2.1 0 cc0_scratch5
      (waits (inB0 i).2.2.2.2.2 1 cc0_scratch4 32 (outWait (inB0 i).2.2.2.1 1 cc0_scratch6
        (Prog.bind (lastT (F := F) i) fun _ => .ret PUnit.unit)))) := rfl

theorem bind_run (T K : PG F i Unit) (Q : Unit → sProp 𝕄) : WPd U d i T (fun _ => WPd U d i K Q) ⊢ WPd U d i (Prog.bind T fun _ => K) Q := by
  unfold WPd
  show _ ⊢ wp frame (wpE (defs₀ (F := F)) Variants.none (Td d i) none) Set.univ (T >>= fun _ => K) Q
  rw [wp_bind]

theorem ret_run {A : sProp 𝕄} {Q : Unit → sProp 𝕄} (hA : A ⊢ WPd U d i (.ret ⟨⟩ : PG F i Unit) Q) :
    A ⊢ WPd U d i (.ret ⟨⟩ : PG F i Unit) (fun _ => WPd U d i (.ret ⟨⟩ : PG F i Unit) Q) := by
  refine hA.trans ?_
  conv_rhs => unfold WPd
  rw [wp_ret]
  exact BI.fupd_intro

/-- The last rows, if the tile has a field. -/
theorem last_run {R : sProp 𝕄} {Q : Unit → sProp 𝕄}
    (hk : iprop(R ∗ (∃ f, tbP d i f) ∗ ttP d i q tt ∗ semsT d i ∗ (∃ f, sbP d i 0 f) ∗ semVal (Td d i, .dma cc0_scoped32.sem) 0 ∗ pdSh emb d i qd f0 tt (DoneD i) ∗ OW d i O W)
      ⊢ WPd U d i (.ret ⟨⟩ : PG F i Unit) Q) :
    iprop(R ∗ MayWaits (Td d i) (default : HIx 2) O ∗ wmInv emb ιwm ∗ (∃ f, tbP d i f) ∗ ttP d i q tt ∗ semsT d i ∗ (∃ f, sbP d i 0 f)
        ∗ semVal (Td d i, .dma cc0_scoped32.sem) 0 ∗ pdSh emb d i qd f0 tt (fun W => CC i 0 318 W ∧ CC i 1 318 W) ∗ OW d i O W)
      ⊢ WPd U d i (Prog.bind (lastT (F := F) i) fun _ => .ret PUnit.unit) Q := by
  refine BIBase.Entails.trans ?_ (bind_run (lastT i) _ Q)
  unfold lastT
  by_cases h3 : k0_cond3 i = 1#1
  · rw [dif_pos h3]
    exact tail_run emb (fun W hW => ⟨⟨hW.1.left _, hW.2.left _⟩, fun _ => (tailS_sub h3).trans Finset.subset_union_right⟩) (ret_run hk)
  · rw [dif_neg h3]
    refine ret_run ?_
    iintro ⟨HR, -, -, Hb, Ht, Hts, Hs, Hv, Hp, HO⟩
    iapply hk
    isplitl [HR]; · iexact HR
    isplitl [Hb]; · iexact Hb
    isplitl [Ht]; · iexact Ht
    isplitl [Hts]; · iexact Hts
    isplitl [Hs]; · iexact Hs
    isplitl [Hv]; · iexact Hv
    isplitl [Hp]
    · unfold pdSh
      icases Hp with ⟨%W1, %h1, Hp⟩
      iexists W1
      isplitr [Hp]
      · ipureintro; exact ⟨h1, fun h => absurd h h3⟩
      · iexact Hp
    iexact HO

/-- What is left after the loop. -/
theorem fin_run :
    iprop(((∃ f, tbP d i f) ∗ semsT d i ∗ semVal (Td d i, .dma cc0_scoped32.sem) 0) ∗ Jn emb d i O W ιwm q qd f0 tt 318)
      ⊢ WPd U d i (fin i) fun _ => DetEnd emb d i O W q qd f0 tt := by
  have h4 := last_run emb (R := iprop((∃ f, ibP d i 0 f) ∗ (∃ f, ibP d i 1 f) ∗ (∃ f, sbP d i 1 f) ∗ semVal (Td d i, .dma cc0_scratch3.sem) 0
      ∗ semVal (Td d i, .dma cc0_scratch4.sem) 0 ∗ semVal (Td d i, .dma cc0_scratch5.sem) 0 ∗ semVal (Td d i, .dma cc0_scratch6.sem) 0))
    (d := d) (i := i) (O := O) (W := W) (ιwm := ιwm) (q := q) (qd := qd) (f0 := f0) (tt := tt) (Q := fun _ => DetEnd emb d i O W q qd f0 tt) (by
      unfold WPd
      rw [wp_ret]
      refine BIBase.Entails.trans ?_ BI.fupd_intro
      unfold DetEnd
      iintro ⟨⟨Hi0, Hi1, Hs1, H3, H4, H5, H6⟩, Hb, Ht, Hts, Hs, Hv, Hp, HO⟩
      isplitl [Hi0]; · iexact Hi0
      isplitl [Hi1]; · iexact Hi1
      isplitl [Hs]; · iexact Hs
      isplitl [Hs1]; · iexact Hs1
      isplitl [Hb]; · iexact Hb
      isplitl [Ht]; · iexact Ht
      isplitl [Hp]; · iexact Hp
      isplitl [H3]; · iexact H3
      isplitl [H4]; · iexact H4
      isplitl [H5]; · iexact H5
      isplitl [H6]; · iexact H6
      isplitl [Hv]; · iexact Hv
      isplitl [Hts]; · iexact Hts
      iexact HO)
  have h3 := outWait_run emb (R := iprop(((∃ f, tbP d i f) ∗ semsT d i ∗ semVal (Td d i, .dma cc0_scoped32.sem) 0) ∗ MayWaits (Td d i) (default : HIx 2) O ∗ wmInv emb ιwm
      ∗ (∃ f, ibP d i 0 f) ∗ ttP d i q.left tt ∗ semVal (Td d i, .dma cc0_scratch3.sem) 0 ∗ OutRest emb d i 0 cc0_scratch5 qd.left f0 tt (CC i 0 318)
      ∗ (∃ f, ibP d i 1 f) ∗ ttP d i q.right tt ∗ semVal (Td d i, .dma cc0_scratch4.sem) 0))
    (d := d) (i := i) (O := O) (W := W) (h := (inB0 i).2.2.2.1) (p := 1) (so := cc0_scratch6) (qd := qd.right) (f0 := f0) (tt := tt) (C := CC i 1 318)
    (K := Prog.bind (lastT (F := F) i) fun _ => .ret PUnit.unit) (Q := fun _ => DetEnd emb d i O W q qd f0 tt) (by
      unfold OutRest
      iintro ⟨⟨⟨Hb, Hts, Hv⟩, Hm, Hw, Hi0, Ht0, H3, ⟨Hs0, H5, Hp0⟩, Hi1, Ht1, H4⟩, ⟨Hs1, H6, Hp1⟩, HO⟩
      iapply h4
      isplitl [Hi0 Hi1 Hs1 H3 H4 H5 H6]
      · isplitl [Hi0]; · iexact Hi0
        isplitl [Hi1]; · iexact Hi1
        isplitl [Hs1]; · iexact Hs1
        isplitl [H3]; · iexact H3
        isplitl [H4]; · iexact H4
        isplitl [H5]; · iexact H5
        iexact H6
      isplitl [Hm]; · iexact Hm
      isplitl [Hw]; · iexact Hw
      isplitl [Hb]; · iexact Hb
      isplitl [Ht0 Ht1]
      · iapply (tt_halves d i q tt).2
        isplitl [Ht0]; · iexact Ht0
        iexact Ht1
      isplitl [Hts]; · iexact Hts
      isplitl [Hs0]; · iexact Hs0
      isplitl [Hv]; · iexact Hv
      isplitl [Hp0 Hp1]
      · iapply (pd_double emb (fun _ W' h => h.left W') (fun _ W' h => h.right W'))
        isplitl [Hp0]; · iexact Hp0
        iexact Hp1
      iexact HO)
  have h2 := waits_run (R := iprop(((∃ f, tbP d i f) ∗ semsT d i ∗ semVal (Td d i, .dma cc0_scoped32.sem) 0) ∗ MayWaits (Td d i) (default : HIx 2) O ∗ wmInv emb ιwm
      ∗ (∃ f, ibP d i 0 f) ∗ ttP d i q.left tt ∗ semVal (Td d i, .dma cc0_scratch3.sem) 0 ∗ OutRest emb d i 0 cc0_scratch5 qd.left f0 tt (CC i 0 318)
      ∗ OutFl emb d i 1 cc0_scratch6 qd.right f0 tt (CC i 1 318)))
    (d := d) (i := i) (O := O) (W := W) (h := (inB0 i).2.2.2.2.2) (p := 1) (s := cc0_scratch4) (q := q.right) (tt := tt)
    (K := outWait (inB0 i).2.2.2.1 1 cc0_scratch6 (Prog.bind (lastT (F := F) i) fun _ => .ret PUnit.unit))
    (Q := fun _ => DetEnd emb d i O W q qd f0 tt) (fun g _ => by
      iintro ⟨⟨HT, #Hm, Hw, Hi0, Ht0, H3, Hr0, Ho1⟩, Hi1, Ht1, H4, HO⟩
      iapply h3
      isplitr [Ho1 HO]
      · isplitl [HT]; · iexact HT
        isplitr; · iexact Hm
        isplitl [Hw]; · iexact Hw
        isplitl [Hi0]; · iexact Hi0
        isplitl [Ht0]; · iexact Ht0
        isplitl [H3]; · iexact H3
        isplitl [Hr0]; · iexact Hr0
        isplitl [Hi1]; · iexists g; iexact Hi1
        isplitl [Ht1]; · iexact Ht1
        iexact H4
      isplitr; · iexact Hm
      isplitl [Ho1]; · iexact Ho1
      iexact HO)
  have h1 := outWait_run emb (R := iprop(((∃ f, tbP d i f) ∗ semsT d i ∗ semVal (Td d i, .dma cc0_scoped32.sem) 0) ∗ MayWaits (Td d i) (default : HIx 2) O ∗ wmInv emb ιwm
      ∗ (∃ f, ibP d i 0 f) ∗ ttP d i q.left tt ∗ semVal (Td d i, .dma cc0_scratch3.sem) 0
      ∗ OutFl emb d i 1 cc0_scratch6 qd.right f0 tt (CC i 1 318) ∗ InFl d (inB0 i).2.2.2.2.2 1 cc0_scratch4 q.right tt))
    (d := d) (i := i) (O := O) (W := W) (h := (inB0 i).2.2.1) (p := 0) (so := cc0_scratch5) (qd := qd.left) (f0 := f0) (tt := tt) (C := CC i 0 318)
    (K := waits (inB0 i).2.2.2.2.2 1 cc0_scratch4 32 (outWait (inB0 i).2.2.2.1 1 cc0_scratch6 (Prog.bind (lastT (F := F) i) fun _ => .ret PUnit.unit)))
    (Q := fun _ => DetEnd emb d i O W q qd f0 tt) (by
      iintro ⟨⟨HT, #Hm, Hw, Hi0, Ht0, H3, Ho1, HI1⟩, Hr0, HO⟩
      iapply h2
      isplitr [HI1 HO]
      · isplitl [HT]; · iexact HT
        isplitr; · iexact Hm
        isplitl [Hw]; · iexact Hw
        isplitl [Hi0]; · iexact Hi0
        isplitl [Ht0]; · iexact Ht0
        isplitl [H3]; · iexact H3
        isplitl [Hr0]; · iexact Hr0
        iexact Ho1
      isplitr; · iexact Hm
      isplitl [HI1]; · iexact HI1
      iexact HO)
  have h0 := waits_run (R := iprop(((∃ f, tbP d i f) ∗ semsT d i ∗ semVal (Td d i, .dma cc0_scoped32.sem) 0) ∗ MayWaits (Td d i) (default : HIx 2) O ∗ wmInv emb ιwm
      ∗ OutFl emb d i 0 cc0_scratch5 qd.left f0 tt (CC i 0 318)
      ∗ OutFl emb d i 1 cc0_scratch6 qd.right f0 tt (CC i 1 318) ∗ InFl d (inB0 i).2.2.2.2.2 1 cc0_scratch4 q.right tt))
    (d := d) (i := i) (O := O) (W := W) (h := (inB0 i).2.2.2.2.1) (p := 0) (s := cc0_scratch3) (q := q.left) (tt := tt)
    (K := outWait (inB0 i).2.2.1 0 cc0_scratch5 (waits (inB0 i).2.2.2.2.2 1 cc0_scratch4 32 (outWait (inB0 i).2.2.2.1 1 cc0_scratch6
      (Prog.bind (lastT (F := F) i) fun _ => .ret PUnit.unit))))
    (Q := fun _ => DetEnd emb d i O W q qd f0 tt) (fun g _ => by
      iintro ⟨⟨HT, #Hm, Hw, Ho0, Ho1, HI1⟩, Hi0, Ht0, H3, HO⟩
      iapply h1
      isplitr [Ho0 HO]
      · isplitl [HT]; · iexact HT
        isplitr; · iexact Hm
        isplitl [Hw]; · iexact Hw
        isplitl [Hi0]; · iexists g; iexact Hi0
        isplitl [Ht0]; · iexact Ht0
        isplitl [H3]; · iexact H3
        isplitl [Ho1]; · iexact Ho1
        iexact HI1
      isplitr; · iexact Hm
      isplitl [Ho0]; · iexact Ho0
      iexact HO)
  rw [fin_eq]
  unfold Jn Slot
  rw [inFlN d i tt (inB0 i).2.2.2.2.1 (show (636#32 : BitVec 32) = BitVec.ofNat 32 (2 * 318 + 0) from rfl),
    inFlN d i tt (inB0 i).2.2.2.2.2 (show (637#32 : BitVec 32) = BitVec.ofNat 32 (2 * 318 + 1) from rfl),
    decide_eq_true (show (318 : ℕ) ≠ 0 by decide), cond_true, cond_true]
  iintro ⟨HT, #Hm, Hw, ⟨HI0, Ho0⟩, ⟨HI1, Ho1⟩, HO⟩
  iapply h0
  isplitr [HI0 HO]
  · isplitl [HT]; · iexact HT
    isplitr; · iexact Hm
    isplitl [Hw]; · iexact Hw
    isplitl [Ho0]; · iexact Ho0
    isplitl [Ho1]; · iexact Ho1
    iexact HI1
  isplitr; · iexact Hm
  isplitl [HI0]; · iexact HI0
  iexact HO

/-- The whole kernel of a tile. -/
theorem det_run :
    iprop(MayWaits (Td d i) (default : HIx 2) O ∗ wmInv emb ιwm ∗ (∃ f, ibP d i 0 f) ∗ (∃ f, ibP d i 1 f) ∗ (∃ f, sbP d i 0 f) ∗ (∃ f, sbP d i 1 f) ∗ (∃ f, tbP d i f)
        ∗ ttP d i q tt ∗ pdM emb d i qd f0 tt ∅ ∗ semVal (Td d i, .dma cc0_scratch3.sem) 0 ∗ semVal (Td d i, .dma cc0_scratch4.sem) 0
        ∗ semVal (Td d i, .dma cc0_scratch5.sem) 0 ∗ semVal (Td d i, .dma cc0_scratch6.sem) 0 ∗ semVal (Td d i, .dma cc0_scoped32.sem) 0 ∗ semsT d i ∗ OW d i O W)
      ⊢ WPd U d i (det i) fun _ => DetEnd emb d i O W q qd f0 tt := by
  have h2 := loop_run emb (R := iprop((∃ f, tbP d i f) ∗ semsT d i ∗ semVal (Td d i, .dma cc0_scoped32.sem) 0)) (d := d) (O := O) (W := W) (ιwm := ιwm)
    (q := q) (qd := qd) (f0 := f0) (tt := tt) (K := fin i) (Q := fun _ => DetEnd emb d i O W q qd f0 tt) (fin_run emb)
  have h1 := starts_run (R := iprop(((∃ f, tbP d i f) ∗ semsT d i ∗ semVal (Td d i, .dma cc0_scoped32.sem) 0) ∗ MayWaits (Td d i) (default : HIx 2) O ∗ wmInv emb ιwm
      ∗ InFl d (inB0 i).1 0 cc0_scratch3 q.left tt ∗ OutRest emb d i 0 cc0_scratch5 qd.left f0 tt (CC i 0 0) ∗ OutRest emb d i 1 cc0_scratch6 qd.right f0 tt (CC i 1 0) ∗ OW d i O W))
    (d := d) (h := (inB0 i).2.1) (p := 1) (s := cc0_scratch4) (q := q.right) (tt := tt)
    (K := Prog.bind (Scf.Loop.for k0_t1_loop k0_t1_ok PUnit.unit fun t _ => trip (decide (t.val ≠ 0)) i t) fun _ => fin i) (Q := fun _ => DetEnd emb d i O W q qd f0 tt) (by
      iintro ⟨⟨HT, Hm, Hw, HI0, Hr0, Hr1, HO⟩, HI1⟩
      iapply h2
      isplitl [HT]; · iexact HT
      unfold Jn Slot
      rw [inFlN d i tt (inB0 i).1 (show (0#32 : BitVec 32) = BitVec.ofNat 32 (2 * 0 + 0) from rfl),
        inFlN d i tt (inB0 i).2.1 (show (1#32 : BitVec 32) = BitVec.ofNat 32 (2 * 0 + 1) from rfl),
        decide_eq_false (show ¬((0 : ℕ) ≠ 0) by decide), cond_false, cond_false]
      isplitl [Hm]; · iexact Hm
      isplitl [Hw]; · iexact Hw
      isplitl [HI0 Hr0]
      · isplitl [HI0]; · iexact HI0
        iexact Hr0
      isplitl [HI1 Hr1]
      · isplitl [HI1]; · iexact HI1
        iexact Hr1
      iexact HO)
  have h0 := starts_run (R := iprop(((∃ f, tbP d i f) ∗ semsT d i ∗ semVal (Td d i, .dma cc0_scoped32.sem) 0) ∗ MayWaits (Td d i) (default : HIx 2) O ∗ wmInv emb ιwm
      ∗ (∃ f, ibP d i 1 f) ∗ ttP d i q.right tt ∗ semVal (Td d i, .dma cc0_scratch4.sem) 0
      ∗ OutRest emb d i 0 cc0_scratch5 qd.left f0 tt (CC i 0 0) ∗ OutRest emb d i 1 cc0_scratch6 qd.right f0 tt (CC i 1 0) ∗ OW d i O W))
    (d := d) (h := (inB0 i).1) (p := 0) (s := cc0_scratch3) (q := q.left) (tt := tt)
    (K := starts (inB0 i).2.1 1 cc0_scratch4 32 (Prog.bind (Scf.Loop.for k0_t1_loop k0_t1_ok PUnit.unit fun t _ => trip (decide (t.val ≠ 0)) i t) fun _ => fin i))
    (Q := fun _ => DetEnd emb d i O W q qd f0 tt) (by
      iintro ⟨⟨HT, Hm, Hw, Hi1, Ht1, H4, Hr0, Hr1, HO⟩, HI0⟩
      iapply h1
      isplitl [HT Hm Hw HI0 Hr0 Hr1 HO]
      · isplitl [HT]; · iexact HT
        isplitl [Hm]; · iexact Hm
        isplitl [Hw]; · iexact Hw
        isplitl [HI0]; · iexact HI0
        isplitl [Hr0]; · iexact Hr0
        isplitl [Hr1]; · iexact Hr1
        iexact HO
      isplitl [Hi1]; · iexact Hi1
      isplitl [Ht1]; · iexact Ht1
      iexact H4)
  unfold det
  iintro ⟨Hm, Hw, Hi0, Hi1, Hs0, Hs1, Hb, Ht, Hp, H3, H4, H5, H6, Hv, Hts, HO⟩
  ihave Ht := (tt_halves d i q tt).1 $$ Ht
  icases Ht with ⟨Ht0, Ht1⟩
  ihave Hp := (marks_halve (emb := emb) (ℓ := (pdV).view.loc (Td d i)) Finset.univ f0 (fun x => some (packed tt x)) qd) $$ Hp
  icases Hp with ⟨Hp0, Hp1⟩
  iapply h0
  isplitr [Hi0 Ht0 H3]
  · isplitl [Hb Hts Hv]
    · isplitl [Hb]; · iexact Hb
      isplitl [Hts]; · iexact Hts
      iexact Hv
    isplitl [Hm]; · iexact Hm
    isplitl [Hw]; · iexact Hw
    isplitl [Hi1]; · iexact Hi1
    isplitl [Ht1]; · iexact Ht1
    isplitl [H4]; · iexact H4
    isplitl [Hs0 H5 Hp0]
    · unfold OutRest pdSh
      isplitl [Hs0]; · iexact Hs0
      isplitl [H5]; · iexact H5
      iexists ∅
      isplitr [Hp0]
      · ipureintro; intro m hm; exact absurd hm (Nat.not_lt_zero m)
      · iexact Hp0
    isplitl [Hs1 H6 Hp1]
    · unfold OutRest pdSh
      isplitl [Hs1]; · iexact Hs1
      isplitl [H6]; · iexact H6
      iexists ∅
      isplitr [Hp1]
      · ipureintro; intro m hm; exact absurd hm (Nat.not_lt_zero m)
      · iexact Hp1
    iexact HO
  isplitl [Hi0]; · iexact Hi0
  isplitl [Ht0]; · iexact Ht0
  iexact H3

end

end Cert.Proof.Kern
-- ==== Proof.DetTile.lean ====
/-
  The task of one tile of the detranspose call, from the buffers and the semaphores a tile owns.
-/
module

public import proofs.«01_k».proof.Proof.Tile
public import proofs.«01_k».proof.Proof.DetLoop
public import proofs.«01_k».proof.Proof.DetEq

@[expose] public section

noncomputable section

namespace Cert.Proof.Kern

open Cert.KernelIdeal Cert.KernelIdeal.Facts₀ Cert.KernelIdeal.Facts Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

local notation "𝕄" => MT nD τ sig (HIx 2) (Elt F) ℕ (UU F) ℕ

theorem foldr_bigSep {I J : Type} [DecidableEq I] (Φ : J → sProp 𝕄) (g : I → J) (R : sProp 𝕄) : ∀ l : List I, l.Nodup →
    (l.map g).foldr (fun a r => iprop(Φ a ∗ r)) R = iprop((bigSep l.toFinset fun e => Φ (g e)) ∗ R)
  | [], _ => by
    show R = iprop((bigSep ∅ fun e => Φ (g e)) ∗ R)
    rw [bigSep_empty]
    have h1 : R ⊢ iprop(emp ∗ R) := by
      iintro H
      isplitr; · iempintro
      iexact H
    have h2 : iprop(emp ∗ R) ⊢ R := by
      iintro ⟨-, H⟩
      iexact H
    exact BI.Entails.antisymm h1 h2
  | a :: l, hn => by
    have hn' := List.nodup_cons.mp hn
    rw [List.map_cons, List.foldr_cons, foldr_bigSep Φ g R l hn'.2, List.toFinset_cons, SparseCore.bigSep_insert' (by simpa using hn'.1)]
    have h1 : iprop(Φ (g a) ∗ (bigSep l.toFinset fun e => Φ (g e)) ∗ R) ⊢ iprop((Φ (g a) ∗ (bigSep l.toFinset fun e => Φ (g e))) ∗ R) := by
      iintro ⟨H1, H2, H3⟩
      isplitr [H3]
      · isplitl [H1]; · iexact H1
        iexact H2
      iexact H3
    have h2 : iprop((Φ (g a) ∗ (bigSep l.toFinset fun e => Φ (g e))) ∗ R) ⊢ iprop(Φ (g a) ∗ (bigSep l.toFinset fun e => Φ (g e)) ∗ R) := by
      iintro ⟨⟨H1, H2⟩, H3⟩
      isplitl [H1]; · iexact H1
      isplitl [H2]; · iexact H2
      iexact H3
    exact BI.Entails.antisymm h1 h2

section
variable (d : Dev nD) (i : grid0.Coords)

abbrev semD : List (DmaSem sig) :=
  [cc0_scratch3.sem, cc0_scratch4.sem, cc0_scratch5.sem, cc0_scratch6.sem, cc0_scoped32.sem] ++ (List.finRange 32).map fun e : Fin 32 => (tailSem e.val).sem

theorem semD_nodup : semD.Nodup := by decide
theorem semD_scoped : ∀ s ∈ semD, (SemLoc.dma s : SemLoc sig).isScoped .scVector = true := by decide

/-- A tile's scoped cells are the call's semaphores and others. -/
theorem ownSems0_D : ∃ R : sProp 𝕄, (ownSems0 (Td d i) : sProp 𝕄)
      = iprop(semVal (Td d i, .dma cc0_scratch3.sem) 0 ∗ semVal (Td d i, .dma cc0_scratch4.sem) 0 ∗ semVal (Td d i, .dma cc0_scratch5.sem) 0
        ∗ semVal (Td d i, .dma cc0_scratch6.sem) 0 ∗ semVal (Td d i, .dma cc0_scoped32.sem) 0 ∗ semsT d i ∗ R) := by
  unfold SparseCore.Cfg.ownSems0
  obtain ⟨R, hR⟩ : ∃ R : sProp 𝕄, (bigSep (ownCells (Td d i)) fun g => (semVal g 0 : sProp 𝕄))
      = (semD.map fun s => ((Td d i, SemLoc.dma s) : GSem nD τ sig)).foldr (fun g r => iprop(semVal g 0 ∗ r)) R := by
    refine ⟨_, bigSep_pull (fun g => semVal g 0) _ ?_ _ ?_⟩
    · exact List.Nodup.map (fun a b h => SemLoc.dma.inj (congrArg Prod.snd h)) semD_nodup
    · intro a ha
      obtain ⟨s, hs, rfl⟩ := List.mem_map.mp ha
      exact mem_ownCells.mpr ⟨rfl, semD_scoped s hs⟩
  refine ⟨R, hR.trans ?_⟩
  rw [semD, List.map_append, List.foldr_append, List.map_map, foldr_bigSep (fun g => semVal g 0) _ _ _ (List.nodup_finRange 32), List.toFinset_finRange]
  rfl

abbrev refD : List (Ref sig .scVector) := [cc0_scratch0, cc0_scratch1, cc0_scratch2]

theorem refD_nodup : refD.Nodup := by decide

/-- A tile's own buffers are the call's three scratch buffers and others. -/
theorem ownBufs_D : ∃ R : sProp 𝕄, (ownBufs (Td d i) : sProp 𝕄)
      = (refD.map (Proc.scVector ((i 0).castLE hcore0) ((i 1).castLE hsub0)).devRef).foldr (fun b r => iprop((∃ f, ((d, b) : Loc nD τ sig) ↦{fullShare} f) ∗ r)) R := by
  unfold SparseCore.Cfg.ownBufs
  refine ⟨_, bigSep_pull (fun b => iprop(∃ f, ((d, b) : Loc nD τ sig) ↦{fullShare} f)) _ ?_ _ ?_⟩
  · exact List.Nodup.map (Proc.devRef_injective _) refD_nodup
  · intro a ha
    simp only [refD, List.map_cons, List.map_nil, List.mem_cons, List.not_mem_nil, _root_.or_false] at ha
    rcases ha with rfl | rfl | rfl <;> exact SparseCore.Cfg.mem_ownRefs_of_owner rfl

theorem ib_split (f : S2x32x129.Idx → Elt F .f32) :
    ((ibV).view.loc (Td d i) ↦[Finset.univ]{fullShare} f : sProp 𝕄) ⊢ iprop(ibP d i 0 f ∗ ibP d i 1 f) := by
  have hs : (Finset.univ \ slotI 0 : Finset S2x32x129.Idx) = slotI 1 := by
    ext x
    have hx : (x 0).val < 2 := (x 0).isLt
    simp only [Finset.mem_sdiff, Finset.mem_univ, _root_.true_and, mem_slotI]
    omega
  have h := (pointsTo_split_subset (ℓ := (ibV).view.loc (Td d i)) (q := fullShare) (f := f) (Finset.subset_univ (slotI 0)) (Ix := HIx 2) (Name := ℕ) (U := UU F) (Lvl := ℕ)).1
  rw [hs] at h
  exact h

theorem ib_join (f g : S2x32x129.Idx → Elt F .f32) :
    iprop(ibP d i 0 f ∗ ibP d i 1 g) ⊢ (∃ h, (ibV).view.loc (Td d i) ↦[Finset.univ]{fullShare} h : sProp 𝕄) := by
  have hs : (slotI 0 ∪ slotI 1 : Finset S2x32x129.Idx) = Finset.univ := by
    ext x
    have hx : (x 0).val < 2 := (x 0).isLt
    simp only [Finset.mem_union, Finset.mem_univ, iff_true, mem_slotI]
    omega
  have hd : Disjoint (slotI 0) (slotI 1) := Finset.disjoint_left.mpr fun x h h' => by
    have h := mem_slotI.mp h
    have h' := mem_slotI.mp h'
    omega
  have h := pointsTo_join (ℓ := (ibV).view.loc (Td d i)) (q := fullShare) (f := f) (g := g) hd (Ix := HIx 2) (Name := ℕ) (U := UU F) (Lvl := ℕ)
  rw [hs] at h
  iintro H
  iexists _
  iapply h; iexact H

theorem sb_split (f : S2x32x128.Idx → Elt F .f32) :
    ((sbV).view.loc (Td d i) ↦[Finset.univ]{fullShare} f : sProp 𝕄) ⊢ iprop(sbP d i 0 f ∗ sbP d i 1 f) := by
  have hs : (Finset.univ \ slotS 0 : Finset S2x32x128.Idx) = slotS 1 := by
    ext x
    have hx : (x 0).val < 2 := (x 0).isLt
    simp only [Finset.mem_sdiff, Finset.mem_univ, _root_.true_and, mem_slotS]
    omega
  have h := (pointsTo_split_subset (ℓ := (sbV).view.loc (Td d i)) (q := fullShare) (f := f) (Finset.subset_univ (slotS 0)) (Ix := HIx 2) (Name := ℕ) (U := UU F) (Lvl := ℕ)).1
  rw [hs] at h
  exact h

theorem sb_join (f g : S2x32x128.Idx → Elt F .f32) :
    iprop(sbP d i 0 f ∗ sbP d i 1 g) ⊢ (∃ h, (sbV).view.loc (Td d i) ↦[Finset.univ]{fullShare} h : sProp 𝕄) := by
  have hs : (slotS 0 ∪ slotS 1 : Finset S2x32x128.Idx) = Finset.univ := by
    ext x
    have hx : (x 0).val < 2 := (x 0).isLt
    simp only [Finset.mem_union, Finset.mem_univ, iff_true, mem_slotS]
    omega
  have hd : Disjoint (slotS 0) (slotS 1) := Finset.disjoint_left.mpr fun x h h' => by
    have h := mem_slotS.mp h
    have h' := mem_slotS.mp h'
    omega
  have h := pointsTo_join (ℓ := (sbV).view.loc (Td d i)) (q := fullShare) (f := f) (g := g) hd (Ix := HIx 2) (Name := ℕ) (U := UU F) (Lvl := ℕ)
  rw [hs] at h
  iintro H
  iexists _
  iapply h; iexact H

end

variable [FloatOps F]

/-- What a tile starts with: a share of the transposed tables, and a share of the packed table set to become the transposed tables packed. -/
abbrev goD (d : Dev nD) (i : grid0.Coords) (tt : S26x32x100000.Idx → Elt F .f32) (f0 : S26x25000x128.Idx → Elt F .f32) (q : PosShare TreeShare) :
    sProp (MT nD τ sig (HIx 2) (Elt F) ℕ (UU F) ℕ) :=
  iprop(ttP d i q tt ∗ pdM EW d i q f0 tt ∅)

/-- What it ends with: the same, with everything it writes written. -/
abbrev tdD (d : Dev nD) (i : grid0.Coords) (tt : S26x32x100000.Idx → Elt F .f32) (f0 : S26x25000x128.Idx → Elt F .f32) (q : PosShare TreeShare) :
    sProp (MT nD τ sig (HIx 2) (Elt F) ℕ (UU F) ℕ) :=
  iprop(ttP d i q tt ∗ pdSh EW d i q f0 tt (DoneD i))

set_option maxHeartbeats 4000000 in
/-- The task of tile `i`. -/
theorem detTile_body (hF : (K (F := F)).Facts) (d : Dev nD) (i : grid0.Coords) (tt : S26x32x100000.Idx → Elt F .f32) (f0 : S26x25000x128.Idx → Elt F .f32) (q : PosShare TreeShare)
    (O : CellTallies nD τ sig (HIx 2)) (W : Waits sig (HIx 2)) (hO : ∀ g, O g none = 0) :
    iprop(levAts (K (F := F)).L (K (F := F)).lev ∗ (∃ ιwm, wmInv EW ιwm)
        ∗ goD d i tt f0 q
        ∗ scopedBufs (Td d i) ∗ scopedSems0 (Td d i) ∗ owes (Td d i) O W)
      ⊢ wp frame (wpE (defs₀ (F := F)) 𝒱₀ (Td d i) none) Set.univ
          (cc0_detrans_k (F := F) i ttV (Memref.isWhole_whole _) pdV (Memref.isWhole_whole _) ibV (Memref.isWhole_whole _) sbV (Memref.isWhole_whole _)
            tbV (Memref.isWhole_whole _) cc0_scratch3 cc0_scratch4 cc0_scratch5 cc0_scratch6 cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13 cc0_scoped14 cc0_scoped15 cc0_scoped16 cc0_scoped17
            cc0_scoped18 cc0_scoped19 cc0_scoped20 cc0_scoped21 cc0_scoped22 cc0_scoped23 cc0_scoped24 cc0_scoped25 cc0_scoped26 cc0_scoped27 cc0_scoped28 cc0_scoped29
            cc0_scoped30 cc0_scoped31 cc0_scoped32)
          fun _ => iprop(tdD d i tt f0 q
            ∗ scopedBufs (Td d i) ∗ scopedSems0 (Td d i)
            ∗ ∃ W', ⌜∀ p ∈ W', p ∈ W ∨ p.2 = none⌝ ∗ owes (Td d i) O W') := by
  obtain ⟨RS, hRS⟩ := ownSems0_D (F := F) d i
  obtain ⟨RB, hRB⟩ := ownBufs_D (F := F) d i
  rw [(K (F := F)).scopedBufs_V hF d ((i 0).castLE hcore0) ((i 1).castLE hsub0),
    SparseCore.Cfg.scopedSems0_V (Val := Elt F) d ((i 0).castLE hcore0) ((i 1).castLE hsub0), hRS, hRB]
  simp only [refD, List.map_cons, List.map_nil, List.foldr_cons, List.foldr_nil]
  rw [det_eq]
  have hpost : iprop((RB ∗ RS) ∗ DetEnd EW d i O W q q f0 tt) ⊢ iprop(tdD d i tt f0 q
      ∗ ((∃ f, ((d, (Proc.scVector ((i 0).castLE hcore0) ((i 1).castLE hsub0)).devRef cc0_scratch0) : Loc nD τ sig) ↦{fullShare} f)
        ∗ (∃ f, ((d, (Proc.scVector ((i 0).castLE hcore0) ((i 1).castLE hsub0)).devRef cc0_scratch1) : Loc nD τ sig) ↦{fullShare} f)
        ∗ (∃ f, ((d, (Proc.scVector ((i 0).castLE hcore0) ((i 1).castLE hsub0)).devRef cc0_scratch2) : Loc nD τ sig) ↦{fullShare} f) ∗ RB)
      ∗ (semVal (Td d i, .dma cc0_scratch3.sem) 0 ∗ semVal (Td d i, .dma cc0_scratch4.sem) 0 ∗ semVal (Td d i, .dma cc0_scratch5.sem) 0
        ∗ semVal (Td d i, .dma cc0_scratch6.sem) 0 ∗ semVal (Td d i, .dma cc0_scoped32.sem) 0 ∗ semsT d i ∗ RS)
      ∗ ∃ W', ⌜∀ p ∈ W', p ∈ W ∨ p.2 = none⌝ ∗ owes (Td d i) O W') := by
    unfold DetEnd
    iintro ⟨⟨HB, HS⟩, ⟨%fi0, Hi0⟩, ⟨%fi1, Hi1⟩, ⟨%fs0, Hs0⟩, ⟨%fs1, Hs1⟩, ⟨%fb, Hb⟩, Ht, Hp, H3, H4, H5, H6, Hv, Hts, HO⟩
    isplitl [Ht Hp]
    · isplitl [Ht]; · iexact Ht
      iexact Hp
    isplitl [HB Hi0 Hi1 Hs0 Hs1 Hb]
    · isplitl [Hi0 Hi1]
      · iapply (ib_join d i fi0 fi1)
        isplitl [Hi0]; · iexact Hi0
        iexact Hi1
      isplitl [Hs0 Hs1]
      · iapply (sb_join d i fs0 fs1)
        isplitl [Hs0]; · iexact Hs0
        iexact Hs1
      isplitl [Hb]; · iexists fb; iexact Hb
      iexact HB
    isplitr [HO]
    · isplitl [H3]; · iexact H3
      isplitl [H4]; · iexact H4
      isplitl [H5]; · iexact H5
      isplitl [H6]; · iexact H6
      isplitl [Hv]; · iexact Hv
      isplitl [Hts]; · iexact Hts
      iexact HS
    iexact HO
  refine BIBase.Entails.trans ?_ (wp_mono frame _ _ fun _ => hpost)
  iintro ⟨#Hlv, ⟨%ιwm, #Hw⟩, ⟨Ht, Hp⟩, ⟨⟨%fi, Hi⟩, ⟨%fs, Hs⟩, ⟨%fb, Hb⟩, HB⟩, ⟨H3, H4, H5, H6, Hv, Hts, HS⟩, HO⟩
  ihave #Hmw := (show (levAts (K (F := F)).L (K (F := F)).lev : sProp 𝕄) ⊢ Transfers.MayWaits (Td d i) (default : HIx 2) O from
    (K (F := F)).mayWaits_none (thr := Td d i) hO) $$ Hlv
  ihave Hi := (ib_split d i fi) $$ Hi
  icases Hi with ⟨Hi0, Hi1⟩
  ihave Hs := (sb_split d i fs) $$ Hs
  icases Hs with ⟨Hs0, Hs1⟩
  iapply (wp_frame_l frame (wpE (defs₀ (F := F)) 𝒱₀ (Td d i) none) Set.univ (p := det (F := F) i) (Q := fun _ => DetEnd EW d i O W q q f0 tt) (R := iprop(RB ∗ RS)))
  isplitl [HB HS]
  · isplitl [HB]; · iexact HB
    iexact HS
  iapply (det_run (U := UU F) EW (d := d) (i := i) (O := O) (W := W) (ιwm := ιwm) (q := q) (qd := q) (f0 := f0) (tt := tt))
  isplitr; · iexact Hmw
  isplitr; · iexact Hw
  isplitl [Hi0]; · iexists fi; iexact Hi0
  isplitl [Hi1]; · iexists fi; iexact Hi1
  isplitl [Hs0]; · iexists fs; iexact Hs0
  isplitl [Hs1]; · iexists fs; iexact Hs1
  isplitl [Hb]; · iexists fb; iexact Hb
  isplitl [Ht]; · iexact Ht
  isplitl [Hp]; · iexact Hp
  isplitl [H3]; · iexact H3
  isplitl [H4]; · iexact H4
  isplitl [H5]; · iexact H5
  isplitl [H6]; · iexact H6
  isplitl [Hv]; · iexact Hv
  isplitl [Hts]; · iexact Hts
  iexists W
  isplitr
  · ipureintro; exact fun p hp => Or.inl hp
  · iexact HO

end Cert.Proof.Kern

end
-- ==== Proof.CoverVal.lean ====
/-
  Which block of the packed table a tile of the detranspose call writes in each round, and which tiles write the last rows of a field.
-/
module

public import proofs.«01_k».proof.Proof.Geo

@[expose] public section

noncomputable section

namespace Cert.Proof.Kern

open Cert.KernelIdeal Cert.KernelIdeal.Facts₀ Cert.KernelIdeal.Facts

open Idealize.ShloMosaic

/-- The grid point of a tile. -/
def coordsD (c : Fin (grid0.bound 0)) (s : Fin (grid0.bound 1)) : grid0.Coords :=
  fun | 0 => c | 1 => s | ⟨_ + 2, h⟩ => absurd h (Nat.not_lt.2 (Nat.le_add_left _ _))

set_option maxRecDepth 1000000 in
theorem blk_val : ∀ (c : Fin 2) (s : Fin 16) (n : Fin 635), 2 * s.val + c.val + 32 * n.val ≤ 20305 →
    fldN (coordsD c s) (BitVec.ofNat 32 n.val) = (2 * s.val + c.val + 32 * n.val) / 781
      ∧ rowN (coordsD c s) (BitVec.ofNat 32 n.val) = 32 * ((2 * s.val + c.val + 32 * n.val) % 781) := by decide +kernel

theorem cond3_of : ∀ (c : Fin 2) (s : Fin 16), 2 * s.val + c.val < 26 →
    k0_cond3 (coordsD c s) = 1#1 ∧ (widW (coordsD c s)).toNat = 2 * s.val + c.val := by decide +kernel

end Cert.Proof.Kern

end
-- ==== Proof.Cover.lean ====
/-
  The tiles of the detranspose call together write the whole packed table: an element of the first 24992 rows of a field is in
  block `781 f + row / 32`, which tile `block % 32` writes in round `block / 32`; the last eight rows of field `f` are tile `f`'s.
-/
module

public import proofs.«01_k».proof.Proof.DetLoop
public import proofs.«01_k».proof.Proof.CoverVal

@[expose] public section

noncomputable section

namespace Cert.Proof.Kern

open Cert.KernelIdeal Cert.KernelIdeal.Facts₀ Cert.KernelIdeal.Facts

open Idealize.ShloMosaic

variable [Cert.KernelIdeal.Facts]

theorem cover (W : Fin 2 × Fin 16 → Finset S26x25000x128.Idx) (h : ∀ p, DoneD (coordsD p.1 p.2) (W p)) : Finset.univ.biUnion W = Finset.univ := by
  ext x
  simp only [Finset.mem_biUnion, Finset.mem_univ, true_and, iff_true]
  have h0 : (x 0).val < 26 := (x 0).isLt
  have h1 : (x 1).val < 25000 := (x 1).isLt
  by_cases hr : (x 1).val < 24992
  · obtain ⟨b, hb⟩ : ∃ b, b = 781 * (x 0).val + (x 1).val / 32 := ⟨_, rfl⟩
    have hc : b % 32 % 2 < 2 := by omega
    have hs : b % 32 / 2 < 16 := by omega
    have hn : b / 32 < 635 := by omega
    have hk := blk_val ⟨_, hc⟩ ⟨_, hs⟩ ⟨_, hn⟩ (by dsimp only; omega)
    dsimp only at hk
    rw [show 2 * (b % 32 / 2) + b % 32 % 2 + 32 * (b / 32) = b by omega] at hk
    have hx : x ∈ blkS (coordsD ⟨_, hc⟩ ⟨_, hs⟩) (BitVec.ofNat 32 (b / 32)) := by
      obtain ⟨e1, e2⟩ := hk
      refine mem_blkS.mpr ⟨(show (x 0).val = b / 781 by omega).trans e1.symm, e2.le.trans (show _ ≤ (x 1).val by omega), ?_⟩
      exact (show (x 1).val < 32 * (b % 781) + 32 by omega).trans_le (Nat.add_le_add_right e2.symm.le 32)
    refine ⟨(⟨_, hc⟩, ⟨_, hs⟩), ?_⟩
    have hd := (h (⟨_, hc⟩, ⟨_, hs⟩)).1
    rcases Nat.mod_two_eq_zero_or_one (b / 32) with e | e
    · refine hd.1 (b / 32 / 2) (by omega) ?_
      rw [show 2 * (b / 32 / 2) + 0 = b / 32 by omega]; exact hx
    · refine hd.2 (b / 32 / 2) (by omega) ?_
      rw [show 2 * (b / 32 / 2) + 1 = b / 32 by omega]; exact hx
  · have hc : (x 0).val % 2 < 2 := by omega
    have hs : (x 0).val / 2 < 16 := by omega
    have hk := cond3_of ⟨_, hc⟩ ⟨_, hs⟩ (by dsimp only; omega)
    refine ⟨(⟨_, hc⟩, ⟨_, hs⟩), (h (⟨_, hc⟩, ⟨_, hs⟩)).2 hk.1 (mem_tailS.mpr ⟨?_, by omega⟩)⟩
    exact (show (x 0).val = 2 * ((x 0).val / 2) + (x 0).val % 2 by omega).trans hk.2.symm

end Cert.Proof.Kern

end
-- ==== Proof.Mlp.lean ====
/-

  The dense layers' call: the kernel's body run on its staging buffers, the proof data of the pipeline over the
  grid of eight row blocks, and the region the call is.

-/
module

public import proofs.«01_k».proof.Proof.Base
public import Idealize.ShloMosaic.Lib.Pipeline.FrameBody
public import Idealize.ShloMosaic.Lib.Pipeline.RegionsLoop

@[expose] public section

noncomputable section

namespace Cert.Proof.Kern

open Cert.KernelIdeal Cert.KernelIdeal.Facts₀ Cert.KernelIdeal.Facts Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ (UU F) ℕ

open Idealize.ShloMosaic.TcCoe Idealize.ShloMosaic.Tactic
open Idealize.ShloMosaic.Pipeline (Dat Cfg Window BodyObligation cellOf)

variable [FloatOps F]

/-- Memref `M`'s buffer on core `c`: its contents type, and it held whole at `f`. -/
abbrev Bf (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (f : Bf (F := F) c M) :
    sProp (MT nD τ sig (HIx 2) (Elt F) ℕ (UU F) ℕ) :=
  M.view.loc (c : Thread nD τ) ↦{fullShare} f

/-- What the body leaves in the result's staging buffer, with the proof that from the ten staging buffers held whole
    the kernel runs to its return, handing back the nine inputs as they were and the result's at that value. -/
def mlpRun (c : Dev nD) (i : grid2.Coords) (M0 : Memref sig .tc .vmem S512x832 .f32) (h0 : M0.IsWhole) (M1 : Memref sig .tc .vmem S512x13 .f32) (h1 : M1.IsWhole) (M2 : Memref sig .tc .vmem S832x512 .f32) (h2 : M2.IsWhole) (M3 : Memref sig .tc .vmem S13x512 .f32) (h3 : M3.IsWhole) (M4 : Memref sig .tc .vmem S1x512 .f32) (h4 : M4.IsWhole) (M5 : Memref sig .tc .vmem S512x256 .f32) (h5 : M5.IsWhole) (M6 : Memref sig .tc .vmem S1x256 .f32) (h6 : M6.IsWhole) (M7 : Memref sig .tc .vmem S256x128 .f32) (h7 : M7.IsWhole) (M8 : Memref sig .tc .vmem S1x128 .f32) (h8 : M8.IsWhole) (M9 : Memref sig .tc .vmem S512x128 .f32) (h9 : M9.IsWhole) (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) :
    { W : Bf (F := F) c M9 // ∀ (f9 : Bf (F := F) c M9) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 W) -∗ Q ⟨⟩))
          ⊢ wp frame (wpE (defs₀ (F := F)) Variants.none (c : Thread nD τ) none) E (cc2__mlp_body i M0 h0 M1 h1 M2 h2 M3 h3 M4 h4 M5 h5 M6 h6 M7 h7 M8 h8 M9 h9) Q } := by
  refine ⟨?_, fun f9 E Q => ?run⟩
  case run =>
    rw [cc2__mlp_body_eq_skeleton]; unfold cc2__mlp_body_skel
    rw [k2_part1_eq_skeleton]; unfold k2_part1_skel
    iintro ⟨H0, H1, H2, H3, H4, H5, H6, H7, H8, H9, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem two_zero : ![0, 0] = (fun _ => 0 : Fin 2 → Nat) := funext fun a => by fin_cases a <;> rfl

/-- A position of the whole shape is at itself, -/
theorem emb_unit_zero {S : Shape} {off : Fin S.rank → Nat} (h : off = fun _ => 0) (inb : ∀ a, off a + S.size a ≤ S.size a)
    (x : S.Idx) : (Rect.unit off S.size inb).emb x = x := by
  subst h; exact Rect.emb_whole_apply S x

/-- and a load through it reads the buffer. -/
theorem readAt_unit_zero {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  funext x
  exact congrArg (v.read (Elt F) f) (emb_unit_zero h inb x)

/-- The value the body leaves: its payload, of the blocks read. -/
theorem mlpRun_val (c : Dev nD) (i : grid2.Coords) (M0 : Memref sig .tc .vmem S512x832 .f32) (h0 : M0.IsWhole) (M1 : Memref sig .tc .vmem S512x13 .f32) (h1 : M1.IsWhole) (M2 : Memref sig .tc .vmem S832x512 .f32) (h2 : M2.IsWhole) (M3 : Memref sig .tc .vmem S13x512 .f32) (h3 : M3.IsWhole) (M4 : Memref sig .tc .vmem S1x512 .f32) (h4 : M4.IsWhole) (M5 : Memref sig .tc .vmem S512x256 .f32) (h5 : M5.IsWhole) (M6 : Memref sig .tc .vmem S1x256 .f32) (h6 : M6.IsWhole) (M7 : Memref sig .tc .vmem S256x128 .f32) (h7 : M7.IsWhole) (M8 : Memref sig .tc .vmem S1x128 .f32) (h8 : M8.IsWhole) (M9 : Memref sig .tc .vmem S512x128 .f32) (h9 : M9.IsWhole) (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) :
    M9.view.read (Elt F) (mlpRun c i M0 h0 M1 h1 M2 h2 M3 h3 M4 h4 M5 h5 M6 h6 M7 h7 M8 h8 M9 h9 f0 f1 f2 f3 f4 f5 f6 f7 f8).1 =
      k2_pay1 (M0.view.read (Elt F) f0) (M2.view.read (Elt F) f2) (M1.view.read (Elt F) f1) (M3.view.read (Elt F) f3) (M4.view.read (Elt F) f4)
        (M5.view.read (Elt F) f5) (M6.view.read (Elt F) f6) (M7.view.read (Elt F) f7) (M8.view.read (Elt F) f8) := by
  unfold mlpRun mlpRun.sl.H9_1
  dsimp only
  rw [readAt_unit_zero (S := S512x832) M0.view f0 two_zero inb_S512x832_S512x832_0_0, readAt_unit_zero (S := S512x13) M1.view f1 two_zero inb_S512x13_S512x13_0_0, readAt_unit_zero (S := S832x512) M2.view f2 two_zero inb_S832x512_S832x512_0_0, readAt_unit_zero (S := S13x512) M3.view f3 two_zero inb_S13x512_S13x512_0_0, readAt_unit_zero (S := S1x512) M4.view f4 two_zero inb_S1x512_S1x512_0_0, readAt_unit_zero (S := S512x256) M5.view f5 two_zero inb_S512x256_S512x256_0_0, readAt_unit_zero (S := S1x256) M6.view f6 two_zero inb_S1x256_S1x256_0_0, readAt_unit_zero (S := S256x128) M7.view f7 two_zero inb_S256x128_S256x128_0_0, readAt_unit_zero (S := S1x128) M8.view f8 two_zero inb_S1x128_S1x128_0_0]
  funext x
  have h := emb_unit_zero (S := S512x128) two_zero inb_S512x128_S512x128_0_0 x
  rw [← h]
  refine (View.read_writes_cons_emb _ _ _ _ _ _).trans ?_
  rw [h]

/-- A whole memref at contents `X` is its buffer, held whole at what reads as `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns pt; rw [h.set_eq_univ]

/-- The body, of the blocks its staging buffers hold. -/
theorem mlp_owns (c : Dev nD) (i : grid2.Coords) (M0 : Memref sig .tc .vmem S512x832 .f32) (h0 : M0.IsWhole) (M1 : Memref sig .tc .vmem S512x13 .f32) (h1 : M1.IsWhole) (M2 : Memref sig .tc .vmem S832x512 .f32) (h2 : M2.IsWhole) (M3 : Memref sig .tc .vmem S13x512 .f32) (h3 : M3.IsWhole) (M4 : Memref sig .tc .vmem S1x512 .f32) (h4 : M4.IsWhole) (M5 : Memref sig .tc .vmem S512x256 .f32) (h5 : M5.IsWhole) (M6 : Memref sig .tc .vmem S1x256 .f32) (h6 : M6.IsWhole) (M7 : Memref sig .tc .vmem S256x128 .f32) (h7 : M7.IsWhole) (M8 : Memref sig .tc .vmem S1x128 .f32) (h8 : M8.IsWhole) (M9 : Memref sig .tc .vmem S512x128 .f32) (h9 : M9.IsWhole)
    (X0 : S512x832.Idx → Elt F .f32) (X1 : S512x13.Idx → Elt F .f32) (X2 : S832x512.Idx → Elt F .f32) (X3 : S13x512.Idx → Elt F .f32) (X4 : S1x512.Idx → Elt F .f32) (X5 : S512x256.Idx → Elt F .f32) (X6 : S1x256.Idx → Elt F .f32) (X7 : S256x128.Idx → Elt F .f32) (X8 : S1x128.Idx → Elt F .f32) (X9 : S512x128.Idx → Elt F .f32) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9
        ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare (k2_pay1 X0 X2 X1 X3 X4 X5 X6 X7 X8)) -∗ Q ⟨⟩))
      ⊢ wp frame (wpE (defs₀ (F := F)) Variants.none (c : Thread nD τ) none) Set.univ (cc2__mlp_body i M0 h0 M1 h1 M2 h2 M3 h3 M4 h4 M5 h5 M6 h6 M7 h7 M8 h8 M9 h9) Q := by
  rw [owns_pt c M0 h0 X0]
  rw [owns_pt c M1 h1 X1]
  rw [owns_pt c M2 h2 X2]
  rw [owns_pt c M3 h3 X3]
  rw [owns_pt c M4 h4 X4]
  rw [owns_pt c M5 h5 X5]
  rw [owns_pt c M6 h6 X6]
  rw [owns_pt c M7 h7 X7]
  rw [owns_pt c M8 h8 X8]
  rw [owns_pt c M9 h9 X9, owns_pt c M9 h9 (k2_pay1 X0 X2 X1 X3 X4 X5 X6 X7 X8)]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, -, H9⟩, Hk⟩
  iapply ((mlpRun c i M0 h0 M1 h1 M2 h2 M3 h3 M4 h4 M5 h5 M6 h6 M7 h7 M8 h8 M9 h9 f0 f1 f2 f3 f4 f5 f6 f7 f8).2 f9 Set.univ Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  iapply Hk
  isplitl [H0]; · iexists _; isplitr; (· ipureintro; exact e0); iexact H0
  isplitl [H1]; · iexists _; isplitr; (· ipureintro; exact e1); iexact H1
  isplitl [H2]; · iexists _; isplitr; (· ipureintro; exact e2); iexact H2
  isplitl [H3]; · iexists _; isplitr; (· ipureintro; exact e3); iexact H3
  isplitl [H4]; · iexists _; isplitr; (· ipureintro; exact e4); iexact H4
  isplitl [H5]; · iexists _; isplitr; (· ipureintro; exact e5); iexact H5
  isplitl [H6]; · iexists _; isplitr; (· ipureintro; exact e6); iexact H6
  isplitl [H7]; · iexists _; isplitr; (· ipureintro; exact e7); iexact H7
  isplitl [H8]; · iexists _; isplitr; (· ipureintro; exact e8); iexact H8
  iexists _
  isplitr
  · ipureintro
    exact mlpRun_val c i M0 h0 M1 h1 M2 h2 M3 h3 M4 h4 M5 h5 M6 h6 M7 h7 M8 h8 M9 h9 f0 f1 f2 f3 f4 f5 f6 f7 f8 |>.trans (by rw [e0, e1, e2, e3, e4, e5, e6, e7, e8])
  · iexact H9

/-! ## The proof data of the pipeline, at the contents it enters with -/

variable (W : (c : Dev nD) → (b : Ref sig .tc) → Buf (Elt F) ((c : Thread nD τ).loc b))

/-- Window 0's block at point `t`. -/
abbrev blk0 (c : Dev nD) (t : Fin cfg2.N) : S512x832.Idx → Elt F .f32 :=
  ((cfg2.win 0).blk t).view.read (Elt F) (W c (Pipeline.arrRef spec2 0))
/-- Window 1's block at point `t`. -/
abbrev blk1 (c : Dev nD) (t : Fin cfg2.N) : S512x13.Idx → Elt F .f32 :=
  ((cfg2.win 1).blk t).view.read (Elt F) (W c (Pipeline.arrRef spec2 1))
/-- Window 2's block at point `t`. -/
abbrev blk2 (c : Dev nD) (t : Fin cfg2.N) : S832x512.Idx → Elt F .f32 :=
  ((cfg2.win 2).blk t).view.read (Elt F) (W c (Pipeline.arrRef spec2 2))
/-- Window 3's block at point `t`. -/
abbrev blk3 (c : Dev nD) (t : Fin cfg2.N) : S13x512.Idx → Elt F .f32 :=
  ((cfg2.win 3).blk t).view.read (Elt F) (W c (Pipeline.arrRef spec2 3))
/-- Window 4's block at point `t`. -/
abbrev blk4 (c : Dev nD) (t : Fin cfg2.N) : S1x512.Idx → Elt F .f32 :=
  ((cfg2.win 4).blk t).view.read (Elt F) (W c (Pipeline.arrRef spec2 4))
/-- Window 5's block at point `t`. -/
abbrev blk5 (c : Dev nD) (t : Fin cfg2.N) : S512x256.Idx → Elt F .f32 :=
  ((cfg2.win 5).blk t).view.read (Elt F) (W c (Pipeline.arrRef spec2 5))
/-- Window 6's block at point `t`. -/
abbrev blk6 (c : Dev nD) (t : Fin cfg2.N) : S1x256.Idx → Elt F .f32 :=
  ((cfg2.win 6).blk t).view.read (Elt F) (W c (Pipeline.arrRef spec2 6))
/-- Window 7's block at point `t`. -/
abbrev blk7 (c : Dev nD) (t : Fin cfg2.N) : S256x128.Idx → Elt F .f32 :=
  ((cfg2.win 7).blk t).view.read (Elt F) (W c (Pipeline.arrRef spec2 7))
/-- Window 8's block at point `t`. -/
abbrev blk8 (c : Dev nD) (t : Fin cfg2.N) : S1x128.Idx → Elt F .f32 :=
  ((cfg2.win 8).blk t).view.read (Elt F) (W c (Pipeline.arrRef spec2 8))

/-- The block of the result: the body's payload of the blocks of its inputs. -/
abbrev outBlk (c : Dev nD) (t : Fin cfg2.N) : S512x128.Idx → Elt F .f32 :=
  k2_pay1 (blk0 W c t) (blk2 W c t) (blk1 W c t) (blk3 W c t) (blk4 W c t) (blk5 W c t) (blk6 W c t) (blk7 W c t) (blk8 W c t)

/-- What the waits recorded before the call may be: at the launch's levels, none above the last hand-shake's. -/
abbrev recd (c : Dev nD) : Set (SemLoc sig × HIx 2) := {p | (K (F := F)).lev (T c, p.1) p.2 ≤ 16}

/-- The arrays at the contents entered with; the inputs' buffers as fetched, the result's at the payload; nothing owed. -/
def dat (c : Dev nD) : Dat τ (Elt F) (HIx 2) ℕ (UU F) ℕ cfg2 c where
  A w := W c (Pipeline.arrRef spec2 w)
  after w t := match w with
    | ⟨0, _⟩ => blk0 W c t
    | ⟨1, _⟩ => blk1 W c t
    | ⟨2, _⟩ => blk2 W c t
    | ⟨3, _⟩ => blk3 W c t
    | ⟨4, _⟩ => blk4 W c t
    | ⟨5, _⟩ => blk5 W c t
    | ⟨6, _⟩ => blk6 W c t
    | ⟨7, _⟩ => blk7 W c t
    | ⟨8, _⟩ => blk8 W c t
    | ⟨9, _⟩ => outBlk W c t
    | ⟨_ + 10, h⟩ => absurd h (Nat.not_lt.2 (Nat.le_add_left _ _))
  Φ _ := Pipeline.scopedRest (Ix := HIx 2) (Name := ℕ) (U := UU F) (Lvl := ℕ) (Val := Elt F) spec2 c
  q _ := fullShare
  owed _ := 0
  recorded _ := recd (F := F) c

theorem before0 (c : Dev nD) (t : Fin cfg2.N) (d) : (dat W c).before 0 t d = blk0 W c t :=
  (dat W c).before_in_eq_fetched 0 rfl (fun _ => rfl) (fun _ _ _ => rfl) (fun _ => rfl) t d
theorem before1 (c : Dev nD) (t : Fin cfg2.N) (d) : (dat W c).before 1 t d = blk1 W c t :=
  (dat W c).before_in_eq_fetched 1 rfl (fun _ => rfl) (fun _ _ _ => rfl) (fun _ => rfl) t d
theorem before2 (c : Dev nD) (t : Fin cfg2.N) (d) : (dat W c).before 2 t d = blk2 W c t :=
  (dat W c).before_in_eq_fetched 2 rfl (fun _ => rfl) (fun _ _ _ => rfl) (fun _ => rfl) t d
theorem before3 (c : Dev nD) (t : Fin cfg2.N) (d) : (dat W c).before 3 t d = blk3 W c t :=
  (dat W c).before_in_eq_fetched 3 rfl (fun _ => rfl) (fun _ _ _ => rfl) (fun _ => rfl) t d
theorem before4 (c : Dev nD) (t : Fin cfg2.N) (d) : (dat W c).before 4 t d = blk4 W c t :=
  (dat W c).before_in_eq_fetched 4 rfl (fun _ => rfl) (fun _ _ _ => rfl) (fun _ => rfl) t d
theorem before5 (c : Dev nD) (t : Fin cfg2.N) (d) : (dat W c).before 5 t d = blk5 W c t :=
  (dat W c).before_in_eq_fetched 5 rfl (fun _ => rfl) (fun _ _ _ => rfl) (fun _ => rfl) t d
theorem before6 (c : Dev nD) (t : Fin cfg2.N) (d) : (dat W c).before 6 t d = blk6 W c t :=
  (dat W c).before_in_eq_fetched 6 rfl (fun _ => rfl) (fun _ _ _ => rfl) (fun _ => rfl) t d
theorem before7 (c : Dev nD) (t : Fin cfg2.N) (d) : (dat W c).before 7 t d = blk7 W c t :=
  (dat W c).before_in_eq_fetched 7 rfl (fun _ => rfl) (fun _ _ _ => rfl) (fun _ => rfl) t d
theorem before8 (c : Dev nD) (t : Fin cfg2.N) (d) : (dat W c).before 8 t d = blk8 W c t :=
  (dat W c).before_in_eq_fetched 8 rfl (fun _ => rfl) (fun _ _ _ => rfl) (fun _ => rfl) t d

theorem body_obligation (c : Dev nD) : BodyObligation (dat W c) (defs₀ (F := F)) 𝒱₀ (none : HIx 2) Set.univ := fun t => by
  rw [bigSep_W2, bigSep_W2]
  simp only [before0, before1, before2, before3, before4, before5, before6, before7, before8]
  rw [show (dat W c).owesAt none t.succ = (dat W c).owesAt none t.castSucc from rfl,
    show (dat W c).Φ t.succ = (dat W c).Φ t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (mlp_owns c (grid2.coords t) ((cfg2.win 0).stage (cfg2.slots t 0)) (hstage2_0 ((cfg2.slots t 0).cast nbuf2_0)) ((cfg2.win 1).stage (cfg2.slots t 1)) (hstage2_1 ((cfg2.slots t 1).cast nbuf2_1)) ((cfg2.win 2).stage (cfg2.slots t 2)) (hstage2_2 ((cfg2.slots t 2).cast nbuf2_2)) ((cfg2.win 3).stage (cfg2.slots t 3)) (hstage2_3 ((cfg2.slots t 3).cast nbuf2_3)) ((cfg2.win 4).stage (cfg2.slots t 4)) (hstage2_4 ((cfg2.slots t 4).cast nbuf2_4)) ((cfg2.win 5).stage (cfg2.slots t 5)) (hstage2_5 ((cfg2.slots t 5).cast nbuf2_5)) ((cfg2.win 6).stage (cfg2.slots t 6)) (hstage2_6 ((cfg2.slots t 6).cast nbuf2_6)) ((cfg2.win 7).stage (cfg2.slots t 7)) (hstage2_7 ((cfg2.slots t 7).cast nbuf2_7)) ((cfg2.win 8).stage (cfg2.slots t 8)) (hstage2_8 ((cfg2.slots t 8).cast nbuf2_8)) ((cfg2.win 9).stage (cfg2.slots t 9)) (hstage2_9 ((cfg2.slots t 9).cast nbuf2_9))
    (blk0 W c t) (blk1 W c t) (blk2 W c t) (blk3 W c t) (blk4 W c t) (blk5 W c t) (blk6 W c t) (blk7 W c t) (blk8 W c t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The region -/

/-- No table is prefetched: the pipeline's configuration is the one there is. -/
abbrev adm : (p : Fin 1) → (pcfgs (F := F) p).Adm := fun p => (cfgs p).toPCfg_adm

abbrev pdats : (p : Fin 1) → (c : Dev nD) → Dat τ (Elt F) (HIx 2) ℕ (UU F) ℕ (Pipeline.pin (pcfgs (F := F)) adm p) c := fun _ c => dat W c

/-- The result's array after the region: the eight write-backs. -/
def mlpOut (c : Dev nD) : Buf (Elt F) ((c : Thread nD τ).loc main_v20) := (dat W c).arrAt 9 cfg2.N

variable (W' : (c : Dev nD) → (b : Ref sig .tc) → Buf (Elt F) ((c : Thread nD τ).loc b))

/-- The core owes nothing, and its waits are recorded at levels up to the last hand-shake's. -/
abbrev idle (c : Dev nD) : sProp (MT nD τ sig (HIx 2) (Elt F) ℕ (UU F) ℕ) :=
  iprop(∃ Wt, ⌜(K (F := F)).WBelow (T c) Wt 16⌝ ∗ owes (T c) (0 : CellTallies nD τ sig (HIx 2)) Wt)

set_option backward.isDefEq.respectTransparency.types false in
/-- The region of the dense layers' call: from the unscoped buffers at `W` to the same at `W'`, which has the result's array
    at `mlpOut` and agrees with `W` off it. -/
def reg (hW_out : ∀ c, W' c main_v20 = mlpOut W c) (hW_ne : ∀ c (b : Ref sig .tc), b ≠ main_v20 → W' c b = W c b) :
    Pipeline.RegionSeg (pcfgs (F := F)) adm (pdats W) (none : HIx 2) defs₀ 𝒱₀ (K (F := F)).L (K (F := F)).lev 0 where
  win := launch2.win.to₀
  block_pos := launch2.block_pos
  stage_whole := launch2.stage_whole
  K := PEmpty
  osem k := k.elim
  ho := Pipeline.OwnSemFacts.none _
  hbody c := (body_obligation W c).loose
  hwaits := Pipeline.hwaits_of_owed_zero _ _ _ _ _ _ 0 fun _ _ => rfl
  pre c := iprop(unscopedBufs c (W c) ∗ idle c)
  post c := iprop(unscopedBufs c (W' c) ∗ idle c)
  X _ := BI.emp
  Y _ := BI.emp
  Z c := Pipeline.unscopedRest (Ix := HIx 2) (Name := ℕ) (U := UU F) (Lvl := ℕ) spec2 c (W c)
  hentry c := by
    rw [Pipeline.ownSems0_none]
    have hsplit := Pipeline.arrays_of_unscopedBufs (p := 0) (pcfgs (F := F)) adm (pdats W) launch2.win launch2.arr_whole c
      ((pdats W 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hb, HO⟩; iexists Wt; isplitr; · ipureintro; exact fun p hp => Or.inl (hb p hp)
      iexact HO
    isplitr; · iempintro
    iexact Hrest
  hin c := by
    rw [show (pdats W 0 c).Φ 0 = Pipeline.scopedRest (Ix := HIx 2) (Name := ℕ) (U := UU F) (Lvl := ℕ) (Val := Elt F) spec2 c from rfl]
    iintro ⟨-, -, Hr⟩; iexact Hr
  hout c := by
    rw [Pipeline.ownSems0_none, show (pdats W 0 c).Φ (Fin.last _) = Pipeline.scopedRest (Ix := HIx 2) (Name := ℕ) (U := UU F) (Lvl := ℕ) (Val := Elt F) spec2 c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU F) (Lvl := ℕ) launch2.win launch2.arr_whole c
      (pdats W) ((pdats W 0 c).share_full fun _ => rfl) (W c) (W' c) ((pdats W 0 c).arrAt · cfg2.N)
      (fun w => by
        fin_cases w
        · exact ((pdats W 0 c).arrAt_in 0 rfl _).trans (hW_ne c main_v14 (by decide)).symm
        · exact ((pdats W 0 c).arrAt_in 1 rfl _).trans (hW_ne c main_v9 (by decide)).symm
        · exact ((pdats W 0 c).arrAt_in 2 rfl _).trans (hW_ne c main_v15 (by decide)).symm
        · exact ((pdats W 0 c).arrAt_in 3 rfl _).trans (hW_ne c main_v16 (by decide)).symm
        · exact ((pdats W 0 c).arrAt_in 4 rfl _).trans (hW_ne c main_v17 (by decide)).symm
        · exact ((pdats W 0 c).arrAt_in 5 rfl _).trans (hW_ne c main_arg4 (by decide)).symm
        · exact ((pdats W 0 c).arrAt_in 6 rfl _).trans (hW_ne c main_v18 (by decide)).symm
        · exact ((pdats W 0 c).arrAt_in 7 rfl _).trans (hW_ne c main_arg6 (by decide)).symm
        · exact ((pdats W 0 c).arrAt_in 8 rfl _).trans (hW_ne c main_v19 (by decide)).symm
        · exact (hW_out c).symm)
      (fun b hb => hW_ne c b fun h => hb (h ▸ Finset.mem_image.mpr ⟨9, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%Wt, %hb, HO⟩; iexists Wt
    isplitr
    · ipureintro
      intro p hp
      rcases hb hp with h | ⟨w, s, rfl⟩
      · exact h
      · exact Nat.zero_le _
    iexact HO

end Cert.Proof.Kern
-- ==== Proof.Launch.lean ====
/-

  What the two SparseCore calls pass to their tiles and take back from them, and how that is cut out of the whole arrays. In the
  detranspose call a tile takes one of 32 equal shares of the transposed tables and one of the packed table, the latter set to
  become the transposed tables packed: two tiles may write one element, with the same value. In the lookup call tile `(c, i)` takes
  3328 consecutive words of the list, one of 32 equal shares of the packed table, and eight blocks of 104 consecutive rows of the
  result.

-/
module

public import proofs.«01_k».proof.Proof.DetTile
public import proofs.«01_k».proof.Proof.Cover
public import proofs.«01_k».proof.Proof.Mlp

@[expose] public section

noncomputable section

namespace Cert.Proof.Kern

open Cert.KernelIdeal Cert.KernelIdeal.Facts₀ Cert.KernelIdeal.Facts Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ (UU F) ℕ

local notation:60 ℓ " ⇝[" I "]{" q "} " f:max " ⇒ " g:max " @ " W:max => willBeTo EW ℓ I q f g W

/-! ## The grid point of a tile, and the obligation of the call -/

def coordsV (c : Fin (grid1.bound 0)) (s : Fin (grid1.bound 1)) : grid1.Coords :=
  fun | 0 => c | 1 => s | ⟨_ + 2, h⟩ => absurd h (Nat.not_lt.2 (Nat.le_add_left _ _))

abbrev LL (p : Fin 2 × Fin 16) : grid1.Coords := coordsV p.1 p.2

/-- The tiles, numbered. -/
def e32 : Fin 2 × Fin 16 ≃ Fin (2 ^ 5) := finProdFinEquiv.trans (finCongr (by norm_num))

/-- The share of the packed table tile `p` reads. -/
abbrev shr (p : Fin 2 × Fin 16) : PosShare TreeShare := ShareLeaves.leaf 5 fullShare (e32 p)

abbrev posLoc (d : Dev nD) : Loc nD τ sig := (T d : Thread nD τ).loc main_v8
abbrev pkLoc (d : Dev nD) : Loc nD τ sig := (T d : Thread nD τ).loc main_v12
abbrev outLoc (d : Dev nD) : Loc nD τ sig := (T d : Thread nD τ).loc main_v13

abbrev posSet (p : Fin 2 × Fin 16) : Finset S106496.Idx := (posK (LL p)).view.set
abbrev outSet (p : (Fin 2 × Fin 16) × Fin 8) : Finset S26624x128.Idx := (outK (LL p.1) p.2).view.set

theorem mem_posSet (p : Fin 2 × Fin 16) (x : S106496.Idx) :
    x ∈ posSet p ↔ 6656 * p.2.val + 3328 * p.1.val ≤ (x 0).val ∧ (x 0).val < 6656 * p.2.val + 3328 * p.1.val + 3328 := by
  show x ∈ ((View.whole main_v8_scv).slice (Rect.unit (s := S106496) (k1_off1 (LL p)) S3328.size (k1_off1_inb (LL p)))).set ↔ _
  rw [View.set_slice_whole, Rect.mem_set_unit]
  have e : k1_off1 (LL p) 0 = 6656 * p.2.val + 3328 * p.1.val := by rw [k1_off1_eq]; rfl
  refine ⟨fun h => ?_, fun h a => ?_⟩
  · have := h 0; rw [e] at this; exact this
  · match a with
    | ⟨0, _⟩ => show k1_off1 (LL p) 0 ≤ (x 0).val ∧ (x 0).val < k1_off1 (LL p) 0 + 3328
                rw [e]; exact h

theorem mem_outSet (p : (Fin 2 × Fin 16) × Fin 8) (x : S26624x128.Idx) :
    x ∈ outSet p ↔ 1664 * p.1.2.val + 832 * p.1.1.val + 104 * p.2.val ≤ (x 0).val
      ∧ (x 0).val < 1664 * p.1.2.val + 832 * p.1.1.val + 104 * p.2.val + 104 := by
  show x ∈ ((View.whole main_v13_scv).slice (Rect.unit (s := S26624x128) (k1_off11 (LL p.1) (BitVec.ofNat 32 (104 * p.2.val))) S104x128.size (k1_off11_inb (LL p.1) p.2))).set ↔ _
  rw [View.set_slice_whole, Rect.mem_set_unit]
  have e : k1_off11 (LL p.1) (BitVec.ofNat 32 (104 * p.2.val)) = ![1664 * p.1.2.val + 832 * p.1.1.val + 104 * p.2.val, 0] := by
    rw [k1_off11_eq]; rfl
  have h1 : (x 1).val < 128 := (x 1).isLt
  rw [e]
  refine ⟨fun h => h 0, fun h a => ?_⟩
  match a with
  | ⟨0, _⟩ => exact h
  | ⟨1, _⟩ => exact ⟨Nat.zero_le _, show (x 1).val < 0 + 128 by omega⟩

theorem posSet_disjoint : ∀ p ∈ (Finset.univ : Finset (Fin 2 × Fin 16)), ∀ p' ∈ (Finset.univ : Finset (Fin 2 × Fin 16)), p ≠ p' →
    Disjoint (posSet p) (posSet p') := by
  rintro ⟨c, i⟩ - ⟨c', i'⟩ - hne
  rw [Finset.disjoint_left]
  intro x h h'
  have h := (mem_posSet _ _).mp h
  have h' := (mem_posSet _ _).mp h'
  refine hne (Prod.ext (Fin.ext ?_) (Fin.ext ?_)) <;> dsimp only at * <;> omega

theorem posSet_cover : (Finset.univ : Finset (Fin 2 × Fin 16)).biUnion posSet = Finset.univ := by
  ext x
  simp only [Finset.mem_biUnion, Finset.mem_univ, true_and, iff_true]
  have hx : (x 0).val < 106496 := (x 0).isLt
  refine ⟨(⟨(x 0).val / 3328 % 2, by omega⟩, ⟨(x 0).val / 6656, by omega⟩), (mem_posSet _ _).mpr ?_⟩
  dsimp only
  omega

theorem outSet_disjoint : ∀ p ∈ (Finset.univ : Finset ((Fin 2 × Fin 16) × Fin 8)), ∀ p' ∈ (Finset.univ : Finset ((Fin 2 × Fin 16) × Fin 8)), p ≠ p' →
    Disjoint (outSet p) (outSet p') := by
  rintro ⟨⟨c, i⟩, k⟩ - ⟨⟨c', i'⟩, k'⟩ - hne
  rw [Finset.disjoint_left]
  intro x h h'
  have h := (mem_outSet _ _).mp h
  have h' := (mem_outSet _ _).mp h'
  refine hne (Prod.ext (Prod.ext (Fin.ext ?_) (Fin.ext ?_)) (Fin.ext ?_)) <;> dsimp only at * <;> omega

theorem outSet_cover : (Finset.univ : Finset ((Fin 2 × Fin 16) × Fin 8)).biUnion outSet = Finset.univ := by
  ext x
  simp only [Finset.mem_biUnion, Finset.mem_univ, true_and, iff_true]
  have hx : (x 0).val < 26624 := (x 0).isLt
  refine ⟨((⟨(x 0).val / 832 % 2, by omega⟩, ⟨(x 0).val / 1664, by omega⟩), ⟨(x 0).val / 104 % 8, by omega⟩), (mem_outSet _ _).mpr ?_⟩
  dsimp only
  omega

theorem posPts (d : Dev nD) (f : Buf (Elt F) (posLoc d)) :
    (posLoc d ↦{fullShare} f : sProp 𝕄)
      = bigSep Finset.univ fun c : Fin 2 => bigSep Finset.univ fun i : Fin 16 => posLoc d ↦[posSet (c, i)]{fullShare} f := by
  rw [← bigSep_univ_prod (fun p : Fin 2 × Fin 16 => (posLoc d ↦[posSet p]{fullShare} f : sProp 𝕄)),
    ← pointsTo_biUnion Finset.univ (ℓ := posLoc d) posSet posSet_disjoint, posSet_cover]; try rfl

theorem outPts (d : Dev nD) (f : Buf (Elt F) (outLoc d)) :
    (outLoc d ↦{fullShare} f : sProp 𝕄)
      = bigSep Finset.univ fun c : Fin 2 => bigSep Finset.univ fun i : Fin 16 => bigSep Finset.univ fun k : Fin 8 =>
          outLoc d ↦[outSet ((c, i), k)]{fullShare} f := by
  rw [← bigSep_univ_prod (fun p : Fin 2 × Fin 16 => (bigSep Finset.univ fun k : Fin 8 => outLoc d ↦[outSet (p, k)]{fullShare} f : sProp 𝕄)),
    ← bigSep_univ_prod (fun p : (Fin 2 × Fin 16) × Fin 8 => (outLoc d ↦[outSet p]{fullShare} f : sProp 𝕄)),
    ← pointsTo_biUnion Finset.univ (ℓ := outLoc d) outSet outSet_disjoint, outSet_cover]; try rfl

set_option maxRecDepth 65536 in
theorem pkPts (d : Dev nD) (f : Buf (Elt F) (pkLoc d)) :
    (pkLoc d ↦{fullShare} f : sProp 𝕄)
      = bigSep Finset.univ fun c : Fin 2 => bigSep Finset.univ fun i : Fin 16 => pkLoc d ↦{shr (c, i)} f := by
  rw [← bigSep_univ_prod (fun p : Fin 2 × Fin 16 => (pkLoc d ↦{shr p} f : sProp 𝕄))]
  have h := ShareLeaves.pointsTo_leaves (nD := nD) (τ := τ) (sig := sig) (Ix := HIx 2) (Val := Elt F) (Name := ℕ) (U := UU F) (Lvl := ℕ) (ℓ := pkLoc d) Finset.univ f 5 fullShare
  rw [h]
  exact bigSep_univ_equiv e32 (fun i : Fin (2 ^ 5) => (pkLoc d ↦{ShareLeaves.leaf 5 fullShare i} f : sProp 𝕄))

/-! ## The packed table's marks, tile by tile -/

abbrev LD (p : Fin 2 × Fin 16) : grid0.Coords := coordsD p.1 p.2

abbrev ttLoc (d : Dev nD) : Loc nD τ sig := (T d : Thread nD τ).loc main_v10
abbrev pdLoc (d : Dev nD) : Loc nD τ sig := (T d : Thread nD τ).loc main_v11

set_option maxRecDepth 65536 in
theorem ttPts (d : Dev nD) (f : Buf (Elt F) (ttLoc d)) :
    (ttLoc d ↦{fullShare} f : sProp 𝕄)
      = bigSep Finset.univ fun c : Fin 2 => bigSep Finset.univ fun i : Fin 16 => ttLoc d ↦{shr (c, i)} f := by
  rw [← bigSep_univ_prod (fun p : Fin 2 × Fin 16 => (ttLoc d ↦{shr p} f : sProp 𝕄))]
  have h := ShareLeaves.pointsTo_leaves (nD := nD) (τ := τ) (sig := sig) (Ix := HIx 2) (Val := Elt F) (Name := ℕ) (U := UU F) (Lvl := ℕ) (ℓ := ttLoc d) Finset.univ f 5 fullShare
  rw [h]
  exact bigSep_univ_equiv e32 (fun i : Fin (2 ^ 5) => (ttLoc d ↦{ShareLeaves.leaf 5 fullShare i} f : sProp 𝕄))

variable [FloatOps F]

/-- A share of the packed table, to become the transposed tables packed, with `W` written. -/
abbrev mkP (d : Dev nD) (f0 : S26x25000x128.Idx → Elt F .f32) (tt : S26x32x100000.Idx → Elt F .f32) (q : PosShare TreeShare) (W : Finset S26x25000x128.Idx) :
    sProp (MT nD τ sig (HIx 2) (Elt F) ℕ (UU F) ℕ) :=
  willBeTo EW (pdLoc d) Finset.univ q f0 (fun x => some (packed tt x)) W

theorem pd_split (d : Dev nD) (f0 : S26x25000x128.Idx → Elt F .f32) (tt : S26x32x100000.Idx → Elt F .f32) :
    (mkP d f0 tt fullShare ∅ : sProp 𝕄)
      ⊢ bigSep Finset.univ fun c : Fin 2 => bigSep Finset.univ fun i : Fin 16 => mkP d f0 tt (shr (c, i)) ∅ := by
  refine (marks_split (emb := EW) (ℓ := pdLoc d) Finset.univ f0 (fun x => some (packed tt x)) 5 fullShare).trans (Entails.of_eq ?_)
  rw [← bigSep_univ_prod (fun p : Fin 2 × Fin 16 => (mkP d f0 tt (shr p) ∅ : sProp 𝕄))]
  exact bigSep_univ_equiv e32 (fun i : Fin (2 ^ 5) => (mkP d f0 tt (ShareLeaves.leaf 5 fullShare i) ∅ : sProp 𝕄))

theorem all_intro' {I : Type} {φ : I → Prop} (A : sProp 𝕄) (h : ∀ i, A ⊢ (⌜φ i⌝ : sProp 𝕄)) : A ⊢ (iprop(∀ i, ⌜φ i⌝) : sProp 𝕄) := by
  iintro H %i
  iapply (h i); iexact H

theorem pure_all {I : Type} {φ : I → Prop} (A : sProp 𝕄) (h : ∀ i, A ⊢ (⌜φ i⌝ : sProp 𝕄)) : A ⊢ (⌜∀ i, φ i⌝ : sProp 𝕄) :=
  BIBase.Entails.trans (all_intro' A h) pure_forall.2

/-- The tiles' marks together are every element. -/
theorem pd_join (d : Dev nD) (f0 : S26x25000x128.Idx → Elt F .f32) (tt : S26x32x100000.Idx → Elt F .f32) :
    (bigSep Finset.univ fun c : Fin 2 => bigSep Finset.univ fun i : Fin 16 => (pdSh EW d (LD (c, i)) (shr (c, i)) f0 tt (DoneD (LD (c, i))) : sProp 𝕄))
      ⊢ (mkP d f0 tt fullShare Finset.univ : sProp 𝕄) := by
  rw [← bigSep_univ_prod (fun p : Fin 2 × Fin 16 => (pdSh EW d (LD p) (shr p) f0 tt (DoneD (LD p)) : sProp 𝕄))]
  refine BIBase.Entails.trans (show _ ⊢ bigSep Finset.univ (fun p : Fin 2 × Fin 16 => iprop(∃ W : Finset S26x25000x128.Idx, ⌜DoneD (LD p) W⌝ ∗ (mkP d f0 tt (shr p) W : sProp 𝕄)))
    from BIBase.Entails.rfl) ?_
  refine BIBase.Entails.trans (Idealize.SL.BI.bigSep_exists_pi Finset.univ _) ?_
  iintro ⟨%W, H⟩
  ihave H := (Entails.of_eq (bigSep_sep' (s := (Finset.univ : Finset (Fin 2 × Fin 16))) (Φ := fun p => (iprop(⌜DoneD (LD p) (W p)⌝) : sProp 𝕄)) (Ψ := fun p => (mkP d f0 tt (shr p) (W p) : sProp 𝕄)))) $$ H
  icases H with ⟨H1, H2⟩
  ihave %hW := (pure_all (φ := fun p : Fin 2 × Fin 16 => DoneD (LD p) (W p)) (bigSep Finset.univ fun p : Fin 2 × Fin 16 => (iprop(⌜DoneD (LD p) (W p)⌝) : sProp 𝕄))
    (fun p => bigSep_elim (Φ := fun p : Fin 2 × Fin 16 => (iprop(⌜DoneD (LD p) (W p)⌝) : sProp 𝕄)) (Finset.mem_univ p))) $$ H1
  have hU : (Finset.univ.biUnion fun i : Fin (2 ^ 5) => W (e32.symm i)) = Finset.univ := by
    rw [← cover W hW]
    ext x
    simp only [Finset.mem_biUnion, Finset.mem_univ, _root_.true_and]
    exact ⟨fun ⟨i, hi⟩ => ⟨_, hi⟩, fun ⟨p, hp⟩ => ⟨e32 p, by rw [Equiv.symm_apply_apply]; exact hp⟩⟩
  have hE : (bigSep Finset.univ fun p : Fin 2 × Fin 16 => (mkP d f0 tt (shr p) (W p) : sProp 𝕄))
      = bigSep Finset.univ fun i : Fin (2 ^ 5) => (mkP d f0 tt (ShareLeaves.leaf 5 fullShare i) (W (e32.symm i)) : sProp 𝕄) :=
    (bigSep_congr fun p _ => by rw [Equiv.symm_apply_apply]).trans
      (bigSep_univ_equiv e32 (fun i : Fin (2 ^ 5) => (mkP d f0 tt (ShareLeaves.leaf 5 fullShare i) (W (e32.symm i)) : sProp 𝕄))).symm
  have hJ := marks_join (emb := EW) (ℓ := pdLoc d) Finset.univ f0 (fun x => some (packed tt x)) 5 fullShare (fun i : Fin (2 ^ 5) => W (e32.symm i))
    (Ix := HIx 2) (Name := ℕ) (Lvl := ℕ)
  rw [hU] at hJ
  iapply hJ
  iapply (Entails.of_eq hE)
  iexact H2

/-! ## What the calls pass -/

variable (tt : Dev nD → S26x32x100000.Idx → Elt F .f32) (f0 : Dev nD → S26x25000x128.Idx → Elt F .f32)
variable (pos : Dev nD → S106496.Idx → Elt F .i32) (tab : Dev nD → S650000x128.Idx → Elt F .f32)

/-- Tile `p`'s start and end, over the whole arrays' contents: the detranspose call's, -/
abbrev goP0 (d : Dev nD) (p : Fin 2 × Fin 16) : sProp (MT nD τ sig (HIx 2) (Elt F) ℕ (UU F) ℕ) := goD d (LD p) (tt d) (f0 d) (shr p)
abbrev tdP0 (d : Dev nD) (p : Fin 2 × Fin 16) : sProp (MT nD τ sig (HIx 2) (Elt F) ℕ (UU F) ℕ) := tdD d (LD p) (tt d) (f0 d) (shr p)
/-- and the lookup's. -/
abbrev goP (d : Dev nD) (p : Fin 2 × Fin 16) : sProp (MT nD τ sig (HIx 2) (Elt F) ℕ (UU F) ℕ) := goT d (LL p) (pos d) (tab d) (shr p)
abbrev tdP (d : Dev nD) (p : Fin 2 × Fin 16) : sProp (MT nD τ sig (HIx 2) (Elt F) ℕ (UU F) ℕ) := tdT d (LL p) (pos d) (tab d) (shr p)

def P : (K (F := F)).Pay (nD := nD) (Val := Elt F) (Name := ℕ) (U := UU F) where
  st := fun q d c => match q with
    | 0 => bigSep Finset.univ fun i : Fin 16 => goP0 tt f0 d (c, i)
    | 1 => bigSep Finset.univ fun i : Fin 16 => goP pos tab d (c, i)
  dn := fun q d c => match q with
    | 0 => bigSep Finset.univ fun i : Fin 16 => tdP0 tt f0 d (c, i)
    | 1 => bigSep Finset.univ fun i : Fin 16 => tdP pos tab d (c, i)
  go := fun q d c i => match q with
    | 0 => goP0 tt f0 d (c, i)
    | 1 => goP pos tab d (c, i)
  td := fun q d c i => match q with
    | 0 => tdP0 tt f0 d (c, i)
    | 1 => tdP pos tab d (c, i)
  x := fun q _ => match q with
    | 0 => iprop(∃ ιwm, wmInv EW ιwm)
    | 1 => iprop(emp)

instance tdP0_storable (d : Dev nD) (p : Fin 2 × Fin 16) : BI.Storable (upEmb : UEmb _ 𝕄) (tdP0 tt f0 d p) := by
  unfold tdP0 tdD pdSh
  infer_instance

set_option synthInstance.maxHeartbeats 400000 in
instance P_storable : (P (F := F) tt f0 pos tab).IsStorable where
  st q d c := match q with
    | 0 => (inferInstance : BI.Storable (upEmb : UEmb _ 𝕄) (bigSep Finset.univ fun i : Fin 16 => goP0 tt f0 d (c, i)))
    | 1 => (inferInstance : BI.Storable (upEmb : UEmb _ 𝕄) (bigSep Finset.univ fun i : Fin 16 => goP pos tab d (c, i)))
  dn q d c := match q with
    | 0 => (haveI := fun i : Fin 16 => tdP0_storable tt f0 d (c, i); inferInstance : BI.Storable (upEmb : UEmb _ 𝕄) (bigSep Finset.univ fun i : Fin 16 => tdP0 tt f0 d (c, i)))
    | 1 => (inferInstance : BI.Storable (upEmb : UEmb _ 𝕄) (bigSep Finset.univ fun i : Fin 16 => tdP pos tab d (c, i)))
  go q d c i := match q with
    | 0 => (inferInstance : BI.Storable (upEmb : UEmb _ 𝕄) (goP0 tt f0 d (c, i)))
    | 1 => (inferInstance : BI.Storable (upEmb : UEmb _ 𝕄) (goP pos tab d (c, i)))
  td q d c i := match q with
    | 0 => tdP0_storable tt f0 d (c, i)
    | 1 => (inferInstance : BI.Storable (upEmb : UEmb _ 𝕄) (tdP pos tab d (c, i)))

theorem vecSplit0 : (K (F := F)).VecSplit' (P tt f0 pos tab) 0 := by
  intro d c
  show (bigSep Finset.univ fun i : Fin 16 => goP0 tt f0 d (c, i)) ⊢ |={Set.univ}=> iprop(
      (bigSep Finset.univ fun i : Fin 16 => goP0 tt f0 d (c, i))
      ∗ ((bigSep Finset.univ fun i : Fin 16 => tdP0 tt f0 d (c, i)) -∗ bigSep Finset.univ fun i : Fin 16 => tdP0 tt f0 d (c, i)))
  iintro H; imodintro
  isplitl [H]; · iexact H
  iintro H; iexact H

theorem vecSplit1 : (K (F := F)).VecSplit' (P tt f0 pos tab) 1 := by
  intro d c
  show (bigSep Finset.univ fun i : Fin 16 => goP pos tab d (c, i)) ⊢ |={Set.univ}=> iprop(
      (bigSep Finset.univ fun i : Fin 16 => goP pos tab d (c, i))
      ∗ ((bigSep Finset.univ fun i : Fin 16 => tdP pos tab d (c, i)) -∗ bigSep Finset.univ fun i : Fin 16 => tdP pos tab d (c, i)))
  iintro H; imodintro
  isplitl [H]; · iexact H
  iintro H; iexact H

theorem st0_of (d : Dev nD) :
    iprop((ttLoc d ↦{fullShare} tt d) ∗ mkP d (f0 d) (tt d) fullShare ∅)
      ⊢ (bigSep Finset.univ fun c : Fin ((K (F := F)).nCore 0) => (P tt f0 pos tab).st 0 d c) := by
  show _ ⊢ bigSep Finset.univ fun c : Fin 2 => bigSep Finset.univ fun i : Fin 16 => goP0 tt f0 d (c, i)
  rw [ttPts]
  unfold goP0 goD
  simp only [bigSep_sep']
  iintro ⟨Ht, Hp⟩
  isplitl [Ht]; · iexact Ht
  iapply (pd_split d (f0 d) (tt d)); iexact Hp

theorem dn0_to (d : Dev nD) :
    (bigSep Finset.univ fun c : Fin ((K (F := F)).nCore 0) => (P tt f0 pos tab).dn 0 d c)
      ⊢ iprop((ttLoc d ↦{fullShare} tt d) ∗ mkP d (f0 d) (tt d) fullShare Finset.univ) := by
  show (bigSep Finset.univ fun c : Fin 2 => bigSep Finset.univ fun i : Fin 16 => tdP0 tt f0 d (c, i)) ⊢ _
  rw [ttPts]
  unfold tdP0 tdD
  simp only [bigSep_sep']
  iintro ⟨Ht, Hp⟩
  isplitl [Ht]; · iexact Ht
  iapply (pd_join d (f0 d) (tt d)); iexact Hp

theorem outEx (d : Dev nD) (p : (Fin 2 × Fin 16) × Fin 8) (g : Buf (Elt F) (outLoc d)) :
    (outLoc d ↦[outSet p]{fullShare} g : sProp 𝕄) ⊢ iprop(∃ g, outLoc d ↦[outSet p]{fullShare} g) := by
  iintro H; iexists g; iexact H

theorem st1_of (d : Dev nD) (g : Buf (Elt F) (outLoc d)) :
    iprop((posLoc d ↦{fullShare} pos d) ∗ (pkLoc d ↦{fullShare} tab d) ∗ (outLoc d ↦{fullShare} g))
      ⊢ (bigSep Finset.univ fun c : Fin ((K (F := F)).nCore 1) => (P tt f0 pos tab).st 1 d c) := by
  show _ ⊢ bigSep Finset.univ fun c : Fin 2 => bigSep Finset.univ fun i : Fin 16 => goP pos tab d (c, i)
  rw [posPts, pkPts, outPts]
  simp only [bigSep_sep']
  iintro ⟨Hp, Ht, Ho⟩
  isplitl [Hp]; · iexact Hp
  isplitl [Ht]; · iexact Ht
  have h : (bigSep Finset.univ fun c : Fin 2 => bigSep Finset.univ fun i : Fin 16 => bigSep Finset.univ fun k : Fin 8 =>
        (outLoc d ↦[outSet ((c, i), k)]{fullShare} g : sProp 𝕄))
      ⊢ bigSep Finset.univ fun c : Fin 2 => bigSep Finset.univ fun i : Fin 16 => bigSep Finset.univ fun k : Fin 8 =>
        (iprop(∃ g, (outLoc d ↦[outSet ((c, i), k)]{fullShare} g)) : sProp 𝕄) :=
    bigSep_mono fun _ _ => bigSep_mono fun _ _ => bigSep_mono fun _ _ => outEx d _ g
  iapply h; iexact Ho

theorem dn1_to (d : Dev nD) :
    (bigSep Finset.univ fun c : Fin ((K (F := F)).nCore 1) => (P tt f0 pos tab).dn 1 d c)
      ⊢ iprop((posLoc d ↦{fullShare} pos d) ∗ (pkLoc d ↦{fullShare} tab d) ∗ (outLoc d ↦{fullShare} embO (pos d) (tab d))) := by
  show (bigSep Finset.univ fun c : Fin 2 => bigSep Finset.univ fun i : Fin 16 => tdP pos tab d (c, i)) ⊢ _
  rw [posPts, pkPts, outPts]
  simp only [bigSep_sep']
  iintro ⟨Hp, Ht, Ho⟩
  isplitl [Hp]; · iexact Hp
  isplitl [Ht]; · iexact Ht
  iexact Ho

/-! ## The obligations of the calls -/

theorem defs₀_vector0 (c : Fin τ.nSC) (s : Fin τ.nSub) :
    defs₀ (F := F) (.scVector c s) 0 ()
      = SparseCore.onTile hcore0 hsub0 (fun c s => cc0_detrans_k (coordsD c s) ttV (Memref.isWhole_whole _) pdV (Memref.isWhole_whole _) ibV (Memref.isWhole_whole _) sbV (Memref.isWhole_whole _)
            tbV (Memref.isWhole_whole _) cc0_scratch3 cc0_scratch4 cc0_scratch5 cc0_scratch6 cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13 cc0_scoped14 cc0_scoped15 cc0_scoped16 cc0_scoped17
            cc0_scoped18 cc0_scoped19 cc0_scoped20 cc0_scoped21 cc0_scoped22 cc0_scoped23 cc0_scoped24 cc0_scoped25 cc0_scoped26 cc0_scoped27 cc0_scoped28 cc0_scoped29
            cc0_scoped30 cc0_scoped31 cc0_scoped32) ⟨⟩ c s := rfl

theorem defs₀_vector1 (c : Fin τ.nSC) (s : Fin τ.nSub) :
    defs₀ (F := F) (.scVector c s) 1 ()
      = SparseCore.onTile hcore1 hsub1 (fun c s => cc1_lookup_k (coordsV c s) posV (Memref.isWhole_whole _) pkV (Memref.isWhole_whole _) outV (Memref.isWhole_whole _)
            s0V (Memref.isWhole_whole _) s1V (Memref.isWhole_whole _) s2V (Memref.isWhole_whole _) s3V (Memref.isWhole_whole _) s4V (Memref.isWhole_whole _)
            cc1_scratch5 cc1_scoped0 cc1_scoped1 cc1_scoped2 cc1_scoped3 cc1_scoped4 cc1_scoped5 cc1_scoped6 cc1_scoped7 cc1_scoped8) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl0 (hF : (K (F := F)).Facts) : (K (F := F)).TileObl (D (F := F)) 𝒱 (P tt f0 pos tab) v₀ 0 := by
  intro d c i O W hO _ _
  simp only [show (P tt f0 pos tab).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (detTile_body hF d (coordsD ⟨_, hci.1⟩ ⟨_, hci.2⟩) (tt d) (f0 d) _ O W hO).trans (wp_mono frame _ _ fun _ => obl_post)

set_option maxRecDepth 16384 in
theorem tileObl1 (hF : (K (F := F)).Facts) (hpos : ∀ d, InTable (pos d)) : (K (F := F)).TileObl (D (F := F)) 𝒱 (P tt f0 pos tab) v₀ 1 := by
  intro d c i O W hO _ _
  simp only [show (P tt f0 pos tab).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (tile_body d (coordsV ⟨_, hci.1⟩ ⟨_, hci.2⟩) hF (hpos d) O W hO).trans (wp_mono frame _ _ fun _ => obl_post)

/-! ## The launch element of the ghost state -/

theorem phinj : Function.Injective (Pipeline.cellOf (nD := nD) (τ := τ) (Pipeline.pin (pcfgs (F := F)) adm)) := cellOf_inj

/-- What the pipelined call needs of the ghost state. -/
abbrev Gh (d : Dev nD) : sProp (MT nD τ sig (HIx 2) (Elt F) ℕ (UU F) ℕ) :=
  iprop(Pipeline.cellsGhost (Pipeline.pin (pcfgs (F := F)) adm) EP 0 d ∗ Pipeline.toksInit (Pipeline.pin (pcfgs (F := F)) adm) EP 0 d)

/-- The write mode, set up. -/
abbrev Gw : sProp (MT nD τ sig (HIx 2) (Elt F) ℕ (UU F) ℕ) := iprop(∃ ιwm, wmInv EW ιwm)

def u₀ : UU F := (initOf (K (F := F)).hsCells (K (F := F)).hsToks,
  (initOf (Pipeline.cells (Pipeline.pin (pcfgs (F := F)) adm) phinj) (Pipeline.launchToks (Pipeline.pin (pcfgs (F := F)) adm) phinj), (wm₀ nD τ sig (Elt F), 1)))

theorem bigSep_emp' {I : Type} (s : Finset I) : (bigSep s fun _ => (iprop(emp) : sProp 𝕄)) = iprop(emp) := bigSep_emp_const s

theorem wm_own : (BI.own (((Emb.inl : Emb (UW F) (UW F × Counters)).trans ((Emb.inr : Emb (UW F × Counters) (UP × (UW F × Counters))).trans
    (embR : Emb (UP × (UW F × Counters)) 𝕄))) (wm₀ nD τ sig (Elt F))) : sProp 𝕄) ⊢ ownU (EW (wm₀ nD τ sig (Elt F))) := BIBase.Entails.rfl

theorem gw_all (ιwm : ℕ) : (wmInv EW ιwm : sProp 𝕄) ⊢ bigSep (Finset.univ : Finset (Dev nD)) fun _ => Gw (F := F) := by
  have h : ∀ d ∈ (Finset.univ : Finset (Dev nD)), (wmInv EW ιwm : sProp 𝕄) ⊢ Gw (F := F) := fun _ _ => by
    iintro H
    iexists ιwm
    iexact H
  exact BIBase.Entails.trans (bigSep_of_persistent (Finset.univ : Finset (Dev nD)) (wmInv EW ιwm : sProp 𝕄)) (bigSep_mono h)

theorem x_all (ιwm : ℕ) : (wmInv EW ιwm : sProp 𝕄)
    ⊢ bigSep (Finset.univ : Finset (Thread nD τ)) fun thr => bigSep Finset.univ fun q : Fin 2 => (P tt f0 pos tab).x q thr := by
  have h : ∀ thr ∈ (Finset.univ : Finset (Thread nD τ)), (wmInv EW ιwm : sProp 𝕄) ⊢ bigSep Finset.univ fun q : Fin 2 => (P tt f0 pos tab).x q thr := fun thr _ => by
    rw [show (Finset.univ : Finset (Fin 2)) = {0, 1} from rfl, SparseCore.bigSep_insert' (by decide), bigSep_singleton]
    show (wmInv EW ιwm : sProp 𝕄) ⊢ iprop((∃ ιwm, wmInv EW ιwm) ∗ emp)
    iintro H
    isplitl [H]; · iexists ιwm; iexact H
    iempintro
  exact BIBase.Entails.trans (bigSep_of_persistent (Finset.univ : Finset (Thread nD τ)) (wmInv EW ιwm : sProp 𝕄)) (bigSep_mono h)

theorem hu₀ (m : (ℓ : Loc nD τ sig) → Buf (Elt F) ℓ) (ρ : Dev nD → PrngReg) : (ownU (u₀ (F := F)) : sProp 𝕄)
    ⊢ |={Set.univ}=> iprop(BI.own (EH (initOf (K (F := F)).hsCells (K (F := F)).hsToks)) ∗ (bigSep Finset.univ fun d : Dev nD => iprop(Gh (F := F) d ∗ Gw (F := F)))
        ∗ bigSep Finset.univ fun thr : Thread nD τ => bigSep Finset.univ fun q : Fin 2 => (P tt f0 pos tab).x q thr) := by
  unfold u₀
  iintro Hu
  ihave H := (ownU_pair (initOf (K (F := F)).hsCells (K (F := F)).hsToks) _) $$ Hu
  icases H with ⟨HH, HP⟩
  ihave H := (own_pair_emb embR (initOf (Pipeline.cells (Pipeline.pin (pcfgs (F := F)) adm) phinj) (Pipeline.launchToks (Pipeline.pin (pcfgs (F := F)) adm) phinj))
    ((wm₀ nD τ sig (Elt F), 1) : UW F × Counters)) $$ HP
  icases H with ⟨HP, HW⟩
  ihave H := (own_pair_emb ((Emb.inr : Emb (UW F × Counters) (UP × (UW F × Counters))).trans embR) (wm₀ nD τ sig (Elt F)) (1 : Counters)) $$ HW
  icases H with ⟨HW, -⟩
  ihave HW := (wm_own (F := F)) $$ HW
  imod (wmInv_alloc (emb := EW) (⟨m, fun _ => 0, ρ⟩ : MemSt nD τ sig (Elt F))) $$ HW with ⟨%ιwm, -, #Hw⟩
  imod (Pipeline.fund_ghost (Pipeline.pin (pcfgs (F := F)) adm) EP phinj) $$ HP with ⟨HA, HB⟩
  imodintro
  isplitl [HH]; · iexact HH
  isplitl [HA HB]
  · rw [bigSep_sep', bigSep_sep']
    isplitl [HA HB]
    · isplitl [HA]
      · iapply (Entails.of_eq (show (bigSep Finset.univ fun c : Dev nD => bigSep Finset.univ fun p : Fin 1 => (Pipeline.cellsGhost (Pipeline.pin (pcfgs (F := F)) adm) EP p c : sProp 𝕄))
            = bigSep Finset.univ fun c : Dev nD => Pipeline.cellsGhost (Pipeline.pin (pcfgs (F := F)) adm) EP 0 c from bigSep_congr fun _ _ => bigSep_univ_of_subsingleton (0 : Fin 1))); iexact HA
      · iapply (Entails.of_eq (show (bigSep Finset.univ fun c : Dev nD => bigSep Finset.univ fun p : Fin 1 => (Pipeline.toksInit (Pipeline.pin (pcfgs (F := F)) adm) EP p c : sProp 𝕄))
            = bigSep Finset.univ fun c : Dev nD => Pipeline.toksInit (Pipeline.pin (pcfgs (F := F)) adm) EP 0 c from bigSep_congr fun _ _ => bigSep_univ_of_subsingleton (0 : Fin 1))); iexact HB
    · iapply (gw_all (F := F) ιwm)
      iexact Hw
  · iapply (x_all tt f0 pos tab ιwm)
    iexact Hw

end Cert.Proof.Kern
-- ==== Proof.Main.lean ====
/-

  The whole program's run: the host operations before the SparseCore calls, the detranspose call, the packed table's reshape, the
  lookup call, the host operations after it, the pipelined call of the dense layers; and what the final memory holds.  Every array of the TensorCore is held whole
  throughout (`held … ucRefs V`), at a valuation `V` that each part of the program moves on.

-/
module

public import proofs.«01_k».proof.Proof.Launch

@[expose] public section

noncomputable section

namespace Cert.Proof.Kern

open Cert.KernelIdeal Cert.KernelIdeal.Facts₀ Cert.KernelIdeal.Facts Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ (UU F) ℕ

open Idealize.ShloMosaic.TcCoe
open Idealize.ShloMosaic.Pipeline (ucRefs unscopedBufs_held)
open Idealize.ShloMosaic.StableHlo (held held_sub_split held_congr seq after wp_seq)

variable [FloatOps F]

/-- The TensorCore's unscoped arrays. -/
abbrev UC : Finset (DevRef τ sig) := ucRefs τ sig

/-! ## The host operations -/

/-- The host operations before the SparseCore calls: the list of positions, the dense features, the transposed tables. -/
def ops1 : List (HloOp τ sig (Elt F)) :=
  [ StableHlo.unary main_arg0 main_v0 ((extractStridedSlice S4096x26 ![0, 0] · slices_S4096x39_S4096x26_0_0) : (⟨S4096x39, .f32⟩ : BufTy).Contents (Elt F) → (⟨S4096x26, .f32⟩ : BufTy).Contents (Elt F)),
    StableHlo.unary main_v0 main_v1 (fptosi 32 : (⟨S4096x26, .f32⟩ : BufTy).Contents (Elt F) → (⟨S4096x26, .i32⟩ : BufTy).Contents (Elt F)),
    StableHlo.nullary main_v2 (iotaInDim S26 32 0),
    StableHlo.nullary main_c (constantI S_ 32 100000#32),
    StableHlo.unary main_c main_v3 (broadcastInDim S26 ![] bcast_S_S26 : (⟨S_, .i32⟩ : BufTy).Contents (Elt F) → (⟨S26, .i32⟩ : BufTy).Contents (Elt F)),
    StableHlo.binary main_v2 main_v3 main_v4 (muli : (⟨S26, .i32⟩ : BufTy).Contents (Elt F) → (⟨S26, .i32⟩ : BufTy).Contents (Elt F) → (⟨S26, .i32⟩ : BufTy).Contents (Elt F)),
    StableHlo.unary main_v4 main_v5 (broadcastInDim S1x26 ![1] bcast_S26_S1x26_1 : (⟨S26, .i32⟩ : BufTy).Contents (Elt F) → (⟨S1x26, .i32⟩ : BufTy).Contents (Elt F)),
    StableHlo.unary main_v5 main_v6 (broadcastInDim S4096x26 ![0, 1] bcast_S1x26_S4096x26_0_1 : (⟨S1x26, .i32⟩ : BufTy).Contents (Elt F) → (⟨S4096x26, .i32⟩ : BufTy).Contents (Elt F)),
    StableHlo.binary main_v1 main_v6 main_v7 (addi : (⟨S4096x26, .i32⟩ : BufTy).Contents (Elt F) → (⟨S4096x26, .i32⟩ : BufTy).Contents (Elt F) → (⟨S4096x26, .i32⟩ : BufTy).Contents (Elt F)),
    StableHlo.reshape main_v7 main_v8 (rfl : (.i32 : EltTy) = .i32) shapeCasts_S4096x26_S106496,
    StableHlo.unary main_arg0 main_v9 ((extractStridedSlice S4096x13 ![0, 26] · slices_S4096x39_S4096x13_0_26) : (⟨S4096x39, .f32⟩ : BufTy).Contents (Elt F) → (⟨S4096x13, .f32⟩ : BufTy).Contents (Elt F)),
    StableHlo.unary main_arg1 main_v10 ((transpose S26x32x100000 [0, 2, 1] · transposes_S26x100000x32_S26x32x100000_0_2_1) : (⟨S26x100000x32, .f32⟩ : BufTy).Contents (Elt F) → (⟨S26x32x100000, .f32⟩ : BufTy).Contents (Elt F)) ]

/-- The one between the calls: the packed table as one array of rows. -/
def opsM : List (HloOp τ sig (Elt F)) :=
  [ StableHlo.reshape main_v11 main_v12 (rfl : (.f32 : EltTy) = .f32) shapeCasts_S26x25000x128_S650000x128 ]

/-- The host operations after them: the embeddings by rows of the batch, the two parts of the first weights, the biases as rows. -/
def ops2 : List (HloOp τ sig (Elt F)) :=
  [ StableHlo.reshape main_v13 main_v14 (rfl : (.f32 : EltTy) = .f32) shapeCasts_S26624x128_S4096x832,
    StableHlo.unary main_arg2 main_v15 ((extractStridedSlice S832x512 ![0, 0] · slices_S845x512_S832x512_0_0) : (⟨S845x512, .f32⟩ : BufTy).Contents (Elt F) → (⟨S832x512, .f32⟩ : BufTy).Contents (Elt F)),
    StableHlo.unary main_arg2 main_v16 ((extractStridedSlice S13x512 ![832, 0] · slices_S845x512_S13x512_832_0) : (⟨S845x512, .f32⟩ : BufTy).Contents (Elt F) → (⟨S13x512, .f32⟩ : BufTy).Contents (Elt F)),
    StableHlo.unary main_arg3 main_v17 (broadcastInDim S1x512 ![1] bcast_S512_S1x512_1 : (⟨S512, .f32⟩ : BufTy).Contents (Elt F) → (⟨S1x512, .f32⟩ : BufTy).Contents (Elt F)),
    StableHlo.unary main_arg5 main_v18 (broadcastInDim S1x256 ![1] bcast_S256_S1x256_1 : (⟨S256, .f32⟩ : BufTy).Contents (Elt F) → (⟨S1x256, .f32⟩ : BufTy).Contents (Elt F)),
    StableHlo.unary main_arg7 main_v19 (broadcastInDim S1x128 ![1] bcast_S128_S1x128_1 : (⟨S128, .f32⟩ : BufTy).Contents (Elt F) → (⟨S1x128, .f32⟩ : BufTy).Contents (Elt F)) ]

set_option maxRecDepth 16384 in
theorem main_eq (d : Dev nD) : main (F := F) d
    = (seq ops1 >>= fun _ => ((K (F := F)).run d 0 >>= fun _ => (seq opsM >>= fun _ => ((K (F := F)).run d 1 >>= fun _ => (seq ops2 >>= fun _ =>
        Prog.lift (.customCall (SparseCore.inner (Pipeline.entry 0)) ())))))) := by
  simp only [main, ops1, opsM, ops2, seq, bind_assoc, pure_bind]
  rfl

theorem mem_uc (b : Ref sig .tc) (h : b.isScoped = false) : Proc.devRef (τ := τ) .tc b ∈ UC := by
  unfold UC ucRefs
  refine Finset.mem_filter.mpr ⟨StableHlo.devRef_mem_tcRefs b, ?_⟩
  rw [show (Proc.devRef (τ := τ) .tc b).isScoped = b.isScoped from rfl, h]; exact Bool.false_ne_true

theorem sub1 (a : Ref sig .tc) (ha : a.isScoped = false) : ({Proc.devRef .tc a} : Finset (DevRef τ sig)) ⊆ UC :=
  Finset.singleton_subset_iff.mpr (mem_uc a ha)
theorem sub2 (a b : Ref sig .tc) (ha : a.isScoped = false) (hb : b.isScoped = false) :
    ({Proc.devRef .tc a, Proc.devRef .tc b} : Finset (DevRef τ sig)) ⊆ UC :=
  Finset.insert_subset (mem_uc a ha) (sub1 b hb)
theorem sub3 (a b c : Ref sig .tc) (ha : a.isScoped = false) (hb : b.isScoped = false) (hc : c.isScoped = false) :
    ({Proc.devRef .tc a, Proc.devRef .tc b, Proc.devRef .tc c} : Finset (DevRef τ sig)) ⊆ UC :=
  Finset.insert_subset (mem_uc a ha) (sub2 b c hb hc)

theorem ops1_sub : ∀ op ∈ (ops1 (F := F)), op.bufs ⊆ UC := by
  rw [← List.forall_iff_forall_mem]
  exact ⟨sub2 main_arg0 main_v0 rfl rfl, sub2 main_v0 main_v1 rfl rfl, sub1 main_v2 rfl, sub1 main_c rfl, sub2 main_c main_v3 rfl rfl,
    sub3 main_v2 main_v3 main_v4 rfl rfl rfl, sub2 main_v4 main_v5 rfl rfl, sub2 main_v5 main_v6 rfl rfl,
    sub3 main_v1 main_v6 main_v7 rfl rfl rfl, sub2 main_v7 main_v8 rfl rfl, sub2 main_arg0 main_v9 rfl rfl, sub2 main_arg1 main_v10 rfl rfl⟩
theorem opsM_sub : ∀ op ∈ (opsM (F := F)), op.bufs ⊆ UC := by
  rw [← List.forall_iff_forall_mem]
  exact sub2 main_v11 main_v12 rfl rfl
theorem ops2_sub : ∀ op ∈ (ops2 (F := F)), op.bufs ⊆ UC := by
  rw [← List.forall_iff_forall_mem]
  exact ⟨sub2 main_v13 main_v14 rfl rfl, sub2 main_arg2 main_v15 rfl rfl, sub2 main_arg2 main_v16 rfl rfl, sub2 main_arg3 main_v17 rfl rfl,
    sub2 main_arg5 main_v18 rfl rfl, sub2 main_arg7 main_v19 rfl rfl⟩
theorem ops1_fresh : ∀ op ∈ (ops1 (F := F)), op.fresh = ∅ := by
  rw [← List.forall_iff_forall_mem]
  exact StableHlo.forall_fresh_of_map rfl
theorem opsM_fresh : ∀ op ∈ (opsM (F := F)), op.fresh = ∅ := by
  rw [← List.forall_iff_forall_mem]
  exact StableHlo.forall_fresh_of_map rfl
theorem ops2_fresh : ∀ op ∈ (ops2 (F := F)), op.fresh = ∅ := by
  rw [← List.forall_iff_forall_mem]
  exact StableHlo.forall_fresh_of_map rfl

/-! ## The contents of the arrays, part by part -/

variable (m : (ℓ : Loc nD τ sig) → Buf (Elt F) ℓ) (ρ : Dev nD → PrngReg)

/-- At launch, -/
def V0 (d : Dev nD) : Valuation τ sig (Elt F) := fun b => m (d, b)
/-- after the first host operations, -/
def V1 (d : Dev nD) : Valuation τ sig (Elt F) := after ops1 (V0 m d)

/-- the transposed tables and the packed table's first contents then, -/
def ttM (d : Dev nD) : S26x32x100000.Idx → Elt F .f32 := V1 m d (Proc.devRef .tc main_v10)
def f0M (d : Dev nD) : S26x25000x128.Idx → Elt F .f32 := V1 m d (Proc.devRef .tc main_v11)

/-- after the detranspose call, -/
def VD (d : Dev nD) : Valuation τ sig (Elt F) :=
  Function.update (V1 m d) (Proc.devRef .tc main_v11) (packed (ttM m d) : S26x25000x128.Idx → Elt F .f32)
/-- after the reshape, -/
def VR (d : Dev nD) : Valuation τ sig (Elt F) := after opsM (VD m d)

/-- the list of positions and the packed table then, -/
def posM (d : Dev nD) : S106496.Idx → Elt F .i32 := VR m d (Proc.devRef .tc main_v8)
def tabM (d : Dev nD) : S650000x128.Idx → Elt F .f32 := VR m d (Proc.devRef .tc main_v12)

/-- after the lookup call, -/
def V2 (d : Dev nD) : Valuation τ sig (Elt F) :=
  Function.update (VR m d) (Proc.devRef .tc main_v13) (embO (posM m d) (tabM m d) : S26624x128.Idx → Elt F .f32)
/-- after the second host operations, -/
def V3 (d : Dev nD) : Valuation τ sig (Elt F) := after ops2 (V2 m d)

/-- the same by the TensorCore's own names, -/
def W3 (c : Dev nD) (b : Ref sig .tc) : Buf (Elt F) ((c : Thread nD τ).loc b) := V3 m c (Proc.devRef .tc b)
/-- and after the dense layers. -/
def V4 (d : Dev nD) : Valuation τ sig (Elt F) := Function.update (V3 m d) (Proc.devRef .tc main_v20) (mlpOut (W3 m) d)
def W4 (c : Dev nD) (b : Ref sig .tc) : Buf (Elt F) ((c : Thread nD τ).loc b) := V4 m c (Proc.devRef .tc b)

theorem W4_out (c : Dev nD) : W4 m c main_v20 = mlpOut (W3 m) c := by
  unfold W4 V4; exact Function.update_self _ _ _
theorem W4_ne (c : Dev nD) (b : Ref sig .tc) (h : b ≠ main_v20) : W4 m c b = W3 m c b :=
  Function.update_of_ne (StableHlo.devRef_ne_of_ne h) _ _

/-! ## The arrays of the SparseCore calls, out of all and back -/

abbrev S3 : Finset (DevRef τ sig) := {Proc.devRef .tc main_v8, Proc.devRef .tc main_v12, Proc.devRef .tc main_v13}

theorem S3_sub : S3 ⊆ UC := sub3 main_v8 main_v12 main_v13 rfl rfl rfl

theorem held_S3 (d : Dev nD) (V : Valuation τ sig (Elt F)) :
    (held (T d) S3 V : sProp 𝕄) = iprop((posLoc d ↦{fullShare} V (Proc.devRef .tc main_v8)) ∗ (pkLoc d ↦{fullShare} V (Proc.devRef .tc main_v12))
      ∗ (outLoc d ↦{fullShare} V (Proc.devRef .tc main_v13))) := by
  unfold held S3
  rw [SparseCore.bigSep_insert' (by
      simp only [Finset.mem_insert, Finset.mem_singleton, not_or]
      exact ⟨StableHlo.devRef_ne_of_ne (by decide), StableHlo.devRef_ne_of_ne (by decide)⟩),
    SparseCore.bigSep_insert' (by
      simp only [Finset.mem_singleton]
      exact StableHlo.devRef_ne_of_ne (by decide)), bigSep_singleton]

theorem held_open (d : Dev nD) : (held (T d) UC (VR m d) : sProp 𝕄)
    = iprop(((posLoc d ↦{fullShare} posM m d) ∗ (pkLoc d ↦{fullShare} tabM m d) ∗ (outLoc d ↦{fullShare} VR m d (Proc.devRef .tc main_v13)))
      ∗ held (T d) (UC \ S3) (VR m d)) := by
  rw [held_sub_split (T d) S3_sub, held_S3]; rfl

theorem held_close (d : Dev nD) : (held (T d) UC (V2 m d) : sProp 𝕄)
    = iprop(((posLoc d ↦{fullShare} posM m d) ∗ (pkLoc d ↦{fullShare} tabM m d) ∗ (outLoc d ↦{fullShare} embO (posM m d) (tabM m d)))
      ∗ held (T d) (UC \ S3) (VR m d)) := by
  rw [held_sub_split (T d) S3_sub, held_S3, held_congr (T d) (S := UC \ S3) (V := V2 m d) (V' := VR m d)]
  · unfold V2
    rw [Function.update_of_ne (StableHlo.devRef_ne_of_ne (by decide)), Function.update_of_ne (StableHlo.devRef_ne_of_ne (by decide)), Function.update_self]
    rfl
  · intro b hb
    refine Function.update_of_ne (fun h => (Finset.mem_sdiff.mp hb).2 ?_) _ _
    rw [h]; simp only [Finset.mem_insert, Finset.mem_singleton, or_true]

abbrev S2 : Finset (DevRef τ sig) := {Proc.devRef .tc main_v10, Proc.devRef .tc main_v11}

theorem S2_sub : S2 ⊆ UC := sub2 main_v10 main_v11 rfl rfl

theorem held_S2 (d : Dev nD) (V : Valuation τ sig (Elt F)) :
    (held (T d) S2 V : sProp 𝕄) = iprop((ttLoc d ↦{fullShare} V (Proc.devRef .tc main_v10)) ∗ (pdLoc d ↦{fullShare} V (Proc.devRef .tc main_v11))) := by
  unfold held S2
  rw [SparseCore.bigSep_insert' (by
      simp only [Finset.mem_singleton]
      exact StableHlo.devRef_ne_of_ne (by decide)), bigSep_singleton]

theorem held_open0 (d : Dev nD) : (held (T d) UC (V1 m d) : sProp 𝕄)
    = iprop(((ttLoc d ↦{fullShare} ttM m d) ∗ (pdLoc d ↦{fullShare} f0M m d)) ∗ held (T d) (UC \ S2) (V1 m d)) := by
  rw [held_sub_split (T d) S2_sub, held_S2]; rfl

theorem held_close0 (d : Dev nD) : (held (T d) UC (VD m d) : sProp 𝕄)
    = iprop(((ttLoc d ↦{fullShare} ttM m d) ∗ (pdLoc d ↦{fullShare} (packed (ttM m d) : S26x25000x128.Idx → Elt F .f32))) ∗ held (T d) (UC \ S2) (V1 m d)) := by
  rw [held_sub_split (T d) S2_sub, held_S2, held_congr (T d) (S := UC \ S2) (V := VD m d) (V' := V1 m d)]
  · unfold VD
    rw [Function.update_of_ne (StableHlo.devRef_ne_of_ne (by decide)), Function.update_self]
    rfl
  · intro b hb
    refine Function.update_of_ne (fun h => (Finset.mem_sdiff.mp hb).2 ?_) _ _
    rw [h]; simp only [Finset.mem_insert, Finset.mem_singleton, or_true]

/-- The packed table set to become the transposed tables packed, -/
theorem pd_in (d : Dev nD) (ιwm : ℕ) (f0 : S26x25000x128.Idx → Elt F .f32) (tt : S26x32x100000.Idx → Elt F .f32) :
    iprop(wmInv EW ιwm ∗ (pdLoc d ↦{fullShare} f0)) ⊢ (|={Set.univ}=> mkP d f0 tt fullShare ∅ : sProp 𝕄) :=
  pointsTo_castIn (emb := EW) (ℓ := pdLoc d) (I := Finset.univ) (f := f0) (fun x => some (packed tt x))

/-- and that, once all is written. -/
theorem pd_out (d : Dev nD) (ιwm : ℕ) (f0 : S26x25000x128.Idx → Elt F .f32) (tt : S26x32x100000.Idx → Elt F .f32) :
    iprop(wmInv EW ιwm ∗ mkP d f0 tt fullShare Finset.univ) ⊢ (|={Set.univ}=> (pdLoc d ↦{fullShare} (packed tt : S26x25000x128.Idx → Elt F .f32)) : sProp 𝕄) := by
  have h := willBeTo_castOut_some (emb := EW) (ιwm := ιwm) (ℓ := pdLoc d) (I := Finset.univ) (f := f0) (g := packed tt) (W := Finset.univ) (E := Set.univ)
    (Ix := HIx 2) (Name := ℕ) (Lvl := ℕ)
  rw [Finset.piecewise_univ] at h
  exact h

/-! ## The dense layers' call -/

theorem fupd_cont (B X Y L G Z : sProp 𝕄) :
    iprop((B ∗ X -∗ Z) ∗ B ∗ Y ∗ L ∗ G) ⊢ iprop((B ∗ X -∗ |={Set.univ}=> Z) ∗ B ∗ Y ∗ L ∗ G) := by
  iintro ⟨Hk, Hr⟩
  isplitl [Hk]
  · iintro H
    imodintro
    iapply Hk; iexact H
  iexact Hr

/-- The dense layers' call, in the signature of the program without SparseCores. -/
def callP : Prog (TpuEff nD τ sig (Elt F) (ΛP (F := F)) .tc) PUnit := .op (.customCall (Pipeline.entry 0) ()) .ret

theorem inner_eq : (Prog.lift (.customCall (SparseCore.inner (Pipeline.entry 0)) ()) :
    Prog (TpuEff nD τ sig (Elt F) (SparseCore.Sig (ΛP (F := F)) 2) .tc) PUnit) = SparseCore.liftProg (callP (F := F)) := rfl

set_option backward.isDefEq.respectTransparency.types false in
/-- The call runs from the arrays at `W` to the same at `W'`. -/
theorem call_wp [∀ e, Nonempty (Elt F e)] (W W' : (c : Dev nD) → (b : Ref sig .tc) → Buf (Elt F) ((c : Thread nD τ).loc b))
    (h1 : ∀ c, W' c main_v20 = mlpOut W c) (h2 : ∀ c (b : Ref sig .tc), b ≠ main_v20 → W' c b = W c b) (d : Dev nD) (Q : PUnit → sProp 𝕄) :
    iprop(((boundary (T d) ∗ unscopedBufs d (W' d) ∗ idle (F := F) d) -∗ Q ⟨⟩)
        ∗ boundary (T d) ∗ (unscopedBufs d (W d) ∗ idle (F := F) d) ∗ levAts (K (F := F)).L (K (F := F)).lev ∗ Gh (F := F) d)
      ⊢ wp frame (wpE ((K (F := F)).defs (D (F := F))) 𝒱 (T d) none) Set.univ
          (Prog.lift (.customCall (SparseCore.inner (Pipeline.entry 0)) ())) Q := by
  rw [inner_eq]
  refine BI.Entails.trans ?_ ((K (F := F)).wp_liftProg (D (F := F)) 𝒱 (T d) Set.univ none (callP (F := F)) Q)
  have HR := Pipeline.RegionSeg.wp (pcfgs (F := F)) adm (pdats W) (none : HIx 2) phinj EP defs₀ 𝒱₀ (K (F := F)).L (K (F := F)).lev
    (reg W W' h1 h2) d none (fun _ h => nomatch h) .ret Q
  refine BI.Entails.trans ?_ HR
  simp only [wp_ret]
  exact fupd_cont _ _ _ _ _ _

theorem Otc_one (d : Dev nD) (Wt : Waits sig (HIx 2)) :
    (owes (T d) ((K (F := F)).Otc d ((1 : Fin 2).val + 1)) Wt : sProp 𝕄) = owes (T d) (0 : CellTallies nD τ sig (HIx 2)) Wt := by
  rw [(K (F := F)).Otc_end d (n := (1 : Fin 2).val + 1) (le_refl 2)]

/-! ## The program -/

/-- What @main leaves: every array of the TensorCore, at its final contents. -/
abbrev FIN (d : Dev nD) : sProp (MT nD τ sig (HIx 2) (Elt F) ℕ (UU F) ℕ) := unscopedBufs d (W4 m d)

theorem hmain [∀ e, Nonempty (Elt F e)] (κ : GSem nD τ sig → ℕ) (d : Dev nD) :
    iprop((K (F := F)).ctx EH (P (ttM m) (f0M m) (posM m) (tabM m)) κ ∗ (K (F := F)).tcSt EH d 0 ∗ (K (F := F)).tcRes m ρ d ∗ Gh (F := F) d ∗ Gw (F := F))
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [show (unscopedBufs d (fun b => m ((SparseCore.T d).loc b)) : sProp 𝕄) = held (T d) UC (V0 m d) from unscopedBufs_held d (V0 m d), main_eq]
  iintro ⟨#Hctx, Hst, ⟨Hb, Hh, Hts, -⟩, HG, ⟨%ιwm, #Hw⟩⟩
  iapply (wp_seq 𝒱 none Set.univ d UC _ ops1 ops1_sub ops1_fresh (V0 m d)) $$ [Hb Hh]
  · isplitl [Hb] <;> iassumption
  iintro ⟨Hb, Hh⟩
  ihave Hh' := (Entails.of_eq (show (held (SparseCore.T d) UC (after ops1 (V0 m d)) : sProp 𝕄) = _ from held_open0 m d)) $$ Hh
  icases Hh' with ⟨⟨Htt, Hpd⟩, Hrest⟩
  rw [wp_bind]
  imod (pd_in d ιwm (f0M m d) (ttM m d)) $$ [Hpd] with Hpd
  · isplitr; · iexact Hw
    iexact Hpd
  iapply ((K (F := F)).wp_run (D (F := F)) 𝒱 (EH := EH) (P := P (ttM m) (f0M m) (posM m) (tabM m)) κ d 0) $$ [Hst Htt Hpd Hrest Hb Hts HG]
  isplitr; · iexact Hctx
  isplitl [Hst]; · iexact Hst
  isplitl [Htt Hpd]
  · iapply (st0_of (ttM m) (f0M m) (posM m) (tabM m) d)
    isplitl [Htt]; · iexact Htt
    iexact Hpd
  iintro ⟨Hst, Hdn⟩
  ihave Ha := (dn0_to (ttM m) (f0M m) (posM m) (tabM m) d) $$ Hdn
  icases Ha with ⟨Htt, Hpd⟩
  imod (pd_out d ιwm (f0M m d) (ttM m d)) $$ [Hpd] with Hpd
  · isplitr; · iexact Hw
    iexact Hpd
  ihave Hh := (Entails.of_eq (held_close0 m d).symm) $$ [Htt Hpd Hrest]
  · isplitl [Htt Hpd]
    · isplitl [Htt]; · iexact Htt
      iexact Hpd
    iexact Hrest
  iapply (wp_seq 𝒱 none Set.univ d UC _ opsM opsM_sub opsM_fresh (VD m d)) $$ [Hb Hh]
  · isplitl [Hb] <;> iassumption
  iintro ⟨Hb, Hh⟩
  ihave Hh' := (Entails.of_eq (show (held (SparseCore.T d) UC (after opsM (VD m d)) : sProp 𝕄) = _ from held_open m d)) $$ Hh
  icases Hh' with ⟨Ha, Hrest⟩
  rw [wp_bind]
  iapply ((K (F := F)).wp_run (D (F := F)) 𝒱 (EH := EH) (P := P (ttM m) (f0M m) (posM m) (tabM m)) κ d 1) $$ [Hst Ha Hrest Hb Hts HG]
  isplitr; · iexact Hctx
  isplitl [Hst]; · iexact Hst
  isplitl [Ha]
  · iapply (st1_of (ttM m) (f0M m) (posM m) (tabM m) d); iexact Ha
  iintro ⟨Hst, Hdn⟩
  ihave Ha := (dn1_to (ttM m) (f0M m) (posM m) (tabM m) d) $$ Hdn
  ihave Hh := (Entails.of_eq (held_close m d).symm) $$ [Ha Hrest]
  · isplitl [Ha] <;> iassumption
  iapply (wp_seq 𝒱 none Set.univ d UC _ ops2 ops2_sub ops2_fresh (V2 m d)) $$ [Hb Hh]
  · isplitl [Hb] <;> iassumption
  iintro ⟨Hb, Hh⟩
  ihave Hh' := (Entails.of_eq (show (held (T d) UC (after ops2 (V2 m d)) : sProp 𝕄) = unscopedBufs d (W3 m d) from (unscopedBufs_held d (V3 m d)).symm)) $$ Hh
  ihave Hlev := (SparseCore.Cfg.ctx_levAts κ) $$ Hctx
  unfold SparseCore.Cfg.tcSt
  icases Hst with ⟨⟨%Wt, %hW, HO⟩, Hst⟩
  iapply (call_wp (W3 m) (W4 m) (W4_out m) (W4_ne m) d)
  isplitl [Hst Hts]
  · iintro ⟨Hb, Hu, ⟨%Wt', %hW', HO⟩⟩
    isplitl [Hst HO]
    · isplitl [HO]
      · iexists Wt'
        isplitr
        · ipureintro; exact hW'
        · iapply (Entails.of_eq (Otc_one d Wt').symm); iexact HO
      iexact Hst
    isplitl [Hu]; · iexact Hu
    isplitl [Hb] <;> iassumption
  isplitl [Hb]; · iexact Hb
  isplitl [Hh' HO]
  · isplitl [Hh']; · iexact Hh'
    iexists Wt
    isplitr
    · ipureintro; exact hW
    · iapply (Entails.of_eq (Otc_one d Wt)); iexact HO
  isplitl [Hlev]; · iexact Hlev
  iexact HG

end Cert.Proof.Kern
-- ==== Proof.Run.lean ====
/-

  The run of the whole program from any memory whose list of positions stays inside the packed table: it ends with every
  array of the TensorCore at the contents `W4` names, and every semaphore at zero.

-/
module

public import proofs.«01_k».proof.Proof.Main

@[expose] public section

noncomputable section

namespace Cert.Proof.Kern

open Cert.KernelIdeal Cert.KernelIdeal.Facts₀ Cert.KernelIdeal.Facts Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ (UU F) ℕ

open Idealize.ShloMosaic.TcCoe
open Idealize.ShloMosaic.StableHlo (after)

variable [FloatOps F]
variable (m : (ℓ : Loc nD τ sig) → Buf (Elt F) ℓ) (ρ : Dev nD → PrngReg)

/-! ## What the final memory holds -/

def fq (d : Dev nD) (s' : Phys nD τ sig (Elt F)) : Prop :=
  ∀ b : Ref sig .tc, b.isScoped = false → s'.mem.mem ((T d : Thread nD τ).loc b) = W4 m d b

theorem fin_one (d : Dev nD) (s' : Phys nD τ sig (Elt F)) (b : Ref sig .tc) (hb : b.isScoped = false) :
    iprop(FIN m d ∗ SI s') ⊢ (⌜s'.mem.mem ((T d : Thread nD τ).loc b) = W4 m d b⌝ : sProp 𝕄) := by
  have h1 : FIN m d ⊢ ((T d : Thread nD τ).loc b ↦{fullShare} W4 m d b : sProp 𝕄) := by
    unfold FIN unscopedBufs
    exact bigSep_elim (Φ := fun b : Ref sig .tc => ((T d : Thread nD τ).loc b ↦{fullShare} W4 m d b : sProp 𝕄))
      (Finset.mem_filter.mpr ⟨Finset.mem_univ b, by rw [hb]; exact Bool.false_ne_true⟩)
  iintro ⟨Hf, HSI⟩
  ihave Hx := h1 $$ Hf
  ihave H := (SI_pointsTo_agree (st := s') (ℓ := (T d : Thread nD τ).loc b) (I := Finset.univ) (q := fullShare) (f := W4 m d b)) $$ [HSI Hx]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) :=
  pure_all _ fun b => by
    by_cases hb : b.isScoped = false
    · exact (fin_one m d s' b hb).trans (BI.pure_mono fun h _ => h)
    · exact BI.pure_intro fun h => absurd h hb

def QC : PUnit × MemSt nD τ sig (Elt F) → Prop := fun r =>
  (∀ d : Dev nD, ∀ b : Ref sig .tc, b.isScoped = false → r.2.mem ((T d : Thread nD τ).loc b) = W4 m d b) ∧ r.2.sem = fun _ => 0

theorem run_main [∀ e, Nonempty (Elt F e)] (hpos : ∀ d, InTable (posM m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ttM m) (f0M m) (posM m) (tabM m)) (A := ∅) facts v₀
    (fun q hq => match q with | 0 => nomatch hq | 1 => nomatch hq)
    (fun q _ => match q with | 0 => tileObl0 (ttM m) (f0M m) (posM m) (tabM m) facts | 1 => tileObl1 (ttM m) (f0M m) (posM m) (tabM m) facts hpos)
    (fun q _ => match q with
      | 0 => SparseCore.Cfg.VecSplit.of_plain (vecSplit0 (ttM m) (f0M m) (posM m) (tabM m))
      | 1 => SparseCore.Cfg.VecSplit.of_plain (vecSplit1 (ttM m) (f0M m) (posM m) (tabM m)))
    m ρ main (fun d => iprop(Gh (F := F) d ∗ Gw (F := F))) (FIN m) (u₀ (F := F)) (sep_elim_left.trans (hu₀ (ttM m) (f0M m) (posM m) (tabM m) m ρ)) (hmain m ρ) (fq m) (hfin m) (QC m)
    (fun _ h hz => ⟨h, hz⟩)

/-! ## The arrays the program computes before its calls, as expressions in its arguments -/

theorem posM_eq (d : Dev nD) : posM m d = shapeCast S106496
    (addi (fptosi 32 (extractStridedSlice S4096x26 ![0, 0] (m ((T d : Thread nD τ).loc main_arg0) : S4096x39.Idx → Elt F .f32) slices_S4096x39_S4096x26_0_0))
      (broadcastInDim S4096x26 ![0, 1] bcast_S1x26_S4096x26_0_1 (broadcastInDim S1x26 ![1] bcast_S26_S1x26_1
        (muli (iotaInDim S26 32 0) (broadcastInDim S26 ![] bcast_S_S26 (constantI S_ 32 100000#32))))))
    shapeCasts_S4096x26_S106496 := by
  unfold posM VR VD opsM
  after_results_simp
  rw [Function.update_of_ne (StableHlo.devRef_ne_of_ne (by decide))]
  unfold V1 ops1
  after_results_simp
  rfl

theorem ttM_eq (d : Dev nD) : ttM m d = transpose S26x32x100000 [0, 2, 1]
    (m ((T d : Thread nD τ).loc main_arg1) : S26x100000x32.Idx → Elt F .f32) transposes_S26x100000x32_S26x32x100000_0_2_1 := by
  unfold ttM V1 ops1
  after_results_simp
  rfl

theorem tabM_eq (d : Dev nD) : tabM m d = shapeCast S650000x128 (packed (ttM m d) : S26x25000x128.Idx → Elt F .f32) shapeCasts_S26x25000x128_S650000x128 := by
  unfold tabM VR VD opsM
  after_results_simp
  rw [Function.update_self]
  rfl

theorem W3_arg0 (d : Dev nD) : W3 m d main_arg0 = m ((T d : Thread nD τ).loc main_arg0) := by
  unfold W3 V3 V2 ops2
  after_results_simp
  rw [Function.update_of_ne (StableHlo.devRef_ne_of_ne (by decide))]
  unfold VR VD opsM
  after_results_simp
  rw [Function.update_of_ne (StableHlo.devRef_ne_of_ne (by decide))]
  unfold V1 ops1
  after_results_simp
  rfl
theorem W4_arg0 (d : Dev nD) : W4 m d main_arg0 = m ((T d : Thread nD τ).loc main_arg0) :=
  (W4_ne m d _ (by decide)).trans (W3_arg0 m d)
theorem W3_arg1 (d : Dev nD) : W3 m d main_arg1 = m ((T d : Thread nD τ).loc main_arg1) := by
  unfold W3 V3 V2 ops2
  after_results_simp
  rw [Function.update_of_ne (StableHlo.devRef_ne_of_ne (by decide))]
  unfold VR VD opsM
  after_results_simp
  rw [Function.update_of_ne (StableHlo.devRef_ne_of_ne (by decide))]
  unfold V1 ops1
  after_results_simp
  rfl
theorem W4_arg1 (d : Dev nD) : W4 m d main_arg1 = m ((T d : Thread nD τ).loc main_arg1) :=
  (W4_ne m d _ (by decide)).trans (W3_arg1 m d)
theorem W3_arg2 (d : Dev nD) : W3 m d main_arg2 = m ((T d : Thread nD τ).loc main_arg2) := by
  unfold W3 V3 V2 ops2
  after_results_simp
  rw [Function.update_of_ne (StableHlo.devRef_ne_of_ne (by decide))]
  unfold VR VD opsM
  after_results_simp
  rw [Function.update_of_ne (StableHlo.devRef_ne_of_ne (by decide))]
  unfold V1 ops1
  after_results_simp
  rfl
theorem W4_arg2 (d : Dev nD) : W4 m d main_arg2 = m ((T d : Thread nD τ).loc main_arg2) :=
  (W4_ne m d _ (by decide)).trans (W3_arg2 m d)
theorem W3_arg3 (d : Dev nD) : W3 m d main_arg3 = m ((T d : Thread nD τ).loc main_arg3) := by
  unfold W3 V3 V2 ops2
  after_results_simp
  rw [Function.update_of_ne (StableHlo.devRef_ne_of_ne (by decide))]
  unfold VR VD opsM
  after_results_simp
  rw [Function.update_of_ne (StableHlo.devRef_ne_of_ne (by decide))]
  unfold V1 ops1
  after_results_simp
  rfl
theorem W4_arg3 (d : Dev nD) : W4 m d main_arg3 = m ((T d : Thread nD τ).loc main_arg3) :=
  (W4_ne m d _ (by decide)).trans (W3_arg3 m d)
theorem W3_arg4 (d : Dev nD) : W3 m d main_arg4 = m ((T d : Thread nD τ).loc main_arg4) := by
  unfold W3 V3 V2 ops2
  after_results_simp
  rw [Function.update_of_ne (StableHlo.devRef_ne_of_ne (by decide))]
  unfold VR VD opsM
  after_results_simp
  rw [Function.update_of_ne (StableHlo.devRef_ne_of_ne (by decide))]
  unfold V1 ops1
  after_results_simp
  rfl
theorem W4_arg4 (d : Dev nD) : W4 m d main_arg4 = m ((T d : Thread nD τ).loc main_arg4) :=
  (W4_ne m d _ (by decide)).trans (W3_arg4 m d)
theorem W3_arg5 (d : Dev nD) : W3 m d main_arg5 = m ((T d : Thread nD τ).loc main_arg5) := by
  unfold W3 V3 V2 ops2
  after_results_simp
  rw [Function.update_of_ne (StableHlo.devRef_ne_of_ne (by decide))]
  unfold VR VD opsM
  after_results_simp
  rw [Function.update_of_ne (StableHlo.devRef_ne_of_ne (by decide))]
  unfold V1 ops1
  after_results_simp
  rfl
theorem W4_arg5 (d : Dev nD) : W4 m d main_arg5 = m ((T d : Thread nD τ).loc main_arg5) :=
  (W4_ne m d _ (by decide)).trans (W3_arg5 m d)
theorem W3_arg6 (d : Dev nD) : W3 m d main_arg6 = m ((T d : Thread nD τ).loc main_arg6) := by
  unfold W3 V3 V2 ops2
  after_results_simp
  rw [Function.update_of_ne (StableHlo.devRef_ne_of_ne (by decide))]
  unfold VR VD opsM
  after_results_simp
  rw [Function.update_of_ne (StableHlo.devRef_ne_of_ne (by decide))]
  unfold V1 ops1
  after_results_simp
  rfl
theorem W4_arg6 (d : Dev nD) : W4 m d main_arg6 = m ((T d : Thread nD τ).loc main_arg6) :=
  (W4_ne m d _ (by decide)).trans (W3_arg6 m d)
theorem W3_arg7 (d : Dev nD) : W3 m d main_arg7 = m ((T d : Thread nD τ).loc main_arg7) := by
  unfold W3 V3 V2 ops2
  after_results_simp
  rw [Function.update_of_ne (StableHlo.devRef_ne_of_ne (by decide))]
  unfold VR VD opsM
  after_results_simp
  rw [Function.update_of_ne (StableHlo.devRef_ne_of_ne (by decide))]
  unfold V1 ops1
  after_results_simp
  rfl
theorem W4_arg7 (d : Dev nD) : W4 m d main_arg7 = m ((T d : Thread nD τ).loc main_arg7) :=
  (W4_ne m d _ (by decide)).trans (W3_arg7 m d)

theorem W3_v12 (d : Dev nD) : W3 m d main_v14 = shapeCast S4096x832 (embO (posM m d) (tabM m d) : S26624x128.Idx → Elt F .f32) shapeCasts_S26624x128_S4096x832 := by
  unfold W3 V3 V2 ops2
  after_results_simp
  rw [Function.update_self]
  rfl

theorem W3_v9 (d : Dev nD) : W3 m d main_v9 = extractStridedSlice S4096x13 ![0, 26] (m ((T d : Thread nD τ).loc main_arg0) : S4096x39.Idx → Elt F .f32) slices_S4096x39_S4096x13_0_26 := by
  unfold W3 V3 V2 ops2
  after_results_simp
  rw [Function.update_of_ne (StableHlo.devRef_ne_of_ne (by decide))]
  unfold VR VD opsM
  after_results_simp
  rw [Function.update_of_ne (StableHlo.devRef_ne_of_ne (by decide))]
  unfold V1 ops1
  after_results_simp
  rfl

theorem W3_v13 (d : Dev nD) : W3 m d main_v15 = extractStridedSlice S832x512 ![0, 0] (m ((T d : Thread nD τ).loc main_arg2) : S845x512.Idx → Elt F .f32) slices_S845x512_S832x512_0_0 := by
  unfold W3 V3 V2 ops2
  after_results_simp
  rw [Function.update_of_ne (StableHlo.devRef_ne_of_ne (by decide))]
  unfold VR VD opsM
  after_results_simp
  rw [Function.update_of_ne (StableHlo.devRef_ne_of_ne (by decide))]
  unfold V1 ops1
  after_results_simp
  rfl

theorem W3_v14 (d : Dev nD) : W3 m d main_v16 = extractStridedSlice S13x512 ![832, 0] (m ((T d : Thread nD τ).loc main_arg2) : S845x512.Idx → Elt F .f32) slices_S845x512_S13x512_832_0 := by
  unfold W3 V3 V2 ops2
  after_results_simp
  rw [Function.update_of_ne (StableHlo.devRef_ne_of_ne (by decide))]
  unfold VR VD opsM
  after_results_simp
  rw [Function.update_of_ne (StableHlo.devRef_ne_of_ne (by decide))]
  unfold V1 ops1
  after_results_simp
  rfl

theorem W3_v15 (d : Dev nD) : W3 m d main_v17 = broadcastInDim S1x512 ![1] bcast_S512_S1x512_1 (m ((T d : Thread nD τ).loc main_arg3) : S512.Idx → Elt F .f32) := by
  unfold W3 V3 V2 ops2
  after_results_simp
  rw [Function.update_of_ne (StableHlo.devRef_ne_of_ne (by decide))]
  unfold VR VD opsM
  after_results_simp
  rw [Function.update_of_ne (StableHlo.devRef_ne_of_ne (by decide))]
  unfold V1 ops1
  after_results_simp
  rfl

theorem W3_v16 (d : Dev nD) : W3 m d main_v18 = broadcastInDim S1x256 ![1] bcast_S256_S1x256_1 (m ((T d : Thread nD τ).loc main_arg5) : S256.Idx → Elt F .f32) := by
  unfold W3 V3 V2 ops2
  after_results_simp
  rw [Function.update_of_ne (StableHlo.devRef_ne_of_ne (by decide))]
  unfold VR VD opsM
  after_results_simp
  rw [Function.update_of_ne (StableHlo.devRef_ne_of_ne (by decide))]
  unfold V1 ops1
  after_results_simp
  rfl

theorem W3_v17 (d : Dev nD) : W3 m d main_v19 = broadcastInDim S1x128 ![1] bcast_S128_S1x128_1 (m ((T d : Thread nD τ).loc main_arg7) : S128.Idx → Elt F .f32) := by
  unfold W3 V3 V2 ops2
  after_results_simp
  rw [Function.update_of_ne (StableHlo.devRef_ne_of_ne (by decide))]
  unfold VR VD opsM
  after_results_simp
  rw [Function.update_of_ne (StableHlo.devRef_ne_of_ne (by decide))]
  unfold V1 ops1
  after_results_simp
  rfl

/-- The run, stated of the arguments and the result: the arguments end as they began, the result's array at `mlpOut`, every
    semaphore at zero. -/
theorem run_post [∀ e, Nonempty (Elt F e)] (hpos : ∀ d, InTable (posM m d)) :
    θ_run (Cert.KernelIdeal.defs (F := F)) (Cert.KernelIdeal.threads (F := F)) ⟨m, fun _ => 0, ρ⟩ (fun r => (∀ d : Dev nD,
      r.2.mem ((T d : Thread nD τ).loc main_v20) = mlpOut (W3 m) d
      ∧ r.2.mem ((T d : Thread nD τ).loc main_arg0) = m ((T d : Thread nD τ).loc main_arg0)
      ∧ r.2.mem ((T d : Thread nD τ).loc main_arg1) = m ((T d : Thread nD τ).loc main_arg1)
      ∧ r.2.mem ((T d : Thread nD τ).loc main_arg2) = m ((T d : Thread nD τ).loc main_arg2)
      ∧ r.2.mem ((T d : Thread nD τ).loc main_arg3) = m ((T d : Thread nD τ).loc main_arg3)
      ∧ r.2.mem ((T d : Thread nD τ).loc main_arg4) = m ((T d : Thread nD τ).loc main_arg4)
      ∧ r.2.mem ((T d : Thread nD τ).loc main_arg5) = m ((T d : Thread nD τ).loc main_arg5)
      ∧ r.2.mem ((T d : Thread nD τ).loc main_arg6) = m ((T d : Thread nD τ).loc main_arg6)
      ∧ r.2.mem ((T d : Thread nD τ).loc main_arg7) = m ((T d : Thread nD τ).loc main_arg7)) ∧ r.2.sem = fun _ => 0) :=
  (θ_run Cert.KernelIdeal.defs _ _).mono (fun _ h => ⟨fun d =>
    ⟨(h.1 d main_v20 rfl).trans (W4_out m d), (h.1 d main_arg0 rfl).trans (W4_arg0 m d), (h.1 d main_arg1 rfl).trans (W4_arg1 m d),
      (h.1 d main_arg2 rfl).trans (W4_arg2 m d), (h.1 d main_arg3 rfl).trans (W4_arg3 m d), (h.1 d main_arg4 rfl).trans (W4_arg4 m d),
      (h.1 d main_arg5 rfl).trans (W4_arg5 m d), (h.1 d main_arg6 rfl).trans (W4_arg6 m d), (h.1 d main_arg7 rfl).trans (W4_arg7 m d)⟩, h.2⟩)
    (run_main m ρ hpos)

end Cert.Proof.Kern
-- ==== Proof.Same.lean ====
/-
  The program read at the machine's values and the one read at the ideal values are one text, printed twice: their definitions
  and their threads are equal at any reading of the floats, so that a run of the one is a run of the other.
-/
module

public import proofs.«01_k».proof.Proof.Run
public import proofs.«01_k».proof.Proof.FactsBits
public import Idealize.ShloMosaic.Lib.Tactic

@[expose] public section

noncomputable section

namespace Cert.Proof.Same

open Idealize.ShloMosaic Idealize.ShloMosaic.TcCoe Idealize.SL.Sem

variable {F : FTy → Type} [FloatOps F]

set_option maxRecDepth 1000000 in
/-- The two printed tables of definitions are equal. -/
theorem defs_eq : Cert.Kernel.defs (F := F) = Cert.KernelIdeal.defs (F := F) := by sl_kernel_rfl

set_option maxRecDepth 1000000 in
/-- The two printed families of threads are equal. -/
theorem threads_eq : Cert.Kernel.threads (F := F) = Cert.KernelIdeal.threads (F := F) := by sl_kernel_rfl

/-- A run of the one text is a run of the other. -/
theorem run_of {m : (ℓ : Loc Cert.Kernel.nD Cert.Kernel.τ Cert.Kernel.sig) → Buf (Elt F) ℓ} {ρ : Dev Cert.Kernel.nD → PrngReg}
    {Q : _ → Prop} (h : θ_run (Cert.KernelIdeal.defs (F := F)) (Cert.KernelIdeal.threads (F := F)) ⟨m, fun _ => 0, ρ⟩ Q) :
    θ_run (Cert.Kernel.defs (F := F)) (Cert.Kernel.threads (F := F)) ⟨m, fun _ => 0, ρ⟩ Q := by
  rw [defs_eq, threads_eq]
  exact h

end Cert.Proof.Same

end
-- ==== Proof.Range.lean ====
/-
  What the precondition says of the categories, and what it gives of the list of positions: every category word is below
  100000, so that every position lies inside the packed table.
-/
module

public import proofs.«01_k».proof.Proof.Run
public import proofs.«01_k».proof.Proof.Gen.Pre_categories_in_range
public import Idealize.ShloMosaic.Lib.ReduceAll

@[expose] public section

noncomputable section

namespace Cert.Proof.Kern

open Cert.KernelIdeal Cert.KernelIdeal.Facts₀ Cert.KernelIdeal.Facts Cert.KernelIdeal.Gen

open Idealize.ShloMosaic
open Idealize.ShloMosaic.SparseCore (S V T)
open Idealize.SL.Sem

variable {F : FTy → Type} [FloatOps F]

/-- The words the first 26 columns of the input convert to. -/
def cats (x : FVec F S4096x39 .f32) : IVec S4096x26 32 :=
  fptosi 32 (extractStridedSlice S4096x26 ![0, 0] x slices_S4096x39_S4096x26_0_0)

/-- Every category is a row of its table. -/
def InRange (x : FVec F S4096x39 .f32) : Prop := ∀ i, (cats x i).toNat < 100000

/-- A word that lies, read signed, from 0 up to 100000 is below 100000 as it stands. -/
theorem toNat_of_range (v : BitVec 32) (h0 : (0#32 : BitVec 32).toInt ≤ v.toInt) (h1 : v.toInt < (100000#32 : BitVec 32).toInt) :
    v.toNat < 100000 := by
  have e0 : (0#32 : BitVec 32).toInt = 0 := by decide
  have e1 : (100000#32 : BitVec 32).toInt = 100000 := by decide
  rw [e0] at h0
  rw [e1] at h1
  rw [BitVec.toInt_eq_toNat_cond] at h0 h1
  have := v.isLt
  split at h0 <;> omega

theorem inRange_of_pre (a0 : FVec F S4096x39 .f32) (a1 : FVec F S26x100000x32 .f32) (a2 : FVec F S845x512 .f32) (a3 : FVec F S512 .f32)
    (a4 : FVec F S512x256 .f32) (a5 : FVec F S256 .f32) (a6 : FVec F S256x128 .f32) (a7 : FVec F S128 .f32)
    (h : Cert.Pre_categories_in_range.fn (F := F) a0 a1 a2 a3 a4 a5 a6 a7 = fun _ => 1#1) : InRange a0 := by
  intro i
  have e := congrFun h (fun a => a.elim0)
  unfold Cert.Pre_categories_in_range.fn at e
  haveI : Subsingleton Cert.Pre_categories_in_range.S_.Idx := ⟨fun a b => funext fun x => x.elim0⟩
  have e2 := Host.reduce_andi_all _ _ _ _ _ e i
  have e3 := (IntOp.andi_eq_one).1 e2
  exact toNat_of_range (cats a0 i) (IntOp.cmpi_sge.1 e3.1) (IntOp.cmpi_slt.1 e3.2)

variable (m : (ℓ : Loc nD τ sig) → Buf (Elt F) ℓ)

/-- The input on device `d`. -/
abbrev xArr (d : Dev nD) : FVec F S4096x39 .f32 := m ((T d : Thread nD τ).loc main_arg0)

/-- Position `26 b + f` of the list is the word of the category, moved to the rows of table `f`. -/
theorem posM_apply (d : Dev nD) (i : S106496.Idx) :
    posM m d i = cats (xArr m d) (ix2 ⟨(i 0).val / 26, by have := (i 0).isLt; simp at this; omega⟩ ⟨(i 0).val % 26, Nat.mod_lt _ (by decide)⟩)
      + BitVec.ofNat 32 ((i 0).val % 26) * 100000#32 := by
  rw [posM_eq]
  rw [shapeCast_apply _ _ i (ix2 ⟨(i 0).val / 26, by have := (i 0).isLt; simp at this; omega⟩ ⟨(i 0).val % 26, Nat.mod_lt _ (by decide)⟩) (by
    rw [Shape.rowMajor_val_two, Shape.rowMajor_val_one]
    show (i 0).val / 26 * 26 + (i 0).val % 26 = _
    omega)]
  rfl

theorem posM_toNat (d : Dev nD) (hx : InRange (xArr m d)) (i : S106496.Idx) :
    (posM m d i).toNat = (cats (xArr m d) (ix2 ⟨(i 0).val / 26, by have := (i 0).isLt; simp at this; omega⟩ ⟨(i 0).val % 26, Nat.mod_lt _ (by decide)⟩)).toNat
      + 100000 * ((i 0).val % 26) := by
  rw [posM_apply]
  have h := hx (ix2 ⟨(i 0).val / 26, by have := (i 0).isLt; simp at this; omega⟩ ⟨(i 0).val % 26, Nat.mod_lt _ (by decide)⟩)
  have h2 : (i 0).val % 26 < 26 := Nat.mod_lt _ (by decide)
  rw [BitVec.toNat_add, BitVec.toNat_mul, BitVec.toNat_ofNat, BitVec.toNat_ofNat]
  omega

/-- With every category in range every position lies inside the packed table. -/
theorem inTable_of_range (d : Dev nD) (hx : InRange (xArr m d)) : InTable (posM m d) := by
  intro i
  rw [posM_toNat m d hx i]
  have h := hx (ix2 ⟨(i 0).val / 26, by have := (i 0).isLt; simp at this; omega⟩ ⟨(i 0).val % 26, Nat.mod_lt _ (by decide)⟩)
  have h2 : (i 0).val % 26 < 26 := Nat.mod_lt _ (by decide)
  omega

end Cert.Proof.Kern

end
-- ==== Proof.Dense.lean ====
/-
  The dense layers as sums, in the kernel's block and in the reference: three times a product, a bias and a cut at zero.
  The kernel adds two products where the reference takes one over the joined columns; a sum over 845 positions is the sum
  over the first 832 and that over the last 13.
-/
module

public import proofs.«01_k».proof.Proof.Range
public import Idealize.ShloMosaic.Lib.Pointwise

@[expose] public section

noncomputable section

namespace Cert.Proof.Value

open Idealize.ShloMosaic
open Cert.KernelIdeal Cert.KernelIdeal.Facts₀ Cert.KernelIdeal.Facts Cert.KernelIdeal.Gen

/-- The first layer at a row: `e` the row's embeddings, `n` its numeric columns. -/
def hid1 (e : Fin 832 → EReal) (n : Fin 13 → EReal) (w1 : Fin 845 → Fin 512 → EReal) (b1 : Fin 512 → EReal) (j : Fin 512) : EReal :=
  max ((∑ k : Fin 832, e k * w1 ⟨k.val, by omega⟩ j) + (∑ k : Fin 13, n k * w1 ⟨832 + k.val, by omega⟩ j) + b1 j) 0

/-- The second layer at a row. -/
def hid2 (h : Fin 512 → EReal) (w2 : Fin 512 → Fin 256 → EReal) (b2 : Fin 256 → EReal) (j : Fin 256) : EReal :=
  max ((∑ k : Fin 512, h k * w2 k j) + b2 j) 0

/-- The third layer at a row. -/
def hid3 (h : Fin 256 → EReal) (w3 : Fin 256 → Fin 128 → EReal) (b3 : Fin 128 → EReal) (j : Fin 128) : EReal :=
  max ((∑ k : Fin 256, h k * w3 k j) + b3 j) 0

/-- The kernel's block of the result, at an index. -/
theorem pay_apply (e : FVec Ideal S512x832 .f32) (wa : FVec Ideal S832x512 .f32) (n : FVec Ideal S512x13 .f32) (wb : FVec Ideal S13x512 .f32)
    (b1 : FVec Ideal S1x512 .f32) (w2 : FVec Ideal S512x256 .f32) (b2 : FVec Ideal S1x256 .f32) (w3 : FVec Ideal S256x128 .f32)
    (b3 : FVec Ideal S1x128 .f32) (r : Fin 512) (j : Fin 128) :
    k2_pay1 e wa n wb b1 w2 b2 w3 b3 (ix2 r j)
      = max ((∑ k : Fin 256, max ((∑ k' : Fin 512, max ((∑ k'' : Fin 832, e (ix2 r k'') * wa (ix2 k'' k'))
          + (∑ k'' : Fin 13, n (ix2 r k'') * wb (ix2 k'' k')) + b1 (ix2 0 k')) 0 * w2 (ix2 k' k)) + b2 (ix2 0 k)) 0 * w3 (ix2 k j)) + b3 (ix2 0 j)) 0 := by
  pointwise [k2_pay1]

end Cert.Proof.Value

end
-- ==== Proof.KerVal.lean ====
/-
  The kernel's result read at an index, in the arrays its dense layers' call enters with: block `t` of the result is the
  dense layers of rows `512 t` up to `512 t + 511`.
-/
module

public import proofs.«01_k».proof.Proof.Dense
public import Idealize.ShloMosaic.Lib.Pipeline.Value

@[expose] public section

noncomputable section

namespace Cert.Proof.Value

open Idealize.ShloMosaic Idealize.ShloMosaic.TcCoe
open Cert.KernelIdeal Cert.KernelIdeal.Facts₀ Cert.KernelIdeal.Facts Cert.KernelIdeal.Gen
open Cert.Proof.Kern

variable (W : (c : Dev nD) → (b : Ref sig .tc) → Buf (Elt Ideal) ((c : Thread nD τ).loc b))

/-- An array's contents as a function into the extended reals. -/
abbrev arr (s : Shape) (f : s.Idx → EReal) : s.Idx → EReal := f

/-! ## Where the windows' blocks lie -/

theorem index0 : ∀ t : Fin cfg2.N, win2_0.index t 0 = t.val ∧ win2_0.index t 1 = 0 := by decide +kernel
theorem index1 : ∀ t : Fin cfg2.N, win2_1.index t 0 = t.val ∧ win2_1.index t 1 = 0 := by decide +kernel
theorem index2 : ∀ (t : Fin cfg2.N) (a : Fin 2), win2_2.index t a = 0 := by decide +kernel
theorem index3 : ∀ (t : Fin cfg2.N) (a : Fin 2), win2_3.index t a = 0 := by decide +kernel
theorem index4 : ∀ (t : Fin cfg2.N) (a : Fin 2), win2_4.index t a = 0 := by decide +kernel
theorem index5 : ∀ (t : Fin cfg2.N) (a : Fin 2), win2_5.index t a = 0 := by decide +kernel
theorem index6 : ∀ (t : Fin cfg2.N) (a : Fin 2), win2_6.index t a = 0 := by decide +kernel
theorem index7 : ∀ (t : Fin cfg2.N) (a : Fin 2), win2_7.index t a = 0 := by decide +kernel
theorem index8 : ∀ (t : Fin cfg2.N) (a : Fin 2), win2_8.index t a = 0 := by decide +kernel
theorem index9 : ∀ t : Fin cfg2.N, win2_9.index t 0 = t.val ∧ win2_9.index t 1 = 0 := by decide +kernel
theorem xsize9 : ∀ t : Fin cfg2.N, win2_9.xsize (grid2.coords t) 0 = 512 ∧ win2_9.xsize (grid2.coords t) 1 = 128 := by decide +kernel

theorem lt8 (t : Fin cfg2.N) : t.val < 8 := t.isLt

/-- Row `r` of block `t`. -/
abbrev rowOf (t : Fin cfg2.N) (r : Fin 512) : Fin 4096 := ⟨512 * t.val + r.val, by have := lt8 t; omega⟩

theorem blk0_apply (c : Dev nD) (t : Fin cfg2.N) (r : Fin 512) (k : Fin 832) :
    blk0 W c t (ix2 r k) = (arr S4096x832 (W c main_v14)) (ix2 (rowOf t r) k) := by
  refine congrArg (arr S4096x832 (W c main_v14)) (funext fun a => Fin.ext ?_)
  match a with
  | ⟨0, _⟩ => exact (Pipeline.Window.rect_emb_val win2_0 t _ 0).trans (by rw [(index0 t).1]; show _ * 512 + r.val = 512 * t.val + r.val; omega)
  | ⟨1, _⟩ => exact (Pipeline.Window.rect_emb_val win2_0 t _ 1).trans (by rw [(index0 t).2]; show _ * 832 + k.val = k.val; omega)
theorem blk1_apply (c : Dev nD) (t : Fin cfg2.N) (r : Fin 512) (k : Fin 13) :
    blk1 W c t (ix2 r k) = (arr S4096x13 (W c main_v9)) (ix2 (rowOf t r) k) := by
  refine congrArg (arr S4096x13 (W c main_v9)) (funext fun a => Fin.ext ?_)
  match a with
  | ⟨0, _⟩ => exact (Pipeline.Window.rect_emb_val win2_1 t _ 0).trans (by rw [(index1 t).1]; show _ * 512 + r.val = 512 * t.val + r.val; omega)
  | ⟨1, _⟩ => exact (Pipeline.Window.rect_emb_val win2_1 t _ 1).trans (by rw [(index1 t).2]; show _ * 13 + k.val = k.val; omega)
theorem blk2_eq (c : Dev nD) (t : Fin cfg2.N) : blk2 W c t = (arr S832x512 (W c main_v15)) := by
  funext i
  refine congrArg (arr S832x512 (W c main_v15)) (funext fun a => Fin.ext ?_)
  match a with
  | ⟨0, _⟩ => exact (Pipeline.Window.rect_emb_val win2_2 t _ 0).trans (by rw [index2 t 0]; show _ * 832 + (i 0).val = (i 0).val; omega)
  | ⟨1, _⟩ => exact (Pipeline.Window.rect_emb_val win2_2 t _ 1).trans (by rw [index2 t 1]; show _ * 512 + (i 1).val = (i 1).val; omega)
theorem blk3_eq (c : Dev nD) (t : Fin cfg2.N) : blk3 W c t = (arr S13x512 (W c main_v16)) := by
  funext i
  refine congrArg (arr S13x512 (W c main_v16)) (funext fun a => Fin.ext ?_)
  match a with
  | ⟨0, _⟩ => exact (Pipeline.Window.rect_emb_val win2_3 t _ 0).trans (by rw [index3 t 0]; show _ * 13 + (i 0).val = (i 0).val; omega)
  | ⟨1, _⟩ => exact (Pipeline.Window.rect_emb_val win2_3 t _ 1).trans (by rw [index3 t 1]; show _ * 512 + (i 1).val = (i 1).val; omega)
theorem blk4_eq (c : Dev nD) (t : Fin cfg2.N) : blk4 W c t = (arr S1x512 (W c main_v17)) := by
  funext i
  refine congrArg (arr S1x512 (W c main_v17)) (funext fun a => Fin.ext ?_)
  match a with
  | ⟨0, _⟩ => exact (Pipeline.Window.rect_emb_val win2_4 t _ 0).trans (by rw [index4 t 0]; show _ * 1 + (i 0).val = (i 0).val; omega)
  | ⟨1, _⟩ => exact (Pipeline.Window.rect_emb_val win2_4 t _ 1).trans (by rw [index4 t 1]; show _ * 512 + (i 1).val = (i 1).val; omega)
theorem blk5_eq (c : Dev nD) (t : Fin cfg2.N) : blk5 W c t = (arr S512x256 (W c main_arg4)) := by
  funext i
  refine congrArg (arr S512x256 (W c main_arg4)) (funext fun a => Fin.ext ?_)
  match a with
  | ⟨0, _⟩ => exact (Pipeline.Window.rect_emb_val win2_5 t _ 0).trans (by rw [index5 t 0]; show _ * 512 + (i 0).val = (i 0).val; omega)
  | ⟨1, _⟩ => exact (Pipeline.Window.rect_emb_val win2_5 t _ 1).trans (by rw [index5 t 1]; show _ * 256 + (i 1).val = (i 1).val; omega)
theorem blk6_eq (c : Dev nD) (t : Fin cfg2.N) : blk6 W c t = (arr S1x256 (W c main_v18)) := by
  funext i
  refine congrArg (arr S1x256 (W c main_v18)) (funext fun a => Fin.ext ?_)
  match a with
  | ⟨0, _⟩ => exact (Pipeline.Window.rect_emb_val win2_6 t _ 0).trans (by rw [index6 t 0]; show _ * 1 + (i 0).val = (i 0).val; omega)
  | ⟨1, _⟩ => exact (Pipeline.Window.rect_emb_val win2_6 t _ 1).trans (by rw [index6 t 1]; show _ * 256 + (i 1).val = (i 1).val; omega)
theorem blk7_eq (c : Dev nD) (t : Fin cfg2.N) : blk7 W c t = (arr S256x128 (W c main_arg6)) := by
  funext i
  refine congrArg (arr S256x128 (W c main_arg6)) (funext fun a => Fin.ext ?_)
  match a with
  | ⟨0, _⟩ => exact (Pipeline.Window.rect_emb_val win2_7 t _ 0).trans (by rw [index7 t 0]; show _ * 256 + (i 0).val = (i 0).val; omega)
  | ⟨1, _⟩ => exact (Pipeline.Window.rect_emb_val win2_7 t _ 1).trans (by rw [index7 t 1]; show _ * 128 + (i 1).val = (i 1).val; omega)
theorem blk8_eq (c : Dev nD) (t : Fin cfg2.N) : blk8 W c t = (arr S1x128 (W c main_v19)) := by
  funext i
  refine congrArg (arr S1x128 (W c main_v19)) (funext fun a => Fin.ext ?_)
  match a with
  | ⟨0, _⟩ => exact (Pipeline.Window.rect_emb_val win2_8 t _ 0).trans (by rw [index8 t 0]; show _ * 1 + (i 0).val = (i 0).val; omega)
  | ⟨1, _⟩ => exact (Pipeline.Window.rect_emb_val win2_8 t _ 1).trans (by rw [index8 t 1]; show _ * 128 + (i 1).val = (i 1).val; omega)

/-! ## The result -/

/-- The dense layers of every row, of the arrays the call enters with. -/
def kerOut (c : Dev nD) : S4096x128.Idx → EReal := fun i =>
  hid3 (hid2 (fun j => max ((∑ k : Fin 832, (arr S4096x832 (W c main_v14)) (ix2 (i 0) k) * (arr S832x512 (W c main_v15)) (ix2 k j))
        + (∑ k : Fin 13, (arr S4096x13 (W c main_v9)) (ix2 (i 0) k) * (arr S13x512 (W c main_v16)) (ix2 k j))
        + (arr S1x512 (W c main_v17)) (ix2 0 j)) 0)
      (fun k j => (arr S512x256 (W c main_arg4)) (ix2 k j)) (fun j => (arr S1x256 (W c main_v18)) (ix2 0 j)))
    (fun k j => (arr S256x128 (W c main_arg6)) (ix2 k j)) (fun j => (arr S1x128 (W c main_v19)) (ix2 0 j)) (i 1)

theorem outBlk_apply (c : Dev nD) (t : Fin cfg2.N) (r : Fin 512) (j : Fin 128) :
    outBlk W c t (ix2 r j) = kerOut W c (ix2 (rowOf t r) j) := by
  refine (pay_apply _ _ _ _ _ _ _ _ _ r j).trans ?_
  rw [blk2_eq, blk3_eq, blk4_eq, blk5_eq, blk6_eq, blk7_eq, blk8_eq]
  simp only [blk0_apply, blk1_apply]
  rfl

/-- What point `t` writes back is block `t` of that. -/
theorem flushed_eq (c : Dev nD) (t : Fin cfg2.N) :
    (dat W c).flushed 9 t = (win2_9.blk t).view.read (Elt Ideal) (kerOut W c) := by
  funext i
  have e : (dat W c).flushed 9 t i = outBlk W c t (ix2 ⟨(i 0).val, (i 0).isLt⟩ ⟨(i 1).val, (i 1).isLt⟩) := by
    refine congrArg (outBlk W c t) (funext fun a => Fin.ext ?_)
    match a with
    | ⟨0, _⟩ => rfl
    | ⟨1, _⟩ => rfl
  refine e.trans ((outBlk_apply W c t _ _).trans ?_)
  refine congrArg (kerOut W c) (funext fun a => Fin.ext ?_)
  match a with
  | ⟨0, _⟩ => exact ((Pipeline.Window.rect_emb_val win2_9 t i 0).trans (by rw [(index9 t).1]; show _ * 512 + (i 0).val = 512 * t.val + (i 0).val; omega)).symm
  | ⟨1, _⟩ => exact ((Pipeline.Window.rect_emb_val win2_9 t i 1).trans (by rw [(index9 t).2]; show _ * 128 + (i 1).val = (i 1).val; omega)).symm

theorem mem_blk9 (t : Fin cfg2.N) (i : S4096x128.Idx) :
    i ∈ ((cfg2.win 9).blk t).view.set ↔ 512 * t.val ≤ (i 0).val ∧ (i 0).val < 512 * t.val + 512 := by
  show i ∈ ((View.whole main_v20).slice (win2_9.rect t)).set ↔ _
  rw [View.set_slice_whole, Rect.mem_set_unit]
  have h1 : (i 1).val < 128 := (i 1).isLt
  refine ⟨fun h => ?_, fun h a => ?_⟩
  · have h0 : win2_9.index t 0 * 512 ≤ (i 0).val ∧ (i 0).val < win2_9.index t 0 * 512 + win2_9.xsize (grid2.coords t) 0 := h 0
    rw [(index9 t).1, (xsize9 t).1] at h0
    omega
  · match a with
    | ⟨0, _⟩ =>
      show win2_9.index t 0 * 512 ≤ (i 0).val ∧ (i 0).val < win2_9.index t 0 * 512 + win2_9.xsize (grid2.coords t) 0
      rw [(index9 t).1, (xsize9 t).1]
      omega
    | ⟨1, _⟩ =>
      show win2_9.index t 1 * 128 ≤ (i 1).val ∧ (i 1).val < win2_9.index t 1 * 128 + win2_9.xsize (grid2.coords t) 1
      rw [(index9 t).2, (xsize9 t).2]
      omega

/-- The blocks of the result tile its array. -/
theorem cover9 (i : S4096x128.Idx) : ∃ t : Fin cfg2.N, (cfg2.win 9).flush t = true ∧ i ∈ ((cfg2.win 9).blk t).view.set := by
  have h0 : (i 0).val < 4096 := (i 0).isLt
  refine ⟨⟨(i 0).val / 512, show _ < 8 by omega⟩, flush2_9 _, ?_⟩
  rw [mem_blk9]
  dsimp only
  omega

theorem mlpOut_eq (c : Dev nD) : mlpOut W c = kerOut W c :=
  (dat W c).arrAt_eq_of_cover 9 (kerOut W c) (fun t _ => flushed_eq W c t) cover9

end Cert.Proof.Value

end
-- ==== Proof.RefVal.lean ====
/-
  The reference's result read at an index: the looked-up embeddings of its rows under the three dense layers. With every
  category in range the lookup neither moves a category nor leaves a hole.
-/
module

public import proofs.«01_k».proof.Proof.Dense
public import proofs.«01_k».proof.Proof.Gen.ReferenceIdeal.Run

@[expose] public section

noncomputable section

namespace Cert.Proof.Value

open Idealize.ShloMosaic
open Cert.ReferenceIdeal Cert.ReferenceIdeal.Gen

/-- The reference's dense layers of a row's embeddings and numeric columns. -/
def refDense (e : FVec Ideal S4096x832 .f32) (n : FVec Ideal S4096x13 .f32) (w1 : FVec Ideal S845x512 .f32) (b1 : FVec Ideal S512 .f32)
    (w2 : FVec Ideal S512x256 .f32) (b2 : FVec Ideal S256 .f32) (w3 : FVec Ideal S256x128 .f32) (b3 : FVec Ideal S128 .f32) :
    FVec Ideal S4096x128 .f32 :=
  maximumf (addf (Host.dotGeneral dot_S4096x256_S256x128_S4096x128_1_0_0_1_n_n none (maximumf (addf (Host.dotGeneral dot_S4096x512_S512x256_S4096x256_1_0_0_1_n_n none
    (maximumf (addf (Host.dotGeneral dot_S4096x845_S845x512_S4096x512_1_0_0_1_n_n none
        (concatenate S4096x845 1 [⟨S4096x832, e⟩, ⟨S4096x13, n⟩] concatenates_S4096x832_S4096x13_S4096x845_d1) w1)
      (broadcastInDim S4096x512 ![0, 1] bcast_S1x512_S4096x512_0_1 (broadcastInDim S1x512 ![1] bcast_S512_S1x512_1 b1)))
      (broadcastInDim S4096x512 ![] bcast_S_S4096x512 (constant S_ .f32 0x00000000#32))) w2)
      (broadcastInDim S4096x256 ![0, 1] bcast_S1x256_S4096x256_0_1 (broadcastInDim S1x256 ![1] bcast_S256_S1x256_1 b2)))
      (broadcastInDim S4096x256 ![] bcast_S_S4096x256 (constant S_ .f32 0x00000000#32))) w3)
      (broadcastInDim S4096x128 ![0, 1] bcast_S1x128_S4096x128_0_1 (broadcastInDim S1x128 ![1] bcast_S128_S1x128_1 b3)))
      (broadcastInDim S4096x128 ![] bcast_S_S4096x128 (constant S_ .f32 0x00000000#32))

theorem refDense_apply (e : FVec Ideal S4096x832 .f32) (n : FVec Ideal S4096x13 .f32) (w1 : FVec Ideal S845x512 .f32) (b1 : FVec Ideal S512 .f32)
    (w2 : FVec Ideal S512x256 .f32) (b2 : FVec Ideal S256 .f32) (w3 : FVec Ideal S256x128 .f32) (b3 : FVec Ideal S128 .f32)
    (r : Fin 4096) (j : Fin 128) :
    refDense e n w1 b1 w2 b2 w3 b3 (ix2 r j)
      = hid3 (hid2 (hid1 (fun k => e (ix2 r k)) (fun k => n (ix2 r k)) (fun k j => w1 (ix2 k j)) (fun j => b1 (ix1 j)))
          (fun k j => w2 (ix2 k j)) (fun j => b2 (ix1 j))) (fun k j => w3 (ix2 k j)) (fun j => b3 (ix1 j)) j := by
  pointwise [refDense, hid1, hid2, hid3]

/-- The categories of the reference, a negative one moved to the end of its table. -/
def refIdx (x : FVec Ideal S4096x39 .f32) : IVec S4096x26 32 :=
  select (cmpi .slt (fptosi 32 (extractStridedSlice S4096x26 ![0, 0] x slices_S4096x39_S4096x26_0_0)) (broadcastInDim S4096x26 ![] bcast_S_S4096x26 (constantI S_ 32 0#32)))
    (addi (fptosi 32 (extractStridedSlice S4096x26 ![0, 0] x slices_S4096x39_S4096x26_0_0)) (broadcastInDim S4096x26 ![] bcast_S_S4096x26 (constantI S_ 32 100000#32)))
    (fptosi 32 (extractStridedSlice S4096x26 ![0, 0] x slices_S4096x39_S4096x26_0_0))

/-- The start indices of the lookup. -/
def refStart (c : IVec S4096x26 32) : IVec S26x4096x1 32 :=
  broadcastInDim S26x4096x1 ![0, 1] bcast_S26x4096_S26x4096x1_0_1 (transpose S26x4096 [1, 0] c transposes_S4096x26_S26x4096_1_0)

/-- Where the lookup is inside its table. -/
def refMask (s : IVec S26x4096x1 32) : IVec S26x4096 1 :=
  Host.reduce IntOp.andi (andi (cmpi .sge s (broadcastInDim S26x4096x1 ![] bcast_S_S26x4096x1 (constantI S_ 32 0#32)))
    (cmpi .sle s (broadcastInDim S26x4096x1 ![0, 1, 2] bcast_S1x1x1_S26x4096x1_0_1_2 (broadcastInDim S1x1x1 ![2] bcast_S1_S1x1x1_2 (constantI S1 32 99999#32)))))
    (constantI S_ 1 1#1) reducesTo_S26x4096x1_S26x4096_d2 h_S_

/-- The embeddings of the rows. -/
def refEmb (x : FVec Ideal S4096x39 .f32) (tab : FVec Ideal S26x100000x32 .f32) : FVec Ideal S4096x832 .f32 :=
  shapeCast S4096x832 (transpose S4096x26x32 [1, 0, 2]
    (select (broadcastInDim S26x4096x32 ![0, 1] bcast_S26x4096_S26x4096x32_0_1 (refMask (refStart (refIdx x))))
      (Host.gather gather_S26x100000x32_S26x4096x1_S26x4096x32_2_1_0_0_1_2_1132 tab (refStart (refIdx x)))
      (broadcastInDim S26x4096x32 ![] bcast_S_S26x4096x32 (constant S_ .f32 0x7FC00000#32))) transposes_S26x4096x32_S4096x26x32_1_0_2) shapeCasts_S4096x26x32_S4096x832

open Cert.Proof.Kern (cats InRange)

theorem refIdx_eq (x : FVec Ideal S4096x39 .f32) (hx : InRange x) : refIdx x = cats x := by
  funext i
  have h := hx i
  have e : IntOp.cmpi .slt (cats x i) 0#32 = 0#1 := by
    have hne : ¬ IntOp.cmpi .slt (cats x i) 0#32 = 1#1 := by
      rw [IntOp.cmpi_slt, BitVec.toInt_eq_toNat_cond, if_pos (by omega)]
      have : (0#32 : BitVec 32).toInt = 0 := by decide
      omega
    revert hne
    generalize IntOp.cmpi .slt (cats x i) 0#32 = v
    revert v
    decide
  show (if IntOp.cmpi .slt (cats x i) 0#32 = 1#1 then _ else cats x i) = _
  rw [e]
  rfl

theorem refStart_apply (c : IVec S4096x26 32) (f : Fin 26) (r : Fin 4096) (z : Fin 1) : refStart c (ix3 f r z) = c (ix2 r f) := by
  pointwise [refStart]

theorem refMask_one (s : IVec S26x4096x1 32) (hs : ∀ i, (s i).toNat < 100000) (j : S26x4096.Idx) : refMask s j = 1#1 := by
  refine Host.reduce_andi_one _ _ _ _ _ rfl fun i => ?_
  have h := hs i
  refine IntOp.andi_eq_one.2 ⟨IntOp.cmpi_sge.2 ?_, IntOp.cmpi_sle.2 ?_⟩
  · show (0#32 : BitVec 32).toInt ≤ (s i).toInt
    rw [BitVec.toInt_eq_toNat_cond (s i), if_pos (by omega), show (0#32 : BitVec 32).toInt = 0 by decide]
    omega
  · show (s i).toInt ≤ (99999#32 : BitVec 32).toInt
    rw [BitVec.toInt_eq_toNat_cond (s i), if_pos (by omega), show (99999#32 : BitVec 32).toInt = 99999 by decide]
    omega

theorem refGather_apply (tab : FVec Ideal S26x100000x32 .f32) (s : IVec S26x4096x1 32) (f : Fin 26) (r : Fin 4096) (l : Fin 32)
    (h : (s (ix3 f r 0)).toNat < 100000) :
    Host.gather gather_S26x100000x32_S26x4096x1_S26x4096x32_2_1_0_0_1_2_1132 tab s (ix3 f r l) = tab (ix3 f ⟨(s (ix3 f r 0)).toNat, h⟩ l) := by
  unfold Host.gather
  refine congrArg tab (funext fun a => Fin.ext ?_)
  show gather_S26x100000x32_S26x4096x1_S26x4096x32_2_1_0_0_1_2_1132.start (ix3 f r l) s a
    + gather_S26x100000x32_S26x4096x1_S26x4096x32_2_1_0_0_1_2_1132.batchCoord (ix3 f r l) a
    + gather_S26x100000x32_S26x4096x1_S26x4096x32_2_1_0_0_1_2_1132.offCoord (ix3 f r l) a = _
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    show 0 + f.val + 0 = f.val
    omega
  · rw [GatherDims.batchCoord_eq_zero _ _ _ (show (1 : Fin 3) ∉ ([0] : List (Fin 3)) by decide),
      GatherDims.offCoord_eq_zero _ _ _ (fun h => ((GatherDims.mem_sKept _ _).mp h).1 (List.mem_singleton.mpr rfl))]
    unfold GatherDims.start
    rw [dif_pos (show (1 : Fin 3) ∈ gather_S26x100000x32_S26x4096x1_S26x4096x32_2_1_0_0_1_2_1132.startIndexMap from List.mem_singleton.mpr rfl)]
    have hsi : gather_S26x100000x32_S26x4096x1_S26x4096x32_2_1_0_0_1_2_1132.siIdx (ix3 f r l) ⟨List.idxOf (1 : Fin 3) gather_S26x100000x32_S26x4096x1_S26x4096x32_2_1_0_0_1_2_1132.startIndexMap,
        List.idxOf_lt_length_iff.2 (List.mem_singleton.mpr rfl)⟩ = ix3 f r 0 := by
      funext b
      refine Fin.ext ?_
      match b with
      | ⟨0, _⟩ => rfl
      | ⟨1, _⟩ => rfl
      | ⟨2, _⟩ => rfl
    show min (s (gather_S26x100000x32_S26x4096x1_S26x4096x32_2_1_0_0_1_2_1132.siIdx (ix3 f r l) ⟨List.idxOf (1 : Fin 3) gather_S26x100000x32_S26x4096x1_S26x4096x32_2_1_0_0_1_2_1132.startIndexMap,
        List.idxOf_lt_length_iff.2 (List.mem_singleton.mpr rfl)⟩)).toInt.toNat (100000 - 1) + 0 + 0 = (s (ix3 f r 0)).toNat
    rw [hsi, BitVec.toInt_eq_toNat_cond, if_pos (by omega)]
    omega
  · rw [GatherDims.batchCoord_eq_zero _ _ _ (show (2 : Fin 3) ∉ ([0] : List (Fin 3)) by decide)]
    unfold GatherDims.start
    rw [dif_neg (show (2 : Fin 3) ∉ gather_S26x100000x32_S26x4096x1_S26x4096x32_2_1_0_0_1_2_1132.startIndexMap from show (2 : Fin 3) ∉ ([1] : List (Fin 3)) by decide)]
    show 0 + 0 + l.val = l.val
    omega

theorem refEmb_apply (x : FVec Ideal S4096x39 .f32) (tab : FVec Ideal S26x100000x32 .f32) (hx : InRange x) (r : Fin 4096) (k : Fin 832) :
    refEmb x tab (ix2 r k) = tab (ix3 ⟨k.val / 32, by omega⟩ ⟨(cats x (ix2 r ⟨k.val / 32, by omega⟩)).toNat, hx _⟩ ⟨k.val % 32, by omega⟩) := by
  have e : refIdx x = cats x := refIdx_eq x hx
  have hs : ∀ i, (refStart (refIdx x) i).toNat < 100000 := by
    intro i
    rw [e, eq_ix3 i]
    exact (congrArg BitVec.toNat (refStart_apply (cats x) (i 0) (i 1) (i 2))).trans_lt (hx _)
  unfold refEmb
  pointwise
  rw [refMask_one _ hs, refGather_apply tab _ _ _ _ (hs _)]
  simp only [e, refStart_apply]
  rfl

/-- The reference's result. -/
theorem res_eq (m : (ℓ : Loc nD τ sig) → Buf (Elt Ideal) ℓ) (c : Dev nD) :
    Cert.ReferenceIdeal.Value.res_main_v21 m c
      = refDense (refEmb (m ((c.tc : Thread nD τ).loc main_arg0)) (m ((c.tc : Thread nD τ).loc main_arg1)))
          (extractStridedSlice S4096x13 ![0, 26] (m ((c.tc : Thread nD τ).loc main_arg0) : S4096x39.Idx → Elt Ideal .f32) slices_S4096x39_S4096x13_0_26)
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := rfl

end Cert.Proof.Value

end
-- ==== Proof.Agree.lean ====
/-
  The kernel and the reference agree: with every category in range both results are the dense layers of the same
  embeddings and the same numeric columns.
-/
module

public import proofs.«01_k».proof.Proof.KerVal
public import proofs.«01_k».proof.Proof.RefVal

@[expose] public section

noncomputable section

namespace Cert.Proof.Value

open Idealize.ShloMosaic Idealize.ShloMosaic.TcCoe
open Idealize.ShloMosaic.SparseCore (S V T)
open Cert.KernelIdeal Cert.KernelIdeal.Facts₀ Cert.KernelIdeal.Facts Cert.KernelIdeal.Gen
open Cert.Proof.Kern

variable (m : (ℓ : Loc nD τ sig) → Buf (Elt Ideal) ℓ) (d : Dev nD)

/-- The tables on device `d`. -/
abbrev tabs : FVec Ideal S26x100000x32 .f32 := m ((T d : Thread nD τ).loc main_arg1)

/-- The packed table at a row and a lane is the element of the tables at the same place in order. -/
theorem tabM_apply (f : Fin 26) (v : Fin 100000) (l : Fin 32) (i : S650000x128.Idx)
    (h : 128 * (i 0).val + (i 1).val = 3200000 * f.val + 32 * v.val + l.val) : tabM m d i = tabs m d (ix3 f v l) := by
  have hf := f.isLt
  have hv := v.isLt
  have hl := l.isLt
  have h0 : (i 0).val < 650000 := (i 0).isLt
  have h1 : (i 1).val < 128 := (i 1).isLt
  rw [tabM_eq]
  rw [shapeCast_apply _ _ i (ix3 (n0 := 26) (n1 := 25000) (n2 := 128) ⟨(i 0).val / 25000, by omega⟩ ⟨(i 0).val % 25000, by omega⟩ ⟨(i 1).val, h1⟩) (by
    rw [Shape.rowMajor_val_three, Shape.rowMajor_val_two]
    show ((i 0).val / 25000 * 25000 + (i 0).val % 25000) * 128 + (i 1).val = (i 0).val * 128 + (i 1).val
    omega)]
  show ttAt (ttM m d) ((i 0).val / 25000) ((i 1).val % 32) (4 * ((i 0).val % 25000) + (i 1).val / 32) = _
  rw [show (i 0).val / 25000 = f.val by omega, show (i 1).val % 32 = l.val by omega, show 4 * ((i 0).val % 25000) + (i 1).val / 32 = v.val by omega]
  refine (ttAt_eq (tt := ttM m d) (x := ix3 (n0 := 26) (n1 := 32) (n2 := 100000) f l v) rfl rfl rfl).symm.trans ?_
  rw [ttM_eq]
  exact transpose_apply _ _ _ _ (ix3 f v l) fun a => match a with
    | ⟨0, _⟩ => rfl
    | ⟨1, _⟩ => rfl
    | ⟨2, _⟩ => rfl

/-- The embeddings the lookup leaves, at a row and a column. -/
theorem emb_apply (hx : InRange (xArr m d)) (r : Fin 4096) (k : Fin 832) :
    shapeCast S4096x832 (embO (posM m d) (tabM m d) : S26624x128.Idx → EReal) shapeCasts_S26624x128_S4096x832 (ix2 r k)
      = tabs m d (ix3 ⟨k.val / 32, by omega⟩ ⟨(cats (xArr m d) (ix2 r ⟨k.val / 32, by omega⟩)).toNat, hx _⟩ ⟨k.val % 32, by omega⟩) := by
  have hr := r.isLt
  have hk := k.isLt
  rw [shapeCast_apply _ _ (ix2 r k) (ix2 (n0 := 26624) (n1 := 128) ⟨(832 * r.val + k.val) / 128, by omega⟩ ⟨(832 * r.val + k.val) % 128, by omega⟩) (by
    rw [Shape.rowMajor_val_two, Shape.rowMajor_val_two]
    show (832 * r.val + k.val) / 128 * 128 + (832 * r.val + k.val) % 128 = r.val * 832 + k.val
    omega)]
  show tabM m d (atT (rowW (posM m d (atP (4 * ((832 * r.val + k.val) / 128) + (832 * r.val + k.val) % 128 / 32)))).toNat
    ((laneW (posM m d (atP (4 * ((832 * r.val + k.val) / 128) + (832 * r.val + k.val) % 128 / 32)))).toNat + (832 * r.val + k.val) % 128 % 32)) = _
  rw [show 4 * ((832 * r.val + k.val) / 128) + (832 * r.val + k.val) % 128 / 32 = 26 * r.val + k.val / 32 by omega,
    show (832 * r.val + k.val) % 128 % 32 = k.val % 32 by omega, rowW_toNat, laneW_toNat]
  have hp := posM_toNat m d hx (atP (26 * r.val + k.val / 32))
  have hq : ((atP (26 * r.val + k.val / 32)) 0).val = 26 * r.val + k.val / 32 := by
    show (26 * r.val + k.val / 32) % 106496 = _
    omega
  have hi : (ix2 ⟨((atP (26 * r.val + k.val / 32)) 0).val / 26, by omega⟩ ⟨((atP (26 * r.val + k.val / 32)) 0).val % 26, Nat.mod_lt _ (by decide)⟩ : S4096x26.Idx)
      = ix2 r ⟨k.val / 32, by omega⟩ := by
    funext a
    refine Fin.ext ?_
    match a with
    | ⟨0, _⟩ => show ((atP (26 * r.val + k.val / 32)) 0).val / 26 = r.val; omega
    | ⟨1, _⟩ => show ((atP (26 * r.val + k.val / 32)) 0).val % 26 = k.val / 32; omega
  rw [hi, hq] at hp
  have hc := hx (ix2 r ⟨k.val / 32, by omega⟩)
  refine tabM_apply m d ⟨k.val / 32, by omega⟩ ⟨_, hc⟩ ⟨k.val % 32, by omega⟩ _ ?_
  show 128 * ((posM m d (atP (26 * r.val + k.val / 32))).toNat / 4 % 650000)
      + (32 * ((posM m d (atP (26 * r.val + k.val / 32))).toNat % 4) + k.val % 32) % 128
    = 3200000 * (k.val / 32) + 32 * (cats (xArr m d) (ix2 r ⟨k.val / 32, by omega⟩)).toNat + k.val % 32
  generalize (cats (xArr m d) (ix2 r ⟨k.val / 32, by omega⟩)).toNat = v at hp hc ⊢
  generalize (posM m d (atP (26 * r.val + k.val / 32))).toNat = p at hp ⊢
  omega

/-- The kernel's result is the reference's, on equal arguments. -/
theorem out_eq (hx : InRange (xArr m d)) (m' : (ℓ : Loc Cert.ReferenceIdeal.nD Cert.ReferenceIdeal.τ Cert.ReferenceIdeal.sig) → Buf (Elt Ideal) ℓ)
    (c' : Dev Cert.ReferenceIdeal.nD)
    (h0 : m' ((c'.tc : Thread Cert.ReferenceIdeal.nD Cert.ReferenceIdeal.τ).loc Cert.ReferenceIdeal.main_arg0) = m ((T d : Thread nD τ).loc main_arg0))
    (h1 : m' ((c'.tc : Thread Cert.ReferenceIdeal.nD Cert.ReferenceIdeal.τ).loc Cert.ReferenceIdeal.main_arg1) = m ((T d : Thread nD τ).loc main_arg1))
    (h2 : m' ((c'.tc : Thread Cert.ReferenceIdeal.nD Cert.ReferenceIdeal.τ).loc Cert.ReferenceIdeal.main_arg2) = m ((T d : Thread nD τ).loc main_arg2))
    (h3 : m' ((c'.tc : Thread Cert.ReferenceIdeal.nD Cert.ReferenceIdeal.τ).loc Cert.ReferenceIdeal.main_arg3) = m ((T d : Thread nD τ).loc main_arg3))
    (h4 : m' ((c'.tc : Thread Cert.ReferenceIdeal.nD Cert.ReferenceIdeal.τ).loc Cert.ReferenceIdeal.main_arg4) = m ((T d : Thread nD τ).loc main_arg4))
    (h5 : m' ((c'.tc : Thread Cert.ReferenceIdeal.nD Cert.ReferenceIdeal.τ).loc Cert.ReferenceIdeal.main_arg5) = m ((T d : Thread nD τ).loc main_arg5))
    (h6 : m' ((c'.tc : Thread Cert.ReferenceIdeal.nD Cert.ReferenceIdeal.τ).loc Cert.ReferenceIdeal.main_arg6) = m ((T d : Thread nD τ).loc main_arg6))
    (h7 : m' ((c'.tc : Thread Cert.ReferenceIdeal.nD Cert.ReferenceIdeal.τ).loc Cert.ReferenceIdeal.main_arg7) = m ((T d : Thread nD τ).loc main_arg7)) :
    (Cert.ReferenceIdeal.Value.res_main_v21 m' c' : S4096x128.Idx → EReal) = mlpOut (W3 m) d := by
  rw [res_eq, h0, h1, h2, h3, h4, h5, h6, h7, mlpOut_eq]
  funext i
  obtain ⟨r, j, rfl⟩ : ∃ (r : Fin 4096) (j : Fin 128), i = ix2 r j := ⟨i 0, i 1, eq_ix2 i⟩
  rw [refDense_apply]
  unfold kerOut
  rw [W3_v12, W3_v9, W3_v13, W3_v14, W3_v15, W3_v16, W3_v17, W3_arg4, W3_arg6]
  have hid : ∀ j : Fin 512, hid1 (fun k => refEmb (xArr m d) (tabs m d) (ix2 r k))
      (fun k => extractStridedSlice S4096x13 ![0, 26] (xArr m d) slices_S4096x39_S4096x13_0_26 (ix2 r k))
      (fun k j => arr S845x512 (m ((T d : Thread nD τ).loc main_arg2)) (ix2 k j)) (fun j => arr S512 (m ((T d : Thread nD τ).loc main_arg3)) (ix1 j)) j
      = max ((∑ k : Fin 832, shapeCast S4096x832 (embO (posM m d) (tabM m d) : S26624x128.Idx → EReal) shapeCasts_S26624x128_S4096x832 (ix2 r k)
            * extractStridedSlice S832x512 ![0, 0] (arr S845x512 (m ((T d : Thread nD τ).loc main_arg2))) slices_S845x512_S832x512_0_0 (ix2 k j))
          + (∑ k : Fin 13, extractStridedSlice S4096x13 ![0, 26] (arr S4096x39 (xArr m d)) slices_S4096x39_S4096x13_0_26 (ix2 r k)
            * extractStridedSlice S13x512 ![832, 0] (arr S845x512 (m ((T d : Thread nD τ).loc main_arg2))) slices_S845x512_S13x512_832_0 (ix2 k j))
          + broadcastInDim S1x512 ![1] bcast_S512_S1x512_1 (arr S512 (m ((T d : Thread nD τ).loc main_arg3))) (ix2 0 j)) 0 := by
    intro j
    simp only [emb_apply m d hx]
    unfold hid1
    simp only [refEmb_apply (xArr m d) (tabs m d) hx]
    pointwise
  have hb2 : ∀ j : Fin 256, broadcastInDim S1x256 ![1] bcast_S256_S1x256_1 (arr S256 (m ((T d : Thread nD τ).loc main_arg5))) (ix2 0 j) = arr S256 (m ((T d : Thread nD τ).loc main_arg5)) (ix1 j) := by
    intro j; pointwise
  have hb3 : ∀ j : Fin 128, broadcastInDim S1x128 ![1] bcast_S128_S1x128_1 (arr S128 (m ((T d : Thread nD τ).loc main_arg7))) (ix2 0 j) = arr S128 (m ((T d : Thread nD τ).loc main_arg7)) (ix1 j) := by
    intro j; pointwise
  refine congrFun (congr (congr (congrArg hid3 (congr (congr (congrArg hid2 (funext fun j => hid j)) rfl) (funext fun j => (hb2 j).symm))) rfl) (funext fun j => (hb3 j).symm)) j

end Cert.Proof.Value

end
-- ==== Proof.lean ====
/-
  The claim: the kernel's frame at the machine's values and at the ideal ones, the reference's frame, and that at the ideal
  values the kernel and the reference end at the same result.
-/
module

public import proofs.«01_k».proof.Defs
public import proofs.«01_k».proof.Proof.FactsBits
public import proofs.«01_k».proof.Proof.Facts
public import proofs.«01_k».proof.Proof.Gen.ReferenceIdeal
public import proofs.«01_k».proof.Proof.Gen.ReferenceIdeal.Run
public import proofs.«01_k».proof.Proof.Gen.Pre_categories_in_range
public import proofs.«01_k».proof.Proof.Same
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel's frame at the machine's values: the run is proved once, at any reading of the floats. -/
theorem frame_kernel : Cert.quiescent_Kernel := fun m ρ hpre =>
  Cert.Proof.Same.run_of ((θ_run Cert.KernelIdeal.defs _ _).mono (fun _ h => ⟨fun c => (h.1 c).2, h.2⟩)
    (Cert.Proof.Kern.run_post (F := Bits) m ρ fun d => Cert.Proof.Kern.inTable_of_range m d (Cert.Proof.Kern.inRange_of_pre _ _ _ _ _ _ _ _ (hpre d))))

/-- Every position of the list is inside the packed table. -/
theorem inTable (m : (ℓ : Loc Cert.KernelIdeal.nD Cert.KernelIdeal.τ Cert.KernelIdeal.sig) → Buf (Elt Ideal) ℓ) (hpre : Cert.Pre_KernelIdeal m)
    (d : Dev Cert.KernelIdeal.nD) : Cert.Proof.Kern.InTable (Cert.Proof.Kern.posM m d) :=
  Cert.Proof.Kern.inTable_of_range m d (Cert.Proof.Kern.inRange_of_pre _ _ _ _ _ _ _ _ (hpre d))

/-- The kernel's frame at the ideal values. -/
theorem frame_ideal : Cert.quiescent_KernelIdeal := fun m ρ hpre =>
  (θ_run Cert.KernelIdeal.defs _ _).mono (fun _ h => ⟨fun c => (h.1 c).2, h.2⟩)
    (Cert.Proof.Kern.run_post (F := Ideal) m ρ (inTable m hpre))

/-- The reference's frame: its run read at the arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_reference_pre : Cert.quiescent_ReferenceIdeal_pre_categories_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end at the same result. -/
theorem algebraic : Cert.algebraic_KernelIdeal_ReferenceIdeal := by
  intro m ρ m' ρ' hpre hagree
  refine ⟨fun c => Cert.Proof.Kern.mlpOut (Cert.Proof.Kern.W3 m) c, ?_, ?_⟩
  · exact (θ_run Cert.KernelIdeal.defs _ _).mono (fun _ h c => h.1 c) (Cert.Proof.Kern.run_post (F := Ideal) m ρ (inTable m hpre))
  · refine (θ_run Cert.ReferenceIdeal.defs _ _).mono (fun _ h c => ⟨(h c).1.trans ?_, (h c).2⟩) (Cert.ReferenceIdeal.Value.run (F := Ideal) m' ρ')
    obtain ⟨h0, h1, h2, h3, h4, h5, h6, h7⟩ := hagree c
    exact Cert.Proof.Value.out_eq m c (Cert.Proof.Kern.inRange_of_pre _ _ _ _ _ _ _ _ (hpre c)) m' c h0 h1 h2 h3 h4 h5 h6 h7

theorem claim : Cert.Claim := ⟨Cert.Kernel.Gen.facts, Cert.KernelIdeal.Gen.facts, Cert.ReferenceIdeal.Gen.facts, Cert.Pre_categories_in_range.Gen.facts,
  frame_kernel, frame_ideal, frame_reference, frame_reference_pre, trivial, algebraic⟩

end Cert.Proof

end
